-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v1_2)) (v3 : (c : Dev Cert.Kernel2Ideal.nD) → Buf (Elt Ideal) ((c.tc : Thread Cert.Kernel2Ideal.nD Cert.Kernel2Ideal.τ).loc Cert.Kernel2Ideal.main_v1_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v1_2) = v2 c
          ∧ r.2.mem ((c.tc : Thread Cert.Kernel2Ideal.nD Cert.Kernel2Ideal.τ).loc Cert.Kernel2Ideal.main_v1_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_v29) = v1 c
          ∧ r.2.mem ((c.tc : Thread Cert.Reference2Ideal.nD Cert.Reference2Ideal.τ).loc Cert.Reference2Ideal.main_v30) = v2 c
          ∧ r.2.mem ((c.tc : Thread Cert.Reference2Ideal.nD Cert.Reference2Ideal.τ).loc Cert.Reference2Ideal.main_v31) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  IdealRules.named_const.Statement Cert.Kernel3Ideal.κ "ln2" .f32 0x3F317218#32 ((Real.log 2 : ℝ) : EReal)

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v186)) (v1 : (c : Dev Cert.Kernel3Ideal.nD) → Buf (Elt Ideal) ((c.tc : Thread Cert.Kernel3Ideal.nD Cert.Kernel3Ideal.τ).loc Cert.Kernel3Ideal.main_v193)) (v2 : (c : Dev Cert.Kernel3Ideal.nD) → Buf (Elt Ideal) ((c.tc : Thread Cert.Kernel3Ideal.nD Cert.Kernel3Ideal.τ).loc Cert.Kernel3Ideal.main_v195)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v186) = v0 c
          ∧ r.2.mem ((c.tc : Thread Cert.Kernel3Ideal.nD Cert.Kernel3Ideal.τ).loc Cert.Kernel3Ideal.main_v193) = v1 c
          ∧ r.2.mem ((c.tc : Thread Cert.Kernel3Ideal.nD Cert.Kernel3Ideal.τ).loc Cert.Kernel3Ideal.main_v195) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v67) = v0 c
          ∧ r.2.mem ((c.tc : Thread Cert.Reference3Ideal.nD Cert.Reference3Ideal.τ).loc Cert.Reference3Ideal.main_v65) = v1 c
          ∧ r.2.mem ((c.tc : Thread Cert.Reference3Ideal.nD Cert.Reference3Ideal.τ).loc Cert.Reference3Ideal.main_v48) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v12_0)) (v1 : (c : Dev Cert.Kernel4Ideal.nD) → Buf (Elt Ideal) ((c.tc : Thread Cert.Kernel4Ideal.nD Cert.Kernel4Ideal.τ).loc Cert.Kernel4Ideal.main_v12_1)) (v2 : (c : Dev Cert.Kernel4Ideal.nD) → Buf (Elt Ideal) ((c.tc : Thread Cert.Kernel4Ideal.nD Cert.Kernel4Ideal.τ).loc Cert.Kernel4Ideal.main_v12_2)) (v3 : (c : Dev Cert.Kernel4Ideal.nD) → Buf (Elt Ideal) ((c.tc : Thread Cert.Kernel4Ideal.nD Cert.Kernel4Ideal.τ).loc Cert.Kernel4Ideal.main_v12_3)) (v4 : (c : Dev Cert.Kernel4Ideal.nD) → Buf (Elt Ideal) ((c.tc : Thread Cert.Kernel4Ideal.nD Cert.Kernel4Ideal.τ).loc Cert.Kernel4Ideal.main_v12_4)) (v5 : (c : Dev Cert.Kernel4Ideal.nD) → Buf (Elt Ideal) ((c.tc : Thread Cert.Kernel4Ideal.nD Cert.Kernel4Ideal.τ).loc Cert.Kernel4Ideal.main_v12_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_v12_1) = v1 c
          ∧ r.2.mem ((c.tc : Thread Cert.Kernel4Ideal.nD Cert.Kernel4Ideal.τ).loc Cert.Kernel4Ideal.main_v12_2) = v2 c
          ∧ r.2.mem ((c.tc : Thread Cert.Kernel4Ideal.nD Cert.Kernel4Ideal.τ).loc Cert.Kernel4Ideal.main_v12_3) = v3 c
          ∧ r.2.mem ((c.tc : Thread Cert.Kernel4Ideal.nD Cert.Kernel4Ideal.τ).loc Cert.Kernel4Ideal.main_v12_4) = v4 c
          ∧ r.2.mem ((c.tc : Thread Cert.Kernel4Ideal.nD Cert.Kernel4Ideal.τ).loc Cert.Kernel4Ideal.main_v12_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v63) = v0 c
          ∧ r.2.mem ((c.tc : Thread Cert.Reference4Ideal.nD Cert.Reference4Ideal.τ).loc Cert.Reference4Ideal.main_v65) = v1 c
          ∧ r.2.mem ((c.tc : Thread Cert.Reference4Ideal.nD Cert.Reference4Ideal.τ).loc Cert.Reference4Ideal.main_v35) = v2 c
          ∧ r.2.mem ((c.tc : Thread Cert.Reference4Ideal.nD Cert.Reference4Ideal.τ).loc Cert.Reference4Ideal.main_v32) = v3 c
          ∧ r.2.mem ((c.tc : Thread Cert.Reference4Ideal.nD Cert.Reference4Ideal.τ).loc Cert.Reference4Ideal.main_v62) = v4 c
          ∧ r.2.mem ((c.tc : Thread Cert.Reference4Ideal.nD Cert.Reference4Ideal.τ).loc Cert.Reference4Ideal.main_v66) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)) (v3 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_v7) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_v29) = v1 c
          ∧ r.2.mem ((c.tc : Thread Cert.Reference5Ideal.nD Cert.Reference5Ideal.τ).loc Cert.Reference5Ideal.main_v26) = v2 c
          ∧ r.2.mem ((c.tc : Thread Cert.Reference5Ideal.nD Cert.Reference5Ideal.τ).loc Cert.Reference5Ideal.main_v15) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v22_0)) (v1 : (c : Dev Cert.Kernel6Ideal.nD) → Buf (Elt Ideal) ((c.tc : Thread Cert.Kernel6Ideal.nD Cert.Kernel6Ideal.τ).loc Cert.Kernel6Ideal.main_v22_1)) (v2 : (c : Dev Cert.Kernel6Ideal.nD) → Buf (Elt Ideal) ((c.tc : Thread Cert.Kernel6Ideal.nD Cert.Kernel6Ideal.τ).loc Cert.Kernel6Ideal.main_v22_2)) (v3 : (c : Dev Cert.Kernel6Ideal.nD) → Buf (Elt Ideal) ((c.tc : Thread Cert.Kernel6Ideal.nD Cert.Kernel6Ideal.τ).loc Cert.Kernel6Ideal.main_v22_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v22_0) = v0 c
          ∧ r.2.mem ((c.tc : Thread Cert.Kernel6Ideal.nD Cert.Kernel6Ideal.τ).loc Cert.Kernel6Ideal.main_v22_1) = v1 c
          ∧ r.2.mem ((c.tc : Thread Cert.Kernel6Ideal.nD Cert.Kernel6Ideal.τ).loc Cert.Kernel6Ideal.main_v22_2) = v2 c
          ∧ r.2.mem ((c.tc : Thread Cert.Kernel6Ideal.nD Cert.Kernel6Ideal.τ).loc Cert.Kernel6Ideal.main_v22_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v53) = v0 c
          ∧ r.2.mem ((c.tc : Thread Cert.Reference6Ideal.nD Cert.Reference6Ideal.τ).loc Cert.Reference6Ideal.main_v31) = v1 c
          ∧ r.2.mem ((c.tc : Thread Cert.Reference6Ideal.nD Cert.Reference6Ideal.τ).loc Cert.Reference6Ideal.main_v28) = v2 c
          ∧ r.2.mem ((c.tc : Thread Cert.Reference6Ideal.nD Cert.Reference6Ideal.τ).loc Cert.Reference6Ideal.main_v54) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel9_Kernel9Ideal : Prop :=
  IdealRules.named_const.Statement Cert.Kernel9Ideal.κ "mask" .f32 0xF149F2CA#32 ⊥
  ∧ IdealRules.named_const.Statement Cert.Kernel9Ideal.κ "inv_ln2" .f32 0x3FB8AA3B#32 (((Real.log 2)⁻¹ : ℝ) : EReal)

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v35_0)) (v1 : (c : Dev Cert.Kernel9Ideal.nD) → Buf (Elt Ideal) ((c.tc : Thread Cert.Kernel9Ideal.nD Cert.Kernel9Ideal.τ).loc Cert.Kernel9Ideal.main_v35_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v35_0) = v0 c
          ∧ r.2.mem ((c.tc : Thread Cert.Kernel9Ideal.nD Cert.Kernel9Ideal.τ).loc Cert.Kernel9Ideal.main_v35_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v30) = v0 c
          ∧ r.2.mem ((c.tc : Thread Cert.Reference9Ideal.nD Cert.Reference9Ideal.τ).loc Cert.Reference9Ideal.main_v32) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)) →
    ∃ (v0 : (c : Dev Cert.Kernel10Ideal.nD) → Buf (Elt Ideal) ((c.tc : Thread Cert.Kernel10Ideal.nD Cert.Kernel10Ideal.τ).loc Cert.Kernel10Ideal.main_v6_0)) (v1 : (c : Dev Cert.Kernel10Ideal.nD) → Buf (Elt Ideal) ((c.tc : Thread Cert.Kernel10Ideal.nD Cert.Kernel10Ideal.τ).loc Cert.Kernel10Ideal.main_v6_1)) (v2 : (c : Dev Cert.Kernel10Ideal.nD) → Buf (Elt Ideal) ((c.tc : Thread Cert.Kernel10Ideal.nD Cert.Kernel10Ideal.τ).loc Cert.Kernel10Ideal.main_v6_2)) (v3 : (c : Dev Cert.Kernel10Ideal.nD) → Buf (Elt Ideal) ((c.tc : Thread Cert.Kernel10Ideal.nD Cert.Kernel10Ideal.τ).loc Cert.Kernel10Ideal.main_v6_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v6_0) = v0 c
          ∧ r.2.mem ((c.tc : Thread Cert.Kernel10Ideal.nD Cert.Kernel10Ideal.τ).loc Cert.Kernel10Ideal.main_v6_1) = v1 c
          ∧ r.2.mem ((c.tc : Thread Cert.Kernel10Ideal.nD Cert.Kernel10Ideal.τ).loc Cert.Kernel10Ideal.main_v6_2) = v2 c
          ∧ r.2.mem ((c.tc : Thread Cert.Kernel10Ideal.nD Cert.Kernel10Ideal.τ).loc Cert.Kernel10Ideal.main_v6_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v38) = v0 c
          ∧ r.2.mem ((c.tc : Thread Cert.Reference10Ideal.nD Cert.Reference10Ideal.τ).loc Cert.Reference10Ideal.main_v40) = v1 c
          ∧ r.2.mem ((c.tc : Thread Cert.Reference10Ideal.nD Cert.Reference10Ideal.τ).loc Cert.Reference10Ideal.main_v41) = v2 c
          ∧ r.2.mem ((c.tc : Thread Cert.Reference10Ideal.nD Cert.Reference10Ideal.τ).loc Cert.Reference10Ideal.main_v43) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v11_0)) (v1 : (c : Dev Cert.Kernel11Ideal.nD) → Buf (Elt Ideal) ((c.tc : Thread Cert.Kernel11Ideal.nD Cert.Kernel11Ideal.τ).loc Cert.Kernel11Ideal.main_v11_1)) (v2 : (c : Dev Cert.Kernel11Ideal.nD) → Buf (Elt Ideal) ((c.tc : Thread Cert.Kernel11Ideal.nD Cert.Kernel11Ideal.τ).loc Cert.Kernel11Ideal.main_v11_2)) (v3 : (c : Dev Cert.Kernel11Ideal.nD) → Buf (Elt Ideal) ((c.tc : Thread Cert.Kernel11Ideal.nD Cert.Kernel11Ideal.τ).loc Cert.Kernel11Ideal.main_v11_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v11_0) = v0 c
          ∧ r.2.mem ((c.tc : Thread Cert.Kernel11Ideal.nD Cert.Kernel11Ideal.τ).loc Cert.Kernel11Ideal.main_v11_1) = v1 c
          ∧ r.2.mem ((c.tc : Thread Cert.Kernel11Ideal.nD Cert.Kernel11Ideal.τ).loc Cert.Kernel11Ideal.main_v11_2) = v2 c
          ∧ r.2.mem ((c.tc : Thread Cert.Kernel11Ideal.nD Cert.Kernel11Ideal.τ).loc Cert.Kernel11Ideal.main_v11_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v26) = v0 c
          ∧ r.2.mem ((c.tc : Thread Cert.Reference11Ideal.nD Cert.Reference11Ideal.τ).loc Cert.Reference11Ideal.main_v28) = v1 c
          ∧ r.2.mem ((c.tc : Thread Cert.Reference11Ideal.nD Cert.Reference11Ideal.τ).loc Cert.Reference11Ideal.main_v30) = v2 c
          ∧ r.2.mem ((c.tc : Thread Cert.Reference11Ideal.nD Cert.Reference11Ideal.τ).loc Cert.Reference11Ideal.main_v25) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel7_Kernel7Ideal : Prop :=
  True

def preserves_Kernel8_Kernel8Ideal : Prop :=
  True

def preserves_Kernel13_Kernel13Ideal : Prop :=
  IdealRules.named_const.Statement Cert.Kernel13Ideal.κ "inv_dim" .f32 0x3C2AAAAB#32 ((1 / 96 : ℝ) : EReal)

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v6) = v2 c
          ∧ r.2.mem ((c.tc : Thread Cert.Reference14Ideal.nD Cert.Reference14Ideal.τ).loc Cert.Reference14Ideal.main_v12) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite3 : Cert.Pre_finite3.Facts) (hPre_finite4 : Cert.Pre_finite4.Facts) (hPre_finite6 : Cert.Pre_finite6.Facts) (hPre_finite9 : Cert.Pre_finite9.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel7_Kernel7Ideal
    ∧ preserves_Kernel8_Kernel8Ideal
    ∧ preserves_Kernel13_Kernel13Ideal
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite3.lean ====
abbrev S4x2048x8x96 : Shape := ⟨4, ![4, 2048, 8, 96]⟩
abbrev S4x2048x8x64 : Shape := ⟨4, ![4, 2048, 8, 64]⟩
abbrev S4x2048x512 : Shape := ⟨3, ![4, 2048, 512]⟩
abbrev S_ : Shape := ⟨0, ![]⟩

class Facts : Prop where
  bcast_S_S4x2048x8x96 : S_.BroadcastsInDim S4x2048x8x96 (![] : Fin 0 → Fin S4x2048x8x96.rank)
  reducesTo_S4x2048x8x96_S_d0_1_2_3 : S4x2048x8x96.ReducesTo [0, 1, 2, 3] S_
  h_S_ : 0 < S_.numel
  bcast_S_S4x2048x8x64 : S_.BroadcastsInDim S4x2048x8x64 (![] : Fin 0 → Fin S4x2048x8x64.rank)
  reducesTo_S4x2048x8x64_S_d0_1_2_3 : S4x2048x8x64.ReducesTo [0, 1, 2, 3] S_
  bitsLt_bf16_f32 : FTy.bits .bf16 < FTy.bits .f32
  bcast_S_S4x2048x512 : S_.BroadcastsInDim S4x2048x512 (![] : Fin 0 → Fin S4x2048x512.rank)
  reducesTo_S4x2048x512_S_d0_1_2 : S4x2048x512.ReducesTo [0, 1, 2] S_

variable [Facts]

def fn_part1 {F : FTy → Type} [FloatOps F] (main_v13 : IVec S_ 1) (main_v15 : FVec F S4x2048x512 .f32) (main_v16 : FVec F S4x2048x512 .f32) : IVec S_ 1 :=
  let main_v17 : IVec S4x2048x512 1 := cmpf .olt main_v15 main_v16
  let main_c_5 : IVec S_ 1 := constantI S_ 1 1#1
  let main_v18 : IVec S_ 1 := (fun x v => Host.reduce IntOp.andi x v reducesTo_S4x2048x512_S_d0_1_2 h_S_) main_v17 main_c_5
  let main_v19 : IVec S_ 1 := andi main_v13 main_v18
  main_v19

def fn {F : FTy → Type} [FloatOps F] (main_arg0 : FVec F S4x2048x8x96 .f32) (main_arg1 : FVec F S4x2048x8x96 .f32) (main_arg2 : FVec F S4x2048x8x64 .f32) (main_arg3 : FVec F S4x2048x512 .bf16) : IVec S_ 1 :=
  let main_v0 : FVec F S4x2048x8x96 .f32 := Host.absf main_arg0
  let main_cst : FVec F S_ .f32 := constant S_ .f32 0x7F800000#32
  let main_v1 : FVec F S4x2048x8x96 .f32 := broadcastInDim S4x2048x8x96 ![] bcast_S_S4x2048x8x96 main_cst
  let main_v2 : IVec S4x2048x8x96 1 := cmpf .olt main_v0 main_v1
  let main_c : IVec S_ 1 := constantI S_ 1 1#1
  let main_v3 : IVec S_ 1 := (fun x v => Host.reduce IntOp.andi x v reducesTo_S4x2048x8x96_S_d0_1_2_3 h_S_) main_v2 main_c
  let main_v4 : FVec F S4x2048x8x96 .f32 := Host.absf main_arg1
  let main_cst_0 : FVec F S_ .f32 := constant S_ .f32 0x7F800000#32
  let main_v5 : FVec F S4x2048x8x96 .f32 := broadcastInDim S4x2048x8x96 ![] bcast_S_S4x2048x8x96 main_cst_0
  let main_v6 : IVec S4x2048x8x96 1 := cmpf .olt main_v4 main_v5
  let main_c_1 : IVec S_ 1 := constantI S_ 1 1#1
  let main_v7 : IVec S_ 1 := (fun x v => Host.reduce IntOp.andi x v reducesTo_S4x2048x8x96_S_d0_1_2_3 h_S_) main_v6 main_c_1
  let main_v8 : IVec S_ 1 := andi main_v3 main_v7
  let main_v9 : FVec F S4x2048x8x64 .f32 := Host.absf main_arg2
  let main_cst_2 : FVec F S_ .f32 := constant S_ .f32 0x7F800000#32
  let main_v10 : FVec F S4x2048x8x64 .f32 := broadcastInDim S4x2048x8x64 ![] bcast_S_S4x2048x8x64 main_cst_2
  let main_v11 : IVec S4x2048x8x64 1 := cmpf .olt main_v9 main_v10
  let main_c_3 : IVec S_ 1 := constantI S_ 1 1#1
  let main_v12 : IVec S_ 1 := (fun x v => Host.reduce IntOp.andi x v reducesTo_S4x2048x8x64_S_d0_1_2_3 h_S_) main_v11 main_c_3
  let main_v13 : IVec S_ 1 := andi main_v8 main_v12
  let main_v14 : FVec F S4x2048x512 .f32 := (extf .f32 · bitsLt_bf16_f32) main_arg3
  let main_v15 : FVec F S4x2048x512 .f32 := Host.absf main_v14
  let main_cst_4 : FVec F S_ .f32 := constant S_ .f32 0x7F800000#32
  let main_v16 : FVec F S4x2048x512 .f32 := broadcastInDim S4x2048x512 ![] bcast_S_S4x2048x512 main_cst_4
  fn_part1 (F := F) main_v13 main_v15 main_v16
-- ==== Pre_finite4.lean ====
abbrev S4x2048x1024 : Shape := ⟨3, ![4, 2048, 1024]⟩
abbrev S4x1x1024 : Shape := ⟨3, ![4, 1, 1024]⟩
abbrev S1024 : Shape := ⟨1, ![1024]⟩
abbrev S1024x4096 : Shape := ⟨2, ![1024, 4096]⟩
abbrev S4x2048x4096 : Shape := ⟨3, ![4, 2048, 4096]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bitsLt_bf16_f32 : FTy.bits .bf16 < FTy.bits .f32
  bcast_S_S4x1x1024 : S_.BroadcastsInDim S4x1x1024 (![] : Fin 0 → Fin S4x1x1024.rank)
  reducesTo_S4x1x1024_S_d0_1_2 : S4x1x1024.ReducesTo [0, 1, 2] S_
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4x2048x4096 : S_.BroadcastsInDim S4x2048x4096 (![] : Fin 0 → Fin S4x2048x4096.rank)
  reducesTo_S4x2048x4096_S_d0_1_2 : S4x2048x4096.ReducesTo [0, 1, 2] S_

variable [Facts]

def fn_part2 {F : FTy → Type} [FloatOps F] (main_v29 : IVec S_ 1) (main_v33 : IVec S4x2048x4096 1) (main_c_11 : IVec S_ 1) : IVec S_ 1 :=
  let main_v34 : IVec S_ 1 := (fun x v => Host.reduce IntOp.andi x v reducesTo_S4x2048x4096_S_d0_1_2 h_S_) main_v33 main_c_11
  let main_v35 : IVec S_ 1 := andi main_v29 main_v34
  main_v35

def fn_part1 {F : FTy → Type} [FloatOps F] (main_arg4 : FVec F S4x1x1024 .f32) (main_arg6 : FVec F S1024x4096 .f32) (main_arg8 : FVec F S4x2048x4096 .bf16) (main_v14 : IVec S_ 1) (main_v15 : FVec F S1024 .f32) (main_v16 : FVec F S1024 .f32) : IVec S_ 1 :=
  let main_v17 : IVec S1024 1 := cmpf .olt main_v15 main_v16
  let main_c_5 : IVec S_ 1 := constantI S_ 1 1#1
  let main_v18 : IVec S_ 1 := (fun x v => Host.reduce IntOp.andi x v reducesTo_S1024_S_d0 h_S_) main_v17 main_c_5
  let main_v19 : IVec S_ 1 := andi main_v14 main_v18
  let main_v20 : FVec F S4x1x1024 .f32 := Host.absf main_arg4
  let main_cst_6 : FVec F S_ .f32 := constant S_ .f32 0x7F800000#32
  let main_v21 : FVec F S4x1x1024 .f32 := broadcastInDim S4x1x1024 ![] bcast_S_S4x1x1024 main_cst_6
  let main_v22 : IVec S4x1x1024 1 := cmpf .olt main_v20 main_v21
  let main_c_7 : IVec S_ 1 := constantI S_ 1 1#1
  let main_v23 : IVec S_ 1 := (fun x v => Host.reduce IntOp.andi x v reducesTo_S4x1x1024_S_d0_1_2 h_S_) main_v22 main_c_7
  let main_v24 : IVec S_ 1 := andi main_v19 main_v23
  let main_v25 : FVec F S1024x4096 .f32 := Host.absf main_arg6
  let main_cst_8 : FVec F S_ .f32 := constant S_ .f32 0x7F800000#32
  let main_v26 : FVec F S1024x4096 .f32 := broadcastInDim S1024x4096 ![] bcast_S_S1024x4096 main_cst_8
  let main_v27 : IVec S1024x4096 1 := cmpf .olt main_v25 main_v26
  let main_c_9 : IVec S_ 1 := constantI S_ 1 1#1
  let main_v28 : IVec S_ 1 := (fun x v => Host.reduce IntOp.andi x v reducesTo_S1024x4096_S_d0_1 h_S_) main_v27 main_c_9
  let main_v29 : IVec S_ 1 := andi main_v24 main_v28
  let main_v30 : FVec F S4x2048x4096 .f32 := (extf .f32 · bitsLt_bf16_f32) main_arg8
  let main_v31 : FVec F S4x2048x4096 .f32 := Host.absf main_v30
  let main_cst_10 : FVec F S_ .f32 := constant S_ .f32 0x7F800000#32
  let main_v32 : FVec F S4x2048x4096 .f32 := broadcastInDim S4x2048x4096 ![] bcast_S_S4x2048x4096 main_cst_10
  let main_v33 : IVec S4x2048x4096 1 := cmpf .olt main_v31 main_v32
  let main_c_11 : IVec S_ 1 := constantI S_ 1 1#1
  fn_part2 (F := F) main_v29 main_v33 main_c_11

def fn {F : FTy → Type} [FloatOps F] (main_arg0 : FVec F S4x2048x1024 .f32) (main_arg1 : FVec F S4x2048x1024 .bf16) (main_arg2 : FVec F S4x1x1024 .f32) (main_arg3 : FVec F S1024 .f32) (main_arg4 : FVec F S4x1x1024 .f32) (main_arg5 : FVec F S4x1x1024 .f32) (main_arg6 : FVec F S1024x4096 .f32) (main_arg7 : FVec F S4x2048x1024 .f32) (main_arg8 : FVec F S4x2048x4096 .bf16) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := (extf .f32 · bitsLt_bf16_f32) main_arg1
  let main_v5 : FVec F S4x2048x1024 .f32 := Host.absf main_v4
  let main_cst_0 : FVec F S_ .f32 := constant S_ .f32 0x7F800000#32
  let main_v6 : FVec F S4x2048x1024 .f32 := broadcastInDim S4x2048x1024 ![] bcast_S_S4x2048x1024 main_cst_0
  let main_v7 : IVec S4x2048x1024 1 := cmpf .olt main_v5 main_v6
  let main_c_1 : IVec S_ 1 := constantI S_ 1 1#1
  let main_v8 : IVec S_ 1 := (fun x v => Host.reduce IntOp.andi x v reducesTo_S4x2048x1024_S_d0_1_2 h_S_) main_v7 main_c_1
  let main_v9 : IVec S_ 1 := andi main_v3 main_v8
  let main_v10 : FVec F S4x1x1024 .f32 := Host.absf main_arg2
  let main_cst_2 : FVec F S_ .f32 := constant S_ .f32 0x7F800000#32
  let main_v11 : FVec F S4x1x1024 .f32 := broadcastInDim S4x1x1024 ![] bcast_S_S4x1x1024 main_cst_2
  let main_v12 : IVec S4x1x1024 1 := cmpf .olt main_v10 main_v11
  let main_c_3 : IVec S_ 1 := constantI S_ 1 1#1
  let main_v13 : IVec S_ 1 := (fun x v => Host.reduce IntOp.andi x v reducesTo_S4x1x1024_S_d0_1_2 h_S_) main_v12 main_c_3
  let main_v14 : IVec S_ 1 := andi main_v9 main_v13
  let main_v15 : FVec F S1024 .f32 := Host.absf main_arg3
  let main_cst_4 : FVec F S_ .f32 := constant S_ .f32 0x7F800000#32
  let main_v16 : FVec F S1024 .f32 := broadcastInDim S1024 ![] bcast_S_S1024 main_cst_4
  fn_part1 (F := F) main_arg4 main_arg6 main_arg8 main_v14 main_v15 main_v16
-- ==== Pre_finite6.lean ====
abbrev S4x2048x1024 : Shape := ⟨3, ![4, 2048, 1024]⟩
abbrev S1024 : Shape := ⟨1, ![1024]⟩
abbrev S4x1x1024 : Shape := ⟨3, ![4, 1, 1024]⟩
abbrev S1024x3488 : Shape := ⟨2, ![1024, 3488]⟩
abbrev S4x2048x3488 : Shape := ⟨3, ![4, 2048, 3488]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S4x1x1024 : S_.BroadcastsInDim S4x1x1024 (![] : Fin 0 → Fin S4x1x1024.rank)
  reducesTo_S4x1x1024_S_d0_1_2 : S4x1x1024.ReducesTo [0, 1, 2] S_
  bcast_S_S1024x3488 : S_.BroadcastsInDim S1024x3488 (![] : Fin 0 → Fin S1024x3488.rank)
  reducesTo_S1024x3488_S_d0_1 : S1024x3488.ReducesTo [0, 1] S_
  bitsLt_bf16_f32 : FTy.bits .bf16 < FTy.bits .f32
  bcast_S_S4x2048x3488 : S_.BroadcastsInDim S4x2048x3488 (![] : Fin 0 → Fin S4x2048x3488.rank)
  reducesTo_S4x2048x3488_S_d0_1_2 : S4x2048x3488.ReducesTo [0, 1, 2] S_

variable [Facts]

def fn_part1 {F : FTy → Type} [FloatOps F] (main_arg6 : FVec F S4x2048x3488 .bf16) (main_v13 : IVec S_ 1) (main_v16 : IVec S1024x3488 1) : IVec S_ 1 :=
  let main_c_5 : IVec S_ 1 := constantI S_ 1 1#1
  let main_v17 : IVec S_ 1 := (fun x v => Host.reduce IntOp.andi x v reducesTo_S1024x3488_S_d0_1 h_S_) main_v16 main_c_5
  let main_v18 : IVec S_ 1 := andi main_v13 main_v17
  let main_v19 : FVec F S4x2048x3488 .f32 := (extf .f32 · bitsLt_bf16_f32) main_arg6
  let main_v20 : FVec F S4x2048x3488 .f32 := Host.absf main_v19
  let main_cst_6 : FVec F S_ .f32 := constant S_ .f32 0x7F800000#32
  let main_v21 : FVec F S4x2048x3488 .f32 := broadcastInDim S4x2048x3488 ![] bcast_S_S4x2048x3488 main_cst_6
  let main_v22 : IVec S4x2048x3488 1 := cmpf .olt main_v20 main_v21
  let main_c_7 : IVec S_ 1 := constantI S_ 1 1#1
  let main_v23 : IVec S_ 1 := (fun x v => Host.reduce IntOp.andi x v reducesTo_S4x2048x3488_S_d0_1_2 h_S_) main_v22 main_c_7
  let main_v24 : IVec S_ 1 := andi main_v18 main_v23
  main_v24

def fn {F : FTy → Type} [FloatOps F] (main_arg0 : FVec F S4x2048x1024 .f32) (main_arg1 : FVec F S1024 .f32) (main_arg2 : FVec F S4x1x1024 .f32) (main_arg3 : FVec F S4x1x1024 .f32) (main_arg4 : FVec F S1024x3488 .f32) (main_arg5 : FVec F S4x2048x1024 .f32) (main_arg6 : FVec F S4x2048x3488 .bf16) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S4x1x1024 .f32 := Host.absf main_arg2
  let main_cst_2 : FVec F S_ .f32 := constant S_ .f32 0x7F800000#32
  let main_v10 : FVec F S4x1x1024 .f32 := broadcastInDim S4x1x1024 ![] bcast_S_S4x1x1024 main_cst_2
  let main_v11 : IVec S4x1x1024 1 := cmpf .olt main_v9 main_v10
  let main_c_3 : IVec S_ 1 := constantI S_ 1 1#1
  let main_v12 : IVec S_ 1 := (fun x v => Host.reduce IntOp.andi x v reducesTo_S4x1x1024_S_d0_1_2 h_S_) main_v11 main_c_3
  let main_v13 : IVec S_ 1 := andi main_v8 main_v12
  let main_v14 : FVec F S1024x3488 .f32 := Host.absf main_arg4
  let main_cst_4 : FVec F S_ .f32 := constant S_ .f32 0x7F800000#32
  let main_v15 : FVec F S1024x3488 .f32 := broadcastInDim S1024x3488 ![] bcast_S_S1024x3488 main_cst_4
  let main_v16 : IVec S1024x3488 1 := cmpf .olt main_v14 main_v15
  fn_part1 (F := F) main_arg6 main_v13 main_v16
-- ==== Pre_finite9.lean ====
abbrev S4x2048x8x96 : Shape := ⟨4, ![4, 2048, 8, 96]⟩
abbrev S4x2048x8x64 : Shape := ⟨4, ![4, 2048, 8, 64]⟩
abbrev S_ : Shape := ⟨0, ![]⟩

class Facts : Prop where
  bcast_S_S4x2048x8x96 : S_.BroadcastsInDim S4x2048x8x96 (![] : Fin 0 → Fin S4x2048x8x96.rank)
  reducesTo_S4x2048x8x96_S_d0_1_2_3 : S4x2048x8x96.ReducesTo [0, 1, 2, 3] S_
  h_S_ : 0 < S_.numel
  bcast_S_S4x2048x8x64 : S_.BroadcastsInDim S4x2048x8x64 (![] : Fin 0 → Fin S4x2048x8x64.rank)
  reducesTo_S4x2048x8x64_S_d0_1_2_3 : S4x2048x8x64.ReducesTo [0, 1, 2, 3] S_

variable [Facts]

def fn {F : FTy → Type} [FloatOps F] (main_arg0 : FVec F S4x2048x8x96 .f32) (main_arg1 : FVec F S4x2048x8x96 .f32) (main_arg2 : FVec F S4x2048x8x64 .f32) : IVec S_ 1 :=
  let main_v0 : FVec F S4x2048x8x96 .f32 := Host.absf main_arg0
  let main_cst : FVec F S_ .f32 := constant S_ .f32 0x7F800000#32
  let main_v1 : FVec F S4x2048x8x96 .f32 := broadcastInDim S4x2048x8x96 ![] bcast_S_S4x2048x8x96 main_cst
  let main_v2 : IVec S4x2048x8x96 1 := cmpf .olt main_v0 main_v1
  let main_c : IVec S_ 1 := constantI S_ 1 1#1
  let main_v3 : IVec S_ 1 := (fun x v => Host.reduce IntOp.andi x v reducesTo_S4x2048x8x96_S_d0_1_2_3 h_S_) main_v2 main_c
  let main_v4 : FVec F S4x2048x8x96 .f32 := Host.absf main_arg1
  let main_cst_0 : FVec F S_ .f32 := constant S_ .f32 0x7F800000#32
  let main_v5 : FVec F S4x2048x8x96 .f32 := broadcastInDim S4x2048x8x96 ![] bcast_S_S4x2048x8x96 main_cst_0
  let main_v6 : IVec S4x2048x8x96 1 := cmpf .olt main_v4 main_v5
  let main_c_1 : IVec S_ 1 := constantI S_ 1 1#1
  let main_v7 : IVec S_ 1 := (fun x v => Host.reduce IntOp.andi x v reducesTo_S4x2048x8x96_S_d0_1_2_3 h_S_) main_v6 main_c_1
  let main_v8 : IVec S_ 1 := andi main_v3 main_v7
  let main_v9 : FVec F S4x2048x8x64 .f32 := Host.absf main_arg2
  let main_cst_2 : FVec F S_ .f32 := constant S_ .f32 0x7F800000#32
  let main_v10 : FVec F S4x2048x8x64 .f32 := broadcastInDim S4x2048x8x64 ![] bcast_S_S4x2048x8x64 main_cst_2
  let main_v11 : IVec S4x2048x8x64 1 := cmpf .olt main_v9 main_v10
  let main_c_3 : IVec S_ 1 := constantI S_ 1 1#1
  let main_v12 : IVec S_ 1 := (fun x v => Host.reduce IntOp.andi x v reducesTo_S4x2048x8x64_S_d0_1_2_3 h_S_) main_v11 main_c_3
  let main_v13 : IVec S_ 1 := andi main_v8 main_v12
  main_v13
-- ==== Kernel.lean ====
abbrev S8192x4096 : Shape := ⟨2, ![8192, 4096]⟩
abbrev S4096x1024 : Shape := ⟨2, ![4096, 1024]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .f32⟩
  | .hbm, ⟨2, _⟩ => ⟨S8192x1024, .bf16⟩
  | .hbm, ⟨3, _⟩ => ⟨S4096x1024, .bf16⟩
  | .hbm, ⟨4, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceIdeal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .f32⟩
  | .hbm, ⟨2, _⟩ => ⟨S8192x1024, .bf16⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .i1⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x1024, .f32⟩
  | .hbm, ⟨17, _⟩ => ⟨S8192x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel2.lean ====
abbrev S8192x2048 : Shape := ⟨2, ![8192, 2048]⟩
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 10
  | .vmem => 20
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S1024x1024, .f32⟩
  | .hbm, ⟨4, _⟩ => ⟨S8192x1024, .bf16⟩
  | .hbm, ⟨5, _⟩ => ⟨S1024x1024, .bf16⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_8 : BitVec 32 := 0#32
  let v12 : BitVec 1 := Scalar.cmpi .eq arg1 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S8192x2048 : Shape := ⟨2, ![8192, 2048]⟩
abbrev S8192x1024 : Shape := ⟨2, ![8192, 1024]⟩
abbrev S1024x1024 : Shape := ⟨2, ![1024, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S1024x1024, .f32⟩
  | .hbm, ⟨4, _⟩ => ⟨S8192x1024, .bf16⟩
  | .hbm, ⟨5, _⟩ => ⟨S8192x2048, .f32⟩
  | .hbm, ⟨6, _⟩ => ⟨S8192x1024, .f32⟩
  | .hbm, ⟨7, _⟩ => ⟨S8192x1024, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x2048, .f32⟩
  | .hbm, ⟨33, _⟩ => ⟨S8192x2048, .f32⟩
  | .hbm, ⟨34, _⟩ => ⟨S8192x1024, .f32⟩
  | .hbm, ⟨35, _⟩ => ⟨S8192x1024, .f32⟩
  | .hbm, ⟨36, _⟩ => ⟨S8192x1024, .bf16⟩
  | .hbm, ⟨37, _⟩ => ⟨S8192x1024, .bf16⟩
  | .hbm, ⟨38, _⟩ => ⟨S8192x1024, .bf16⟩
  | .hbm, ⟨39, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Kernel3.lean ====
abbrev S4x2048x8x96 : Shape := ⟨4, ![4, 2048, 8, 96]⟩
abbrev S4x2048x8x64 : Shape := ⟨4, ![4, 2048, 8, 64]⟩
abbrev S4x2048x512 : Shape := ⟨3, ![4, 2048, 512]⟩
abbrev S8 : Shape := ⟨1, ![8]⟩
abbrev S_ : Shape := ⟨0, ![]⟩
abbrev S1x8x1x1 : Shape := ⟨4, ![1, 8, 1, 1]⟩
abbrev S4x2048x8x32 : Shape := ⟨4, ![4, 2048, 8, 32]⟩
abbrev S4x2048x8x16 : Shape := ⟨4, ![4, 2048, 8, 16]⟩
abbrev S4x2048x8x48 : Shape := ⟨4, ![4, 2048, 8, 48]⟩
abbrev S4x2048x8x128 : Shape := ⟨4, ![4, 2048, 8, 128]⟩
abbrev S4x8x2048x128 : Shape := ⟨4, ![4, 8, 2048, 128]⟩
abbrev S4x8x2048x64 : Shape := ⟨4, ![4, 8, 2048, 64]⟩
abbrev S4x8x4x512x128 : Shape := ⟨5, ![4, 8, 4, 512, 128]⟩
abbrev S4x8x4x128x512 : Shape := ⟨5, ![4, 8, 4, 128, 512]⟩
abbrev S128 : Shape := ⟨1, ![128]⟩
abbrev S1x1x1x128 : Shape := ⟨4, ![1, 1, 1, 128]⟩
abbrev S1x8x1x128 : Shape := ⟨4, ![1, 8, 1, 128]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x8x2048x1 : Shape := ⟨4, ![4, 8, 2048, 1]⟩
abbrev S4x8x512x128 : Shape := ⟨4, ![4, 8, 512, 128]⟩
abbrev S4x8x2048x512 : Shape := ⟨4, ![4, 8, 2048, 512]⟩
abbrev S2048x512 : Shape := ⟨2, ![2048, 512]⟩
abbrev S1x1x2048x512 : Shape := ⟨4, ![1, 1, 2048, 512]⟩
abbrev S4x8x2048 : Shape := ⟨3, ![4, 8, 2048]⟩
abbrev S4x4x2048x64 : Shape := ⟨4, ![4, 4, 2048, 64]⟩
abbrev S4x4x1x2048x64 : Shape := ⟨5, ![4, 4, 1, 2048, 64]⟩
abbrev S4x4x2x2048x64 : Shape := ⟨5, ![4, 4, 2, 2048, 64]⟩
abbrev S4x8x1x2048 : Shape := ⟨4, ![4, 8, 1, 2048]⟩
abbrev S4x8x8x2048 : Shape := ⟨4, ![4, 8, 8, 2048]⟩
abbrev S1x4x512x128 : Shape := ⟨4, ![1, 4, 512, 128]⟩
abbrev S1x4x2048x128 : Shape := ⟨4, ![1, 4, 2048, 128]⟩
abbrev S1x4x4x128x512 : Shape := ⟨5, ![1, 4, 4, 128, 512]⟩
abbrev S1x512x256 : Shape := ⟨3, ![1, 512, 256]⟩
abbrev S1x4x8x512 : Shape := ⟨4, ![1, 4, 8, 512]⟩
abbrev S4x2048x128 : Shape := ⟨3, ![4, 2048, 128]⟩
abbrev S512x512 : Shape := ⟨2, ![512, 512]⟩
abbrev S512x128 : Shape := ⟨2, ![512, 128]⟩
abbrev S1x512x128 : Shape := ⟨3, ![1, 512, 128]⟩
abbrev S512 : Shape := ⟨1, ![512]⟩
abbrev S512x1 : Shape := ⟨2, ![512, 1]⟩
abbrev S1x1x512x128 : Shape := ⟨4, ![1, 1, 512, 128]⟩
abbrev S128x512 : Shape := ⟨2, ![128, 512]⟩
abbrev S1x512 : Shape := ⟨2, ![1, 512]⟩
abbrev S1x1x8x512 : Shape := ⟨4, ![1, 1, 8, 512]⟩
abbrev S8x512 : Shape := ⟨2, ![8, 512]⟩
abbrev S1x1x1x128x512 : Shape := ⟨5, ![1, 1, 1, 128, 512]⟩

abbrev nBuf : Space → Nat
  | .hbm => 247
  | .vmem => 22
  | .smem => 0
  | _ => 0

abbrev hbmTy0_0 (i : Nat) : BufTy := match i % 128 with
  | 0 => ⟨S4x2048x8x96, .f32⟩
  | 1 => ⟨S4x2048x8x96, .f32⟩
  | 2 => ⟨S4x2048x8x64, .f32⟩
  | 3 => ⟨S4x2048x512, .bf16⟩
  | 4 => ⟨S8, .i32⟩
  | 5 => ⟨S_, .i32⟩
  | 6 => ⟨S8, .i32⟩
  | 7 => ⟨S8, .i32⟩
  | 8 => ⟨S1x8x1x1, .i32⟩
  | 9 => ⟨S_, .i32⟩
  | 10 => ⟨S1x8x1x1, .i32⟩
  | 11 => ⟨S1x8x1x1, .i1⟩
  | 12 => ⟨S_, .f32⟩
  | 13 => ⟨S_, .f32⟩
  | 14 => ⟨S_, .f32⟩
  | 15 => ⟨S_, .f32⟩
  | 16 => ⟨S4x2048x8x96, .f32⟩
  | 17 => ⟨S4x2048x8x96, .f32⟩
  | 18 => ⟨S4x2048x8x32, .f32⟩
  | 19 => ⟨S4x2048x8x16, .f32⟩
  | 20 => ⟨S4x2048x8x48, .f32⟩
  | 21 => ⟨S4x2048x8x16, .f32⟩
  | 22 => ⟨S4x2048x8x16, .f32⟩
  | 23 => ⟨S4x2048x8x96, .f32⟩
  | 24 => ⟨S_, .i32⟩
  | 25 => ⟨S_, .f32⟩
  | 26 => ⟨S4x2048x8x128, .f32⟩
  | 27 => ⟨S4x8x2048x128, .f32⟩
  | 28 => ⟨S4x8x2048x128, .bf16⟩
  | 29 => ⟨S4x2048x8x32, .f32⟩
  | 30 => ⟨S4x2048x8x16, .f32⟩
  | 31 => ⟨S4x2048x8x48, .f32⟩
  | 32 => ⟨S4x2048x8x16, .f32⟩
  | 33 => ⟨S4x2048x8x16, .f32⟩
  | 34 => ⟨S4x2048x8x96, .f32⟩
  | 35 => ⟨S_, .i32⟩
  | 36 => ⟨S_, .f32⟩
  | 37 => ⟨S4x2048x8x128, .f32⟩
  | 38 => ⟨S4x8x2048x128, .f32⟩
  | 39 => ⟨S4x8x2048x128, .bf16⟩
  | 40 => ⟨S_, .f32⟩
  | 41 => ⟨S4x8x2048x64, .f32⟩
  | 42 => ⟨S4x8x2048x64, .f32⟩
  | 43 => ⟨S4x8x2048x128, .f32⟩
  | 44 => ⟨S4x8x2048x64, .f32⟩
  | 45 => ⟨S4x8x2048x128, .f32⟩
  | 46 => ⟨S4x8x2048x128, .i1⟩
  | 47 => ⟨S4x8x2048x128, .f32⟩
  | 48 => ⟨S4x8x2048x128, .bf16⟩
  | 49 => ⟨S4x8x4x512x128, .bf16⟩
  | 50 => ⟨S4x8x4x128x512, .bf16⟩
  | 51 => ⟨S128, .i32⟩
  | 52 => ⟨S1x1x1x128, .i32⟩
  | 53 => ⟨S_, .i32⟩
  | 54 => ⟨S_, .i32⟩
  | 55 => ⟨S1x8x1x1, .i32⟩
  | 56 => ⟨S1x8x1x1, .i32⟩
  | 57 => ⟨S1x8x1x1, .i32⟩
  | 58 => ⟨S1x8x1x1, .i32⟩
  | 59 => ⟨S1x8x1x128, .i32⟩
  | 60 => ⟨S1x8x1x128, .i32⟩
  | 61 => ⟨S1x8x1x128, .i1⟩
  | 62 => ⟨S1x8x1x128, .f32⟩
  | 63 => ⟨S1x8x1x128, .bf16⟩
  | 64 => ⟨S4x8x2048x128, .bf16⟩
  | 65 => ⟨S4x8x2048x128, .bf16⟩
  | 66 => ⟨S2048, .i32⟩
  | 67 => ⟨S_, .i32⟩
  | 68 => ⟨S2048, .i32⟩
  | 69 => ⟨S2048, .i32⟩
  | 70 => ⟨S2048x1, .i32⟩
  | 71 => ⟨S1x2048, .i32⟩
  | 72 => ⟨S2048x2048, .i32⟩
  | 73 => ⟨S2048x2048, .i32⟩
  | 74 => ⟨S2048x2048, .i1⟩
  | 75 => ⟨S_, .f32⟩
  | 76 => ⟨S4x8x2048x1, .f32⟩
  | 77 => ⟨S_, .f32⟩
  | 78 => ⟨S4x8x2048x128, .f32⟩
  | 79 => ⟨S4x8x512x128, .bf16⟩
  | 80 => ⟨S4x8x2048x512, .f32⟩
  | 81 => ⟨S2048x512, .i1⟩
  | 82 => ⟨S1x1x2048x512, .i1⟩
  | 83 => ⟨S_, .f32⟩
  | 84 => ⟨S_, .f32⟩
  | 85 => ⟨S4x8x2048x512, .i1⟩
  | 86 => ⟨S4x8x2048x512, .f32⟩
  | 87 => ⟨S4x8x2048x512, .f32⟩
  | 88 => ⟨S_, .f32⟩
  | 89 => ⟨S4x8x2048, .f32⟩
  | 90 => ⟨S4x8x2048x1, .f32⟩
  | 91 => ⟨S4x8x2048x1, .f32⟩
  | 92 => ⟨S4x8x2048x512, .f32⟩
  | 93 => ⟨S4x8x2048x512, .f32⟩
  | 94 => ⟨S4x8x2048x512, .f32⟩
  | 95 => ⟨S4x8x2048x512, .f32⟩
  | 96 => ⟨S4x8x2048x512, .f32⟩
  | 97 => ⟨S4x8x2048x512, .bf16⟩
  | 98 => ⟨S4x8x2048x1, .f32⟩
  | 99 => ⟨S4x8x2048x1, .f32⟩
  | 100 => ⟨S4x8x2048x1, .f32⟩
  | 101 => ⟨S4x8x2048x1, .f32⟩
  | 102 => ⟨S4x8x2048x128, .f32⟩
  | 103 => ⟨S4x8x2048x128, .f32⟩
  | 104 => ⟨S4x8x512x128, .bf16⟩
  | 105 => ⟨S4x8x2048x128, .f32⟩
  | 106 => ⟨S4x8x2048x128, .f32⟩
  | 107 => ⟨S4x8x512x128, .bf16⟩
  | 108 => ⟨S4x8x2048x512, .f32⟩
  | 109 => ⟨S2048x512, .i1⟩
  | 110 => ⟨S1x1x2048x512, .i1⟩
  | 111 => ⟨S_, .f32⟩
  | 112 => ⟨S_, .f32⟩
  | 113 => ⟨S4x8x2048x512, .i1⟩
  | 114 => ⟨S4x8x2048x512, .f32⟩
  | 115 => ⟨S4x8x2048x512, .f32⟩
  | 116 => ⟨S_, .f32⟩
  | 117 => ⟨S4x8x2048, .f32⟩
  | 118 => ⟨S4x8x2048x1, .f32⟩
  | 119 => ⟨S4x8x2048x1, .f32⟩
  | 120 => ⟨S4x8x2048x512, .f32⟩
  | 121 => ⟨S4x8x2048x512, .f32⟩
  | 122 => ⟨S4x8x2048x512, .f32⟩
  | 123 => ⟨S4x8x2048x512, .f32⟩
  | 124 => ⟨S4x8x2048x512, .f32⟩
  | 125 => ⟨S4x8x2048x512, .bf16⟩
  | 126 => ⟨S4x8x2048x1, .f32⟩
  | 127 => ⟨S4x8x2048x1, .f32⟩
  | _ => ⟨S4x2048x8x96, .f32⟩

abbrev hbmTy0_1 (i : Nat) : BufTy := match i % 128 with
  | 0 => ⟨S4x8x2048x1, .f32⟩
  | 1 => ⟨S4x8x2048x1, .f32⟩
  | 2 => ⟨S4x8x2048x128, .f32⟩
  | 3 => ⟨S4x8x2048x128, .f32⟩
  | 4 => ⟨S4x8x512x128, .bf16⟩
  | 5 => ⟨S4x8x2048x128, .f32⟩
  | 6 => ⟨S4x8x2048x128, .f32⟩
  | 7 => ⟨S4x8x512x128, .bf16⟩
  | 8 => ⟨S4x8x2048x512, .f32⟩
  | 9 => ⟨S2048x512, .i1⟩
  | 10 => ⟨S1x1x2048x512, .i1⟩
  | 11 => ⟨S_, .f32⟩
  | 12 => ⟨S_, .f32⟩
  | 13 => ⟨S4x8x2048x512, .i1⟩
  | 14 => ⟨S4x8x2048x512, .f32⟩
  | 15 => ⟨S4x8x2048x512, .f32⟩
  | 16 => ⟨S_, .f32⟩
  | 17 => ⟨S4x8x2048, .f32⟩
  | 18 => ⟨S4x8x2048x1, .f32⟩
  | 19 => ⟨S4x8x2048x1, .f32⟩
  | 20 => ⟨S4x8x2048x512, .f32⟩
  | 21 => ⟨S4x8x2048x512, .f32⟩
  | 22 => ⟨S4x8x2048x512, .f32⟩
  | 23 => ⟨S4x8x2048x512, .f32⟩
  | 24 => ⟨S4x8x2048x512, .f32⟩
  | 25 => ⟨S4x8x2048x512, .bf16⟩
  | 26 => ⟨S4x8x2048x1, .f32⟩
  | 27 => ⟨S4x8x2048x1, .f32⟩
  | 28 => ⟨S4x8x2048x1, .f32⟩
  | 29 => ⟨S4x8x2048x1, .f32⟩
  | 30 => ⟨S4x8x2048x128, .f32⟩
  | 31 => ⟨S4x8x2048x128, .f32⟩
  | 32 => ⟨S4x8x512x128, .bf16⟩
  | 33 => ⟨S4x8x2048x128, .f32⟩
  | 34 => ⟨S4x8x2048x128, .f32⟩
  | 35 => ⟨S4x8x512x128, .bf16⟩
  | 36 => ⟨S4x8x2048x512, .f32⟩
  | 37 => ⟨S2048x512, .i1⟩
  | 38 => ⟨S1x1x2048x512, .i1⟩
  | 39 => ⟨S_, .f32⟩
  | 40 => ⟨S_, .f32⟩
  | 41 => ⟨S4x8x2048x512, .i1⟩
  | 42 => ⟨S4x8x2048x512, .f32⟩
  | 43 => ⟨S4x8x2048x512, .f32⟩
  | 44 => ⟨S_, .f32⟩
  | 45 => ⟨S4x8x2048, .f32⟩
  | 46 => ⟨S4x8x2048x1, .f32⟩
  | 47 => ⟨S4x8x2048x1, .f32⟩
  | 48 => ⟨S4x8x2048x512, .f32⟩
  | 49 => ⟨S4x8x2048x512, .f32⟩
  | 50 => ⟨S4x8x2048x512, .f32⟩
  | 51 => ⟨S4x8x2048x512, .f32⟩
  | 52 => ⟨S4x8x2048x512, .f32⟩
  | 53 => ⟨S4x8x2048x512, .bf16⟩
  | 54 => ⟨S4x8x2048x1, .f32⟩
  | 55 => ⟨S4x8x2048x1, .f32⟩
  | 56 => ⟨S4x8x2048x1, .f32⟩
  | 57 => ⟨S4x8x2048x1, .f32⟩
  | 58 => ⟨S4x8x2048x128, .f32⟩
  | 59 => ⟨S4x8x2048x128, .f32⟩
  | 60 => ⟨S4x8x512x128, .bf16⟩
  | 61 => ⟨S4x8x2048x128, .f32⟩
  | 62 => ⟨S4x8x2048x128, .f32⟩
  | 63 => ⟨S_, .f32⟩
  | 64 => ⟨S_, .f32⟩
  | 65 => ⟨S4x8x2048x128, .i1⟩
  | 66 => ⟨S4x8x2048x128, .f32⟩
  | 67 => ⟨S4x8x2048x128, .f32⟩
  | 68 => ⟨S_, .f32⟩
  | 69 => ⟨S4x8x2048, .f32⟩
  | 70 => ⟨S4x8x2048x1, .f32⟩
  | 71 => ⟨S_, .f32⟩
  | 72 => ⟨S4x8x2048x1, .f32⟩
  | 73 => ⟨S4x8x2048x1, .f32⟩
  | 74 => ⟨S4x8x2048x128, .f32⟩
  | 75 => ⟨S4x8x2048x128, .f32⟩
  | 76 => ⟨S4x8x2048x64, .f32⟩
  | 77 => ⟨S4x4x2048x64, .f32⟩
  | 78 => ⟨S4x4x1x2048x64, .f32⟩
  | 79 => ⟨S4x8x2048x64, .f32⟩
  | 80 => ⟨S4x4x2048x64, .f32⟩
  | 81 => ⟨S4x4x1x2048x64, .f32⟩
  | 82 => ⟨S4x4x2x2048x64, .f32⟩
  | 83 => ⟨S4x8x2048x64, .f32⟩
  | 84 => ⟨S4x2048x8x64, .f32⟩
  | 85 => ⟨S4x2048x512, .f32⟩
  | 86 => ⟨S4x2048x512, .bf16⟩
  | 87 => ⟨S4x8x2048x1, .f32⟩
  | 88 => ⟨S4x8x2048x1, .f32⟩
  | 89 => ⟨S4x8x2048x1, .f32⟩
  | 90 => ⟨S4x8x2048x1, .f32⟩
  | 91 => ⟨S4x8x1x2048, .f32⟩
  | 92 => ⟨S4x8x8x2048, .f32⟩
  | 93 => ⟨S4x8x2048x128, .bf16⟩
  | 94 => ⟨S4x8x2048x128, .bf16⟩
  | 95 => ⟨S4x8x2048x128, .bf16⟩
  | 96 => ⟨S4x8x2048x64, .bf16⟩
  | 97 => ⟨S4x8x2048x64, .bf16⟩
  | 98 => ⟨S4x8x2048x64, .i1⟩
  | 99 => ⟨S4x8x2048x64, .bf16⟩
  | 100 => ⟨S4x2048x8x128, .bf16⟩
  | 101 => ⟨S4x2048x8x128, .f32⟩
  | 102 => ⟨S4x2048x8x48, .f32⟩
  | 103 => ⟨S4x2048x8x16, .f32⟩
  | 104 => ⟨S4x2048x8x16, .f32⟩
  | 105 => ⟨S4x2048x8x16, .f32⟩
  | 106 => ⟨S4x2048x8x96, .f32⟩
  | 107 => ⟨S_, .f32⟩
  | 108 => ⟨S4x2048x8x96, .f32⟩
  | 109 => ⟨S4x2048x8x96, .f32⟩
  | 110 => ⟨S4x2048x8x128, .bf16⟩
  | 111 => ⟨S4x2048x8x128, .f32⟩
  | 112 => ⟨S4x2048x8x48, .f32⟩
  | 113 => ⟨S4x2048x8x16, .f32⟩
  | 114 => ⟨S4x2048x8x16, .f32⟩
  | 115 => ⟨S4x2048x8x16, .f32⟩
  | 116 => ⟨S4x2048x8x96, .f32⟩
  | 117 => ⟨S4x2048x8x64, .bf16⟩
  | 118 => ⟨S4x2048x8x64, .f32⟩
  | _ => ⟨S4x2048x8x96, .f32⟩

abbrev hbmTy (i : Nat) : BufTy := match i / 128 with
  | 0 => hbmTy0_0 i
  | 1 => hbmTy0_1 i
  | _ => ⟨S4x2048x8x96, .f32⟩

abbrev bufTy : (tb : Table) → Fin (tcTables nBuf tb) → BufTy
  | .hbm, ⟨i, _⟩ => hbmTy i
  | .local _ .vmem, ⟨0, _⟩ => ⟨S1x4x512x128, .bf16⟩
  | .local _ .vmem, ⟨1, _⟩ => ⟨S1x4x512x128, .bf16⟩
  | .local _ .vmem, ⟨2, _⟩ => ⟨S1x4x2048x128, .bf16⟩
  | .local _ .vmem, ⟨3, _⟩ => ⟨S1x4x2048x128, .bf16⟩
  | .local _ .vmem, ⟨4, _⟩ => ⟨S1x4x2048x128, .bf16⟩
  | .local _ .vmem, ⟨5, _⟩ => ⟨S1x4x2048x128, .bf16⟩
  | .local _ .vmem, ⟨6, _⟩ => ⟨S1x4x4x128x512, .bf16⟩
  | .local _ .vmem, ⟨7, _⟩ => ⟨S1x4x4x128x512, .bf16⟩
  | .local _ .vmem, ⟨8, _⟩ => ⟨S1x512x256, .bf16⟩
  | .local _ .vmem, ⟨9, _⟩ => ⟨S1x512x256, .bf16⟩
  | .local _ .vmem, ⟨10, _⟩ => ⟨S1x512x256, .bf16⟩
  | .local _ .vmem, ⟨11, _⟩ => ⟨S1x512x256, .bf16⟩
  | .local _ .vmem, ⟨12, _⟩ => ⟨S1x4x8x512, .f32⟩
  | .local _ .vmem, ⟨13, _⟩ => ⟨S1x4x8x512, .f32⟩
  | .local _ .vmem, ⟨14, _⟩ => ⟨S1x4x512x128, .bf16⟩
  | .local _ .vmem, ⟨15, _⟩ => ⟨S1x4x512x128, .bf16⟩
  | .local _ .vmem, ⟨16, _⟩ => ⟨S1x4x2048x128, .bf16⟩
  | .local _ .vmem, ⟨17, _⟩ => ⟨S1x4x2048x128, .bf16⟩
  | .local _ .vmem, ⟨18, _⟩ => ⟨S1x4x2048x128, .bf16⟩
  | .local _ .vmem, ⟨19, _⟩ => ⟨S1x4x2048x128, .bf16⟩
  | .local _ .vmem, ⟨20, _⟩ => ⟨S4x2048x128, .f32⟩
  | .local _ .vmem, ⟨21, _⟩ => ⟨S4x2048x128, .f32⟩
  | _, _ => ⟨S4x2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_3 : Ref sig .tc := ⟨.hbm, 35, rfl⟩
abbrev main_call1_v0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call2_v0 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_5 : Ref sig .tc := ⟨.hbm, 53, rfl⟩
abbrev main_c_6 : Ref sig .tc := ⟨.hbm, 54, rfl⟩
abbrev main_call3_v0 : Ref sig .tc := ⟨.hbm, 55, rfl⟩
abbrev main_call3_v1 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_7 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_8 : Ref sig .tc := ⟨.hbm, 75, rfl⟩
abbrev main_v56 : Ref sig .tc := ⟨.hbm, 76, rfl⟩
abbrev main_cst_9 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_10 : Ref sig .tc := ⟨.hbm, 83, rfl⟩
abbrev main_call4_v0 : Ref sig .tc := ⟨.hbm, 84, rfl⟩
abbrev main_call4_v1 : Ref sig .tc := ⟨.hbm, 85, rfl⟩
abbrev main_call4_v2 : Ref sig .tc := ⟨.hbm, 86, rfl⟩
abbrev main_v62 : Ref sig .tc := ⟨.hbm, 87, rfl⟩
abbrev main_cst_11 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_12 : Ref sig .tc := ⟨.hbm, 111, rfl⟩
abbrev main_call5_v0 : Ref sig .tc := ⟨.hbm, 112, rfl⟩
abbrev main_call5_v1 : Ref sig .tc := ⟨.hbm, 113, rfl⟩
abbrev main_call5_v2 : Ref sig .tc := ⟨.hbm, 114, rfl⟩
abbrev main_v85 : Ref sig .tc := ⟨.hbm, 115, rfl⟩
abbrev main_cst_13 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_14 : Ref sig .tc := ⟨.hbm, 139, rfl⟩
abbrev main_call6_v0 : Ref sig .tc := ⟨.hbm, 140, rfl⟩
abbrev main_call6_v1 : Ref sig .tc := ⟨.hbm, 141, rfl⟩
abbrev main_call6_v2 : Ref sig .tc := ⟨.hbm, 142, rfl⟩
abbrev main_v108 : Ref sig .tc := ⟨.hbm, 143, rfl⟩
abbrev main_cst_15 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_cst_16 : Ref sig .tc := ⟨.hbm, 167, rfl⟩
abbrev main_call7_v0 : Ref sig .tc := ⟨.hbm, 168, rfl⟩
abbrev main_call7_v1 : Ref sig .tc := ⟨.hbm, 169, rfl⟩
abbrev main_call7_v2 : Ref sig .tc := ⟨.hbm, 170, rfl⟩
abbrev main_v131 : Ref sig .tc := ⟨.hbm, 171, rfl⟩
abbrev main_cst_17 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_cst_18 : Ref sig .tc := ⟨.hbm, 191, rfl⟩
abbrev main_call8_v0 : Ref sig .tc := ⟨.hbm, 192, rfl⟩
abbrev main_call8_v1 : Ref sig .tc := ⟨.hbm, 193, rfl⟩
abbrev main_call8_v2 : Ref sig .tc := ⟨.hbm, 194, rfl⟩
abbrev main_v150 : Ref sig .tc := ⟨.hbm, 195, rfl⟩
abbrev main_cst_19 : Ref sig .tc := ⟨.hbm, 196, rfl⟩
abbrev main_v151 : Ref sig .tc := ⟨.hbm, 197, rfl⟩
abbrev main_v152 : Ref sig .tc := ⟨.hbm, 198, rfl⟩
abbrev main_cst_20 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174_0 : Ref sig .tc := ⟨.hbm, 221, rfl⟩
abbrev main_v174_1 : Ref sig .tc := ⟨.hbm, 222, rfl⟩
abbrev main_v174_2 : Ref sig .tc := ⟨.hbm, 223, rfl⟩
abbrev main_v175 : Ref sig .tc := ⟨.hbm, 224, rfl⟩
abbrev main_v176 : Ref sig .tc := ⟨.hbm, 225, rfl⟩
abbrev main_call9_v0 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_cst_21 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 2, 4], ![false, false, false]⟩

@[reducible] def k0_t1_loop (i : grid0.Coords) : Scf.Loop 32 :=
  let c0_i32_107 : BitVec 32 := 0#32
  let arg2 : BitVec 32 := BitVec.ofNat 32 (i 2).val
  let v243 : BitVec 32 := Scalar.subi arg2 c0_i32_107
  let c1_i32_108 : BitVec 32 := 1#32
  let v245 : BitVec 32 := Scalar.divsi v243 c1_i32_108
  let v246 : BitVec 32 := Scalar.muli v245 c1_i32_108
  let v247 : BitVec 32 := Scalar.addi c0_i32_107 v246
  let c1_i32_109 : BitVec 32 := 1#32
  ⟨c0_i32_107, v247, c1_i32_109⟩
def k0_mult1 (i : grid0.Coords) (k0_t1 : Fin (k0_t1_loop i).trips) : BitVec 32 :=
  let c0_i32_107 : BitVec 32 := 0#32
  let c1_i32_109 : BitVec 32 := 1#32
  let arg15 : BitVec 32 := Scf.iv c0_i32_107 c1_i32_109 k0_t1
  let c512_i32_224 : BitVec 32 := 512#32
  let v439 : BitVec 32 := Scalar.muli arg15 c512_i32_224
  v439
def k0_off1 (i : grid0.Coords) (k0_t1 : Fin (k0_t1_loop i).trips) : Fin 4 → Nat :=
  let c0_225 : Index := 0#32
  let c0_226 : Index := 0#32
  let c0_i32_107 : BitVec 32 := 0#32
  let c1_i32_109 : BitVec 32 := 1#32
  let arg15 : BitVec 32 := Scf.iv c0_i32_107 c1_i32_109 k0_t1
  let c512_i32_224 : BitVec 32 := 512#32
  let v439 : BitVec 32 := Scalar.muli arg15 c512_i32_224
  let v440 : BitVec 32 := v439
  let v441 : Index := Scalar.indexCast v440
  let c0_227 : Index := 0#32
  ![0, 0, v441.toNat, 0]
def k0_off2 (i : grid0.Coords) (k0_t1 : Fin (k0_t1_loop i).trips) : Fin 3 → Nat :=
  let c0_229 : Index := 0#32
  let c0_i32_107 : BitVec 32 := 0#32
  let c1_i32_109 : BitVec 32 := 1#32
  let arg15 : BitVec 32 := Scf.iv c0_i32_107 c1_i32_109 k0_t1
  let c512_i32_224 : BitVec 32 := 512#32
  let v439 : BitVec 32 := Scalar.muli arg15 c512_i32_224
  let v440 : BitVec 32 := v439
  let v448 : Index := Scalar.indexCast v440
  let c0_230 : Index := 0#32
  ![0, v448.toNat, 0]
def k0_off3 (i : grid0.Coords) (k0_t1 : Fin (k0_t1_loop i).trips) : Fin 5 → Nat :=
  let c0_243 : Index := 0#32
  let c0_244 : Index := 0#32
  let c0_i32_107 : BitVec 32 := 0#32
  let c1_i32_109 : BitVec 32 := 1#32
  let arg15 : BitVec 32 := Scf.iv c0_i32_107 c1_i32_109 k0_t1
  let v475 : Index := Scalar.indexCast arg15
  let c0_245 : Index := 0#32
  let c0_246 : Index := 0#32
  ![0, 0, v475.toNat, 0, 0]
def k0_off4 (i : grid0.Coords) (k0_t1 : Fin (k0_t1_loop i).trips) : Fin 4 → Nat :=
  let c0_248 : Index := 0#32
  let c1_249 : Index := 1#32
  let c0_i32_107 : BitVec 32 := 0#32
  let c1_i32_109 : BitVec 32 := 1#32
  let arg15 : BitVec 32 := Scf.iv c0_i32_107 c1_i32_109 k0_t1
  let c512_i32_224 : BitVec 32 := 512#32
  let v439 : BitVec 32 := Scalar.muli arg15 c512_i32_224
  let v440 : BitVec 32 := v439
  let v480 : Index := Scalar.indexCast v440
  let c0_250 : Index := 0#32
  ![0, 1, v480.toNat, 0]
def k0_off5 (i : grid0.Coords) (k0_t1 : Fin (k0_t1_loop i).trips) : Fin 3 → Nat :=
  let c1_252 : Index := 1#32
  let c0_i32_107 : BitVec 32 := 0#32
  let c1_i32_109 : BitVec 32 := 1#32
  let arg15 : BitVec 32 := Scf.iv c0_i32_107 c1_i32_109 k0_t1
  let c512_i32_224 : BitVec 32 := 512#32
  let v439 : BitVec 32 := Scalar.muli arg15 c512_i32_224
  let v440 : BitVec 32 := v439
  let v487 : Index := Scalar.indexCast v440
  let c0_253 : Index := 0#32
  ![1, v487.toNat, 0]
def k0_off6 (i : grid0.Coords) (k0_t1 : Fin (k0_t1_loop i).trips) : Fin 5 → Nat :=
  let c0_266 : Index := 0#32
  let c1_267 : Index := 1#32
  let c0_i32_107 : BitVec 32 := 0#32
  let c1_i32_109 : BitVec 32 := 1#32
  let arg15 : BitVec 32 := Scf.iv c0_i32_107 c1_i32_109 k0_t1
  let v514 : Index := Scalar.indexCast arg15
  let c0_268 : Index := 0#32
  let c0_269 : Index := 0#32
  ![0, 1, v514.toNat, 0, 0]
def k0_off7 (i : grid0.Coords) (k0_t1 : Fin (k0_t1_loop i).trips) : Fin 4 → Nat :=
  let c0_271 : Index := 0#32
  let c2_272 : Index := 2#32
  let c0_i32_107 : BitVec 32 := 0#32
  let c1_i32_109 : BitVec 32 := 1#32
  let arg15 : BitVec 32 := Scf.iv c0_i32_107 c1_i32_109 k0_t1
  let c512_i32_224 : BitVec 32 := 512#32
  let v439 : BitVec 32 := Scalar.muli arg15 c512_i32_224
  let v440 : BitVec 32 := v439
  let v519 : Index := Scalar.indexCast v440
  let c0_273 : Index := 0#32
  ![0, 2, v519.toNat, 0]
def k0_off8 (i : grid0.Coords) (k0_t1 : Fin (k0_t1_loop i).trips) : Fin 3 → Nat :=
  let c2_275 : Index := 2#32
  let c0_i32_107 : BitVec 32 := 0#32
  let c1_i32_109 : BitVec 32 := 1#32
  let arg15 : BitVec 32 := Scf.iv c0_i32_107 c1_i32_109 k0_t1
  let c512_i32_224 : BitVec 32 := 512#32
  let v439 : BitVec 32 := Scalar.muli arg15 c512_i32_224
  let v440 : BitVec 32 := v439
  let v526 : Index := Scalar.indexCast v440
  let c0_276 : Index := 0#32
  ![2, v526.toNat, 0]
def k0_off9 (i : grid0.Coords) (k0_t1 : Fin (k0_t1_loop i).trips) : Fin 5 → Nat :=
  let c0_289 : Index := 0#32
  let c2_290 : Index := 2#32
  let c0_i32_107 : BitVec 32 := 0#32
  let c1_i32_109 : BitVec 32 := 1#32
  let arg15 : BitVec 32 := Scf.iv c0_i32_107 c1_i32_109 k0_t1
  let v553 : Index := Scalar.indexCast arg15
  let c0_291 : Index := 0#32
  let c0_292 : Index := 0#32
  ![0, 2, v553.toNat, 0, 0]
def k0_off10 (i : grid0.Coords) (k0_t1 : Fin (k0_t1_loop i).trips) : Fin 4 → Nat :=
  let c0_294 : Index := 0#32
  let c3_295 : Index := 3#32
  let c0_i32_107 : BitVec 32 := 0#32
  let c1_i32_109 : BitVec 32 := 1#32
  let arg15 : BitVec 32 := Scf.iv c0_i32_107 c1_i32_109 k0_t1
  let c512_i32_224 : BitVec 32 := 512#32
  let v439 : BitVec 32 := Scalar.muli arg15 c512_i32_224
  let v440 : BitVec 32 := v439
  let v558 : Index := Scalar.indexCast v440
  let c0_296 : Index := 0#32
  ![0, 3, v558.toNat, 0]
def k0_off11 (i : grid0.Coords) (k0_t1 : Fin (k0_t1_loop i).trips) : Fin 3 → Nat :=
  let c3_298 : Index := 3#32
  let c0_i32_107 : BitVec 32 := 0#32
  let c1_i32_109 : BitVec 32 := 1#32
  let arg15 : BitVec 32 := Scf.iv c0_i32_107 c1_i32_109 k0_t1
  let c512_i32_224 : BitVec 32 := 512#32
  let v439 : BitVec 32 := Scalar.muli arg15 c512_i32_224
  let v440 : BitVec 32 := v439
  let v565 : Index := Scalar.indexCast v440
  let c0_299 : Index := 0#32
  ![3, v565.toNat, 0]
def k0_off12 (i : grid0.Coords) (k0_t1 : Fin (k0_t1_loop i).trips) : Fin 5 → Nat :=
  let c0_312 : Index := 0#32
  let c3_313 : Index := 3#32
  let c0_i32_107 : BitVec 32 := 0#32
  let c1_i32_109 : BitVec 32 := 1#32
  let arg15 : BitVec 32 := Scf.iv c0_i32_107 c1_i32_109 k0_t1
  let v592 : Index := Scalar.indexCast arg15
  let c0_314 : Index := 0#32
  let c0_315 : Index := 0#32
  ![0, 3, v592.toNat, 0, 0]
@[reducible] def k0_t2_loop (i : grid0.Coords) : Scf.Loop 32 :=
  let c0_i32_107 : BitVec 32 := 0#32
  let arg2 : BitVec 32 := BitVec.ofNat 32 (i 2).val
  let v243 : BitVec 32 := Scalar.subi arg2 c0_i32_107
  let c1_i32_108 : BitVec 32 := 1#32
  let v245 : BitVec 32 := Scalar.divsi v243 c1_i32_108
  let v246 : BitVec 32 := Scalar.muli v245 c1_i32_108
  let v247 : BitVec 32 := Scalar.addi c0_i32_107 v246
  let v244 : BitVec 32 := Scalar.addi c0_i32_107 v243
  let c1_i32_110 : BitVec 32 := 1#32
  ⟨v247, v244, c1_i32_110⟩
def k0_mult2 (i : grid0.Coords) (k0_t2 : Fin (k0_t2_loop i).trips) : BitVec 32 :=
  let c0_i32_107 : BitVec 32 := 0#32
  let arg2 : BitVec 32 := BitVec.ofNat 32 (i 2).val
  let v243 : BitVec 32 := Scalar.subi arg2 c0_i32_107
  let c1_i32_108 : BitVec 32 := 1#32
  let v245 : BitVec 32 := Scalar.divsi v243 c1_i32_108
  let v246 : BitVec 32 := Scalar.muli v245 c1_i32_108
  let v247 : BitVec 32 := Scalar.addi c0_i32_107 v246
  let c1_i32_110 : BitVec 32 := 1#32
  let arg15 : BitVec 32 := Scf.iv v247 c1_i32_110 k0_t2
  let c512_i32_224 : BitVec 32 := 512#32
  let v439 : BitVec 32 := Scalar.muli arg15 c512_i32_224
  v439
def k0_off13 (i : grid0.Coords) (k0_t2 : Fin (k0_t2_loop i).trips) : Fin 4 → Nat :=
  let c0_225 : Index := 0#32
  let c0_226 : Index := 0#32
  let c0_i32_107 : BitVec 32 := 0#32
  let arg2 : BitVec 32 := BitVec.ofNat 32 (i 2).val
  let v243 : BitVec 32 := Scalar.subi arg2 c0_i32_107
  let c1_i32_108 : BitVec 32 := 1#32
  let v245 : BitVec 32 := Scalar.divsi v243 c1_i32_108
  let v246 : BitVec 32 := Scalar.muli v245 c1_i32_108
  let v247 : BitVec 32 := Scalar.addi c0_i32_107 v246
  let c1_i32_110 : BitVec 32 := 1#32
  let arg15 : BitVec 32 := Scf.iv v247 c1_i32_110 k0_t2
  let c512_i32_224 : BitVec 32 := 512#32
  let v439 : BitVec 32 := Scalar.muli arg15 c512_i32_224
  let v440 : BitVec 32 := v439
  let v441 : Index := Scalar.indexCast v440
  let c0_227 : Index := 0#32
  ![0, 0, v441.toNat, 0]
def k0_off14 (i : grid0.Coords) (k0_t2 : Fin (k0_t2_loop i).trips) : Fin 3 → Nat :=
  let c0_229 : Index := 0#32
  let c0_i32_107 : BitVec 32 := 0#32
  let arg2 : BitVec 32 := BitVec.ofNat 32 (i 2).val
  let v243 : BitVec 32 := Scalar.subi arg2 c0_i32_107
  let c1_i32_108 : BitVec 32 := 1#32
  let v245 : BitVec 32 := Scalar.divsi v243 c1_i32_108
  let v246 : BitVec 32 := Scalar.muli v245 c1_i32_108
  let v247 : BitVec 32 := Scalar.addi c0_i32_107 v246
  let c1_i32_110 : BitVec 32 := 1#32
  let arg15 : BitVec 32 := Scf.iv v247 c1_i32_110 k0_t2
  let c512_i32_224 : BitVec 32 := 512#32
  let v439 : BitVec 32 := Scalar.muli arg15 c512_i32_224
  let v440 : BitVec 32 := v439
  let v448 : Index := Scalar.indexCast v440
  let c0_230 : Index := 0#32
  ![0, v448.toNat, 0]
def k0_off15 (i : grid0.Coords) (k0_t2 : Fin (k0_t2_loop i).trips) : Fin 5 → Nat :=
  let c0_243 : Index := 0#32
  let c0_244 : Index := 0#32
  let c0_i32_107 : BitVec 32 := 0#32
  let arg2 : BitVec 32 := BitVec.ofNat 32 (i 2).val
  let v243 : BitVec 32 := Scalar.subi arg2 c0_i32_107
  let c1_i32_108 : BitVec 32 := 1#32
  let v245 : BitVec 32 := Scalar.divsi v243 c1_i32_108
  let v246 : BitVec 32 := Scalar.muli v245 c1_i32_108
  let v247 : BitVec 32 := Scalar.addi c0_i32_107 v246
  let c1_i32_110 : BitVec 32 := 1#32
  let arg15 : BitVec 32 := Scf.iv v247 c1_i32_110 k0_t2
  let v475 : Index := Scalar.indexCast arg15
  let c0_245 : Index := 0#32
  let c0_246 : Index := 0#32
  ![0, 0, v475.toNat, 0, 0]
def k0_off16 (i : grid0.Coords) (k0_t2 : Fin (k0_t2_loop i).trips) : Fin 4 → Nat :=
  let c0_248 : Index := 0#32
  let c1_249 : Index := 1#32
  let c0_i32_107 : BitVec 32 := 0#32
  let arg2 : BitVec 32 := BitVec.ofNat 32 (i 2).val
  let v243 : BitVec 32 := Scalar.subi arg2 c0_i32_107
  let c1_i32_108 : BitVec 32 := 1#32
  let v245 : BitVec 32 := Scalar.divsi v243 c1_i32_108
  let v246 : BitVec 32 := Scalar.muli v245 c1_i32_108
  let v247 : BitVec 32 := Scalar.addi c0_i32_107 v246
  let c1_i32_110 : BitVec 32 := 1#32
  let arg15 : BitVec 32 := Scf.iv v247 c1_i32_110 k0_t2
  let c512_i32_224 : BitVec 32 := 512#32
  let v439 : BitVec 32 := Scalar.muli arg15 c512_i32_224
  let v440 : BitVec 32 := v439
  let v480 : Index := Scalar.indexCast v440
  let c0_250 : Index := 0#32
  ![0, 1, v480.toNat, 0]
def k0_off17 (i : grid0.Coords) (k0_t2 : Fin (k0_t2_loop i).trips) : Fin 3 → Nat :=
  let c1_252 : Index := 1#32
  let c0_i32_107 : BitVec 32 := 0#32
  let arg2 : BitVec 32 := BitVec.ofNat 32 (i 2).val
  let v243 : BitVec 32 := Scalar.subi arg2 c0_i32_107
  let c1_i32_108 : BitVec 32 := 1#32
  let v245 : BitVec 32 := Scalar.divsi v243 c1_i32_108
  let v246 : BitVec 32 := Scalar.muli v245 c1_i32_108
  let v247 : BitVec 32 := Scalar.addi c0_i32_107 v246
  let c1_i32_110 : BitVec 32 := 1#32
  let arg15 : BitVec 32 := Scf.iv v247 c1_i32_110 k0_t2
  let c512_i32_224 : BitVec 32 := 512#32
  let v439 : BitVec 32 := Scalar.muli arg15 c512_i32_224
  let v440 : BitVec 32 := v439
  let v487 : Index := Scalar.indexCast v440
  let c0_253 : Index := 0#32
  ![1, v487.toNat, 0]
def k0_off18 (i : grid0.Coords) (k0_t2 : Fin (k0_t2_loop i).trips) : Fin 5 → Nat :=
  let c0_266 : Index := 0#32
  let c1_267 : Index := 1#32
  let c0_i32_107 : BitVec 32 := 0#32
  let arg2 : BitVec 32 := BitVec.ofNat 32 (i 2).val
  let v243 : BitVec 32 := Scalar.subi arg2 c0_i32_107
  let c1_i32_108 : BitVec 32 := 1#32
  let v245 : BitVec 32 := Scalar.divsi v243 c1_i32_108
  let v246 : BitVec 32 := Scalar.muli v245 c1_i32_108
  let v247 : BitVec 32 := Scalar.addi c0_i32_107 v246
  let c1_i32_110 : BitVec 32 := 1#32
  let arg15 : BitVec 32 := Scf.iv v247 c1_i32_110 k0_t2
  let v514 : Index := Scalar.indexCast arg15
  let c0_268 : Index := 0#32
  let c0_269 : Index := 0#32
  ![0, 1, v514.toNat, 0, 0]
def k0_off19 (i : grid0.Coords) (k0_t2 : Fin (k0_t2_loop i).trips) : Fin 4 → Nat :=
  let c0_271 : Index := 0#32
  let c2_272 : Index := 2#32
  let c0_i32_107 : BitVec 32 := 0#32
  let arg2 : BitVec 32 := BitVec.ofNat 32 (i 2).val
  let v243 : BitVec 32 := Scalar.subi arg2 c0_i32_107
  let c1_i32_108 : BitVec 32 := 1#32
  let v245 : BitVec 32 := Scalar.divsi v243 c1_i32_108
  let v246 : BitVec 32 := Scalar.muli v245 c1_i32_108
  let v247 : BitVec 32 := Scalar.addi c0_i32_107 v246
  let c1_i32_110 : BitVec 32 := 1#32
  let arg15 : BitVec 32 := Scf.iv v247 c1_i32_110 k0_t2
  let c512_i32_224 : BitVec 32 := 512#32
  let v439 : BitVec 32 := Scalar.muli arg15 c512_i32_224
  let v440 : BitVec 32 := v439
  let v519 : Index := Scalar.indexCast v440
  let c0_273 : Index := 0#32
  ![0, 2, v519.toNat, 0]
def k0_off20 (i : grid0.Coords) (k0_t2 : Fin (k0_t2_loop i).trips) : Fin 3 → Nat :=
  let c2_275 : Index := 2#32
  let c0_i32_107 : BitVec 32 := 0#32
  let arg2 : BitVec 32 := BitVec.ofNat 32 (i 2).val
  let v243 : BitVec 32 := Scalar.subi arg2 c0_i32_107
  let c1_i32_108 : BitVec 32 := 1#32
  let v245 : BitVec 32 := Scalar.divsi v243 c1_i32_108
  let v246 : BitVec 32 := Scalar.muli v245 c1_i32_108
  let v247 : BitVec 32 := Scalar.addi c0_i32_107 v246
  let c1_i32_110 : BitVec 32 := 1#32
  let arg15 : BitVec 32 := Scf.iv v247 c1_i32_110 k0_t2
  let c512_i32_224 : BitVec 32 := 512#32
  let v439 : BitVec 32 := Scalar.muli arg15 c512_i32_224
  let v440 : BitVec 32 := v439
  let v526 : Index := Scalar.indexCast v440
  let c0_276 : Index := 0#32
  ![2, v526.toNat, 0]
def k0_off21 (i : grid0.Coords) (k0_t2 : Fin (k0_t2_loop i).trips) : Fin 5 → Nat :=
  let c0_289 : Index := 0#32
  let c2_290 : Index := 2#32
  let c0_i32_107 : BitVec 32 := 0#32
  let arg2 : BitVec 32 := BitVec.ofNat 32 (i 2).val
  let v243 : BitVec 32 := Scalar.subi arg2 c0_i32_107
  let c1_i32_108 : BitVec 32 := 1#32
  let v245 : BitVec 32 := Scalar.divsi v243 c1_i32_108
  let v246 : BitVec 32 := Scalar.muli v245 c1_i32_108
  let v247 : BitVec 32 := Scalar.addi c0_i32_107 v246
  let c1_i32_110 : BitVec 32 := 1#32
  let arg15 : BitVec 32 := Scf.iv v247 c1_i32_110 k0_t2
  let v553 : Index := Scalar.indexCast arg15
  let c0_291 : Index := 0#32
  let c0_292 : Index := 0#32
  ![0, 2, v553.toNat, 0, 0]
def k0_off22 (i : grid0.Coords) (k0_t2 : Fin (k0_t2_loop i).trips) : Fin 4 → Nat :=
  let c0_294 : Index := 0#32
  let c3_295 : Index := 3#32
  let c0_i32_107 : BitVec 32 := 0#32
  let arg2 : BitVec 32 := BitVec.ofNat 32 (i 2).val
  let v243 : BitVec 32 := Scalar.subi arg2 c0_i32_107
  let c1_i32_108 : BitVec 32 := 1#32
  let v245 : BitVec 32 := Scalar.divsi v243 c1_i32_108
  let v246 : BitVec 32 := Scalar.muli v245 c1_i32_108
  let v247 : BitVec 32 := Scalar.addi c0_i32_107 v246
  let c1_i32_110 : BitVec 32 := 1#32
  let arg15 : BitVec 32 := Scf.iv v247 c1_i32_110 k0_t2
  let c512_i32_224 : BitVec 32 := 512#32
  let v439 : BitVec 32 := Scalar.muli arg15 c512_i32_224
  let v440 : BitVec 32 := v439
  let v558 : Index := Scalar.indexCast v440
  let c0_296 : Index := 0#32
  ![0, 3, v558.toNat, 0]
def k0_off23 (i : grid0.Coords) (k0_t2 : Fin (k0_t2_loop i).trips) : Fin 3 → Nat :=
  let c3_298 : Index := 3#32
  let c0_i32_107 : BitVec 32 := 0#32
  let arg2 : BitVec 32 := BitVec.ofNat 32 (i 2).val
  let v243 : BitVec 32 := Scalar.subi arg2 c0_i32_107
  let c1_i32_108 : BitVec 32 := 1#32
  let v245 : BitVec 32 := Scalar.divsi v243 c1_i32_108
  let v246 : BitVec 32 := Scalar.muli v245 c1_i32_108
  let v247 : BitVec 32 := Scalar.addi c0_i32_107 v246
  let c1_i32_110 : BitVec 32 := 1#32
  let arg15 : BitVec 32 := Scf.iv v247 c1_i32_110 k0_t2
  let c512_i32_224 : BitVec 32 := 512#32
  let v439 : BitVec 32 := Scalar.muli arg15 c512_i32_224
  let v440 : BitVec 32 := v439
  let v565 : Index := Scalar.indexCast v440
  let c0_299 : Index := 0#32
  ![3, v565.toNat, 0]
def k0_off24 (i : grid0.Coords) (k0_t2 : Fin (k0_t2_loop i).trips) : Fin 5 → Nat :=
  let c0_312 : Index := 0#32
  let c3_313 : Index := 3#32
  let c0_i32_107 : BitVec 32 := 0#32
  let arg2 : BitVec 32 := BitVec.ofNat 32 (i 2).val
  let v243 : BitVec 32 := Scalar.subi arg2 c0_i32_107
  let c1_i32_108 : BitVec 32 := 1#32
  let v245 : BitVec 32 := Scalar.divsi v243 c1_i32_108
  let v246 : BitVec 32 := Scalar.muli v245 c1_i32_108
  let v247 : BitVec 32 := Scalar.addi c0_i32_107 v246
  let c1_i32_110 : BitVec 32 := 1#32
  let arg15 : BitVec 32 := Scf.iv v247 c1_i32_110 k0_t2
  let v592 : Index := Scalar.indexCast arg15
  let c0_314 : Index := 0#32
  let c0_315 : Index := 0#32
  ![0, 3, v592.toNat, 0, 0]
def k0_mult3 (i : grid0.Coords) : BitVec 32 :=
  let arg2 : BitVec 32 := BitVec.ofNat 32 (i 2).val
  let c512_i32 : BitVec 32 := 512#32
  let v250 : BitVec 32 := Scalar.muli arg2 c512_i32
  v250
def k0_off25 (i : grid0.Coords) : Fin 4 → Nat :=
  let c0_111 : Index := 0#32
  let c0_112 : Index := 0#32
  let arg2 : BitVec 32 := BitVec.ofNat 32 (i 2).val
  let c512_i32 : BitVec 32 := 512#32
  let v250 : BitVec 32 := Scalar.muli arg2 c512_i32
  let v251 : BitVec 32 := v250
  let v252 : Index := Scalar.indexCast v251
  let c0_113 : Index := 0#32
  ![0, 0, v252.toNat, 0]
def k0_off26 (i : grid0.Coords) : Fin 3 → Nat :=
  let c0_116 : Index := 0#32
  let arg2 : BitVec 32 := BitVec.ofNat 32 (i 2).val
  let c512_i32 : BitVec 32 := 512#32
  let v250 : BitVec 32 := Scalar.muli arg2 c512_i32
  let v251 : BitVec 32 := v250
  let v261 : Index := Scalar.indexCast v251
  let c0_117 : Index := 0#32
  ![0, v261.toNat, 0]
def k0_off27 (i : grid0.Coords) : Fin 5 → Nat :=
  let c0_130 : Index := 0#32
  let c0_131 : Index := 0#32
  let arg2 : BitVec 32 := BitVec.ofNat 32 (i 2).val
  let v288 : Index := Scalar.indexCast arg2
  let c0_132 : Index := 0#32
  let c0_133 : Index := 0#32
  ![0, 0, v288.toNat, 0, 0]
def k0_off28 (i : grid0.Coords) : Fin 4 → Nat :=
  let c0_135 : Index := 0#32
  let c1_136 : Index := 1#32
  let arg2 : BitVec 32 := BitVec.ofNat 32 (i 2).val
  let c512_i32 : BitVec 32 := 512#32
  let v250 : BitVec 32 := Scalar.muli arg2 c512_i32
  let v251 : BitVec 32 := v250
  let v293 : Index := Scalar.indexCast v251
  let c0_137 : Index := 0#32
  ![0, 1, v293.toNat, 0]
def k0_off29 (i : grid0.Coords) : Fin 3 → Nat :=
  let c1_140 : Index := 1#32
  let arg2 : BitVec 32 := BitVec.ofNat 32 (i 2).val
  let c512_i32 : BitVec 32 := 512#32
  let v250 : BitVec 32 := Scalar.muli arg2 c512_i32
  let v251 : BitVec 32 := v250
  let v302 : Index := Scalar.indexCast v251
  let c0_141 : Index := 0#32
  ![1, v302.toNat, 0]
def k0_off30 (i : grid0.Coords) : Fin 5 → Nat :=
  let c0_154 : Index := 0#32
  let c1_155 : Index := 1#32
  let arg2 : BitVec 32 := BitVec.ofNat 32 (i 2).val
  let v329 : Index := Scalar.indexCast arg2
  let c0_156 : Index := 0#32
  let c0_157 : Index := 0#32
  ![0, 1, v329.toNat, 0, 0]
def k0_off31 (i : grid0.Coords) : Fin 4 → Nat :=
  let c0_159 : Index := 0#32
  let c2_160 : Index := 2#32
  let arg2 : BitVec 32 := BitVec.ofNat 32 (i 2).val
  let c512_i32 : BitVec 32 := 512#32
  let v250 : BitVec 32 := Scalar.muli arg2 c512_i32
  let v251 : BitVec 32 := v250
  let v334 : Index := Scalar.indexCast v251
  let c0_161 : Index := 0#32
  ![0, 2, v334.toNat, 0]
def k0_off32 (i : grid0.Coords) : Fin 3 → Nat :=
  let c2_164 : Index := 2#32
  let arg2 : BitVec 32 := BitVec.ofNat 32 (i 2).val
  let c512_i32 : BitVec 32 := 512#32
  let v250 : BitVec 32 := Scalar.muli arg2 c512_i32
  let v251 : BitVec 32 := v250
  let v343 : Index := Scalar.indexCast v251
  let c0_165 : Index := 0#32
  ![2, v343.toNat, 0]
def k0_off33 (i : grid0.Coords) : Fin 5 → Nat :=
  let c0_178 : Index := 0#32
  let c2_179 : Index := 2#32
  let arg2 : BitVec 32 := BitVec.ofNat 32 (i 2).val
  let v370 : Index := Scalar.indexCast arg2
  let c0_180 : Index := 0#32
  let c0_181 : Index := 0#32
  ![0, 2, v370.toNat, 0, 0]
def k0_off34 (i : grid0.Coords) : Fin 4 → Nat :=
  let c0_183 : Index := 0#32
  let c3_184 : Index := 3#32
  let arg2 : BitVec 32 := BitVec.ofNat 32 (i 2).val
  let c512_i32 : BitVec 32 := 512#32
  let v250 : BitVec 32 := Scalar.muli arg2 c512_i32
  let v251 : BitVec 32 := v250
  let v375 : Index := Scalar.indexCast v251
  let c0_185 : Index := 0#32
  ![0, 3, v375.toNat, 0]
def k0_off35 (i : grid0.Coords) : Fin 3 → Nat :=
  let c3_188 : Index := 3#32
  let arg2 : BitVec 32 := BitVec.ofNat 32 (i 2).val
  let c512_i32 : BitVec 32 := 512#32
  let v250 : BitVec 32 := Scalar.muli arg2 c512_i32
  let v251 : BitVec 32 := v250
  let v384 : Index := Scalar.indexCast v251
  let c0_189 : Index := 0#32
  ![3, v384.toNat, 0]
def k0_off36 (i : grid0.Coords) : Fin 5 → Nat :=
  let c0_202 : Index := 0#32
  let c3_203 : Index := 3#32
  let arg2 : BitVec 32 := BitVec.ofNat 32 (i 2).val
  let v411 : Index := Scalar.indexCast arg2
  let c0_204 : Index := 0#32
  let c0_205 : Index := 0#32
  ![0, 3, v411.toNat, 0, 0]
def k0_cond2 (i : grid0.Coords) : BitVec 1 :=
  let arg2 : BitVec 32 := BitVec.ofNat 32 (i 2).val
  let c3_i32 : BitVec 32 := 3#32
  let v436 : BitVec 1 := Scalar.cmpi .eq arg2 c3_i32
  let v437 : BitVec 32 := Scalar.extui v436
  let c0_i32_223 : BitVec 32 := 0#32
  let v438 : BitVec 1 := Scalar.cmpi .ne v437 c0_i32_223
  v438

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x4x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x4x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x4x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x4x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x4x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Kernel3Ideal.lean ====
variable {F : FTy → Type} [FloatOps F] [Named F]
def κ : String → Option EReal := fun
  | "ln2" => some ((Real.log 2 : ℝ) : EReal)
  | _ => none
-- ==== Reference3Ideal.lean ====
abbrev S4x2048x8x96 : Shape := ⟨4, ![4, 2048, 8, 96]⟩
abbrev S4x2048x8x64 : Shape := ⟨4, ![4, 2048, 8, 64]⟩
abbrev S4x2048x512 : Shape := ⟨3, ![4, 2048, 512]⟩
abbrev S2048 : Shape := ⟨1, ![2048]⟩
abbrev S_ : Shape := ⟨0, ![]⟩
abbrev S4x8x2048x2048 : Shape := ⟨4, ![4, 8, 2048, 2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩
abbrev S4x8x2048x96 : Shape := ⟨4, ![4, 8, 2048, 96]⟩

abbrev nBuf : Space → Nat
  | .hbm => 95
  | .vmem => 0
  | .smem => 0
  | _ => 0

abbrev bufTy : (tb : Table) → Fin (tcTables nBuf tb) → BufTy
  | .hbm, ⟨0, _⟩ => ⟨S4x2048x8x96, .f32⟩
  | .hbm, ⟨1, _⟩ => ⟨S4x2048x8x96, .f32⟩
  | .hbm, ⟨2, _⟩ => ⟨S4x2048x8x64, .f32⟩
  | .hbm, ⟨3, _⟩ => ⟨S4x2048x512, .bf16⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S4x8x2048x2048, .f32⟩
  | .hbm, ⟨9, _⟩ => ⟨S_, .f32⟩
  | .hbm, ⟨10, _⟩ => ⟨S4x8x2048x2048, .f32⟩
  | .hbm, ⟨11, _⟩ => ⟨S4x8x2048x2048, .f32⟩
  | .hbm, ⟨12, _⟩ => ⟨S2048x1, .i32⟩
  | .hbm, ⟨13, _⟩ => ⟨S1x2048, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S1x1x2048x2048, .i1⟩
  | .hbm, ⟨18, _⟩ => ⟨S_, .f32⟩
  | .hbm, ⟨19, _⟩ => ⟨S_, .f32⟩
  | .hbm, ⟨20, _⟩ => ⟨S4x8x2048x2048, .i1⟩
  | .hbm, ⟨21, _⟩ => ⟨S4x8x2048x2048, .f32⟩
  | .hbm, ⟨22, _⟩ => ⟨S4x8x2048x2048, .f32⟩
  | .hbm, ⟨23, _⟩ => ⟨S_, .f32⟩
  | .hbm, ⟨24, _⟩ => ⟨S4x8x2048x2048, .f32⟩
  | .hbm, ⟨25, _⟩ => ⟨S_, .f32⟩
  | .hbm, ⟨26, _⟩ => ⟨S4x8x2048, .f32⟩
  | .hbm, ⟨27, _⟩ => ⟨S4x8x2048x1, .f32⟩
  | .hbm, ⟨28, _⟩ => ⟨S4x8x2048x2048, .f32⟩
  | .hbm, ⟨29, _⟩ => ⟨S4x8x2048x2048, .i1⟩
  | .hbm, ⟨30, _⟩ => ⟨S4x8x2048x2048, .f32⟩
  | .hbm, ⟨31, _⟩ => ⟨S_, .f32⟩
  | .hbm, ⟨32, _⟩ => ⟨S4x8x2048, .f32⟩
  | .hbm, ⟨33, _⟩ => ⟨S_, .f32⟩
  | .hbm, ⟨34, _⟩ => ⟨S4x8x2048, .f32⟩
  | .hbm, ⟨35, _⟩ => ⟨S4x8x2048, .f32⟩
  | .hbm, ⟨36, _⟩ => ⟨S_, .f32⟩
  | .hbm, ⟨37, _⟩ => ⟨S4x8x2048, .f32⟩
  | .hbm, ⟨38, _⟩ => ⟨S4x8x2048, .i1⟩
  | .hbm, ⟨39, _⟩ => ⟨S_, .f32⟩
  | .hbm, ⟨40, _⟩ => ⟨S4x8x2048, .f32⟩
  | .hbm, ⟨41, _⟩ => ⟨S4x8x2048, .i1⟩
  | .hbm, ⟨42, _⟩ => ⟨S_, .f32⟩
  | .hbm, ⟨43, _⟩ => ⟨S4x8x2048, .f32⟩
  | .hbm, ⟨44, _⟩ => ⟨S_, .f32⟩
  | .hbm, ⟨45, _⟩ => ⟨S4x8x2048, .f32⟩
  | .hbm, ⟨46, _⟩ => ⟨S_, .f32⟩
  | .hbm, ⟨47, _⟩ => ⟨S4x8x2048, .f32⟩
  | .hbm, ⟨48, _⟩ => ⟨S4x8x2048, .f32⟩
  | .hbm, ⟨49, _⟩ => ⟨S4x8x2048, .f32⟩
  | .hbm, ⟨50, _⟩ => ⟨S4x8x2048x1, .f32⟩
  | .hbm, ⟨51, _⟩ => ⟨S4x8x2048x2048, .f32⟩
  | .hbm, ⟨52, _⟩ => ⟨S4x8x2048x2048, .f32⟩
  | .hbm, ⟨53, _⟩ => ⟨S4x8x2048x2048, .f32⟩
  | .hbm, ⟨54, _⟩ => ⟨S_, .f32⟩
  | .hbm, ⟨55, _⟩ => ⟨S4x8x2048, .f32⟩
  | .hbm, ⟨56, _⟩ => ⟨S4x8x2048x1, .f32⟩
  | .hbm, ⟨57, _⟩ => ⟨S4x8x2048x2048, .f32⟩
  | .hbm, ⟨58, _⟩ => ⟨S4x8x2048x2048, .f32⟩
  | .hbm, ⟨59, _⟩ => ⟨S4x8x2048x1, .f32⟩
  | .hbm, ⟨60, _⟩ => ⟨S_, .f32⟩
  | .hbm, ⟨61, _⟩ => ⟨S4x8x2048x1, .f32⟩
  | .hbm, ⟨62, _⟩ => ⟨S4x8x2048x1, .f32⟩
  | .hbm, ⟨63, _⟩ => ⟨S4x8x64x2048, .f32⟩
  | .hbm, ⟨64, _⟩ => ⟨S4x2048x8x64, .f32⟩
  | .hbm, ⟨65, _⟩ => ⟨S4x2048x512, .f32⟩
  | .hbm, ⟨66, _⟩ => ⟨S4x2048x8x64, .f32⟩
  | .hbm, ⟨67, _⟩ => ⟨S4x8x64x2048, .f32⟩
  | .hbm, ⟨68, _⟩ => ⟨S4x8x2048x2048, .f32⟩
  | .hbm, ⟨69, _⟩ => ⟨S4x8x64x2048, .f32⟩
  | .hbm, ⟨70, _⟩ => ⟨S4x2048x8x64, .f32⟩
  | .hbm, ⟨71, _⟩ => ⟨S4x8x2048x2048, .f32⟩
  | .hbm, ⟨72, _⟩ => ⟨S4x8x2048x2048, .f32⟩
  | .hbm, ⟨73, _⟩ => ⟨S4x8x2048x2048, .f32⟩
  | .hbm, ⟨74, _⟩ => ⟨S_, .f32⟩
  | .hbm, ⟨75, _⟩ => ⟨S4x8x2048, .f32⟩
  | .hbm, ⟨76, _⟩ => ⟨S4x8x2048x1, .f32⟩
  | .hbm, ⟨77, _⟩ => ⟨S4x8x2048x1, .f32⟩
  | .hbm, ⟨78, _⟩ => ⟨S4x8x2048x2048, .f32⟩
  | .hbm, ⟨79, _⟩ => ⟨S4x8x2048x2048, .f32⟩
  | .hbm, ⟨80, _⟩ => ⟨S_, .f32⟩
  | .hbm, ⟨81, _⟩ => ⟨S4x8x2048, .f32⟩
  | .hbm, ⟨82, _⟩ => ⟨S4x8x2048x2048, .f32⟩
  | .hbm, ⟨83, _⟩ => ⟨S4x8x2048x2048, .f32⟩
  | .hbm, ⟨84, _⟩ => ⟨S4x8x2048x2048, .f32⟩
  | .hbm, ⟨85, _⟩ => ⟨S_, .f32⟩
  | .hbm, ⟨86, _⟩ => ⟨S4x8x2048x2048, .f32⟩
  | .hbm, ⟨87, _⟩ => ⟨S4x8x2048x2048, .f32⟩
  | .hbm, ⟨88, _⟩ => ⟨S_, .f32⟩
  | .hbm, ⟨89, _⟩ => ⟨S4x8x2048x2048, .f32⟩
  | .hbm, ⟨90, _⟩ => ⟨S4x8x2048x2048, .f32⟩
  | .hbm, ⟨91, _⟩ => ⟨S4x8x2048x96, .f32⟩
  | .hbm, ⟨92, _⟩ => ⟨S4x2048x8x96, .f32⟩
  | .hbm, ⟨93, _⟩ => ⟨S4x8x2048x96, .f32⟩
  | .hbm, ⟨94, _⟩ => ⟨S4x2048x8x96, .f32⟩
  | _, _ => ⟨S4x2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_call0_v0 : Ref sig .tc := ⟨.hbm, 19, rfl⟩
abbrev main_v12_1 : Ref sig .tc := ⟨.hbm, 20, rfl⟩
abbrev main_call0_v2 : Ref sig .tc := ⟨.hbm, 21, rfl⟩
abbrev main_v12_0 : Ref sig .tc := ⟨.hbm, 22, rfl⟩
abbrev main_call0_cst : Ref sig .tc := ⟨.hbm, 23, rfl⟩
abbrev main_v12_2 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_cst_8 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_9 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_call1_cst : Ref sig .tc := ⟨.hbm, 85, rfl⟩
abbrev main_call1_v0 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩

abbrev nD : Nat := 1
abbrev τ : Topo := Topo.v7x

variable {F : FTy → Type} [FloatOps F]
-- ==== Kernel4.lean ====
abbrev S4x2048x1024 : Shape := ⟨3, ![4, 2048, 1024]⟩
abbrev S4x1x1024 : Shape := ⟨3, ![4, 1, 1024]⟩
abbrev S1024 : Shape := ⟨1, ![1024]⟩
abbrev S1024x4096 : Shape := ⟨2, ![1024, 4096]⟩
abbrev S4x2048x4096 : Shape := ⟨3, ![4, 2048, 4096]⟩
abbrev S8192x1024 : Shape := ⟨2, ![8192, 1024]⟩
abbrev S8192x4096 : Shape := ⟨2, ![8192, 4096]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 27
  | .vmem => 26
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .bf16⟩
  | .hbm, ⟨2, _⟩ => ⟨S4x1x1024, .f32⟩
  | .hbm, ⟨3, _⟩ => ⟨S1024, .f32⟩
  | .hbm, ⟨4, _⟩ => ⟨S4x1x1024, .f32⟩
  | .hbm, ⟨5, _⟩ => ⟨S4x1x1024, .f32⟩
  | .hbm, ⟨6, _⟩ => ⟨S1024x4096, .f32⟩
  | .hbm, ⟨7, _⟩ => ⟨S4x2048x1024, .f32⟩
  | .hbm, ⟨8, _⟩ => ⟨S4x2048x4096, .bf16⟩
  | .hbm, ⟨9, _⟩ => ⟨S8192x1024, .bf16⟩
  | .hbm, ⟨10, _⟩ => ⟨S4x2048x1024, .bf16⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S4x2048x1024, .f32⟩
  | .hbm, ⟨15, _⟩ => ⟨S8192x1024, .f32⟩
  | .hbm, ⟨16, _⟩ => ⟨S8192x1024, .f32⟩
  | .hbm, ⟨17, _⟩ => ⟨S8192x4096, .bf16⟩
  | .hbm, ⟨18, _⟩ => ⟨S4096x1024, .f32⟩
  | .hbm, ⟨19, _⟩ => ⟨S4096x1024, .bf16⟩
  | .hbm, ⟨20, _⟩ => ⟨S1x1024, .f32⟩
  | .hbm, ⟨21, _⟩ => ⟨S8192x1024, .f32⟩
  | .hbm, ⟨22, _⟩ => ⟨S8192x1024, .bf16⟩
  | .hbm, ⟨23, _⟩ => ⟨S4x1x1024, .f32⟩
  | .hbm, ⟨24, _⟩ => ⟨S4x1x1024, .f32⟩
  | .hbm, ⟨25, _⟩ => ⟨S4x1x1024, .f32⟩
  | .hbm, ⟨26, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1024, .f32⟩
  | .local _ .vmem, ⟨25, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev main_v12_4 : Ref sig .tc := ⟨.hbm, 25, rfl⟩
abbrev main_v12_5 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def k0_cond3 (i : grid0.Coords) : BitVec 1 :=
  let arg0 : BitVec 32 := BitVec.ofNat 32 (i 0).val
  let c4_i32 : BitVec 32 := 4#32
  let c0_i32_40 : BitVec 32 := 0#32
  let v75 : BitVec 1 := Scalar.cmpi .eq c4_i32 c0_i32_40
  let c1_i32 : BitVec 32 := 1#32
  let v76 : BitVec 32 := Scalar.select v75 c1_i32 c4_i32
  let v77 : BitVec 32 := Scalar.remsi arg0 v76
  let c0_i32_42 : BitVec 32 := 0#32
  let v79 : BitVec 1 := Scalar.cmpi .slt v77 c0_i32_42
  let c0_i32_43 : BitVec 32 := 0#32
  let v80 : BitVec 1 := Scalar.cmpi .slt v76 c0_i32_43
  let v81 : BitVec 1 := Scalar.xori v79 v80
  let c0_i32_41 : BitVec 32 := 0#32
  let v78 : BitVec 1 := Scalar.cmpi .ne v77 c0_i32_41
  let v82 : BitVec 1 := Scalar.andi v81 v78
  let v83 : BitVec 32 := Scalar.addi v77 v76
  let v84 : BitVec 32 := Scalar.select v82 v83 v77
  let c0_i32_44 : BitVec 32 := 0#32
  let v85 : BitVec 1 := Scalar.cmpi .eq v84 c0_i32_44
  let v86 : BitVec 32 := Scalar.extui v85
  let c0_i32_45 : BitVec 32 := 0#32
  let v87 : BitVec 1 := Scalar.cmpi .ne v86 c0_i32_45
  v87

def k0_cond4 (i : grid0.Coords) : BitVec 1 :=
  let arg0 : BitVec 32 := BitVec.ofNat 32 (i 0).val
  let c0_i32_64 : BitVec 32 := 0#32
  let v106 : BitVec 1 := Scalar.cmpi .eq arg0 c0_i32_64
  let v107 : BitVec 32 := Scalar.extui v106
  let c0_i32_65 : BitVec 32 := 0#32
  let v108 : BitVec 1 := Scalar.cmpi .ne v107 c0_i32_65
  v108

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== Reference4Ideal.lean ====
abbrev S4x2048x1024 : Shape := ⟨3, ![4, 2048, 1024]⟩
abbrev S4x1x1024 : Shape := ⟨3, ![4, 1, 1024]⟩
abbrev S1024 : Shape := ⟨1, ![1024]⟩
abbrev S1024x4096 : Shape := ⟨2, ![1024, 4096]⟩
abbrev S4x2048x4096 : Shape := ⟨3, ![4, 2048, 4096]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1024 : Shape := ⟨2, ![4, 1024]⟩
abbrev S8192x1024 : Shape := ⟨2, ![8192, 1024]⟩
abbrev S1x1024 : Shape := ⟨2, ![1, 1024]⟩

abbrev nBuf : Space → Nat
  | .hbm => 90
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .bf16⟩
  | .hbm, ⟨2, _⟩ => ⟨S4x1x1024, .f32⟩
  | .hbm, ⟨3, _⟩ => ⟨S1024, .f32⟩
  | .hbm, ⟨4, _⟩ => ⟨S4x1x1024, .f32⟩
  | .hbm, ⟨5, _⟩ => ⟨S4x1x1024, .f32⟩
  | .hbm, ⟨6, _⟩ => ⟨S1024x4096, .f32⟩
  | .hbm, ⟨7, _⟩ => ⟨S4x2048x1024, .f32⟩
  | .hbm, ⟨8, _⟩ => ⟨S4x2048x4096, .bf16⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S_, .f32⟩
  | .hbm, ⟨15, _⟩ => ⟨S4x2048x1024, .f32⟩
  | .hbm, ⟨16, _⟩ => ⟨S4x2048x1024, .f32⟩
  | .hbm, ⟨17, _⟩ => ⟨S_, .f32⟩
  | .hbm, ⟨18, _⟩ => ⟨S4x2048, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S4x2048x1, .f32⟩
  | .hbm, ⟨27, _⟩ => ⟨S4x2048x1, .f32⟩
  | .hbm, ⟨28, _⟩ => ⟨S_, .f32⟩
  | .hbm, ⟨29, _⟩ => ⟨S4x2048x1, .f32⟩
  | .hbm, ⟨30, _⟩ => ⟨S4x2048x1, .f32⟩
  | .hbm, ⟨31, _⟩ => ⟨S4x2048x1024, .f32⟩
  | .hbm, ⟨32, _⟩ => ⟨S4x2048x1024, .f32⟩
  | .hbm, ⟨33, _⟩ => ⟨S1x1x1024, .f32⟩
  | .hbm, ⟨34, _⟩ => ⟨S4x2048x1024, .f32⟩
  | .hbm, ⟨35, _⟩ => ⟨S4x2048x1024, .f32⟩
  | .hbm, ⟨36, _⟩ => ⟨S_, .f32⟩
  | .hbm, ⟨37, _⟩ => ⟨S4x1x1024, .f32⟩
  | .hbm, ⟨38, _⟩ => ⟨S4x1x1024, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S4x2048x1024, .f32⟩
  | .hbm, ⟨43, _⟩ => ⟨S4x2048x4096, .f32⟩
  | .hbm, ⟨44, _⟩ => ⟨S4x2048x4096, .f32⟩
  | .hbm, ⟨45, _⟩ => ⟨S4x2048x1024, .f32⟩
  | .hbm, ⟨46, _⟩ => ⟨S_, .f32⟩
  | .hbm, ⟨47, _⟩ => ⟨S4x1024, .f32⟩
  | .hbm, ⟨48, _⟩ => ⟨S4x1x1024, .f32⟩
  | .hbm, ⟨49, _⟩ => ⟨S4x2048x1024, .f32⟩
  | .hbm, ⟨50, _⟩ => ⟨S_, .f32⟩
  | .hbm, ⟨51, _⟩ => ⟨S4x1024, .f32⟩
  | .hbm, ⟨52, _⟩ => ⟨S4x1x1024, .f32⟩
  | .hbm, ⟨53, _⟩ => ⟨S4x2048x1024, .f32⟩
  | .hbm, ⟨54, _⟩ => ⟨S4x2048x1024, .f32⟩
  | .hbm, ⟨55, _⟩ => ⟨S4x2048x1024, .f32⟩
  | .hbm, ⟨56, _⟩ => ⟨S_, .f32⟩
  | .hbm, ⟨57, _⟩ => ⟨S1024, .f32⟩
  | .hbm, ⟨58, _⟩ => ⟨S1x1x1024, .f32⟩
  | .hbm, ⟨59, _⟩ => ⟨S4x2048x1024, .f32⟩
  | .hbm, ⟨60, _⟩ => ⟨S4x2048x1024, .f32⟩
  | .hbm, ⟨61, _⟩ => ⟨S_, .f32⟩
  | .hbm, ⟨62, _⟩ => ⟨S1024, .f32⟩
  | .hbm, ⟨63, _⟩ => ⟨S4x2048x1024, .f32⟩
  | .hbm, ⟨64, _⟩ => ⟨S_, .f32⟩
  | .hbm, ⟨65, _⟩ => ⟨S4x2048, .f32⟩
  | .hbm, ⟨66, _⟩ => ⟨S4x2048x1, .f32⟩
  | .hbm, ⟨67, _⟩ => ⟨S4x2048x1024, .f32⟩
  | .hbm, ⟨68, _⟩ => ⟨S4x2048x1024, .f32⟩
  | .hbm, ⟨69, _⟩ => ⟨S4x2048x1024, .f32⟩
  | .hbm, ⟨70, _⟩ => ⟨S4x2048x1, .f32⟩
  | .hbm, ⟨71, _⟩ => ⟨S_, .f32⟩
  | .hbm, ⟨72, _⟩ => ⟨S4x2048x1, .f32⟩
  | .hbm, ⟨73, _⟩ => ⟨S4x2048x1, .f32⟩
  | .hbm, ⟨74, _⟩ => ⟨S_, .f32⟩
  | .hbm, ⟨75, _⟩ => ⟨S4x2048, .f32⟩
  | .hbm, ⟨76, _⟩ => ⟨S4x2048x1024, .f32⟩
  | .hbm, ⟨77, _⟩ => ⟨S4x2048x1024, .f32⟩
  | .hbm, ⟨78, _⟩ => ⟨S4x2048x1024, .f32⟩
  | .hbm, ⟨79, _⟩ => ⟨S4x2048x1024, .f32⟩
  | .hbm, ⟨80, _⟩ => ⟨S4x2048x1024, .f32⟩
  | .hbm, ⟨81, _⟩ => ⟨S4x2048x1024, .f32⟩
  | .hbm, ⟨82, _⟩ => ⟨S4x2048x1024, .f32⟩
  | .hbm, ⟨83, _⟩ => ⟨S_, .f32⟩
  | .hbm, ⟨84, _⟩ => ⟨S4x1024, .f32⟩
  | .hbm, ⟨85, _⟩ => ⟨S4x1x1024, .f32⟩
  | .hbm, ⟨86, _⟩ => ⟨S8192x1024, .f32⟩
  | .hbm, ⟨87, _⟩ => ⟨S8192x1024, .f32⟩
  | .hbm, ⟨88, _⟩ => ⟨S8192x1024, .bf16⟩
  | .hbm, ⟨89, _⟩ => ⟨S1x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩

abbrev nD : Nat := 1
abbrev τ : Topo := Topo.v7x

variable {F : FTy → Type} [FloatOps F]
-- ==== Kernel5.lean ====
abbrev S4x2048x1024 : Shape := ⟨3, ![4, 2048, 1024]⟩
abbrev S4x2048x4096 : Shape := ⟨3, ![4, 2048, 4096]⟩
abbrev S4x1x1024 : Shape := ⟨3, ![4, 1, 1024]⟩
abbrev S4096x1024 : Shape := ⟨2, ![4096, 1024]⟩
abbrev S8192x1024 : Shape := ⟨2, ![8192, 1024]⟩
abbrev S8192x4096 : Shape := ⟨2, ![8192, 4096]⟩
abbrev S1x128 : Shape := ⟨2, ![1, 128]⟩
abbrev S512x4096 : Shape := ⟨2, ![512, 4096]⟩
abbrev S512x1024 : Shape := ⟨2, ![512, 1024]⟩
abbrev S1x1x1024 : Shape := ⟨3, ![1, 1, 1024]⟩
abbrev S1x1024 : Shape := ⟨2, ![1, 1024]⟩
abbrev S1x512x1024 : Shape := ⟨3, ![1, 512, 1024]⟩
abbrev S1 : Shape := ⟨1, ![1]⟩
abbrev S1x1x1 : Shape := ⟨3, ![1, 1, 1]⟩
abbrev S1x1 : Shape := ⟨2, ![1, 1]⟩
abbrev S1024 : Shape := ⟨1, ![1024]⟩
abbrev S_ : Shape := ⟨0, ![]⟩

abbrev nBuf : Space → Nat
  | .hbm => 17
  | .vmem => 17
  | .smem => 0
  | _ => 0

abbrev bufTy : (tb : Table) → Fin (tcTables nBuf tb) → BufTy
  | .hbm, ⟨0, _⟩ => ⟨S4x2048x1024, .f32⟩
  | .hbm, ⟨1, _⟩ => ⟨S4x2048x4096, .bf16⟩
  | .hbm, ⟨2, _⟩ => ⟨S4x1x1024, .f32⟩
  | .hbm, ⟨3, _⟩ => ⟨S4096x1024, .f32⟩
  | .hbm, ⟨4, _⟩ => ⟨S4x2048x1024, .f32⟩
  | .hbm, ⟨5, _⟩ => ⟨S8192x1024, .f32⟩
  | .hbm, ⟨6, _⟩ => ⟨S8192x1024, .f32⟩
  | .hbm, ⟨7, _⟩ => ⟨S8192x4096, .bf16⟩
  | .hbm, ⟨8, _⟩ => ⟨S4096x1024, .bf16⟩
  | .hbm, ⟨9, _⟩ => ⟨S8192x1024, .f32⟩
  | .hbm, ⟨10, _⟩ => ⟨S8192x1024, .bf16⟩
  | .hbm, ⟨11, _⟩ => ⟨S4x1x1024, .f32⟩
  | .hbm, ⟨12, _⟩ => ⟨S1x128, .f32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1x1024, .f32⟩
  | .local _ .vmem, ⟨8, _⟩ => ⟨S1x1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1x1024, .f32⟩
  | .local _ .vmem, ⟨14, _⟩ => ⟨S1x1x1024, .f32⟩
  | .local _ .vmem, ⟨15, _⟩ => ⟨S1x128, .f32⟩
  | .local _ .vmem, ⟨16, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_9 : BitVec 32 := 0#32
  let v18 : BitVec 1 := Scalar.cmpi .eq arg1 c0_i32_9
  let v19 : BitVec 32 := Scalar.extui v18
  let c0_i32_10 : BitVec 32 := 0#32
  let v20 : BitVec 1 := Scalar.cmpi .ne v19 c0_i32_10
  v20

def k0_cond3 (i : grid0.Coords) : BitVec 1 :=
  let arg0 : BitVec 32 := BitVec.ofNat 32 (i 0).val
  let c4_i32 : BitVec 32 := 4#32
  let c0_i32_27 : BitVec 32 := 0#32
  let v50 : BitVec 1 := Scalar.cmpi .eq c4_i32 c0_i32_27
  let c1_i32 : BitVec 32 := 1#32
  let v51 : BitVec 32 := Scalar.select v50 c1_i32 c4_i32
  let v52 : BitVec 32 := Scalar.remsi arg0 v51
  let c0_i32_29 : BitVec 32 := 0#32
  let v54 : BitVec 1 := Scalar.cmpi .slt v52 c0_i32_29
  let c0_i32_30 : BitVec 32 := 0#32
  let v55 : BitVec 1 := Scalar.cmpi .slt v51 c0_i32_30
  let v56 : BitVec 1 := Scalar.xori v54 v55
  let c0_i32_28 : BitVec 32 := 0#32
  let v53 : BitVec 1 := Scalar.cmpi .ne v52 c0_i32_28
  let v57 : BitVec 1 := Scalar.andi v56 v53
  let v58 : BitVec 32 := Scalar.addi v52 v51
  let v59 : BitVec 32 := Scalar.select v57 v58 v52
  let c0_i32_31 : BitVec 32 := 0#32
  let v60 : BitVec 1 := Scalar.cmpi .eq v59 c0_i32_31
  let v61 : BitVec 32 := Scalar.extui v60
  let c0_i32_32 : BitVec 32 := 0#32
  let v62 : BitVec 1 := Scalar.cmpi .ne v61 c0_i32_32
  v62

def k0_cond4 (i : grid0.Coords) : BitVec 1 :=
  let arg0 : BitVec 32 := BitVec.ofNat 32 (i 0).val
  let c0_i32_39 : BitVec 32 := 0#32
  let v69 : BitVec 1 := Scalar.cmpi .eq arg0 c0_i32_39
  let v70 : BitVec 32 := Scalar.extui v69
  let c0_i32_40 : BitVec 32 := 0#32
  let v71 : BitVec 1 := Scalar.cmpi .ne v70 c0_i32_40
  v71

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference5Ideal.lean ====
abbrev S4x2048x1024 : Shape := ⟨3, ![4, 2048, 1024]⟩
abbrev S4x2048x4096 : Shape := ⟨3, ![4, 2048, 4096]⟩
abbrev S4x1x1024 : Shape := ⟨3, ![4, 1, 1024]⟩
abbrev S4096x1024 : Shape := ⟨2, ![4096, 1024]⟩
abbrev S_ : Shape := ⟨0, ![]⟩
abbrev S4x2048 : Shape := ⟨2, ![4, 2048]⟩
abbrev S4x1024 : Shape := ⟨2, ![4, 1024]⟩
abbrev S8192x1024 : Shape := ⟨2, ![8192, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x4096, .bf16⟩
  | .hbm, ⟨2, _⟩ => ⟨S4x1x1024, .f32⟩
  | .hbm, ⟨3, _⟩ => ⟨S4096x1024, .f32⟩
  | .hbm, ⟨4, _⟩ => ⟨S4x2048x1024, .f32⟩
  | .hbm, ⟨5, _⟩ => ⟨S4x2048x4096, .f32⟩
  | .hbm, ⟨6, _⟩ => ⟨S_, .f32⟩
  | .hbm, ⟨7, _⟩ => ⟨S4x2048x4096, .f32⟩
  | .hbm, ⟨8, _⟩ => ⟨S4x2048x4096, .f32⟩
  | .hbm, ⟨9, _⟩ => ⟨S4x2048x4096, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S_, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S4x2048, .f32⟩
  | .hbm, ⟨21, _⟩ => ⟨S_, .f32⟩
  | .hbm, ⟨22, _⟩ => ⟨S4x2048, .f32⟩
  | .hbm, ⟨23, _⟩ => ⟨S4x2048, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4x2048, .f32⟩
  | .hbm, ⟨32, _⟩ => ⟨S_, .f32⟩
  | .hbm, ⟨33, _⟩ => ⟨S4x2048, .f32⟩
  | .hbm, ⟨34, _⟩ => ⟨S4x2048, .f32⟩
  | .hbm, ⟨35, _⟩ => ⟨S4x2048x1024, .f32⟩
  | .hbm, ⟨36, _⟩ => ⟨S4x2048x1024, .f32⟩
  | .hbm, ⟨37, _⟩ => ⟨S4x2048x1024, .f32⟩
  | .hbm, ⟨38, _⟩ => ⟨S4x2048x1024, .f32⟩
  | .hbm, ⟨39, _⟩ => ⟨S4x2048x1024, .f32⟩
  | .hbm, ⟨40, _⟩ => ⟨S_, .f32⟩
  | .hbm, ⟨41, _⟩ => ⟨S4x1024, .f32⟩
  | .hbm, ⟨42, _⟩ => ⟨S4x1x1024, .f32⟩
  | .hbm, ⟨43, _⟩ => ⟨S8192x1024, .f32⟩
  | .hbm, ⟨44, _⟩ => ⟨S8192x1024, .f32⟩
  | .hbm, ⟨45, _⟩ => ⟨S8192x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_cst_4 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Kernel6.lean ====
abbrev S4x2048x1024 : Shape := ⟨3, ![4, 2048, 1024]⟩
abbrev S1024 : Shape := ⟨1, ![1024]⟩
abbrev S4x1x1024 : Shape := ⟨3, ![4, 1, 1024]⟩
abbrev S1024x3488 : Shape := ⟨2, ![1024, 3488]⟩
abbrev S4x2048x3488 : Shape := ⟨3, ![4, 2048, 3488]⟩
abbrev S3488x1024 : Shape := ⟨2, ![3488, 1024]⟩
abbrev S400x1024 : Shape := ⟨2, ![400, 1024]⟩
abbrev S_ : Shape := ⟨0, ![]⟩
abbrev S48x1024 : Shape := ⟨2, ![48, 1024]⟩
abbrev S16x1024 : Shape := ⟨2, ![16, 1024]⟩
abbrev S512x1024 : Shape := ⟨2, ![512, 1024]⟩
abbrev S1024x1024 : Shape := ⟨2, ![1024, 1024]⟩
abbrev S2048x1024 : Shape := ⟨2, ![2048, 1024]⟩
abbrev S8192x3488 : Shape := ⟨2, ![8192, 3488]⟩
abbrev S8192x48 : Shape := ⟨2, ![8192, 48]⟩
abbrev S8192x400 : Shape := ⟨2, ![8192, 400]⟩
abbrev S8192x16 : Shape := ⟨2, ![8192, 16]⟩
abbrev S8192x512 : Shape := ⟨2, ![8192, 512]⟩
abbrev S8192x1024 : Shape := ⟨2, ![8192, 1024]⟩
abbrev S1x1024 : Shape := ⟨2, ![1, 1024]⟩
abbrev S512x512 : Shape := ⟨2, ![512, 512]⟩
abbrev S1x1x1024 : Shape := ⟨3, ![1, 1, 1024]⟩
abbrev S512 : Shape := ⟨1, ![512]⟩
abbrev S512x1 : Shape := ⟨2, ![512, 1]⟩

abbrev nBuf : Space → Nat
  | .hbm => 36
  | .vmem => 26
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x3488, .f32⟩
  | .hbm, ⟨5, _⟩ => ⟨S4x2048x1024, .f32⟩
  | .hbm, ⟨6, _⟩ => ⟨S4x2048x3488, .bf16⟩
  | .hbm, ⟨7, _⟩ => ⟨S3488x1024, .f32⟩
  | .hbm, ⟨8, _⟩ => ⟨S3488x1024, .bf16⟩
  | .hbm, ⟨9, _⟩ => ⟨S400x1024, .bf16⟩
  | .hbm, ⟨10, _⟩ => ⟨S_, .bf16⟩
  | .hbm, ⟨11, _⟩ => ⟨S48x1024, .bf16⟩
  | .hbm, ⟨12, _⟩ => ⟨S16x1024, .bf16⟩
  | .hbm, ⟨13, _⟩ => ⟨S_, .bf16⟩
  | .hbm, ⟨14, _⟩ => ⟨S48x1024, .bf16⟩
  | .hbm, ⟨15, _⟩ => ⟨S512x1024, .bf16⟩
  | .hbm, ⟨16, _⟩ => ⟨S1024x1024, .bf16⟩
  | .hbm, ⟨17, _⟩ => ⟨S2048x1024, .bf16⟩
  | .hbm, ⟨18, _⟩ => ⟨S8192x3488, .bf16⟩
  | .hbm, ⟨19, _⟩ => ⟨S_, .bf16⟩
  | .hbm, ⟨20, _⟩ => ⟨S8192x48, .bf16⟩
  | .hbm, ⟨21, _⟩ => ⟨S8192x400, .bf16⟩
  | .hbm, ⟨22, _⟩ => ⟨S8192x16, .bf16⟩
  | .hbm, ⟨23, _⟩ => ⟨S8192x512, .bf16⟩
  | .hbm, ⟨24, _⟩ => ⟨S8192x1024, .bf16⟩
  | .hbm, ⟨25, _⟩ => ⟨S8192x1024, .bf16⟩
  | .hbm, ⟨26, _⟩ => ⟨S8192x1024, .bf16⟩
  | .hbm, ⟨27, _⟩ => ⟨S1024x1024, .bf16⟩
  | .hbm, ⟨28, _⟩ => ⟨S1024x1024, .bf16⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S4x1x1024, .f32⟩
  | .hbm, ⟨34, _⟩ => ⟨S4x1x1024, .f32⟩
  | .hbm, ⟨35, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1x1024, .f32⟩
  | .local _ .vmem, ⟨25, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v22_2 : Ref sig .tc := ⟨.hbm, 34, rfl⟩
abbrev main_v22_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_14 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference6Ideal.lean ====
abbrev S4x2048x1024 : Shape := ⟨3, ![4, 2048, 1024]⟩
abbrev S1024 : Shape := ⟨1, ![1024]⟩
abbrev S4x1x1024 : Shape := ⟨3, ![4, 1, 1024]⟩
abbrev S1024x3488 : Shape := ⟨2, ![1024, 3488]⟩
abbrev S4x2048x3488 : Shape := ⟨3, ![4, 2048, 3488]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1024 : Shape := ⟨2, ![4, 1024]⟩
abbrev S8192x1024 : Shape := ⟨2, ![8192, 1024]⟩
abbrev S1x1024 : Shape := ⟨2, ![1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x3488, .f32⟩
  | .hbm, ⟨5, _⟩ => ⟨S4x2048x1024, .f32⟩
  | .hbm, ⟨6, _⟩ => ⟨S4x2048x3488, .bf16⟩
  | .hbm, ⟨7, _⟩ => ⟨S4x2048x1024, .f32⟩
  | .hbm, ⟨8, _⟩ => ⟨S_, .f32⟩
  | .hbm, ⟨9, _⟩ => ⟨S4x2048x1024, .f32⟩
  | .hbm, ⟨10, _⟩ => ⟨S4x2048x1024, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x1024, .f32⟩
  | .hbm, ⟨26, _⟩ => ⟨S4x2048x1024, .f32⟩
  | .hbm, ⟨27, _⟩ => ⟨S1x1x1024, .f32⟩
  | .hbm, ⟨28, _⟩ => ⟨S4x2048x1024, .f32⟩
  | .hbm, ⟨29, _⟩ => ⟨S4x2048x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S4x2048x1024, .f32⟩
  | .hbm, ⟨37, _⟩ => ⟨S4x2048x3488, .f32⟩
  | .hbm, ⟨38, _⟩ => ⟨S4x2048x3488, .f32⟩
  | .hbm, ⟨39, _⟩ => ⟨S4x2048x1024, .f32⟩
  | .hbm, ⟨40, _⟩ => ⟨S_, .f32⟩
  | .hbm, ⟨41, _⟩ => ⟨S4x1024, .f32⟩
  | .hbm, ⟨42, _⟩ => ⟨S4x1x1024, .f32⟩
  | .hbm, ⟨43, _⟩ => ⟨S4x2048x1024, .f32⟩
  | .hbm, ⟨44, _⟩ => ⟨S_, .f32⟩
  | .hbm, ⟨45, _⟩ => ⟨S4x1024, .f32⟩
  | .hbm, ⟨46, _⟩ => ⟨S4x1x1024, .f32⟩
  | .hbm, ⟨47, _⟩ => ⟨S4x2048x1024, .f32⟩
  | .hbm, ⟨48, _⟩ => ⟨S4x2048x1024, .f32⟩
  | .hbm, ⟨49, _⟩ => ⟨S4x2048x1024, .f32⟩
  | .hbm, ⟨50, _⟩ => ⟨S_, .f32⟩
  | .hbm, ⟨51, _⟩ => ⟨S1024, .f32⟩
  | .hbm, ⟨52, _⟩ => ⟨S1x1x1024, .f32⟩
  | .hbm, ⟨53, _⟩ => ⟨S4x2048x1024, .f32⟩
  | .hbm, ⟨54, _⟩ => ⟨S4x2048x1024, .f32⟩
  | .hbm, ⟨55, _⟩ => ⟨S_, .f32⟩
  | .hbm, ⟨56, _⟩ => ⟨S1024, .f32⟩
  | .hbm, ⟨57, _⟩ => ⟨S4x2048x1024, .f32⟩
  | .hbm, ⟨58, _⟩ => ⟨S_, .f32⟩
  | .hbm, ⟨59, _⟩ => ⟨S4x2048, .f32⟩
  | .hbm, ⟨60, _⟩ => ⟨S4x2048x1, .f32⟩
  | .hbm, ⟨61, _⟩ => ⟨S4x2048x1024, .f32⟩
  | .hbm, ⟨62, _⟩ => ⟨S4x2048x1024, .f32⟩
  | .hbm, ⟨63, _⟩ => ⟨S4x2048x1024, .f32⟩
  | .hbm, ⟨64, _⟩ => ⟨S4x2048x1, .f32⟩
  | .hbm, ⟨65, _⟩ => ⟨S_, .f32⟩
  | .hbm, ⟨66, _⟩ => ⟨S4x2048x1, .f32⟩
  | .hbm, ⟨67, _⟩ => ⟨S4x2048x1, .f32⟩
  | .hbm, ⟨68, _⟩ => ⟨S_, .f32⟩
  | .hbm, ⟨69, _⟩ => ⟨S4x2048, .f32⟩
  | .hbm, ⟨70, _⟩ => ⟨S4x2048x1024, .f32⟩
  | .hbm, ⟨71, _⟩ => ⟨S4x2048x1024, .f32⟩
  | .hbm, ⟨72, _⟩ => ⟨S4x2048x1024, .f32⟩
  | .hbm, ⟨73, _⟩ => ⟨S8192x1024, .f32⟩
  | .hbm, ⟨74, _⟩ => ⟨S1x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Kernel9.lean ====
abbrev S4x2048x8x96 : Shape := ⟨4, ![4, 2048, 8, 96]⟩
abbrev S4x2048x8x64 : Shape := ⟨4, ![4, 2048, 8, 64]⟩
abbrev S8 : Shape := ⟨1, ![8]⟩
abbrev S_ : Shape := ⟨0, ![]⟩
abbrev S1x8x1x1 : Shape := ⟨4, ![1, 8, 1, 1]⟩
abbrev S4x2048x8x32 : Shape := ⟨4, ![4, 2048, 8, 32]⟩
abbrev S4x2048x8x16 : Shape := ⟨4, ![4, 2048, 8, 16]⟩
abbrev S4x2048x8x48 : Shape := ⟨4, ![4, 2048, 8, 48]⟩
abbrev S4x2048x8x128 : Shape := ⟨4, ![4, 2048, 8, 128]⟩
abbrev S4x8x2048x128 : Shape := ⟨4, ![4, 8, 2048, 128]⟩
abbrev S4x8x2048x64 : Shape := ⟨4, ![4, 8, 2048, 64]⟩
abbrev S4x2048x512 : Shape := ⟨3, ![4, 2048, 512]⟩
abbrev S4x8x8x2048 : Shape := ⟨4, ![4, 8, 8, 2048]⟩
abbrev S1x8x512x128 : Shape := ⟨4, ![1, 8, 512, 128]⟩
abbrev S1x8x2048x128 : Shape := ⟨4, ![1, 8, 2048, 128]⟩
abbrev S1x512x512 : Shape := ⟨3, ![1, 512, 512]⟩
abbrev S1x8x8x512 : Shape := ⟨4, ![1, 8, 8, 512]⟩
abbrev S512x512 : Shape := ⟨2, ![512, 512]⟩
abbrev S1x128 : Shape := ⟨2, ![1, 128]⟩
abbrev S1x1x512x128 : Shape := ⟨4, ![1, 1, 512, 128]⟩
abbrev S512x128 : Shape := ⟨2, ![512, 128]⟩
abbrev S512x1 : Shape := ⟨2, ![512, 1]⟩
abbrev S512 : Shape := ⟨1, ![512]⟩
abbrev S128x512 : Shape := ⟨2, ![128, 512]⟩
abbrev S8x512 : Shape := ⟨2, ![8, 512]⟩
abbrev S1x1x8x512 : Shape := ⟨4, ![1, 1, 8, 512]⟩
abbrev S1x512x128 : Shape := ⟨3, ![1, 512, 128]⟩

abbrev nBuf : Space → Nat
  | .hbm => 50
  | .vmem => 10
  | .smem => 0
  | _ => 0

abbrev bufTy : (tb : Table) → Fin (tcTables nBuf tb) → BufTy
  | .hbm, ⟨0, _⟩ => ⟨S4x2048x8x96, .f32⟩
  | .hbm, ⟨1, _⟩ => ⟨S4x2048x8x96, .f32⟩
  | .hbm, ⟨2, _⟩ => ⟨S4x2048x8x64, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S1x8x1x1, .i32⟩
  | .hbm, ⟨8, _⟩ => ⟨S_, .i32⟩
  | .hbm, ⟨9, _⟩ => ⟨S1x8x1x1, .i32⟩
  | .hbm, ⟨10, _⟩ => ⟨S1x8x1x1, .i1⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4x2048x8x96, .f32⟩
  | .hbm, ⟨16, _⟩ => ⟨S4x2048x8x96, .f32⟩
  | .hbm, ⟨17, _⟩ => ⟨S4x2048x8x32, .f32⟩
  | .hbm, ⟨18, _⟩ => ⟨S4x2048x8x16, .f32⟩
  | .hbm, ⟨19, _⟩ => ⟨S4x2048x8x48, .f32⟩
  | .hbm, ⟨20, _⟩ => ⟨S4x2048x8x16, .f32⟩
  | .hbm, ⟨21, _⟩ => ⟨S4x2048x8x16, .f32⟩
  | .hbm, ⟨22, _⟩ => ⟨S4x2048x8x96, .f32⟩
  | .hbm, ⟨23, _⟩ => ⟨S_, .i32⟩
  | .hbm, ⟨24, _⟩ => ⟨S_, .f32⟩
  | .hbm, ⟨25, _⟩ => ⟨S4x2048x8x128, .f32⟩
  | .hbm, ⟨26, _⟩ => ⟨S4x8x2048x128, .f32⟩
  | .hbm, ⟨27, _⟩ => ⟨S4x8x2048x128, .bf16⟩
  | .hbm, ⟨28, _⟩ => ⟨S4x2048x8x32, .f32⟩
  | .hbm, ⟨29, _⟩ => ⟨S4x2048x8x16, .f32⟩
  | .hbm, ⟨30, _⟩ => ⟨S4x2048x8x48, .f32⟩
  | .hbm, ⟨31, _⟩ => ⟨S4x2048x8x16, .f32⟩
  | .hbm, ⟨32, _⟩ => ⟨S4x2048x8x16, .f32⟩
  | .hbm, ⟨33, _⟩ => ⟨S4x2048x8x96, .f32⟩
  | .hbm, ⟨34, _⟩ => ⟨S_, .i32⟩
  | .hbm, ⟨35, _⟩ => ⟨S_, .f32⟩
  | .hbm, ⟨36, _⟩ => ⟨S4x2048x8x128, .f32⟩
  | .hbm, ⟨37, _⟩ => ⟨S4x8x2048x128, .f32⟩
  | .hbm, ⟨38, _⟩ => ⟨S4x8x2048x128, .bf16⟩
  | .hbm, ⟨39, _⟩ => ⟨S_, .f32⟩
  | .hbm, ⟨40, _⟩ => ⟨S4x8x2048x64, .f32⟩
  | .hbm, ⟨41, _⟩ => ⟨S4x8x2048x64, .f32⟩
  | .hbm, ⟨42, _⟩ => ⟨S4x8x2048x128, .f32⟩
  | .hbm, ⟨43, _⟩ => ⟨S4x8x2048x64, .f32⟩
  | .hbm, ⟨44, _⟩ => ⟨S4x8x2048x128, .f32⟩
  | .hbm, ⟨45, _⟩ => ⟨S4x8x2048x128, .i1⟩
  | .hbm, ⟨46, _⟩ => ⟨S4x8x2048x128, .f32⟩
  | .hbm, ⟨47, _⟩ => ⟨S4x8x2048x128, .bf16⟩
  | .hbm, ⟨48, _⟩ => ⟨S4x2048x512, .bf16⟩
  | .hbm, ⟨49, _⟩ => ⟨S4x8x8x2048, .f32⟩
  | .local _ .vmem, ⟨0, _⟩ => ⟨S1x8x512x128, .bf16⟩
  | .local _ .vmem, ⟨1, _⟩ => ⟨S1x8x512x128, .bf16⟩
  | .local _ .vmem, ⟨2, _⟩ => ⟨S1x8x2048x128, .bf16⟩
  | .local _ .vmem, ⟨3, _⟩ => ⟨S1x8x2048x128, .bf16⟩
  | .local _ .vmem, ⟨4, _⟩ => ⟨S1x8x2048x128, .bf16⟩
  | .local _ .vmem, ⟨5, _⟩ => ⟨S1x8x2048x128, .bf16⟩
  | .local _ .vmem, ⟨6, _⟩ => ⟨S1x512x512, .bf16⟩
  | .local _ .vmem, ⟨7, _⟩ => ⟨S1x512x512, .bf16⟩
  | .local _ .vmem, ⟨8, _⟩ => ⟨S1x8x8x512, .f32⟩
  | .local _ .vmem, ⟨9, _⟩ => ⟨S1x8x8x512, .f32⟩
  | _, _ => ⟨S4x2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_3 : Ref sig .tc := ⟨.hbm, 34, rfl⟩
abbrev main_call1_v0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call2_v0 : Ref sig .tc := ⟨.hbm, 45, rfl⟩
abbrev main_v33 : Ref sig .tc := ⟨.hbm, 46, rfl⟩
abbrev main_v34 : Ref sig .tc := ⟨.hbm, 47, rfl⟩
abbrev main_v35_0 : Ref sig .tc := ⟨.hbm, 48, rfl⟩
abbrev main_v35_1 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 1, 4], ![false, false, false]⟩

@[reducible] def k0_t1_loop (i : grid0.Coords) : Scf.Loop 32 :=
  let c0_i32_57 : BitVec 32 := 0#32
  let arg2 : BitVec 32 := BitVec.ofNat 32 (i 2).val
  let v124 : BitVec 32 := Scalar.subi arg2 c0_i32_57
  let c1_i32_58 : BitVec 32 := 1#32
  let v126 : BitVec 32 := Scalar.divsi v124 c1_i32_58
  let v127 : BitVec 32 := Scalar.muli v126 c1_i32_58
  let v128 : BitVec 32 := Scalar.addi c0_i32_57 v127
  let c1_i32_59 : BitVec 32 := 1#32
  ⟨c0_i32_57, v128, c1_i32_59⟩
def k0_mult1 (i : grid0.Coords) (k0_t1 : Fin (k0_t1_loop i).trips) : BitVec 32 :=
  let c0_i32_57 : BitVec 32 := 0#32
  let c1_i32_59 : BitVec 32 := 1#32
  let arg8 : BitVec 32 := Scf.iv c0_i32_57 c1_i32_59 k0_t1
  let c512_i32_226 : BitVec 32 := 512#32
  let v522 : BitVec 32 := Scalar.muli arg8 c512_i32_226
  v522
def k0_off1 (i : grid0.Coords) (k0_t1 : Fin (k0_t1_loop i).trips) : Fin 4 → Nat :=
  let c0_227 : Index := 0#32
  let c0_228 : Index := 0#32
  let c0_i32_57 : BitVec 32 := 0#32
  let c1_i32_59 : BitVec 32 := 1#32
  let arg8 : BitVec 32 := Scf.iv c0_i32_57 c1_i32_59 k0_t1
  let c512_i32_226 : BitVec 32 := 512#32
  let v522 : BitVec 32 := Scalar.muli arg8 c512_i32_226
  let v523 : BitVec 32 := v522
  let v524 : Index := Scalar.indexCast v523
  let c0_229 : Index := 0#32
  ![0, 0, v524.toNat, 0]
def k0_off2 (i : grid0.Coords) (k0_t1 : Fin (k0_t1_loop i).trips) : Fin 4 → Nat :=
  let c0_236 : Index := 0#32
  let c1_237 : Index := 1#32
  let c0_i32_57 : BitVec 32 := 0#32
  let c1_i32_59 : BitVec 32 := 1#32
  let arg8 : BitVec 32 := Scf.iv c0_i32_57 c1_i32_59 k0_t1
  let c512_i32_226 : BitVec 32 := 512#32
  let v522 : BitVec 32 := Scalar.muli arg8 c512_i32_226
  let v523 : BitVec 32 := v522
  let v546 : Index := Scalar.indexCast v523
  let c0_238 : Index := 0#32
  ![0, 1, v546.toNat, 0]
def k0_off3 (i : grid0.Coords) (k0_t1 : Fin (k0_t1_loop i).trips) : Fin 4 → Nat :=
  let c0_245 : Index := 0#32
  let c2_246 : Index := 2#32
  let c0_i32_57 : BitVec 32 := 0#32
  let c1_i32_59 : BitVec 32 := 1#32
  let arg8 : BitVec 32 := Scf.iv c0_i32_57 c1_i32_59 k0_t1
  let c512_i32_226 : BitVec 32 := 512#32
  let v522 : BitVec 32 := Scalar.muli arg8 c512_i32_226
  let v523 : BitVec 32 := v522
  let v568 : Index := Scalar.indexCast v523
  let c0_247 : Index := 0#32
  ![0, 2, v568.toNat, 0]
def k0_off4 (i : grid0.Coords) (k0_t1 : Fin (k0_t1_loop i).trips) : Fin 4 → Nat :=
  let c0_254 : Index := 0#32
  let c3_255 : Index := 3#32
  let c0_i32_57 : BitVec 32 := 0#32
  let c1_i32_59 : BitVec 32 := 1#32
  let arg8 : BitVec 32 := Scf.iv c0_i32_57 c1_i32_59 k0_t1
  let c512_i32_226 : BitVec 32 := 512#32
  let v522 : BitVec 32 := Scalar.muli arg8 c512_i32_226
  let v523 : BitVec 32 := v522
  let v590 : Index := Scalar.indexCast v523
  let c0_256 : Index := 0#32
  ![0, 3, v590.toNat, 0]
def k0_off5 (i : grid0.Coords) (k0_t1 : Fin (k0_t1_loop i).trips) : Fin 4 → Nat :=
  let c0_263 : Index := 0#32
  let c4_264 : Index := 4#32
  let c0_i32_57 : BitVec 32 := 0#32
  let c1_i32_59 : BitVec 32 := 1#32
  let arg8 : BitVec 32 := Scf.iv c0_i32_57 c1_i32_59 k0_t1
  let c512_i32_226 : BitVec 32 := 512#32
  let v522 : BitVec 32 := Scalar.muli arg8 c512_i32_226
  let v523 : BitVec 32 := v522
  let v612 : Index := Scalar.indexCast v523
  let c0_265 : Index := 0#32
  ![0, 4, v612.toNat, 0]
def k0_off6 (i : grid0.Coords) (k0_t1 : Fin (k0_t1_loop i).trips) : Fin 4 → Nat :=
  let c0_272 : Index := 0#32
  let c5_273 : Index := 5#32
  let c0_i32_57 : BitVec 32 := 0#32
  let c1_i32_59 : BitVec 32 := 1#32
  let arg8 : BitVec 32 := Scf.iv c0_i32_57 c1_i32_59 k0_t1
  let c512_i32_226 : BitVec 32 := 512#32
  let v522 : BitVec 32 := Scalar.muli arg8 c512_i32_226
  let v523 : BitVec 32 := v522
  let v634 : Index := Scalar.indexCast v523
  let c0_274 : Index := 0#32
  ![0, 5, v634.toNat, 0]
def k0_off7 (i : grid0.Coords) (k0_t1 : Fin (k0_t1_loop i).trips) : Fin 4 → Nat :=
  let c0_281 : Index := 0#32
  let c6_282 : Index := 6#32
  let c0_i32_57 : BitVec 32 := 0#32
  let c1_i32_59 : BitVec 32 := 1#32
  let arg8 : BitVec 32 := Scf.iv c0_i32_57 c1_i32_59 k0_t1
  let c512_i32_226 : BitVec 32 := 512#32
  let v522 : BitVec 32 := Scalar.muli arg8 c512_i32_226
  let v523 : BitVec 32 := v522
  let v656 : Index := Scalar.indexCast v523
  let c0_283 : Index := 0#32
  ![0, 6, v656.toNat, 0]
def k0_off8 (i : grid0.Coords) (k0_t1 : Fin (k0_t1_loop i).trips) : Fin 4 → Nat :=
  let c0_290 : Index := 0#32
  let c7_291 : Index := 7#32
  let c0_i32_57 : BitVec 32 := 0#32
  let c1_i32_59 : BitVec 32 := 1#32
  let arg8 : BitVec 32 := Scf.iv c0_i32_57 c1_i32_59 k0_t1
  let c512_i32_226 : BitVec 32 := 512#32
  let v522 : BitVec 32 := Scalar.muli arg8 c512_i32_226
  let v523 : BitVec 32 := v522
  let v678 : Index := Scalar.indexCast v523
  let c0_292 : Index := 0#32
  ![0, 7, v678.toNat, 0]
@[reducible] def k0_t2_loop (i : grid0.Coords) : Scf.Loop 32 :=
  let c0_i32_57 : BitVec 32 := 0#32
  let arg2 : BitVec 32 := BitVec.ofNat 32 (i 2).val
  let v124 : BitVec 32 := Scalar.subi arg2 c0_i32_57
  let c1_i32_58 : BitVec 32 := 1#32
  let v126 : BitVec 32 := Scalar.divsi v124 c1_i32_58
  let v127 : BitVec 32 := Scalar.muli v126 c1_i32_58
  let v128 : BitVec 32 := Scalar.addi c0_i32_57 v127
  let v125 : BitVec 32 := Scalar.addi c0_i32_57 v124
  let c1_i32_60 : BitVec 32 := 1#32
  ⟨v128, v125, c1_i32_60⟩
def k0_mult2 (i : grid0.Coords) (k0_t2 : Fin (k0_t2_loop i).trips) : BitVec 32 :=
  let c0_i32_57 : BitVec 32 := 0#32
  let arg2 : BitVec 32 := BitVec.ofNat 32 (i 2).val
  let v124 : BitVec 32 := Scalar.subi arg2 c0_i32_57
  let c1_i32_58 : BitVec 32 := 1#32
  let v126 : BitVec 32 := Scalar.divsi v124 c1_i32_58
  let v127 : BitVec 32 := Scalar.muli v126 c1_i32_58
  let v128 : BitVec 32 := Scalar.addi c0_i32_57 v127
  let c1_i32_60 : BitVec 32 := 1#32
  let arg8 : BitVec 32 := Scf.iv v128 c1_i32_60 k0_t2
  let c512_i32_226 : BitVec 32 := 512#32
  let v522 : BitVec 32 := Scalar.muli arg8 c512_i32_226
  v522
def k0_off9 (i : grid0.Coords) (k0_t2 : Fin (k0_t2_loop i).trips) : Fin 4 → Nat :=
  let c0_227 : Index := 0#32
  let c0_228 : Index := 0#32
  let c0_i32_57 : BitVec 32 := 0#32
  let arg2 : BitVec 32 := BitVec.ofNat 32 (i 2).val
  let v124 : BitVec 32 := Scalar.subi arg2 c0_i32_57
  let c1_i32_58 : BitVec 32 := 1#32
  let v126 : BitVec 32 := Scalar.divsi v124 c1_i32_58
  let v127 : BitVec 32 := Scalar.muli v126 c1_i32_58
  let v128 : BitVec 32 := Scalar.addi c0_i32_57 v127
  let c1_i32_60 : BitVec 32 := 1#32
  let arg8 : BitVec 32 := Scf.iv v128 c1_i32_60 k0_t2
  let c512_i32_226 : BitVec 32 := 512#32
  let v522 : BitVec 32 := Scalar.muli arg8 c512_i32_226
  let v523 : BitVec 32 := v522
  let v524 : Index := Scalar.indexCast v523
  let c0_229 : Index := 0#32
  ![0, 0, v524.toNat, 0]
def k0_off10 (i : grid0.Coords) (k0_t2 : Fin (k0_t2_loop i).trips) : Fin 4 → Nat :=
  let c0_236 : Index := 0#32
  let c1_237 : Index := 1#32
  let c0_i32_57 : BitVec 32 := 0#32
  let arg2 : BitVec 32 := BitVec.ofNat 32 (i 2).val
  let v124 : BitVec 32 := Scalar.subi arg2 c0_i32_57
  let c1_i32_58 : BitVec 32 := 1#32
  let v126 : BitVec 32 := Scalar.divsi v124 c1_i32_58
  let v127 : BitVec 32 := Scalar.muli v126 c1_i32_58
  let v128 : BitVec 32 := Scalar.addi c0_i32_57 v127
  let c1_i32_60 : BitVec 32 := 1#32
  let arg8 : BitVec 32 := Scf.iv v128 c1_i32_60 k0_t2
  let c512_i32_226 : BitVec 32 := 512#32
  let v522 : BitVec 32 := Scalar.muli arg8 c512_i32_226
  let v523 : BitVec 32 := v522
  let v546 : Index := Scalar.indexCast v523
  let c0_238 : Index := 0#32
  ![0, 1, v546.toNat, 0]
def k0_off11 (i : grid0.Coords) (k0_t2 : Fin (k0_t2_loop i).trips) : Fin 4 → Nat :=
  let c0_245 : Index := 0#32
  let c2_246 : Index := 2#32
  let c0_i32_57 : BitVec 32 := 0#32
  let arg2 : BitVec 32 := BitVec.ofNat 32 (i 2).val
  let v124 : BitVec 32 := Scalar.subi arg2 c0_i32_57
  let c1_i32_58 : BitVec 32 := 1#32
  let v126 : BitVec 32 := Scalar.divsi v124 c1_i32_58
  let v127 : BitVec 32 := Scalar.muli v126 c1_i32_58
  let v128 : BitVec 32 := Scalar.addi c0_i32_57 v127
  let c1_i32_60 : BitVec 32 := 1#32
  let arg8 : BitVec 32 := Scf.iv v128 c1_i32_60 k0_t2
  let c512_i32_226 : BitVec 32 := 512#32
  let v522 : BitVec 32 := Scalar.muli arg8 c512_i32_226
  let v523 : BitVec 32 := v522
  let v568 : Index := Scalar.indexCast v523
  let c0_247 : Index := 0#32
  ![0, 2, v568.toNat, 0]
def k0_off12 (i : grid0.Coords) (k0_t2 : Fin (k0_t2_loop i).trips) : Fin 4 → Nat :=
  let c0_254 : Index := 0#32
  let c3_255 : Index := 3#32
  let c0_i32_57 : BitVec 32 := 0#32
  let arg2 : BitVec 32 := BitVec.ofNat 32 (i 2).val
  let v124 : BitVec 32 := Scalar.subi arg2 c0_i32_57
  let c1_i32_58 : BitVec 32 := 1#32
  let v126 : BitVec 32 := Scalar.divsi v124 c1_i32_58
  let v127 : BitVec 32 := Scalar.muli v126 c1_i32_58
  let v128 : BitVec 32 := Scalar.addi c0_i32_57 v127
  let c1_i32_60 : BitVec 32 := 1#32
  let arg8 : BitVec 32 := Scf.iv v128 c1_i32_60 k0_t2
  let c512_i32_226 : BitVec 32 := 512#32
  let v522 : BitVec 32 := Scalar.muli arg8 c512_i32_226
  let v523 : BitVec 32 := v522
  let v590 : Index := Scalar.indexCast v523
  let c0_256 : Index := 0#32
  ![0, 3, v590.toNat, 0]
def k0_off13 (i : grid0.Coords) (k0_t2 : Fin (k0_t2_loop i).trips) : Fin 4 → Nat :=
  let c0_263 : Index := 0#32
  let c4_264 : Index := 4#32
  let c0_i32_57 : BitVec 32 := 0#32
  let arg2 : BitVec 32 := BitVec.ofNat 32 (i 2).val
  let v124 : BitVec 32 := Scalar.subi arg2 c0_i32_57
  let c1_i32_58 : BitVec 32 := 1#32
  let v126 : BitVec 32 := Scalar.divsi v124 c1_i32_58
  let v127 : BitVec 32 := Scalar.muli v126 c1_i32_58
  let v128 : BitVec 32 := Scalar.addi c0_i32_57 v127
  let c1_i32_60 : BitVec 32 := 1#32
  let arg8 : BitVec 32 := Scf.iv v128 c1_i32_60 k0_t2
  let c512_i32_226 : BitVec 32 := 512#32
  let v522 : BitVec 32 := Scalar.muli arg8 c512_i32_226
  let v523 : BitVec 32 := v522
  let v612 : Index := Scalar.indexCast v523
  let c0_265 : Index := 0#32
  ![0, 4, v612.toNat, 0]
def k0_off14 (i : grid0.Coords) (k0_t2 : Fin (k0_t2_loop i).trips) : Fin 4 → Nat :=
  let c0_272 : Index := 0#32
  let c5_273 : Index := 5#32
  let c0_i32_57 : BitVec 32 := 0#32
  let arg2 : BitVec 32 := BitVec.ofNat 32 (i 2).val
  let v124 : BitVec 32 := Scalar.subi arg2 c0_i32_57
  let c1_i32_58 : BitVec 32 := 1#32
  let v126 : BitVec 32 := Scalar.divsi v124 c1_i32_58
  let v127 : BitVec 32 := Scalar.muli v126 c1_i32_58
  let v128 : BitVec 32 := Scalar.addi c0_i32_57 v127
  let c1_i32_60 : BitVec 32 := 1#32
  let arg8 : BitVec 32 := Scf.iv v128 c1_i32_60 k0_t2
  let c512_i32_226 : BitVec 32 := 512#32
  let v522 : BitVec 32 := Scalar.muli arg8 c512_i32_226
  let v523 : BitVec 32 := v522
  let v634 : Index := Scalar.indexCast v523
  let c0_274 : Index := 0#32
  ![0, 5, v634.toNat, 0]
def k0_off15 (i : grid0.Coords) (k0_t2 : Fin (k0_t2_loop i).trips) : Fin 4 → Nat :=
  let c0_281 : Index := 0#32
  let c6_282 : Index := 6#32
  let c0_i32_57 : BitVec 32 := 0#32
  let arg2 : BitVec 32 := BitVec.ofNat 32 (i 2).val
  let v124 : BitVec 32 := Scalar.subi arg2 c0_i32_57
  let c1_i32_58 : BitVec 32 := 1#32
  let v126 : BitVec 32 := Scalar.divsi v124 c1_i32_58
  let v127 : BitVec 32 := Scalar.muli v126 c1_i32_58
  let v128 : BitVec 32 := Scalar.addi c0_i32_57 v127
  let c1_i32_60 : BitVec 32 := 1#32
  let arg8 : BitVec 32 := Scf.iv v128 c1_i32_60 k0_t2
  let c512_i32_226 : BitVec 32 := 512#32
  let v522 : BitVec 32 := Scalar.muli arg8 c512_i32_226
  let v523 : BitVec 32 := v522
  let v656 : Index := Scalar.indexCast v523
  let c0_283 : Index := 0#32
  ![0, 6, v656.toNat, 0]
def k0_off16 (i : grid0.Coords) (k0_t2 : Fin (k0_t2_loop i).trips) : Fin 4 → Nat :=
  let c0_290 : Index := 0#32
  let c7_291 : Index := 7#32
  let c0_i32_57 : BitVec 32 := 0#32
  let arg2 : BitVec 32 := BitVec.ofNat 32 (i 2).val
  let v124 : BitVec 32 := Scalar.subi arg2 c0_i32_57
  let c1_i32_58 : BitVec 32 := 1#32
  let v126 : BitVec 32 := Scalar.divsi v124 c1_i32_58
  let v127 : BitVec 32 := Scalar.muli v126 c1_i32_58
  let v128 : BitVec 32 := Scalar.addi c0_i32_57 v127
  let c1_i32_60 : BitVec 32 := 1#32
  let arg8 : BitVec 32 := Scf.iv v128 c1_i32_60 k0_t2
  let c512_i32_226 : BitVec 32 := 512#32
  let v522 : BitVec 32 := Scalar.muli arg8 c512_i32_226
  let v523 : BitVec 32 := v522
  let v678 : Index := Scalar.indexCast v523
  let c0_292 : Index := 0#32
  ![0, 7, v678.toNat, 0]
def k0_mult3 (i : grid0.Coords) : BitVec 32 :=
  let arg2 : BitVec 32 := BitVec.ofNat 32 (i 2).val
  let c512_i32 : BitVec 32 := 512#32
  let v131 : BitVec 32 := Scalar.muli arg2 c512_i32
  v131
def k0_off17 (i : grid0.Coords) : Fin 4 → Nat :=
  let c0_61 : Index := 0#32
  let c0_62 : Index := 0#32
  let arg2 : BitVec 32 := BitVec.ofNat 32 (i 2).val
  let c512_i32 : BitVec 32 := 512#32
  let v131 : BitVec 32 := Scalar.muli arg2 c512_i32
  let v132 : BitVec 32 := v131
  let v133 : Index := Scalar.indexCast v132
  let c0_63 : Index := 0#32
  ![0, 0, v133.toNat, 0]
def k0_off18 (i : grid0.Coords) : Fin 4 → Nat :=
  let c0_71 : Index := 0#32
  let c1_72 : Index := 1#32
  let arg2 : BitVec 32 := BitVec.ofNat 32 (i 2).val
  let c512_i32 : BitVec 32 := 512#32
  let v131 : BitVec 32 := Scalar.muli arg2 c512_i32
  let v132 : BitVec 32 := v131
  let v157 : Index := Scalar.indexCast v132
  let c0_73 : Index := 0#32
  ![0, 1, v157.toNat, 0]
def k0_off19 (i : grid0.Coords) : Fin 4 → Nat :=
  let c0_81 : Index := 0#32
  let c2_82 : Index := 2#32
  let arg2 : BitVec 32 := BitVec.ofNat 32 (i 2).val
  let c512_i32 : BitVec 32 := 512#32
  let v131 : BitVec 32 := Scalar.muli arg2 c512_i32
  let v132 : BitVec 32 := v131
  let v181 : Index := Scalar.indexCast v132
  let c0_83 : Index := 0#32
  ![0, 2, v181.toNat, 0]
def k0_off20 (i : grid0.Coords) : Fin 4 → Nat :=
  let c0_91 : Index := 0#32
  let c3_92 : Index := 3#32
  let arg2 : BitVec 32 := BitVec.ofNat 32 (i 2).val
  let c512_i32 : BitVec 32 := 512#32
  let v131 : BitVec 32 := Scalar.muli arg2 c512_i32
  let v132 : BitVec 32 := v131
  let v205 : Index := Scalar.indexCast v132
  let c0_93 : Index := 0#32
  ![0, 3, v205.toNat, 0]
def k0_off21 (i : grid0.Coords) : Fin 4 → Nat :=
  let c0_101 : Index := 0#32
  let c4_102 : Index := 4#32
  let arg2 : BitVec 32 := BitVec.ofNat 32 (i 2).val
  let c512_i32 : BitVec 32 := 512#32
  let v131 : BitVec 32 := Scalar.muli arg2 c512_i32
  let v132 : BitVec 32 := v131
  let v229 : Index := Scalar.indexCast v132
  let c0_103 : Index := 0#32
  ![0, 4, v229.toNat, 0]
def k0_off22 (i : grid0.Coords) : Fin 4 → Nat :=
  let c0_111 : Index := 0#32
  let c5_112 : Index := 5#32
  let arg2 : BitVec 32 := BitVec.ofNat 32 (i 2).val
  let c512_i32 : BitVec 32 := 512#32
  let v131 : BitVec 32 := Scalar.muli arg2 c512_i32
  let v132 : BitVec 32 := v131
  let v253 : Index := Scalar.indexCast v132
  let c0_113 : Index := 0#32
  ![0, 5, v253.toNat, 0]
def k0_off23 (i : grid0.Coords) : Fin 4 → Nat :=
  let c0_121 : Index := 0#32
  let c6_122 : Index := 6#32
  let arg2 : BitVec 32 := BitVec.ofNat 32 (i 2).val
  let c512_i32 : BitVec 32 := 512#32
  let v131 : BitVec 32 := Scalar.muli arg2 c512_i32
  let v132 : BitVec 32 := v131
  let v277 : Index := Scalar.indexCast v132
  let c0_123 : Index := 0#32
  ![0, 6, v277.toNat, 0]
def k0_off24 (i : grid0.Coords) : Fin 4 → Nat :=
  let c0_131 : Index := 0#32
  let c7_132 : Index := 7#32
  let arg2 : BitVec 32 := BitVec.ofNat 32 (i 2).val
  let c512_i32 : BitVec 32 := 512#32
  let v131 : BitVec 32 := Scalar.muli arg2 c512_i32
  let v132 : BitVec 32 := v131
  let v301 : Index := Scalar.indexCast v132
  let c0_133 : Index := 0#32
  ![0, 7, v301.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Kernel9Ideal.lean ====
variable {F : FTy → Type} [FloatOps F] [Named F]
def κ : String → Option EReal := fun
  | "inv_ln2" => some (((Real.log 2)⁻¹ : ℝ) : EReal)
  | "mask" => some ⊥
  | _ => none
-- ==== Reference9Ideal.lean ====
abbrev S4x2048x8x96 : Shape := ⟨4, ![4, 2048, 8, 96]⟩
abbrev S4x2048x8x64 : Shape := ⟨4, ![4, 2048, 8, 64]⟩
abbrev S2048 : Shape := ⟨1, ![2048]⟩
abbrev S_ : Shape := ⟨0, ![]⟩
abbrev S4x8x2048x2048 : Shape := ⟨4, ![4, 8, 2048, 2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩
abbrev S4x2048x512 : Shape := ⟨3, ![4, 2048, 512]⟩
abbrev S4x8x1x2048 : Shape := ⟨4, ![4, 8, 1, 2048]⟩
abbrev S4x8x8x2048 : Shape := ⟨4, ![4, 8, 8, 2048]⟩

abbrev nBuf : Space → Nat
  | .hbm => 45
  | .vmem => 0
  | .smem => 0
  | _ => 0

abbrev bufTy : (tb : Table) → Fin (tcTables nBuf tb) → BufTy
  | .hbm, ⟨0, _⟩ => ⟨S4x2048x8x96, .f32⟩
  | .hbm, ⟨1, _⟩ => ⟨S4x2048x8x96, .f32⟩
  | .hbm, ⟨2, _⟩ => ⟨S4x2048x8x64, .f32⟩
  | .hbm, ⟨3, _⟩ => ⟨S2048, .i32⟩
  | .hbm, ⟨4, _⟩ => ⟨S_, .i32⟩
  | .hbm, ⟨5, _⟩ => ⟨S2048, .i32⟩
  | .hbm, ⟨6, _⟩ => ⟨S2048, .i32⟩
  | .hbm, ⟨7, _⟩ => ⟨S4x8x2048x2048, .f32⟩
  | .hbm, ⟨8, _⟩ => ⟨S_, .f32⟩
  | .hbm, ⟨9, _⟩ => ⟨S4x8x2048x2048, .f32⟩
  | .hbm, ⟨10, _⟩ => ⟨S4x8x2048x2048, .f32⟩
  | .hbm, ⟨11, _⟩ => ⟨S2048x1, .i32⟩
  | .hbm, ⟨12, _⟩ => ⟨S1x2048, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S1x1x2048x2048, .i1⟩
  | .hbm, ⟨17, _⟩ => ⟨S_, .f32⟩
  | .hbm, ⟨18, _⟩ => ⟨S_, .f32⟩
  | .hbm, ⟨19, _⟩ => ⟨S4x8x2048x2048, .i1⟩
  | .hbm, ⟨20, _⟩ => ⟨S4x8x2048x2048, .f32⟩
  | .hbm, ⟨21, _⟩ => ⟨S4x8x2048x2048, .f32⟩
  | .hbm, ⟨22, _⟩ => ⟨S_, .f32⟩
  | .hbm, ⟨23, _⟩ => ⟨S4x8x2048, .f32⟩
  | .hbm, ⟨24, _⟩ => ⟨S4x8x2048x1, .f32⟩
  | .hbm, ⟨25, _⟩ => ⟨S4x8x2048x2048, .f32⟩
  | .hbm, ⟨26, _⟩ => ⟨S4x8x2048x2048, .f32⟩
  | .hbm, ⟨27, _⟩ => ⟨S4x8x2048x2048, .f32⟩
  | .hbm, ⟨28, _⟩ => ⟨S_, .f32⟩
  | .hbm, ⟨29, _⟩ => ⟨S4x8x2048, .f32⟩
  | .hbm, ⟨30, _⟩ => ⟨S4x8x2048x1, .f32⟩
  | .hbm, ⟨31, _⟩ => ⟨S4x8x2048x2048, .f32⟩
  | .hbm, ⟨32, _⟩ => ⟨S4x8x2048x2048, .f32⟩
  | .hbm, ⟨33, _⟩ => ⟨S4x8x64x2048, .f32⟩
  | .hbm, ⟨34, _⟩ => ⟨S4x2048x8x64, .f32⟩
  | .hbm, ⟨35, _⟩ => ⟨S4x8x2048x1, .f32⟩
  | .hbm, ⟨36, _⟩ => ⟨S4x8x2048x1, .f32⟩
  | .hbm, ⟨37, _⟩ => ⟨S_, .f32⟩
  | .hbm, ⟨38, _⟩ => ⟨S_, .f32⟩
  | .hbm, ⟨39, _⟩ => ⟨S4x8x2048x1, .f32⟩
  | .hbm, ⟨40, _⟩ => ⟨S4x8x2048x1, .f32⟩
  | .hbm, ⟨41, _⟩ => ⟨S4x2048x512, .f32⟩
  | .hbm, ⟨42, _⟩ => ⟨S4x2048x512, .bf16⟩
  | .hbm, ⟨43, _⟩ => ⟨S4x8x1x2048, .f32⟩
  | .hbm, ⟨44, _⟩ => ⟨S4x8x8x2048, .f32⟩
  | _, _ => ⟨S4x2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel10.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S4x1x1024 : Shape := ⟨3, ![4, 1, 1024]⟩
abbrev S1024 : Shape := ⟨1, ![1024]⟩
abbrev S8192x1024 : Shape := ⟨2, ![8192, 1024]⟩
abbrev S8192x2048 : Shape := ⟨2, ![8192, 2048]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 19
  | .vmem => 27
  | .smem => 0
  | _ => 0

abbrev bufTy : (tb : Table) → Fin (tcTables nBuf tb) → BufTy
  | .hbm, ⟨0, _⟩ => ⟨S4x2048x1024, .f32⟩
  | .hbm, ⟨1, _⟩ => ⟨S4x2048x2048, .bf16⟩
  | .hbm, ⟨2, _⟩ => ⟨S4x2048x1024, .bf16⟩
  | .hbm, ⟨3, _⟩ => ⟨S4x2048x1024, .bf16⟩
  | .hbm, ⟨4, _⟩ => ⟨S1024x1024, .f32⟩
  | .hbm, ⟨5, _⟩ => ⟨S4x1x1024, .f32⟩
  | .hbm, ⟨6, _⟩ => ⟨S1024, .f32⟩
  | .hbm, ⟨7, _⟩ => ⟨S4x1x1024, .f32⟩
  | .hbm, ⟨8, _⟩ => ⟨S4x1x1024, .f32⟩
  | .hbm, ⟨9, _⟩ => ⟨S8192x1024, .f32⟩
  | .hbm, ⟨10, _⟩ => ⟨S8192x2048, .bf16⟩
  | .hbm, ⟨11, _⟩ => ⟨S8192x1024, .bf16⟩
  | .hbm, ⟨12, _⟩ => ⟨S8192x1024, .bf16⟩
  | .hbm, ⟨13, _⟩ => ⟨S1024x1024, .bf16⟩
  | .hbm, ⟨14, _⟩ => ⟨S1x1024, .f32⟩
  | .hbm, ⟨15, _⟩ => ⟨S8192x1024, .bf16⟩
  | .hbm, ⟨16, _⟩ => ⟨S8192x1024, .bf16⟩
  | .hbm, ⟨17, _⟩ => ⟨S8192x1024, .f32⟩
  | .hbm, ⟨18, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | .local _ .vmem, ⟨26, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_22 : BitVec 32 := 0#32
  let v42 : BitVec 1 := Scalar.cmpi .eq arg1 c0_i32_22
  let v43 : BitVec 32 := Scalar.extui v42
  let c0_i32_23 : BitVec 32 := 0#32
  let v44 : BitVec 1 := Scalar.cmpi .ne v43 c0_i32_23
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference10Ideal.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S4x1x1024 : Shape := ⟨3, ![4, 1, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x2048, .bf16⟩
  | .hbm, ⟨2, _⟩ => ⟨S4x2048x1024, .bf16⟩
  | .hbm, ⟨3, _⟩ => ⟨S4x2048x1024, .bf16⟩
  | .hbm, ⟨4, _⟩ => ⟨S1024x1024, .f32⟩
  | .hbm, ⟨5, _⟩ => ⟨S4x1x1024, .f32⟩
  | .hbm, ⟨6, _⟩ => ⟨S1024, .f32⟩
  | .hbm, ⟨7, _⟩ => ⟨S4x1x1024, .f32⟩
  | .hbm, ⟨8, _⟩ => ⟨S4x1x1024, .f32⟩
  | .hbm, ⟨9, _⟩ => ⟨S4x2048x2048, .f32⟩
  | .hbm, ⟨10, _⟩ => ⟨S4x2048x2048, .f32⟩
  | .hbm, ⟨11, _⟩ => ⟨S4x2048x2048, .f32⟩
  | .hbm, ⟨12, _⟩ => ⟨S_, .f32⟩
  | .hbm, ⟨13, _⟩ => ⟨S4x2048x2048, .f32⟩
  | .hbm, ⟨14, _⟩ => ⟨S4x2048x2048, .f32⟩
  | .hbm, ⟨15, _⟩ => ⟨S_, .f32⟩
  | .hbm, ⟨16, _⟩ => ⟨S4x2048x2048, .f32⟩
  | .hbm, ⟨17, _⟩ => ⟨S4x2048x2048, .f32⟩
  | .hbm, ⟨18, _⟩ => ⟨S4x2048x1024, .f32⟩
  | .hbm, ⟨19, _⟩ => ⟨S4x2048x1024, .f32⟩
  | .hbm, ⟨20, _⟩ => ⟨S4x2048x1024, .f32⟩
  | .hbm, ⟨21, _⟩ => ⟨S4x2048x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S4x2048x1024, .f32⟩
  | .hbm, ⟨29, _⟩ => ⟨S4x2048x1024, .f32⟩
  | .hbm, ⟨30, _⟩ => ⟨S_, .f32⟩
  | .hbm, ⟨31, _⟩ => ⟨S4x2048, .f32⟩
  | .hbm, ⟨32, _⟩ => ⟨S4x2048x1, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S_, .f32⟩
  | .hbm, ⟨37, _⟩ => ⟨S4x2048x1, .f32⟩
  | .hbm, ⟨38, _⟩ => ⟨S4x2048x1, .f32⟩
  | .hbm, ⟨39, _⟩ => ⟨S4x2048x1, .f32⟩
  | .hbm, ⟨40, _⟩ => ⟨S4x2048x1024, .f32⟩
  | .hbm, ⟨41, _⟩ => ⟨S4x2048x1024, .f32⟩
  | .hbm, ⟨42, _⟩ => ⟨S1x1x1024, .f32⟩
  | .hbm, ⟨43, _⟩ => ⟨S4x2048x1024, .f32⟩
  | .hbm, ⟨44, _⟩ => ⟨S4x2048x1024, .f32⟩
  | .hbm, ⟨45, _⟩ => ⟨S_, .f32⟩
  | .hbm, ⟨46, _⟩ => ⟨S4x1x1024, .f32⟩
  | .hbm, ⟨47, _⟩ => ⟨S4x1x1024, .f32⟩
  | .hbm, ⟨48, _⟩ => ⟨S4x2048x1024, .f32⟩
  | .hbm, ⟨49, _⟩ => ⟨S4x2048x1024, .f32⟩
  | .hbm, ⟨50, _⟩ => ⟨S4x2048x1024, .f32⟩
  | .hbm, ⟨51, _⟩ => ⟨S4x2048x1024, .f32⟩
  | .hbm, ⟨52, _⟩ => ⟨S8192x1024, .f32⟩
  | .hbm, ⟨53, _⟩ => ⟨S8192x1024, .bf16⟩
  | .hbm, ⟨54, _⟩ => ⟨S8192x1024, .f32⟩
  | .hbm, ⟨55, _⟩ => ⟨S8192x1024, .bf16⟩
  | .hbm, ⟨56, _⟩ => ⟨S8192x1024, .f32⟩
  | .hbm, ⟨57, _⟩ => ⟨S8192x1024, .f32⟩
  | .hbm, ⟨58, _⟩ => ⟨S8192x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Kernel11.lean ====
abbrev S4x2048x1024 : Shape := ⟨3, ![4, 2048, 1024]⟩
abbrev S1024 : Shape := ⟨1, ![1024]⟩
abbrev S4x1x1024 : Shape := ⟨3, ![4, 1, 1024]⟩
abbrev S1024x3488 : Shape := ⟨2, ![1024, 3488]⟩
abbrev S3488x1024 : Shape := ⟨2, ![3488, 1024]⟩
abbrev S400x1024 : Shape := ⟨2, ![400, 1024]⟩
abbrev S_ : Shape := ⟨0, ![]⟩
abbrev S48x1024 : Shape := ⟨2, ![48, 1024]⟩
abbrev S16x1024 : Shape := ⟨2, ![16, 1024]⟩
abbrev S512x1024 : Shape := ⟨2, ![512, 1024]⟩
abbrev S1024x1024 : Shape := ⟨2, ![1024, 1024]⟩
abbrev S2048x1024 : Shape := ⟨2, ![2048, 1024]⟩
abbrev S8192x1024 : Shape := ⟨2, ![8192, 1024]⟩
abbrev S1x1024 : Shape := ⟨2, ![1, 1024]⟩
abbrev S8192x2048 : Shape := ⟨2, ![8192, 2048]⟩
abbrev S8192x512 : Shape := ⟨2, ![8192, 512]⟩
abbrev S1x1x1024 : Shape := ⟨3, ![1, 1, 1024]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩

abbrev nBuf : Space → Nat
  | .hbm => 22
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x3488, .f32⟩
  | .hbm, ⟨5, _⟩ => ⟨S3488x1024, .f32⟩
  | .hbm, ⟨6, _⟩ => ⟨S3488x1024, .bf16⟩
  | .hbm, ⟨7, _⟩ => ⟨S400x1024, .bf16⟩
  | .hbm, ⟨8, _⟩ => ⟨S_, .bf16⟩
  | .hbm, ⟨9, _⟩ => ⟨S48x1024, .bf16⟩
  | .hbm, ⟨10, _⟩ => ⟨S16x1024, .bf16⟩
  | .hbm, ⟨11, _⟩ => ⟨S_, .bf16⟩
  | .hbm, ⟨12, _⟩ => ⟨S48x1024, .bf16⟩
  | .hbm, ⟨13, _⟩ => ⟨S512x1024, .bf16⟩
  | .hbm, ⟨14, _⟩ => ⟨S1024x1024, .bf16⟩
  | .hbm, ⟨15, _⟩ => ⟨S2048x1024, .bf16⟩
  | .hbm, ⟨16, _⟩ => ⟨S8192x1024, .f32⟩
  | .hbm, ⟨17, _⟩ => ⟨S1x1024, .f32⟩
  | .hbm, ⟨18, _⟩ => ⟨S8192x1024, .bf16⟩
  | .hbm, ⟨19, _⟩ => ⟨S8192x2048, .bf16⟩
  | .hbm, ⟨20, _⟩ => ⟨S8192x1024, .bf16⟩
  | .hbm, ⟨21, _⟩ => ⟨S8192x512, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S2048x1024, .bf16⟩
  | .local _ .vmem, ⟨8, _⟩ => ⟨S1024x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x2048, .bf16⟩
  | .local _ .vmem, ⟨13, _⟩ => ⟨S512x2048, .bf16⟩
  | .local _ .vmem, ⟨14, _⟩ => ⟨S512x1024, .bf16⟩
  | .local _ .vmem, ⟨15, _⟩ => ⟨S512x1024, .bf16⟩
  | .local _ .vmem, ⟨16, _⟩ => ⟨S512x512, .f32⟩
  | .local _ .vmem, ⟨17, _⟩ => ⟨S512x512, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference11Ideal.lean ====
abbrev S4x2048x1024 : Shape := ⟨3, ![4, 2048, 1024]⟩
abbrev S1024 : Shape := ⟨1, ![1024]⟩
abbrev S4x1x1024 : Shape := ⟨3, ![4, 1, 1024]⟩
abbrev S1024x3488 : Shape := ⟨2, ![1024, 3488]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x3488 : Shape := ⟨3, ![4, 2048, 3488]⟩
abbrev S8192x1024 : Shape := ⟨2, ![8192, 1024]⟩
abbrev S8192x3488 : Shape := ⟨2, ![8192, 3488]⟩
abbrev S8192x48 : Shape := ⟨2, ![8192, 48]⟩
abbrev S8192x400 : Shape := ⟨2, ![8192, 400]⟩
abbrev S8192x16 : Shape := ⟨2, ![8192, 16]⟩
abbrev S8192x512 : Shape := ⟨2, ![8192, 512]⟩
abbrev S8192x2048 : Shape := ⟨2, ![8192, 2048]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x3488, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S_, .f32⟩
  | .hbm, ⟨22, _⟩ => ⟨S4x1x1024, .f32⟩
  | .hbm, ⟨23, _⟩ => ⟨S4x1x1024, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S4x2048x3488, .f32⟩
  | .hbm, ⟨29, _⟩ => ⟨S8192x1024, .f32⟩
  | .hbm, ⟨30, _⟩ => ⟨S8192x3488, .f32⟩
  | .hbm, ⟨31, _⟩ => ⟨S_, .f32⟩
  | .hbm, ⟨32, _⟩ => ⟨S8192x48, .f32⟩
  | .hbm, ⟨33, _⟩ => ⟨S8192x400, .f32⟩
  | .hbm, ⟨34, _⟩ => ⟨S8192x16, .f32⟩
  | .hbm, ⟨35, _⟩ => ⟨S8192x512, .f32⟩
  | .hbm, ⟨36, _⟩ => ⟨S8192x1024, .bf16⟩
  | .hbm, ⟨37, _⟩ => ⟨S8192x2048, .f32⟩
  | .hbm, ⟨38, _⟩ => ⟨S8192x2048, .bf16⟩
  | .hbm, ⟨39, _⟩ => ⟨S8192x1024, .f32⟩
  | .hbm, ⟨40, _⟩ => ⟨S8192x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Kernel12.lean ====
abbrev S32x1024 : Shape := ⟨2, ![32, 1024]⟩
abbrev S1024x768 : Shape := ⟨2, ![1024, 768]⟩
abbrev S768 : Shape := ⟨1, ![768]⟩
abbrev S32x768 : Shape := ⟨2, ![32, 768]⟩

abbrev nBuf : Space → Nat
  | .hbm => 5
  | .vmem => 5
  | .smem => 0
  | _ => 0

abbrev bufTy : (tb : Table) → Fin (tcTables nBuf tb) → BufTy
  | .hbm, ⟨0, _⟩ => ⟨S32x1024, .f32⟩
  | .hbm, ⟨1, _⟩ => ⟨S1024x768, .f32⟩
  | .hbm, ⟨2, _⟩ => ⟨S768, .f32⟩
  | .hbm, ⟨3, _⟩ => ⟨S32x768, .f32⟩
  | .hbm, ⟨4, _⟩ => ⟨S32x768, .f32⟩
  | .local _ .vmem, ⟨0, _⟩ => ⟨S32x1024, .f32⟩
  | .local _ .vmem, ⟨1, _⟩ => ⟨S1024x768, .f32⟩
  | .local _ .vmem, ⟨2, _⟩ => ⟨S32x768, .f32⟩
  | .local _ .vmem, ⟨3, _⟩ => ⟨S32x768, .f32⟩
  | .local _ .vmem, ⟨4, _⟩ => ⟨S32x768, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_11 : BitVec 32 := 0#32
  let v21 : BitVec 1 := Scalar.cmpi .eq arg2 c0_i32_11
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S32x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S32x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== Reference12Ideal.lean ====
abbrev S32x1024 : Shape := ⟨2, ![32, 1024]⟩
abbrev S1024x768 : Shape := ⟨2, ![1024, 768]⟩
abbrev S768 : Shape := ⟨1, ![768]⟩
abbrev S_ : Shape := ⟨0, ![]⟩
abbrev S32x768 : Shape := ⟨2, ![32, 768]⟩
abbrev S1x768 : Shape := ⟨2, ![1, 768]⟩

abbrev nBuf : Space → Nat
  | .hbm => 16
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024x768, .f32⟩
  | .hbm, ⟨2, _⟩ => ⟨S768, .f32⟩
  | .hbm, ⟨3, _⟩ => ⟨S32x1024, .f32⟩
  | .hbm, ⟨4, _⟩ => ⟨S32x1024, .f32⟩
  | .hbm, ⟨5, _⟩ => ⟨S_, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S32x768, .f32⟩
  | .hbm, ⟨13, _⟩ => ⟨S1x768, .f32⟩
  | .hbm, ⟨14, _⟩ => ⟨S32x768, .f32⟩
  | .hbm, ⟨15, _⟩ => ⟨S32x768, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel7.lean ====
abbrev S4x2048x1024 : Shape := ⟨3, ![4, 2048, 1024]⟩
abbrev S31x512 : Shape := ⟨2, ![31, 512]⟩
abbrev S512 : Shape := ⟨1, ![512]⟩
abbrev S4x2048x512 : Shape := ⟨3, ![4, 2048, 512]⟩
abbrev S_ : Shape := ⟨0, ![]⟩
abbrev S32x512 : Shape := ⟨2, ![32, 512]⟩
abbrev S1x512 : Shape := ⟨2, ![1, 512]⟩
abbrev S4x2078x512 : Shape := ⟨3, ![4, 2078, 512]⟩
abbrev S1x1x512 : Shape := ⟨3, ![1, 1, 512]⟩
abbrev S1x2048x1024 : Shape := ⟨3, ![1, 2048, 1024]⟩
abbrev S1x2048x512 : Shape := ⟨3, ![1, 2048, 512]⟩
abbrev S2088x512 : Shape := ⟨2, ![2088, 512]⟩
abbrev S8x288x512 : Shape := ⟨3, ![8, 288, 512]⟩
abbrev S8x512 : Shape := ⟨2, ![8, 512]⟩
abbrev S1x256x1024 : Shape := ⟨3, ![1, 256, 1024]⟩
abbrev S256x1024 : Shape := ⟨2, ![256, 1024]⟩
abbrev S256x512 : Shape := ⟨2, ![256, 512]⟩
abbrev S40x512 : Shape := ⟨2, ![40, 512]⟩
abbrev S1x256x512 : Shape := ⟨3, ![1, 256, 512]⟩
abbrev S256 : Shape := ⟨1, ![256]⟩
abbrev S256x1 : Shape := ⟨2, ![256, 1]⟩
abbrev S288x512 : Shape := ⟨2, ![288, 512]⟩
abbrev S1x288x512 : Shape := ⟨3, ![1, 288, 512]⟩

abbrev nBuf : Space → Nat
  | .hbm => 249
  | .vmem => 19
  | .smem => 0
  | _ => 0

abbrev hbmTy0_0 (i : Nat) : BufTy := match i % 128 with
  | 0 => ⟨S4x2048x1024, .bf16⟩
  | 1 => ⟨S31x512, .f32⟩
  | 2 => ⟨S512, .f32⟩
  | 3 => ⟨S512, .f32⟩
  | 4 => ⟨S512, .f32⟩
  | 5 => ⟨S4x2048x512, .bf16⟩
  | 6 => ⟨S_, .i32⟩
  | 7 => ⟨S_, .f32⟩
  | 8 => ⟨S32x512, .f32⟩
  | 9 => ⟨S1x512, .f32⟩
  | 10 => ⟨S1x512, .f32⟩
  | 11 => ⟨S4x2048x1024, .f32⟩
  | 12 => ⟨S4x2048x512, .f32⟩
  | 13 => ⟨S4x2048x512, .f32⟩
  | 14 => ⟨S4x2048x512, .f32⟩
  | 15 => ⟨S4x2048x512, .f32⟩
  | 16 => ⟨S_, .f32⟩
  | 17 => ⟨S4x2048x512, .f32⟩
  | 18 => ⟨S4x2048x512, .f32⟩
  | 19 => ⟨S_, .f32⟩
  | 20 => ⟨S4x2048x512, .f32⟩
  | 21 => ⟨S4x2048x512, .f32⟩
  | 22 => ⟨S4x2048x512, .f32⟩
  | 23 => ⟨S_, .i32⟩
  | 24 => ⟨S_, .f32⟩
  | 25 => ⟨S4x2078x512, .f32⟩
  | 26 => ⟨S4x2048x512, .f32⟩
  | 27 => ⟨S1x512, .f32⟩
  | 28 => ⟨S512, .f32⟩
  | 29 => ⟨S4x2048x512, .f32⟩
  | 30 => ⟨S1x1x512, .f32⟩
  | 31 => ⟨S4x2048x512, .f32⟩
  | 32 => ⟨S4x2048x512, .f32⟩
  | 33 => ⟨S4x2048x512, .f32⟩
  | 34 => ⟨S1x512, .f32⟩
  | 35 => ⟨S512, .f32⟩
  | 36 => ⟨S4x2048x512, .f32⟩
  | 37 => ⟨S1x1x512, .f32⟩
  | 38 => ⟨S4x2048x512, .f32⟩
  | 39 => ⟨S4x2048x512, .f32⟩
  | 40 => ⟨S4x2048x512, .f32⟩
  | 41 => ⟨S1x512, .f32⟩
  | 42 => ⟨S512, .f32⟩
  | 43 => ⟨S4x2048x512, .f32⟩
  | 44 => ⟨S1x1x512, .f32⟩
  | 45 => ⟨S4x2048x512, .f32⟩
  | 46 => ⟨S4x2048x512, .f32⟩
  | 47 => ⟨S4x2048x512, .f32⟩
  | 48 => ⟨S1x512, .f32⟩
  | 49 => ⟨S512, .f32⟩
  | 50 => ⟨S4x2048x512, .f32⟩
  | 51 => ⟨S1x1x512, .f32⟩
  | 52 => ⟨S4x2048x512, .f32⟩
  | 53 => ⟨S4x2048x512, .f32⟩
  | 54 => ⟨S4x2048x512, .f32⟩
  | 55 => ⟨S1x512, .f32⟩
  | 56 => ⟨S512, .f32⟩
  | 57 => ⟨S4x2048x512, .f32⟩
  | 58 => ⟨S1x1x512, .f32⟩
  | 59 => ⟨S4x2048x512, .f32⟩
  | 60 => ⟨S4x2048x512, .f32⟩
  | 61 => ⟨S4x2048x512, .f32⟩
  | 62 => ⟨S1x512, .f32⟩
  | 63 => ⟨S512, .f32⟩
  | 64 => ⟨S4x2048x512, .f32⟩
  | 65 => ⟨S1x1x512, .f32⟩
  | 66 => ⟨S4x2048x512, .f32⟩
  | 67 => ⟨S4x2048x512, .f32⟩
  | 68 => ⟨S4x2048x512, .f32⟩
  | 69 => ⟨S1x512, .f32⟩
  | 70 => ⟨S512, .f32⟩
  | 71 => ⟨S4x2048x512, .f32⟩
  | 72 => ⟨S1x1x512, .f32⟩
  | 73 => ⟨S4x2048x512, .f32⟩
  | 74 => ⟨S4x2048x512, .f32⟩
  | 75 => ⟨S4x2048x512, .f32⟩
  | 76 => ⟨S1x512, .f32⟩
  | 77 => ⟨S512, .f32⟩
  | 78 => ⟨S4x2048x512, .f32⟩
  | 79 => ⟨S1x1x512, .f32⟩
  | 80 => ⟨S4x2048x512, .f32⟩
  | 81 => ⟨S4x2048x512, .f32⟩
  | 82 => ⟨S4x2048x512, .f32⟩
  | 83 => ⟨S1x512, .f32⟩
  | 84 => ⟨S512, .f32⟩
  | 85 => ⟨S4x2048x512, .f32⟩
  | 86 => ⟨S1x1x512, .f32⟩
  | 87 => ⟨S4x2048x512, .f32⟩
  | 88 => ⟨S4x2048x512, .f32⟩
  | 89 => ⟨S4x2048x512, .f32⟩
  | 90 => ⟨S1x512, .f32⟩
  | 91 => ⟨S512, .f32⟩
  | 92 => ⟨S4x2048x512, .f32⟩
  | 93 => ⟨S1x1x512, .f32⟩
  | 94 => ⟨S4x2048x512, .f32⟩
  | 95 => ⟨S4x2048x512, .f32⟩
  | 96 => ⟨S4x2048x512, .f32⟩
  | 97 => ⟨S1x512, .f32⟩
  | 98 => ⟨S512, .f32⟩
  | 99 => ⟨S4x2048x512, .f32⟩
  | 100 => ⟨S1x1x512, .f32⟩
  | 101 => ⟨S4x2048x512, .f32⟩
  | 102 => ⟨S4x2048x512, .f32⟩
  | 103 => ⟨S4x2048x512, .f32⟩
  | 104 => ⟨S1x512, .f32⟩
  | 105 => ⟨S512, .f32⟩
  | 106 => ⟨S4x2048x512, .f32⟩
  | 107 => ⟨S1x1x512, .f32⟩
  | 108 => ⟨S4x2048x512, .f32⟩
  | 109 => ⟨S4x2048x512, .f32⟩
  | 110 => ⟨S4x2048x512, .f32⟩
  | 111 => ⟨S1x512, .f32⟩
  | 112 => ⟨S512, .f32⟩
  | 113 => ⟨S4x2048x512, .f32⟩
  | 114 => ⟨S1x1x512, .f32⟩
  | 115 => ⟨S4x2048x512, .f32⟩
  | 116 => ⟨S4x2048x512, .f32⟩
  | 117 => ⟨S4x2048x512, .f32⟩
  | 118 => ⟨S1x512, .f32⟩
  | 119 => ⟨S512, .f32⟩
  | 120 => ⟨S4x2048x512, .f32⟩
  | 121 => ⟨S1x1x512, .f32⟩
  | 122 => ⟨S4x2048x512, .f32⟩
  | 123 => ⟨S4x2048x512, .f32⟩
  | 124 => ⟨S4x2048x512, .f32⟩
  | 125 => ⟨S1x512, .f32⟩
  | 126 => ⟨S512, .f32⟩
  | 127 => ⟨S4x2048x512, .f32⟩
  | _ => ⟨S4x2048x1024, .bf16⟩

abbrev hbmTy0_1 (i : Nat) : BufTy := match i % 128 with
  | 0 => ⟨S1x1x512, .f32⟩
  | 1 => ⟨S4x2048x512, .f32⟩
  | 2 => ⟨S4x2048x512, .f32⟩
  | 3 => ⟨S4x2048x512, .f32⟩
  | 4 => ⟨S1x512, .f32⟩
  | 5 => ⟨S512, .f32⟩
  | 6 => ⟨S4x2048x512, .f32⟩
  | 7 => ⟨S1x1x512, .f32⟩
  | 8 => ⟨S4x2048x512, .f32⟩
  | 9 => ⟨S4x2048x512, .f32⟩
  | 10 => ⟨S4x2048x512, .f32⟩
  | 11 => ⟨S1x512, .f32⟩
  | 12 => ⟨S512, .f32⟩
  | 13 => ⟨S4x2048x512, .f32⟩
  | 14 => ⟨S1x1x512, .f32⟩
  | 15 => ⟨S4x2048x512, .f32⟩
  | 16 => ⟨S4x2048x512, .f32⟩
  | 17 => ⟨S4x2048x512, .f32⟩
  | 18 => ⟨S1x512, .f32⟩
  | 19 => ⟨S512, .f32⟩
  | 20 => ⟨S4x2048x512, .f32⟩
  | 21 => ⟨S1x1x512, .f32⟩
  | 22 => ⟨S4x2048x512, .f32⟩
  | 23 => ⟨S4x2048x512, .f32⟩
  | 24 => ⟨S4x2048x512, .f32⟩
  | 25 => ⟨S1x512, .f32⟩
  | 26 => ⟨S512, .f32⟩
  | 27 => ⟨S4x2048x512, .f32⟩
  | 28 => ⟨S1x1x512, .f32⟩
  | 29 => ⟨S4x2048x512, .f32⟩
  | 30 => ⟨S4x2048x512, .f32⟩
  | 31 => ⟨S4x2048x512, .f32⟩
  | 32 => ⟨S1x512, .f32⟩
  | 33 => ⟨S512, .f32⟩
  | 34 => ⟨S4x2048x512, .f32⟩
  | 35 => ⟨S1x1x512, .f32⟩
  | 36 => ⟨S4x2048x512, .f32⟩
  | 37 => ⟨S4x2048x512, .f32⟩
  | 38 => ⟨S4x2048x512, .f32⟩
  | 39 => ⟨S1x512, .f32⟩
  | 40 => ⟨S512, .f32⟩
  | 41 => ⟨S4x2048x512, .f32⟩
  | 42 => ⟨S1x1x512, .f32⟩
  | 43 => ⟨S4x2048x512, .f32⟩
  | 44 => ⟨S4x2048x512, .f32⟩
  | 45 => ⟨S4x2048x512, .f32⟩
  | 46 => ⟨S1x512, .f32⟩
  | 47 => ⟨S512, .f32⟩
  | 48 => ⟨S4x2048x512, .f32⟩
  | 49 => ⟨S1x1x512, .f32⟩
  | 50 => ⟨S4x2048x512, .f32⟩
  | 51 => ⟨S4x2048x512, .f32⟩
  | 52 => ⟨S4x2048x512, .f32⟩
  | 53 => ⟨S1x512, .f32⟩
  | 54 => ⟨S512, .f32⟩
  | 55 => ⟨S4x2048x512, .f32⟩
  | 56 => ⟨S1x1x512, .f32⟩
  | 57 => ⟨S4x2048x512, .f32⟩
  | 58 => ⟨S4x2048x512, .f32⟩
  | 59 => ⟨S4x2048x512, .f32⟩
  | 60 => ⟨S1x512, .f32⟩
  | 61 => ⟨S512, .f32⟩
  | 62 => ⟨S4x2048x512, .f32⟩
  | 63 => ⟨S1x1x512, .f32⟩
  | 64 => ⟨S4x2048x512, .f32⟩
  | 65 => ⟨S4x2048x512, .f32⟩
  | 66 => ⟨S4x2048x512, .f32⟩
  | 67 => ⟨S1x512, .f32⟩
  | 68 => ⟨S512, .f32⟩
  | 69 => ⟨S4x2048x512, .f32⟩
  | 70 => ⟨S1x1x512, .f32⟩
  | 71 => ⟨S4x2048x512, .f32⟩
  | 72 => ⟨S4x2048x512, .f32⟩
  | 73 => ⟨S4x2048x512, .f32⟩
  | 74 => ⟨S1x512, .f32⟩
  | 75 => ⟨S512, .f32⟩
  | 76 => ⟨S4x2048x512, .f32⟩
  | 77 => ⟨S1x1x512, .f32⟩
  | 78 => ⟨S4x2048x512, .f32⟩
  | 79 => ⟨S4x2048x512, .f32⟩
  | 80 => ⟨S4x2048x512, .f32⟩
  | 81 => ⟨S1x512, .f32⟩
  | 82 => ⟨S512, .f32⟩
  | 83 => ⟨S4x2048x512, .f32⟩
  | 84 => ⟨S1x1x512, .f32⟩
  | 85 => ⟨S4x2048x512, .f32⟩
  | 86 => ⟨S4x2048x512, .f32⟩
  | 87 => ⟨S4x2048x512, .f32⟩
  | 88 => ⟨S1x512, .f32⟩
  | 89 => ⟨S512, .f32⟩
  | 90 => ⟨S4x2048x512, .f32⟩
  | 91 => ⟨S1x1x512, .f32⟩
  | 92 => ⟨S4x2048x512, .f32⟩
  | 93 => ⟨S4x2048x512, .f32⟩
  | 94 => ⟨S4x2048x512, .f32⟩
  | 95 => ⟨S1x512, .f32⟩
  | 96 => ⟨S512, .f32⟩
  | 97 => ⟨S4x2048x512, .f32⟩
  | 98 => ⟨S1x1x512, .f32⟩
  | 99 => ⟨S4x2048x512, .f32⟩
  | 100 => ⟨S4x2048x512, .f32⟩
  | 101 => ⟨S4x2048x512, .f32⟩
  | 102 => ⟨S1x512, .f32⟩
  | 103 => ⟨S512, .f32⟩
  | 104 => ⟨S4x2048x512, .f32⟩
  | 105 => ⟨S1x1x512, .f32⟩
  | 106 => ⟨S4x2048x512, .f32⟩
  | 107 => ⟨S4x2048x512, .f32⟩
  | 108 => ⟨S4x2048x512, .f32⟩
  | 109 => ⟨S1x512, .f32⟩
  | 110 => ⟨S512, .f32⟩
  | 111 => ⟨S4x2048x512, .f32⟩
  | 112 => ⟨S1x1x512, .f32⟩
  | 113 => ⟨S4x2048x512, .f32⟩
  | 114 => ⟨S4x2048x512, .f32⟩
  | 115 => ⟨S4x2048x512, .f32⟩
  | 116 => ⟨S4x2048x1024, .bf16⟩
  | 117 => ⟨S32x512, .f32⟩
  | 118 => ⟨S1x512, .f32⟩
  | 119 => ⟨S1x512, .f32⟩
  | 120 => ⟨S1x512, .f32⟩
  | _ => ⟨S4x2048x1024, .bf16⟩

abbrev hbmTy (i : Nat) : BufTy := match i / 128 with
  | 0 => hbmTy0_0 i
  | 1 => hbmTy0_1 i
  | _ => ⟨S4x2048x1024, .bf16⟩

abbrev bufTy : (tb : Table) → Fin (tcTables nBuf tb) → BufTy
  | .hbm, ⟨i, _⟩ => hbmTy i
  | .local _ .vmem, ⟨0, _⟩ => ⟨S1x2048x1024, .bf16⟩
  | .local _ .vmem, ⟨1, _⟩ => ⟨S1x2048x1024, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .bf16⟩
  | .local _ .vmem, ⟨5, _⟩ => ⟨S1x2048x512, .bf16⟩
  | .local _ .vmem, ⟨6, _⟩ => ⟨S32x512, .f32⟩
  | .local _ .vmem, ⟨7, _⟩ => ⟨S1x512, .f32⟩
  | .local _ .vmem, ⟨8, _⟩ => ⟨S1x512, .f32⟩
  | .local _ .vmem, ⟨9, _⟩ => ⟨S1x2048x1024, .bf16⟩
  | .local _ .vmem, ⟨10, _⟩ => ⟨S1x2048x1024, .bf16⟩
  | .local _ .vmem, ⟨11, _⟩ => ⟨S32x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S2088x512, .f32⟩
  | .local _ .vmem, ⟨16, _⟩ => ⟨S2088x512, .f32⟩
  | .local _ .vmem, ⟨17, _⟩ => ⟨S8x288x512, .f32⟩
  | .local _ .vmem, ⟨18, _⟩ => ⟨S8x288x512, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_call1_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_v213 : Ref sig .tc := ⟨.hbm, 225, rfl⟩
abbrev main_v214 : Ref sig .tc := ⟨.hbm, 226, rfl⟩
abbrev main_v215 : Ref sig .tc := ⟨.hbm, 227, rfl⟩
abbrev main_v216 : Ref sig .tc := ⟨.hbm, 228, rfl⟩
abbrev main_v217 : Ref sig .tc := ⟨.hbm, 229, rfl⟩
abbrev main_v218 : Ref sig .tc := ⟨.hbm, 230, rfl⟩
abbrev main_v219 : Ref sig .tc := ⟨.hbm, 231, rfl⟩
abbrev main_v220 : Ref sig .tc := ⟨.hbm, 232, rfl⟩
abbrev main_v221 : Ref sig .tc := ⟨.hbm, 233, rfl⟩
abbrev main_v222 : Ref sig .tc := ⟨.hbm, 234, rfl⟩
abbrev main_v223 : Ref sig .tc := ⟨.hbm, 235, rfl⟩
abbrev main_v224 : Ref sig .tc := ⟨.hbm, 236, rfl⟩
abbrev main_v225 : Ref sig .tc := ⟨.hbm, 237, rfl⟩
abbrev main_v226 : Ref sig .tc := ⟨.hbm, 238, rfl⟩
abbrev main_v227 : Ref sig .tc := ⟨.hbm, 239, rfl⟩
abbrev main_v228 : Ref sig .tc := ⟨.hbm, 240, rfl⟩
abbrev main_v229 : Ref sig .tc := ⟨.hbm, 241, rfl⟩
abbrev main_v230 : Ref sig .tc := ⟨.hbm, 242, rfl⟩
abbrev main_v231 : Ref sig .tc := ⟨.hbm, 243, rfl⟩
abbrev main_v232_0 : Ref sig .tc := ⟨.hbm, 244, rfl⟩
abbrev main_v232_1 : Ref sig .tc := ⟨.hbm, 245, rfl⟩
abbrev main_v232_2 : Ref sig .tc := ⟨.hbm, 246, rfl⟩
abbrev main_v232_3 : Ref sig .tc := ⟨.hbm, 247, rfl⟩
abbrev main_v232_4 : Ref sig .tc := ⟨.hbm, 248, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference7Ideal.lean ====
abbrev S4x2048x1024 : Shape := ⟨3, ![4, 2048, 1024]⟩
abbrev S31x512 : Shape := ⟨2, ![31, 512]⟩
abbrev S512 : Shape := ⟨1, ![512]⟩
abbrev S4x2048x512 : Shape := ⟨3, ![4, 2048, 512]⟩
abbrev S_ : Shape := ⟨0, ![]⟩
abbrev S4x30x512 : Shape := ⟨3, ![4, 30, 512]⟩
abbrev S4x2078x512 : Shape := ⟨3, ![4, 2078, 512]⟩
abbrev S1x4x2048x512 : Shape := ⟨4, ![1, 4, 2048, 512]⟩
abbrev S16x4x2048x512 : Shape := ⟨4, ![16, 4, 2048, 512]⟩
abbrev S15x4x2048x512 : Shape := ⟨4, ![15, 4, 2048, 512]⟩
abbrev S31x4x2048x512 : Shape := ⟨4, ![31, 4, 2048, 512]⟩
abbrev S31x1x1x512 : Shape := ⟨4, ![31, 1, 1, 512]⟩
abbrev S1x1x512 : Shape := ⟨3, ![1, 1, 512]⟩
abbrev S4x2048 : Shape := ⟨2, ![4, 2048]⟩
abbrev S4x2048x1 : Shape := ⟨3, ![4, 2048, 1]⟩
abbrev S32x512 : Shape := ⟨2, ![32, 512]⟩
abbrev S1x512 : Shape := ⟨2, ![1, 512]⟩

abbrev nBuf : Space → Nat
  | .hbm => 379
  | .vmem => 0
  | .smem => 0
  | _ => 0

abbrev hbmTy0_0 (i : Nat) : BufTy := match i % 128 with
  | 0 => ⟨S4x2048x1024, .bf16⟩
  | 1 => ⟨S31x512, .f32⟩
  | 2 => ⟨S512, .f32⟩
  | 3 => ⟨S512, .f32⟩
  | 4 => ⟨S512, .f32⟩
  | 5 => ⟨S4x2048x512, .bf16⟩
  | 6 => ⟨S4x2048x1024, .f32⟩
  | 7 => ⟨S4x2048x512, .f32⟩
  | 8 => ⟨S4x2048x512, .f32⟩
  | 9 => ⟨S4x2048x512, .f32⟩
  | 10 => ⟨S4x2048x512, .f32⟩
  | 11 => ⟨S_, .f32⟩
  | 12 => ⟨S4x2048x512, .f32⟩
  | 13 => ⟨S4x2048x512, .f32⟩
  | 14 => ⟨S_, .f32⟩
  | 15 => ⟨S4x2048x512, .f32⟩
  | 16 => ⟨S4x2048x512, .f32⟩
  | 17 => ⟨S_, .f32⟩
  | 18 => ⟨S4x2048x512, .f32⟩
  | 19 => ⟨S4x2048x512, .f32⟩
  | 20 => ⟨S4x2048x512, .f32⟩
  | 21 => ⟨S4x2048x512, .f32⟩
  | 22 => ⟨S_, .f32⟩
  | 23 => ⟨S4x30x512, .f32⟩
  | 24 => ⟨S4x2078x512, .f32⟩
  | 25 => ⟨S_, .f32⟩
  | 26 => ⟨S4x30x512, .f32⟩
  | 27 => ⟨S4x2048x512, .f32⟩
  | 28 => ⟨S4x2048x512, .f32⟩
  | 29 => ⟨S4x2048x512, .f32⟩
  | 30 => ⟨S4x2048x512, .f32⟩
  | 31 => ⟨S4x2048x512, .f32⟩
  | 32 => ⟨S4x2048x512, .f32⟩
  | 33 => ⟨S4x2048x512, .f32⟩
  | 34 => ⟨S4x2048x512, .f32⟩
  | 35 => ⟨S4x2048x512, .f32⟩
  | 36 => ⟨S4x2048x512, .f32⟩
  | 37 => ⟨S4x2048x512, .f32⟩
  | 38 => ⟨S4x2048x512, .f32⟩
  | 39 => ⟨S4x2048x512, .f32⟩
  | 40 => ⟨S4x2048x512, .f32⟩
  | 41 => ⟨S4x2048x512, .f32⟩
  | 42 => ⟨S4x2048x512, .f32⟩
  | 43 => ⟨S4x2048x512, .f32⟩
  | 44 => ⟨S4x2048x512, .f32⟩
  | 45 => ⟨S4x2048x512, .f32⟩
  | 46 => ⟨S4x2048x512, .f32⟩
  | 47 => ⟨S4x2048x512, .f32⟩
  | 48 => ⟨S4x2048x512, .f32⟩
  | 49 => ⟨S4x2048x512, .f32⟩
  | 50 => ⟨S4x2048x512, .f32⟩
  | 51 => ⟨S4x2048x512, .f32⟩
  | 52 => ⟨S4x2048x512, .f32⟩
  | 53 => ⟨S4x2048x512, .f32⟩
  | 54 => ⟨S4x2048x512, .f32⟩
  | 55 => ⟨S4x2048x512, .f32⟩
  | 56 => ⟨S4x2048x512, .f32⟩
  | 57 => ⟨S4x2048x512, .f32⟩
  | 58 => ⟨S1x4x2048x512, .f32⟩
  | 59 => ⟨S1x4x2048x512, .f32⟩
  | 60 => ⟨S1x4x2048x512, .f32⟩
  | 61 => ⟨S1x4x2048x512, .f32⟩
  | 62 => ⟨S1x4x2048x512, .f32⟩
  | 63 => ⟨S1x4x2048x512, .f32⟩
  | 64 => ⟨S1x4x2048x512, .f32⟩
  | 65 => ⟨S1x4x2048x512, .f32⟩
  | 66 => ⟨S1x4x2048x512, .f32⟩
  | 67 => ⟨S1x4x2048x512, .f32⟩
  | 68 => ⟨S1x4x2048x512, .f32⟩
  | 69 => ⟨S1x4x2048x512, .f32⟩
  | 70 => ⟨S1x4x2048x512, .f32⟩
  | 71 => ⟨S1x4x2048x512, .f32⟩
  | 72 => ⟨S1x4x2048x512, .f32⟩
  | 73 => ⟨S1x4x2048x512, .f32⟩
  | 74 => ⟨S1x4x2048x512, .f32⟩
  | 75 => ⟨S1x4x2048x512, .f32⟩
  | 76 => ⟨S1x4x2048x512, .f32⟩
  | 77 => ⟨S1x4x2048x512, .f32⟩
  | 78 => ⟨S1x4x2048x512, .f32⟩
  | 79 => ⟨S1x4x2048x512, .f32⟩
  | 80 => ⟨S1x4x2048x512, .f32⟩
  | 81 => ⟨S1x4x2048x512, .f32⟩
  | 82 => ⟨S1x4x2048x512, .f32⟩
  | 83 => ⟨S1x4x2048x512, .f32⟩
  | 84 => ⟨S1x4x2048x512, .f32⟩
  | 85 => ⟨S1x4x2048x512, .f32⟩
  | 86 => ⟨S1x4x2048x512, .f32⟩
  | 87 => ⟨S1x4x2048x512, .f32⟩
  | 88 => ⟨S1x4x2048x512, .f32⟩
  | 89 => ⟨S16x4x2048x512, .f32⟩
  | 90 => ⟨S15x4x2048x512, .f32⟩
  | 91 => ⟨S31x4x2048x512, .f32⟩
  | 92 => ⟨S31x1x1x512, .f32⟩
  | 93 => ⟨S31x4x2048x512, .f32⟩
  | 94 => ⟨S31x4x2048x512, .f32⟩
  | 95 => ⟨S_, .f32⟩
  | 96 => ⟨S4x2048x512, .f32⟩
  | 97 => ⟨S1x1x512, .f32⟩
  | 98 => ⟨S4x2048x512, .f32⟩
  | 99 => ⟨S4x2048x512, .f32⟩
  | 100 => ⟨S_, .f32⟩
  | 101 => ⟨S4x2048, .f32⟩
  | 102 => ⟨S4x2048x1, .f32⟩
  | 103 => ⟨S_, .f32⟩
  | 104 => ⟨S4x2048x1, .f32⟩
  | 105 => ⟨S4x2048x1, .f32⟩
  | 106 => ⟨S4x2048x512, .f32⟩
  | 107 => ⟨S4x2048x512, .f32⟩
  | 108 => ⟨S4x2048x512, .f32⟩
  | 109 => ⟨S_, .f32⟩
  | 110 => ⟨S4x2048x512, .f32⟩
  | 111 => ⟨S4x2048x512, .f32⟩
  | 112 => ⟨S_, .f32⟩
  | 113 => ⟨S4x2048, .f32⟩
  | 114 => ⟨S4x2048x1, .f32⟩
  | 115 => ⟨S_, .f32⟩
  | 116 => ⟨S4x2048x1, .f32⟩
  | 117 => ⟨S4x2048x1, .f32⟩
  | 118 => ⟨S4x2048x512, .f32⟩
  | 119 => ⟨S4x2048x512, .f32⟩
  | 120 => ⟨S_, .f32⟩
  | 121 => ⟨S4x2048x1, .f32⟩
  | 122 => ⟨S4x2048x1, .f32⟩
  | 123 => ⟨S4x2048x1, .f32⟩
  | 124 => ⟨S4x2048x1, .f32⟩
  | 125 => ⟨S_, .f32⟩
  | 126 => ⟨S4x2048x1, .f32⟩
  | 127 => ⟨S4x2048x1, .f32⟩
  | _ => ⟨S4x2048x1024, .bf16⟩

abbrev hbmTy0_1 (i : Nat) : BufTy := match i % 128 with
  | 0 => ⟨S4x2048x512, .f32⟩
  | 1 => ⟨S4x2048x512, .f32⟩
  | 2 => ⟨S1x1x512, .f32⟩
  | 3 => ⟨S4x2048x512, .f32⟩
  | 4 => ⟨S4x2048x512, .f32⟩
  | 5 => ⟨S1x1x512, .f32⟩
  | 6 => ⟨S4x2048x512, .f32⟩
  | 7 => ⟨S4x2048x512, .f32⟩
  | 8 => ⟨S4x2048x512, .f32⟩
  | 9 => ⟨S4x2048x512, .f32⟩
  | 10 => ⟨S_, .f32⟩
  | 11 => ⟨S4x2048x512, .f32⟩
  | 12 => ⟨S4x2048x512, .f32⟩
  | 13 => ⟨S_, .f32⟩
  | 14 => ⟨S4x2048x512, .f32⟩
  | 15 => ⟨S4x2048x512, .f32⟩
  | 16 => ⟨S_, .f32⟩
  | 17 => ⟨S4x2048x512, .f32⟩
  | 18 => ⟨S4x2048x512, .f32⟩
  | 19 => ⟨S4x2048x512, .f32⟩
  | 20 => ⟨S4x2048x512, .f32⟩
  | 21 => ⟨S4x2048x512, .f32⟩
  | 22 => ⟨S4x2048x512, .f32⟩
  | 23 => ⟨S4x2048x512, .f32⟩
  | 24 => ⟨S4x2048x512, .f32⟩
  | 25 => ⟨S4x2048x512, .f32⟩
  | 26 => ⟨S_, .f32⟩
  | 27 => ⟨S512, .f32⟩
  | 28 => ⟨S1x1x512, .f32⟩
  | 29 => ⟨S_, .f32⟩
  | 30 => ⟨S512, .f32⟩
  | 31 => ⟨S4x2048x512, .f32⟩
  | 32 => ⟨S_, .f32⟩
  | 33 => ⟨S512, .f32⟩
  | 34 => ⟨S1x1x512, .f32⟩
  | 35 => ⟨S4x2048x512, .f32⟩
  | 36 => ⟨S4x2048x512, .f32⟩
  | 37 => ⟨S_, .f32⟩
  | 38 => ⟨S512, .f32⟩
  | 39 => ⟨S4x2048x512, .f32⟩
  | 40 => ⟨S_, .f32⟩
  | 41 => ⟨S4x2048, .f32⟩
  | 42 => ⟨S4x2048x1, .f32⟩
  | 43 => ⟨S4x2048x512, .f32⟩
  | 44 => ⟨S4x2048x512, .f32⟩
  | 45 => ⟨S4x2048x1, .f32⟩
  | 46 => ⟨S4x2048x512, .f32⟩
  | 47 => ⟨S_, .f32⟩
  | 48 => ⟨S4x2048, .f32⟩
  | 49 => ⟨S4x2048x1, .f32⟩
  | 50 => ⟨S_, .f32⟩
  | 51 => ⟨S4x2048x1, .f32⟩
  | 52 => ⟨S4x2048x1, .f32⟩
  | 53 => ⟨S_, .f32⟩
  | 54 => ⟨S4x2048, .f32⟩
  | 55 => ⟨S4x2048x512, .f32⟩
  | 56 => ⟨S4x2048x512, .f32⟩
  | 57 => ⟨S4x2048x512, .f32⟩
  | 58 => ⟨S_, .f32⟩
  | 59 => ⟨S4x2048, .f32⟩
  | 60 => ⟨S4x2048x1, .f32⟩
  | 61 => ⟨S4x2048x512, .f32⟩
  | 62 => ⟨S4x2048x1, .f32⟩
  | 63 => ⟨S_, .f32⟩
  | 64 => ⟨S4x2048x1, .f32⟩
  | 65 => ⟨S4x2048x1, .f32⟩
  | 66 => ⟨S_, .f32⟩
  | 67 => ⟨S4x2048, .f32⟩
  | 68 => ⟨S4x2048x512, .f32⟩
  | 69 => ⟨S4x2048x512, .f32⟩
  | 70 => ⟨S_, .f32⟩
  | 71 => ⟨S512, .f32⟩
  | 72 => ⟨S1x1x512, .f32⟩
  | 73 => ⟨S_, .f32⟩
  | 74 => ⟨S512, .f32⟩
  | 75 => ⟨S31x4x2048x512, .f32⟩
  | 76 => ⟨S31x4x2048x512, .f32⟩
  | 77 => ⟨S_, .f32⟩
  | 78 => ⟨S31x512, .f32⟩
  | 79 => ⟨S31x1x1x512, .f32⟩
  | 80 => ⟨S31x4x2048x512, .f32⟩
  | 81 => ⟨S31x4x2048x512, .f32⟩
  | 82 => ⟨S_, .f32⟩
  | 83 => ⟨S31x512, .f32⟩
  | 84 => ⟨S1x4x2048x512, .f32⟩
  | 85 => ⟨S4x2048x512, .f32⟩
  | 86 => ⟨S1x4x2048x512, .f32⟩
  | 87 => ⟨S4x2048x512, .f32⟩
  | 88 => ⟨S1x4x2048x512, .f32⟩
  | 89 => ⟨S4x2048x512, .f32⟩
  | 90 => ⟨S1x4x2048x512, .f32⟩
  | 91 => ⟨S4x2048x512, .f32⟩
  | 92 => ⟨S1x4x2048x512, .f32⟩
  | 93 => ⟨S4x2048x512, .f32⟩
  | 94 => ⟨S1x4x2048x512, .f32⟩
  | 95 => ⟨S4x2048x512, .f32⟩
  | 96 => ⟨S1x4x2048x512, .f32⟩
  | 97 => ⟨S4x2048x512, .f32⟩
  | 98 => ⟨S1x4x2048x512, .f32⟩
  | 99 => ⟨S4x2048x512, .f32⟩
  | 100 => ⟨S1x4x2048x512, .f32⟩
  | 101 => ⟨S4x2048x512, .f32⟩
  | 102 => ⟨S1x4x2048x512, .f32⟩
  | 103 => ⟨S4x2048x512, .f32⟩
  | 104 => ⟨S1x4x2048x512, .f32⟩
  | 105 => ⟨S4x2048x512, .f32⟩
  | 106 => ⟨S1x4x2048x512, .f32⟩
  | 107 => ⟨S4x2048x512, .f32⟩
  | 108 => ⟨S1x4x2048x512, .f32⟩
  | 109 => ⟨S4x2048x512, .f32⟩
  | 110 => ⟨S1x4x2048x512, .f32⟩
  | 111 => ⟨S4x2048x512, .f32⟩
  | 112 => ⟨S1x4x2048x512, .f32⟩
  | 113 => ⟨S4x2048x512, .f32⟩
  | 114 => ⟨S1x4x2048x512, .f32⟩
  | 115 => ⟨S4x2048x512, .f32⟩
  | 116 => ⟨S1x4x2048x512, .f32⟩
  | 117 => ⟨S4x2048x512, .f32⟩
  | 118 => ⟨S1x4x2048x512, .f32⟩
  | 119 => ⟨S4x2048x512, .f32⟩
  | 120 => ⟨S1x4x2048x512, .f32⟩
  | 121 => ⟨S4x2048x512, .f32⟩
  | 122 => ⟨S1x4x2048x512, .f32⟩
  | 123 => ⟨S4x2048x512, .f32⟩
  | 124 => ⟨S1x4x2048x512, .f32⟩
  | 125 => ⟨S4x2048x512, .f32⟩
  | 126 => ⟨S1x4x2048x512, .f32⟩
  | 127 => ⟨S4x2048x512, .f32⟩
  | _ => ⟨S4x2048x1024, .bf16⟩

abbrev hbmTy0_2 (i : Nat) : BufTy := match i % 128 with
  | 0 => ⟨S1x4x2048x512, .f32⟩
  | 1 => ⟨S4x2048x512, .f32⟩
  | 2 => ⟨S1x4x2048x512, .f32⟩
  | 3 => ⟨S4x2048x512, .f32⟩
  | 4 => ⟨S1x4x2048x512, .f32⟩
  | 5 => ⟨S4x2048x512, .f32⟩
  | 6 => ⟨S1x4x2048x512, .f32⟩
  | 7 => ⟨S4x2048x512, .f32⟩
  | 8 => ⟨S1x4x2048x512, .f32⟩
  | 9 => ⟨S4x2048x512, .f32⟩
  | 10 => ⟨S1x4x2048x512, .f32⟩
  | 11 => ⟨S4x2048x512, .f32⟩
  | 12 => ⟨S1x4x2048x512, .f32⟩
  | 13 => ⟨S4x2048x512, .f32⟩
  | 14 => ⟨S1x4x2048x512, .f32⟩
  | 15 => ⟨S4x2048x512, .f32⟩
  | 16 => ⟨S1x4x2048x512, .f32⟩
  | 17 => ⟨S4x2048x512, .f32⟩
  | 18 => ⟨S_, .f32⟩
  | 19 => ⟨S4x2078x512, .f32⟩
  | 20 => ⟨S_, .f32⟩
  | 21 => ⟨S4x2078x512, .f32⟩
  | 22 => ⟨S4x2078x512, .f32⟩
  | 23 => ⟨S_, .f32⟩
  | 24 => ⟨S4x2078x512, .f32⟩
  | 25 => ⟨S4x2078x512, .f32⟩
  | 26 => ⟨S_, .f32⟩
  | 27 => ⟨S4x2078x512, .f32⟩
  | 28 => ⟨S4x2078x512, .f32⟩
  | 29 => ⟨S_, .f32⟩
  | 30 => ⟨S4x2078x512, .f32⟩
  | 31 => ⟨S4x2078x512, .f32⟩
  | 32 => ⟨S_, .f32⟩
  | 33 => ⟨S4x2078x512, .f32⟩
  | 34 => ⟨S4x2078x512, .f32⟩
  | 35 => ⟨S_, .f32⟩
  | 36 => ⟨S4x2078x512, .f32⟩
  | 37 => ⟨S4x2078x512, .f32⟩
  | 38 => ⟨S_, .f32⟩
  | 39 => ⟨S4x2078x512, .f32⟩
  | 40 => ⟨S4x2078x512, .f32⟩
  | 41 => ⟨S_, .f32⟩
  | 42 => ⟨S4x2078x512, .f32⟩
  | 43 => ⟨S4x2078x512, .f32⟩
  | 44 => ⟨S_, .f32⟩
  | 45 => ⟨S4x2078x512, .f32⟩
  | 46 => ⟨S4x2078x512, .f32⟩
  | 47 => ⟨S_, .f32⟩
  | 48 => ⟨S4x2078x512, .f32⟩
  | 49 => ⟨S4x2078x512, .f32⟩
  | 50 => ⟨S_, .f32⟩
  | 51 => ⟨S4x2078x512, .f32⟩
  | 52 => ⟨S4x2078x512, .f32⟩
  | 53 => ⟨S_, .f32⟩
  | 54 => ⟨S4x2078x512, .f32⟩
  | 55 => ⟨S4x2078x512, .f32⟩
  | 56 => ⟨S_, .f32⟩
  | 57 => ⟨S4x2078x512, .f32⟩
  | 58 => ⟨S4x2078x512, .f32⟩
  | 59 => ⟨S_, .f32⟩
  | 60 => ⟨S4x2078x512, .f32⟩
  | 61 => ⟨S4x2078x512, .f32⟩
  | 62 => ⟨S_, .f32⟩
  | 63 => ⟨S4x2078x512, .f32⟩
  | 64 => ⟨S4x2078x512, .f32⟩
  | 65 => ⟨S_, .f32⟩
  | 66 => ⟨S4x2078x512, .f32⟩
  | 67 => ⟨S4x2078x512, .f32⟩
  | 68 => ⟨S_, .f32⟩
  | 69 => ⟨S4x2078x512, .f32⟩
  | 70 => ⟨S4x2078x512, .f32⟩
  | 71 => ⟨S_, .f32⟩
  | 72 => ⟨S4x2078x512, .f32⟩
  | 73 => ⟨S4x2078x512, .f32⟩
  | 74 => ⟨S_, .f32⟩
  | 75 => ⟨S4x2078x512, .f32⟩
  | 76 => ⟨S4x2078x512, .f32⟩
  | 77 => ⟨S_, .f32⟩
  | 78 => ⟨S4x2078x512, .f32⟩
  | 79 => ⟨S4x2078x512, .f32⟩
  | 80 => ⟨S_, .f32⟩
  | 81 => ⟨S4x2078x512, .f32⟩
  | 82 => ⟨S4x2078x512, .f32⟩
  | 83 => ⟨S_, .f32⟩
  | 84 => ⟨S4x2078x512, .f32⟩
  | 85 => ⟨S4x2078x512, .f32⟩
  | 86 => ⟨S_, .f32⟩
  | 87 => ⟨S4x2078x512, .f32⟩
  | 88 => ⟨S4x2078x512, .f32⟩
  | 89 => ⟨S_, .f32⟩
  | 90 => ⟨S4x2078x512, .f32⟩
  | 91 => ⟨S4x2078x512, .f32⟩
  | 92 => ⟨S_, .f32⟩
  | 93 => ⟨S4x2078x512, .f32⟩
  | 94 => ⟨S4x2078x512, .f32⟩
  | 95 => ⟨S_, .f32⟩
  | 96 => ⟨S4x2078x512, .f32⟩
  | 97 => ⟨S4x2078x512, .f32⟩
  | 98 => ⟨S_, .f32⟩
  | 99 => ⟨S4x2078x512, .f32⟩
  | 100 => ⟨S4x2078x512, .f32⟩
  | 101 => ⟨S_, .f32⟩
  | 102 => ⟨S4x2078x512, .f32⟩
  | 103 => ⟨S4x2078x512, .f32⟩
  | 104 => ⟨S_, .f32⟩
  | 105 => ⟨S4x2078x512, .f32⟩
  | 106 => ⟨S4x2078x512, .f32⟩
  | 107 => ⟨S_, .f32⟩
  | 108 => ⟨S4x2078x512, .f32⟩
  | 109 => ⟨S4x2078x512, .f32⟩
  | 110 => ⟨S4x30x512, .f32⟩
  | 111 => ⟨S4x2048x512, .f32⟩
  | 112 => ⟨S4x2048x512, .f32⟩
  | 113 => ⟨S4x2048x512, .f32⟩
  | 114 => ⟨S4x2048x512, .f32⟩
  | 115 => ⟨S4x2048x1024, .f32⟩
  | 116 => ⟨S4x2048x1024, .bf16⟩
  | 117 => ⟨S_, .i32⟩
  | 118 => ⟨S_, .f32⟩
  | 119 => ⟨S32x512, .f32⟩
  | 120 => ⟨S1x512, .f32⟩
  | 121 => ⟨S1x512, .f32⟩
  | 122 => ⟨S1x512, .f32⟩
  | _ => ⟨S4x2048x1024, .bf16⟩

abbrev hbmTy (i : Nat) : BufTy := match i / 128 with
  | 0 => hbmTy0_0 i
  | 1 => hbmTy0_1 i
  | 2 => hbmTy0_2 i
  | _ => ⟨S4x2048x1024, .bf16⟩

abbrev bufTy : (tb : Table) → Fin (tcTables nBuf tb) → BufTy
  | .hbm, ⟨i, _⟩ => hbmTy i
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_cst_4 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_cst_5 : Ref sig .tc := ⟨.hbm, 100, rfl⟩
abbrev main_v88 : Ref sig .tc := ⟨.hbm, 101, rfl⟩
abbrev main_v89 : Ref sig .tc := ⟨.hbm, 102, rfl⟩
abbrev main_cst_6 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_cst_7 : Ref sig .tc := ⟨.hbm, 109, rfl⟩
abbrev main_v95 : Ref sig .tc := ⟨.hbm, 110, rfl⟩
abbrev main_v96 : Ref sig .tc := ⟨.hbm, 111, rfl⟩
abbrev main_cst_8 : Ref sig .tc := ⟨.hbm, 112, rfl⟩
abbrev main_v97 : Ref sig .tc := ⟨.hbm, 113, rfl⟩
abbrev main_v98 : Ref sig .tc := ⟨.hbm, 114, rfl⟩
abbrev main_cst_9 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_cst_10 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_cst_11 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_call0_v0 : Ref sig .tc := ⟨.hbm, 136, rfl⟩
abbrev main_call0_v1 : Ref sig .tc := ⟨.hbm, 137, rfl⟩
abbrev main_call0_cst : Ref sig .tc := ⟨.hbm, 138, rfl⟩
abbrev main_call0_v2 : Ref sig .tc := ⟨.hbm, 139, rfl⟩
abbrev main_call0_v3 : Ref sig .tc := ⟨.hbm, 140, rfl⟩
abbrev main_call0_cst_0 : Ref sig .tc := ⟨.hbm, 141, rfl⟩
abbrev main_call0_v4 : Ref sig .tc := ⟨.hbm, 142, rfl⟩
abbrev main_v117_2 : Ref sig .tc := ⟨.hbm, 143, rfl⟩
abbrev main_call0_cst_1 : Ref sig .tc := ⟨.hbm, 144, rfl⟩
abbrev main_call0_v6 : Ref sig .tc := ⟨.hbm, 145, rfl⟩
abbrev main_call0_v7 : Ref sig .tc := ⟨.hbm, 146, rfl⟩
abbrev main_v117_1 : Ref sig .tc := ⟨.hbm, 147, rfl⟩
abbrev main_v117_0 : Ref sig .tc := ⟨.hbm, 148, rfl⟩
abbrev main_v118 : Ref sig .tc := ⟨.hbm, 149, rfl⟩
abbrev main_call1_v0 : Ref sig .tc := ⟨.hbm, 150, rfl⟩
abbrev main_call1_v1 : Ref sig .tc := ⟨.hbm, 151, rfl⟩
abbrev main_call1_v2 : Ref sig .tc := ⟨.hbm, 152, rfl⟩
abbrev main_v119 : Ref sig .tc := ⟨.hbm, 153, rfl⟩
abbrev main_cst_12 : Ref sig .tc := ⟨.hbm, 154, rfl⟩
abbrev main_v120 : Ref sig .tc := ⟨.hbm, 155, rfl⟩
abbrev main_v121 : Ref sig .tc := ⟨.hbm, 156, rfl⟩
abbrev main_cst_13 : Ref sig .tc := ⟨.hbm, 157, rfl⟩
abbrev main_v122 : Ref sig .tc := ⟨.hbm, 158, rfl⟩
abbrev main_v123 : Ref sig .tc := ⟨.hbm, 159, rfl⟩
abbrev main_cst_14 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_cst_15 : Ref sig .tc := ⟨.hbm, 165, rfl⟩
abbrev main_v128 : Ref sig .tc := ⟨.hbm, 166, rfl⟩
abbrev main_v129 : Ref sig .tc := ⟨.hbm, 167, rfl⟩
abbrev main_cst_16 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_cst_17 : Ref sig .tc := ⟨.hbm, 175, rfl⟩
abbrev main_v136 : Ref sig .tc := ⟨.hbm, 176, rfl⟩
abbrev main_v137 : Ref sig .tc := ⟨.hbm, 177, rfl⟩
abbrev main_cst_18 : Ref sig .tc := ⟨.hbm, 178, rfl⟩
abbrev main_v138 : Ref sig .tc := ⟨.hbm, 179, rfl⟩
abbrev main_v139 : Ref sig .tc := ⟨.hbm, 180, rfl⟩
abbrev main_cst_19 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_cst_20 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_cst_21 : Ref sig .tc := ⟨.hbm, 191, rfl⟩
abbrev main_v148 : Ref sig .tc := ⟨.hbm, 192, rfl⟩
abbrev main_v149 : Ref sig .tc := ⟨.hbm, 193, rfl⟩
abbrev main_cst_22 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_cst_23 : Ref sig .tc := ⟨.hbm, 198, rfl⟩
abbrev main_v153 : Ref sig .tc := ⟨.hbm, 199, rfl⟩
abbrev main_v154 : Ref sig .tc := ⟨.hbm, 200, rfl⟩
abbrev main_cst_24 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_cst_25 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_cst_26 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_v218 : Ref sig .tc := ⟨.hbm, 267, rfl⟩
abbrev main_v219 : Ref sig .tc := ⟨.hbm, 268, rfl⟩
abbrev main_v220 : Ref sig .tc := ⟨.hbm, 269, rfl⟩
abbrev main_v221 : Ref sig .tc := ⟨.hbm, 270, rfl⟩
abbrev main_v222 : Ref sig .tc := ⟨.hbm, 271, rfl⟩
abbrev main_v223 : Ref sig .tc := ⟨.hbm, 272, rfl⟩
abbrev main_v224 : Ref sig .tc := ⟨.hbm, 273, rfl⟩
abbrev main_cst_27 : Ref sig .tc := ⟨.hbm, 274, rfl⟩
abbrev main_v225 : Ref sig .tc := ⟨.hbm, 275, rfl⟩
abbrev main_cst_28 : Ref sig .tc := ⟨.hbm, 276, rfl⟩
abbrev main_v226 : Ref sig .tc := ⟨.hbm, 277, rfl⟩
abbrev main_v227 : Ref sig .tc := ⟨.hbm, 278, rfl⟩
abbrev main_cst_29 : Ref sig .tc := ⟨.hbm, 279, rfl⟩
abbrev main_v228 : Ref sig .tc := ⟨.hbm, 280, rfl⟩
abbrev main_v229 : Ref sig .tc := ⟨.hbm, 281, rfl⟩
abbrev main_cst_30 : Ref sig .tc := ⟨.hbm, 282, rfl⟩
abbrev main_v230 : Ref sig .tc := ⟨.hbm, 283, rfl⟩
abbrev main_v231 : Ref sig .tc := ⟨.hbm, 284, rfl⟩
abbrev main_cst_31 : Ref sig .tc := ⟨.hbm, 285, rfl⟩
abbrev main_v232 : Ref sig .tc := ⟨.hbm, 286, rfl⟩
abbrev main_v233 : Ref sig .tc := ⟨.hbm, 287, rfl⟩
abbrev main_cst_32 : Ref sig .tc := ⟨.hbm, 288, rfl⟩
abbrev main_v234 : Ref sig .tc := ⟨.hbm, 289, rfl⟩
abbrev main_v235 : Ref sig .tc := ⟨.hbm, 290, rfl⟩
abbrev main_cst_33 : Ref sig .tc := ⟨.hbm, 291, rfl⟩
abbrev main_v236 : Ref sig .tc := ⟨.hbm, 292, rfl⟩
abbrev main_v237 : Ref sig .tc := ⟨.hbm, 293, rfl⟩
abbrev main_cst_34 : Ref sig .tc := ⟨.hbm, 294, rfl⟩
abbrev main_v238 : Ref sig .tc := ⟨.hbm, 295, rfl⟩
abbrev main_v239 : Ref sig .tc := ⟨.hbm, 296, rfl⟩
abbrev main_cst_35 : Ref sig .tc := ⟨.hbm, 297, rfl⟩
abbrev main_v240 : Ref sig .tc := ⟨.hbm, 298, rfl⟩
abbrev main_v241 : Ref sig .tc := ⟨.hbm, 299, rfl⟩
abbrev main_cst_36 : Ref sig .tc := ⟨.hbm, 300, rfl⟩
abbrev main_v242 : Ref sig .tc := ⟨.hbm, 301, rfl⟩
abbrev main_v243 : Ref sig .tc := ⟨.hbm, 302, rfl⟩
abbrev main_cst_37 : Ref sig .tc := ⟨.hbm, 303, rfl⟩
abbrev main_v244 : Ref sig .tc := ⟨.hbm, 304, rfl⟩
abbrev main_v245 : Ref sig .tc := ⟨.hbm, 305, rfl⟩
abbrev main_cst_38 : Ref sig .tc := ⟨.hbm, 306, rfl⟩
abbrev main_v246 : Ref sig .tc := ⟨.hbm, 307, rfl⟩
abbrev main_v247 : Ref sig .tc := ⟨.hbm, 308, rfl⟩
abbrev main_cst_39 : Ref sig .tc := ⟨.hbm, 309, rfl⟩
abbrev main_v248 : Ref sig .tc := ⟨.hbm, 310, rfl⟩
abbrev main_v249 : Ref sig .tc := ⟨.hbm, 311, rfl⟩
abbrev main_cst_40 : Ref sig .tc := ⟨.hbm, 312, rfl⟩
abbrev main_v250 : Ref sig .tc := ⟨.hbm, 313, rfl⟩
abbrev main_v251 : Ref sig .tc := ⟨.hbm, 314, rfl⟩
abbrev main_cst_41 : Ref sig .tc := ⟨.hbm, 315, rfl⟩
abbrev main_v252 : Ref sig .tc := ⟨.hbm, 316, rfl⟩
abbrev main_v253 : Ref sig .tc := ⟨.hbm, 317, rfl⟩
abbrev main_cst_42 : Ref sig .tc := ⟨.hbm, 318, rfl⟩
abbrev main_v254 : Ref sig .tc := ⟨.hbm, 319, rfl⟩
abbrev main_v255 : Ref sig .tc := ⟨.hbm, 320, rfl⟩
abbrev main_cst_43 : Ref sig .tc := ⟨.hbm, 321, rfl⟩
abbrev main_v256 : Ref sig .tc := ⟨.hbm, 322, rfl⟩
abbrev main_v257 : Ref sig .tc := ⟨.hbm, 323, rfl⟩
abbrev main_cst_44 : Ref sig .tc := ⟨.hbm, 324, rfl⟩
abbrev main_v258 : Ref sig .tc := ⟨.hbm, 325, rfl⟩
abbrev main_v259 : Ref sig .tc := ⟨.hbm, 326, rfl⟩
abbrev main_cst_45 : Ref sig .tc := ⟨.hbm, 327, rfl⟩
abbrev main_v260 : Ref sig .tc := ⟨.hbm, 328, rfl⟩
abbrev main_v261 : Ref sig .tc := ⟨.hbm, 329, rfl⟩
abbrev main_cst_46 : Ref sig .tc := ⟨.hbm, 330, rfl⟩
abbrev main_v262 : Ref sig .tc := ⟨.hbm, 331, rfl⟩
abbrev main_v263 : Ref sig .tc := ⟨.hbm, 332, rfl⟩
abbrev main_cst_47 : Ref sig .tc := ⟨.hbm, 333, rfl⟩
abbrev main_v264 : Ref sig .tc := ⟨.hbm, 334, rfl⟩
abbrev main_v265 : Ref sig .tc := ⟨.hbm, 335, rfl⟩
abbrev main_cst_48 : Ref sig .tc := ⟨.hbm, 336, rfl⟩
abbrev main_v266 : Ref sig .tc := ⟨.hbm, 337, rfl⟩
abbrev main_v267 : Ref sig .tc := ⟨.hbm, 338, rfl⟩
abbrev main_cst_49 : Ref sig .tc := ⟨.hbm, 339, rfl⟩
abbrev main_v268 : Ref sig .tc := ⟨.hbm, 340, rfl⟩
abbrev main_v269 : Ref sig .tc := ⟨.hbm, 341, rfl⟩
abbrev main_cst_50 : Ref sig .tc := ⟨.hbm, 342, rfl⟩
abbrev main_v270 : Ref sig .tc := ⟨.hbm, 343, rfl⟩
abbrev main_v271 : Ref sig .tc := ⟨.hbm, 344, rfl⟩
abbrev main_cst_51 : Ref sig .tc := ⟨.hbm, 345, rfl⟩
abbrev main_v272 : Ref sig .tc := ⟨.hbm, 346, rfl⟩
abbrev main_v273 : Ref sig .tc := ⟨.hbm, 347, rfl⟩
abbrev main_cst_52 : Ref sig .tc := ⟨.hbm, 348, rfl⟩
abbrev main_v274 : Ref sig .tc := ⟨.hbm, 349, rfl⟩
abbrev main_v275 : Ref sig .tc := ⟨.hbm, 350, rfl⟩
abbrev main_cst_53 : Ref sig .tc := ⟨.hbm, 351, rfl⟩
abbrev main_v276 : Ref sig .tc := ⟨.hbm, 352, rfl⟩
abbrev main_v277 : Ref sig .tc := ⟨.hbm, 353, rfl⟩
abbrev main_cst_54 : Ref sig .tc := ⟨.hbm, 354, rfl⟩
abbrev main_v278 : Ref sig .tc := ⟨.hbm, 355, rfl⟩
abbrev main_v279 : Ref sig .tc := ⟨.hbm, 356, rfl⟩
abbrev main_cst_55 : Ref sig .tc := ⟨.hbm, 357, rfl⟩
abbrev main_v280 : Ref sig .tc := ⟨.hbm, 358, rfl⟩
abbrev main_v281 : Ref sig .tc := ⟨.hbm, 359, rfl⟩
abbrev main_cst_56 : Ref sig .tc := ⟨.hbm, 360, rfl⟩
abbrev main_v282 : Ref sig .tc := ⟨.hbm, 361, rfl⟩
abbrev main_v283 : Ref sig .tc := ⟨.hbm, 362, rfl⟩
abbrev main_cst_57 : Ref sig .tc := ⟨.hbm, 363, rfl⟩
abbrev main_v284 : Ref sig .tc := ⟨.hbm, 364, rfl⟩
abbrev main_v285 : Ref sig .tc := ⟨.hbm, 365, rfl⟩
abbrev main_v286 : Ref sig .tc := ⟨.hbm, 366, rfl⟩
abbrev main_v287 : Ref sig .tc := ⟨.hbm, 367, rfl⟩
abbrev main_v288 : Ref sig .tc := ⟨.hbm, 368, rfl⟩
abbrev main_v289 : Ref sig .tc := ⟨.hbm, 369, rfl⟩
abbrev main_v290 : Ref sig .tc := ⟨.hbm, 370, rfl⟩
abbrev main_v291 : Ref sig .tc := ⟨.hbm, 371, rfl⟩
abbrev main_v292 : Ref sig .tc := ⟨.hbm, 372, rfl⟩
abbrev main_c : Ref sig .tc := ⟨.hbm, 373, rfl⟩
abbrev main_call2_v0 : Ref sig .tc := ⟨.hbm, 374, rfl⟩
abbrev main_v293 : Ref sig .tc := ⟨.hbm, 375, rfl⟩
abbrev main_v294 : Ref sig .tc := ⟨.hbm, 376, rfl⟩
abbrev main_v295 : Ref sig .tc := ⟨.hbm, 377, rfl⟩
abbrev main_v296 : Ref sig .tc := ⟨.hbm, 378, rfl⟩

abbrev nD : Nat := 1
abbrev τ : Topo := Topo.v7x

variable {F : FTy → Type} [FloatOps F]
-- ==== Kernel8.lean ====
abbrev S4x2048x416 : Shape := ⟨3, ![4, 2048, 416]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S96 : Shape := ⟨1, ![96]⟩
abbrev S4x2048x8x96 : Shape := ⟨4, ![4, 2048, 8, 96]⟩
abbrev S4x2048x8x64 : Shape := ⟨4, ![4, 2048, 8, 64]⟩
abbrev S_ : Shape := ⟨0, ![]⟩
abbrev S4x2048x48 : Shape := ⟨3, ![4, 2048, 48]⟩
abbrev S4x2048x400 : Shape := ⟨3, ![4, 2048, 400]⟩
abbrev S4x2048x16 : Shape := ⟨3, ![4, 2048, 16]⟩
abbrev S4x2048x512 : Shape := ⟨3, ![4, 2048, 512]⟩
abbrev S8192x512 : Shape := ⟨2, ![8192, 512]⟩
abbrev S256x8x96 : Shape := ⟨3, ![256, 8, 96]⟩
abbrev S256x8x32 : Shape := ⟨3, ![256, 8, 32]⟩
abbrev S256x8x16 : Shape := ⟨3, ![256, 8, 16]⟩
abbrev S256x8x48 : Shape := ⟨3, ![256, 8, 48]⟩
abbrev S256x8x128 : Shape := ⟨3, ![256, 8, 128]⟩
abbrev S256x1024 : Shape := ⟨2, ![256, 1024]⟩
abbrev S128x8x128 : Shape := ⟨3, ![128, 8, 128]⟩
abbrev S128x8x64 : Shape := ⟨3, ![128, 8, 64]⟩
abbrev S8 : Shape := ⟨1, ![8]⟩
abbrev S1x8x1 : Shape := ⟨3, ![1, 8, 1]⟩
abbrev S128x8x96 : Shape := ⟨3, ![128, 8, 96]⟩
abbrev S128x8x32 : Shape := ⟨3, ![128, 8, 32]⟩
abbrev S128x8x16 : Shape := ⟨3, ![128, 8, 16]⟩
abbrev S128x8x48 : Shape := ⟨3, ![128, 8, 48]⟩
abbrev S128x16x128 : Shape := ⟨3, ![128, 16, 128]⟩
abbrev S128x2048 : Shape := ⟨2, ![128, 2048]⟩
abbrev S1x96 : Shape := ⟨2, ![1, 96]⟩
abbrev S1x32 : Shape := ⟨2, ![1, 32]⟩
abbrev S1x16 : Shape := ⟨2, ![1, 16]⟩
abbrev S1x48 : Shape := ⟨2, ![1, 48]⟩
abbrev S1x128 : Shape := ⟨2, ![1, 128]⟩
abbrev S16 : Shape := ⟨1, ![16]⟩
abbrev S2048 : Shape := ⟨1, ![2048]⟩
abbrev S2048x1 : Shape := ⟨2, ![2048, 1]⟩
abbrev S2048x16 : Shape := ⟨2, ![2048, 16]⟩
abbrev S2048x48 : Shape := ⟨2, ![2048, 48]⟩
abbrev S2048x32 : Shape := ⟨2, ![2048, 32]⟩
abbrev S2048x128 : Shape := ⟨2, ![2048, 128]⟩
abbrev S4x2048x8x32 : Shape := ⟨4, ![4, 2048, 8, 32]⟩
abbrev S4x2048x8x16 : Shape := ⟨4, ![4, 2048, 8, 16]⟩
abbrev S4x2048x8x48 : Shape := ⟨4, ![4, 2048, 8, 48]⟩
abbrev S4x2048x8x128 : Shape := ⟨4, ![4, 2048, 8, 128]⟩
abbrev S4x8x2048x128 : Shape := ⟨4, ![4, 8, 2048, 128]⟩
abbrev S1x1x8x1 : Shape := ⟨4, ![1, 1, 8, 1]⟩
abbrev S1x256 : Shape := ⟨2, ![1, 256]⟩
abbrev S512x512 : Shape := ⟨2, ![512, 512]⟩
abbrev S1x8x512x128 : Shape := ⟨4, ![1, 8, 512, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S512x1024 : Shape := ⟨2, ![512, 1024]⟩
abbrev S1x1x512x128 : Shape := ⟨4, ![1, 1, 512, 128]⟩
abbrev S128x128 : Shape := ⟨2, ![128, 128]⟩
abbrev S512x2048 : Shape := ⟨2, ![512, 2048]⟩
abbrev S8192x400 : Shape := ⟨2, ![8192, 400]⟩
abbrev S8192x16 : Shape := ⟨2, ![8192, 16]⟩
abbrev S8192x416 : Shape := ⟨2, ![8192, 416]⟩
abbrev S128x2x8x128 : Shape := ⟨4, ![128, 2, 8, 128]⟩
abbrev S128x1x8x64 : Shape := ⟨4, ![128, 1, 8, 64]⟩
abbrev S128x1x8x128 : Shape := ⟨4, ![128, 1, 8, 128]⟩

abbrev nBuf : Space → Nat
  | .hbm => 220
  | .vmem => 26
  | .smem => 0
  | _ => 0

abbrev hbmTy0_0 (i : Nat) : BufTy := match i % 128 with
  | 0 => ⟨S4x2048x416, .f32⟩
  | 1 => ⟨S256, .f32⟩
  | 2 => ⟨S256x768, .f32⟩
  | 3 => ⟨S128, .f32⟩
  | 4 => ⟨S128x1024, .f32⟩
  | 5 => ⟨S96, .f32⟩
  | 6 => ⟨S96, .f32⟩
  | 7 => ⟨S4x2048x8x96, .f32⟩
  | 8 => ⟨S4x2048x8x96, .f32⟩
  | 9 => ⟨S4x2048x8x64, .f32⟩
  | 10 => ⟨S_, .f32⟩
  | 11 => ⟨S4x2048x48, .f32⟩
  | 12 => ⟨S4x2048x400, .f32⟩
  | 13 => ⟨S4x2048x16, .f32⟩
  | 14 => ⟨S4x2048x512, .f32⟩
  | 15 => ⟨S8192x512, .f32⟩
  | 16 => ⟨S256x768, .bf16⟩
  | 17 => ⟨S256x8x96, .bf16⟩
  | 18 => ⟨S256x8x32, .bf16⟩
  | 19 => ⟨S256x8x16, .bf16⟩
  | 20 => ⟨S256x8x48, .bf16⟩
  | 21 => ⟨S256x8x16, .bf16⟩
  | 22 => ⟨S256x8x16, .bf16⟩
  | 23 => ⟨S256x8x96, .bf16⟩
  | 24 => ⟨S_, .i32⟩
  | 25 => ⟨S_, .bf16⟩
  | 26 => ⟨S256x8x128, .bf16⟩
  | 27 => ⟨S256x1024, .bf16⟩
  | 28 => ⟨S128x1024, .bf16⟩
  | 29 => ⟨S128x8x128, .bf16⟩
  | 30 => ⟨S128x8x64, .bf16⟩
  | 31 => ⟨S8, .i32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S8, .i32⟩
  | 39 => ⟨S8, .i32⟩
  | 40 => ⟨S_, .i32⟩
  | 41 => ⟨S8, .i32⟩
  | 42 => ⟨S8, .i1⟩
  | 43 => ⟨S_, .i32⟩
  | 44 => ⟨S8, .i32⟩
  | 45 => ⟨S8, .i1⟩
  | 46 => ⟨S_, .i32⟩
  | 47 => ⟨S_, .i1⟩
  | 48 => ⟨S8, .i1⟩
  | 49 => ⟨S8, .i1⟩
  | 50 => ⟨S8, .i1⟩
  | 51 => ⟨S8, .i32⟩
  | 52 => ⟨S8, .i32⟩
  | 53 => ⟨S8, .i32⟩
  | 54 => ⟨S_, .i32⟩
  | 55 => ⟨S8, .i32⟩
  | 56 => ⟨S8, .i1⟩
  | 57 => ⟨S1x8x1, .i1⟩
  | 58 => ⟨S_, .i32⟩
  | 59 => ⟨S_, .bf16⟩
  | 60 => ⟨S128x8x128, .bf16⟩
  | 61 => ⟨S_, .i32⟩
  | 62 => ⟨S_, .bf16⟩
  | 63 => ⟨S128x8x128, .bf16⟩
  | 64 => ⟨S128x8x128, .i1⟩
  | 65 => ⟨S128x8x128, .bf16⟩
  | 66 => ⟨S128x8x64, .bf16⟩
  | 67 => ⟨S_, .i32⟩
  | 68 => ⟨S_, .bf16⟩
  | 69 => ⟨S128x8x96, .bf16⟩
  | 70 => ⟨S128x8x32, .bf16⟩
  | 71 => ⟨S128x8x16, .bf16⟩
  | 72 => ⟨S128x8x48, .bf16⟩
  | 73 => ⟨S128x8x16, .bf16⟩
  | 74 => ⟨S128x8x16, .bf16⟩
  | 75 => ⟨S128x8x96, .bf16⟩
  | 76 => ⟨S_, .i32⟩
  | 77 => ⟨S_, .bf16⟩
  | 78 => ⟨S128x8x128, .bf16⟩
  | 79 => ⟨S128x16x128, .bf16⟩
  | 80 => ⟨S128x2048, .bf16⟩
  | 81 => ⟨S1x96, .f32⟩
  | 82 => ⟨S1x32, .f32⟩
  | 83 => ⟨S1x16, .f32⟩
  | 84 => ⟨S1x48, .f32⟩
  | 85 => ⟨S1x16, .f32⟩
  | 86 => ⟨S1x16, .f32⟩
  | 87 => ⟨S1x96, .f32⟩
  | 88 => ⟨S_, .i32⟩
  | 89 => ⟨S_, .f32⟩
  | 90 => ⟨S1x128, .f32⟩
  | 91 => ⟨S1x96, .f32⟩
  | 92 => ⟨S1x32, .f32⟩
  | 93 => ⟨S1x16, .f32⟩
  | 94 => ⟨S1x48, .f32⟩
  | 95 => ⟨S1x16, .f32⟩
  | 96 => ⟨S1x16, .f32⟩
  | 97 => ⟨S1x96, .f32⟩
  | 98 => ⟨S_, .i32⟩
  | 99 => ⟨S_, .f32⟩
  | 100 => ⟨S1x128, .f32⟩
  | 101 => ⟨S16, .f32⟩
  | 102 => ⟨S_, .f32⟩
  | 103 => ⟨S16, .f32⟩
  | 104 => ⟨S16, .f32⟩
  | 105 => ⟨S_, .f32⟩
  | 106 => ⟨S16, .f32⟩
  | 107 => ⟨S16, .f32⟩
  | 108 => ⟨S16, .f32⟩
  | 109 => ⟨S_, .f32⟩
  | 110 => ⟨S16, .f32⟩
  | 111 => ⟨S16, .f32⟩
  | 112 => ⟨S_, .f32⟩
  | 113 => ⟨S16, .f32⟩
  | 114 => ⟨S16, .f32⟩
  | 115 => ⟨S2048, .f32⟩
  | 116 => ⟨S2048x1, .f32⟩
  | 117 => ⟨S1x16, .f32⟩
  | 118 => ⟨S2048x16, .f32⟩
  | 119 => ⟨S2048x16, .f32⟩
  | 120 => ⟨S2048x16, .f32⟩
  | 121 => ⟨S2048x16, .f32⟩
  | 122 => ⟨S2048x16, .f32⟩
  | 123 => ⟨S_, .f32⟩
  | 124 => ⟨S2048x48, .f32⟩
  | 125 => ⟨S_, .f32⟩
  | 126 => ⟨S2048x16, .f32⟩
  | 127 => ⟨S_, .f32⟩
  | _ => ⟨S4x2048x416, .f32⟩

abbrev hbmTy0_1 (i : Nat) : BufTy := match i % 128 with
  | 0 => ⟨S2048x32, .f32⟩
  | 1 => ⟨S2048x128, .f32⟩
  | 2 => ⟨S2048x16, .f32⟩
  | 3 => ⟨S_, .f32⟩
  | 4 => ⟨S2048x48, .f32⟩
  | 5 => ⟨S_, .f32⟩
  | 6 => ⟨S2048x48, .f32⟩
  | 7 => ⟨S2048x128, .f32⟩
  | 8 => ⟨S4x2048x8x32, .f32⟩
  | 9 => ⟨S4x2048x8x16, .f32⟩
  | 10 => ⟨S4x2048x8x48, .f32⟩
  | 11 => ⟨S4x2048x8x16, .f32⟩
  | 12 => ⟨S4x2048x8x16, .f32⟩
  | 13 => ⟨S4x2048x8x96, .f32⟩
  | 14 => ⟨S_, .i32⟩
  | 15 => ⟨S_, .f32⟩
  | 16 => ⟨S4x2048x8x128, .f32⟩
  | 17 => ⟨S4x8x2048x128, .f32⟩
  | 18 => ⟨S4x8x2048x128, .bf16⟩
  | 19 => ⟨S4x2048x8x32, .f32⟩
  | 20 => ⟨S4x2048x8x16, .f32⟩
  | 21 => ⟨S4x2048x8x48, .f32⟩
  | 22 => ⟨S4x2048x8x16, .f32⟩
  | 23 => ⟨S4x2048x8x16, .f32⟩
  | 24 => ⟨S4x2048x8x96, .f32⟩
  | 25 => ⟨S_, .i32⟩
  | 26 => ⟨S_, .f32⟩
  | 27 => ⟨S4x2048x8x128, .f32⟩
  | 28 => ⟨S4x8x2048x128, .f32⟩
  | 29 => ⟨S4x8x2048x128, .bf16⟩
  | 30 => ⟨S1x1x8x1, .i1⟩
  | 31 => ⟨S_, .i32⟩
  | 32 => ⟨S_, .f32⟩
  | 33 => ⟨S4x2048x8x128, .f32⟩
  | 34 => ⟨S_, .i32⟩
  | 35 => ⟨S_, .f32⟩
  | 36 => ⟨S4x2048x8x128, .f32⟩
  | 37 => ⟨S4x2048x8x128, .i1⟩
  | 38 => ⟨S4x2048x8x128, .f32⟩
  | 39 => ⟨S4x8x2048x128, .f32⟩
  | 40 => ⟨S4x8x2048x128, .bf16⟩
  | 41 => ⟨S1x256, .f32⟩
  | 42 => ⟨S1x128, .f32⟩
  | 43 => ⟨S8192x512, .bf16⟩
  | 44 => ⟨S256x1024, .f32⟩
  | 45 => ⟨S128x2048, .f32⟩
  | 46 => ⟨S1x256, .f32⟩
  | 47 => ⟨S1x128, .f32⟩
  | 48 => ⟨S1x128, .f32⟩
  | 49 => ⟨S1x128, .f32⟩
  | 50 => ⟨S8192x400, .bf16⟩
  | 51 => ⟨S8192x16, .bf16⟩
  | 52 => ⟨S8192x416, .bf16⟩
  | 53 => ⟨S256x8x128, .f32⟩
  | 54 => ⟨S256x8x48, .f32⟩
  | 55 => ⟨S256x8x16, .f32⟩
  | 56 => ⟨S256x8x16, .f32⟩
  | 57 => ⟨S256x8x16, .f32⟩
  | 58 => ⟨S256x8x96, .f32⟩
  | 59 => ⟨S256x768, .f32⟩
  | 60 => ⟨S128x2x8x128, .f32⟩
  | 61 => ⟨S128x1x8x64, .f32⟩
  | 62 => ⟨S128x8x64, .f32⟩
  | 63 => ⟨S128x1x8x64, .f32⟩
  | 64 => ⟨S128x8x64, .f32⟩
  | 65 => ⟨S128x8x64, .i1⟩
  | 66 => ⟨S128x8x64, .f32⟩
  | 67 => ⟨S128x1x8x128, .f32⟩
  | 68 => ⟨S128x8x128, .f32⟩
  | 69 => ⟨S128x8x48, .f32⟩
  | 70 => ⟨S128x8x16, .f32⟩
  | 71 => ⟨S128x8x16, .f32⟩
  | 72 => ⟨S128x8x16, .f32⟩
  | 73 => ⟨S128x8x96, .f32⟩
  | 74 => ⟨S128x8x64, .f32⟩
  | 75 => ⟨S128x8x128, .f32⟩
  | 76 => ⟨S128x1024, .f32⟩
  | 77 => ⟨S4x2048x416, .bf16⟩
  | 78 => ⟨S256, .f32⟩
  | 79 => ⟨S128, .f32⟩
  | 80 => ⟨S1x48, .f32⟩
  | 81 => ⟨S1x16, .f32⟩
  | 82 => ⟨S1x16, .f32⟩
  | 83 => ⟨S1x16, .f32⟩
  | 84 => ⟨S1x96, .f32⟩
  | 85 => ⟨S96, .f32⟩
  | 86 => ⟨S1x48, .f32⟩
  | 87 => ⟨S1x16, .f32⟩
  | 88 => ⟨S1x16, .f32⟩
  | 89 => ⟨S1x16, .f32⟩
  | 90 => ⟨S1x96, .f32⟩
  | 91 => ⟨S96, .f32⟩
  | _ => ⟨S4x2048x416, .f32⟩

abbrev hbmTy (i : Nat) : BufTy := match i / 128 with
  | 0 => hbmTy0_0 i
  | 1 => hbmTy0_1 i
  | _ => ⟨S4x2048x416, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S1x8x512x128, .bf16⟩
  | .local _ .vmem, ⟨3, _⟩ => ⟨S1x8x512x128, .bf16⟩
  | .local _ .vmem, ⟨4, _⟩ => ⟨S1x8x512x128, .bf16⟩
  | .local _ .vmem, ⟨5, _⟩ => ⟨S1x8x512x128, .bf16⟩
  | .local _ .vmem, ⟨6, _⟩ => ⟨S1x8x512x128, .bf16⟩
  | .local _ .vmem, ⟨7, _⟩ => ⟨S1x8x512x128, .bf16⟩
  | .local _ .vmem, ⟨8, _⟩ => ⟨S256x1024, .bf16⟩
  | .local _ .vmem, ⟨9, _⟩ => ⟨S128x2048, .bf16⟩
  | .local _ .vmem, ⟨10, _⟩ => ⟨S1x256, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x512, .bf16⟩
  | .local _ .vmem, ⟨19, _⟩ => ⟨S512x512, .bf16⟩
  | .local _ .vmem, ⟨20, _⟩ => ⟨S256x1024, .f32⟩
  | .local _ .vmem, ⟨21, _⟩ => ⟨S128x2048, .f32⟩
  | .local _ .vmem, ⟨22, _⟩ => ⟨S1x256, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | _, _ => ⟨S4x2048x416, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_call0_v0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_0 : Ref sig .tc := ⟨.hbm, 32, rfl⟩
abbrev main_call1_v0 : Ref sig .tc := ⟨.hbm, 33, rfl⟩
abbrev main_call1_c : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_c_1 : Ref sig .tc := ⟨.hbm, 40, rfl⟩
abbrev main_call1_v5 : Ref sig .tc := ⟨.hbm, 41, rfl⟩
abbrev main_call1_v6 : Ref sig .tc := ⟨.hbm, 42, rfl⟩
abbrev main_call1_c_2 : Ref sig .tc := ⟨.hbm, 43, rfl⟩
abbrev main_call1_v7 : Ref sig .tc := ⟨.hbm, 44, rfl⟩
abbrev main_call1_v8 : Ref sig .tc := ⟨.hbm, 45, rfl⟩
abbrev main_call1_c_3 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_v19 : Ref sig .tc := ⟨.hbm, 53, rfl⟩
abbrev main_c_1 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_c_2 : Ref sig .tc := ⟨.hbm, 58, rfl⟩
abbrev main_call2_v0 : Ref sig .tc := ⟨.hbm, 59, rfl⟩
abbrev main_v23 : Ref sig .tc := ⟨.hbm, 60, rfl⟩
abbrev main_c_3 : Ref sig .tc := ⟨.hbm, 61, rfl⟩
abbrev main_call3_v0 : Ref sig .tc := ⟨.hbm, 62, rfl⟩
abbrev main_v24 : Ref sig .tc := ⟨.hbm, 63, rfl⟩
abbrev main_call4_v0 : Ref sig .tc := ⟨.hbm, 64, rfl⟩
abbrev main_v25 : Ref sig .tc := ⟨.hbm, 65, rfl⟩
abbrev main_v26 : Ref sig .tc := ⟨.hbm, 66, rfl⟩
abbrev main_c_4 : Ref sig .tc := ⟨.hbm, 67, rfl⟩
abbrev main_call5_v0 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_c_5 : Ref sig .tc := ⟨.hbm, 76, rfl⟩
abbrev main_call6_v0 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_c_6 : Ref sig .tc := ⟨.hbm, 88, rfl⟩
abbrev main_call7_v0 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_c_7 : Ref sig .tc := ⟨.hbm, 98, rfl⟩
abbrev main_call8_v0 : Ref sig .tc := ⟨.hbm, 99, rfl⟩
abbrev main_v52 : Ref sig .tc := ⟨.hbm, 100, rfl⟩
abbrev main_v53 : Ref sig .tc := ⟨.hbm, 101, rfl⟩
abbrev main_cst_8 : Ref sig .tc := ⟨.hbm, 102, rfl⟩
abbrev main_v54 : Ref sig .tc := ⟨.hbm, 103, rfl⟩
abbrev main_v55 : Ref sig .tc := ⟨.hbm, 104, rfl⟩
abbrev main_cst_9 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_10 : Ref sig .tc := ⟨.hbm, 109, rfl⟩
abbrev main_v59 : Ref sig .tc := ⟨.hbm, 110, rfl⟩
abbrev main_v60 : Ref sig .tc := ⟨.hbm, 111, rfl⟩
abbrev main_cst_11 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_cst_12 : Ref sig .tc := ⟨.hbm, 123, rfl⟩
abbrev main_v71 : Ref sig .tc := ⟨.hbm, 124, rfl⟩
abbrev main_cst_13 : Ref sig .tc := ⟨.hbm, 125, rfl⟩
abbrev main_v72 : Ref sig .tc := ⟨.hbm, 126, rfl⟩
abbrev main_cst_14 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_cst_15 : Ref sig .tc := ⟨.hbm, 131, rfl⟩
abbrev main_v76 : Ref sig .tc := ⟨.hbm, 132, rfl⟩
abbrev main_cst_16 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_c_17 : Ref sig .tc := ⟨.hbm, 142, rfl⟩
abbrev main_call9_v0 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_c_18 : Ref sig .tc := ⟨.hbm, 153, rfl⟩
abbrev main_call10_v0 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_c_19 : Ref sig .tc := ⟨.hbm, 159, rfl⟩
abbrev main_call11_v0 : Ref sig .tc := ⟨.hbm, 160, rfl⟩
abbrev main_v98 : Ref sig .tc := ⟨.hbm, 161, rfl⟩
abbrev main_c_20 : Ref sig .tc := ⟨.hbm, 162, rfl⟩
abbrev main_call12_v0 : Ref sig .tc := ⟨.hbm, 163, rfl⟩
abbrev main_v99 : Ref sig .tc := ⟨.hbm, 164, rfl⟩
abbrev main_call13_v0 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105_0 : Ref sig .tc := ⟨.hbm, 171, rfl⟩
abbrev main_v105_1 : Ref sig .tc := ⟨.hbm, 172, rfl⟩
abbrev main_v105_2 : Ref sig .tc := ⟨.hbm, 173, rfl⟩
abbrev main_v105_3 : Ref sig .tc := ⟨.hbm, 174, rfl⟩
abbrev main_v105_4 : Ref sig .tc := ⟨.hbm, 175, rfl⟩
abbrev main_v105_5 : Ref sig .tc := ⟨.hbm, 176, rfl⟩
abbrev main_v105_6 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_call14_v0 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_2 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_3 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference8Ideal.lean ====
abbrev S4x2048x416 : Shape := ⟨3, ![4, 2048, 416]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S96 : Shape := ⟨1, ![96]⟩
abbrev S4x2048x8x96 : Shape := ⟨4, ![4, 2048, 8, 96]⟩
abbrev S4x2048x8x64 : Shape := ⟨4, ![4, 2048, 8, 64]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S4x2048x256 : Shape := ⟨3, ![4, 2048, 256]⟩
abbrev S4x2048x128 : Shape := ⟨3, ![4, 2048, 128]⟩
abbrev S4x2048x32 : Shape := ⟨3, ![4, 2048, 32]⟩
abbrev S4x2048 : Shape := ⟨2, ![4, 2048]⟩
abbrev S4x2048x1 : Shape := ⟨3, ![4, 2048, 1]⟩
abbrev S1x1x256 : Shape := ⟨3, ![1, 1, 256]⟩
abbrev S4x2048x768 : Shape := ⟨3, ![4, 2048, 768]⟩
abbrev S1x1x128 : Shape := ⟨3, ![1, 1, 128]⟩
abbrev S4x2048x1024 : Shape := ⟨3, ![4, 2048, 1024]⟩
abbrev S4x2048x8x128 : Shape := ⟨4, ![4, 2048, 8, 128]⟩
abbrev S4x2048x1x32 : Shape := ⟨4, ![4, 2048, 1, 32]⟩
abbrev S4x2048x8x32 : Shape := ⟨4, ![4, 2048, 8, 32]⟩
abbrev S4x2048x8 : Shape := ⟨3, ![4, 2048, 8]⟩
abbrev S4x2048x8x1 : Shape := ⟨4, ![4, 2048, 8, 1]⟩
abbrev S1x1x1x96 : Shape := ⟨4, ![1, 1, 1, 96]⟩
abbrev S4x2048x8x16 : Shape := ⟨4, ![4, 2048, 8, 16]⟩
abbrev S1x2048x1x16 : Shape := ⟨4, ![1, 2048, 1, 16]⟩
abbrev S1024x128 : Shape := ⟨2, ![1024, 128]⟩
abbrev S768x256 : Shape := ⟨2, ![768, 256]⟩

abbrev nBuf : Space → Nat
  | .hbm => 349
  | .vmem => 0
  | .smem => 0
  | _ => 0

abbrev hbmTy0_0 (i : Nat) : BufTy := match i % 128 with
  | 0 => ⟨S4x2048x416, .f32⟩
  | 1 => ⟨S256, .f32⟩
  | 2 => ⟨S256x768, .f32⟩
  | 3 => ⟨S128, .f32⟩
  | 4 => ⟨S128x1024, .f32⟩
  | 5 => ⟨S96, .f32⟩
  | 6 => ⟨S96, .f32⟩
  | 7 => ⟨S4x2048x8x96, .f32⟩
  | 8 => ⟨S4x2048x8x96, .f32⟩
  | 9 => ⟨S4x2048x8x64, .f32⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S2048, .f32⟩
  | 25 => ⟨S2048x1, .f32⟩
  | 26 => ⟨S1x16, .f32⟩
  | 27 => ⟨S2048x16, .f32⟩
  | 28 => ⟨S2048x16, .f32⟩
  | 29 => ⟨S2048x16, .f32⟩
  | 30 => ⟨S2048x16, .f32⟩
  | 31 => ⟨S2048x1x16, .f32⟩
  | 32 => ⟨S2048x16, .f32⟩
  | 33 => ⟨S2048x1x16, .f32⟩
  | 34 => ⟨S4x2048x256, .f32⟩
  | 35 => ⟨S4x2048x128, .f32⟩
  | 36 => ⟨S4x2048x32, .f32⟩
  | 37 => ⟨S4x2048x256, .f32⟩
  | 38 => ⟨S_, .f32⟩
  | 39 => ⟨S4x2048x256, .f32⟩
  | 40 => ⟨S4x2048x256, .f32⟩
  | 41 => ⟨S_, .f32⟩
  | 42 => ⟨S4x2048, .f32⟩
  | 43 => ⟨S4x2048x1, .f32⟩
  | 44 => ⟨S_, .f32⟩
  | 45 => ⟨S4x2048x1, .f32⟩
  | 46 => ⟨S4x2048x1, .f32⟩
  | 47 => ⟨S_, .f32⟩
  | 48 => ⟨S4x2048x1, .f32⟩
  | 49 => ⟨S4x2048x1, .f32⟩
  | 50 => ⟨S4x2048x1, .f32⟩
  | 51 => ⟨S4x2048x1, .f32⟩
  | 52 => ⟨S_, .f32⟩
  | 53 => ⟨S4x2048x1, .f32⟩
  | 54 => ⟨S4x2048x1, .f32⟩
  | 55 => ⟨S4x2048x256, .f32⟩
  | 56 => ⟨S4x2048x256, .f32⟩
  | 57 => ⟨S1x1x256, .f32⟩
  | 58 => ⟨S4x2048x256, .f32⟩
  | 59 => ⟨S4x2048x256, .f32⟩
  | 60 => ⟨S4x2048x768, .f32⟩
  | 61 => ⟨S4x2048x8x96, .f32⟩
  | 62 => ⟨S4x2048x128, .f32⟩
  | 63 => ⟨S_, .f32⟩
  | 64 => ⟨S4x2048x128, .f32⟩
  | 65 => ⟨S4x2048x128, .f32⟩
  | 66 => ⟨S_, .f32⟩
  | 67 => ⟨S4x2048, .f32⟩
  | 68 => ⟨S4x2048x1, .f32⟩
  | 69 => ⟨S_, .f32⟩
  | 70 => ⟨S4x2048x1, .f32⟩
  | 71 => ⟨S4x2048x1, .f32⟩
  | 72 => ⟨S_, .f32⟩
  | 73 => ⟨S4x2048x1, .f32⟩
  | 74 => ⟨S4x2048x1, .f32⟩
  | 75 => ⟨S4x2048x1, .f32⟩
  | 76 => ⟨S4x2048x1, .f32⟩
  | 77 => ⟨S_, .f32⟩
  | 78 => ⟨S4x2048x1, .f32⟩
  | 79 => ⟨S4x2048x1, .f32⟩
  | 80 => ⟨S4x2048x128, .f32⟩
  | 81 => ⟨S4x2048x128, .f32⟩
  | 82 => ⟨S1x1x128, .f32⟩
  | 83 => ⟨S4x2048x128, .f32⟩
  | 84 => ⟨S4x2048x128, .f32⟩
  | 85 => ⟨S4x2048x1024, .f32⟩
  | 86 => ⟨S4x2048x8x128, .f32⟩
  | 87 => ⟨S4x2048x8x64, .f32⟩
  | 88 => ⟨S4x2048x8x64, .f32⟩
  | 89 => ⟨S4x2048x1x32, .f32⟩
  | 90 => ⟨S4x2048x8x32, .f32⟩
  | 91 => ⟨S4x2048x8x96, .f32⟩
  | 92 => ⟨S4x2048x8x96, .f32⟩
  | 93 => ⟨S_, .f32⟩
  | 94 => ⟨S4x2048x8x96, .f32⟩
  | 95 => ⟨S4x2048x8x96, .f32⟩
  | 96 => ⟨S_, .f32⟩
  | 97 => ⟨S4x2048x8, .f32⟩
  | 98 => ⟨S4x2048x8x1, .f32⟩
  | 99 => ⟨S_, .f32⟩
  | 100 => ⟨S4x2048x8x1, .f32⟩
  | 101 => ⟨S4x2048x8x1, .f32⟩
  | 102 => ⟨S_, .f32⟩
  | 103 => ⟨S4x2048x8x1, .f32⟩
  | 104 => ⟨S4x2048x8x1, .f32⟩
  | 105 => ⟨S4x2048x8x1, .f32⟩
  | 106 => ⟨S4x2048x8x1, .f32⟩
  | 107 => ⟨S_, .f32⟩
  | 108 => ⟨S4x2048x8x1, .f32⟩
  | 109 => ⟨S4x2048x8x1, .f32⟩
  | 110 => ⟨S4x2048x8x96, .f32⟩
  | 111 => ⟨S4x2048x8x96, .f32⟩
  | 112 => ⟨S1x1x1x96, .f32⟩
  | 113 => ⟨S4x2048x8x96, .f32⟩
  | 114 => ⟨S4x2048x8x96, .f32⟩
  | 115 => ⟨S4x2048x8x96, .f32⟩
  | 116 => ⟨S_, .f32⟩
  | 117 => ⟨S4x2048x8x96, .f32⟩
  | 118 => ⟨S4x2048x8x96, .f32⟩
  | 119 => ⟨S_, .f32⟩
  | 120 => ⟨S4x2048x8, .f32⟩
  | 121 => ⟨S4x2048x8x1, .f32⟩
  | 122 => ⟨S_, .f32⟩
  | 123 => ⟨S4x2048x8x1, .f32⟩
  | 124 => ⟨S4x2048x8x1, .f32⟩
  | 125 => ⟨S_, .f32⟩
  | 126 => ⟨S4x2048x8x1, .f32⟩
  | 127 => ⟨S4x2048x8x1, .f32⟩
  | _ => ⟨S4x2048x416, .f32⟩

abbrev hbmTy0_1 (i : Nat) : BufTy := match i % 128 with
  | 0 => ⟨S4x2048x8x1, .f32⟩
  | 1 => ⟨S4x2048x8x1, .f32⟩
  | 2 => ⟨S_, .f32⟩
  | 3 => ⟨S4x2048x8x1, .f32⟩
  | 4 => ⟨S4x2048x8x1, .f32⟩
  | 5 => ⟨S4x2048x8x96, .f32⟩
  | 6 => ⟨S4x2048x8x96, .f32⟩
  | 7 => ⟨S1x1x1x96, .f32⟩
  | 8 => ⟨S4x2048x8x96, .f32⟩
  | 9 => ⟨S4x2048x8x96, .f32⟩
  | 10 => ⟨S4x2048x8x64, .f32⟩
  | 11 => ⟨S4x2048x8x32, .f32⟩
  | 12 => ⟨S4x2048x8x16, .f32⟩
  | 13 => ⟨S4x2048x8x16, .f32⟩
  | 14 => ⟨S1x2048x1x16, .f32⟩
  | 15 => ⟨S4x2048x8x16, .f32⟩
  | 16 => ⟨S4x2048x8x16, .f32⟩
  | 17 => ⟨S1x2048x1x16, .f32⟩
  | 18 => ⟨S4x2048x8x16, .f32⟩
  | 19 => ⟨S4x2048x8x16, .f32⟩
  | 20 => ⟨S4x2048x8x16, .f32⟩
  | 21 => ⟨S1x2048x1x16, .f32⟩
  | 22 => ⟨S4x2048x8x16, .f32⟩
  | 23 => ⟨S4x2048x8x16, .f32⟩
  | 24 => ⟨S1x2048x1x16, .f32⟩
  | 25 => ⟨S4x2048x8x16, .f32⟩
  | 26 => ⟨S4x2048x8x16, .f32⟩
  | 27 => ⟨S4x2048x8x16, .f32⟩
  | 28 => ⟨S4x2048x8x32, .f32⟩
  | 29 => ⟨S4x2048x8x96, .f32⟩
  | 30 => ⟨S4x2048x8x64, .f32⟩
  | 31 => ⟨S4x2048x8x32, .f32⟩
  | 32 => ⟨S4x2048x8x16, .f32⟩
  | 33 => ⟨S4x2048x8x16, .f32⟩
  | 34 => ⟨S1x2048x1x16, .f32⟩
  | 35 => ⟨S4x2048x8x16, .f32⟩
  | 36 => ⟨S4x2048x8x16, .f32⟩
  | 37 => ⟨S1x2048x1x16, .f32⟩
  | 38 => ⟨S4x2048x8x16, .f32⟩
  | 39 => ⟨S4x2048x8x16, .f32⟩
  | 40 => ⟨S4x2048x8x16, .f32⟩
  | 41 => ⟨S1x2048x1x16, .f32⟩
  | 42 => ⟨S4x2048x8x16, .f32⟩
  | 43 => ⟨S4x2048x8x16, .f32⟩
  | 44 => ⟨S1x2048x1x16, .f32⟩
  | 45 => ⟨S4x2048x8x16, .f32⟩
  | 46 => ⟨S4x2048x8x16, .f32⟩
  | 47 => ⟨S4x2048x8x16, .f32⟩
  | 48 => ⟨S4x2048x8x32, .f32⟩
  | 49 => ⟨S4x2048x8x96, .f32⟩
  | 50 => ⟨S4x2048x8x64, .f32⟩
  | 51 => ⟨S4x2048x8x32, .f32⟩
  | 52 => ⟨S4x2048x8x16, .f32⟩
  | 53 => ⟨S4x2048x8x16, .f32⟩
  | 54 => ⟨S4x2048x8x16, .f32⟩
  | 55 => ⟨S4x2048x8x16, .f32⟩
  | 56 => ⟨S4x2048x8x16, .f32⟩
  | 57 => ⟨S4x2048x8x16, .f32⟩
  | 58 => ⟨S4x2048x8x16, .f32⟩
  | 59 => ⟨S4x2048x8x16, .f32⟩
  | 60 => ⟨S4x2048x8x16, .f32⟩
  | 61 => ⟨S4x2048x8x16, .f32⟩
  | 62 => ⟨S4x2048x8x16, .f32⟩
  | 63 => ⟨S4x2048x8x16, .f32⟩
  | 64 => ⟨S4x2048x8x16, .f32⟩
  | 65 => ⟨S_, .f32⟩
  | 66 => ⟨S4x2048x8x32, .f32⟩
  | 67 => ⟨S_, .f32⟩
  | 68 => ⟨S4x2048x8x32, .f32⟩
  | 69 => ⟨S4x2048x8x32, .f32⟩
  | 70 => ⟨S_, .f32⟩
  | 71 => ⟨S4x2048x8x96, .f32⟩
  | 72 => ⟨S_, .f32⟩
  | 73 => ⟨S4x2048x8x96, .f32⟩
  | 74 => ⟨S4x2048x8x96, .f32⟩
  | 75 => ⟨S4x2048x8x64, .f32⟩
  | 76 => ⟨S4x2048x8x32, .f32⟩
  | 77 => ⟨S4x2048x8x16, .f32⟩
  | 78 => ⟨S4x2048x8x16, .f32⟩
  | 79 => ⟨S4x2048x8x16, .f32⟩
  | 80 => ⟨S4x2048x8x16, .f32⟩
  | 81 => ⟨S4x2048x8x16, .f32⟩
  | 82 => ⟨S4x2048x8x16, .f32⟩
  | 83 => ⟨S4x2048x8x16, .f32⟩
  | 84 => ⟨S4x2048x8x16, .f32⟩
  | 85 => ⟨S4x2048x8x16, .f32⟩
  | 86 => ⟨S4x2048x8x16, .f32⟩
  | 87 => ⟨S4x2048x8x16, .f32⟩
  | 88 => ⟨S4x2048x8x16, .f32⟩
  | 89 => ⟨S4x2048x8x16, .f32⟩
  | 90 => ⟨S_, .f32⟩
  | 91 => ⟨S4x2048x8x32, .f32⟩
  | 92 => ⟨S_, .f32⟩
  | 93 => ⟨S4x2048x8x32, .f32⟩
  | 94 => ⟨S4x2048x8x32, .f32⟩
  | 95 => ⟨S_, .f32⟩
  | 96 => ⟨S4x2048x8x96, .f32⟩
  | 97 => ⟨S_, .f32⟩
  | 98 => ⟨S4x2048x8x96, .f32⟩
  | 99 => ⟨S4x2048x8x96, .f32⟩
  | 100 => ⟨S4x2048x8x96, .f32⟩
  | 101 => ⟨S_, .f32⟩
  | 102 => ⟨S96, .f32⟩
  | 103 => ⟨S1x1x1x96, .f32⟩
  | 104 => ⟨S4x2048x8x96, .f32⟩
  | 105 => ⟨S4x2048x8x96, .f32⟩
  | 106 => ⟨S_, .f32⟩
  | 107 => ⟨S96, .f32⟩
  | 108 => ⟨S4x2048x8x96, .f32⟩
  | 109 => ⟨S_, .f32⟩
  | 110 => ⟨S4x2048x8, .f32⟩
  | 111 => ⟨S4x2048x8x1, .f32⟩
  | 112 => ⟨S4x2048x8x96, .f32⟩
  | 113 => ⟨S4x2048x8x96, .f32⟩
  | 114 => ⟨S4x2048x8x1, .f32⟩
  | 115 => ⟨S_, .f32⟩
  | 116 => ⟨S4x2048x8x1, .f32⟩
  | 117 => ⟨S4x2048x8x1, .f32⟩
  | 118 => ⟨S_, .f32⟩
  | 119 => ⟨S4x2048x8, .f32⟩
  | 120 => ⟨S4x2048x8x96, .f32⟩
  | 121 => ⟨S4x2048x8x96, .f32⟩
  | 122 => ⟨S4x2048x8x96, .f32⟩
  | 123 => ⟨S4x2048x8x96, .f32⟩
  | 124 => ⟨S_, .f32⟩
  | 125 => ⟨S96, .f32⟩
  | 126 => ⟨S1x1x1x96, .f32⟩
  | 127 => ⟨S4x2048x8x96, .f32⟩
  | _ => ⟨S4x2048x416, .f32⟩

abbrev hbmTy0_2 (i : Nat) : BufTy := match i % 128 with
  | 0 => ⟨S4x2048x8x96, .f32⟩
  | 1 => ⟨S_, .f32⟩
  | 2 => ⟨S96, .f32⟩
  | 3 => ⟨S4x2048x8x96, .f32⟩
  | 4 => ⟨S_, .f32⟩
  | 5 => ⟨S4x2048x8, .f32⟩
  | 6 => ⟨S4x2048x8x1, .f32⟩
  | 7 => ⟨S4x2048x8x96, .f32⟩
  | 8 => ⟨S4x2048x8x96, .f32⟩
  | 9 => ⟨S4x2048x8x1, .f32⟩
  | 10 => ⟨S_, .f32⟩
  | 11 => ⟨S4x2048x8x1, .f32⟩
  | 12 => ⟨S4x2048x8x1, .f32⟩
  | 13 => ⟨S_, .f32⟩
  | 14 => ⟨S4x2048x8, .f32⟩
  | 15 => ⟨S4x2048x8x96, .f32⟩
  | 16 => ⟨S4x2048x8x96, .f32⟩
  | 17 => ⟨S4x2048x8x96, .f32⟩
  | 18 => ⟨S4x2048x8x64, .f32⟩
  | 19 => ⟨S4x2048x8x32, .f32⟩
  | 20 => ⟨S_, .f32⟩
  | 21 => ⟨S4x2048x32, .f32⟩
  | 22 => ⟨S4x2048x1x32, .f32⟩
  | 23 => ⟨S_, .f32⟩
  | 24 => ⟨S4x2048x32, .f32⟩
  | 25 => ⟨S_, .f32⟩
  | 26 => ⟨S4x2048x8x128, .f32⟩
  | 27 => ⟨S_, .f32⟩
  | 28 => ⟨S4x2048x8x128, .f32⟩
  | 29 => ⟨S4x2048x8x128, .f32⟩
  | 30 => ⟨S4x2048x1024, .f32⟩
  | 31 => ⟨S1024x128, .f32⟩
  | 32 => ⟨S128x1024, .f32⟩
  | 33 => ⟨S4x2048x128, .f32⟩
  | 34 => ⟨S4x2048x128, .f32⟩
  | 35 => ⟨S_, .f32⟩
  | 36 => ⟨S128, .f32⟩
  | 37 => ⟨S1x1x128, .f32⟩
  | 38 => ⟨S4x2048x128, .f32⟩
  | 39 => ⟨S4x2048x128, .f32⟩
  | 40 => ⟨S_, .f32⟩
  | 41 => ⟨S128, .f32⟩
  | 42 => ⟨S4x2048x128, .f32⟩
  | 43 => ⟨S_, .f32⟩
  | 44 => ⟨S4x2048, .f32⟩
  | 45 => ⟨S4x2048x1, .f32⟩
  | 46 => ⟨S4x2048x128, .f32⟩
  | 47 => ⟨S4x2048x128, .f32⟩
  | 48 => ⟨S4x2048x1, .f32⟩
  | 49 => ⟨S_, .f32⟩
  | 50 => ⟨S4x2048x1, .f32⟩
  | 51 => ⟨S4x2048x1, .f32⟩
  | 52 => ⟨S_, .f32⟩
  | 53 => ⟨S4x2048, .f32⟩
  | 54 => ⟨S4x2048x128, .f32⟩
  | 55 => ⟨S4x2048x128, .f32⟩
  | 56 => ⟨S4x2048x128, .f32⟩
  | 57 => ⟨S4x2048x768, .f32⟩
  | 58 => ⟨S768x256, .f32⟩
  | 59 => ⟨S256x768, .f32⟩
  | 60 => ⟨S4x2048x256, .f32⟩
  | 61 => ⟨S4x2048x256, .f32⟩
  | 62 => ⟨S_, .f32⟩
  | 63 => ⟨S256, .f32⟩
  | 64 => ⟨S1x1x256, .f32⟩
  | 65 => ⟨S4x2048x256, .f32⟩
  | 66 => ⟨S4x2048x256, .f32⟩
  | 67 => ⟨S_, .f32⟩
  | 68 => ⟨S256, .f32⟩
  | 69 => ⟨S4x2048x256, .f32⟩
  | 70 => ⟨S_, .f32⟩
  | 71 => ⟨S4x2048, .f32⟩
  | 72 => ⟨S4x2048x1, .f32⟩
  | 73 => ⟨S4x2048x256, .f32⟩
  | 74 => ⟨S4x2048x256, .f32⟩
  | 75 => ⟨S4x2048x1, .f32⟩
  | 76 => ⟨S_, .f32⟩
  | 77 => ⟨S4x2048x1, .f32⟩
  | 78 => ⟨S4x2048x1, .f32⟩
  | 79 => ⟨S_, .f32⟩
  | 80 => ⟨S4x2048, .f32⟩
  | 81 => ⟨S4x2048x256, .f32⟩
  | 82 => ⟨S4x2048x256, .f32⟩
  | 83 => ⟨S4x2048x256, .f32⟩
  | 84 => ⟨S_, .f32⟩
  | 85 => ⟨S4x2048x416, .f32⟩
  | 86 => ⟨S_, .f32⟩
  | 87 => ⟨S4x2048x416, .f32⟩
  | 88 => ⟨S4x2048x416, .f32⟩
  | 89 => ⟨S_, .f32⟩
  | 90 => ⟨S4x2048x416, .f32⟩
  | 91 => ⟨S4x2048x416, .f32⟩
  | 92 => ⟨S4x2048x416, .bf16⟩
  | _ => ⟨S4x2048x416, .f32⟩

abbrev hbmTy (i : Nat) : BufTy := match i / 128 with
  | 0 => hbmTy0_0 i
  | 1 => hbmTy0_1 i
  | 2 => hbmTy0_2 i
  | _ => ⟨S4x2048x416, .f32⟩

abbrev bufTy : (tb : Table) → Fin (tcTables nBuf tb) → BufTy
  | .hbm, ⟨i, _⟩ => hbmTy i
  | _, _ => ⟨S4x2048x416, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_cst_11 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_12 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_13 : Ref sig .tc := ⟨.hbm, 93, rfl⟩
abbrev main_v69 : Ref sig .tc := ⟨.hbm, 94, rfl⟩
abbrev main_v70 : Ref sig .tc := ⟨.hbm, 95, rfl⟩
abbrev main_cst_14 : Ref sig .tc := ⟨.hbm, 96, rfl⟩
abbrev main_v71 : Ref sig .tc := ⟨.hbm, 97, rfl⟩
abbrev main_v72 : Ref sig .tc := ⟨.hbm, 98, rfl⟩
abbrev main_cst_15 : Ref sig .tc := ⟨.hbm, 99, rfl⟩
abbrev main_v73 : Ref sig .tc := ⟨.hbm, 100, rfl⟩
abbrev main_v74 : Ref sig .tc := ⟨.hbm, 101, rfl⟩
abbrev main_cst_16 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_17 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_18 : Ref sig .tc := ⟨.hbm, 116, rfl⟩
abbrev main_v87 : Ref sig .tc := ⟨.hbm, 117, rfl⟩
abbrev main_v88 : Ref sig .tc := ⟨.hbm, 118, rfl⟩
abbrev main_cst_19 : Ref sig .tc := ⟨.hbm, 119, rfl⟩
abbrev main_v89 : Ref sig .tc := ⟨.hbm, 120, rfl⟩
abbrev main_v90 : Ref sig .tc := ⟨.hbm, 121, rfl⟩
abbrev main_cst_20 : Ref sig .tc := ⟨.hbm, 122, rfl⟩
abbrev main_v91 : Ref sig .tc := ⟨.hbm, 123, rfl⟩
abbrev main_v92 : Ref sig .tc := ⟨.hbm, 124, rfl⟩
abbrev main_cst_21 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_22 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_cst_23 : Ref sig .tc := ⟨.hbm, 193, rfl⟩
abbrev main_v159 : Ref sig .tc := ⟨.hbm, 194, rfl⟩
abbrev main_cst_24 : Ref sig .tc := ⟨.hbm, 195, rfl⟩
abbrev main_v160 : Ref sig .tc := ⟨.hbm, 196, rfl⟩
abbrev main_v161 : Ref sig .tc := ⟨.hbm, 197, rfl⟩
abbrev main_cst_25 : Ref sig .tc := ⟨.hbm, 198, rfl⟩
abbrev main_v162 : Ref sig .tc := ⟨.hbm, 199, rfl⟩
abbrev main_cst_26 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_cst_27 : Ref sig .tc := ⟨.hbm, 218, rfl⟩
abbrev main_v180 : Ref sig .tc := ⟨.hbm, 219, rfl⟩
abbrev main_cst_28 : Ref sig .tc := ⟨.hbm, 220, rfl⟩
abbrev main_v181 : Ref sig .tc := ⟨.hbm, 221, rfl⟩
abbrev main_v182 : Ref sig .tc := ⟨.hbm, 222, rfl⟩
abbrev main_cst_29 : Ref sig .tc := ⟨.hbm, 223, rfl⟩
abbrev main_v183 : Ref sig .tc := ⟨.hbm, 224, rfl⟩
abbrev main_cst_30 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_cst_31 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_cst_32 : Ref sig .tc := ⟨.hbm, 234, rfl⟩
abbrev main_v191 : Ref sig .tc := ⟨.hbm, 235, rfl⟩
abbrev main_v192 : Ref sig .tc := ⟨.hbm, 236, rfl⟩
abbrev main_cst_33 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_cst_34 : Ref sig .tc := ⟨.hbm, 243, rfl⟩
abbrev main_v198 : Ref sig .tc := ⟨.hbm, 244, rfl⟩
abbrev main_v199 : Ref sig .tc := ⟨.hbm, 245, rfl⟩
abbrev main_cst_35 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_cst_36 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_cst_37 : Ref sig .tc := ⟨.hbm, 257, rfl⟩
abbrev main_v209 : Ref sig .tc := ⟨.hbm, 258, rfl⟩
abbrev main_v210 : Ref sig .tc := ⟨.hbm, 259, rfl⟩
abbrev main_cst_38 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_cst_39 : Ref sig .tc := ⟨.hbm, 266, rfl⟩
abbrev main_v216 : Ref sig .tc := ⟨.hbm, 267, rfl⟩
abbrev main_v217 : Ref sig .tc := ⟨.hbm, 268, rfl⟩
abbrev main_cst_40 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_cst_41 : Ref sig .tc := ⟨.hbm, 276, rfl⟩
abbrev main_v224 : Ref sig .tc := ⟨.hbm, 277, rfl⟩
abbrev main_v225 : Ref sig .tc := ⟨.hbm, 278, rfl⟩
abbrev main_cst_42 : Ref sig .tc := ⟨.hbm, 279, rfl⟩
abbrev main_v226 : Ref sig .tc := ⟨.hbm, 280, rfl⟩
abbrev main_cst_43 : Ref sig .tc := ⟨.hbm, 281, rfl⟩
abbrev main_v227 : Ref sig .tc := ⟨.hbm, 282, rfl⟩
abbrev main_cst_44 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_v231 : Ref sig .tc := ⟨.hbm, 287, rfl⟩
abbrev main_v232 : Ref sig .tc := ⟨.hbm, 288, rfl⟩
abbrev main_v233 : Ref sig .tc := ⟨.hbm, 289, rfl⟩
abbrev main_v234 : Ref sig .tc := ⟨.hbm, 290, rfl⟩
abbrev main_cst_45 : Ref sig .tc := ⟨.hbm, 291, rfl⟩
abbrev main_v235 : Ref sig .tc := ⟨.hbm, 292, rfl⟩
abbrev main_v236 : Ref sig .tc := ⟨.hbm, 293, rfl⟩
abbrev main_v237 : Ref sig .tc := ⟨.hbm, 294, rfl⟩
abbrev main_v238 : Ref sig .tc := ⟨.hbm, 295, rfl⟩
abbrev main_cst_46 : Ref sig .tc := ⟨.hbm, 296, rfl⟩
abbrev main_v239 : Ref sig .tc := ⟨.hbm, 297, rfl⟩
abbrev main_v240 : Ref sig .tc := ⟨.hbm, 298, rfl⟩
abbrev main_cst_47 : Ref sig .tc := ⟨.hbm, 299, rfl⟩
abbrev main_v241 : Ref sig .tc := ⟨.hbm, 300, rfl⟩
abbrev main_v242 : Ref sig .tc := ⟨.hbm, 301, rfl⟩
abbrev main_v243 : Ref sig .tc := ⟨.hbm, 302, rfl⟩
abbrev main_v244 : Ref sig .tc := ⟨.hbm, 303, rfl⟩
abbrev main_v245 : Ref sig .tc := ⟨.hbm, 304, rfl⟩
abbrev main_cst_48 : Ref sig .tc := ⟨.hbm, 305, rfl⟩
abbrev main_v246 : Ref sig .tc := ⟨.hbm, 306, rfl⟩
abbrev main_v247 : Ref sig .tc := ⟨.hbm, 307, rfl⟩
abbrev main_cst_49 : Ref sig .tc := ⟨.hbm, 308, rfl⟩
abbrev main_v248 : Ref sig .tc := ⟨.hbm, 309, rfl⟩
abbrev main_v249 : Ref sig .tc := ⟨.hbm, 310, rfl⟩
abbrev main_v250 : Ref sig .tc := ⟨.hbm, 311, rfl⟩
abbrev main_v251 : Ref sig .tc := ⟨.hbm, 312, rfl⟩
abbrev main_v252 : Ref sig .tc := ⟨.hbm, 313, rfl⟩
abbrev main_v253 : Ref sig .tc := ⟨.hbm, 314, rfl⟩
abbrev main_v254 : Ref sig .tc := ⟨.hbm, 315, rfl⟩
abbrev main_v255 : Ref sig .tc := ⟨.hbm, 316, rfl⟩
abbrev main_v256 : Ref sig .tc := ⟨.hbm, 317, rfl⟩
abbrev main_cst_50 : Ref sig .tc := ⟨.hbm, 318, rfl⟩
abbrev main_v257 : Ref sig .tc := ⟨.hbm, 319, rfl⟩
abbrev main_v258 : Ref sig .tc := ⟨.hbm, 320, rfl⟩
abbrev main_v259 : Ref sig .tc := ⟨.hbm, 321, rfl⟩
abbrev main_v260 : Ref sig .tc := ⟨.hbm, 322, rfl⟩
abbrev main_cst_51 : Ref sig .tc := ⟨.hbm, 323, rfl⟩
abbrev main_v261 : Ref sig .tc := ⟨.hbm, 324, rfl⟩
abbrev main_v262 : Ref sig .tc := ⟨.hbm, 325, rfl⟩
abbrev main_cst_52 : Ref sig .tc := ⟨.hbm, 326, rfl⟩
abbrev main_v263 : Ref sig .tc := ⟨.hbm, 327, rfl⟩
abbrev main_v264 : Ref sig .tc := ⟨.hbm, 328, rfl⟩
abbrev main_v265 : Ref sig .tc := ⟨.hbm, 329, rfl⟩
abbrev main_v266 : Ref sig .tc := ⟨.hbm, 330, rfl⟩
abbrev main_v267 : Ref sig .tc := ⟨.hbm, 331, rfl⟩
abbrev main_cst_53 : Ref sig .tc := ⟨.hbm, 332, rfl⟩
abbrev main_v268 : Ref sig .tc := ⟨.hbm, 333, rfl⟩
abbrev main_v269 : Ref sig .tc := ⟨.hbm, 334, rfl⟩
abbrev main_cst_54 : Ref sig .tc := ⟨.hbm, 335, rfl⟩
abbrev main_v270 : Ref sig .tc := ⟨.hbm, 336, rfl⟩
abbrev main_v271 : Ref sig .tc := ⟨.hbm, 337, rfl⟩
abbrev main_v272 : Ref sig .tc := ⟨.hbm, 338, rfl⟩
abbrev main_v273 : Ref sig .tc := ⟨.hbm, 339, rfl⟩
abbrev main_cst_55 : Ref sig .tc := ⟨.hbm, 340, rfl⟩
abbrev main_v274 : Ref sig .tc := ⟨.hbm, 341, rfl⟩
abbrev main_cst_56 : Ref sig .tc := ⟨.hbm, 342, rfl⟩
abbrev main_v275 : Ref sig .tc := ⟨.hbm, 343, rfl⟩
abbrev main_v276 : Ref sig .tc := ⟨.hbm, 344, rfl⟩
abbrev main_cst_57 : Ref sig .tc := ⟨.hbm, 345, rfl⟩
abbrev main_v277 : Ref sig .tc := ⟨.hbm, 346, rfl⟩
abbrev main_v278 : Ref sig .tc := ⟨.hbm, 347, rfl⟩
abbrev main_v279 : Ref sig .tc := ⟨.hbm, 348, rfl⟩

abbrev nD : Nat := 1
abbrev τ : Topo := Topo.v7x

variable {F : FTy → Type} [FloatOps F]
-- ==== Kernel13.lean ====
abbrev S4x2048x416 : Shape := ⟨3, ![4, 2048, 416]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S96 : Shape := ⟨1, ![96]⟩
abbrev S_ : Shape := ⟨0, ![]⟩
abbrev S4x2048x48 : Shape := ⟨3, ![4, 2048, 48]⟩
abbrev S4x2048x400 : Shape := ⟨3, ![4, 2048, 400]⟩
abbrev S4x2048x16 : Shape := ⟨3, ![4, 2048, 16]⟩
abbrev S4x2048x512 : Shape := ⟨3, ![4, 2048, 512]⟩
abbrev S8192x512 : Shape := ⟨2, ![8192, 512]⟩
abbrev S256x8x96 : Shape := ⟨3, ![256, 8, 96]⟩
abbrev S256x8x32 : Shape := ⟨3, ![256, 8, 32]⟩
abbrev S256x8x16 : Shape := ⟨3, ![256, 8, 16]⟩
abbrev S256x8x48 : Shape := ⟨3, ![256, 8, 48]⟩
abbrev S256x8x128 : Shape := ⟨3, ![256, 8, 128]⟩
abbrev S256x1024 : Shape := ⟨2, ![256, 1024]⟩
abbrev S128x8x128 : Shape := ⟨3, ![128, 8, 128]⟩
abbrev S128x8x64 : Shape := ⟨3, ![128, 8, 64]⟩
abbrev S8 : Shape := ⟨1, ![8]⟩
abbrev S1x8x1 : Shape := ⟨3, ![1, 8, 1]⟩
abbrev S128x8x96 : Shape := ⟨3, ![128, 8, 96]⟩
abbrev S128x8x32 : Shape := ⟨3, ![128, 8, 32]⟩
abbrev S128x8x16 : Shape := ⟨3, ![128, 8, 16]⟩
abbrev S128x8x48 : Shape := ⟨3, ![128, 8, 48]⟩
abbrev S128x16x128 : Shape := ⟨3, ![128, 16, 128]⟩
abbrev S128x2048 : Shape := ⟨2, ![128, 2048]⟩
abbrev S1x96 : Shape := ⟨2, ![1, 96]⟩
abbrev S1x32 : Shape := ⟨2, ![1, 32]⟩
abbrev S1x16 : Shape := ⟨2, ![1, 16]⟩
abbrev S1x48 : Shape := ⟨2, ![1, 48]⟩
abbrev S1x128 : Shape := ⟨2, ![1, 128]⟩
abbrev S16 : Shape := ⟨1, ![16]⟩
abbrev S2048 : Shape := ⟨1, ![2048]⟩
abbrev S2048x1 : Shape := ⟨2, ![2048, 1]⟩
abbrev S2048x16 : Shape := ⟨2, ![2048, 16]⟩
abbrev S2048x48 : Shape := ⟨2, ![2048, 48]⟩
abbrev S2048x32 : Shape := ⟨2, ![2048, 32]⟩
abbrev S2048x128 : Shape := ⟨2, ![2048, 128]⟩
abbrev S1x256 : Shape := ⟨2, ![1, 256]⟩
abbrev S4x8x2048x128 : Shape := ⟨4, ![4, 8, 2048, 128]⟩
abbrev S4x8x4x128x512 : Shape := ⟨5, ![4, 8, 4, 128, 512]⟩
abbrev S512x512 : Shape := ⟨2, ![512, 512]⟩
abbrev S512x128 : Shape := ⟨2, ![512, 128]⟩
abbrev S1x8x512x128 : Shape := ⟨4, ![1, 8, 512, 128]⟩
abbrev S1x8x1x128x512 : Shape := ⟨5, ![1, 8, 1, 128, 512]⟩
abbrev S512x256 : Shape := ⟨2, ![512, 256]⟩
abbrev S512 : Shape := ⟨1, ![512]⟩
abbrev S512x1 : Shape := ⟨2, ![512, 1]⟩
abbrev S512x1024 : Shape := ⟨2, ![512, 1024]⟩
abbrev S512x2048 : Shape := ⟨2, ![512, 2048]⟩
abbrev S128x128 : Shape := ⟨2, ![128, 128]⟩
abbrev S1x1x512x128 : Shape := ⟨4, ![1, 1, 512, 128]⟩
abbrev S128x512 : Shape := ⟨2, ![128, 512]⟩
abbrev S1x1x1x128x512 : Shape := ⟨5, ![1, 1, 1, 128, 512]⟩

abbrev nBuf : Space → Nat
  | .hbm => 139
  | .vmem => 20
  | .smem => 0
  | _ => 0

abbrev hbmTy0_0 (i : Nat) : BufTy := match i % 128 with
  | 0 => ⟨S4x2048x416, .f32⟩
  | 1 => ⟨S256, .f32⟩
  | 2 => ⟨S256x768, .f32⟩
  | 3 => ⟨S128, .f32⟩
  | 4 => ⟨S128x1024, .f32⟩
  | 5 => ⟨S96, .f32⟩
  | 6 => ⟨S96, .f32⟩
  | 7 => ⟨S_, .f32⟩
  | 8 => ⟨S4x2048x48, .f32⟩
  | 9 => ⟨S4x2048x400, .f32⟩
  | 10 => ⟨S4x2048x16, .f32⟩
  | 11 => ⟨S4x2048x512, .f32⟩
  | 12 => ⟨S8192x512, .f32⟩
  | 13 => ⟨S256x768, .bf16⟩
  | 14 => ⟨S256x8x96, .bf16⟩
  | 15 => ⟨S256x8x32, .bf16⟩
  | 16 => ⟨S256x8x16, .bf16⟩
  | 17 => ⟨S256x8x48, .bf16⟩
  | 18 => ⟨S256x8x16, .bf16⟩
  | 19 => ⟨S256x8x16, .bf16⟩
  | 20 => ⟨S256x8x96, .bf16⟩
  | 21 => ⟨S_, .i32⟩
  | 22 => ⟨S_, .bf16⟩
  | 23 => ⟨S256x8x128, .bf16⟩
  | 24 => ⟨S256x1024, .bf16⟩
  | 25 => ⟨S128x1024, .bf16⟩
  | 26 => ⟨S128x8x128, .bf16⟩
  | 27 => ⟨S128x8x64, .bf16⟩
  | 28 => ⟨S8, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S8, .i32⟩
  | 36 => ⟨S8, .i32⟩
  | 37 => ⟨S_, .i32⟩
  | 38 => ⟨S8, .i32⟩
  | 39 => ⟨S8, .i1⟩
  | 40 => ⟨S_, .i32⟩
  | 41 => ⟨S8, .i32⟩
  | 42 => ⟨S8, .i1⟩
  | 43 => ⟨S_, .i32⟩
  | 44 => ⟨S_, .i1⟩
  | 45 => ⟨S8, .i1⟩
  | 46 => ⟨S8, .i1⟩
  | 47 => ⟨S8, .i1⟩
  | 48 => ⟨S8, .i32⟩
  | 49 => ⟨S8, .i32⟩
  | 50 => ⟨S8, .i32⟩
  | 51 => ⟨S_, .i32⟩
  | 52 => ⟨S8, .i32⟩
  | 53 => ⟨S8, .i1⟩
  | 54 => ⟨S1x8x1, .i1⟩
  | 55 => ⟨S_, .i32⟩
  | 56 => ⟨S_, .bf16⟩
  | 57 => ⟨S128x8x128, .bf16⟩
  | 58 => ⟨S_, .i32⟩
  | 59 => ⟨S_, .bf16⟩
  | 60 => ⟨S128x8x128, .bf16⟩
  | 61 => ⟨S128x8x128, .i1⟩
  | 62 => ⟨S128x8x128, .bf16⟩
  | 63 => ⟨S128x8x64, .bf16⟩
  | 64 => ⟨S_, .i32⟩
  | 65 => ⟨S_, .bf16⟩
  | 66 => ⟨S128x8x96, .bf16⟩
  | 67 => ⟨S128x8x32, .bf16⟩
  | 68 => ⟨S128x8x16, .bf16⟩
  | 69 => ⟨S128x8x48, .bf16⟩
  | 70 => ⟨S128x8x16, .bf16⟩
  | 71 => ⟨S128x8x16, .bf16⟩
  | 72 => ⟨S128x8x96, .bf16⟩
  | 73 => ⟨S_, .i32⟩
  | 74 => ⟨S_, .bf16⟩
  | 75 => ⟨S128x8x128, .bf16⟩
  | 76 => ⟨S128x16x128, .bf16⟩
  | 77 => ⟨S128x2048, .bf16⟩
  | 78 => ⟨S1x96, .f32⟩
  | 79 => ⟨S1x32, .f32⟩
  | 80 => ⟨S1x16, .f32⟩
  | 81 => ⟨S1x48, .f32⟩
  | 82 => ⟨S1x16, .f32⟩
  | 83 => ⟨S1x16, .f32⟩
  | 84 => ⟨S1x96, .f32⟩
  | 85 => ⟨S_, .i32⟩
  | 86 => ⟨S_, .f32⟩
  | 87 => ⟨S1x128, .f32⟩
  | 88 => ⟨S1x96, .f32⟩
  | 89 => ⟨S1x32, .f32⟩
  | 90 => ⟨S1x16, .f32⟩
  | 91 => ⟨S1x48, .f32⟩
  | 92 => ⟨S1x16, .f32⟩
  | 93 => ⟨S1x16, .f32⟩
  | 94 => ⟨S1x96, .f32⟩
  | 95 => ⟨S_, .i32⟩
  | 96 => ⟨S_, .f32⟩
  | 97 => ⟨S1x128, .f32⟩
  | 98 => ⟨S16, .f32⟩
  | 99 => ⟨S_, .f32⟩
  | 100 => ⟨S16, .f32⟩
  | 101 => ⟨S16, .f32⟩
  | 102 => ⟨S_, .f32⟩
  | 103 => ⟨S16, .f32⟩
  | 104 => ⟨S16, .f32⟩
  | 105 => ⟨S16, .f32⟩
  | 106 => ⟨S_, .f32⟩
  | 107 => ⟨S16, .f32⟩
  | 108 => ⟨S16, .f32⟩
  | 109 => ⟨S_, .f32⟩
  | 110 => ⟨S16, .f32⟩
  | 111 => ⟨S16, .f32⟩
  | 112 => ⟨S2048, .f32⟩
  | 113 => ⟨S2048x1, .f32⟩
  | 114 => ⟨S1x16, .f32⟩
  | 115 => ⟨S2048x16, .f32⟩
  | 116 => ⟨S2048x16, .f32⟩
  | 117 => ⟨S2048x16, .f32⟩
  | 118 => ⟨S2048x16, .f32⟩
  | 119 => ⟨S2048x16, .f32⟩
  | 120 => ⟨S_, .f32⟩
  | 121 => ⟨S2048x48, .f32⟩
  | 122 => ⟨S_, .f32⟩
  | 123 => ⟨S2048x16, .f32⟩
  | 124 => ⟨S_, .f32⟩
  | 125 => ⟨S2048x32, .f32⟩
  | 126 => ⟨S2048x128, .f32⟩
  | 127 => ⟨S2048x16, .f32⟩
  | _ => ⟨S4x2048x416, .f32⟩

abbrev hbmTy0_1 (i : Nat) : BufTy := match i % 128 with
  | 0 => ⟨S_, .f32⟩
  | 1 => ⟨S2048x48, .f32⟩
  | 2 => ⟨S_, .f32⟩
  | 3 => ⟨S2048x48, .f32⟩
  | 4 => ⟨S2048x128, .f32⟩
  | 5 => ⟨S1x256, .f32⟩
  | 6 => ⟨S1x128, .f32⟩
  | 7 => ⟨S4x8x2048x128, .bf16⟩
  | 8 => ⟨S4x8x2048x128, .bf16⟩
  | 9 => ⟨S4x8x2048x128, .bf16⟩
  | 10 => ⟨S4x8x4x128x512, .bf16⟩
  | _ => ⟨S4x2048x416, .f32⟩

abbrev hbmTy (i : Nat) : BufTy := match i / 128 with
  | 0 => hbmTy0_0 i
  | 1 => hbmTy0_1 i
  | _ => ⟨S4x2048x416, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S256x1024, .bf16⟩
  | .local _ .vmem, ⟨3, _⟩ => ⟨S128x2048, .bf16⟩
  | .local _ .vmem, ⟨4, _⟩ => ⟨S1x256, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x8x512x128, .bf16⟩
  | .local _ .vmem, ⟨13, _⟩ => ⟨S1x8x512x128, .bf16⟩
  | .local _ .vmem, ⟨14, _⟩ => ⟨S1x8x512x128, .bf16⟩
  | .local _ .vmem, ⟨15, _⟩ => ⟨S1x8x512x128, .bf16⟩
  | .local _ .vmem, ⟨16, _⟩ => ⟨S1x8x512x128, .bf16⟩
  | .local _ .vmem, ⟨17, _⟩ => ⟨S1x8x512x128, .bf16⟩
  | .local _ .vmem, ⟨18, _⟩ => ⟨S1x8x1x128x512, .bf16⟩
  | .local _ .vmem, ⟨19, _⟩ => ⟨S1x8x1x128x512, .bf16⟩
  | _, _ => ⟨S4x2048x416, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_0 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_v5 : Ref sig .tc := ⟨.hbm, 38, rfl⟩
abbrev main_call1_v6 : Ref sig .tc := ⟨.hbm, 39, rfl⟩
abbrev main_call1_c_2 : Ref sig .tc := ⟨.hbm, 40, rfl⟩
abbrev main_call1_v7 : Ref sig .tc := ⟨.hbm, 41, rfl⟩
abbrev main_call1_v8 : Ref sig .tc := ⟨.hbm, 42, rfl⟩
abbrev main_call1_c_3 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_v19 : Ref sig .tc := ⟨.hbm, 50, rfl⟩
abbrev main_c_1 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_c_2 : Ref sig .tc := ⟨.hbm, 55, rfl⟩
abbrev main_call2_v0 : Ref sig .tc := ⟨.hbm, 56, rfl⟩
abbrev main_v23 : Ref sig .tc := ⟨.hbm, 57, rfl⟩
abbrev main_c_3 : Ref sig .tc := ⟨.hbm, 58, rfl⟩
abbrev main_call3_v0 : Ref sig .tc := ⟨.hbm, 59, rfl⟩
abbrev main_v24 : Ref sig .tc := ⟨.hbm, 60, rfl⟩
abbrev main_call4_v0 : Ref sig .tc := ⟨.hbm, 61, rfl⟩
abbrev main_v25 : Ref sig .tc := ⟨.hbm, 62, rfl⟩
abbrev main_v26 : Ref sig .tc := ⟨.hbm, 63, rfl⟩
abbrev main_c_4 : Ref sig .tc := ⟨.hbm, 64, rfl⟩
abbrev main_call5_v0 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_c_5 : Ref sig .tc := ⟨.hbm, 73, rfl⟩
abbrev main_call6_v0 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_c_6 : Ref sig .tc := ⟨.hbm, 85, rfl⟩
abbrev main_call7_v0 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_c_7 : Ref sig .tc := ⟨.hbm, 95, rfl⟩
abbrev main_call8_v0 : Ref sig .tc := ⟨.hbm, 96, rfl⟩
abbrev main_v52 : Ref sig .tc := ⟨.hbm, 97, rfl⟩
abbrev main_v53 : Ref sig .tc := ⟨.hbm, 98, rfl⟩
abbrev main_cst_8 : Ref sig .tc := ⟨.hbm, 99, rfl⟩
abbrev main_v54 : Ref sig .tc := ⟨.hbm, 100, rfl⟩
abbrev main_v55 : Ref sig .tc := ⟨.hbm, 101, rfl⟩
abbrev main_cst_9 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_cst_10 : Ref sig .tc := ⟨.hbm, 106, rfl⟩
abbrev main_v59 : Ref sig .tc := ⟨.hbm, 107, rfl⟩
abbrev main_v60 : Ref sig .tc := ⟨.hbm, 108, rfl⟩
abbrev main_cst_11 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_cst_12 : Ref sig .tc := ⟨.hbm, 120, rfl⟩
abbrev main_v71 : Ref sig .tc := ⟨.hbm, 121, rfl⟩
abbrev main_cst_13 : Ref sig .tc := ⟨.hbm, 122, rfl⟩
abbrev main_v72 : Ref sig .tc := ⟨.hbm, 123, rfl⟩
abbrev main_cst_14 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_cst_15 : Ref sig .tc := ⟨.hbm, 128, rfl⟩
abbrev main_v76 : Ref sig .tc := ⟨.hbm, 129, rfl⟩
abbrev main_cst_16 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81_0 : Ref sig .tc := ⟨.hbm, 135, rfl⟩
abbrev main_v81_1 : Ref sig .tc := ⟨.hbm, 136, rfl⟩
abbrev main_v81_2 : Ref sig .tc := ⟨.hbm, 137, rfl⟩
abbrev main_v81_3 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_10 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_11 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_12 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x1x128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel13Ideal.lean ====
variable {F : FTy → Type} [FloatOps F] [Named F]
def κ : String → Option EReal := fun
  | "inv_dim" => some ((1 / 96 : ℝ) : EReal)
  | _ => none
-- ==== Reference13Ideal.lean ====
abbrev S4x2048x416 : Shape := ⟨3, ![4, 2048, 416]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S96 : Shape := ⟨1, ![96]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S4x2048x256 : Shape := ⟨3, ![4, 2048, 256]⟩
abbrev S4x2048x128 : Shape := ⟨3, ![4, 2048, 128]⟩
abbrev S4x2048x32 : Shape := ⟨3, ![4, 2048, 32]⟩
abbrev S4x2048 : Shape := ⟨2, ![4, 2048]⟩
abbrev S4x2048x1 : Shape := ⟨3, ![4, 2048, 1]⟩
abbrev S1x1x256 : Shape := ⟨3, ![1, 1, 256]⟩
abbrev S4x2048x768 : Shape := ⟨3, ![4, 2048, 768]⟩
abbrev S4x2048x8x96 : Shape := ⟨4, ![4, 2048, 8, 96]⟩
abbrev S1x1x128 : Shape := ⟨3, ![1, 1, 128]⟩
abbrev S4x2048x1024 : Shape := ⟨3, ![4, 2048, 1024]⟩
abbrev S4x2048x8x128 : Shape := ⟨4, ![4, 2048, 8, 128]⟩
abbrev S4x2048x8x64 : Shape := ⟨4, ![4, 2048, 8, 64]⟩
abbrev S4x2048x1x32 : Shape := ⟨4, ![4, 2048, 1, 32]⟩
abbrev S4x2048x8x32 : Shape := ⟨4, ![4, 2048, 8, 32]⟩
abbrev S4x2048x8 : Shape := ⟨3, ![4, 2048, 8]⟩
abbrev S4x2048x8x1 : Shape := ⟨4, ![4, 2048, 8, 1]⟩
abbrev S1x1x1x96 : Shape := ⟨4, ![1, 1, 1, 96]⟩
abbrev S4x2048x8x16 : Shape := ⟨4, ![4, 2048, 8, 16]⟩
abbrev S1x2048x1x16 : Shape := ⟨4, ![1, 2048, 1, 16]⟩
abbrev S4x2048x4x64 : Shape := ⟨4, ![4, 2048, 4, 64]⟩
abbrev S4x2048x4x2x64 : Shape := ⟨5, ![4, 2048, 4, 2, 64]⟩
abbrev S4x2048x4x1x64 : Shape := ⟨5, ![4, 2048, 4, 1, 64]⟩
abbrev S4x2048x4x128 : Shape := ⟨4, ![4, 2048, 4, 128]⟩
abbrev S4x2048x4x1x128 : Shape := ⟨5, ![4, 2048, 4, 1, 128]⟩
abbrev S4x2048x4x2x128 : Shape := ⟨5, ![4, 2048, 4, 2, 128]⟩
abbrev S4x8x2048x128 : Shape := ⟨4, ![4, 8, 2048, 128]⟩
abbrev S4x2048x8x48 : Shape := ⟨4, ![4, 2048, 8, 48]⟩
abbrev S4x8x4x512x128 : Shape := ⟨5, ![4, 8, 4, 512, 128]⟩
abbrev S4x8x4x128x512 : Shape := ⟨5, ![4, 8, 4, 128, 512]⟩

abbrev nBuf : Space → Nat
  | .hbm => 190
  | .vmem => 0
  | .smem => 0
  | _ => 0

abbrev hbmTy0_0 (i : Nat) : BufTy := match i % 128 with
  | 0 => ⟨S4x2048x416, .f32⟩
  | 1 => ⟨S256, .f32⟩
  | 2 => ⟨S256x768, .f32⟩
  | 3 => ⟨S128, .f32⟩
  | 4 => ⟨S128x1024, .f32⟩
  | 5 => ⟨S96, .f32⟩
  | 6 => ⟨S96, .f32⟩
  | 7 => ⟨S16, .f32⟩
  | 8 => ⟨S_, .f32⟩
  | 9 => ⟨S16, .f32⟩
  | 10 => ⟨S16, .f32⟩
  | 11 => ⟨S_, .f32⟩
  | 12 => ⟨S16, .f32⟩
  | 13 => ⟨S16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S2048, .f32⟩
  | 22 => ⟨S2048x1, .f32⟩
  | 23 => ⟨S1x16, .f32⟩
  | 24 => ⟨S2048x16, .f32⟩
  | 25 => ⟨S2048x16, .f32⟩
  | 26 => ⟨S2048x16, .f32⟩
  | 27 => ⟨S2048x16, .f32⟩
  | 28 => ⟨S2048x1x16, .f32⟩
  | 29 => ⟨S2048x16, .f32⟩
  | 30 => ⟨S2048x1x16, .f32⟩
  | 31 => ⟨S4x2048x256, .f32⟩
  | 32 => ⟨S4x2048x128, .f32⟩
  | 33 => ⟨S4x2048x32, .f32⟩
  | 34 => ⟨S4x2048x256, .f32⟩
  | 35 => ⟨S_, .f32⟩
  | 36 => ⟨S4x2048, .f32⟩
  | 37 => ⟨S4x2048x1, .f32⟩
  | 38 => ⟨S_, .f32⟩
  | 39 => ⟨S4x2048x1, .f32⟩
  | 40 => ⟨S4x2048x1, .f32⟩
  | 41 => ⟨S_, .f32⟩
  | 42 => ⟨S4x2048x1, .f32⟩
  | 43 => ⟨S4x2048x1, .f32⟩
  | 44 => ⟨S4x2048x1, .f32⟩
  | 45 => ⟨S4x2048x256, .f32⟩
  | 46 => ⟨S4x2048x256, .f32⟩
  | 47 => ⟨S1x1x256, .f32⟩
  | 48 => ⟨S4x2048x256, .f32⟩
  | 49 => ⟨S4x2048x256, .f32⟩
  | 50 => ⟨S4x2048x768, .f32⟩
  | 51 => ⟨S4x2048x8x96, .f32⟩
  | 52 => ⟨S4x2048x128, .f32⟩
  | 53 => ⟨S_, .f32⟩
  | 54 => ⟨S4x2048, .f32⟩
  | 55 => ⟨S4x2048x1, .f32⟩
  | 56 => ⟨S_, .f32⟩
  | 57 => ⟨S4x2048x1, .f32⟩
  | 58 => ⟨S4x2048x1, .f32⟩
  | 59 => ⟨S_, .f32⟩
  | 60 => ⟨S4x2048x1, .f32⟩
  | 61 => ⟨S4x2048x1, .f32⟩
  | 62 => ⟨S4x2048x1, .f32⟩
  | 63 => ⟨S4x2048x128, .f32⟩
  | 64 => ⟨S4x2048x128, .f32⟩
  | 65 => ⟨S1x1x128, .f32⟩
  | 66 => ⟨S4x2048x128, .f32⟩
  | 67 => ⟨S4x2048x128, .f32⟩
  | 68 => ⟨S4x2048x1024, .f32⟩
  | 69 => ⟨S4x2048x8x128, .f32⟩
  | 70 => ⟨S4x2048x8x64, .f32⟩
  | 71 => ⟨S4x2048x8x64, .f32⟩
  | 72 => ⟨S4x2048x1x32, .f32⟩
  | 73 => ⟨S4x2048x8x32, .f32⟩
  | 74 => ⟨S4x2048x8x96, .f32⟩
  | 75 => ⟨S4x2048x8x96, .f32⟩
  | 76 => ⟨S_, .f32⟩
  | 77 => ⟨S4x2048x8, .f32⟩
  | 78 => ⟨S4x2048x8x1, .f32⟩
  | 79 => ⟨S_, .f32⟩
  | 80 => ⟨S4x2048x8x1, .f32⟩
  | 81 => ⟨S4x2048x8x1, .f32⟩
  | 82 => ⟨S_, .f32⟩
  | 83 => ⟨S4x2048x8x1, .f32⟩
  | 84 => ⟨S4x2048x8x1, .f32⟩
  | 85 => ⟨S4x2048x8x1, .f32⟩
  | 86 => ⟨S4x2048x8x96, .f32⟩
  | 87 => ⟨S4x2048x8x96, .f32⟩
  | 88 => ⟨S1x1x1x96, .f32⟩
  | 89 => ⟨S4x2048x8x96, .f32⟩
  | 90 => ⟨S4x2048x8x96, .f32⟩
  | 91 => ⟨S4x2048x8x96, .f32⟩
  | 92 => ⟨S_, .f32⟩
  | 93 => ⟨S4x2048x8, .f32⟩
  | 94 => ⟨S4x2048x8x1, .f32⟩
  | 95 => ⟨S_, .f32⟩
  | 96 => ⟨S4x2048x8x1, .f32⟩
  | 97 => ⟨S4x2048x8x1, .f32⟩
  | 98 => ⟨S_, .f32⟩
  | 99 => ⟨S4x2048x8x1, .f32⟩
  | 100 => ⟨S4x2048x8x1, .f32⟩
  | 101 => ⟨S4x2048x8x1, .f32⟩
  | 102 => ⟨S4x2048x8x96, .f32⟩
  | 103 => ⟨S4x2048x8x96, .f32⟩
  | 104 => ⟨S1x1x1x96, .f32⟩
  | 105 => ⟨S4x2048x8x96, .f32⟩
  | 106 => ⟨S4x2048x8x96, .f32⟩
  | 107 => ⟨S4x2048x8x64, .f32⟩
  | 108 => ⟨S4x2048x8x32, .f32⟩
  | 109 => ⟨S4x2048x8x16, .f32⟩
  | 110 => ⟨S4x2048x8x16, .f32⟩
  | 111 => ⟨S1x2048x1x16, .f32⟩
  | 112 => ⟨S4x2048x8x16, .f32⟩
  | 113 => ⟨S4x2048x8x16, .f32⟩
  | 114 => ⟨S1x2048x1x16, .f32⟩
  | 115 => ⟨S4x2048x8x16, .f32⟩
  | 116 => ⟨S4x2048x8x16, .f32⟩
  | 117 => ⟨S4x2048x8x16, .f32⟩
  | 118 => ⟨S1x2048x1x16, .f32⟩
  | 119 => ⟨S4x2048x8x16, .f32⟩
  | 120 => ⟨S4x2048x8x16, .f32⟩
  | 121 => ⟨S1x2048x1x16, .f32⟩
  | 122 => ⟨S4x2048x8x16, .f32⟩
  | 123 => ⟨S4x2048x8x16, .f32⟩
  | 124 => ⟨S4x2048x8x16, .f32⟩
  | 125 => ⟨S4x2048x8x32, .f32⟩
  | 126 => ⟨S4x2048x8x96, .f32⟩
  | 127 => ⟨S4x2048x8x64, .f32⟩
  | _ => ⟨S4x2048x416, .f32⟩

abbrev hbmTy0_1 (i : Nat) : BufTy := match i % 128 with
  | 0 => ⟨S4x2048x8x32, .f32⟩
  | 1 => ⟨S4x2048x8x16, .f32⟩
  | 2 => ⟨S4x2048x8x16, .f32⟩
  | 3 => ⟨S1x2048x1x16, .f32⟩
  | 4 => ⟨S4x2048x8x16, .f32⟩
  | 5 => ⟨S4x2048x8x16, .f32⟩
  | 6 => ⟨S1x2048x1x16, .f32⟩
  | 7 => ⟨S4x2048x8x16, .f32⟩
  | 8 => ⟨S4x2048x8x16, .f32⟩
  | 9 => ⟨S4x2048x8x16, .f32⟩
  | 10 => ⟨S1x2048x1x16, .f32⟩
  | 11 => ⟨S4x2048x8x16, .f32⟩
  | 12 => ⟨S4x2048x8x16, .f32⟩
  | 13 => ⟨S1x2048x1x16, .f32⟩
  | 14 => ⟨S4x2048x8x16, .f32⟩
  | 15 => ⟨S4x2048x8x16, .f32⟩
  | 16 => ⟨S4x2048x8x16, .f32⟩
  | 17 => ⟨S4x2048x8x32, .f32⟩
  | 18 => ⟨S4x2048x8x96, .f32⟩
  | 19 => ⟨S_, .f32⟩
  | 20 => ⟨S4x2048x8x32, .f32⟩
  | 21 => ⟨S_, .f32⟩
  | 22 => ⟨S4x2048x4x64, .f32⟩
  | 23 => ⟨S4x2048x4x2x64, .f32⟩
  | 24 => ⟨S4x2048x4x1x64, .f32⟩
  | 25 => ⟨S4x2048x4x64, .f32⟩
  | 26 => ⟨S4x2048x4x128, .f32⟩
  | 27 => ⟨S4x2048x4x1x64, .f32⟩
  | 28 => ⟨S4x2048x4x64, .f32⟩
  | 29 => ⟨S4x2048x4x128, .f32⟩
  | 30 => ⟨S4x2048x4x1x128, .f32⟩
  | 31 => ⟨S4x2048x4x1x128, .f32⟩
  | 32 => ⟨S4x2048x4x2x128, .f32⟩
  | 33 => ⟨S4x2048x8x128, .f32⟩
  | 34 => ⟨S4x8x2048x128, .f32⟩
  | 35 => ⟨S4x8x2048x128, .bf16⟩
  | 36 => ⟨S4x2048x8x16, .f32⟩
  | 37 => ⟨S4x2048x8x48, .f32⟩
  | 38 => ⟨S4x2048x8x16, .f32⟩
  | 39 => ⟨S4x2048x8x16, .f32⟩
  | 40 => ⟨S4x2048x8x128, .f32⟩
  | 41 => ⟨S4x8x2048x128, .f32⟩
  | 42 => ⟨S4x8x2048x128, .bf16⟩
  | 43 => ⟨S4x8x4x512x128, .bf16⟩
  | 44 => ⟨S4x8x4x128x512, .bf16⟩
  | 45 => ⟨S_, .f32⟩
  | 46 => ⟨S4x2048x8x96, .f32⟩
  | 47 => ⟨S4x2048x8x96, .f32⟩
  | 48 => ⟨S4x2048x8x16, .f32⟩
  | 49 => ⟨S4x2048x8x48, .f32⟩
  | 50 => ⟨S4x2048x8x16, .f32⟩
  | 51 => ⟨S4x2048x8x16, .f32⟩
  | 52 => ⟨S4x2048x8x128, .f32⟩
  | 53 => ⟨S4x8x2048x128, .f32⟩
  | 54 => ⟨S4x8x2048x128, .bf16⟩
  | 55 => ⟨S4x2048x8x16, .f32⟩
  | 56 => ⟨S4x2048x8x48, .f32⟩
  | 57 => ⟨S4x2048x8x16, .f32⟩
  | 58 => ⟨S4x2048x8x16, .f32⟩
  | 59 => ⟨S4x2048x8x128, .f32⟩
  | 60 => ⟨S4x8x2048x128, .f32⟩
  | 61 => ⟨S4x8x2048x128, .bf16⟩
  | _ => ⟨S4x2048x416, .f32⟩

abbrev hbmTy (i : Nat) : BufTy := match i / 128 with
  | 0 => hbmTy0_0 i
  | 1 => hbmTy0_1 i
  | _ => ⟨S4x2048x416, .f32⟩

abbrev bufTy : (tb : Table) → Fin (tcTables nBuf tb) → BufTy
  | .hbm, ⟨i, _⟩ => hbmTy i
  | _, _ => ⟨S4x2048x416, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_9 : Ref sig .tc := ⟨.hbm, 76, rfl⟩
abbrev main_v59 : Ref sig .tc := ⟨.hbm, 77, rfl⟩
abbrev main_v60 : Ref sig .tc := ⟨.hbm, 78, rfl⟩
abbrev main_cst_10 : Ref sig .tc := ⟨.hbm, 79, rfl⟩
abbrev main_v61 : Ref sig .tc := ⟨.hbm, 80, rfl⟩
abbrev main_v62 : Ref sig .tc := ⟨.hbm, 81, rfl⟩
abbrev main_cst_11 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_12 : Ref sig .tc := ⟨.hbm, 92, rfl⟩
abbrev main_v72 : Ref sig .tc := ⟨.hbm, 93, rfl⟩
abbrev main_v73 : Ref sig .tc := ⟨.hbm, 94, rfl⟩
abbrev main_cst_13 : Ref sig .tc := ⟨.hbm, 95, rfl⟩
abbrev main_v74 : Ref sig .tc := ⟨.hbm, 96, rfl⟩
abbrev main_v75 : Ref sig .tc := ⟨.hbm, 97, rfl⟩
abbrev main_cst_14 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_cst_15 : Ref sig .tc := ⟨.hbm, 147, rfl⟩
abbrev main_v124 : Ref sig .tc := ⟨.hbm, 148, rfl⟩
abbrev main_cst_16 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_cst_17 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩

abbrev nD : Nat := 1
abbrev τ : Topo := Topo.v7x

variable {F : FTy → Type} [FloatOps F]
-- ==== Kernel14.lean ====
abbrev S512x1024 : Shape := ⟨2, ![512, 1024]⟩
abbrev S8x512x1024 : Shape := ⟨3, ![8, 512, 1024]⟩
abbrev S256x1024 : Shape := ⟨2, ![256, 1024]⟩
abbrev S8x256x1024 : Shape := ⟨3, ![8, 256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S8x512x1024, .bf16⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S8x256x1024, .bf16⟩
  | .local _ .vmem, ⟨3, _⟩ => ⟨S8x256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S512x1024 : Shape := ⟨2, ![512, 1024]⟩
abbrev S8x512x1024 : Shape := ⟨3, ![8, 512, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S8x512x1024, .bf16⟩
  | .hbm, ⟨2, _⟩ => ⟨S512x1024, .f32⟩
  | .hbm, ⟨3, _⟩ => ⟨S512x1024, .f32⟩
  | .hbm, ⟨4, _⟩ => ⟨S8x512x1024, .f32⟩
  | .hbm, ⟨5, _⟩ => ⟨S_, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel15.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .f32⟩
  | .hbm, ⟨2, _⟩ => ⟨S4096x1024, .f32⟩
  | .hbm, ⟨3, _⟩ => ⟨S4096x1024, .bf16⟩
  | .hbm, ⟨4, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S1024x4096 : Shape := ⟨2, ![1024, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .f32⟩
  | .hbm, ⟨2, _⟩ => ⟨S8192x1024, .f32⟩
  | .hbm, ⟨3, _⟩ => ⟨S8192x4096, .f32⟩
  | .hbm, ⟨4, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Ff2.lean ====
/- The gradient through the feed-forward non-linearity: what each grid point of the kernel stores is the reference's
   gradient of `square (relu a) @ w` at the place where the block lies. -/
module

public import proofs.«01_k».proof.Proof.Gen.KernelIdeal.Frame
public import proofs.«01_k».proof.Proof.Gen.ReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Ff2

open Cert.KernelIdeal Cert.KernelIdeal.Gen

variable (m : (ℓ : Loc nD τ sig) → Buf (Elt Ideal) ℓ)

/-- Where each window's block lies, at every grid point. -/
theorem idx : ∀ t : Fin cfg0.N, win0_0.index t = ![t.val / 4, 0] ∧ win0_1.index t = ![t.val % 4, 0]
    ∧ win0_2.index t = ![t.val / 4, t.val % 4] ∧ win0_3.index t = ![t.val / 4, t.val % 4] :=
  (by decide +kernel : ∀ t : Fin grid0.N, _)

/-- Multiplying by `max a 0` is zero where `a` is not positive: the branch that the derivative of `relu` selects. -/
theorem relu_sq (a s two : EReal) : s * two * max a 0 = if 0 < a then s * (two * max a 0) else 0 := by
  split
  · rw [mul_assoc]
  · rename_i h
    rw [max_eq_right (not_lt.mp h), mul_zero]

/-- The result array is the reference's gradient. -/
theorem final (c : Dev nD) : (dats m 0 c).arrAt 3 (cfgs 0).N
    = Cert.ReferenceIdeal.Read.val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  frame_out
  pointwise [k0_pay1, k0_pay2, k0_pay3, Cert.ReferenceIdeal.Read.val_main_v14, Cert.ReferenceIdeal.Read.val_main_v13, Cert.ReferenceIdeal.Read.val_main_v12,
   Cert.ReferenceIdeal.Read.val_main_v11, Cert.ReferenceIdeal.Read.val_main_v10, Cert.ReferenceIdeal.Read.val_main_v9, Cert.ReferenceIdeal.Read.val_main_v7, Cert.ReferenceIdeal.Read.val_main_v6,
   Cert.ReferenceIdeal.Read.val_main_v3, Cert.ReferenceIdeal.Read.val_main_v2, Cert.ReferenceIdeal.Read.val_main_v1, Cert.ReferenceIdeal.Read.val_main_v0, Cert.ReferenceIdeal.Read.val_main_call0_v0, Cert.ReferenceIdeal.Read.val_main_call0_cst,
   Cert.ReferenceIdeal.Read.val_main_cst, Cert.ReferenceIdeal.Read.val_main_cst_1, Cert.ReferenceIdeal.Read.val_main_cst_2]
  rw [relu_sq]
  blk_point [iblk, V, idx t]

end Cert.KernelIdeal.Ff2

end
-- ==== Proof.Ff2Claim.lean ====
/- The claims about `Kernel` and `Reference`. -/
module

public import proofs.«01_k».proof.Defs
public import proofs.«01_k».proof.Proof.Ff2
public import proofs.«01_k».proof.Proof.Gen.ReferenceIdeal.Run
public import Idealize.ShloMosaic.Lib.Claim

@[expose] public section

set_option maxRecDepth 16384

noncomputable section

open Idealize.ShloMosaic Idealize.ShloMosaic.TcCoe Idealize.SL.Sem

namespace Cert.Proof

/-- The reference runs to its end and leaves its arguments alone. -/
theorem frame_reference : Cert.quiescent_ReferenceIdeal := by
  intro m g _
  exact θ_run_mono (Cert.ReferenceIdeal.Value.run m g) fun r h => ⟨fun c => (h c).2, sem_eq_zero_of_no_sems (by decide) r.2⟩

/-- Over the reals the kernel and the reference leave the same arrays. -/
theorem algebraic : Cert.algebraic_KernelIdeal_ReferenceIdeal := by
  pair_intro
  · run_from Cert.KernelIdeal.Gen.run_main m g
  · refine θ_run_mono (Cert.ReferenceIdeal.Value.run m' g') fun r hr c => ?_
    obtain ⟨a0, a1, a2⟩ := hagree c
    obtain ⟨h0, h⟩ := hr c
    refine ⟨h0.trans ((Cert.ReferenceIdeal.Read.val_main_v14_eq _ _ _).trans ?_), h⟩
    simp only [a0, a1, a2]
    exact (Cert.KernelIdeal.Ff2.final m c).symm

end Cert.Proof

end
-- ==== Proof.OutProj.lean ====
/- The gradient through the gated merge of the two branches: what each grid point of the kernel stores is the
   reference's gradient at the place where the block lies. -/
module

public import proofs.«01_k».proof.Proof.Gen.Kernel2Ideal.Frame
public import proofs.«01_k».proof.Proof.Gen.Reference2Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.OutProj

open Cert.Kernel2Ideal Cert.Kernel2Ideal.Gen Cert.Reference2Ideal.Read

variable (m : (ℓ : Loc nD τ sig) → Buf (Elt Ideal) ℓ)

/-- Where each window's block lies, at every grid point. -/
theorem idx : ∀ t : Fin cfg0.N, win0_0.index t = ![t.val, 0] ∧ win0_1.index t = ![0, 0] ∧ win0_2.index t = ![t.val, 0]
    ∧ win0_3.index t = ![t.val, 1] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

/-- The gradient of a gate's pre-activation in the reference's order of multiplication. -/
theorem gate_mul (s y g : EReal) : s * y * g * (1 - g) = s * y * (g * (1 - g)) := mul_assoc _ _ _

/-- The gradient of the first gate's pre-activation. -/
theorem final6 (c : Dev nD) : (dats m 0 c).arrAt 6 (cfgs 0).N = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  unfold outsAt0
  frame_out
  pointwise [k0_pay1, k0_pay2, k0_pay3, k0_pay4, k0_pay5, k0_pay6, k0_pay7, k0_pay8, k0_pay9, k0_pay10, val_main_v0, val_main_v1, val_main_v2, val_main_v3, val_main_v4, val_main_cst, val_main_v5, val_main_v6, val_main_cst_0, val_main_v7, val_main_v8,
val_main_cst_1, val_main_v9, val_main_v10, val_main_v11, val_main_v12, val_main_v13, val_main_v14, val_main_v15, val_main_v16, val_main_v17,
val_main_v18, val_main_v19, val_main_v20, val_main_v21, val_main_v22, val_main_v23, val_main_v24, val_main_v25, val_main_v26, val_main_v27,
val_main_v28, val_main_v29, val_main_v30, val_main_v31]
  simp only [zero_sub]
  refine (gate_mul _ _ _).trans ?_
  blk_point [iblk, V, idx t]

/-- The gradient of the second gate's pre-activation. -/
theorem final7 (c : Dev nD) : (dats m 0 c).arrAt 7 (cfgs 0).N = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  unfold outsAt0
  frame_out
  pointwise [k0_pay1, k0_pay2, k0_pay3, k0_pay4, k0_pay5, k0_pay6, k0_pay7, k0_pay8, k0_pay9, k0_pay10, val_main_v0, val_main_v1, val_main_v2, val_main_v3, val_main_v4, val_main_cst, val_main_v5, val_main_v6, val_main_cst_0, val_main_v7, val_main_v8,
val_main_cst_1, val_main_v9, val_main_v10, val_main_v11, val_main_v12, val_main_v13, val_main_v14, val_main_v15, val_main_v16, val_main_v17,
val_main_v18, val_main_v19, val_main_v20, val_main_v21, val_main_v22, val_main_v23, val_main_v24, val_main_v25, val_main_v26, val_main_v27,
val_main_v28, val_main_v29, val_main_v30, val_main_v31]
  simp only [zero_sub]
  refine (gate_mul _ _ _).trans ?_
  blk_point [iblk, V, idx t]

/-- The gradient of the first branch. -/
theorem final8 (c : Dev nD) : (dats m 0 c).arrAt 8 (cfgs 0).N = val_main_v30 (F := Ideal) (m ((c : Thread nD τ).loc main_arg0)) (m ((c : Thread nD τ).loc main_arg3)) (m ((c : Thread nD τ).loc main_arg4)) := by
  refine (dats m 0 c).arrAt_eq_of_covers 8 _ (by decide +kernel) fun t hf y => ?_
  blk_simp
  rw [after0_8]
  unfold outsAt0
  frame_out
  pointwise [k0_pay1, k0_pay2, k0_pay3, k0_pay4, k0_pay5, k0_pay6, k0_pay7, k0_pay8, k0_pay9, k0_pay10, val_main_v0, val_main_v1, val_main_v2, val_main_v3, val_main_v4, val_main_cst, val_main_v5, val_main_v6, val_main_cst_0, val_main_v7, val_main_v8,
val_main_cst_1, val_main_v9, val_main_v10, val_main_v11, val_main_v12, val_main_v13, val_main_v14, val_main_v15, val_main_v16, val_main_v17,
val_main_v18, val_main_v19, val_main_v20, val_main_v21, val_main_v22, val_main_v23, val_main_v24, val_main_v25, val_main_v26, val_main_v27,
val_main_v28, val_main_v29, val_main_v30, val_main_v31]
  simp only [zero_sub]
  blk_point [iblk, V, idx t]

/-- The gradient of the second branch. -/
theorem final9 (c : Dev nD) : (dats m 0 c).arrAt 9 (cfgs 0).N = val_main_v31 (F := Ideal) (m ((c : Thread nD τ).loc main_arg0)) (m ((c : Thread nD τ).loc main_arg3)) (m ((c : Thread nD τ).loc main_arg4)) := by
  refine (dats m 0 c).arrAt_eq_of_covers 9 _ (by decide +kernel) fun t hf y => ?_
  blk_simp
  rw [after0_9]
  unfold outsAt0
  frame_out
  pointwise [k0_pay1, k0_pay2, k0_pay3, k0_pay4, k0_pay5, k0_pay6, k0_pay7, k0_pay8, k0_pay9, k0_pay10, val_main_v0, val_main_v1, val_main_v2, val_main_v3, val_main_v4, val_main_cst, val_main_v5, val_main_v6, val_main_cst_0, val_main_v7, val_main_v8,
val_main_cst_1, val_main_v9, val_main_v10, val_main_v11, val_main_v12, val_main_v13, val_main_v14, val_main_v15, val_main_v16, val_main_v17,
val_main_v18, val_main_v19, val_main_v20, val_main_v21, val_main_v22, val_main_v23, val_main_v24, val_main_v25, val_main_v26, val_main_v27,
val_main_v28, val_main_v29, val_main_v30, val_main_v31]
  simp only [zero_sub]
  blk_point [iblk, V, idx t]

end Cert.Kernel2Ideal.OutProj

end
-- ==== Proof.OutProjClaim.lean ====
/- The claims about `Kernel2` and `Reference2`. -/
module

public import proofs.«01_k».proof.Defs
public import proofs.«01_k».proof.Proof.OutProj
public import proofs.«01_k».proof.Proof.Gen.Reference2Ideal.Run
public import Idealize.ShloMosaic.Lib.Claim

@[expose] public section

set_option maxRecDepth 16384

noncomputable section

open Idealize.ShloMosaic Idealize.ShloMosaic.TcCoe Idealize.SL.Sem

namespace Cert.Proof

/-- The reference runs to its end and leaves its arguments alone. -/
theorem frame_reference2 : Cert.quiescent_Reference2Ideal := by
  intro m g _
  exact θ_run_mono (Cert.Reference2Ideal.Value.run m g) fun r h => ⟨fun c => (h c).2.2.2.2, sem_eq_zero_of_no_sems (by decide) r.2⟩

/-- Over the reals the kernel and the reference leave the same arrays. -/
theorem algebraic2 : Cert.algebraic_Kernel2Ideal_Reference2Ideal := by
  pair_intro
  · run_from Cert.Kernel2Ideal.Gen.run_main m g
  · refine θ_run_mono (Cert.Reference2Ideal.Value.run m' g') fun r hr c => ?_
    obtain ⟨a0, a1, a2, a3, a4⟩ := hagree c
    obtain ⟨h0, h1, h2, h3, h⟩ := hr c
    refine ⟨h0.trans ((Cert.Reference2Ideal.Read.val_main_v28_eq _ _ _ _ _).trans ?_), h1.trans ((Cert.Reference2Ideal.Read.val_main_v29_eq _ _ _ _ _).trans ?_), h2.trans ((Cert.Reference2Ideal.Read.val_main_v30_eq _ _ _).trans ?_), h3.trans ((Cert.Reference2Ideal.Read.val_main_v31_eq _ _ _).trans ?_), h⟩
    · simp only [a0, a1, a2, a3, a4]
      exact (Cert.Kernel2Ideal.OutProj.final6 m c).symm
    · simp only [a0, a1, a2, a3, a4]
      exact (Cert.Kernel2Ideal.OutProj.final7 m c).symm
    · simp only [a0, a1, a2, a3, a4]
      exact (Cert.Kernel2Ideal.OutProj.final8 m c).symm
    · simp only [a0, a1, a2, a3, a4]
      exact (Cert.Kernel2Ideal.OutProj.final9 m c).symm

end Cert.Proof

end
-- ==== Proof.Finite.lean ====
/-
  Finite arguments: what the precondition says of one array. `jnp.all(jnp.abs(x) < jnp.inf)` holds of an array of
  extended reals when every element of it is the image of a real number.
-/
module

public import Idealize.ShloMosaic.Lib.ReduceAll
public import Idealize.ShloMosaic.Lib.Pipeline.ValueKit

@[expose] public section

noncomputable section

open Idealize.ShloMosaic

namespace Cert.Finite

/-- An extended real whose absolute value is below +∞ is a real number. -/
theorem real_of_lt (x : EReal) (h : max x (-x) < ⊤) : x = ((x.toReal : ℝ) : EReal) := by
  refine (EReal.coe_toReal ?_ ?_).symm
  · rintro rfl; simp at h
  · rintro rfl; simp at h

/-- The float word of +∞. -/
theorem inf_eq : Ideal.ofBits .f32 0x7F800000#32 = ⊤ := by simp [Ideal.ofBits, Ideal.ieee]

/-- An array that passes the test has only real elements. -/
theorem all_real {s t : Shape} [Subsingleton t.Idx] {axes : List (Fin s.rank)} (x : FVec Ideal s .f32) (y : FVec Ideal s .f32) (hy : ∀ i, y i = (⊤ : EReal))
    (init : t.Idx → BitVec 1) (h : s.ReducesTo axes t) (hu : 0 < t.numel) (j : t.Idx)
    (e : Host.reduce IntOp.andi (cmpf .olt (Host.absf x) y) init h hu j = 1#1) (i : s.Idx) :
    @Eq EReal (x i) (((x i : EReal).toReal : ℝ) : EReal) := by
  have h1 := Host.reduce_andi_all _ init h hu j e i
  refine real_of_lt _ ?_
  have h2 : FloatOps.cmpf .olt (max (x i : EReal) (-(x i : EReal)) : Ideal .f32) (y i) = 1#1 := h1
  rw [hy i] at h2
  by_contra hn
  have : FloatOps.cmpf .olt (max (x i : EReal) (-(x i : EReal)) : Ideal .f32) (⊤ : EReal) = BitVec.ofBool (decide (max (x i : EReal) (-(x i : EReal)) < ⊤)) := rfl
  rw [this] at h2
  simp [hn] at h2

/-- A real element of the extended reals. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.add {x y : EReal} : IsReal x → IsReal y → IsReal (x + y) := fun ⟨a, ha⟩ ⟨b, hb⟩ => ⟨a + b, by rw [ha, hb, EReal.coe_add]⟩
theorem IsReal.mul {x y : EReal} : IsReal x → IsReal y → IsReal (x * y) := fun ⟨a, ha⟩ ⟨b, hb⟩ => ⟨a * b, by rw [ha, hb, EReal.coe_mul]⟩
theorem IsReal.neg {x : EReal} : IsReal x → IsReal (-x) := fun ⟨a, ha⟩ => ⟨-a, by rw [ha, EReal.coe_neg]⟩
theorem IsReal.sum {ι : Type} (s : Finset ι) {f : ι → EReal} (h : ∀ i, IsReal (f i)) : IsReal (∑ i ∈ s, f i) := by
  classical
  induction s using Finset.induction_on with
  | empty => exact IsReal.zero
  | insert a t ha ih => rw [Finset.sum_insert ha]; exact (h a).add ih

/-- The image of a sum of reals. -/
theorem coe_sum {ι : Type} (s : Finset ι) (f : ι → ℝ) : ((∑ i ∈ s, f i : ℝ) : EReal) = ∑ i ∈ s, (f i : EReal) := by
  classical
  induction s using Finset.induction_on with
  | empty => simp
  | insert a t ha ih => rw [Finset.sum_insert ha, Finset.sum_insert ha, EReal.coe_add, ih]

theorem IsReal.of_all {s : Shape} {φ : FTy} {x : FVec Ideal s φ} (h : ∀ i, @Eq EReal (x i) (((x i : EReal).toReal : ℝ) : EReal)) (i : s.Idx) : IsReal (x i) := ⟨_, h i⟩

end Cert.Finite
end
-- ==== Proof.AttnReal.lean ====
module

public import Idealize.ShloMosaic.Lib.Pipeline.ValueKit
public import Idealize.ShloMosaic.Lib.Claim

@[expose] public section
noncomputable section
open Idealize.ShloMosaic
namespace Cert.Kernel3Ideal.Attn

/-! One row of a masked softmax over the reals, kept as a running maximum and sums scaled by it. -/

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A score where the mask lets it through, and minus infinity elsewhere. -/
def sc (a : Prop) [Decidable a] (x : ℝ) : EReal := if a then (x : EReal) else ⊥
/-- The exponential of a masked score. -/
def mexp (a : Prop) [Decidable a] (x : ℝ) : ℝ := if a then Real.exp x else 0

theorem sc_ne_top (a : Prop) [Decidable a] (x : ℝ) : sc a x ≠ ⊤ := by
  unfold sc; split_ifs
  · exact EReal.coe_ne_top x
  · exact bot_ne_top

theorem exp_sc (a : Prop) [Decidable a] (x μ l : ℝ) (hl : 0 < l) :
    Ideal.exp ((sc a x - (μ : EReal)) * (l : EReal)) = ((Real.exp (-(μ * l)) * mexp a (x * l) : ℝ) : EReal) := by
  unfold sc mexp
  split_ifs
  · rw [← EReal.coe_sub, ← EReal.coe_mul, Ideal.exp_coe, ← Real.exp_add]
    congr 2; ring
  · rw [EReal.bot_sub, EReal.bot_mul_coe_of_pos hl, Ideal.exp_bot, mul_zero, EReal.coe_zero]

theorem max_real {n : ℕ} (f : Fin n → EReal) (z : EReal) (hz : z ≠ ⊤) (hf : ∀ k, f k ≠ ⊤) (h : z ≠ ⊥ ∨ ∃ k, f k ≠ ⊥) :
    ∃ μ : ℝ, max z (Finset.univ.fold max ⊥ f) = (μ : EReal) := by
  have ht : max z (Finset.univ.fold max ⊥ f) < ⊤ :=
    max_lt (lt_top_iff_ne_top.mpr hz) ((Finset.fold_max_lt _).mpr ⟨bot_lt_top, fun k _ => lt_top_iff_ne_top.mpr (hf k)⟩)
  have hb : ⊥ < max z (Finset.univ.fold max ⊥ f) := by
    rcases h with h | ⟨k, h⟩
    · exact lt_of_lt_of_le (bot_lt_iff_ne_bot.mpr h) (le_max_left _ _)
    · exact lt_of_lt_of_le (bot_lt_iff_ne_bot.mpr h) (le_trans ((Finset.le_fold_max _).mpr (Or.inr ⟨k, Finset.mem_univ k, le_rfl⟩)) (le_max_right _ _))
  exact ⟨_, (EReal.coe_toReal ht.ne hb.ne').symm⟩

/-- What a row keeps after some of its keys: nothing yet, or a maximum and sums scaled by its exponential. -/
def Kept (l : ℝ) (M : EReal) (A : Fin 128 → EReal) (T : Fin 128 → ℝ) : Prop :=
  (M = ⊥ ∧ (∀ x, A x = 0) ∧ ∀ x, T x = 0) ∨ ∃ μ : ℝ, M = (μ : EReal) ∧ ∀ x, A x = ((Real.exp (-(μ * l)) * T x : ℝ) : EReal)

/-- One more tile of keys keeps the row's form. -/
theorem Kept.step {l : ℝ} (hl : 0 < l) {M M' : EReal} {A A' : Fin 128 → EReal} {T : Fin 128 → ℝ} (h : Kept l M A T)
    (a : Fin 512 → Prop) [DecidablePred a] (y : Fin 512 → ℝ) (vs : Fin 512 → Fin 128 → ℝ) (hr : M ≠ ⊥ ∨ ∃ k, a k)
    (hM : M' = max M (Finset.univ.fold max ⊥ fun k => sc (a k) (y k)))
    (hA : ∀ x, A' x = Ideal.exp ((M - M') * (l : EReal)) * A x + ∑ k, Ideal.exp ((sc (a k) (y k) - M') * (l : EReal)) * (vs k x : EReal)) :
    Kept l M' A' (fun x => T x + ∑ k, mexp (a k) (y k * l) * vs k x) ∧ M' ≠ ⊥ := by
  have hz : M ≠ ⊤ := by
    rcases h with ⟨h, _⟩ | ⟨μ, h, _⟩ <;> rw [h]
    · exact bot_ne_top
    · exact EReal.coe_ne_top μ
  obtain ⟨ν, hν⟩ := max_real (fun k => sc (a k) (y k)) M hz (fun k => sc_ne_top _ _) (hr.imp id fun ⟨k, hk⟩ => ⟨k, by
    unfold sc; rw [if_pos hk]; exact EReal.coe_ne_bot _⟩)
  rw [hν] at hM
  refine ⟨Or.inr ⟨ν, hM, fun x => ?_⟩, by rw [hM]; exact EReal.coe_ne_bot ν⟩
  have hs : (∑ k, Ideal.exp ((sc (a k) (y k) - (ν : EReal)) * (l : EReal)) * (vs k x : EReal))
      = ((Real.exp (-(ν * l)) * ∑ k, mexp (a k) (y k * l) * vs k x : ℝ) : EReal) := by
    rw [Finset.mul_sum, coe_sum]
    refine Finset.sum_congr rfl fun k _ => ?_
    rw [exp_sc _ _ _ _ hl, ← EReal.coe_mul]
    congr 1; ring
  rw [hA x, hM, hs]
  beta_reduce
  rcases h with ⟨h, h0, h1⟩ | ⟨μ, h, h0⟩
  · rw [h0, h1, mul_zero, zero_add, zero_add]
  · rw [h0, h, ← EReal.coe_sub, ← EReal.coe_mul, Ideal.exp_coe, ← EReal.coe_mul, ← EReal.coe_add]
    congr 1
    rw [mul_add, ← mul_assoc, ← Real.exp_add]
    congr 3; ring

theorem Kept.start (l : ℝ) : Kept l ⊥ (fun _ => 0) (fun _ => 0) := Or.inl ⟨rfl, fun _ => rfl, fun _ => rfl⟩

/-- A row's sum over all keys, from its four tiles. -/
theorem four_tiles (f : Fin 2048 → ℝ) : (((0 + ∑ k : Fin 512, f ⟨0 + k.val, by omega⟩) + ∑ k : Fin 512, f ⟨512 + k.val, by omega⟩)
    + ∑ k : Fin 512, f ⟨1024 + k.val, by omega⟩) + ∑ k : Fin 512, f ⟨1536 + k.val, by omega⟩ = ∑ k, f k := by
  rw [Fin.sum_univ_tiles 4 512 rfl f, Fin.sum_univ_four, zero_add]
  rfl

end Cert.Kernel3Ideal.Attn
end
-- ==== Proof.AttnHost.lean ====
module

public import proofs.«01_k».proof.Proof.Gen.Kernel3Ideal.Frame
public import Idealize.ShloMosaic.Lib.Pipeline.ValueKit
public import Idealize.ShloMosaic.Lib.Claim
public import Idealize.ShloMosaic.Lib.StableHlo.RunRead

@[expose] public section
set_option maxRecDepth 16384
noncomputable section
open Idealize.ShloMosaic Idealize.ShloMosaic.TcCoe Idealize.SL.Sem
open Idealize.ShloMosaic.Pipeline (Dat)
namespace Cert.Kernel3Ideal.Attn
open Cert.Kernel3Ideal Cert.Kernel3Ideal.Gen

/-! The arrays the attention's host lines prepare for the kernel, read at an index. -/

/-- Four parts of a head side by side, padded to the lanes of the kernel and turned head first. -/
def padCat (A : FVec Ideal S4x2048x8x16 .f32) (B : FVec Ideal S4x2048x8x48 .f32) (C D : FVec Ideal S4x2048x8x16 .f32) : FVec Ideal S4x8x2048x128 .bf16 :=
  truncf FTy.bf16 (transpose S4x8x2048x128 [0, 2, 1, 3] (pad S4x2048x8x128 ![0, 0, 0, 0] ![0, 0, 0, 32] ![0, 0, 0, 0] (concatenate S4x2048x8x96 3 [⟨S4x2048x8x16, A⟩, ⟨S4x2048x8x48, B⟩, ⟨S4x2048x8x16, C⟩, ⟨S4x2048x8x16, D⟩] concatenates_S4x2048x8x16_S4x2048x8x48_S4x2048x8x16_S4x2048x8x16_S4x2048x8x96_d3) (sitofp FTy.f32 (constantI S_ 32 0#32) : FVec Ideal S_ .f32) pads_S4x2048x8x96_S4x2048x8x128_000_000_000_0320 h_S_) transposes_S4x2048x8x128_S4x8x2048x128_0_2_1_3) bitsLt_bf16_f32

/-- The coordinate of a head that lane `x` of its padded form holds: the rotated part is split over both halves of the lanes. -/
def prm (x : Fin 128) : Fin 96 := ⟨if x.val < 16 then x.val + 64 else if x.val < 64 then x.val - 16 else if x.val < 80 then x.val + 16 else x.val % 96 - 32 % 96, by split_ifs <;> omega⟩

theorem padCat_at (A : FVec Ideal S4x2048x8x16 .f32) (B : FVec Ideal S4x2048x8x48 .f32) (C D : FVec Ideal S4x2048x8x16 .f32) (b : Fin 4) (s : Fin 2048) (H : Fin 8) (x : Fin 128)
    (X : FVec Ideal S4x2048x8x96 .f32) (hA : ∀ j : Fin 16, A (ix4 b s H j) = X (ix4 b s H ⟨64 + j.val, by omega⟩)) (hB : ∀ j : Fin 48, B (ix4 b s H j) = X (ix4 b s H ⟨j.val, by omega⟩))
    (hC : ∀ j : Fin 16, C (ix4 b s H j) = X (ix4 b s H ⟨80 + j.val, by omega⟩)) (hD : ∀ j : Fin 16, D (ix4 b s H j) = X (ix4 b s H ⟨48 + j.val, by omega⟩)) :
    @Eq EReal (padCat A B C D (ix4 b H s x)) (if x.val < 96 then X (ix4 b s H (prm x)) else 0) := by
  have e : ∀ u v : Fin 96, u.val = v.val → X (ix4 b s H u) = X (ix4 b s H v) := fun u v h => by rw [Fin.ext h]
  unfold padCat
  pointwise
  simp only [hA, hB, hC, hD]
  by_cases h : x.val < 96
  · rw [dif_pos h, if_pos h]
    split_ifs <;> (apply e; unfold prm; simp only []; split_ifs <;> omega)
  · rw [dif_neg h, if_neg h]
    show (((0#32 : BitVec 32).toInt : ℝ) : EReal) = 0
    simp

/-- An entry of a head's array, of the arguments' layout (96 and 64 coordinates) and of the kernel's (128 lanes). -/
def e96 (X : Vec Ideal S4x2048x8x96 .f32) (b : Fin 4) (s : Fin 2048) (H : Fin 8) (d : Fin 96) : EReal := X (ix4 b s H d)
@[inherit_doc e96] def e64 (X : Vec Ideal S4x2048x8x64 .f32) (b : Fin 4) (s : Fin 2048) (H : Fin 8) (d : Fin 64) : EReal := X (ix4 b s H d)
@[inherit_doc e96] def e128 (X : Vec Ideal S4x8x2048x128 .bf16) (b : Fin 4) (H : Fin 8) (s : Fin 2048) (x : Fin 128) : EReal := X (ix4 b H s x)

/-- The scale of the scores, as its float word reads. -/
def cq : ℝ := 3424635 / 33554432
theorem cq_eq : Ideal.ofBits .f32 0x3DD105EC#32 = (cq : EReal) := by
  unfold cq
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem ln2_eq : Ideal.log (Ideal.ofBits .f32 0x40000000#32) = (Real.log 2 : EReal) := by
  rw [two_eq, Ideal.log_coe, if_neg (by norm_num)]
theorem ln2_pos : 0 < Real.log 2 := Real.log_pos (by norm_num)
theorem cl_eq : Ideal.div (Ideal.ofBits .f32 0x3DD105EC#32) (Ideal.log (Ideal.ofBits .f32 0x40000000#32)) = ((cq / Real.log 2 : ℝ) : EReal) := by
  rw [cq_eq, ln2_eq, Ideal.div_coe ln2_pos.ne', ← EReal.coe_mul]
  congr 1; ring

variable (m : (ℓ : Loc nD τ sig) → Buf (Elt Ideal) ℓ) (c : Dev nD)

theorem v18_at (b : Fin 4) (H : Fin 8) (s : Fin 2048) (x : Fin 128) : e128 (V m c main_v18) b H s x =
    (if x.val < 96 then e96 (m (c, Proc.devRef .tc main_arg0)) b s H (prm x) * ((cq / Real.log 2 : ℝ) : EReal) else 0) := by
  unfold e128 V V0
  after_reads_simp [StableHlo.TRef.toBuf, StableHlo.TRef.ofBuf, cast_eq]
  refine Eq.trans (show _ = padCat _ _ _ _ (ix4 b H s x) from rfl) ?_
  simp only [Matrix.cons_val]
  after_reads_simp []
  refine padCat_at _ _ _ _ b s H x (fun i => @HMul.hMul EReal EReal EReal _ (m (c, Proc.devRef .tc main_arg0) i) ((cq / Real.log 2 : ℝ) : EReal)) ?_ ?_ ?_ ?_
  all_goals
    intro j
    pointwise
    rw [cl_eq]
    try refine congrArg (fun z => @HMul.hMul EReal EReal EReal _ (m (c, Proc.devRef .tc main_arg0) z) ((cq / Real.log 2 : ℝ) : EReal)) (by congr 1; apply Fin.ext; simp only []; omega)

theorem v27_at (b : Fin 4) (H : Fin 8) (s : Fin 2048) (x : Fin 128) : e128 (V m c main_v27) b H s x =
    (if x.val < 96 then e96 (m (c, Proc.devRef .tc main_arg1)) b s H (prm x) else 0) := by
  unfold e128 V V0
  after_reads_simp [StableHlo.TRef.toBuf, StableHlo.TRef.ofBuf, cast_eq]
  refine Eq.trans (show _ = padCat _ _ _ _ (ix4 b H s x) from rfl) ?_
  simp only [Matrix.cons_val]
  after_reads_simp []
  refine padCat_at _ _ _ _ b s H x (m (c, Proc.devRef .tc main_arg1) : Vec Ideal S4x2048x8x96 .f32) ?_ ?_ ?_ ?_
  all_goals
    intro j
    pointwise
  all_goals exact congrArg (m (c, Proc.devRef .tc main_arg1)) (by congr 1; apply Fin.ext; simp only []; omega)

/-- Tiles of a head, each turned. -/
def turned (K : Vec Ideal S4x8x2048x128 .bf16) : Vec Ideal S4x8x4x128x512 .bf16 :=
  transpose S4x8x4x128x512 [0, 1, 2, 4, 3] (shapeCast S4x8x4x512x128 K shapeCasts_S4x8x2048x128_S4x8x4x512x128) transposes_S4x8x4x512x128_S4x8x4x128x512_0_1_2_4_3

theorem turned_at (K : Vec Ideal S4x8x2048x128 .bf16) (b : Fin 4) (H : Fin 8) (j : Fin 4) (x : Fin 128) (k : Fin 512) :
    turned K (ix5 b H j x k) = K (ix4 b H ⟨512 * j.val + k.val, by omega⟩ x) := by
  unfold turned
  pointwise
  refine congrArg K ?_
  congr 1
  apply Fin.ext
  simp only []
  omega

theorem v36_eq : V m c main_v36 = turned (V m c main_v27) := by
  unfold V V0
  after_reads_simp [StableHlo.TRef.toBuf, StableHlo.TRef.ofBuf, cast_eq]
  rfl

theorem even_bit : ∀ H : Fin 8, IntOp.cmpi CmpIPredicate.eq (IntOp.remsi ArithUnit.host (BitVec.ofNat 32 H.val) 2#32) 0#32 = if H.val % 2 = 0 then 1#1 else 0#1 := by
  decide

theorem v34_at (b : Fin 4) (H : Fin 8) (s : Fin 2048) (x : Fin 128) : e128 (V m c main_v34) b H s x =
    (if x.val / 64 = H.val % 2 then e64 (m (c, Proc.devRef .tc main_arg2)) b s H ⟨x.val % 64, by omega⟩ else 0) := by
  unfold e128 V V0
  after_reads_simp [StableHlo.TRef.toBuf, StableHlo.TRef.ofBuf, cast_eq]
  pointwise
  after_reads_simp []
  pointwise
  rw [even_bit]
  have e : ∀ u v : Fin 64, u.val = v.val → (m (c, Proc.devRef .tc main_arg2) : Vec Ideal S4x2048x8x64 .f32) (ix4 b s H u) = (m (c, Proc.devRef .tc main_arg2) : Vec Ideal S4x2048x8x64 .f32) (ix4 b s H v) := fun u v h => by rw [Fin.ext h]
  by_cases h0 : H.val % 2 = 0
  · rw [if_pos h0]
    refine Eq.trans (show Scalar.select 1#1 _ _ = _ from rfl) ?_
    by_cases h1 : x.val / 64 = H.val % 2
    · rw [if_pos h1]
      split_ifs <;> first | (exfalso; omega) | exact e _ _ (by simp only []; omega)
    · rw [if_neg h1]
      split_ifs <;> first | (exfalso; omega) | rfl
  · rw [if_neg h0]
    refine Eq.trans (show Scalar.select 0#1 _ _ = _ from rfl) ?_
    by_cases h1 : x.val / 64 = H.val % 2
    · rw [if_pos h1]
      split_ifs <;> first | (exfalso; omega) | exact e _ _ (by simp only []; omega)
    · rw [if_neg h1]
      split_ifs <;> first | (exfalso; omega) | rfl

theorem lane_bit : ∀ (H : Fin 8) (x : Fin 128), IntOp.cmpi CmpIPredicate.eq (BitVec.ofNat 32 x.val) (Scalar.select (if H.val % 2 = 0 then 1#1 else 0#1) 127#32 0#32)
    = if x.val = 127 * ((H.val + 1) % 2) then 1#1 else 0#1 := by
  decide +kernel

theorem v43_at (H : Fin 8) (x : Fin 128) : @Eq (BitVec 1) ((V m c main_v43 : Vec Ideal S1x8x1x128 .i1) (ix4 0 H 0 x)) (if x.val = 127 * ((H.val + 1) % 2) then 1#1 else 0#1) := by
  unfold V V0
  after_reads_simp [StableHlo.TRef.toBuf, StableHlo.TRef.ofBuf, cast_eq, id]
  pointwise
  rw [even_bit]
  exact lane_bit H x

theorem div_bits : ∀ s : Fin 2048, IntOp.divsi ArithUnit.host (BitVec.ofNat 32 s.val) 64#32 = BitVec.ofNat 32 (s.val / 64) := by
  decide +kernel
theorem ge_bits : ∀ a b : Fin 32, IntOp.cmpi CmpIPredicate.sge (BitVec.ofNat 32 a.val) (BitVec.ofNat 32 b.val) = if b.val ≤ a.val then 1#1 else 0#1 := by
  decide +kernel

/-- Which keys a query may see: those of its chunk of 64 and of the chunks before. -/
theorem chunk_bit (s k : Fin 2048) : IntOp.cmpi CmpIPredicate.sge (IntOp.divsi ArithUnit.host (BitVec.ofNat 32 s.val) 64#32) (IntOp.divsi ArithUnit.host (BitVec.ofNat 32 k.val) 64#32)
    = if k.val / 64 ≤ s.val / 64 then 1#1 else 0#1 := by
  rw [div_bits, div_bits]
  exact ge_bits ⟨s.val / 64, by omega⟩ ⟨k.val / 64, by omega⟩

theorem v55_at (s k : Fin 2048) : @Eq (BitVec 1) ((V m c main_v55 : Vec Ideal S2048x2048 .i1) (ix2 s k)) (if k.val / 64 ≤ s.val / 64 then 1#1 else 0#1) := by
  unfold V V0
  after_reads_simp [StableHlo.TRef.toBuf, StableHlo.TRef.ofBuf, cast_eq]
  pointwise
  exact chunk_bit s k

/-- The values' array with a one in its head's lane for the sum. -/
def withOne (Vp : FVec Ideal S4x8x2048x128 .bf16) (B : IVec S1x8x1x128 1) : FVec Ideal S4x8x2048x128 .bf16 :=
  addf Vp (broadcastInDim S4x8x2048x128 ![0, 1, 2, 3] bcast_S1x8x1x128_S4x8x2048x128_0_1_2_3 (uitofp .bf16 B))

theorem withOne_at (Vp : FVec Ideal S4x8x2048x128 .bf16) (B : IVec S1x8x1x128 1) (b : Fin 4) (H : Fin 8) (s : Fin 2048) (x : Fin 128) :
    e128 (withOne Vp B) b H s x = e128 Vp b H s x + (((B (ix4 0 H 0 x)).toNat : ℝ) : EReal) := by
  unfold e128 withOne
  pointwise
  rfl

theorem v47_eq : V m c main_v47 = withOne (V m c main_v34) (V m c main_v43) := by
  unfold V V0
  after_reads_simp [StableHlo.TRef.toBuf, StableHlo.TRef.ofBuf, cast_eq]
  rfl

theorem v47_at (b : Fin 4) (H : Fin 8) (s : Fin 2048) (x : Fin 128) : e128 (V m c main_v47) b H s x
    = e128 (V m c main_v34) b H s x + (if x.val = 127 * ((H.val + 1) % 2) then 1 else 0) := by
  rw [v47_eq, withOne_at, v43_at]
  split_ifs <;> simp
-- ==== Proof.AttnStages.lean ====
module

public import proofs.«01_k».proof.Proof.Gen.Kernel3Ideal.Frame
public import Idealize.ShloMosaic.Lib.Pipeline.ValueKit
public import Idealize.ShloMosaic.Lib.Claim
public import Idealize.ShloMosaic.Lib.StableHlo.RunRead
public import proofs.«01_k».proof.Proof.AttnReal
public import proofs.«01_k».proof.Proof.AttnHost

@[expose] public section
set_option maxRecDepth 16384
noncomputable section
open Idealize.ShloMosaic Idealize.ShloMosaic.TcCoe Idealize.SL.Sem
open Idealize.ShloMosaic.Pipeline (Dat)
namespace Cert.Kernel3Ideal.Attn
open Cert.Kernel3Ideal Cert.Kernel3Ideal.Gen

/-! The softmax of the host lines, four tiles of 512 keys at a time. -/

/-- The masked scores of one tile of keys. -/
def scoreTile (Q : FVec Ideal S4x8x2048x128 .bf16) (K : FVec Ideal S4x8x512x128 .bf16) (M : IVec S2048x512 1) : FVec Ideal S4x8x2048x512 .f32 :=
  select (broadcastInDim S4x8x2048x512 ![0, 1, 2, 3] bcast_S1x1x2048x512_S4x8x2048x512_0_1_2_3 (broadcastInDim S1x1x2048x512 ![2, 3] bcast_S2048x512_S1x1x2048x512_2_3 M))
    (Host.dotGeneral dot_S4x8x2048x128_S4x8x512x128_S4x8x2048x512_3_3_2_2_01_01 none Q K)
    (broadcastInDim S4x8x2048x512 ![] bcast_S_S4x8x2048x512 (constant S_ .f32 0xFF800000#32 : FVec Ideal S_ .f32))
/-- The row maximum after one more tile. -/
def nextMax (M : FVec Ideal S4x8x2048x1 .f32) (S : FVec Ideal S4x8x2048x512 .f32) : FVec Ideal S4x8x2048x1 .f32 :=
  maximumf M (broadcastInDim S4x8x2048x1 ![0, 1, 2] bcast_S4x8x2048_S4x8x2048x1_0_1_2
    (Host.reduce FloatOps.maximumf S (constant S_ .f32 0xFF800000#32 : FVec Ideal S_ .f32) reducesTo_S4x8x2048x512_S4x8x2048_d3 h_S_))
/-- The row sums after one more tile. -/
def nextAcc (ln : FVec Ideal S_ .f32) (M M' : FVec Ideal S4x8x2048x1 .f32) (S : FVec Ideal S4x8x2048x512 .f32) (A : FVec Ideal S4x8x2048x128 .f32)
    (Vt : FVec Ideal S4x8x512x128 .bf16) : FVec Ideal S4x8x2048x128 .f32 :=
  addf (mulf (broadcastInDim S4x8x2048x128 ![0, 1, 2, 3] bcast_S4x8x2048x1_S4x8x2048x128_0_1_2_3 (Host.exp (mulf (subf M M') (broadcastInDim S4x8x2048x1 ![] bcast_S_S4x8x2048x1 ln)))) A)
    (Host.dotGeneral dot_S4x8x2048x512_S4x8x512x128_S4x8x2048x128_3_2_2_3_01_01 none
      (truncf .bf16 (Host.exp (mulf (subf S (broadcastInDim S4x8x2048x512 ![0, 1, 2, 3] bcast_S4x8x2048x1_S4x8x2048x512_0_1_2_3 M')) (broadcastInDim S4x8x2048x512 ![] bcast_S_S4x8x2048x512 ln))) bitsLt_bf16_f32) Vt)

/-- An entry of the scores, of the row maxima and of the row sums. -/
def e512 (X : FVec Ideal S4x8x2048x512 .f32) (b : Fin 4) (H : Fin 8) (s : Fin 2048) (k : Fin 512) : EReal := X (ix4 b H s k)
@[inherit_doc e512] def e1 (X : FVec Ideal S4x8x2048x1 .f32) (b : Fin 4) (H : Fin 8) (s : Fin 2048) : EReal := X (ix4 b H s 0)
@[inherit_doc e512] def eA (X : FVec Ideal S4x8x2048x128 .f32) (b : Fin 4) (H : Fin 8) (s : Fin 2048) (x : Fin 128) : EReal := X (ix4 b H s x)
/-- An entry of one tile of keys or values. -/
def eT (X : FVec Ideal S4x8x512x128 .bf16) (b : Fin 4) (H : Fin 8) (k : Fin 512) (x : Fin 128) : EReal := X (ix4 b H k x)

theorem bot_eq : Ideal.ofBits .f32 0xFF800000#32 = (⊥ : EReal) := by
  simp [Ideal.ofBits, Ideal.ieee]

theorem scoreTile_at (Q : FVec Ideal S4x8x2048x128 .bf16) (K : FVec Ideal S4x8x512x128 .bf16) (M : IVec S2048x512 1) (b : Fin 4) (H : Fin 8) (s : Fin 2048) (k : Fin 512) :
    e512 (scoreTile Q K M) b H s k = Scalar.select (M (ix2 s k)) (∑ x, e128 Q b H s x * eT K b H k x) (⊥ : EReal) := by
  unfold e512 scoreTile e128 eT
  pointwise
  rw [bot_eq]

theorem redMax_at (S : FVec Ideal S4x8x2048x512 .f32) (I : FVec Ideal S_ .f32) (b : Fin 4) (H : Fin 8) (s : Fin 2048) :
    Host.reduce FloatOps.maximumf S I reducesTo_S4x8x2048x512_S4x8x2048_d3 h_S_ (ix3 b H s) = Finset.univ.fold max (I (Shape.Idx.first h_S_)) fun k => S (ix4 b H s k) := by
  simp only [pointwise]

theorem maxRow_at (M : FVec Ideal S4x8x2048x1 .f32) (R : FVec Ideal S4x8x2048 .f32) (b : Fin 4) (H : Fin 8) (s : Fin 2048) :
    e1 (maximumf M (broadcastInDim S4x8x2048x1 ![0, 1, 2] bcast_S4x8x2048_S4x8x2048x1_0_1_2 R)) b H s = max (e1 M b H s) (R (ix3 b H s)) := by
  unfold e1
  pointwise

theorem nextMax_at (M : FVec Ideal S4x8x2048x1 .f32) (S : FVec Ideal S4x8x2048x512 .f32) (b : Fin 4) (H : Fin 8) (s : Fin 2048) :
    e1 (nextMax M S) b H s = max (e1 M b H s) (Finset.univ.fold max ⊥ fun k => e512 S b H s k) := by
  unfold nextMax e512
  rw [maxRow_at, redMax_at, constant_apply, Ideal.ofBits_def, bot_eq]

theorem nextAcc_at (ln : FVec Ideal S_ .f32) (M M' : FVec Ideal S4x8x2048x1 .f32) (S : FVec Ideal S4x8x2048x512 .f32) (A : FVec Ideal S4x8x2048x128 .f32)
    (Vt : FVec Ideal S4x8x512x128 .bf16) (l : EReal) (hl : ∀ i, ln i = l) (b : Fin 4) (H : Fin 8) (s : Fin 2048) (x : Fin 128) :
    eA (nextAcc ln M M' S A Vt) b H s x = Ideal.exp ((e1 M b H s - e1 M' b H s) * l) * eA A b H s x
      + ∑ k, Ideal.exp ((e512 S b H s k - e1 M' b H s) * l) * eT Vt b H k x := by
  unfold e512 nextAcc e1 eA eT
  pointwise
  simp only [hl]

variable (m : (ℓ : Loc nD τ sig) → Buf (Elt Ideal) ℓ) (c : Dev nD)

theorem v6_at (i : S_.Idx) : @Eq EReal ((V m c main_v6 : FVec Ideal S_ .f32) i) (Real.log 2 : ℝ) := by
  unfold V V0
  after_reads_simp [StableHlo.TRef.toBuf, StableHlo.TRef.ofBuf, cast_eq]
  exact ln2_eq
theorem v56_at (b : Fin 4) (H : Fin 8) (s : Fin 2048) : e1 (V m c main_v56) b H s = ⊥ := by
  unfold e1 V V0
  after_reads_simp [StableHlo.TRef.toBuf, StableHlo.TRef.ofBuf, cast_eq]
  pointwise
  exact bot_eq
theorem v57_at (b : Fin 4) (H : Fin 8) (s : Fin 2048) (x : Fin 128) : eA (V m c main_v57) b H s x = 0 := by
  unfold eA V V0
  after_reads_simp [StableHlo.TRef.toBuf, StableHlo.TRef.ofBuf, cast_eq]
  pointwise

theorem v62_eq : V m c main_v62 = scoreTile (V m c main_v18) (extractStridedSlice S4x8x512x128 ![0, 0, 0, 0] (V m c main_v27) slices_S4x8x2048x128_S4x8x512x128_0_0_0_0)
    (extractStridedSlice S2048x512 ![0, 0] (V m c main_v55) slices_S2048x2048_S2048x512_0_0) := by
  unfold V V0
  after_reads_simp [StableHlo.TRef.toBuf, StableHlo.TRef.ofBuf, cast_eq]
  rfl

theorem v65_eq : V m c main_v65 = nextMax (V m c main_v56) (V m c main_v62) := by
  unfold V V0
  after_reads_simp [StableHlo.TRef.toBuf, StableHlo.TRef.ofBuf, cast_eq]
  rfl

theorem v80_eq : V m c main_v80 = nextAcc (V m c main_v6) (V m c main_v56) (V m c main_v65) (V m c main_v62) (V m c main_v57)
    (extractStridedSlice S4x8x512x128 ![0, 0, 0, 0] (V m c main_v47) slices_S4x8x2048x128_S4x8x512x128_0_0_0_0) := by
  unfold V V0
  after_reads_simp [StableHlo.TRef.toBuf, StableHlo.TRef.ofBuf, cast_eq]
  rfl

theorem v85_eq : V m c main_v85 = scoreTile (V m c main_v18) (extractStridedSlice S4x8x512x128 ![0, 0, 512, 0] (V m c main_v27) slices_S4x8x2048x128_S4x8x512x128_0_0_512_0)
    (extractStridedSlice S2048x512 ![0, 512] (V m c main_v55) slices_S2048x2048_S2048x512_0_512) := by
  unfold V V0
  after_reads_simp [StableHlo.TRef.toBuf, StableHlo.TRef.ofBuf, cast_eq]
  rfl

theorem v88_eq : V m c main_v88 = nextMax (V m c main_v65) (V m c main_v85) := by
  unfold V V0
  after_reads_simp [StableHlo.TRef.toBuf, StableHlo.TRef.ofBuf, cast_eq]
  rfl

theorem v103_eq : V m c main_v103 = nextAcc (V m c main_v6) (V m c main_v65) (V m c main_v88) (V m c main_v85) (V m c main_v80)
    (extractStridedSlice S4x8x512x128 ![0, 0, 512, 0] (V m c main_v47) slices_S4x8x2048x128_S4x8x512x128_0_0_512_0) := by
  unfold V V0
  after_reads_simp [StableHlo.TRef.toBuf, StableHlo.TRef.ofBuf, cast_eq]
  rfl

theorem v108_eq : V m c main_v108 = scoreTile (V m c main_v18) (extractStridedSlice S4x8x512x128 ![0, 0, 1024, 0] (V m c main_v27) slices_S4x8x2048x128_S4x8x512x128_0_0_1024_0)
    (extractStridedSlice S2048x512 ![0, 1024] (V m c main_v55) slices_S2048x2048_S2048x512_0_1024) := by
  unfold V V0
  after_reads_simp [StableHlo.TRef.toBuf, StableHlo.TRef.ofBuf, cast_eq]
  rfl

theorem v111_eq : V m c main_v111 = nextMax (V m c main_v88) (V m c main_v108) := by
  unfold V V0
  after_reads_simp [StableHlo.TRef.toBuf, StableHlo.TRef.ofBuf, cast_eq]
  rfl

theorem v126_eq : V m c main_v126 = nextAcc (V m c main_v6) (V m c main_v88) (V m c main_v111) (V m c main_v108) (V m c main_v103)
    (extractStridedSlice S4x8x512x128 ![0, 0, 1024, 0] (V m c main_v47) slices_S4x8x2048x128_S4x8x512x128_0_0_1024_0) := by
  unfold V V0
  after_reads_simp [StableHlo.TRef.toBuf, StableHlo.TRef.ofBuf, cast_eq]
  rfl

theorem v131_eq : V m c main_v131 = scoreTile (V m c main_v18) (extractStridedSlice S4x8x512x128 ![0, 0, 1536, 0] (V m c main_v27) slices_S4x8x2048x128_S4x8x512x128_0_0_1536_0)
    (extractStridedSlice S2048x512 ![0, 1536] (V m c main_v55) slices_S2048x2048_S2048x512_0_1536) := by
  unfold V V0
  after_reads_simp [StableHlo.TRef.toBuf, StableHlo.TRef.ofBuf, cast_eq]
  rfl

theorem v134_eq : V m c main_v134 = nextMax (V m c main_v111) (V m c main_v131) := by
  unfold V V0
  after_reads_simp [StableHlo.TRef.toBuf, StableHlo.TRef.ofBuf, cast_eq]
  rfl

theorem v149_eq : V m c main_v149 = nextAcc (V m c main_v6) (V m c main_v111) (V m c main_v134) (V m c main_v131) (V m c main_v126)
    (extractStridedSlice S4x8x512x128 ![0, 0, 1536, 0] (V m c main_v47) slices_S4x8x2048x128_S4x8x512x128_0_0_1536_0) := by
  unfold V V0
  after_reads_simp [StableHlo.TRef.toBuf, StableHlo.TRef.ofBuf, cast_eq]
  rfl
-- ==== Proof.AttnSoft.lean ====
module

public import proofs.«01_k».proof.Proof.Gen.Kernel3Ideal.Frame
public import Idealize.ShloMosaic.Lib.Pipeline.ValueKit
public import Idealize.ShloMosaic.Lib.Claim
public import Idealize.ShloMosaic.Lib.StableHlo.RunRead
public import proofs.«01_k».proof.Proof.AttnReal
public import proofs.«01_k».proof.Proof.AttnStages

@[expose] public section
set_option maxRecDepth 16384
noncomputable section
open Idealize.ShloMosaic Idealize.ShloMosaic.TcCoe Idealize.SL.Sem
open Idealize.ShloMosaic.Pipeline (Dat)
namespace Cert.Kernel3Ideal.Attn
open Cert.Kernel3Ideal Cert.Kernel3Ideal.Gen

/-! The softmax of the host lines over the reals: what its last maximum and sums hold. -/

/-- The lane that holds coordinate `d` of a head. -/
def lan (d : Fin 96) : Fin 128 := ⟨if d.val < 48 then d.val + 16 else if d.val < 64 then d.val + 32 else if d.val < 80 then d.val % 96 - 64 % 96 else d.val - 16, by split_ifs <;> omega⟩

theorem prm_lan (d : Fin 96) : prm (lan d) = d := by
  apply Fin.ext; unfold prm lan; simp only []; split_ifs <;> omega
theorem lan_prm (x : Fin 128) (h : x.val < 96) : lan (prm x) = x := by
  apply Fin.ext; unfold prm lan; simp only []; split_ifs <;> omega
theorem lan_lt (d : Fin 96) : (lan d).val < 96 := by
  unfold lan; simp only []; split_ifs <;> omega

/-- A sum over the lanes of a head is the sum over its coordinates. -/
theorem sum_lanes {α : Type} [AddCommMonoid α] (f : Fin 96 → α) : (∑ x : Fin 128, if x.val < 96 then f (prm x) else 0) = ∑ d, f d := by
  rw [← Finset.sum_filter]
  exact Finset.sum_nbij' prm lan (fun _ _ => Finset.mem_univ _) (fun d _ => Finset.mem_filter.mpr ⟨Finset.mem_univ _, lan_lt d⟩)
    (fun x hx => lan_prm x (Finset.mem_filter.mp hx).2) (fun d _ => prm_lan d) (fun _ _ => rfl)

/-- A query's or key's heads, and a value's. -/
abbrev Heads := Fin 4 → Fin 2048 → Fin 8 → Fin 96 → ℝ
@[inherit_doc Heads] abbrev Vals := Fin 4 → Fin 2048 → Fin 8 → Fin 64 → ℝ

/-- Whether a query sees a key. -/
abbrev sees (s key : Fin 2048) : Prop := key.val / 64 ≤ s.val / 64
/-- The scaled score of a query and a key. -/
def score (q k : Heads) (b : Fin 4) (H : Fin 8) (s key : Fin 2048) : ℝ := (∑ d, q b s H d * k b key H d) * cq
/-- Its masked exponential. -/
def expo (q k : Heads) (b : Fin 4) (H : Fin 8) (s key : Fin 2048) : ℝ := mexp (sees s key) (score q k b H s key)
/-- Their row sum. -/
def rowSum (q k : Heads) (b : Fin 4) (H : Fin 8) (s : Fin 2048) : ℝ := ∑ key, expo q k b H s key
/-- A key's value in the lanes of its pair of heads, with a one in the lane of the sum. -/
def oneLane (v : Vals) (b : Fin 4) (H : Fin 8) (key : Fin 2048) (x : Fin 128) : ℝ :=
  (if x.val / 64 = H.val % 2 then v b key H ⟨x.val % 64, by omega⟩ else 0) + if x.val = 127 * ((H.val + 1) % 2) then 1 else 0

theorem slice_tile (X : FVec Ideal S4x8x2048x128 .bf16) (o : ℕ) (ho : o + 512 ≤ 2048) (h : S4x8x2048x128.Slices ![0, 0, o, 0] S4x8x512x128) (b : Fin 4) (H : Fin 8) (k : Fin 512) (x : Fin 128) :
    eT (extractStridedSlice S4x8x512x128 ![0, 0, o, 0] X h) b H k x = e128 X b H ⟨o + k.val, by omega⟩ x := by
  unfold eT e128
  pointwise

theorem slice_mask (X : IVec S2048x2048 1) (o : ℕ) (ho : o + 512 ≤ 2048) (h : S2048x2048.Slices ![0, o] S2048x512) (s : Fin 2048) (k : Fin 512) :
    extractStridedSlice S2048x512 ![0, o] X h (ix2 s k) = X (ix2 s ⟨o + k.val, by omega⟩) := by
  pointwise

variable (m : (ℓ : Loc nD τ sig) → Buf (Elt Ideal) ℓ) (c : Dev nD) (q k : Heads) (v : Vals)
  (hq : ∀ b s H d, e96 (m (c, Proc.devRef .tc main_arg0)) b s H d = (q b s H d : EReal))
  (hk : ∀ b s H d, e96 (m (c, Proc.devRef .tc main_arg1)) b s H d = (k b s H d : EReal))
  (hv : ∀ b s H d, e64 (m (c, Proc.devRef .tc main_arg2)) b s H d = (v b s H d : EReal))

include hq in
theorem v18_real (b : Fin 4) (H : Fin 8) (s : Fin 2048) (x : Fin 128) :
    e128 (V m c main_v18) b H s x = ((if x.val < 96 then q b s H (prm x) * (cq / Real.log 2) else 0 : ℝ) : EReal) := by
  rw [v18_at, hq]; split_ifs
  · rw [← EReal.coe_mul]
  · rfl

include hk in
theorem v27_real (b : Fin 4) (H : Fin 8) (s : Fin 2048) (x : Fin 128) :
    e128 (V m c main_v27) b H s x = ((if x.val < 96 then k b s H (prm x) else 0 : ℝ) : EReal) := by
  rw [v27_at, hk]; split_ifs <;> rfl

include hv in
theorem v34_real (b : Fin 4) (H : Fin 8) (s : Fin 2048) (x : Fin 128) :
    e128 (V m c main_v34) b H s x = ((if x.val / 64 = H.val % 2 then v b s H ⟨x.val % 64, by omega⟩ else 0 : ℝ) : EReal) := by
  rw [v34_at, hv]; split_ifs <;> rfl

include hv in
theorem v47_real (b : Fin 4) (H : Fin 8) (s : Fin 2048) (x : Fin 128) : e128 (V m c main_v47) b H s x = (oneLane v b H s x : EReal) := by
  rw [v47_at, v34_real m c v hv]
  unfold oneLane
  rw [EReal.coe_add]
  congr 1
  split_ifs <;> simp

include hq hk in
/-- The base-two score. -/
theorem dot_real (b : Fin 4) (H : Fin 8) (s key : Fin 2048) :
    (∑ x, e128 (V m c main_v18) b H s x * e128 (V m c main_v27) b H key x) = ((score q k b H s key / Real.log 2 : ℝ) : EReal) := by
  rw [show score q k b H s key / Real.log 2 = ∑ x : Fin 128, if x.val < 96 then q b s H (prm x) * (cq / Real.log 2) * k b key H (prm x) else 0 by
    rw [sum_lanes (fun d => q b s H d * (cq / Real.log 2) * k b key H d)]
    unfold score
    rw [mul_div_assoc, Finset.sum_mul]
    exact Finset.sum_congr rfl fun d _ => by ring, coe_sum]
  refine Finset.sum_congr rfl fun x _ => ?_
  rw [v18_real m c q hq, v27_real m c k hk, ← EReal.coe_mul]
  split_ifs <;> simp

include hq hk in
theorem tile_real (o : ℕ) (ho : o + 512 ≤ 2048) (h : S4x8x2048x128.Slices ![0, 0, o, 0] S4x8x512x128) (h' : S2048x2048.Slices ![0, o] S2048x512) (b : Fin 4) (H : Fin 8) (s : Fin 2048) (j : Fin 512) :
    e512 (scoreTile (V m c main_v18) (extractStridedSlice S4x8x512x128 ![0, 0, o, 0] (V m c main_v27) h) (extractStridedSlice S2048x512 ![0, o] (V m c main_v55) h')) b H s j
      = sc (sees s ⟨o + j.val, by omega⟩) (score q k b H s ⟨o + j.val, by omega⟩ / Real.log 2) := by
  rw [scoreTile_at, slice_mask _ _ ho, v55_at]
  simp only [slice_tile _ _ ho]
  rw [dot_real m c q k hq hk]
  unfold sc
  split_ifs <;> rfl

include hq hk hv in
theorem step_real (o : ℕ) (ho : o + 512 ≤ 2048) (h : S4x8x2048x128.Slices ![0, 0, o, 0] S4x8x512x128) (h' : S2048x2048.Slices ![0, o] S2048x512) (b : Fin 4) (H : Fin 8) (s : Fin 2048)
    (M M' : FVec Ideal S4x8x2048x1 .f32) (S : FVec Ideal S4x8x2048x512 .f32) (A A' : FVec Ideal S4x8x2048x128 .f32) (T : Fin 128 → ℝ)
    (hS : S = scoreTile (V m c main_v18) (extractStridedSlice S4x8x512x128 ![0, 0, o, 0] (V m c main_v27) h) (extractStridedSlice S2048x512 ![0, o] (V m c main_v55) h'))
    (hM : M' = nextMax M S) (hA : A' = nextAcc (V m c main_v6) M M' S A (extractStridedSlice S4x8x512x128 ![0, 0, o, 0] (V m c main_v47) h))
    (hK : Kept (Real.log 2) (e1 M b H s) (eA A b H s) T) (hr : e1 M b H s ≠ ⊥ ∨ o = 0) :
    Kept (Real.log 2) (e1 M' b H s) (eA A' b H s) (fun x => T x + ∑ j : Fin 512, expo q k b H s ⟨o + j.val, by omega⟩ * oneLane v b H ⟨o + j.val, by omega⟩ x) ∧ e1 M' b H s ≠ ⊥ := by
  have hs := fun j => tile_real m c q k hq hk o ho h h' b H s j
  rw [← hS] at hs
  have hy : ∀ j : Fin 512, expo q k b H s ⟨o + j.val, by omega⟩ = mexp (sees s ⟨o + j.val, by omega⟩) (score q k b H s ⟨o + j.val, by omega⟩ / Real.log 2 * Real.log 2) := fun j => by
    unfold expo; rw [div_mul_cancel₀ _ ln2_pos.ne']
  simp only [hy]
  refine Kept.step ln2_pos hK _ _ (fun j x => oneLane v b H ⟨o + j.val, by omega⟩ x) (hr.imp id fun h0 => ⟨0, ?_⟩) ?_ fun x => ?_
  · subst h0; show (0 + 0) / 64 ≤ _; omega
  · rw [hM, nextMax_at]; simp only [hs]
  · rw [hA, nextAcc_at _ _ _ _ _ _ _ (v6_at m c)]
    simp only [hs, slice_tile _ _ ho, v47_real m c v hv]

include hq hk hv in
/-- What the host lines' softmax ends with, row by row: its maximum, and its weighted sums of the values. -/
theorem softmax_real (b : Fin 4) (H : Fin 8) (s : Fin 2048) :
    Kept (Real.log 2) (e1 (V m c main_v134) b H s) (eA (V m c main_v149) b H s) (fun x => ∑ key, expo q k b H s key * oneLane v b H key x) ∧ e1 (V m c main_v134) b H s ≠ ⊥ := by
  have h0 : Kept (Real.log 2) (e1 (V m c main_v56) b H s) (eA (V m c main_v57) b H s) (fun _ => 0) := by
    rw [v56_at, show eA (V m c main_v57) b H s = fun _ => 0 from funext fun x => v57_at m c b H s x]; exact Kept.start _
  have h1 := step_real m c q k v hq hk hv 0 (by decide) _ _ b H s _ _ _ _ _ _ (v62_eq m c) (v65_eq m c) (v80_eq m c) h0 (Or.inr rfl)
  have h2 := step_real m c q k v hq hk hv 512 (by decide) _ _ b H s _ _ _ _ _ _ (v85_eq m c) (v88_eq m c) (v103_eq m c) h1.1 (Or.inl h1.2)
  have h3 := step_real m c q k v hq hk hv 1024 (by decide) _ _ b H s _ _ _ _ _ _ (v108_eq m c) (v111_eq m c) (v126_eq m c) h2.1 (Or.inl h2.2)
  have h4 := step_real m c q k v hq hk hv 1536 (by decide) _ _ b H s _ _ _ _ _ _ (v131_eq m c) (v134_eq m c) (v149_eq m c) h3.1 (Or.inl h3.2)
  refine ⟨?_, h4.2⟩
  have h5 := h4.1
  rw [show (fun x : Fin 128 => ∑ key, expo q k b H s key * oneLane v b H key x) = _ from funext fun x => (four_tiles fun key => expo q k b H s key * oneLane v b H key x).symm]
  exact h5
-- ==== Proof.AttnTile.lean ====
module

public import proofs.«01_k».proof.Proof.Gen.Kernel3Ideal.Frame
public import Idealize.ShloMosaic.Lib.Pipeline.ValueKit
public import Idealize.ShloMosaic.Lib.Claim
public import Idealize.ShloMosaic.Lib.WholeRead
public import Idealize.ShloMosaic.Lib.WritesUnit

@[expose] public section
set_option maxRecDepth 16384
noncomputable section
open Idealize.ShloMosaic Idealize.ShloMosaic.TcCoe Idealize.SL.Sem
open Idealize.ShloMosaic.Pipeline (Dat)
namespace Cert.Kernel3Ideal.Attn
open Cert.Kernel3Ideal Cert.Kernel3Ideal.Gen

/-- The weight of a key's row for a query's row: the power of two of the score less the row's logarithm. -/
def pw (K : Vec Ideal S1x4x2048x128 .bf16) (q : FVec Ideal S512x128 .bf16) (ls : FVec Ideal S1x512 .f32) (h : Fin 4) (row : Fin 2048) (r : Fin 512) : EReal :=
  Ideal.exp2 ((∑ x : Fin 128, (K (ix4 0 h row x) : EReal) * (q (ix2 r x) : EReal)) - (ls (ix2 0 r) : EReal))

/-- What a weight's gradient is worth before the softmax's row sum is taken off. -/
def dpw (VV : Vec Ideal S1x4x2048x128 .bf16) (dy : FVec Ideal S512x128 .bf16) (dl : FVec Ideal S1x512 .f32) (h : Fin 4) (row : Fin 2048) (r : Fin 512) : EReal :=
  (∑ x : Fin 128, (VV (ix4 0 h row x) : EReal) * (dy (ix2 r x) : EReal)) - (dl (ix2 0 r) : EReal)

theorem off_val (n : ℕ) (h : n < 4) : (Scalar.indexCast (Scalar.muli (Scf.iv 0#32 1#32 n) 512#32)).toNat = 512 * n := by
  interval_cases n <;> decide

theorem off_val1 (n : ℕ) (h : n < 4) : (Scalar.indexCast (Scf.iv 0#32 1#32 n)).toNat = n := by
  interval_cases n <;> decide

theorem trips_eq (i : grid0.Coords) : (k0_t1_loop i).trips = (i 2).val := by
  have h : ∀ q : Fin 4, (Scf.trips (0#32) (Scalar.addi 0#32 (Scalar.muli (Scalar.divsi (Scalar.subi (BitVec.ofNat 32 q.val) 0#32) 1#32) 1#32)) 1#32) = q.val := by decide
  exact h (i 2)

theorem trips_lt (i : grid0.Coords) (k : Fin (k0_t1_loop i).trips) : k.val < 4 :=
  lt_of_lt_of_le (lt_of_lt_of_eq k.isLt (trips_eq i)) (le_of_lt (i 2).isLt)

section
variable (i : grid0.Coords) (k : Fin (k0_t1_loop i).trips)
theorem o1 : k0_off1 i k = ![0, 0, 512 * k.val, 0] := by
  unfold k0_off1; dsimp only; rw [off_val _ (trips_lt i k)]
theorem o4 : k0_off4 i k = ![0, 1, 512 * k.val, 0] := by
  unfold k0_off4; dsimp only; rw [off_val _ (trips_lt i k)]
theorem o7 : k0_off7 i k = ![0, 2, 512 * k.val, 0] := by
  unfold k0_off7; dsimp only; rw [off_val _ (trips_lt i k)]
theorem o10 : k0_off10 i k = ![0, 3, 512 * k.val, 0] := by
  unfold k0_off10; dsimp only; rw [off_val _ (trips_lt i k)]
theorem o2 : k0_off2 i k = ![0, 512 * k.val, 0] := by
  unfold k0_off2; dsimp only; rw [off_val _ (trips_lt i k)]
theorem o5 : k0_off5 i k = ![1, 512 * k.val, 0] := by
  unfold k0_off5; dsimp only; rw [off_val _ (trips_lt i k)]
theorem o8 : k0_off8 i k = ![2, 512 * k.val, 0] := by
  unfold k0_off8; dsimp only; rw [off_val _ (trips_lt i k)]
theorem o11 : k0_off11 i k = ![3, 512 * k.val, 0] := by
  unfold k0_off11; dsimp only; rw [off_val _ (trips_lt i k)]
theorem o3 : k0_off3 i k = ![0, 0, k.val, 0, 0] := by
  unfold k0_off3; dsimp only; rw [off_val1 _ (trips_lt i k)]
theorem o6 : k0_off6 i k = ![0, 1, k.val, 0, 0] := by
  unfold k0_off6; dsimp only; rw [off_val1 _ (trips_lt i k)]
theorem o9 : k0_off9 i k = ![0, 2, k.val, 0, 0] := by
  unfold k0_off9; dsimp only; rw [off_val1 _ (trips_lt i k)]
theorem o12 : k0_off12 i k = ![0, 3, k.val, 0, 0] := by
  unfold k0_off12; dsimp only; rw [off_val1 _ (trips_lt i k)]

end

theorem rd4 (arg4 : Memref sig .tc .vmem S1x4x2048x128 .bf16) (h4 : arg4.IsWhole) (K : Vec Ideal S1x4x2048x128 .bf16) (off : Fin 4 → ℕ) (o : ℕ) (h : Fin 4)
    (inb : ∀ a, off a + (![1, 1, 512, 128] : Fin 4 → ℕ) a ≤ S1x4x2048x128.size a) (e : off = ![0, h.val, o, 0]) (a : Fin 512) (x : Fin 128) (hk : o + a.val < 2048) :
    View.readAt (Elt Ideal) arg4.view (Rect.unit (s := S1x4x2048x128) off ![1, 1, 512, 128] inb).toLoadRect (h4.unread K) (ix4 0 0 a x : S1x1x512x128.Idx) = K (ix4 0 h ⟨o + a.val, hk⟩ x) := by
  subst e
  refine (Memref.IsWhole.readAt_unread h4 K _ _).trans (congrArg K (funext fun b => Fin.ext ?_))
  fin_cases b <;> simp [Rect.toLoadRect, Rect.unit, LoadRect.idx, ix4]

theorem rd6 (arg6 : Memref sig .tc .vmem S1x4x4x128x512 .bf16) (h6 : arg6.IsWhole) (KT : Vec Ideal S1x4x4x128x512 .bf16) (off : Fin 5 → ℕ) (o : Fin 4) (h : Fin 4)
    (inb : ∀ a, off a + (![1, 1, 1, 128, 512] : Fin 5 → ℕ) a ≤ S1x4x4x128x512.size a) (e : off = ![0, h.val, o.val, 0, 0]) (x : Fin 128) (a : Fin 512) :
    View.readAt (Elt Ideal) arg6.view (Rect.unit (s := S1x4x4x128x512) off ![1, 1, 1, 128, 512] inb).toLoadRect (h6.unread KT) (ix5 0 0 0 x a : S1x1x1x128x512.Idx) = KT (ix5 0 h o x a) := by
  subst e
  refine (Memref.IsWhole.readAt_unread h6 KT _ _).trans (congrArg KT (funext fun b => Fin.ext ?_))
  fin_cases b <;> simp [Rect.toLoadRect, Rect.unit, LoadRect.idx, ix5]

theorem rd3 (v : View sig .tc .vmem S4x2048x128 .f32) (f : v.ty.Contents (Elt Ideal)) (off : Fin 3 → ℕ) (o : ℕ) (h : Fin 4)
    (inb : ∀ a, off a + (![1, 512, 128] : Fin 3 → ℕ) a ≤ S4x2048x128.size a) (e : off = ![h.val, o, 0]) (a : Fin 512) (x : Fin 128) (hk : o + a.val < 2048) :
    View.readAt (Elt Ideal) v (Rect.unit (s := S4x2048x128) off ![1, 512, 128] inb).toLoadRect f (ix3 0 a x : S1x512x128.Idx) = v.read (Elt Ideal) f (ix3 h ⟨o + a.val, hk⟩ x) := by
  subst e
  refine congrArg (v.read (Elt Ideal) f) (funext fun b => Fin.ext ?_)
  fin_cases b <;> simp [Rect.toLoadRect, Rect.unit, LoadRect.idx, ix3]

/-- One block of rows of each of the four heads written: what is read afterwards. -/
theorem four (v : View sig .tc .vmem S4x2048x128 .f32) (f : v.ty.Contents (Elt Ideal)) (off0 off1 off2 off3 : Fin 3 → ℕ) (o : ℕ)
    (i0 : ∀ a, off0 a + (![1, 512, 128] : Fin 3 → ℕ) a ≤ S4x2048x128.size a) (i1 : ∀ a, off1 a + (![1, 512, 128] : Fin 3 → ℕ) a ≤ S4x2048x128.size a)
    (i2 : ∀ a, off2 a + (![1, 512, 128] : Fin 3 → ℕ) a ≤ S4x2048x128.size a) (i3 : ∀ a, off3 a + (![1, 512, 128] : Fin 3 → ℕ) a ≤ S4x2048x128.size a)
    (e0 : off0 = ![0, o, 0]) (e1 : off1 = ![1, o, 0]) (e2 : off2 = ![2, o, 0]) (e3 : off3 = ![3, o, 0])
    (P0 P1 P2 P3 : FVec Ideal S1x512x128 .f32) (h : Fin 4) (row : Fin 2048) (d : Fin 128) :
    v.read (Elt Ideal) (v.writes (Elt Ideal) f [⟨Rect.unit off3 ![1, 512, 128] i3, P3⟩, ⟨Rect.unit off2 ![1, 512, 128] i2, P2⟩,
      ⟨Rect.unit off1 ![1, 512, 128] i1, P1⟩, ⟨Rect.unit off0 ![1, 512, 128] i0, P0⟩]) (ix3 h row d)
      = if hr : o ≤ row.val ∧ row.val < o + 512 then (![P0, P1, P2, P3] h) (ix3 0 ⟨row.val - o, by omega⟩ d) else v.read (Elt Ideal) f (ix3 h row d) := by
  by_cases hr : o ≤ row.val ∧ row.val < o + 512
  · have hx : ∀ hh : Fin 4, h = hh → ∀ a : Fin 3, ((ix3 h row d : S4x2048x128.Idx) a).val = (![hh.val, o, 0] : Fin 3 → ℕ) a + ((ix3 0 ⟨row.val - o, by omega⟩ d : S1x512x128.Idx) a).val := by
      rintro hh rfl a
      fin_cases a <;> simp [ix3]
      omega
    have hn : ∀ hh : Fin 4, h ≠ hh → ((ix3 h row d : S4x2048x128.Idx) 0).val < hh.val ∨ hh.val + 1 ≤ ((ix3 h row d : S4x2048x128.Idx) 0).val := by
      intro hh hne
      have : h.val ≠ hh.val := fun e => hne (Fin.ext e)
      simp [ix3]
      omega
    rw [dif_pos hr]
    obtain h3 | h3 := eq_or_ne h 3
    · rw [View.read_writes_cons_unit_of_mem v f i3 P3 _ _ _ e3 (hx 3 h3)]; subst h3; rfl
    rw [View.read_writes_cons_unit_of_not_mem v f i3 P3 _ _ e3 0 (hn 3 h3)]
    obtain h2 | h2 := eq_or_ne h 2
    · rw [View.read_writes_cons_unit_of_mem v f i2 P2 _ _ _ e2 (hx 2 h2)]; subst h2; rfl
    rw [View.read_writes_cons_unit_of_not_mem v f i2 P2 _ _ e2 0 (hn 2 h2)]
    obtain h1 | h1 := eq_or_ne h 1
    · rw [View.read_writes_cons_unit_of_mem v f i1 P1 _ _ _ e1 (hx 1 h1)]; subst h1; rfl
    rw [View.read_writes_cons_unit_of_not_mem v f i1 P1 _ _ e1 0 (hn 1 h1)]
    have h0 : h = 0 := by omega
    rw [View.read_writes_cons_unit_of_mem v f i0 P0 _ _ _ e0 (hx 0 h0)]; subst h0; rfl
  · have hn : ∀ hh : ℕ, ((ix3 h row d : S4x2048x128.Idx) 1).val < (![hh, o, 0] : Fin 3 → ℕ) 1 ∨ (![hh, o, 0] : Fin 3 → ℕ) 1 + 512 ≤ ((ix3 h row d : S4x2048x128.Idx) 1).val := by
      intro hh
      simp [ix3]
      omega
    rw [dif_neg hr, View.read_writes_cons_unit_of_not_mem v f i3 P3 _ _ e3 1 (hn 3), View.read_writes_cons_unit_of_not_mem v f i2 P2 _ _ e2 1 (hn 2),
      View.read_writes_cons_unit_of_not_mem v f i1 P1 _ _ e1 1 (hn 1), View.read_writes_cons_unit_of_not_mem v f i0 P0 _ _ e0 1 (hn 0)]
    rfl

end Cert.Kernel3Ideal.Attn
end
-- ==== Proof.AttnTrip.lean ====
module

public import proofs.«01_k».proof.Proof.Gen.Kernel3Ideal.Frame
public import Idealize.ShloMosaic.Lib.Pipeline.ValueKit
public import Idealize.ShloMosaic.Lib.Claim
public import proofs.«01_k».proof.Proof.AttnTile
public import Idealize.ShloMosaic.Lib.WholeRead
public import Idealize.ShloMosaic.Lib.WritesUnit

@[expose] public section
set_option maxRecDepth 16384
noncomputable section
open Idealize.ShloMosaic Idealize.ShloMosaic.TcCoe Idealize.SL.Sem
open Idealize.ShloMosaic.Pipeline (Dat)
namespace Cert.Kernel3Ideal.Attn
open Cert.Kernel3Ideal Cert.Kernel3Ideal.Gen

/-! One pass over a tile of keys: what it leaves in the two accumulators of the key side and in the
four carried gradients of the queries. -/

variable (𝒱 : Variants) (c : Dev nD) (bd : Option 𝒱.V) (i : grid0.Coords) (arg3 : Memref sig .tc .vmem S1x4x512x128 .bf16) (harg3 : arg3.IsWhole) (arg4 : Memref sig .tc .vmem S1x4x2048x128 .bf16) (harg4 : arg4.IsWhole) (arg5 : Memref sig .tc .vmem S1x4x2048x128 .bf16) (harg5 : arg5.IsWhole) (arg6 : Memref sig .tc .vmem S1x4x4x128x512 .bf16) (harg6 : arg6.IsWhole) (arg7 : Memref sig .tc .vmem S1x512x256 .bf16) (harg7 : arg7.IsWhole) (arg8 : Memref sig .tc .vmem S1x512x256 .bf16) (harg8 : arg8.IsWhole) (arg9 : Memref sig .tc .vmem S1x4x8x512 .f32) (harg9 : arg9.IsWhole) (arg10 : Memref sig .tc .vmem S1x4x512x128 .bf16) (harg10 : arg10.IsWhole) (arg11 : Memref sig .tc .vmem S1x4x2048x128 .bf16) (harg11 : arg11.IsWhole) (arg12 : Memref sig .tc .vmem S1x4x2048x128 .bf16) (harg12 : arg12.IsWhole) (arg2 : BitVec 32) (v53 : IVec S512x512 1) (v239 : FVec Ideal S128x512 .f32) (v240 : FVec Ideal S128x512 .f32) (cst_105 : Ideal .f32) (hs13 : (scM0_0 : Memref sig .tc .vmem S4x2048x128 .f32).IsWhole) (hs14 : (scM0_1 : Memref sig .tc .vmem S4x2048x128 .f32).IsWhole)
  (K VV : Vec Ideal S1x4x2048x128 .bf16) (KT : Vec Ideal S1x4x4x128x512 .bf16) (Q DO : Fin 4 → FVec Ideal S512x128 .bf16) (LS DL : Fin 4 → FVec Ideal S1x512 .f32)

theorem trip14 (v53 : IVec S512x512 1) (k : Fin (k0_t1_loop i).trips) (acc : FVec Ideal S128x512 .f32 × FVec Ideal S128x512 .f32 × FVec Ideal S128x512 .f32 × FVec Ideal S128x512 .f32)
    (f13 f14 : Vec Ideal S4x2048x128 .f32) (h : Fin 4) (row : Fin 2048) (d : Fin 128) :
    (scM0_1 : Memref sig .tc .vmem S4x2048x128 .f32).view.read (Elt Ideal) ((scM0_1 : Memref sig .tc .vmem S4x2048x128 .f32).view.writes (Elt Ideal) f14 (tripL_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 v53 (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) k acc f13 f14).2) (ix3 h row d)
      = if 512 * k.val ≤ row.val ∧ row.val < 512 * k.val + 512 then (f14 (ix3 h row d) : EReal) + ∑ r : Fin 512, pw K (Q h) (LS h) h row r * (DO h (ix2 r d) : EReal) else f14 (ix3 h row d) := by
  unfold tripL_k0_t1 trip_k0_t1
  dsimp only
  rw [four scM0_1.view f14 _ _ _ _ (512 * k.val) _ _ _ _ (o2 i k) (o5 i k) (o8 i k) (o11 i k)]
  by_cases hr : 512 * k.val ≤ row.val ∧ row.val < 512 * k.val + 512
  · rw [dif_pos hr, if_pos hr]
    obtain ⟨a, hk, rfl⟩ : ∃ a : Fin 512, ∃ hk : 512 * k.val + a.val < 2048, row = ⟨512 * k.val + a.val, hk⟩ :=
      ⟨⟨row.val - 512 * k.val, by omega⟩, by simp only []; omega, Fin.ext (by simp only []; omega)⟩
    simp only [Nat.add_sub_cancel_left]
    fin_cases h
    · simp only [Fin.zero_eta, Fin.mk_one, Fin.reduceFinMk, Matrix.cons_val]
      pointwise [trip_k0_t1.sl.arg15, trip_k0_t1.sl.cst_228, trip_k0_t1.sl.cst_231, trip_k0_t1.sl.cst_247, trip_k0_t1.sl.v439, trip_k0_t1.sl.v441, trip_k0_t1.sl.v443, trip_k0_t1.sl.v444, trip_k0_t1.sl.v445, trip_k0_t1.sl.v446, trip_k0_t1.sl.v447, trip_k0_t1.sl.v450, trip_k0_t1.sl.v451, trip_k0_t1.sl.v452, trip_k0_t1.sl.v453, trip_k0_t1.sl.v457, trip_k0_t1.sl.v460, trip_k0_t1.sl.v461, trip_k0_t1.sl.v462, trip_k0_t1.sl.v463, trip_k0_t1.sl.v464, trip_k0_t1.sl.v465, trip_k0_t1.sl.v468, trip_k0_t1.sl.v469, trip_k0_t1.sl.v470, trip_k0_t1.sl.v474, trip_k0_t1.sl.v475, trip_k0_t1.sl.v477, trip_k0_t1.sl.v478, trip_k0_t1.sl.v479, trip_k0_t1.sl.v482, trip_k0_t1.sl.v483, trip_k0_t1.sl.v484, trip_k0_t1.sl.v485, trip_k0_t1.sl.v486, trip_k0_t1.sl.v488, trip_k0_t1.sl.v489, trip_k0_t1.sl.v490, trip_k0_t1.sl.v491, trip_k0_t1.sl.v492, trip_k0_t1.sl.v496, trip_k0_t1.sl.v499, trip_k0_t1.sl.v500, trip_k0_t1.sl.v501, trip_k0_t1.sl.v502, trip_k0_t1.sl.v503, trip_k0_t1.sl.v504, trip_k0_t1.sl.v506, trip_k0_t1.sl.v507, trip_k0_t1.sl.v508, trip_k0_t1.sl.v509, trip_k0_t1.sl.v513, trip_k0_t1.sl.v516, trip_k0_t1.sl.v517, trip_k0_t1.sl.v518, trip_k0_t1.sl.v521, trip_k0_t1.sl.v522, trip_k0_t1.sl.v523, trip_k0_t1.sl.v524, trip_k0_t1.sl.v525, trip_k0_t1.sl.v527, trip_k0_t1.sl.v528, trip_k0_t1.sl.v529, trip_k0_t1.sl.v530, trip_k0_t1.sl.v531, trip_k0_t1.sl.v535, trip_k0_t1.sl.v538, trip_k0_t1.sl.v539, trip_k0_t1.sl.v540, trip_k0_t1.sl.v541, trip_k0_t1.sl.v542, trip_k0_t1.sl.v543, trip_k0_t1.sl.v545, trip_k0_t1.sl.v546, trip_k0_t1.sl.v547, trip_k0_t1.sl.v548, trip_k0_t1.sl.v552, trip_k0_t1.sl.v555, trip_k0_t1.sl.v556, trip_k0_t1.sl.v557, trip_k0_t1.sl.v560, trip_k0_t1.sl.v561, trip_k0_t1.sl.v562, trip_k0_t1.sl.v563, trip_k0_t1.sl.v564, trip_k0_t1.sl.v566, trip_k0_t1.sl.v567, trip_k0_t1.sl.v568, trip_k0_t1.sl.v569, trip_k0_t1.sl.v570, trip_k0_t1.sl.v574, trip_k0_t1.sl.v577, trip_k0_t1.sl.v578, trip_k0_t1.sl.v579, trip_k0_t1.sl.v580, trip_k0_t1.sl.v581, trip_k0_t1.sl.v582, trip_k0_t1.sl.v584, trip_k0_t1.sl.v585, k0_pay85, k0_pay86, k0_pay87, k0_pay88]
      simp only [rd3 _ _ _ _ 0 _ (o2 i k) _ _ hk, rd4 _ _ _ _ _ 0 _ (o1 i k) _ _ hk]
      rfl
    · simp only [Fin.zero_eta, Fin.mk_one, Fin.reduceFinMk, Matrix.cons_val]
      pointwise [trip_k0_t1.sl.arg15, trip_k0_t1.sl.cst_228, trip_k0_t1.sl.cst_231, trip_k0_t1.sl.cst_247, trip_k0_t1.sl.v439, trip_k0_t1.sl.v441, trip_k0_t1.sl.v443, trip_k0_t1.sl.v444, trip_k0_t1.sl.v445, trip_k0_t1.sl.v446, trip_k0_t1.sl.v447, trip_k0_t1.sl.v450, trip_k0_t1.sl.v451, trip_k0_t1.sl.v452, trip_k0_t1.sl.v453, trip_k0_t1.sl.v457, trip_k0_t1.sl.v460, trip_k0_t1.sl.v461, trip_k0_t1.sl.v462, trip_k0_t1.sl.v463, trip_k0_t1.sl.v464, trip_k0_t1.sl.v465, trip_k0_t1.sl.v468, trip_k0_t1.sl.v469, trip_k0_t1.sl.v470, trip_k0_t1.sl.v474, trip_k0_t1.sl.v475, trip_k0_t1.sl.v477, trip_k0_t1.sl.v478, trip_k0_t1.sl.v479, trip_k0_t1.sl.v482, trip_k0_t1.sl.v483, trip_k0_t1.sl.v484, trip_k0_t1.sl.v485, trip_k0_t1.sl.v486, trip_k0_t1.sl.v488, trip_k0_t1.sl.v489, trip_k0_t1.sl.v490, trip_k0_t1.sl.v491, trip_k0_t1.sl.v492, trip_k0_t1.sl.v496, trip_k0_t1.sl.v499, trip_k0_t1.sl.v500, trip_k0_t1.sl.v501, trip_k0_t1.sl.v502, trip_k0_t1.sl.v503, trip_k0_t1.sl.v504, trip_k0_t1.sl.v506, trip_k0_t1.sl.v507, trip_k0_t1.sl.v508, trip_k0_t1.sl.v509, trip_k0_t1.sl.v513, trip_k0_t1.sl.v516, trip_k0_t1.sl.v517, trip_k0_t1.sl.v518, trip_k0_t1.sl.v521, trip_k0_t1.sl.v522, trip_k0_t1.sl.v523, trip_k0_t1.sl.v524, trip_k0_t1.sl.v525, trip_k0_t1.sl.v527, trip_k0_t1.sl.v528, trip_k0_t1.sl.v529, trip_k0_t1.sl.v530, trip_k0_t1.sl.v531, trip_k0_t1.sl.v535, trip_k0_t1.sl.v538, trip_k0_t1.sl.v539, trip_k0_t1.sl.v540, trip_k0_t1.sl.v541, trip_k0_t1.sl.v542, trip_k0_t1.sl.v543, trip_k0_t1.sl.v545, trip_k0_t1.sl.v546, trip_k0_t1.sl.v547, trip_k0_t1.sl.v548, trip_k0_t1.sl.v552, trip_k0_t1.sl.v555, trip_k0_t1.sl.v556, trip_k0_t1.sl.v557, trip_k0_t1.sl.v560, trip_k0_t1.sl.v561, trip_k0_t1.sl.v562, trip_k0_t1.sl.v563, trip_k0_t1.sl.v564, trip_k0_t1.sl.v566, trip_k0_t1.sl.v567, trip_k0_t1.sl.v568, trip_k0_t1.sl.v569, trip_k0_t1.sl.v570, trip_k0_t1.sl.v574, trip_k0_t1.sl.v577, trip_k0_t1.sl.v578, trip_k0_t1.sl.v579, trip_k0_t1.sl.v580, trip_k0_t1.sl.v581, trip_k0_t1.sl.v582, trip_k0_t1.sl.v584, trip_k0_t1.sl.v585, k0_pay85, k0_pay86, k0_pay87, k0_pay88]
      simp only [rd3 _ _ _ _ 1 _ (o5 i k) _ _ hk, rd4 _ _ _ _ _ 1 _ (o4 i k) _ _ hk]
      rfl
    · simp only [Fin.zero_eta, Fin.mk_one, Fin.reduceFinMk, Matrix.cons_val]
      pointwise [trip_k0_t1.sl.arg15, trip_k0_t1.sl.cst_228, trip_k0_t1.sl.cst_231, trip_k0_t1.sl.cst_247, trip_k0_t1.sl.v439, trip_k0_t1.sl.v441, trip_k0_t1.sl.v443, trip_k0_t1.sl.v444, trip_k0_t1.sl.v445, trip_k0_t1.sl.v446, trip_k0_t1.sl.v447, trip_k0_t1.sl.v450, trip_k0_t1.sl.v451, trip_k0_t1.sl.v452, trip_k0_t1.sl.v453, trip_k0_t1.sl.v457, trip_k0_t1.sl.v460, trip_k0_t1.sl.v461, trip_k0_t1.sl.v462, trip_k0_t1.sl.v463, trip_k0_t1.sl.v464, trip_k0_t1.sl.v465, trip_k0_t1.sl.v468, trip_k0_t1.sl.v469, trip_k0_t1.sl.v470, trip_k0_t1.sl.v474, trip_k0_t1.sl.v475, trip_k0_t1.sl.v477, trip_k0_t1.sl.v478, trip_k0_t1.sl.v479, trip_k0_t1.sl.v482, trip_k0_t1.sl.v483, trip_k0_t1.sl.v484, trip_k0_t1.sl.v485, trip_k0_t1.sl.v486, trip_k0_t1.sl.v488, trip_k0_t1.sl.v489, trip_k0_t1.sl.v490, trip_k0_t1.sl.v491, trip_k0_t1.sl.v492, trip_k0_t1.sl.v496, trip_k0_t1.sl.v499, trip_k0_t1.sl.v500, trip_k0_t1.sl.v501, trip_k0_t1.sl.v502, trip_k0_t1.sl.v503, trip_k0_t1.sl.v504, trip_k0_t1.sl.v506, trip_k0_t1.sl.v507, trip_k0_t1.sl.v508, trip_k0_t1.sl.v509, trip_k0_t1.sl.v513, trip_k0_t1.sl.v516, trip_k0_t1.sl.v517, trip_k0_t1.sl.v518, trip_k0_t1.sl.v521, trip_k0_t1.sl.v522, trip_k0_t1.sl.v523, trip_k0_t1.sl.v524, trip_k0_t1.sl.v525, trip_k0_t1.sl.v527, trip_k0_t1.sl.v528, trip_k0_t1.sl.v529, trip_k0_t1.sl.v530, trip_k0_t1.sl.v531, trip_k0_t1.sl.v535, trip_k0_t1.sl.v538, trip_k0_t1.sl.v539, trip_k0_t1.sl.v540, trip_k0_t1.sl.v541, trip_k0_t1.sl.v542, trip_k0_t1.sl.v543, trip_k0_t1.sl.v545, trip_k0_t1.sl.v546, trip_k0_t1.sl.v547, trip_k0_t1.sl.v548, trip_k0_t1.sl.v552, trip_k0_t1.sl.v555, trip_k0_t1.sl.v556, trip_k0_t1.sl.v557, trip_k0_t1.sl.v560, trip_k0_t1.sl.v561, trip_k0_t1.sl.v562, trip_k0_t1.sl.v563, trip_k0_t1.sl.v564, trip_k0_t1.sl.v566, trip_k0_t1.sl.v567, trip_k0_t1.sl.v568, trip_k0_t1.sl.v569, trip_k0_t1.sl.v570, trip_k0_t1.sl.v574, trip_k0_t1.sl.v577, trip_k0_t1.sl.v578, trip_k0_t1.sl.v579, trip_k0_t1.sl.v580, trip_k0_t1.sl.v581, trip_k0_t1.sl.v582, trip_k0_t1.sl.v584, trip_k0_t1.sl.v585, k0_pay85, k0_pay86, k0_pay87, k0_pay88]
      simp only [rd3 _ _ _ _ 2 _ (o8 i k) _ _ hk, rd4 _ _ _ _ _ 2 _ (o7 i k) _ _ hk]
      rfl
    · simp only [Fin.zero_eta, Fin.mk_one, Fin.reduceFinMk, Matrix.cons_val]
      pointwise [trip_k0_t1.sl.arg15, trip_k0_t1.sl.cst_228, trip_k0_t1.sl.cst_231, trip_k0_t1.sl.cst_247, trip_k0_t1.sl.v439, trip_k0_t1.sl.v441, trip_k0_t1.sl.v443, trip_k0_t1.sl.v444, trip_k0_t1.sl.v445, trip_k0_t1.sl.v446, trip_k0_t1.sl.v447, trip_k0_t1.sl.v450, trip_k0_t1.sl.v451, trip_k0_t1.sl.v452, trip_k0_t1.sl.v453, trip_k0_t1.sl.v457, trip_k0_t1.sl.v460, trip_k0_t1.sl.v461, trip_k0_t1.sl.v462, trip_k0_t1.sl.v463, trip_k0_t1.sl.v464, trip_k0_t1.sl.v465, trip_k0_t1.sl.v468, trip_k0_t1.sl.v469, trip_k0_t1.sl.v470, trip_k0_t1.sl.v474, trip_k0_t1.sl.v475, trip_k0_t1.sl.v477, trip_k0_t1.sl.v478, trip_k0_t1.sl.v479, trip_k0_t1.sl.v482, trip_k0_t1.sl.v483, trip_k0_t1.sl.v484, trip_k0_t1.sl.v485, trip_k0_t1.sl.v486, trip_k0_t1.sl.v488, trip_k0_t1.sl.v489, trip_k0_t1.sl.v490, trip_k0_t1.sl.v491, trip_k0_t1.sl.v492, trip_k0_t1.sl.v496, trip_k0_t1.sl.v499, trip_k0_t1.sl.v500, trip_k0_t1.sl.v501, trip_k0_t1.sl.v502, trip_k0_t1.sl.v503, trip_k0_t1.sl.v504, trip_k0_t1.sl.v506, trip_k0_t1.sl.v507, trip_k0_t1.sl.v508, trip_k0_t1.sl.v509, trip_k0_t1.sl.v513, trip_k0_t1.sl.v516, trip_k0_t1.sl.v517, trip_k0_t1.sl.v518, trip_k0_t1.sl.v521, trip_k0_t1.sl.v522, trip_k0_t1.sl.v523, trip_k0_t1.sl.v524, trip_k0_t1.sl.v525, trip_k0_t1.sl.v527, trip_k0_t1.sl.v528, trip_k0_t1.sl.v529, trip_k0_t1.sl.v530, trip_k0_t1.sl.v531, trip_k0_t1.sl.v535, trip_k0_t1.sl.v538, trip_k0_t1.sl.v539, trip_k0_t1.sl.v540, trip_k0_t1.sl.v541, trip_k0_t1.sl.v542, trip_k0_t1.sl.v543, trip_k0_t1.sl.v545, trip_k0_t1.sl.v546, trip_k0_t1.sl.v547, trip_k0_t1.sl.v548, trip_k0_t1.sl.v552, trip_k0_t1.sl.v555, trip_k0_t1.sl.v556, trip_k0_t1.sl.v557, trip_k0_t1.sl.v560, trip_k0_t1.sl.v561, trip_k0_t1.sl.v562, trip_k0_t1.sl.v563, trip_k0_t1.sl.v564, trip_k0_t1.sl.v566, trip_k0_t1.sl.v567, trip_k0_t1.sl.v568, trip_k0_t1.sl.v569, trip_k0_t1.sl.v570, trip_k0_t1.sl.v574, trip_k0_t1.sl.v577, trip_k0_t1.sl.v578, trip_k0_t1.sl.v579, trip_k0_t1.sl.v580, trip_k0_t1.sl.v581, trip_k0_t1.sl.v582, trip_k0_t1.sl.v584, trip_k0_t1.sl.v585, k0_pay85, k0_pay86, k0_pay87, k0_pay88]
      simp only [rd3 _ _ _ _ 3 _ (o11 i k) _ _ hk, rd4 _ _ _ _ _ 3 _ (o10 i k) _ _ hk]
      rfl
  · rw [dif_neg hr, if_neg hr]
    rfl

theorem trip13 (v53 : IVec S512x512 1) (k : Fin (k0_t1_loop i).trips) (acc : FVec Ideal S128x512 .f32 × FVec Ideal S128x512 .f32 × FVec Ideal S128x512 .f32 × FVec Ideal S128x512 .f32)
    (f13 f14 : Vec Ideal S4x2048x128 .f32) (h : Fin 4) (row : Fin 2048) (d : Fin 128) :
    (scM0_0 : Memref sig .tc .vmem S4x2048x128 .f32).view.read (Elt Ideal) ((scM0_0 : Memref sig .tc .vmem S4x2048x128 .f32).view.writes (Elt Ideal) f13 (tripL_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 v53 (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) k acc f13 f14).1) (ix3 h row d)
      = if 512 * k.val ≤ row.val ∧ row.val < 512 * k.val + 512 then (f13 (ix3 h row d) : EReal) + ∑ r : Fin 512, pw K (Q h) (LS h) h row r * dpw VV (DO h) (DL h) h row r * (Q h (ix2 r d) : EReal) else f13 (ix3 h row d) := by
  unfold tripL_k0_t1 trip_k0_t1
  dsimp only
  rw [four scM0_0.view f13 _ _ _ _ (512 * k.val) _ _ _ _ (o2 i k) (o5 i k) (o8 i k) (o11 i k)]
  by_cases hr : 512 * k.val ≤ row.val ∧ row.val < 512 * k.val + 512
  · rw [dif_pos hr, if_pos hr]
    obtain ⟨a, hk, rfl⟩ : ∃ a : Fin 512, ∃ hk : 512 * k.val + a.val < 2048, row = ⟨512 * k.val + a.val, hk⟩ :=
      ⟨⟨row.val - 512 * k.val, by omega⟩, by simp only []; omega, Fin.ext (by simp only []; omega)⟩
    simp only [Nat.add_sub_cancel_left]
    fin_cases h
    · simp only [Fin.zero_eta, Fin.mk_one, Fin.reduceFinMk, Matrix.cons_val]
      pointwise [trip_k0_t1.sl.arg15, trip_k0_t1.sl.cst_228, trip_k0_t1.sl.cst_231, trip_k0_t1.sl.cst_247, trip_k0_t1.sl.v439, trip_k0_t1.sl.v441, trip_k0_t1.sl.v443, trip_k0_t1.sl.v444, trip_k0_t1.sl.v445, trip_k0_t1.sl.v446, trip_k0_t1.sl.v447, trip_k0_t1.sl.v450, trip_k0_t1.sl.v451, trip_k0_t1.sl.v452, trip_k0_t1.sl.v453, trip_k0_t1.sl.v457, trip_k0_t1.sl.v460, trip_k0_t1.sl.v461, trip_k0_t1.sl.v462, trip_k0_t1.sl.v463, trip_k0_t1.sl.v464, trip_k0_t1.sl.v465, trip_k0_t1.sl.v468, trip_k0_t1.sl.v469, trip_k0_t1.sl.v470, trip_k0_t1.sl.v474, trip_k0_t1.sl.v475, trip_k0_t1.sl.v477, trip_k0_t1.sl.v478, trip_k0_t1.sl.v479, trip_k0_t1.sl.v482, trip_k0_t1.sl.v483, trip_k0_t1.sl.v484, trip_k0_t1.sl.v485, trip_k0_t1.sl.v486, trip_k0_t1.sl.v488, trip_k0_t1.sl.v489, trip_k0_t1.sl.v490, trip_k0_t1.sl.v491, trip_k0_t1.sl.v492, trip_k0_t1.sl.v496, trip_k0_t1.sl.v499, trip_k0_t1.sl.v500, trip_k0_t1.sl.v501, trip_k0_t1.sl.v502, trip_k0_t1.sl.v503, trip_k0_t1.sl.v504, trip_k0_t1.sl.v506, trip_k0_t1.sl.v507, trip_k0_t1.sl.v508, trip_k0_t1.sl.v509, trip_k0_t1.sl.v513, trip_k0_t1.sl.v516, trip_k0_t1.sl.v517, trip_k0_t1.sl.v518, trip_k0_t1.sl.v521, trip_k0_t1.sl.v522, trip_k0_t1.sl.v523, trip_k0_t1.sl.v524, trip_k0_t1.sl.v525, trip_k0_t1.sl.v527, trip_k0_t1.sl.v528, trip_k0_t1.sl.v529, trip_k0_t1.sl.v530, trip_k0_t1.sl.v531, trip_k0_t1.sl.v535, trip_k0_t1.sl.v538, trip_k0_t1.sl.v539, trip_k0_t1.sl.v540, trip_k0_t1.sl.v541, trip_k0_t1.sl.v542, trip_k0_t1.sl.v543, trip_k0_t1.sl.v545, trip_k0_t1.sl.v546, trip_k0_t1.sl.v547, trip_k0_t1.sl.v548, trip_k0_t1.sl.v552, trip_k0_t1.sl.v555, trip_k0_t1.sl.v556, trip_k0_t1.sl.v557, trip_k0_t1.sl.v560, trip_k0_t1.sl.v561, trip_k0_t1.sl.v562, trip_k0_t1.sl.v563, trip_k0_t1.sl.v564, trip_k0_t1.sl.v566, trip_k0_t1.sl.v567, trip_k0_t1.sl.v568, trip_k0_t1.sl.v569, trip_k0_t1.sl.v570, trip_k0_t1.sl.v574, trip_k0_t1.sl.v577, trip_k0_t1.sl.v578, trip_k0_t1.sl.v579, trip_k0_t1.sl.v580, trip_k0_t1.sl.v581, trip_k0_t1.sl.v582, trip_k0_t1.sl.v584, trip_k0_t1.sl.v585, k0_pay85, k0_pay86, k0_pay87, k0_pay88]
      simp only [rd3 _ _ _ _ 0 _ (o2 i k) _ _ hk, rd4 _ _ _ _ _ 0 _ (o1 i k) _ _ hk]
      rfl
    · simp only [Fin.zero_eta, Fin.mk_one, Fin.reduceFinMk, Matrix.cons_val]
      pointwise [trip_k0_t1.sl.arg15, trip_k0_t1.sl.cst_228, trip_k0_t1.sl.cst_231, trip_k0_t1.sl.cst_247, trip_k0_t1.sl.v439, trip_k0_t1.sl.v441, trip_k0_t1.sl.v443, trip_k0_t1.sl.v444, trip_k0_t1.sl.v445, trip_k0_t1.sl.v446, trip_k0_t1.sl.v447, trip_k0_t1.sl.v450, trip_k0_t1.sl.v451, trip_k0_t1.sl.v452, trip_k0_t1.sl.v453, trip_k0_t1.sl.v457, trip_k0_t1.sl.v460, trip_k0_t1.sl.v461, trip_k0_t1.sl.v462, trip_k0_t1.sl.v463, trip_k0_t1.sl.v464, trip_k0_t1.sl.v465, trip_k0_t1.sl.v468, trip_k0_t1.sl.v469, trip_k0_t1.sl.v470, trip_k0_t1.sl.v474, trip_k0_t1.sl.v475, trip_k0_t1.sl.v477, trip_k0_t1.sl.v478, trip_k0_t1.sl.v479, trip_k0_t1.sl.v482, trip_k0_t1.sl.v483, trip_k0_t1.sl.v484, trip_k0_t1.sl.v485, trip_k0_t1.sl.v486, trip_k0_t1.sl.v488, trip_k0_t1.sl.v489, trip_k0_t1.sl.v490, trip_k0_t1.sl.v491, trip_k0_t1.sl.v492, trip_k0_t1.sl.v496, trip_k0_t1.sl.v499, trip_k0_t1.sl.v500, trip_k0_t1.sl.v501, trip_k0_t1.sl.v502, trip_k0_t1.sl.v503, trip_k0_t1.sl.v504, trip_k0_t1.sl.v506, trip_k0_t1.sl.v507, trip_k0_t1.sl.v508, trip_k0_t1.sl.v509, trip_k0_t1.sl.v513, trip_k0_t1.sl.v516, trip_k0_t1.sl.v517, trip_k0_t1.sl.v518, trip_k0_t1.sl.v521, trip_k0_t1.sl.v522, trip_k0_t1.sl.v523, trip_k0_t1.sl.v524, trip_k0_t1.sl.v525, trip_k0_t1.sl.v527, trip_k0_t1.sl.v528, trip_k0_t1.sl.v529, trip_k0_t1.sl.v530, trip_k0_t1.sl.v531, trip_k0_t1.sl.v535, trip_k0_t1.sl.v538, trip_k0_t1.sl.v539, trip_k0_t1.sl.v540, trip_k0_t1.sl.v541, trip_k0_t1.sl.v542, trip_k0_t1.sl.v543, trip_k0_t1.sl.v545, trip_k0_t1.sl.v546, trip_k0_t1.sl.v547, trip_k0_t1.sl.v548, trip_k0_t1.sl.v552, trip_k0_t1.sl.v555, trip_k0_t1.sl.v556, trip_k0_t1.sl.v557, trip_k0_t1.sl.v560, trip_k0_t1.sl.v561, trip_k0_t1.sl.v562, trip_k0_t1.sl.v563, trip_k0_t1.sl.v564, trip_k0_t1.sl.v566, trip_k0_t1.sl.v567, trip_k0_t1.sl.v568, trip_k0_t1.sl.v569, trip_k0_t1.sl.v570, trip_k0_t1.sl.v574, trip_k0_t1.sl.v577, trip_k0_t1.sl.v578, trip_k0_t1.sl.v579, trip_k0_t1.sl.v580, trip_k0_t1.sl.v581, trip_k0_t1.sl.v582, trip_k0_t1.sl.v584, trip_k0_t1.sl.v585, k0_pay85, k0_pay86, k0_pay87, k0_pay88]
      simp only [rd3 _ _ _ _ 1 _ (o5 i k) _ _ hk, rd4 _ _ _ _ _ 1 _ (o4 i k) _ _ hk]
      rfl
    · simp only [Fin.zero_eta, Fin.mk_one, Fin.reduceFinMk, Matrix.cons_val]
      pointwise [trip_k0_t1.sl.arg15, trip_k0_t1.sl.cst_228, trip_k0_t1.sl.cst_231, trip_k0_t1.sl.cst_247, trip_k0_t1.sl.v439, trip_k0_t1.sl.v441, trip_k0_t1.sl.v443, trip_k0_t1.sl.v444, trip_k0_t1.sl.v445, trip_k0_t1.sl.v446, trip_k0_t1.sl.v447, trip_k0_t1.sl.v450, trip_k0_t1.sl.v451, trip_k0_t1.sl.v452, trip_k0_t1.sl.v453, trip_k0_t1.sl.v457, trip_k0_t1.sl.v460, trip_k0_t1.sl.v461, trip_k0_t1.sl.v462, trip_k0_t1.sl.v463, trip_k0_t1.sl.v464, trip_k0_t1.sl.v465, trip_k0_t1.sl.v468, trip_k0_t1.sl.v469, trip_k0_t1.sl.v470, trip_k0_t1.sl.v474, trip_k0_t1.sl.v475, trip_k0_t1.sl.v477, trip_k0_t1.sl.v478, trip_k0_t1.sl.v479, trip_k0_t1.sl.v482, trip_k0_t1.sl.v483, trip_k0_t1.sl.v484, trip_k0_t1.sl.v485, trip_k0_t1.sl.v486, trip_k0_t1.sl.v488, trip_k0_t1.sl.v489, trip_k0_t1.sl.v490, trip_k0_t1.sl.v491, trip_k0_t1.sl.v492, trip_k0_t1.sl.v496, trip_k0_t1.sl.v499, trip_k0_t1.sl.v500, trip_k0_t1.sl.v501, trip_k0_t1.sl.v502, trip_k0_t1.sl.v503, trip_k0_t1.sl.v504, trip_k0_t1.sl.v506, trip_k0_t1.sl.v507, trip_k0_t1.sl.v508, trip_k0_t1.sl.v509, trip_k0_t1.sl.v513, trip_k0_t1.sl.v516, trip_k0_t1.sl.v517, trip_k0_t1.sl.v518, trip_k0_t1.sl.v521, trip_k0_t1.sl.v522, trip_k0_t1.sl.v523, trip_k0_t1.sl.v524, trip_k0_t1.sl.v525, trip_k0_t1.sl.v527, trip_k0_t1.sl.v528, trip_k0_t1.sl.v529, trip_k0_t1.sl.v530, trip_k0_t1.sl.v531, trip_k0_t1.sl.v535, trip_k0_t1.sl.v538, trip_k0_t1.sl.v539, trip_k0_t1.sl.v540, trip_k0_t1.sl.v541, trip_k0_t1.sl.v542, trip_k0_t1.sl.v543, trip_k0_t1.sl.v545, trip_k0_t1.sl.v546, trip_k0_t1.sl.v547, trip_k0_t1.sl.v548, trip_k0_t1.sl.v552, trip_k0_t1.sl.v555, trip_k0_t1.sl.v556, trip_k0_t1.sl.v557, trip_k0_t1.sl.v560, trip_k0_t1.sl.v561, trip_k0_t1.sl.v562, trip_k0_t1.sl.v563, trip_k0_t1.sl.v564, trip_k0_t1.sl.v566, trip_k0_t1.sl.v567, trip_k0_t1.sl.v568, trip_k0_t1.sl.v569, trip_k0_t1.sl.v570, trip_k0_t1.sl.v574, trip_k0_t1.sl.v577, trip_k0_t1.sl.v578, trip_k0_t1.sl.v579, trip_k0_t1.sl.v580, trip_k0_t1.sl.v581, trip_k0_t1.sl.v582, trip_k0_t1.sl.v584, trip_k0_t1.sl.v585, k0_pay85, k0_pay86, k0_pay87, k0_pay88]
      simp only [rd3 _ _ _ _ 2 _ (o8 i k) _ _ hk, rd4 _ _ _ _ _ 2 _ (o7 i k) _ _ hk]
      rfl
    · simp only [Fin.zero_eta, Fin.mk_one, Fin.reduceFinMk, Matrix.cons_val]
      pointwise [trip_k0_t1.sl.arg15, trip_k0_t1.sl.cst_228, trip_k0_t1.sl.cst_231, trip_k0_t1.sl.cst_247, trip_k0_t1.sl.v439, trip_k0_t1.sl.v441, trip_k0_t1.sl.v443, trip_k0_t1.sl.v444, trip_k0_t1.sl.v445, trip_k0_t1.sl.v446, trip_k0_t1.sl.v447, trip_k0_t1.sl.v450, trip_k0_t1.sl.v451, trip_k0_t1.sl.v452, trip_k0_t1.sl.v453, trip_k0_t1.sl.v457, trip_k0_t1.sl.v460, trip_k0_t1.sl.v461, trip_k0_t1.sl.v462, trip_k0_t1.sl.v463, trip_k0_t1.sl.v464, trip_k0_t1.sl.v465, trip_k0_t1.sl.v468, trip_k0_t1.sl.v469, trip_k0_t1.sl.v470, trip_k0_t1.sl.v474, trip_k0_t1.sl.v475, trip_k0_t1.sl.v477, trip_k0_t1.sl.v478, trip_k0_t1.sl.v479, trip_k0_t1.sl.v482, trip_k0_t1.sl.v483, trip_k0_t1.sl.v484, trip_k0_t1.sl.v485, trip_k0_t1.sl.v486, trip_k0_t1.sl.v488, trip_k0_t1.sl.v489, trip_k0_t1.sl.v490, trip_k0_t1.sl.v491, trip_k0_t1.sl.v492, trip_k0_t1.sl.v496, trip_k0_t1.sl.v499, trip_k0_t1.sl.v500, trip_k0_t1.sl.v501, trip_k0_t1.sl.v502, trip_k0_t1.sl.v503, trip_k0_t1.sl.v504, trip_k0_t1.sl.v506, trip_k0_t1.sl.v507, trip_k0_t1.sl.v508, trip_k0_t1.sl.v509, trip_k0_t1.sl.v513, trip_k0_t1.sl.v516, trip_k0_t1.sl.v517, trip_k0_t1.sl.v518, trip_k0_t1.sl.v521, trip_k0_t1.sl.v522, trip_k0_t1.sl.v523, trip_k0_t1.sl.v524, trip_k0_t1.sl.v525, trip_k0_t1.sl.v527, trip_k0_t1.sl.v528, trip_k0_t1.sl.v529, trip_k0_t1.sl.v530, trip_k0_t1.sl.v531, trip_k0_t1.sl.v535, trip_k0_t1.sl.v538, trip_k0_t1.sl.v539, trip_k0_t1.sl.v540, trip_k0_t1.sl.v541, trip_k0_t1.sl.v542, trip_k0_t1.sl.v543, trip_k0_t1.sl.v545, trip_k0_t1.sl.v546, trip_k0_t1.sl.v547, trip_k0_t1.sl.v548, trip_k0_t1.sl.v552, trip_k0_t1.sl.v555, trip_k0_t1.sl.v556, trip_k0_t1.sl.v557, trip_k0_t1.sl.v560, trip_k0_t1.sl.v561, trip_k0_t1.sl.v562, trip_k0_t1.sl.v563, trip_k0_t1.sl.v564, trip_k0_t1.sl.v566, trip_k0_t1.sl.v567, trip_k0_t1.sl.v568, trip_k0_t1.sl.v569, trip_k0_t1.sl.v570, trip_k0_t1.sl.v574, trip_k0_t1.sl.v577, trip_k0_t1.sl.v578, trip_k0_t1.sl.v579, trip_k0_t1.sl.v580, trip_k0_t1.sl.v581, trip_k0_t1.sl.v582, trip_k0_t1.sl.v584, trip_k0_t1.sl.v585, k0_pay85, k0_pay86, k0_pay87, k0_pay88]
      simp only [rd3 _ _ _ _ 3 _ (o11 i k) _ _ hk, rd4 _ _ _ _ _ 3 _ (o10 i k) _ _ hk]
      rfl
  · rw [dif_neg hr, if_neg hr]
    rfl

theorem key_lt (i : grid0.Coords) (k : Fin (k0_t1_loop i).trips) (a : Fin 512) : 512 * k.val + a.val < 2048 := by
  have := trips_lt i k
  omega

/-- Key `a` of the tile of one trip. -/
def key (i : grid0.Coords) (k : Fin (k0_t1_loop i).trips) (a : Fin 512) : Fin 2048 := ⟨512 * k.val + a.val, key_lt i k a⟩

theorem tripR0 (v53 : IVec S512x512 1) (k : Fin (k0_t1_loop i).trips) (acc : FVec Ideal S128x512 .f32 × FVec Ideal S128x512 .f32 × FVec Ideal S128x512 .f32 × FVec Ideal S128x512 .f32)
    (f13 f14 : Vec Ideal S4x2048x128 .f32) (x : Fin 128) (r : Fin 512) :
    (tripR_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 v53 (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) k acc f13 f14).1 (ix2 x r)
      = (acc.1 (ix2 x r) : EReal) + ∑ a : Fin 512, (KT (ix5 0 0 ⟨k.val, trips_lt i k⟩ x a) : EReal) * (pw K (Q 0) (LS 0) 0 (key i k a) r * dpw VV (DO 0) (DL 0) 0 (key i k a) r) := by
  unfold tripR_k0_t1 trip_k0_t1
  dsimp only
  pointwise [trip_k0_t1.sl.arg15, trip_k0_t1.sl.cst_228, trip_k0_t1.sl.cst_231, trip_k0_t1.sl.cst_247, trip_k0_t1.sl.v439, trip_k0_t1.sl.v441, trip_k0_t1.sl.v443, trip_k0_t1.sl.v444, trip_k0_t1.sl.v445, trip_k0_t1.sl.v446, trip_k0_t1.sl.v447, trip_k0_t1.sl.v450, trip_k0_t1.sl.v451, trip_k0_t1.sl.v452, trip_k0_t1.sl.v453, trip_k0_t1.sl.v457, trip_k0_t1.sl.v460, trip_k0_t1.sl.v461, trip_k0_t1.sl.v462, trip_k0_t1.sl.v463, trip_k0_t1.sl.v464, trip_k0_t1.sl.v465, trip_k0_t1.sl.v468, trip_k0_t1.sl.v469, trip_k0_t1.sl.v470, trip_k0_t1.sl.v474, trip_k0_t1.sl.v475, trip_k0_t1.sl.v477, trip_k0_t1.sl.v478, trip_k0_t1.sl.v479, trip_k0_t1.sl.v482, trip_k0_t1.sl.v483, trip_k0_t1.sl.v484, trip_k0_t1.sl.v485, trip_k0_t1.sl.v486, trip_k0_t1.sl.v488, trip_k0_t1.sl.v489, trip_k0_t1.sl.v490, trip_k0_t1.sl.v491, trip_k0_t1.sl.v492, trip_k0_t1.sl.v496, trip_k0_t1.sl.v499, trip_k0_t1.sl.v500, trip_k0_t1.sl.v501, trip_k0_t1.sl.v502, trip_k0_t1.sl.v503, trip_k0_t1.sl.v504, trip_k0_t1.sl.v506, trip_k0_t1.sl.v507, trip_k0_t1.sl.v508, trip_k0_t1.sl.v509, trip_k0_t1.sl.v513, trip_k0_t1.sl.v516, trip_k0_t1.sl.v517, trip_k0_t1.sl.v518, trip_k0_t1.sl.v521, trip_k0_t1.sl.v522, trip_k0_t1.sl.v523, trip_k0_t1.sl.v524, trip_k0_t1.sl.v525, trip_k0_t1.sl.v527, trip_k0_t1.sl.v528, trip_k0_t1.sl.v529, trip_k0_t1.sl.v530, trip_k0_t1.sl.v531, trip_k0_t1.sl.v535, trip_k0_t1.sl.v538, trip_k0_t1.sl.v539, trip_k0_t1.sl.v540, trip_k0_t1.sl.v541, trip_k0_t1.sl.v542, trip_k0_t1.sl.v543, trip_k0_t1.sl.v545, trip_k0_t1.sl.v546, trip_k0_t1.sl.v547, trip_k0_t1.sl.v548, trip_k0_t1.sl.v552, trip_k0_t1.sl.v555, trip_k0_t1.sl.v556, trip_k0_t1.sl.v557, trip_k0_t1.sl.v560, trip_k0_t1.sl.v561, trip_k0_t1.sl.v562, trip_k0_t1.sl.v563, trip_k0_t1.sl.v564, trip_k0_t1.sl.v566, trip_k0_t1.sl.v567, trip_k0_t1.sl.v568, trip_k0_t1.sl.v569, trip_k0_t1.sl.v570, trip_k0_t1.sl.v574, trip_k0_t1.sl.v577, trip_k0_t1.sl.v578, trip_k0_t1.sl.v579, trip_k0_t1.sl.v580, trip_k0_t1.sl.v581, trip_k0_t1.sl.v582, trip_k0_t1.sl.v584, trip_k0_t1.sl.v585, k0_pay85, k0_pay86, k0_pay87, k0_pay88]
  simp only [rd4 _ _ _ _ _ 0 _ (o1 i k) _ _ (key_lt i k _), rd6 _ _ _ _ ⟨k.val, trips_lt i k⟩ 0 _ (o3 i k)]
  rfl

theorem tripR1 (v53 : IVec S512x512 1) (k : Fin (k0_t1_loop i).trips) (acc : FVec Ideal S128x512 .f32 × FVec Ideal S128x512 .f32 × FVec Ideal S128x512 .f32 × FVec Ideal S128x512 .f32)
    (f13 f14 : Vec Ideal S4x2048x128 .f32) (x : Fin 128) (r : Fin 512) :
    (tripR_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 v53 (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) k acc f13 f14).2.1 (ix2 x r)
      = (acc.2.1 (ix2 x r) : EReal) + ∑ a : Fin 512, (KT (ix5 0 1 ⟨k.val, trips_lt i k⟩ x a) : EReal) * (pw K (Q 1) (LS 1) 1 (key i k a) r * dpw VV (DO 1) (DL 1) 1 (key i k a) r) := by
  unfold tripR_k0_t1 trip_k0_t1
  dsimp only
  pointwise [trip_k0_t1.sl.arg15, trip_k0_t1.sl.cst_228, trip_k0_t1.sl.cst_231, trip_k0_t1.sl.cst_247, trip_k0_t1.sl.v439, trip_k0_t1.sl.v441, trip_k0_t1.sl.v443, trip_k0_t1.sl.v444, trip_k0_t1.sl.v445, trip_k0_t1.sl.v446, trip_k0_t1.sl.v447, trip_k0_t1.sl.v450, trip_k0_t1.sl.v451, trip_k0_t1.sl.v452, trip_k0_t1.sl.v453, trip_k0_t1.sl.v457, trip_k0_t1.sl.v460, trip_k0_t1.sl.v461, trip_k0_t1.sl.v462, trip_k0_t1.sl.v463, trip_k0_t1.sl.v464, trip_k0_t1.sl.v465, trip_k0_t1.sl.v468, trip_k0_t1.sl.v469, trip_k0_t1.sl.v470, trip_k0_t1.sl.v474, trip_k0_t1.sl.v475, trip_k0_t1.sl.v477, trip_k0_t1.sl.v478, trip_k0_t1.sl.v479, trip_k0_t1.sl.v482, trip_k0_t1.sl.v483, trip_k0_t1.sl.v484, trip_k0_t1.sl.v485, trip_k0_t1.sl.v486, trip_k0_t1.sl.v488, trip_k0_t1.sl.v489, trip_k0_t1.sl.v490, trip_k0_t1.sl.v491, trip_k0_t1.sl.v492, trip_k0_t1.sl.v496, trip_k0_t1.sl.v499, trip_k0_t1.sl.v500, trip_k0_t1.sl.v501, trip_k0_t1.sl.v502, trip_k0_t1.sl.v503, trip_k0_t1.sl.v504, trip_k0_t1.sl.v506, trip_k0_t1.sl.v507, trip_k0_t1.sl.v508, trip_k0_t1.sl.v509, trip_k0_t1.sl.v513, trip_k0_t1.sl.v516, trip_k0_t1.sl.v517, trip_k0_t1.sl.v518, trip_k0_t1.sl.v521, trip_k0_t1.sl.v522, trip_k0_t1.sl.v523, trip_k0_t1.sl.v524, trip_k0_t1.sl.v525, trip_k0_t1.sl.v527, trip_k0_t1.sl.v528, trip_k0_t1.sl.v529, trip_k0_t1.sl.v530, trip_k0_t1.sl.v531, trip_k0_t1.sl.v535, trip_k0_t1.sl.v538, trip_k0_t1.sl.v539, trip_k0_t1.sl.v540, trip_k0_t1.sl.v541, trip_k0_t1.sl.v542, trip_k0_t1.sl.v543, trip_k0_t1.sl.v545, trip_k0_t1.sl.v546, trip_k0_t1.sl.v547, trip_k0_t1.sl.v548, trip_k0_t1.sl.v552, trip_k0_t1.sl.v555, trip_k0_t1.sl.v556, trip_k0_t1.sl.v557, trip_k0_t1.sl.v560, trip_k0_t1.sl.v561, trip_k0_t1.sl.v562, trip_k0_t1.sl.v563, trip_k0_t1.sl.v564, trip_k0_t1.sl.v566, trip_k0_t1.sl.v567, trip_k0_t1.sl.v568, trip_k0_t1.sl.v569, trip_k0_t1.sl.v570, trip_k0_t1.sl.v574, trip_k0_t1.sl.v577, trip_k0_t1.sl.v578, trip_k0_t1.sl.v579, trip_k0_t1.sl.v580, trip_k0_t1.sl.v581, trip_k0_t1.sl.v582, trip_k0_t1.sl.v584, trip_k0_t1.sl.v585, k0_pay85, k0_pay86, k0_pay87, k0_pay88]
  simp only [rd4 _ _ _ _ _ 1 _ (o4 i k) _ _ (key_lt i k _), rd6 _ _ _ _ ⟨k.val, trips_lt i k⟩ 1 _ (o6 i k)]
  rfl

theorem tripR2 (v53 : IVec S512x512 1) (k : Fin (k0_t1_loop i).trips) (acc : FVec Ideal S128x512 .f32 × FVec Ideal S128x512 .f32 × FVec Ideal S128x512 .f32 × FVec Ideal S128x512 .f32)
    (f13 f14 : Vec Ideal S4x2048x128 .f32) (x : Fin 128) (r : Fin 512) :
    (tripR_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 v53 (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) k acc f13 f14).2.2.1 (ix2 x r)
      = (acc.2.2.1 (ix2 x r) : EReal) + ∑ a : Fin 512, (KT (ix5 0 2 ⟨k.val, trips_lt i k⟩ x a) : EReal) * (pw K (Q 2) (LS 2) 2 (key i k a) r * dpw VV (DO 2) (DL 2) 2 (key i k a) r) := by
  unfold tripR_k0_t1 trip_k0_t1
  dsimp only
  pointwise [trip_k0_t1.sl.arg15, trip_k0_t1.sl.cst_228, trip_k0_t1.sl.cst_231, trip_k0_t1.sl.cst_247, trip_k0_t1.sl.v439, trip_k0_t1.sl.v441, trip_k0_t1.sl.v443, trip_k0_t1.sl.v444, trip_k0_t1.sl.v445, trip_k0_t1.sl.v446, trip_k0_t1.sl.v447, trip_k0_t1.sl.v450, trip_k0_t1.sl.v451, trip_k0_t1.sl.v452, trip_k0_t1.sl.v453, trip_k0_t1.sl.v457, trip_k0_t1.sl.v460, trip_k0_t1.sl.v461, trip_k0_t1.sl.v462, trip_k0_t1.sl.v463, trip_k0_t1.sl.v464, trip_k0_t1.sl.v465, trip_k0_t1.sl.v468, trip_k0_t1.sl.v469, trip_k0_t1.sl.v470, trip_k0_t1.sl.v474, trip_k0_t1.sl.v475, trip_k0_t1.sl.v477, trip_k0_t1.sl.v478, trip_k0_t1.sl.v479, trip_k0_t1.sl.v482, trip_k0_t1.sl.v483, trip_k0_t1.sl.v484, trip_k0_t1.sl.v485, trip_k0_t1.sl.v486, trip_k0_t1.sl.v488, trip_k0_t1.sl.v489, trip_k0_t1.sl.v490, trip_k0_t1.sl.v491, trip_k0_t1.sl.v492, trip_k0_t1.sl.v496, trip_k0_t1.sl.v499, trip_k0_t1.sl.v500, trip_k0_t1.sl.v501, trip_k0_t1.sl.v502, trip_k0_t1.sl.v503, trip_k0_t1.sl.v504, trip_k0_t1.sl.v506, trip_k0_t1.sl.v507, trip_k0_t1.sl.v508, trip_k0_t1.sl.v509, trip_k0_t1.sl.v513, trip_k0_t1.sl.v516, trip_k0_t1.sl.v517, trip_k0_t1.sl.v518, trip_k0_t1.sl.v521, trip_k0_t1.sl.v522, trip_k0_t1.sl.v523, trip_k0_t1.sl.v524, trip_k0_t1.sl.v525, trip_k0_t1.sl.v527, trip_k0_t1.sl.v528, trip_k0_t1.sl.v529, trip_k0_t1.sl.v530, trip_k0_t1.sl.v531, trip_k0_t1.sl.v535, trip_k0_t1.sl.v538, trip_k0_t1.sl.v539, trip_k0_t1.sl.v540, trip_k0_t1.sl.v541, trip_k0_t1.sl.v542, trip_k0_t1.sl.v543, trip_k0_t1.sl.v545, trip_k0_t1.sl.v546, trip_k0_t1.sl.v547, trip_k0_t1.sl.v548, trip_k0_t1.sl.v552, trip_k0_t1.sl.v555, trip_k0_t1.sl.v556, trip_k0_t1.sl.v557, trip_k0_t1.sl.v560, trip_k0_t1.sl.v561, trip_k0_t1.sl.v562, trip_k0_t1.sl.v563, trip_k0_t1.sl.v564, trip_k0_t1.sl.v566, trip_k0_t1.sl.v567, trip_k0_t1.sl.v568, trip_k0_t1.sl.v569, trip_k0_t1.sl.v570, trip_k0_t1.sl.v574, trip_k0_t1.sl.v577, trip_k0_t1.sl.v578, trip_k0_t1.sl.v579, trip_k0_t1.sl.v580, trip_k0_t1.sl.v581, trip_k0_t1.sl.v582, trip_k0_t1.sl.v584, trip_k0_t1.sl.v585, k0_pay85, k0_pay86, k0_pay87, k0_pay88]
  simp only [rd4 _ _ _ _ _ 2 _ (o7 i k) _ _ (key_lt i k _), rd6 _ _ _ _ ⟨k.val, trips_lt i k⟩ 2 _ (o9 i k)]
  rfl

theorem tripR3 (v53 : IVec S512x512 1) (k : Fin (k0_t1_loop i).trips) (acc : FVec Ideal S128x512 .f32 × FVec Ideal S128x512 .f32 × FVec Ideal S128x512 .f32 × FVec Ideal S128x512 .f32)
    (f13 f14 : Vec Ideal S4x2048x128 .f32) (x : Fin 128) (r : Fin 512) :
    (tripR_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 v53 (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) k acc f13 f14).2.2.2 (ix2 x r)
      = (acc.2.2.2 (ix2 x r) : EReal) + ∑ a : Fin 512, (KT (ix5 0 3 ⟨k.val, trips_lt i k⟩ x a) : EReal) * (pw K (Q 3) (LS 3) 3 (key i k a) r * dpw VV (DO 3) (DL 3) 3 (key i k a) r) := by
  unfold tripR_k0_t1 trip_k0_t1
  dsimp only
  pointwise [trip_k0_t1.sl.arg15, trip_k0_t1.sl.cst_228, trip_k0_t1.sl.cst_231, trip_k0_t1.sl.cst_247, trip_k0_t1.sl.v439, trip_k0_t1.sl.v441, trip_k0_t1.sl.v443, trip_k0_t1.sl.v444, trip_k0_t1.sl.v445, trip_k0_t1.sl.v446, trip_k0_t1.sl.v447, trip_k0_t1.sl.v450, trip_k0_t1.sl.v451, trip_k0_t1.sl.v452, trip_k0_t1.sl.v453, trip_k0_t1.sl.v457, trip_k0_t1.sl.v460, trip_k0_t1.sl.v461, trip_k0_t1.sl.v462, trip_k0_t1.sl.v463, trip_k0_t1.sl.v464, trip_k0_t1.sl.v465, trip_k0_t1.sl.v468, trip_k0_t1.sl.v469, trip_k0_t1.sl.v470, trip_k0_t1.sl.v474, trip_k0_t1.sl.v475, trip_k0_t1.sl.v477, trip_k0_t1.sl.v478, trip_k0_t1.sl.v479, trip_k0_t1.sl.v482, trip_k0_t1.sl.v483, trip_k0_t1.sl.v484, trip_k0_t1.sl.v485, trip_k0_t1.sl.v486, trip_k0_t1.sl.v488, trip_k0_t1.sl.v489, trip_k0_t1.sl.v490, trip_k0_t1.sl.v491, trip_k0_t1.sl.v492, trip_k0_t1.sl.v496, trip_k0_t1.sl.v499, trip_k0_t1.sl.v500, trip_k0_t1.sl.v501, trip_k0_t1.sl.v502, trip_k0_t1.sl.v503, trip_k0_t1.sl.v504, trip_k0_t1.sl.v506, trip_k0_t1.sl.v507, trip_k0_t1.sl.v508, trip_k0_t1.sl.v509, trip_k0_t1.sl.v513, trip_k0_t1.sl.v516, trip_k0_t1.sl.v517, trip_k0_t1.sl.v518, trip_k0_t1.sl.v521, trip_k0_t1.sl.v522, trip_k0_t1.sl.v523, trip_k0_t1.sl.v524, trip_k0_t1.sl.v525, trip_k0_t1.sl.v527, trip_k0_t1.sl.v528, trip_k0_t1.sl.v529, trip_k0_t1.sl.v530, trip_k0_t1.sl.v531, trip_k0_t1.sl.v535, trip_k0_t1.sl.v538, trip_k0_t1.sl.v539, trip_k0_t1.sl.v540, trip_k0_t1.sl.v541, trip_k0_t1.sl.v542, trip_k0_t1.sl.v543, trip_k0_t1.sl.v545, trip_k0_t1.sl.v546, trip_k0_t1.sl.v547, trip_k0_t1.sl.v548, trip_k0_t1.sl.v552, trip_k0_t1.sl.v555, trip_k0_t1.sl.v556, trip_k0_t1.sl.v557, trip_k0_t1.sl.v560, trip_k0_t1.sl.v561, trip_k0_t1.sl.v562, trip_k0_t1.sl.v563, trip_k0_t1.sl.v564, trip_k0_t1.sl.v566, trip_k0_t1.sl.v567, trip_k0_t1.sl.v568, trip_k0_t1.sl.v569, trip_k0_t1.sl.v570, trip_k0_t1.sl.v574, trip_k0_t1.sl.v577, trip_k0_t1.sl.v578, trip_k0_t1.sl.v579, trip_k0_t1.sl.v580, trip_k0_t1.sl.v581, trip_k0_t1.sl.v582, trip_k0_t1.sl.v584, trip_k0_t1.sl.v585, k0_pay85, k0_pay86, k0_pay87, k0_pay88]
  simp only [rd4 _ _ _ _ _ 3 _ (o10 i k) _ _ (key_lt i k _), rd6 _ _ _ _ ⟨k.val, trips_lt i k⟩ 3 _ (o12 i k)]
  rfl

end Cert.Kernel3Ideal.Attn
end
-- ==== Proof.AttnLoop.lean ====
module

public import proofs.«01_k».proof.Proof.Gen.Kernel3Ideal.Frame
public import Idealize.ShloMosaic.Lib.Pipeline.ValueKit
public import Idealize.ShloMosaic.Lib.Claim
public import proofs.«01_k».proof.Proof.AttnTrip
public import Idealize.ShloMosaic.Lib.WholeRead
public import Idealize.ShloMosaic.Lib.WritesUnit

@[expose] public section
set_option maxRecDepth 16384
noncomputable section
open Idealize.ShloMosaic Idealize.ShloMosaic.TcCoe Idealize.SL.Sem
open Idealize.ShloMosaic.Pipeline (Dat)
namespace Cert.Kernel3Ideal.Attn
open Cert.Kernel3Ideal Cert.Kernel3Ideal.Gen

/-! All passes over the tiles of keys before the diagonal one. -/

variable (𝒱 : Variants) (c : Dev nD) (bd : Option 𝒱.V) (i : grid0.Coords) (arg3 : Memref sig .tc .vmem S1x4x512x128 .bf16) (harg3 : arg3.IsWhole) (arg4 : Memref sig .tc .vmem S1x4x2048x128 .bf16) (harg4 : arg4.IsWhole) (arg5 : Memref sig .tc .vmem S1x4x2048x128 .bf16) (harg5 : arg5.IsWhole) (arg6 : Memref sig .tc .vmem S1x4x4x128x512 .bf16) (harg6 : arg6.IsWhole) (arg7 : Memref sig .tc .vmem S1x512x256 .bf16) (harg7 : arg7.IsWhole) (arg8 : Memref sig .tc .vmem S1x512x256 .bf16) (harg8 : arg8.IsWhole) (arg9 : Memref sig .tc .vmem S1x4x8x512 .f32) (harg9 : arg9.IsWhole) (arg10 : Memref sig .tc .vmem S1x4x512x128 .bf16) (harg10 : arg10.IsWhole) (arg11 : Memref sig .tc .vmem S1x4x2048x128 .bf16) (harg11 : arg11.IsWhole) (arg12 : Memref sig .tc .vmem S1x4x2048x128 .bf16) (harg12 : arg12.IsWhole) (arg2 : BitVec 32) (v53 : IVec S512x512 1) (v239 : FVec Ideal S128x512 .f32) (v240 : FVec Ideal S128x512 .f32) (cst_105 : Ideal .f32) (hs13 : (scM0_0 : Memref sig .tc .vmem S4x2048x128 .f32).IsWhole) (hs14 : (scM0_1 : Memref sig .tc .vmem S4x2048x128 .f32).IsWhole)
  (K VV : Vec Ideal S1x4x2048x128 .bf16) (KT : Vec Ideal S1x4x4x128x512 .bf16) (Q DO : Fin 4 → FVec Ideal S512x128 .bf16) (LS DL : Fin 4 → FVec Ideal S1x512 .f32)
  (v53 : IVec S512x512 1) (G13 G14 : Vec Ideal S4x2048x128 .f32) (init : FVec Ideal S128x512 .f32 × FVec Ideal S128x512 .f32 × FVec Ideal S128x512 .f32 × FVec Ideal S128x512 .f32)

theorem loop14 (n : ℕ) (hn : n ≤ (k0_t1_loop i).trips) (h : Fin 4) (row : Fin 2048) (d : Fin 128) :
    (scM0_1 : Memref sig .tc .vmem S4x2048x128 .f32).view.read (Elt Ideal) ((scM0_1 : Memref sig .tc .vmem S4x2048x128 .f32).view.writes (Elt Ideal) G14 (st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 v53 (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init n).2.2) (ix3 h row d)
      = if row.val < 512 * n then (G14 (ix3 h row d) : EReal) + ∑ r : Fin 512, pw K (Q h) (LS h) h row r * (DO h (ix2 r d) : EReal) else G14 (ix3 h row d) := by
  induction n with
  | zero => rw [if_neg (by omega)]; rfl
  | succ n ih =>
    have ih := ih (by omega)
    rw [st_k0_t1_succ (F := Ideal) 𝒱 c bd i arg3 harg3 arg4 harg4 arg5 harg5 arg6 harg6 arg7 harg7 arg8 harg8 arg9 harg9 arg10 harg10 arg11 harg11 arg12 harg12 scM0_0 hs13 scM0_1 hs14 arg2 v53 (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init ⟨n, hn⟩]
    dsimp only
    rw [View.writes_append]
    refine (trip14 (h := h) (row := row) (d := d) ..).trans ?_
    simp only []
    have ih' : ((scM0_1 : Memref sig .tc .vmem S4x2048x128 .f32).view.writes (Elt Ideal) G14 (st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 v53 (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init n).2.2 : Vec Ideal S4x2048x128 .f32) (ix3 h row d) = _ := ih
    rw [ih']
    by_cases h1 : row.val < 512 * n
    · rw [if_pos h1, if_neg (by omega), if_pos (by omega)]
    · by_cases h2 : row.val < 512 * n + 512
      · rw [if_neg h1, if_pos (by omega), if_pos (by omega)]
      · rw [if_neg h1, if_neg (by omega), if_neg (by omega)]

theorem loop13 (n : ℕ) (hn : n ≤ (k0_t1_loop i).trips) (h : Fin 4) (row : Fin 2048) (d : Fin 128) :
    (scM0_0 : Memref sig .tc .vmem S4x2048x128 .f32).view.read (Elt Ideal) ((scM0_0 : Memref sig .tc .vmem S4x2048x128 .f32).view.writes (Elt Ideal) G13 (st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 v53 (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init n).2.1) (ix3 h row d)
      = if row.val < 512 * n then (G13 (ix3 h row d) : EReal) + ∑ r : Fin 512, pw K (Q h) (LS h) h row r * dpw VV (DO h) (DL h) h row r * (Q h (ix2 r d) : EReal) else G13 (ix3 h row d) := by
  induction n with
  | zero => rw [if_neg (by omega)]; rfl
  | succ n ih =>
    have ih := ih (by omega)
    rw [st_k0_t1_succ (F := Ideal) 𝒱 c bd i arg3 harg3 arg4 harg4 arg5 harg5 arg6 harg6 arg7 harg7 arg8 harg8 arg9 harg9 arg10 harg10 arg11 harg11 arg12 harg12 scM0_0 hs13 scM0_1 hs14 arg2 v53 (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init ⟨n, hn⟩]
    dsimp only
    rw [View.writes_append]
    refine (trip13 (h := h) (row := row) (d := d) ..).trans ?_
    simp only []
    have ih' : ((scM0_0 : Memref sig .tc .vmem S4x2048x128 .f32).view.writes (Elt Ideal) G13 (st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 v53 (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init n).2.1 : Vec Ideal S4x2048x128 .f32) (ix3 h row d) = _ := ih
    rw [ih']
    by_cases h1 : row.val < 512 * n
    · rw [if_pos h1, if_neg (by omega), if_pos (by omega)]
    · by_cases h2 : row.val < 512 * n + 512
      · rw [if_neg h1, if_pos (by omega), if_pos (by omega)]
      · rw [if_neg h1, if_neg (by omega), if_neg (by omega)]

/-- A sum over the keys of one tile. -/
theorem sum_tile (g : Fin 2048 → EReal) (n : ℕ) (hn : n < 4) :
    ∑ row : Fin 2048, (if 512 * n ≤ row.val ∧ row.val < 512 * n + 512 then g row else 0) = ∑ a : Fin 512, g ⟨512 * n + a.val, by omega⟩ := by
  rw [← Finset.sum_filter]
  refine Finset.sum_bij' (fun row h => (⟨row.val - 512 * n, by have := (Finset.mem_filter.1 h).2; omega⟩ : Fin 512)) (fun a _ => ⟨512 * n + a.val, by omega⟩) ?_ ?_ ?_ ?_ ?_
  · intro row h; exact Finset.mem_univ _
  · intro a _; refine Finset.mem_filter.2 ⟨Finset.mem_univ _, ?_⟩; simp only []; omega
  · intro row h; have := (Finset.mem_filter.1 h).2; refine Fin.ext ?_; simp only []; omega
  · intro a _; refine Fin.ext ?_; simp only []; omega
  · intro row h; have := (Finset.mem_filter.1 h).2; refine congrArg g (Fin.ext ?_); simp only []; omega

/-- A sum over the keys before a tile and those of the tile. -/
theorem sum_upto_succ (g : Fin 2048 → EReal) (n : ℕ) (hn : n < 4) :
    ∑ row : Fin 2048, (if row.val < 512 * (n + 1) then g row else 0)
      = ∑ row : Fin 2048, (if row.val < 512 * n then g row else 0) + ∑ a : Fin 512, g ⟨512 * n + a.val, by omega⟩ := by
  rw [← sum_tile g n hn, ← Finset.sum_add_distrib]
  refine Finset.sum_congr rfl fun row _ => ?_
  by_cases h1 : row.val < 512 * n
  · rw [if_pos (by omega), if_pos h1, if_neg (by omega), add_zero]
  · by_cases h2 : row.val < 512 * n + 512
    · rw [if_pos (by omega), if_neg h1, if_pos (by omega), zero_add]
    · rw [if_neg (by omega), if_neg h1, if_neg (by omega), add_zero]

/-- The transposed keys of head `h`, by lane and key. -/
def kT (KT : Vec Ideal S1x4x4x128x512 .bf16) (h : Fin 4) (x : Fin 128) (row : Fin 2048) : EReal :=
  KT (ix5 0 h ⟨row.val / 512, by omega⟩ x ⟨row.val % 512, Nat.mod_lt _ (by norm_num)⟩)

theorem kT_tile (KT : Vec Ideal S1x4x4x128x512 .bf16) (h : Fin 4) (x : Fin 128) (n : Fin 4) (a : Fin 512) (hk : 512 * n.val + a.val < 2048) :
    kT KT h x ⟨512 * n.val + a.val, hk⟩ = KT (ix5 0 h n x a) := by
  unfold kT
  congr 2
  · exact Fin.ext (by simp only []; omega)
  · exact Fin.ext (by simp only []; omega)

theorem loopR0 (n : ℕ) (hn : n ≤ (k0_t1_loop i).trips) (x : Fin 128) (r : Fin 512) :
    (st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 v53 (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init n).1.1 (ix2 x r)
      = (init.1 (ix2 x r) : EReal) + ∑ row : Fin 2048, (if row.val < 512 * n then kT KT 0 x row * (pw K (Q 0) (LS 0) 0 row r * dpw VV (DO 0) (DL 0) 0 row r) else 0) := by
  induction n with
  | zero =>
    rw [show (∑ row : Fin 2048, (if row.val < 512 * 0 then kT KT 0 x row * (pw K (Q 0) (LS 0) 0 row r * dpw VV (DO 0) (DL 0) 0 row r) else 0)) = 0 from Finset.sum_eq_zero fun row _ => if_neg (by omega), add_zero]
    rfl
  | succ n ih =>
    have ih := ih (by omega)
    rw [st_k0_t1_succ (F := Ideal) 𝒱 c bd i arg3 harg3 arg4 harg4 arg5 harg5 arg6 harg6 arg7 harg7 arg8 harg8 arg9 harg9 arg10 harg10 arg11 harg11 arg12 harg12 scM0_0 hs13 scM0_1 hs14 arg2 v53 (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init ⟨n, hn⟩]
    dsimp only
    rw [tripR0, ih, add_assoc, sum_upto_succ _ n (trips_lt i ⟨n, hn⟩)]
    refine congrArg _ (congrArg _ (Finset.sum_congr rfl fun a _ => ?_))
    rw [kT_tile KT 0 x ⟨n, trips_lt i ⟨n, hn⟩⟩ a]
    rfl

theorem loopR1 (n : ℕ) (hn : n ≤ (k0_t1_loop i).trips) (x : Fin 128) (r : Fin 512) :
    (st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 v53 (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init n).1.2.1 (ix2 x r)
      = (init.2.1 (ix2 x r) : EReal) + ∑ row : Fin 2048, (if row.val < 512 * n then kT KT 1 x row * (pw K (Q 1) (LS 1) 1 row r * dpw VV (DO 1) (DL 1) 1 row r) else 0) := by
  induction n with
  | zero =>
    rw [show (∑ row : Fin 2048, (if row.val < 512 * 0 then kT KT 1 x row * (pw K (Q 1) (LS 1) 1 row r * dpw VV (DO 1) (DL 1) 1 row r) else 0)) = 0 from Finset.sum_eq_zero fun row _ => if_neg (by omega), add_zero]
    rfl
  | succ n ih =>
    have ih := ih (by omega)
    rw [st_k0_t1_succ (F := Ideal) 𝒱 c bd i arg3 harg3 arg4 harg4 arg5 harg5 arg6 harg6 arg7 harg7 arg8 harg8 arg9 harg9 arg10 harg10 arg11 harg11 arg12 harg12 scM0_0 hs13 scM0_1 hs14 arg2 v53 (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init ⟨n, hn⟩]
    dsimp only
    rw [tripR1, ih, add_assoc, sum_upto_succ _ n (trips_lt i ⟨n, hn⟩)]
    refine congrArg _ (congrArg _ (Finset.sum_congr rfl fun a _ => ?_))
    rw [kT_tile KT 1 x ⟨n, trips_lt i ⟨n, hn⟩⟩ a]
    rfl

theorem loopR2 (n : ℕ) (hn : n ≤ (k0_t1_loop i).trips) (x : Fin 128) (r : Fin 512) :
    (st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 v53 (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init n).1.2.2.1 (ix2 x r)
      = (init.2.2.1 (ix2 x r) : EReal) + ∑ row : Fin 2048, (if row.val < 512 * n then kT KT 2 x row * (pw K (Q 2) (LS 2) 2 row r * dpw VV (DO 2) (DL 2) 2 row r) else 0) := by
  induction n with
  | zero =>
    rw [show (∑ row : Fin 2048, (if row.val < 512 * 0 then kT KT 2 x row * (pw K (Q 2) (LS 2) 2 row r * dpw VV (DO 2) (DL 2) 2 row r) else 0)) = 0 from Finset.sum_eq_zero fun row _ => if_neg (by omega), add_zero]
    rfl
  | succ n ih =>
    have ih := ih (by omega)
    rw [st_k0_t1_succ (F := Ideal) 𝒱 c bd i arg3 harg3 arg4 harg4 arg5 harg5 arg6 harg6 arg7 harg7 arg8 harg8 arg9 harg9 arg10 harg10 arg11 harg11 arg12 harg12 scM0_0 hs13 scM0_1 hs14 arg2 v53 (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init ⟨n, hn⟩]
    dsimp only
    rw [tripR2, ih, add_assoc, sum_upto_succ _ n (trips_lt i ⟨n, hn⟩)]
    refine congrArg _ (congrArg _ (Finset.sum_congr rfl fun a _ => ?_))
    rw [kT_tile KT 2 x ⟨n, trips_lt i ⟨n, hn⟩⟩ a]
    rfl

theorem loopR3 (n : ℕ) (hn : n ≤ (k0_t1_loop i).trips) (x : Fin 128) (r : Fin 512) :
    (st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 v53 (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init n).1.2.2.2 (ix2 x r)
      = (init.2.2.2 (ix2 x r) : EReal) + ∑ row : Fin 2048, (if row.val < 512 * n then kT KT 3 x row * (pw K (Q 3) (LS 3) 3 row r * dpw VV (DO 3) (DL 3) 3 row r) else 0) := by
  induction n with
  | zero =>
    rw [show (∑ row : Fin 2048, (if row.val < 512 * 0 then kT KT 3 x row * (pw K (Q 3) (LS 3) 3 row r * dpw VV (DO 3) (DL 3) 3 row r) else 0)) = 0 from Finset.sum_eq_zero fun row _ => if_neg (by omega), add_zero]
    rfl
  | succ n ih =>
    have ih := ih (by omega)
    rw [st_k0_t1_succ (F := Ideal) 𝒱 c bd i arg3 harg3 arg4 harg4 arg5 harg5 arg6 harg6 arg7 harg7 arg8 harg8 arg9 harg9 arg10 harg10 arg11 harg11 arg12 harg12 scM0_0 hs13 scM0_1 hs14 arg2 v53 (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init ⟨n, hn⟩]
    dsimp only
    rw [tripR3, ih, add_assoc, sum_upto_succ _ n (trips_lt i ⟨n, hn⟩)]
    refine congrArg _ (congrArg _ (Finset.sum_congr rfl fun a _ => ?_))
    rw [kT_tile KT 3 x ⟨n, trips_lt i ⟨n, hn⟩⟩ a]
    rfl

end Cert.Kernel3Ideal.Attn
end
-- ==== Proof.AttnBlk.lean ====
module

public import proofs.«01_k».proof.Proof.Gen.Kernel3Ideal.Frame
public import Idealize.ShloMosaic.Lib.Pipeline.ValueKit
public import Idealize.ShloMosaic.Lib.Claim
public import proofs.«01_k».proof.Proof.AttnLoop
public import Idealize.ShloMosaic.Lib.WholeRead
public import Idealize.ShloMosaic.Lib.WritesUnit

@[expose] public section
set_option maxRecDepth 16384
noncomputable section
open Idealize.ShloMosaic Idealize.ShloMosaic.TcCoe Idealize.SL.Sem
open Idealize.ShloMosaic.Pipeline (Dat)
namespace Cert.Kernel3Ideal.Attn
open Cert.Kernel3Ideal Cert.Kernel3Ideal.Gen

/-! The blocks of one point of the grid, the causal mask of the diagonal tile, and single stores. -/

/-- The second of the two loops makes no pass: the first has taken all the tiles before the diagonal. -/
theorem trips2_eq (i : grid0.Coords) : Scf.trips (Scalar.addi 0#32 (Scalar.muli (Scalar.divsi (Scalar.subi (BitVec.ofNat 32 (i 2).val) 0#32) 1#32) 1#32)) (Scalar.addi 0#32 (Scalar.subi (BitVec.ofNat 32 (i 2).val) 0#32)) 1#32 = 0 := by
  have h : ∀ q : Fin 4, Scf.trips (Scalar.addi 0#32 (Scalar.muli (Scalar.divsi (Scalar.subi (BitVec.ofNat 32 q.val) 0#32) 1#32) 1#32)) (Scalar.addi 0#32 (Scalar.subi (BitVec.ofNat 32 q.val) 0#32)) 1#32 = 0 := by decide
  exact h (i 2)

theorem st2_none (𝒱 : Variants) (c : Dev nD) (bd : Option 𝒱.V) (i : grid0.Coords) (arg3 : Memref sig .tc .vmem S1x4x512x128 .bf16) (harg3 : arg3.IsWhole) (arg4 : Memref sig .tc .vmem S1x4x2048x128 .bf16) (harg4 : arg4.IsWhole) (arg5 : Memref sig .tc .vmem S1x4x2048x128 .bf16) (harg5 : arg5.IsWhole) (arg6 : Memref sig .tc .vmem S1x4x4x128x512 .bf16) (harg6 : arg6.IsWhole) (arg7 : Memref sig .tc .vmem S1x512x256 .bf16) (harg7 : arg7.IsWhole) (arg8 : Memref sig .tc .vmem S1x512x256 .bf16) (harg8 : arg8.IsWhole) (arg9 : Memref sig .tc .vmem S1x4x8x512 .f32) (harg9 : arg9.IsWhole) (arg10 : Memref sig .tc .vmem S1x4x512x128 .bf16) (harg10 : arg10.IsWhole) (arg11 : Memref sig .tc .vmem S1x4x2048x128 .bf16) (harg11 : arg11.IsWhole) (arg12 : Memref sig .tc .vmem S1x4x2048x128 .bf16) (harg12 : arg12.IsWhole) (arg13 : Memref sig .tc .vmem S4x2048x128 .f32) (harg13 : arg13.IsWhole) (arg14 : Memref sig .tc .vmem S4x2048x128 .f32) (harg14 : arg14.IsWhole) (arg2 : BitVec 32) (v53 : IVec S512x512 1) (v56 : FVec Ideal S512x128 .bf16) (v93 : FVec Ideal S512x128 .bf16) (v97 : FVec Ideal S1x512 .f32) (v100 : FVec Ideal S1x512 .f32) (v102 : FVec Ideal S512x128 .bf16) (v139 : FVec Ideal S512x128 .bf16) (v143 : FVec Ideal S1x512 .f32) (v146 : FVec Ideal S1x512 .f32) (v148 : FVec Ideal S512x128 .bf16) (v185 : FVec Ideal S512x128 .bf16) (v189 : FVec Ideal S1x512 .f32) (v192 : FVec Ideal S1x512 .f32) (v194 : FVec Ideal S512x128 .bf16) (v231 : FVec Ideal S512x128 .bf16) (v235 : FVec Ideal S1x512 .f32) (v238 : FVec Ideal S1x512 .f32) (v239 : FVec Ideal S128x512 .f32) (v240 : FVec Ideal S128x512 .f32) (cst_105 : Ideal .f32) (v247 : BitVec 32) (X_arg4 : BufTy.Contents (Elt Ideal) arg4.view.ty) (X_arg5 : BufTy.Contents (Elt Ideal) arg5.view.ty) (X_arg6 : BufTy.Contents (Elt Ideal) arg6.view.ty) (G_arg13 : BufTy.Contents (Elt Ideal) arg13.view.ty) (G_arg14 : BufTy.Contents (Elt Ideal) arg14.view.ty) (init : FVec Ideal S128x512 .f32 × FVec Ideal S128x512 .f32 × FVec Ideal S128x512 .f32 × FVec Ideal S128x512 .f32) :
    st_k0_t2 (F := Ideal) 𝒱 c bd i arg3 harg3 arg4 harg4 arg5 harg5 arg6 harg6 arg7 harg7 arg8 harg8 arg9 harg9 arg10 harg10 arg11 harg11 arg12 harg12 arg13 harg13 arg14 harg14 arg2 v53 v56 v93 v97 v100 v102 v139 v143 v146 v148 v185 v189 v192 v194 v231 v235 v238 v239 v240 cst_105 v247 X_arg4 X_arg5 X_arg6 G_arg13 G_arg14 init 0 = (init, [], []) := rfl

/-- One block of rows of one head written: what is read afterwards. -/
theorem one (v : View sig .tc .vmem S4x2048x128 .f32) (f : v.ty.Contents (Elt Ideal)) (off : Fin 3 → ℕ) (o : ℕ) (h0 : Fin 4)
    (i0 : ∀ a, off a + (![1, 512, 128] : Fin 3 → ℕ) a ≤ S4x2048x128.size a) (e : off = ![h0.val, o, 0])
    (P : FVec Ideal S1x512x128 .f32) (L : List (View.Piece (Elt Ideal) S4x2048x128 .f32)) (h : Fin 4) (row : Fin 2048) (d : Fin 128) :
    v.read (Elt Ideal) (v.writes (Elt Ideal) f (⟨Rect.unit off ![1, 512, 128] i0, P⟩ :: L)) (ix3 h row d)
      = if hr : h = h0 ∧ o ≤ row.val ∧ row.val < o + 512 then P (ix3 0 ⟨row.val - o, by omega⟩ d) else v.read (Elt Ideal) (v.writes (Elt Ideal) f L) (ix3 h row d) := by
  by_cases hr : h = h0 ∧ o ≤ row.val ∧ row.val < o + 512
  · rw [dif_pos hr]
    refine View.read_writes_cons_unit_of_mem v f i0 P L _ _ e fun a => ?_
    obtain ⟨rfl, h1, h2⟩ := hr
    fin_cases a <;> simp [ix3]
    omega
  · rw [dif_neg hr]
    by_cases hh : h = h0
    · refine View.read_writes_cons_unit_of_not_mem v f i0 P L _ e 1 ?_
      have : ¬ (o ≤ row.val ∧ row.val < o + 512) := fun h => hr ⟨hh, h⟩
      simp [ix3]
      omega
    · refine View.read_writes_cons_unit_of_not_mem v f i0 P L _ e 0 ?_
      have : h.val ≠ h0.val := fun e => hh (Fin.ext e)
      simp [ix3]
      omega

/-- After a store of the whole, the pieces written over it read as written over whatever was there. -/
theorem canon_last (v : View sig .tc .vmem S4x2048x128 .f32) (r : Rect S4x2048x128) (hr : ∀ y, y ∈ r.set) (Z : r.shape.Idx → Elt Ideal .f32)
    (L : List (View.Piece (Elt Ideal) S4x2048x128 .f32)) :
    View.canon (L ++ [⟨r, Z⟩]) = v.read (Elt Ideal) (v.writes (Elt Ideal) (v.writes (Elt Ideal) v.junk [⟨r, Z⟩]) L) := by
  refine funext fun y => ?_
  rw [← View.writes_append]
  exact (View.read_writes_apply_eq_canon v v.junk y _ ⟨⟨r, Z⟩, List.mem_append_right _ (List.mem_singleton.2 rfl), hr y⟩).symm

theorem whole_mem (y : S4x2048x128.Idx) : y ∈ (Rect.unit (s := S4x2048x128) ![0, 0, 0] ![4, 2048, 128] inb_S4x2048x128_S4x2048x128_0_0_0).set := by
  refine Rect.mem_set_unit.2 fun a => ?_
  have := (y a).isLt
  fin_cases a <;> exact ⟨Nat.zero_le _, by simpa using this⟩

/-- The causal mask within the diagonal tile: chunks of 64. -/
theorem mask_at (a r : Fin 512) : k0_pay53 k0_pay50 (iota .tc S512x512 32 [1] iota_S512x512_d1_w32) 64#32 k0_pay51 k0_pay52 1#32 0#32 (ix2 a r) = 1#1 ↔ a.val / 64 ≤ r.val / 64 := by
  unfold k0_pay53 k0_pay50 k0_pay51 k0_pay52
  dsimp only
  pointwise []
  have h1 : ∀ r : Fin 512, (Scalar.select
          (IntOp.andi
            (IntOp.cmpi CmpIPredicate.ne
              (IntOp.subi (BitVec.setWidth 32 (IntOp.cmpi CmpIPredicate.sgt (BitVec.ofNat 32 r.val) 0#32))
                (BitVec.setWidth 32 (IntOp.cmpi CmpIPredicate.slt (BitVec.ofNat 32 r.val) 0#32)))
              (Scalar.subi 1#32 0#32))
            (IntOp.cmpi CmpIPredicate.ne (IntOp.remsi ArithUnit.vector (BitVec.ofNat 32 r.val) 64#32) 0#32))
          (IntOp.subi (IntOp.divsi ArithUnit.vector (BitVec.ofNat 32 r.val) 64#32) 1#32)
          (IntOp.divsi ArithUnit.vector (BitVec.ofNat 32 r.val) 64#32)) = BitVec.ofNat 32 (r.val / 64) := by decide +kernel
  have h2 : Scalar.subi (Scalar.extui (Scalar.cmpi CmpIPredicate.sgt 64#32 0#32)) (Scalar.extui (Scalar.cmpi CmpIPredicate.slt 64#32 0#32)) = Scalar.subi 1#32 0#32 := by decide
  have h3 : ∀ p q : Fin 8, IntOp.cmpi CmpIPredicate.sge (BitVec.ofNat 32 p.val) (BitVec.ofNat 32 q.val) = 1#1 ↔ q.val ≤ p.val := by decide
  rw [h2, h1 a, h1 r]
  exact h3 ⟨r.val / 64, by omega⟩ ⟨a.val / 64, by omega⟩

/-- The queries of each head at one point of the grid. -/
def qB (X0 : Vec Ideal S1x4x512x128 .bf16) : Fin 4 → FVec Ideal S512x128 .bf16 :=
  ![k0_pay57 (View.ld X0 (Rect.unit (s := S1x4x512x128) ![0, 0, 0, 0] ![1, 1, 512, 128] inb_S1x4x512x128_S1x1x512x128_0_0_0_0)), k0_pay65 (View.ld X0 (Rect.unit (s := S1x4x512x128) ![0, 1, 0, 0] ![1, 1, 512, 128] inb_S1x4x512x128_S1x1x512x128_0_1_0_0)), k0_pay72 (View.ld X0 (Rect.unit (s := S1x4x512x128) ![0, 2, 0, 0] ![1, 1, 512, 128] inb_S1x4x512x128_S1x1x512x128_0_2_0_0)), k0_pay78 (View.ld X0 (Rect.unit (s := S1x4x512x128) ![0, 3, 0, 0] ![1, 1, 512, 128] inb_S1x4x512x128_S1x1x512x128_0_3_0_0))]

/-- The output gradients of each head (of its pair of heads). -/
def doB (X4 : Vec Ideal S1x512x256 .bf16) : Fin 4 → FVec Ideal S512x128 .bf16 :=
  ![k0_pay54 (View.ld X4 (Rect.unit (s := S1x512x256) ![0, 0, 0] ![1, 512, 128] inb_S1x512x256_S1x512x128_0_0_0)), k0_pay60 (View.ld X4 (Rect.unit (s := S1x512x256) ![0, 0, 0] ![1, 512, 128] inb_S1x512x256_S1x512x128_0_0_0)), k0_pay68 (View.ld X4 (Rect.unit (s := S1x512x256) ![0, 0, 128] ![1, 512, 128] inb_S1x512x256_S1x512x128_0_0_128)), k0_pay75 (View.ld X4 (Rect.unit (s := S1x512x256) ![0, 0, 128] ![1, 512, 128] inb_S1x512x256_S1x512x128_0_0_128))]

/-- The log-sums of each head. -/
def lsB (X6 : Vec Ideal S1x4x8x512 .f32) : Fin 4 → FVec Ideal S1x512 .f32 :=
  ![k0_pay59 (View.ld X6 (Rect.unit (s := S1x4x8x512) ![0, 0, 0, 0] ![1, 1, 8, 512] inb_S1x4x8x512_S1x1x8x512_0_0_0_0)), k0_pay67 (View.ld X6 (Rect.unit (s := S1x4x8x512) ![0, 1, 0, 0] ![1, 1, 8, 512] inb_S1x4x8x512_S1x1x8x512_0_1_0_0)), k0_pay74 (View.ld X6 (Rect.unit (s := S1x4x8x512) ![0, 2, 0, 0] ![1, 1, 8, 512] inb_S1x4x8x512_S1x1x8x512_0_2_0_0)), k0_pay80 (View.ld X6 (Rect.unit (s := S1x4x8x512) ![0, 3, 0, 0] ![1, 1, 8, 512] inb_S1x4x8x512_S1x1x8x512_0_3_0_0))]

/-- The row sums of the output gradients times the outputs of each head. -/
def dlB (X4 X5 : Vec Ideal S1x512x256 .bf16) : Fin 4 → FVec Ideal S1x512 .f32 :=
  ![k0_pay58 (k0_pay55 (View.ld X4 (Rect.unit (s := S1x512x256) ![0, 0, 0] ![1, 512, 128] inb_S1x512x256_S1x512x128_0_0_0)) (View.ld X5 (Rect.unit (s := S1x512x256) ![0, 0, 0] ![1, 512, 128] inb_S1x512x256_S1x512x128_0_0_0))) k0_pay56 0#32,
    k0_pay66 (iota .tc S512x128 32 [1] iota_S512x128_d1_w32) (k0_pay61 (View.ld X4 (Rect.unit (s := S1x512x256) ![0, 0, 0] ![1, 512, 128] inb_S1x512x256_S1x512x128_0_0_0)) (View.ld X5 (Rect.unit (s := S1x512x256) ![0, 0, 0] ![1, 512, 128] inb_S1x512x256_S1x512x128_0_0_0))) (k0_pay62 (iota .tc S512x128 32 [1] iota_S512x128_d1_w32)) (k0_pay63 (iota .tc S512x128 32 [1] iota_S512x128_d1_w32)) k0_pay64,
    k0_pay73 (iota .tc S512x128 32 [1] iota_S512x128_d1_w32) (k0_pay69 (View.ld X4 (Rect.unit (s := S1x512x256) ![0, 0, 128] ![1, 512, 128] inb_S1x512x256_S1x512x128_0_0_128)) (View.ld X5 (Rect.unit (s := S1x512x256) ![0, 0, 128] ![1, 512, 128] inb_S1x512x256_S1x512x128_0_0_128))) 64#32 (k0_pay70 (iota .tc S512x128 32 [1] iota_S512x128_d1_w32)) (k0_pay71 (iota .tc S512x128 32 [1] iota_S512x128_d1_w32)),
    k0_pay79 (iota .tc S512x128 32 [1] iota_S512x128_d1_w32) (k0_pay76 (View.ld X4 (Rect.unit (s := S1x512x256) ![0, 0, 128] ![1, 512, 128] inb_S1x512x256_S1x512x128_0_0_128)) (View.ld X5 (Rect.unit (s := S1x512x256) ![0, 0, 128] ![1, 512, 128] inb_S1x512x256_S1x512x128_0_0_128))) 64#32 k0_pay77]

theorem qB_at (X0 : Vec Ideal S1x4x512x128 .bf16) (h : Fin 4) (r : Fin 512) (x : Fin 128) : (qB X0 h (ix2 r x) : EReal) = X0 (ix4 0 h r x) := by
  fin_cases h <;> simp only [qB, Fin.zero_eta, Fin.mk_one, Fin.reduceFinMk, Matrix.cons_val] <;> pointwise [k0_pay57, k0_pay65, k0_pay72, k0_pay78] <;> blk_point

theorem doB_at (X4 : Vec Ideal S1x512x256 .bf16) (h : Fin 4) (r : Fin 512) (x : Fin 128) : (doB X4 h (ix2 r x) : EReal) = X4 (ix3 0 r ⟨128 * (h.val / 2) + x.val, by omega⟩) := by
  fin_cases h <;> simp only [doB, Fin.zero_eta, Fin.mk_one, Fin.reduceFinMk, Matrix.cons_val] <;> pointwise [k0_pay54, k0_pay60, k0_pay68, k0_pay75] <;> blk_point

theorem lsB_at (X6 : Vec Ideal S1x4x8x512 .f32) (h : Fin 4) (r : Fin 512) : (lsB X6 h (ix2 0 r) : EReal) = X6 (ix4 0 h 0 r) := by
  fin_cases h <;> simp only [lsB, Fin.zero_eta, Fin.mk_one, Fin.reduceFinMk, Matrix.cons_val] <;> pointwise [k0_pay59, k0_pay67, k0_pay74, k0_pay80] <;> blk_point

/-- Which of the two heads of a pair a lane belongs to. -/
theorem lane_half (x : Fin 128) : Scalar.select
          (IntOp.andi
            (IntOp.cmpi CmpIPredicate.ne
              (IntOp.subi (BitVec.setWidth 32 (IntOp.cmpi CmpIPredicate.sgt (BitVec.ofNat 32 x.val) 0#32))
                (BitVec.setWidth 32 (IntOp.cmpi CmpIPredicate.slt (BitVec.ofNat 32 x.val) 0#32)))
              (Scalar.subi (Scalar.extui (Scalar.cmpi CmpIPredicate.sgt 64#32 0#32)) (Scalar.extui (Scalar.cmpi CmpIPredicate.slt 64#32 0#32))))
            (IntOp.cmpi CmpIPredicate.ne (IntOp.remsi ArithUnit.vector (BitVec.ofNat 32 x.val) 64#32) 0#32))
          (IntOp.subi (IntOp.divsi ArithUnit.vector (BitVec.ofNat 32 x.val) 64#32) 1#32)
          (IntOp.divsi ArithUnit.vector (BitVec.ofNat 32 x.val) 64#32) = BitVec.ofNat 32 (x.val / 64) := by
  have h : ∀ x : Fin 128, Scalar.select
          (IntOp.andi
            (IntOp.cmpi CmpIPredicate.ne
              (IntOp.subi (BitVec.setWidth 32 (IntOp.cmpi CmpIPredicate.sgt (BitVec.ofNat 32 x.val) 0#32))
                (BitVec.setWidth 32 (IntOp.cmpi CmpIPredicate.slt (BitVec.ofNat 32 x.val) 0#32)))
              (Scalar.subi (Scalar.extui (Scalar.cmpi CmpIPredicate.sgt 64#32 0#32)) (Scalar.extui (Scalar.cmpi CmpIPredicate.slt 64#32 0#32))))
            (IntOp.cmpi CmpIPredicate.ne (IntOp.remsi ArithUnit.vector (BitVec.ofNat 32 x.val) 64#32) 0#32))
          (IntOp.subi (IntOp.divsi ArithUnit.vector (BitVec.ofNat 32 x.val) 64#32) 1#32)
          (IntOp.divsi ArithUnit.vector (BitVec.ofNat 32 x.val) 64#32) = BitVec.ofNat 32 (x.val / 64) := by decide +kernel
  exact h x

theorem sel_half (x : Fin 128) (p : Fin 2) (A : EReal) :
    Scalar.select (IntOp.cmpi CmpIPredicate.eq (BitVec.ofNat 32 (x.val / 64)) (BitVec.ofNat 32 p.val)) A 0 = if x.val / 64 = p.val then A else 0 := by
  have h : ∀ (y p : Fin 2), IntOp.cmpi CmpIPredicate.eq (BitVec.ofNat 32 y.val) (BitVec.ofNat 32 p.val) = if y.val = p.val then 1#1 else 0#1 := by decide
  have hx := h ⟨x.val / 64, by omega⟩ p
  rw [show (BitVec.ofNat 32 (x.val / 64)) = BitVec.ofNat 32 ((⟨x.val / 64, by omega⟩ : Fin 2).val) from rfl, hx]
  by_cases hp : x.val / 64 = p.val
  · rw [if_pos hp, if_pos hp]; rfl
  · rw [if_neg hp, if_neg hp]; rfl

theorem dlB_at (X4 X5 : Vec Ideal S1x512x256 .bf16) (h : Fin 4) (r : Fin 512) :
    (dlB X4 X5 h (ix2 0 r) : EReal) = ∑ x : Fin 128, if x.val / 64 = h.val % 2 then (X4 (ix3 0 r ⟨128 * (h.val / 2) + x.val, by omega⟩) : EReal) * X5 (ix3 0 r ⟨128 * (h.val / 2) + x.val, by omega⟩) else 0 := by
  fin_cases h <;> simp only [dlB, Fin.zero_eta, Fin.mk_one, Fin.reduceFinMk, Matrix.cons_val] <;> pointwise [k0_pay58, k0_pay55, k0_pay54, k0_pay56, k0_pay66, k0_pay61, k0_pay60, k0_pay62, k0_pay63, k0_pay64, k0_pay73, k0_pay69, k0_pay68, k0_pay70, k0_pay71, k0_pay79, k0_pay76, k0_pay75, k0_pay77]
  all_goals refine Finset.sum_congr rfl fun x _ => ?_
  all_goals rw [lane_half x]
  · exact sel_half x 0 _
  · exact sel_half x 1 _
  · exact sel_half x 0 _
  · exact sel_half x 1 _

end Cert.Kernel3Ideal.Attn
end
-- ==== Proof.AttnPay.lean ====
module

public import proofs.«01_k».proof.Proof.Gen.Kernel3Ideal.Frame
public import Idealize.ShloMosaic.Lib.Pipeline.ValueKit
public import Idealize.ShloMosaic.Lib.Claim
public import proofs.«01_k».proof.Proof.AttnBlk
public import Idealize.ShloMosaic.Lib.WholeRead
public import Idealize.ShloMosaic.Lib.WritesUnit

@[expose] public section
set_option maxRecDepth 16384
noncomputable section
open Idealize.ShloMosaic Idealize.ShloMosaic.TcCoe Idealize.SL.Sem
open Idealize.ShloMosaic.Pipeline (Dat)
namespace Cert.Kernel3Ideal.Attn
open Cert.Kernel3Ideal Cert.Kernel3Ideal.Gen

/-! What the diagonal tile adds, head by head. -/

/-- The weight of key `a` of the diagonal tile for query `r`. -/
def wt (kt : Vec Ideal S1x1x512x128 .bf16) (q : FVec Ideal S512x128 .bf16) (ls : FVec Ideal S1x512 .f32) (a r : Fin 512) : EReal :=
  if a.val / 64 ≤ r.val / 64 then Ideal.exp2 ((∑ x : Fin 128, (kt (ix4 0 0 a x) : EReal) * (q (ix2 r x) : EReal)) - (ls (ix2 0 r) : EReal)) else 0

def dt (vt : Vec Ideal S1x1x512x128 .bf16) (dy : FVec Ideal S512x128 .bf16) (dl : FVec Ideal S1x512 .f32) (a r : Fin 512) : EReal :=
  (∑ x : Fin 128, (vt (ix4 0 0 a x) : EReal) * (dy (ix2 r x) : EReal)) - (dl (ix2 0 r) : EReal)

theorem sel_mask (MK : IVec S512x512 1) (hM : ∀ a r : Fin 512, MK (ix2 a r) = 1#1 ↔ a.val / 64 ≤ r.val / 64) (a r : Fin 512) (A : EReal) :
    Scalar.select (MK (ix2 a r)) A 0 = if a.val / 64 ≤ r.val / 64 then A else 0 := by
  by_cases h : a.val / 64 ≤ r.val / 64
  · rw [if_pos h, (hM a r).2 h]; rfl
  · rw [if_neg h]
    exact if_neg fun e => h ((hM a r).1 e)

section
variable (MK : IVec S512x512 1) (hM : ∀ a r : Fin 512, MK (ix2 a r) = 1#1 ↔ a.val / 64 ≤ r.val / 64) (Q DO : Fin 4 → FVec Ideal S512x128 .bf16) (LS DL : Fin 4 → FVec Ideal S1x512 .f32) (kt vt : Vec Ideal S1x1x512x128 .bf16) (cur : Vec Ideal S1x512x128 .f32)
  (dq : FVec Ideal S128x512 .f32) (ktT : Vec Ideal S1x1x1x128x512 .bf16)

include hM in
theorem pay14_0 (a : Fin 512) (d : Fin 128) : (k0_pay90 MK (DO 0) (Q 0) (LS 0) kt cur : FVec Ideal S1x512x128 .f32) (ix3 0 a d)
    = (cur (ix3 0 a d) : EReal) + ∑ r : Fin 512, wt kt (Q 0) (LS 0) a r * (DO 0 (ix2 r d) : EReal) := by
  pointwise [k0_pay1, k0_pay2, k0_pay3, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
  simp only [wt, dt, sel_mask MK hM, ite_mul, mul_ite, zero_mul, mul_zero]
  rfl

include hM in
theorem pay13_0 (a : Fin 512) (d : Fin 128) : (k0_pay92 (Q 0) (k0_pay91 MK (DO 0) (Q 0) (DL 0) (LS 0) kt vt) cur : FVec Ideal S1x512x128 .f32) (ix3 0 a d)
    = (cur (ix3 0 a d) : EReal) + ∑ r : Fin 512, wt kt (Q 0) (LS 0) a r * dt vt (DO 0) (DL 0) a r * (Q 0 (ix2 r d) : EReal) := by
  pointwise [k0_pay1, k0_pay2, k0_pay3, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
  simp only [wt, dt, sel_mask MK hM, ite_mul, mul_ite, zero_mul, mul_zero]
  rfl

include hM in
theorem payQ_0 (r : Fin 512) (x : Fin 128) : (k0_pay112 (k0_pay93 dq (k0_pay91 MK (DO 0) (Q 0) (DL 0) (LS 0) kt vt) ktT) : FVec Ideal S1x1x512x128 .bf16) (ix4 0 0 r x)
    = (dq (ix2 x r) : EReal) + ∑ a : Fin 512, (ktT (ix5 0 0 0 x a) : EReal) * (wt kt (Q 0) (LS 0) a r * dt vt (DO 0) (DL 0) a r) := by
  pointwise [k0_pay1, k0_pay2, k0_pay3, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
  simp only [wt, dt, sel_mask MK hM, ite_mul, mul_ite, zero_mul, mul_zero]
  rfl

include hM in
theorem pay14_1 (a : Fin 512) (d : Fin 128) : (k0_pay95 MK (DO 1) (Q 1) (LS 1) kt cur : FVec Ideal S1x512x128 .f32) (ix3 0 a d)
    = (cur (ix3 0 a d) : EReal) + ∑ r : Fin 512, wt kt (Q 1) (LS 1) a r * (DO 1 (ix2 r d) : EReal) := by
  pointwise [k0_pay1, k0_pay2, k0_pay3, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
  simp only [wt, dt, sel_mask MK hM, ite_mul, mul_ite, zero_mul, mul_zero]
  rfl

include hM in
theorem pay13_1 (a : Fin 512) (d : Fin 128) : (k0_pay98 (DO 1) (Q 1) (DL 1) (k0_pay94 MK (Q 1) (LS 1) kt) (k0_pay96 vt) cur : FVec Ideal S1x512x128 .f32) (ix3 0 a d)
    = (cur (ix3 0 a d) : EReal) + ∑ r : Fin 512, wt kt (Q 1) (LS 1) a r * dt vt (DO 1) (DL 1) a r * (Q 1 (ix2 r d) : EReal) := by
  pointwise [k0_pay1, k0_pay2, k0_pay3, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
  simp only [wt, dt, sel_mask MK hM, ite_mul, mul_ite, zero_mul, mul_zero]
  rfl

include hM in
theorem payQ_1 (r : Fin 512) (x : Fin 128) : (k0_pay1 (k0_pay113 (k0_pay99 (DO 1) (DL 1) dq (k0_pay94 MK (Q 1) (LS 1) kt) (k0_pay96 vt) ktT)) : FVec Ideal S1x1x512x128 .bf16) (ix4 0 0 r x)
    = (dq (ix2 x r) : EReal) + ∑ a : Fin 512, (ktT (ix5 0 0 0 x a) : EReal) * (wt kt (Q 1) (LS 1) a r * dt vt (DO 1) (DL 1) a r) := by
  pointwise [k0_pay1, k0_pay2, k0_pay3, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
  simp only [wt, dt, sel_mask MK hM, ite_mul, mul_ite, zero_mul, mul_zero]
  rfl

include hM in
theorem pay14_2 (a : Fin 512) (d : Fin 128) : (k0_pay101 MK (DO 2) (Q 2) (LS 2) kt cur : FVec Ideal S1x512x128 .f32) (ix3 0 a d)
    = (cur (ix3 0 a d) : EReal) + ∑ r : Fin 512, wt kt (Q 2) (LS 2) a r * (DO 2 (ix2 r d) : EReal) := by
  pointwise [k0_pay1, k0_pay2, k0_pay3, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
  simp only [wt, dt, sel_mask MK hM, ite_mul, mul_ite, zero_mul, mul_zero]
  rfl

include hM in
theorem pay13_2 (a : Fin 512) (d : Fin 128) : (k0_pay103 (DO 2) (Q 2) (DL 2) (k0_pay100 MK (Q 2) (LS 2) kt) vt cur : FVec Ideal S1x512x128 .f32) (ix3 0 a d)
    = (cur (ix3 0 a d) : EReal) + ∑ r : Fin 512, wt kt (Q 2) (LS 2) a r * dt vt (DO 2) (DL 2) a r * (Q 2 (ix2 r d) : EReal) := by
  pointwise [k0_pay1, k0_pay2, k0_pay3, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
  simp only [wt, dt, sel_mask MK hM, ite_mul, mul_ite, zero_mul, mul_zero]
  rfl

include hM in
theorem payQ_2 (r : Fin 512) (x : Fin 128) : (k0_pay2 (k0_pay104 (DO 2) (DL 2) dq (k0_pay100 MK (Q 2) (LS 2) kt) vt ktT) : FVec Ideal S1x1x512x128 .bf16) (ix4 0 0 r x)
    = (dq (ix2 x r) : EReal) + ∑ a : Fin 512, (ktT (ix5 0 0 0 x a) : EReal) * (wt kt (Q 2) (LS 2) a r * dt vt (DO 2) (DL 2) a r) := by
  pointwise [k0_pay1, k0_pay2, k0_pay3, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
  simp only [wt, dt, sel_mask MK hM, ite_mul, mul_ite, zero_mul, mul_zero]
  rfl

include hM in
theorem pay14_3 (a : Fin 512) (d : Fin 128) : (k0_pay108 (k0_pay106 cur) (k0_pay107 MK (DO 3) (Q 3) (LS 3) kt) : FVec Ideal S1x512x128 .f32) (ix3 0 a d)
    = (cur (ix3 0 a d) : EReal) + ∑ r : Fin 512, wt kt (Q 3) (LS 3) a r * (DO 3 (ix2 r d) : EReal) := by
  pointwise [k0_pay1, k0_pay2, k0_pay3, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
  simp only [wt, dt, sel_mask MK hM, ite_mul, mul_ite, zero_mul, mul_zero]
  rfl

include hM in
theorem pay13_3 (a : Fin 512) (d : Fin 128) : (k0_pay110 (DO 3) (Q 3) (DL 3) (k0_pay105 MK (Q 3) (LS 3) kt) vt cur : FVec Ideal S1x512x128 .f32) (ix3 0 a d)
    = (cur (ix3 0 a d) : EReal) + ∑ r : Fin 512, wt kt (Q 3) (LS 3) a r * dt vt (DO 3) (DL 3) a r * (Q 3 (ix2 r d) : EReal) := by
  pointwise [k0_pay1, k0_pay2, k0_pay3, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
  simp only [wt, dt, sel_mask MK hM, ite_mul, mul_ite, zero_mul, mul_zero]
  rfl

include hM in
theorem payQ_3 (r : Fin 512) (x : Fin 128) : (k0_pay3 (k0_pay111 (DO 3) (DL 3) dq (k0_pay105 MK (Q 3) (LS 3) kt) vt ktT) : FVec Ideal S1x1x512x128 .bf16) (ix4 0 0 r x)
    = (dq (ix2 x r) : EReal) + ∑ a : Fin 512, (ktT (ix5 0 0 0 x a) : EReal) * (wt kt (Q 3) (LS 3) a r * dt vt (DO 3) (DL 3) a r) := by
  pointwise [k0_pay1, k0_pay2, k0_pay3, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
  simp only [wt, dt, sel_mask MK hM, ite_mul, mul_ite, zero_mul, mul_zero]
  rfl
end

end Cert.Kernel3Ideal.Attn
end
-- ==== Proof.AttnFin.lean ====
module

public import proofs.«01_k».proof.Proof.Gen.Kernel3Ideal.Frame
public import Idealize.ShloMosaic.Lib.Pipeline.ValueKit
public import Idealize.ShloMosaic.Lib.Claim
public import proofs.«01_k».proof.Proof.AttnPay
public import Idealize.ShloMosaic.Lib.WholeRead
public import Idealize.ShloMosaic.Lib.WritesUnit

@[expose] public section
set_option maxRecDepth 16384
noncomputable section
open Idealize.ShloMosaic Idealize.ShloMosaic.TcCoe Idealize.SL.Sem
open Idealize.ShloMosaic.Pipeline (Dat)
namespace Cert.Kernel3Ideal.Attn
open Cert.Kernel3Ideal Cert.Kernel3Ideal.Gen

/-! The diagonal tile: what it leaves in the accumulators of the key side. -/

theorem off_q (q : Fin 4) : (Scalar.indexCast (Scalar.muli (BitVec.ofNat 32 q.val) 512#32)).toNat = 512 * q.val := by
  fin_cases q <;> decide
theorem off_q1 (q : Fin 4) : (Scalar.indexCast (BitVec.ofNat 32 q.val)).toNat = q.val := by
  fin_cases q <;> decide
section
variable (i : grid0.Coords)
theorem o25 : k0_off25 i = ![0, 0, 512 * (i 2).val, 0] := by
  unfold k0_off25; dsimp only; rw [off_q (i 2)]
theorem o26 : k0_off26 i = ![0, 512 * (i 2).val, 0] := by
  unfold k0_off26; dsimp only; rw [off_q (i 2)]
theorem o27 : k0_off27 i = ![0, 0, (i 2).val, 0, 0] := by
  unfold k0_off27; dsimp only; rw [off_q1 (i 2)]
theorem o28 : k0_off28 i = ![0, 1, 512 * (i 2).val, 0] := by
  unfold k0_off28; dsimp only; rw [off_q (i 2)]
theorem o29 : k0_off29 i = ![1, 512 * (i 2).val, 0] := by
  unfold k0_off29; dsimp only; rw [off_q (i 2)]
theorem o30 : k0_off30 i = ![0, 1, (i 2).val, 0, 0] := by
  unfold k0_off30; dsimp only; rw [off_q1 (i 2)]
theorem o31 : k0_off31 i = ![0, 2, 512 * (i 2).val, 0] := by
  unfold k0_off31; dsimp only; rw [off_q (i 2)]
theorem o32 : k0_off32 i = ![2, 512 * (i 2).val, 0] := by
  unfold k0_off32; dsimp only; rw [off_q (i 2)]
theorem o33 : k0_off33 i = ![0, 2, (i 2).val, 0, 0] := by
  unfold k0_off33; dsimp only; rw [off_q1 (i 2)]
theorem o34 : k0_off34 i = ![0, 3, 512 * (i 2).val, 0] := by
  unfold k0_off34; dsimp only; rw [off_q (i 2)]
theorem o35 : k0_off35 i = ![3, 512 * (i 2).val, 0] := by
  unfold k0_off35; dsimp only; rw [off_q (i 2)]
theorem o36 : k0_off36 i = ![0, 3, (i 2).val, 0, 0] := by
  unfold k0_off36; dsimp only; rw [off_q1 (i 2)]
end

theorem ld4 (X : Vec Ideal S1x4x2048x128 .bf16) (off : Fin 4 → ℕ) (o : ℕ) (h : Fin 4)
    (inb : ∀ a, off a + (![1, 1, 512, 128] : Fin 4 → ℕ) a ≤ S1x4x2048x128.size a) (e : off = ![0, h.val, o, 0]) (a : Fin 512) (x : Fin 128) (hk : o + a.val < 2048) :
    View.ld X (Rect.unit (s := S1x4x2048x128) off ![1, 1, 512, 128] inb) (ix4 0 0 a x : S1x1x512x128.Idx) = X (ix4 0 h ⟨o + a.val, hk⟩ x) := by
  subst e
  refine congrArg X (funext fun b => Fin.ext ?_)
  fin_cases b <;> simp [Rect.toLoadRect, Rect.unit, LoadRect.idx, ix4]

theorem ld3 (X : Vec Ideal S4x2048x128 .f32) (off : Fin 3 → ℕ) (o : ℕ) (h : Fin 4)
    (inb : ∀ a, off a + (![1, 512, 128] : Fin 3 → ℕ) a ≤ S4x2048x128.size a) (e : off = ![h.val, o, 0]) (a : Fin 512) (x : Fin 128) (hk : o + a.val < 2048) :
    View.ld X (Rect.unit (s := S4x2048x128) off ![1, 512, 128] inb) (ix3 0 a x : S1x512x128.Idx) = X (ix3 h ⟨o + a.val, hk⟩ x) := by
  subst e
  refine congrArg X (funext fun b => Fin.ext ?_)
  fin_cases b <;> simp [Rect.toLoadRect, Rect.unit, LoadRect.idx, ix3]

theorem ld5 (X : Vec Ideal S1x4x4x128x512 .bf16) (off : Fin 5 → ℕ) (o : Fin 4) (h : Fin 4)
    (inb : ∀ a, off a + (![1, 1, 1, 128, 512] : Fin 5 → ℕ) a ≤ S1x4x4x128x512.size a) (e : off = ![0, h.val, o.val, 0, 0]) (x : Fin 128) (a : Fin 512) :
    View.ld X (Rect.unit (s := S1x4x4x128x512) off ![1, 1, 1, 128, 512] inb) (ix5 0 0 0 x a : S1x1x1x128x512.Idx) = X (ix5 0 h o x a) := by
  subst e
  refine congrArg X (funext fun b => Fin.ext ?_)
  fin_cases b <;> simp [Rect.toLoadRect, Rect.unit, LoadRect.idx, ix5]

/-- The weight of a key for a query under the causal mask: the queries are those of tile `n`. -/
def pm (K : Vec Ideal S1x4x2048x128 .bf16) (q : FVec Ideal S512x128 .bf16) (ls : FVec Ideal S1x512 .f32) (h : Fin 4) (n : ℕ) (row : Fin 2048) (r : Fin 512) : EReal :=
  if row.val / 64 ≤ (512 * n + r.val) / 64 then pw K q ls h row r else 0

theorem wt_eq (K : Vec Ideal S1x4x2048x128 .bf16) (q : FVec Ideal S512x128 .bf16) (ls : FVec Ideal S1x512 .f32) (h : Fin 4) {off : Fin 4 → ℕ} {o : ℕ} (e : off = ![0, h.val, o, 0]) (n : ℕ) (hn : o = 512 * n)
    {inb : ∀ a, off a + (![1, 1, 512, 128] : Fin 4 → ℕ) a ≤ S1x4x2048x128.size a} (a r : Fin 512) (hk : o + a.val < 2048) :
    wt (View.ld K (Rect.unit (s := S1x4x2048x128) off ![1, 1, 512, 128] inb)) q ls a r = pm K q ls h n ⟨o + a.val, hk⟩ r := by
  unfold wt pm pw
  simp only [ld4 K off o h inb e a _ hk]
  subst hn
  exact if_congr (by constructor <;> intro h <;> omega) rfl rfl

theorem dt_eq (VV : Vec Ideal S1x4x2048x128 .bf16) (q : FVec Ideal S512x128 .bf16) (ls : FVec Ideal S1x512 .f32) (h : Fin 4) {off : Fin 4 → ℕ} {o : ℕ} (e : off = ![0, h.val, o, 0]) (n : ℕ) (hn : o = 512 * n)
    {inb : ∀ a, off a + (![1, 1, 512, 128] : Fin 4 → ℕ) a ≤ S1x4x2048x128.size a} (a r : Fin 512) (hk : o + a.val < 2048) :
    dt (View.ld VV (Rect.unit (s := S1x4x2048x128) off ![1, 1, 512, 128] inb)) q ls a r = dpw VV q ls h ⟨o + a.val, hk⟩ r := by
  unfold dt dpw
  simp only [ld4 VV off o h inb e a _ hk]

section
variable (i : grid0.Coords) (MK : IVec S512x512 1) (hM : ∀ a r : Fin 512, MK (ix2 a r) = 1#1 ↔ a.val / 64 ≤ r.val / 64) (Q DO : Fin 4 → FVec Ideal S512x128 .bf16) (LS DL : Fin 4 → FVec Ideal S1x512 .f32) (K VV : Vec Ideal S1x4x2048x128 .bf16)
  (f : Vec Ideal S4x2048x128 .f32) (L : List (View.Piece (Elt Ideal) S4x2048x128 .f32))
  (j0 : ∀ a, k0_off26 i a + (![1, 512, 128] : Fin 3 → ℕ) a ≤ S4x2048x128.size a) (u0 : ∀ a, k0_off25 i a + (![1, 1, 512, 128] : Fin 4 → ℕ) a ≤ S1x4x2048x128.size a) (j1 : ∀ a, k0_off29 i a + (![1, 512, 128] : Fin 3 → ℕ) a ≤ S4x2048x128.size a) (u1 : ∀ a, k0_off28 i a + (![1, 1, 512, 128] : Fin 4 → ℕ) a ≤ S1x4x2048x128.size a) (j2 : ∀ a, k0_off32 i a + (![1, 512, 128] : Fin 3 → ℕ) a ≤ S4x2048x128.size a) (u2 : ∀ a, k0_off31 i a + (![1, 1, 512, 128] : Fin 4 → ℕ) a ≤ S1x4x2048x128.size a) (j3 : ∀ a, k0_off35 i a + (![1, 512, 128] : Fin 3 → ℕ) a ≤ S4x2048x128.size a) (u3 : ∀ a, k0_off34 i a + (![1, 1, 512, 128] : Fin 4 → ℕ) a ≤ S1x4x2048x128.size a)
set_option maxHeartbeats 1000000 in
include hM in
theorem fin14 (h : Fin 4) (row : Fin 2048) (d : Fin 128) (b : EReal) (hb : View.read (Elt Ideal) (View.whole cc0_scratch1) ((View.whole cc0_scratch1).writes (Elt Ideal) f L) (ix3 h row d) = b) :
    View.read (Elt Ideal) (View.whole cc0_scratch1) ((View.whole cc0_scratch1).writes (Elt Ideal) f ((⟨(Rect.unit (s := S4x2048x128) (k0_off35 i) ![1, 512, 128] (j3)), k0_pay108 (k0_pay106 (View.ld (View.read (Elt Ideal) (View.whole cc0_scratch1) ((View.whole cc0_scratch1).writes (Elt Ideal) f ((⟨(Rect.unit (s := S4x2048x128) (k0_off32 i) ![1, 512, 128] (j2)), k0_pay101 MK (DO 2) (Q 2) (LS 2) (View.ld K (Rect.unit (s := S1x4x2048x128) (k0_off31 i) ![1, 1, 512, 128] (u2))) (View.ld (View.read (Elt Ideal) (View.whole cc0_scratch1) ((View.whole cc0_scratch1).writes (Elt Ideal) f ((⟨(Rect.unit (s := S4x2048x128) (k0_off29 i) ![1, 512, 128] (j1)), k0_pay95 MK (DO 1) (Q 1) (LS 1) (View.ld K (Rect.unit (s := S1x4x2048x128) (k0_off28 i) ![1, 1, 512, 128] (u1))) (View.ld (View.read (Elt Ideal) (View.whole cc0_scratch1) ((View.whole cc0_scratch1).writes (Elt Ideal) f ((⟨(Rect.unit (s := S4x2048x128) (k0_off26 i) ![1, 512, 128] (j0)), k0_pay90 MK (DO 0) (Q 0) (LS 0) (View.ld K (Rect.unit (s := S1x4x2048x128) (k0_off25 i) ![1, 1, 512, 128] (u0))) (View.ld (View.read (Elt Ideal) (View.whole cc0_scratch1) ((View.whole cc0_scratch1).writes (Elt Ideal) f (L))) (Rect.unit (s := S4x2048x128) (k0_off26 i) ![1, 512, 128] (j0)))⟩ : View.Piece (Elt Ideal) S4x2048x128 .f32) :: (L)))) (Rect.unit (s := S4x2048x128) (k0_off29 i) ![1, 512, 128] (j1)))⟩ : View.Piece (Elt Ideal) S4x2048x128 .f32) :: ((⟨(Rect.unit (s := S4x2048x128) (k0_off26 i) ![1, 512, 128] (j0)), k0_pay90 MK (DO 0) (Q 0) (LS 0) (View.ld K (Rect.unit (s := S1x4x2048x128) (k0_off25 i) ![1, 1, 512, 128] (u0))) (View.ld (View.read (Elt Ideal) (View.whole cc0_scratch1) ((View.whole cc0_scratch1).writes (Elt Ideal) f (L))) (Rect.unit (s := S4x2048x128) (k0_off26 i) ![1, 512, 128] (j0)))⟩ : View.Piece (Elt Ideal) S4x2048x128 .f32) :: (L))))) (Rect.unit (s := S4x2048x128) (k0_off32 i) ![1, 512, 128] (j2)))⟩ : View.Piece (Elt Ideal) S4x2048x128 .f32) :: ((⟨(Rect.unit (s := S4x2048x128) (k0_off29 i) ![1, 512, 128] (j1)), k0_pay95 MK (DO 1) (Q 1) (LS 1) (View.ld K (Rect.unit (s := S1x4x2048x128) (k0_off28 i) ![1, 1, 512, 128] (u1))) (View.ld (View.read (Elt Ideal) (View.whole cc0_scratch1) ((View.whole cc0_scratch1).writes (Elt Ideal) f ((⟨(Rect.unit (s := S4x2048x128) (k0_off26 i) ![1, 512, 128] (j0)), k0_pay90 MK (DO 0) (Q 0) (LS 0) (View.ld K (Rect.unit (s := S1x4x2048x128) (k0_off25 i) ![1, 1, 512, 128] (u0))) (View.ld (View.read (Elt Ideal) (View.whole cc0_scratch1) ((View.whole cc0_scratch1).writes (Elt Ideal) f (L))) (Rect.unit (s := S4x2048x128) (k0_off26 i) ![1, 512, 128] (j0)))⟩ : View.Piece (Elt Ideal) S4x2048x128 .f32) :: (L)))) (Rect.unit (s := S4x2048x128) (k0_off29 i) ![1, 512, 128] (j1)))⟩ : View.Piece (Elt Ideal) S4x2048x128 .f32) :: ((⟨(Rect.unit (s := S4x2048x128) (k0_off26 i) ![1, 512, 128] (j0)), k0_pay90 MK (DO 0) (Q 0) (LS 0) (View.ld K (Rect.unit (s := S1x4x2048x128) (k0_off25 i) ![1, 1, 512, 128] (u0))) (View.ld (View.read (Elt Ideal) (View.whole cc0_scratch1) ((View.whole cc0_scratch1).writes (Elt Ideal) f (L))) (Rect.unit (s := S4x2048x128) (k0_off26 i) ![1, 512, 128] (j0)))⟩ : View.Piece (Elt Ideal) S4x2048x128 .f32) :: (L)))))) (Rect.unit (s := S4x2048x128) (k0_off35 i) ![1, 512, 128] (j3)))) (k0_pay107 MK (DO 3) (Q 3) (LS 3) (View.ld K (Rect.unit (s := S1x4x2048x128) (k0_off34 i) ![1, 1, 512, 128] (u3))))⟩ : View.Piece (Elt Ideal) S4x2048x128 .f32) :: ((⟨(Rect.unit (s := S4x2048x128) (k0_off32 i) ![1, 512, 128] (j2)), k0_pay101 MK (DO 2) (Q 2) (LS 2) (View.ld K (Rect.unit (s := S1x4x2048x128) (k0_off31 i) ![1, 1, 512, 128] (u2))) (View.ld (View.read (Elt Ideal) (View.whole cc0_scratch1) ((View.whole cc0_scratch1).writes (Elt Ideal) f ((⟨(Rect.unit (s := S4x2048x128) (k0_off29 i) ![1, 512, 128] (j1)), k0_pay95 MK (DO 1) (Q 1) (LS 1) (View.ld K (Rect.unit (s := S1x4x2048x128) (k0_off28 i) ![1, 1, 512, 128] (u1))) (View.ld (View.read (Elt Ideal) (View.whole cc0_scratch1) ((View.whole cc0_scratch1).writes (Elt Ideal) f ((⟨(Rect.unit (s := S4x2048x128) (k0_off26 i) ![1, 512, 128] (j0)), k0_pay90 MK (DO 0) (Q 0) (LS 0) (View.ld K (Rect.unit (s := S1x4x2048x128) (k0_off25 i) ![1, 1, 512, 128] (u0))) (View.ld (View.read (Elt Ideal) (View.whole cc0_scratch1) ((View.whole cc0_scratch1).writes (Elt Ideal) f (L))) (Rect.unit (s := S4x2048x128) (k0_off26 i) ![1, 512, 128] (j0)))⟩ : View.Piece (Elt Ideal) S4x2048x128 .f32) :: (L)))) (Rect.unit (s := S4x2048x128) (k0_off29 i) ![1, 512, 128] (j1)))⟩ : View.Piece (Elt Ideal) S4x2048x128 .f32) :: ((⟨(Rect.unit (s := S4x2048x128) (k0_off26 i) ![1, 512, 128] (j0)), k0_pay90 MK (DO 0) (Q 0) (LS 0) (View.ld K (Rect.unit (s := S1x4x2048x128) (k0_off25 i) ![1, 1, 512, 128] (u0))) (View.ld (View.read (Elt Ideal) (View.whole cc0_scratch1) ((View.whole cc0_scratch1).writes (Elt Ideal) f (L))) (Rect.unit (s := S4x2048x128) (k0_off26 i) ![1, 512, 128] (j0)))⟩ : View.Piece (Elt Ideal) S4x2048x128 .f32) :: (L))))) (Rect.unit (s := S4x2048x128) (k0_off32 i) ![1, 512, 128] (j2)))⟩ : View.Piece (Elt Ideal) S4x2048x128 .f32) :: ((⟨(Rect.unit (s := S4x2048x128) (k0_off29 i) ![1, 512, 128] (j1)), k0_pay95 MK (DO 1) (Q 1) (LS 1) (View.ld K (Rect.unit (s := S1x4x2048x128) (k0_off28 i) ![1, 1, 512, 128] (u1))) (View.ld (View.read (Elt Ideal) (View.whole cc0_scratch1) ((View.whole cc0_scratch1).writes (Elt Ideal) f ((⟨(Rect.unit (s := S4x2048x128) (k0_off26 i) ![1, 512, 128] (j0)), k0_pay90 MK (DO 0) (Q 0) (LS 0) (View.ld K (Rect.unit (s := S1x4x2048x128) (k0_off25 i) ![1, 1, 512, 128] (u0))) (View.ld (View.read (Elt Ideal) (View.whole cc0_scratch1) ((View.whole cc0_scratch1).writes (Elt Ideal) f (L))) (Rect.unit (s := S4x2048x128) (k0_off26 i) ![1, 512, 128] (j0)))⟩ : View.Piece (Elt Ideal) S4x2048x128 .f32) :: (L)))) (Rect.unit (s := S4x2048x128) (k0_off29 i) ![1, 512, 128] (j1)))⟩ : View.Piece (Elt Ideal) S4x2048x128 .f32) :: ((⟨(Rect.unit (s := S4x2048x128) (k0_off26 i) ![1, 512, 128] (j0)), k0_pay90 MK (DO 0) (Q 0) (LS 0) (View.ld K (Rect.unit (s := S1x4x2048x128) (k0_off25 i) ![1, 1, 512, 128] (u0))) (View.ld (View.read (Elt Ideal) (View.whole cc0_scratch1) ((View.whole cc0_scratch1).writes (Elt Ideal) f (L))) (Rect.unit (s := S4x2048x128) (k0_off26 i) ![1, 512, 128] (j0)))⟩ : View.Piece (Elt Ideal) S4x2048x128 .f32) :: (L)))))) (ix3 h row d)
      = if 512 * (i 2).val ≤ row.val ∧ row.val < 512 * (i 2).val + 512 then b + ∑ r : Fin 512, pm K (Q h) (LS h) h (i 2).val row r * (DO h (ix2 r d) : EReal) else b := by
  by_cases hr : 512 * (i 2).val ≤ row.val ∧ row.val < 512 * (i 2).val + 512
  · rw [if_pos hr]
    obtain ⟨a, hk, rfl⟩ : ∃ a : Fin 512, ∃ hk : 512 * (i 2).val + a.val < 2048, row = ⟨512 * (i 2).val + a.val, hk⟩ :=
      ⟨⟨row.val - 512 * (i 2).val, by omega⟩, by simp only []; omega, Fin.ext (by simp only []; omega)⟩
    fin_cases h
    · rw [one (View.whole cc0_scratch1) f _ (512 * (i 2).val) 3 _ (o35 i), dif_neg (fun e => absurd e.1 (by decide))]; rw [one (View.whole cc0_scratch1) f _ (512 * (i 2).val) 2 _ (o32 i), dif_neg (fun e => absurd e.1 (by decide))]; rw [one (View.whole cc0_scratch1) f _ (512 * (i 2).val) 1 _ (o29 i), dif_neg (fun e => absurd e.1 (by decide))]; rw [one (View.whole cc0_scratch1) f _ (512 * (i 2).val) 0 _ (o26 i), dif_pos ⟨rfl, hr⟩]
      simp only [Nat.add_sub_cancel_left]
      refine (pay14_0 MK hM Q DO LS _ _ a d).trans ?_
      rw [ld3 _ _ _ 0 _ (o26 i) a d hk]

      refine congrArg₂ (· + ·) hb (Finset.sum_congr rfl fun r _ => ?_)
      rw [wt_eq K _ _ 0 (o25 i) (i 2).val rfl a r hk]

      rfl
    · rw [one (View.whole cc0_scratch1) f _ (512 * (i 2).val) 3 _ (o35 i), dif_neg (fun e => absurd e.1 (by decide))]; rw [one (View.whole cc0_scratch1) f _ (512 * (i 2).val) 2 _ (o32 i), dif_neg (fun e => absurd e.1 (by decide))]; rw [one (View.whole cc0_scratch1) f _ (512 * (i 2).val) 1 _ (o29 i), dif_pos ⟨rfl, hr⟩]
      simp only [Nat.add_sub_cancel_left]
      refine (pay14_1 MK hM Q DO LS _ _ a d).trans ?_
      rw [ld3 _ _ _ 1 _ (o29 i) a d hk]
      rw [one (View.whole cc0_scratch1) f _ (512 * (i 2).val) 0 _ (o26 i), dif_neg (fun e => absurd e.1 (by decide))];
      refine congrArg₂ (· + ·) hb (Finset.sum_congr rfl fun r _ => ?_)
      rw [wt_eq K _ _ 1 (o28 i) (i 2).val rfl a r hk]

      rfl
    · rw [one (View.whole cc0_scratch1) f _ (512 * (i 2).val) 3 _ (o35 i), dif_neg (fun e => absurd e.1 (by decide))]; rw [one (View.whole cc0_scratch1) f _ (512 * (i 2).val) 2 _ (o32 i), dif_pos ⟨rfl, hr⟩]
      simp only [Nat.add_sub_cancel_left]
      refine (pay14_2 MK hM Q DO LS _ _ a d).trans ?_
      rw [ld3 _ _ _ 2 _ (o32 i) a d hk]
      rw [one (View.whole cc0_scratch1) f _ (512 * (i 2).val) 1 _ (o29 i), dif_neg (fun e => absurd e.1 (by decide))]; rw [one (View.whole cc0_scratch1) f _ (512 * (i 2).val) 0 _ (o26 i), dif_neg (fun e => absurd e.1 (by decide))];
      refine congrArg₂ (· + ·) hb (Finset.sum_congr rfl fun r _ => ?_)
      rw [wt_eq K _ _ 2 (o31 i) (i 2).val rfl a r hk]

      rfl
    · rw [one (View.whole cc0_scratch1) f _ (512 * (i 2).val) 3 _ (o35 i), dif_pos ⟨rfl, hr⟩]
      simp only [Nat.add_sub_cancel_left]
      refine (pay14_3 MK hM Q DO LS _ _ a d).trans ?_
      rw [ld3 _ _ _ 3 _ (o35 i) a d hk]
      rw [one (View.whole cc0_scratch1) f _ (512 * (i 2).val) 2 _ (o32 i), dif_neg (fun e => absurd e.1 (by decide))]; rw [one (View.whole cc0_scratch1) f _ (512 * (i 2).val) 1 _ (o29 i), dif_neg (fun e => absurd e.1 (by decide))]; rw [one (View.whole cc0_scratch1) f _ (512 * (i 2).val) 0 _ (o26 i), dif_neg (fun e => absurd e.1 (by decide))];
      refine congrArg₂ (· + ·) hb (Finset.sum_congr rfl fun r _ => ?_)
      rw [wt_eq K _ _ 3 (o34 i) (i 2).val rfl a r hk]

      rfl
  · rw [if_neg hr]
    rw [one (View.whole cc0_scratch1) f _ (512 * (i 2).val) 3 _ (o35 i), dif_neg (fun e => hr e.2), one (View.whole cc0_scratch1) f _ (512 * (i 2).val) 2 _ (o32 i), dif_neg (fun e => hr e.2), one (View.whole cc0_scratch1) f _ (512 * (i 2).val) 1 _ (o29 i), dif_neg (fun e => hr e.2), one (View.whole cc0_scratch1) f _ (512 * (i 2).val) 0 _ (o26 i), dif_neg (fun e => hr e.2)]
    exact hb

set_option maxHeartbeats 1000000 in
include hM in
theorem fin13 (h : Fin 4) (row : Fin 2048) (d : Fin 128) (b : EReal) (hb : View.read (Elt Ideal) (View.whole cc0_scratch0) ((View.whole cc0_scratch0).writes (Elt Ideal) f L) (ix3 h row d) = b) :
    View.read (Elt Ideal) (View.whole cc0_scratch0) ((View.whole cc0_scratch0).writes (Elt Ideal) f ((⟨(Rect.unit (s := S4x2048x128) (k0_off35 i) ![1, 512, 128] (j3)), k0_pay110 (DO 3) (Q 3) (DL 3) (k0_pay105 MK (Q 3) (LS 3) (View.ld K (Rect.unit (s := S1x4x2048x128) (k0_off34 i) ![1, 1, 512, 128] (u3)))) (View.ld VV (Rect.unit (s := S1x4x2048x128) (k0_off34 i) ![1, 1, 512, 128] (u3))) (View.ld (View.read (Elt Ideal) (View.whole cc0_scratch0) ((View.whole cc0_scratch0).writes (Elt Ideal) f ((⟨(Rect.unit (s := S4x2048x128) (k0_off32 i) ![1, 512, 128] (j2)), k0_pay103 (DO 2) (Q 2) (DL 2) (k0_pay100 MK (Q 2) (LS 2) (View.ld K (Rect.unit (s := S1x4x2048x128) (k0_off31 i) ![1, 1, 512, 128] (u2)))) (View.ld VV (Rect.unit (s := S1x4x2048x128) (k0_off31 i) ![1, 1, 512, 128] (u2))) (View.ld (View.read (Elt Ideal) (View.whole cc0_scratch0) ((View.whole cc0_scratch0).writes (Elt Ideal) f ((⟨(Rect.unit (s := S4x2048x128) (k0_off29 i) ![1, 512, 128] (j1)), k0_pay98 (DO 1) (Q 1) (DL 1) (k0_pay94 MK (Q 1) (LS 1) (View.ld K (Rect.unit (s := S1x4x2048x128) (k0_off28 i) ![1, 1, 512, 128] (u1)))) (k0_pay96 (View.ld VV (Rect.unit (s := S1x4x2048x128) (k0_off28 i) ![1, 1, 512, 128] (u1)))) (View.ld (View.read (Elt Ideal) (View.whole cc0_scratch0) ((View.whole cc0_scratch0).writes (Elt Ideal) f ((⟨(Rect.unit (s := S4x2048x128) (k0_off26 i) ![1, 512, 128] (j0)), k0_pay92 (Q 0) (k0_pay91 MK (DO 0) (Q 0) (DL 0) (LS 0) (View.ld K (Rect.unit (s := S1x4x2048x128) (k0_off25 i) ![1, 1, 512, 128] (u0))) (View.ld VV (Rect.unit (s := S1x4x2048x128) (k0_off25 i) ![1, 1, 512, 128] (u0)))) (View.ld (View.read (Elt Ideal) (View.whole cc0_scratch0) ((View.whole cc0_scratch0).writes (Elt Ideal) f (L))) (Rect.unit (s := S4x2048x128) (k0_off26 i) ![1, 512, 128] (j0)))⟩ : View.Piece (Elt Ideal) S4x2048x128 .f32) :: (L)))) (Rect.unit (s := S4x2048x128) (k0_off29 i) ![1, 512, 128] (j1)))⟩ : View.Piece (Elt Ideal) S4x2048x128 .f32) :: ((⟨(Rect.unit (s := S4x2048x128) (k0_off26 i) ![1, 512, 128] (j0)), k0_pay92 (Q 0) (k0_pay91 MK (DO 0) (Q 0) (DL 0) (LS 0) (View.ld K (Rect.unit (s := S1x4x2048x128) (k0_off25 i) ![1, 1, 512, 128] (u0))) (View.ld VV (Rect.unit (s := S1x4x2048x128) (k0_off25 i) ![1, 1, 512, 128] (u0)))) (View.ld (View.read (Elt Ideal) (View.whole cc0_scratch0) ((View.whole cc0_scratch0).writes (Elt Ideal) f (L))) (Rect.unit (s := S4x2048x128) (k0_off26 i) ![1, 512, 128] (j0)))⟩ : View.Piece (Elt Ideal) S4x2048x128 .f32) :: (L))))) (Rect.unit (s := S4x2048x128) (k0_off32 i) ![1, 512, 128] (j2)))⟩ : View.Piece (Elt Ideal) S4x2048x128 .f32) :: ((⟨(Rect.unit (s := S4x2048x128) (k0_off29 i) ![1, 512, 128] (j1)), k0_pay98 (DO 1) (Q 1) (DL 1) (k0_pay94 MK (Q 1) (LS 1) (View.ld K (Rect.unit (s := S1x4x2048x128) (k0_off28 i) ![1, 1, 512, 128] (u1)))) (k0_pay96 (View.ld VV (Rect.unit (s := S1x4x2048x128) (k0_off28 i) ![1, 1, 512, 128] (u1)))) (View.ld (View.read (Elt Ideal) (View.whole cc0_scratch0) ((View.whole cc0_scratch0).writes (Elt Ideal) f ((⟨(Rect.unit (s := S4x2048x128) (k0_off26 i) ![1, 512, 128] (j0)), k0_pay92 (Q 0) (k0_pay91 MK (DO 0) (Q 0) (DL 0) (LS 0) (View.ld K (Rect.unit (s := S1x4x2048x128) (k0_off25 i) ![1, 1, 512, 128] (u0))) (View.ld VV (Rect.unit (s := S1x4x2048x128) (k0_off25 i) ![1, 1, 512, 128] (u0)))) (View.ld (View.read (Elt Ideal) (View.whole cc0_scratch0) ((View.whole cc0_scratch0).writes (Elt Ideal) f (L))) (Rect.unit (s := S4x2048x128) (k0_off26 i) ![1, 512, 128] (j0)))⟩ : View.Piece (Elt Ideal) S4x2048x128 .f32) :: (L)))) (Rect.unit (s := S4x2048x128) (k0_off29 i) ![1, 512, 128] (j1)))⟩ : View.Piece (Elt Ideal) S4x2048x128 .f32) :: ((⟨(Rect.unit (s := S4x2048x128) (k0_off26 i) ![1, 512, 128] (j0)), k0_pay92 (Q 0) (k0_pay91 MK (DO 0) (Q 0) (DL 0) (LS 0) (View.ld K (Rect.unit (s := S1x4x2048x128) (k0_off25 i) ![1, 1, 512, 128] (u0))) (View.ld VV (Rect.unit (s := S1x4x2048x128) (k0_off25 i) ![1, 1, 512, 128] (u0)))) (View.ld (View.read (Elt Ideal) (View.whole cc0_scratch0) ((View.whole cc0_scratch0).writes (Elt Ideal) f (L))) (Rect.unit (s := S4x2048x128) (k0_off26 i) ![1, 512, 128] (j0)))⟩ : View.Piece (Elt Ideal) S4x2048x128 .f32) :: (L)))))) (Rect.unit (s := S4x2048x128) (k0_off35 i) ![1, 512, 128] (j3)))⟩ : View.Piece (Elt Ideal) S4x2048x128 .f32) :: ((⟨(Rect.unit (s := S4x2048x128) (k0_off32 i) ![1, 512, 128] (j2)), k0_pay103 (DO 2) (Q 2) (DL 2) (k0_pay100 MK (Q 2) (LS 2) (View.ld K (Rect.unit (s := S1x4x2048x128) (k0_off31 i) ![1, 1, 512, 128] (u2)))) (View.ld VV (Rect.unit (s := S1x4x2048x128) (k0_off31 i) ![1, 1, 512, 128] (u2))) (View.ld (View.read (Elt Ideal) (View.whole cc0_scratch0) ((View.whole cc0_scratch0).writes (Elt Ideal) f ((⟨(Rect.unit (s := S4x2048x128) (k0_off29 i) ![1, 512, 128] (j1)), k0_pay98 (DO 1) (Q 1) (DL 1) (k0_pay94 MK (Q 1) (LS 1) (View.ld K (Rect.unit (s := S1x4x2048x128) (k0_off28 i) ![1, 1, 512, 128] (u1)))) (k0_pay96 (View.ld VV (Rect.unit (s := S1x4x2048x128) (k0_off28 i) ![1, 1, 512, 128] (u1)))) (View.ld (View.read (Elt Ideal) (View.whole cc0_scratch0) ((View.whole cc0_scratch0).writes (Elt Ideal) f ((⟨(Rect.unit (s := S4x2048x128) (k0_off26 i) ![1, 512, 128] (j0)), k0_pay92 (Q 0) (k0_pay91 MK (DO 0) (Q 0) (DL 0) (LS 0) (View.ld K (Rect.unit (s := S1x4x2048x128) (k0_off25 i) ![1, 1, 512, 128] (u0))) (View.ld VV (Rect.unit (s := S1x4x2048x128) (k0_off25 i) ![1, 1, 512, 128] (u0)))) (View.ld (View.read (Elt Ideal) (View.whole cc0_scratch0) ((View.whole cc0_scratch0).writes (Elt Ideal) f (L))) (Rect.unit (s := S4x2048x128) (k0_off26 i) ![1, 512, 128] (j0)))⟩ : View.Piece (Elt Ideal) S4x2048x128 .f32) :: (L)))) (Rect.unit (s := S4x2048x128) (k0_off29 i) ![1, 512, 128] (j1)))⟩ : View.Piece (Elt Ideal) S4x2048x128 .f32) :: ((⟨(Rect.unit (s := S4x2048x128) (k0_off26 i) ![1, 512, 128] (j0)), k0_pay92 (Q 0) (k0_pay91 MK (DO 0) (Q 0) (DL 0) (LS 0) (View.ld K (Rect.unit (s := S1x4x2048x128) (k0_off25 i) ![1, 1, 512, 128] (u0))) (View.ld VV (Rect.unit (s := S1x4x2048x128) (k0_off25 i) ![1, 1, 512, 128] (u0)))) (View.ld (View.read (Elt Ideal) (View.whole cc0_scratch0) ((View.whole cc0_scratch0).writes (Elt Ideal) f (L))) (Rect.unit (s := S4x2048x128) (k0_off26 i) ![1, 512, 128] (j0)))⟩ : View.Piece (Elt Ideal) S4x2048x128 .f32) :: (L))))) (Rect.unit (s := S4x2048x128) (k0_off32 i) ![1, 512, 128] (j2)))⟩ : View.Piece (Elt Ideal) S4x2048x128 .f32) :: ((⟨(Rect.unit (s := S4x2048x128) (k0_off29 i) ![1, 512, 128] (j1)), k0_pay98 (DO 1) (Q 1) (DL 1) (k0_pay94 MK (Q 1) (LS 1) (View.ld K (Rect.unit (s := S1x4x2048x128) (k0_off28 i) ![1, 1, 512, 128] (u1)))) (k0_pay96 (View.ld VV (Rect.unit (s := S1x4x2048x128) (k0_off28 i) ![1, 1, 512, 128] (u1)))) (View.ld (View.read (Elt Ideal) (View.whole cc0_scratch0) ((View.whole cc0_scratch0).writes (Elt Ideal) f ((⟨(Rect.unit (s := S4x2048x128) (k0_off26 i) ![1, 512, 128] (j0)), k0_pay92 (Q 0) (k0_pay91 MK (DO 0) (Q 0) (DL 0) (LS 0) (View.ld K (Rect.unit (s := S1x4x2048x128) (k0_off25 i) ![1, 1, 512, 128] (u0))) (View.ld VV (Rect.unit (s := S1x4x2048x128) (k0_off25 i) ![1, 1, 512, 128] (u0)))) (View.ld (View.read (Elt Ideal) (View.whole cc0_scratch0) ((View.whole cc0_scratch0).writes (Elt Ideal) f (L))) (Rect.unit (s := S4x2048x128) (k0_off26 i) ![1, 512, 128] (j0)))⟩ : View.Piece (Elt Ideal) S4x2048x128 .f32) :: (L)))) (Rect.unit (s := S4x2048x128) (k0_off29 i) ![1, 512, 128] (j1)))⟩ : View.Piece (Elt Ideal) S4x2048x128 .f32) :: ((⟨(Rect.unit (s := S4x2048x128) (k0_off26 i) ![1, 512, 128] (j0)), k0_pay92 (Q 0) (k0_pay91 MK (DO 0) (Q 0) (DL 0) (LS 0) (View.ld K (Rect.unit (s := S1x4x2048x128) (k0_off25 i) ![1, 1, 512, 128] (u0))) (View.ld VV (Rect.unit (s := S1x4x2048x128) (k0_off25 i) ![1, 1, 512, 128] (u0)))) (View.ld (View.read (Elt Ideal) (View.whole cc0_scratch0) ((View.whole cc0_scratch0).writes (Elt Ideal) f (L))) (Rect.unit (s := S4x2048x128) (k0_off26 i) ![1, 512, 128] (j0)))⟩ : View.Piece (Elt Ideal) S4x2048x128 .f32) :: (L)))))) (ix3 h row d)
      = if 512 * (i 2).val ≤ row.val ∧ row.val < 512 * (i 2).val + 512 then b + ∑ r : Fin 512, pm K (Q h) (LS h) h (i 2).val row r * dpw VV (DO h) (DL h) h row r * (Q h (ix2 r d) : EReal) else b := by
  by_cases hr : 512 * (i 2).val ≤ row.val ∧ row.val < 512 * (i 2).val + 512
  · rw [if_pos hr]
    obtain ⟨a, hk, rfl⟩ : ∃ a : Fin 512, ∃ hk : 512 * (i 2).val + a.val < 2048, row = ⟨512 * (i 2).val + a.val, hk⟩ :=
      ⟨⟨row.val - 512 * (i 2).val, by omega⟩, by simp only []; omega, Fin.ext (by simp only []; omega)⟩
    fin_cases h
    · rw [one (View.whole cc0_scratch0) f _ (512 * (i 2).val) 3 _ (o35 i), dif_neg (fun e => absurd e.1 (by decide))]; rw [one (View.whole cc0_scratch0) f _ (512 * (i 2).val) 2 _ (o32 i), dif_neg (fun e => absurd e.1 (by decide))]; rw [one (View.whole cc0_scratch0) f _ (512 * (i 2).val) 1 _ (o29 i), dif_neg (fun e => absurd e.1 (by decide))]; rw [one (View.whole cc0_scratch0) f _ (512 * (i 2).val) 0 _ (o26 i), dif_pos ⟨rfl, hr⟩]
      simp only [Nat.add_sub_cancel_left]
      refine (pay13_0 MK hM Q DO LS DL _ _ _ a d).trans ?_
      rw [ld3 _ _ _ 0 _ (o26 i) a d hk]

      refine congrArg₂ (· + ·) hb (Finset.sum_congr rfl fun r _ => ?_)
      rw [wt_eq K _ _ 0 (o25 i) (i 2).val rfl a r hk]
      rw [dt_eq VV _ _ 0 (o25 i) (i 2).val rfl a r hk]
      rfl
    · rw [one (View.whole cc0_scratch0) f _ (512 * (i 2).val) 3 _ (o35 i), dif_neg (fun e => absurd e.1 (by decide))]; rw [one (View.whole cc0_scratch0) f _ (512 * (i 2).val) 2 _ (o32 i), dif_neg (fun e => absurd e.1 (by decide))]; rw [one (View.whole cc0_scratch0) f _ (512 * (i 2).val) 1 _ (o29 i), dif_pos ⟨rfl, hr⟩]
      simp only [Nat.add_sub_cancel_left]
      refine (pay13_1 MK hM Q DO LS DL _ _ _ a d).trans ?_
      rw [ld3 _ _ _ 1 _ (o29 i) a d hk]
      rw [one (View.whole cc0_scratch0) f _ (512 * (i 2).val) 0 _ (o26 i), dif_neg (fun e => absurd e.1 (by decide))];
      refine congrArg₂ (· + ·) hb (Finset.sum_congr rfl fun r _ => ?_)
      rw [wt_eq K _ _ 1 (o28 i) (i 2).val rfl a r hk]
      rw [dt_eq VV _ _ 1 (o28 i) (i 2).val rfl a r hk]
      rfl
    · rw [one (View.whole cc0_scratch0) f _ (512 * (i 2).val) 3 _ (o35 i), dif_neg (fun e => absurd e.1 (by decide))]; rw [one (View.whole cc0_scratch0) f _ (512 * (i 2).val) 2 _ (o32 i), dif_pos ⟨rfl, hr⟩]
      simp only [Nat.add_sub_cancel_left]
      refine (pay13_2 MK hM Q DO LS DL _ _ _ a d).trans ?_
      rw [ld3 _ _ _ 2 _ (o32 i) a d hk]
      rw [one (View.whole cc0_scratch0) f _ (512 * (i 2).val) 1 _ (o29 i), dif_neg (fun e => absurd e.1 (by decide))]; rw [one (View.whole cc0_scratch0) f _ (512 * (i 2).val) 0 _ (o26 i), dif_neg (fun e => absurd e.1 (by decide))];
      refine congrArg₂ (· + ·) hb (Finset.sum_congr rfl fun r _ => ?_)
      rw [wt_eq K _ _ 2 (o31 i) (i 2).val rfl a r hk]
      rw [dt_eq VV _ _ 2 (o31 i) (i 2).val rfl a r hk]
      rfl
    · rw [one (View.whole cc0_scratch0) f _ (512 * (i 2).val) 3 _ (o35 i), dif_pos ⟨rfl, hr⟩]
      simp only [Nat.add_sub_cancel_left]
      refine (pay13_3 MK hM Q DO LS DL _ _ _ a d).trans ?_
      rw [ld3 _ _ _ 3 _ (o35 i) a d hk]
      rw [one (View.whole cc0_scratch0) f _ (512 * (i 2).val) 2 _ (o32 i), dif_neg (fun e => absurd e.1 (by decide))]; rw [one (View.whole cc0_scratch0) f _ (512 * (i 2).val) 1 _ (o29 i), dif_neg (fun e => absurd e.1 (by decide))]; rw [one (View.whole cc0_scratch0) f _ (512 * (i 2).val) 0 _ (o26 i), dif_neg (fun e => absurd e.1 (by decide))];
      refine congrArg₂ (· + ·) hb (Finset.sum_congr rfl fun r _ => ?_)
      rw [wt_eq K _ _ 3 (o34 i) (i 2).val rfl a r hk]
      rw [dt_eq VV _ _ 3 (o34 i) (i 2).val rfl a r hk]
      rfl
  · rw [if_neg hr]
    rw [one (View.whole cc0_scratch0) f _ (512 * (i 2).val) 3 _ (o35 i), dif_neg (fun e => hr e.2), one (View.whole cc0_scratch0) f _ (512 * (i 2).val) 2 _ (o32 i), dif_neg (fun e => hr e.2), one (View.whole cc0_scratch0) f _ (512 * (i 2).val) 1 _ (o29 i), dif_neg (fun e => hr e.2), one (View.whole cc0_scratch0) f _ (512 * (i 2).val) 0 _ (o26 i), dif_neg (fun e => hr e.2)]
    exact hb
end

end Cert.Kernel3Ideal.Attn
end
-- ==== Proof.AttnBoth.lean ====
module

public import proofs.«01_k».proof.Proof.Gen.Kernel3Ideal.Frame
public import Idealize.ShloMosaic.Lib.Pipeline.ValueKit
public import Idealize.ShloMosaic.Lib.Claim
public import proofs.«01_k».proof.Proof.AttnFin
public import Idealize.ShloMosaic.Lib.WholeRead
public import Idealize.ShloMosaic.Lib.WritesUnit

@[expose] public section
set_option maxRecDepth 16384
noncomputable section
open Idealize.ShloMosaic Idealize.ShloMosaic.TcCoe Idealize.SL.Sem
open Idealize.ShloMosaic.Pipeline (Dat)
namespace Cert.Kernel3Ideal.Attn
open Cert.Kernel3Ideal Cert.Kernel3Ideal.Gen

/-! All tiles of keys of one point of the grid. -/

variable (𝒱 : Variants) (c : Dev nD) (bd : Option 𝒱.V) (i : grid0.Coords) (arg3 : Memref sig .tc .vmem S1x4x512x128 .bf16) (harg3 : arg3.IsWhole) (arg4 : Memref sig .tc .vmem S1x4x2048x128 .bf16) (harg4 : arg4.IsWhole) (arg5 : Memref sig .tc .vmem S1x4x2048x128 .bf16) (harg5 : arg5.IsWhole) (arg6 : Memref sig .tc .vmem S1x4x4x128x512 .bf16) (harg6 : arg6.IsWhole) (arg7 : Memref sig .tc .vmem S1x512x256 .bf16) (harg7 : arg7.IsWhole) (arg8 : Memref sig .tc .vmem S1x512x256 .bf16) (harg8 : arg8.IsWhole) (arg9 : Memref sig .tc .vmem S1x4x8x512 .f32) (harg9 : arg9.IsWhole) (arg10 : Memref sig .tc .vmem S1x4x512x128 .bf16) (harg10 : arg10.IsWhole) (arg11 : Memref sig .tc .vmem S1x4x2048x128 .bf16) (harg11 : arg11.IsWhole) (arg12 : Memref sig .tc .vmem S1x4x2048x128 .bf16) (harg12 : arg12.IsWhole) (arg2 : BitVec 32)  (v239 : FVec Ideal S128x512 .f32) (v240 : FVec Ideal S128x512 .f32) (cst_105 : Ideal .f32) (hs13 : (scM0_0 : Memref sig .tc .vmem S4x2048x128 .f32).IsWhole) (hs14 : (scM0_1 : Memref sig .tc .vmem S4x2048x128 .f32).IsWhole)
  (K VV : Vec Ideal S1x4x2048x128 .bf16) (KT : Vec Ideal S1x4x4x128x512 .bf16) (Q DO : Fin 4 → FVec Ideal S512x128 .bf16) (LS DL : Fin 4 → FVec Ideal S1x512 .f32)
  (MK : IVec S512x512 1) (hM : ∀ a r : Fin 512, MK (ix2 a r) = 1#1 ↔ a.val / 64 ≤ r.val / 64) (G13 G14 : Vec Ideal S4x2048x128 .f32) (init : FVec Ideal S128x512 .f32 × FVec Ideal S128x512 .f32 × FVec Ideal S128x512 .f32 × FVec Ideal S128x512 .f32)
  (j0 : ∀ a, k0_off26 i a + (![1, 512, 128] : Fin 3 → ℕ) a ≤ S4x2048x128.size a) (u0 : ∀ a, k0_off25 i a + (![1, 1, 512, 128] : Fin 4 → ℕ) a ≤ S1x4x2048x128.size a) (j1 : ∀ a, k0_off29 i a + (![1, 512, 128] : Fin 3 → ℕ) a ≤ S4x2048x128.size a) (u1 : ∀ a, k0_off28 i a + (![1, 1, 512, 128] : Fin 4 → ℕ) a ≤ S1x4x2048x128.size a) (j2 : ∀ a, k0_off32 i a + (![1, 512, 128] : Fin 3 → ℕ) a ≤ S4x2048x128.size a) (u2 : ∀ a, k0_off31 i a + (![1, 1, 512, 128] : Fin 4 → ℕ) a ≤ S1x4x2048x128.size a) (j3 : ∀ a, k0_off35 i a + (![1, 512, 128] : Fin 3 → ℕ) a ≤ S4x2048x128.size a) (u3 : ∀ a, k0_off34 i a + (![1, 1, 512, 128] : Fin 4 → ℕ) a ≤ S1x4x2048x128.size a)
set_option maxHeartbeats 1000000 in
include hM in
theorem both14 (h : Fin 4) (row : Fin 2048) (d : Fin 128) :
    View.read (Elt Ideal) (View.whole cc0_scratch1) ((View.whole cc0_scratch1).writes (Elt Ideal) G14 ((⟨(Rect.unit (s := S4x2048x128) (k0_off35 i) ![1, 512, 128] (j3)), k0_pay108 (k0_pay106 (View.ld (View.read (Elt Ideal) (View.whole cc0_scratch1) ((View.whole cc0_scratch1).writes (Elt Ideal) G14 ((⟨(Rect.unit (s := S4x2048x128) (k0_off32 i) ![1, 512, 128] (j2)), k0_pay101 MK (DO 2) (Q 2) (LS 2) (View.ld K (Rect.unit (s := S1x4x2048x128) (k0_off31 i) ![1, 1, 512, 128] (u2))) (View.ld (View.read (Elt Ideal) (View.whole cc0_scratch1) ((View.whole cc0_scratch1).writes (Elt Ideal) G14 ((⟨(Rect.unit (s := S4x2048x128) (k0_off29 i) ![1, 512, 128] (j1)), k0_pay95 MK (DO 1) (Q 1) (LS 1) (View.ld K (Rect.unit (s := S1x4x2048x128) (k0_off28 i) ![1, 1, 512, 128] (u1))) (View.ld (View.read (Elt Ideal) (View.whole cc0_scratch1) ((View.whole cc0_scratch1).writes (Elt Ideal) G14 ((⟨(Rect.unit (s := S4x2048x128) (k0_off26 i) ![1, 512, 128] (j0)), k0_pay90 MK (DO 0) (Q 0) (LS 0) (View.ld K (Rect.unit (s := S1x4x2048x128) (k0_off25 i) ![1, 1, 512, 128] (u0))) (View.ld (View.read (Elt Ideal) (View.whole cc0_scratch1) ((View.whole cc0_scratch1).writes (Elt Ideal) G14 ((st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).2.2))) (Rect.unit (s := S4x2048x128) (k0_off26 i) ![1, 512, 128] (j0)))⟩ : View.Piece (Elt Ideal) S4x2048x128 .f32) :: ((st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).2.2)))) (Rect.unit (s := S4x2048x128) (k0_off29 i) ![1, 512, 128] (j1)))⟩ : View.Piece (Elt Ideal) S4x2048x128 .f32) :: ((⟨(Rect.unit (s := S4x2048x128) (k0_off26 i) ![1, 512, 128] (j0)), k0_pay90 MK (DO 0) (Q 0) (LS 0) (View.ld K (Rect.unit (s := S1x4x2048x128) (k0_off25 i) ![1, 1, 512, 128] (u0))) (View.ld (View.read (Elt Ideal) (View.whole cc0_scratch1) ((View.whole cc0_scratch1).writes (Elt Ideal) G14 ((st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).2.2))) (Rect.unit (s := S4x2048x128) (k0_off26 i) ![1, 512, 128] (j0)))⟩ : View.Piece (Elt Ideal) S4x2048x128 .f32) :: ((st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).2.2))))) (Rect.unit (s := S4x2048x128) (k0_off32 i) ![1, 512, 128] (j2)))⟩ : View.Piece (Elt Ideal) S4x2048x128 .f32) :: ((⟨(Rect.unit (s := S4x2048x128) (k0_off29 i) ![1, 512, 128] (j1)), k0_pay95 MK (DO 1) (Q 1) (LS 1) (View.ld K (Rect.unit (s := S1x4x2048x128) (k0_off28 i) ![1, 1, 512, 128] (u1))) (View.ld (View.read (Elt Ideal) (View.whole cc0_scratch1) ((View.whole cc0_scratch1).writes (Elt Ideal) G14 ((⟨(Rect.unit (s := S4x2048x128) (k0_off26 i) ![1, 512, 128] (j0)), k0_pay90 MK (DO 0) (Q 0) (LS 0) (View.ld K (Rect.unit (s := S1x4x2048x128) (k0_off25 i) ![1, 1, 512, 128] (u0))) (View.ld (View.read (Elt Ideal) (View.whole cc0_scratch1) ((View.whole cc0_scratch1).writes (Elt Ideal) G14 ((st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).2.2))) (Rect.unit (s := S4x2048x128) (k0_off26 i) ![1, 512, 128] (j0)))⟩ : View.Piece (Elt Ideal) S4x2048x128 .f32) :: ((st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).2.2)))) (Rect.unit (s := S4x2048x128) (k0_off29 i) ![1, 512, 128] (j1)))⟩ : View.Piece (Elt Ideal) S4x2048x128 .f32) :: ((⟨(Rect.unit (s := S4x2048x128) (k0_off26 i) ![1, 512, 128] (j0)), k0_pay90 MK (DO 0) (Q 0) (LS 0) (View.ld K (Rect.unit (s := S1x4x2048x128) (k0_off25 i) ![1, 1, 512, 128] (u0))) (View.ld (View.read (Elt Ideal) (View.whole cc0_scratch1) ((View.whole cc0_scratch1).writes (Elt Ideal) G14 ((st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).2.2))) (Rect.unit (s := S4x2048x128) (k0_off26 i) ![1, 512, 128] (j0)))⟩ : View.Piece (Elt Ideal) S4x2048x128 .f32) :: ((st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).2.2)))))) (Rect.unit (s := S4x2048x128) (k0_off35 i) ![1, 512, 128] (j3)))) (k0_pay107 MK (DO 3) (Q 3) (LS 3) (View.ld K (Rect.unit (s := S1x4x2048x128) (k0_off34 i) ![1, 1, 512, 128] (u3))))⟩ : View.Piece (Elt Ideal) S4x2048x128 .f32) :: ((⟨(Rect.unit (s := S4x2048x128) (k0_off32 i) ![1, 512, 128] (j2)), k0_pay101 MK (DO 2) (Q 2) (LS 2) (View.ld K (Rect.unit (s := S1x4x2048x128) (k0_off31 i) ![1, 1, 512, 128] (u2))) (View.ld (View.read (Elt Ideal) (View.whole cc0_scratch1) ((View.whole cc0_scratch1).writes (Elt Ideal) G14 ((⟨(Rect.unit (s := S4x2048x128) (k0_off29 i) ![1, 512, 128] (j1)), k0_pay95 MK (DO 1) (Q 1) (LS 1) (View.ld K (Rect.unit (s := S1x4x2048x128) (k0_off28 i) ![1, 1, 512, 128] (u1))) (View.ld (View.read (Elt Ideal) (View.whole cc0_scratch1) ((View.whole cc0_scratch1).writes (Elt Ideal) G14 ((⟨(Rect.unit (s := S4x2048x128) (k0_off26 i) ![1, 512, 128] (j0)), k0_pay90 MK (DO 0) (Q 0) (LS 0) (View.ld K (Rect.unit (s := S1x4x2048x128) (k0_off25 i) ![1, 1, 512, 128] (u0))) (View.ld (View.read (Elt Ideal) (View.whole cc0_scratch1) ((View.whole cc0_scratch1).writes (Elt Ideal) G14 ((st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).2.2))) (Rect.unit (s := S4x2048x128) (k0_off26 i) ![1, 512, 128] (j0)))⟩ : View.Piece (Elt Ideal) S4x2048x128 .f32) :: ((st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).2.2)))) (Rect.unit (s := S4x2048x128) (k0_off29 i) ![1, 512, 128] (j1)))⟩ : View.Piece (Elt Ideal) S4x2048x128 .f32) :: ((⟨(Rect.unit (s := S4x2048x128) (k0_off26 i) ![1, 512, 128] (j0)), k0_pay90 MK (DO 0) (Q 0) (LS 0) (View.ld K (Rect.unit (s := S1x4x2048x128) (k0_off25 i) ![1, 1, 512, 128] (u0))) (View.ld (View.read (Elt Ideal) (View.whole cc0_scratch1) ((View.whole cc0_scratch1).writes (Elt Ideal) G14 ((st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).2.2))) (Rect.unit (s := S4x2048x128) (k0_off26 i) ![1, 512, 128] (j0)))⟩ : View.Piece (Elt Ideal) S4x2048x128 .f32) :: ((st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).2.2))))) (Rect.unit (s := S4x2048x128) (k0_off32 i) ![1, 512, 128] (j2)))⟩ : View.Piece (Elt Ideal) S4x2048x128 .f32) :: ((⟨(Rect.unit (s := S4x2048x128) (k0_off29 i) ![1, 512, 128] (j1)), k0_pay95 MK (DO 1) (Q 1) (LS 1) (View.ld K (Rect.unit (s := S1x4x2048x128) (k0_off28 i) ![1, 1, 512, 128] (u1))) (View.ld (View.read (Elt Ideal) (View.whole cc0_scratch1) ((View.whole cc0_scratch1).writes (Elt Ideal) G14 ((⟨(Rect.unit (s := S4x2048x128) (k0_off26 i) ![1, 512, 128] (j0)), k0_pay90 MK (DO 0) (Q 0) (LS 0) (View.ld K (Rect.unit (s := S1x4x2048x128) (k0_off25 i) ![1, 1, 512, 128] (u0))) (View.ld (View.read (Elt Ideal) (View.whole cc0_scratch1) ((View.whole cc0_scratch1).writes (Elt Ideal) G14 ((st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).2.2))) (Rect.unit (s := S4x2048x128) (k0_off26 i) ![1, 512, 128] (j0)))⟩ : View.Piece (Elt Ideal) S4x2048x128 .f32) :: ((st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).2.2)))) (Rect.unit (s := S4x2048x128) (k0_off29 i) ![1, 512, 128] (j1)))⟩ : View.Piece (Elt Ideal) S4x2048x128 .f32) :: ((⟨(Rect.unit (s := S4x2048x128) (k0_off26 i) ![1, 512, 128] (j0)), k0_pay90 MK (DO 0) (Q 0) (LS 0) (View.ld K (Rect.unit (s := S1x4x2048x128) (k0_off25 i) ![1, 1, 512, 128] (u0))) (View.ld (View.read (Elt Ideal) (View.whole cc0_scratch1) ((View.whole cc0_scratch1).writes (Elt Ideal) G14 ((st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).2.2))) (Rect.unit (s := S4x2048x128) (k0_off26 i) ![1, 512, 128] (j0)))⟩ : View.Piece (Elt Ideal) S4x2048x128 .f32) :: ((st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).2.2)))))) (ix3 h row d)
      = (G14 (ix3 h row d) : EReal) + ∑ r : Fin 512, pm K (Q h) (LS h) h (i 2).val row r * (DO h (ix2 r d) : EReal) := by
  have hq : (k0_t1_loop i).trips = (i 2).val := trips_eq i
  refine (fin14 i MK hM Q DO LS K G14 (st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).2.2 j0 u0 j1 u1 j2 u2 j3 u3 h row d _ rfl).trans ?_
  have hl := loop14 𝒱 c bd i arg3 harg3 arg4 harg4 arg5 harg5 arg6 harg6 arg7 harg7 arg8 harg8 arg9 harg9 arg10 harg10 arg11 harg11 arg12 harg12 arg2 v239 v240 cst_105 hs13 hs14 K VV KT Q DO LS DL MK G13 G14 init _ le_rfl h row d
  rw [show View.read (Elt Ideal) (View.whole cc0_scratch1) ((View.whole cc0_scratch1).writes (Elt Ideal) G14 (st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).2.2) (ix3 h row d) = _ from hl]
  clear hl
  rw [hq]
  by_cases h1 : row.val < 512 * (i 2).val
  · rw [if_neg (by omega), if_pos h1]
    refine congrArg _ (Finset.sum_congr rfl fun r _ => ?_)
    rw [pm, if_pos (by omega)]
  · by_cases h2 : row.val < 512 * (i 2).val + 512
    · rw [if_pos (by omega), if_neg h1]
    · rw [if_neg (by omega), if_neg h1, Finset.sum_eq_zero, add_zero]
      intro r _
      rw [pm, if_neg (by omega), zero_mul]

set_option maxHeartbeats 1000000 in
include hM in
theorem both13 (h : Fin 4) (row : Fin 2048) (d : Fin 128) :
    View.read (Elt Ideal) (View.whole cc0_scratch0) ((View.whole cc0_scratch0).writes (Elt Ideal) G13 ((⟨(Rect.unit (s := S4x2048x128) (k0_off35 i) ![1, 512, 128] (j3)), k0_pay110 (DO 3) (Q 3) (DL 3) (k0_pay105 MK (Q 3) (LS 3) (View.ld K (Rect.unit (s := S1x4x2048x128) (k0_off34 i) ![1, 1, 512, 128] (u3)))) (View.ld VV (Rect.unit (s := S1x4x2048x128) (k0_off34 i) ![1, 1, 512, 128] (u3))) (View.ld (View.read (Elt Ideal) (View.whole cc0_scratch0) ((View.whole cc0_scratch0).writes (Elt Ideal) G13 ((⟨(Rect.unit (s := S4x2048x128) (k0_off32 i) ![1, 512, 128] (j2)), k0_pay103 (DO 2) (Q 2) (DL 2) (k0_pay100 MK (Q 2) (LS 2) (View.ld K (Rect.unit (s := S1x4x2048x128) (k0_off31 i) ![1, 1, 512, 128] (u2)))) (View.ld VV (Rect.unit (s := S1x4x2048x128) (k0_off31 i) ![1, 1, 512, 128] (u2))) (View.ld (View.read (Elt Ideal) (View.whole cc0_scratch0) ((View.whole cc0_scratch0).writes (Elt Ideal) G13 ((⟨(Rect.unit (s := S4x2048x128) (k0_off29 i) ![1, 512, 128] (j1)), k0_pay98 (DO 1) (Q 1) (DL 1) (k0_pay94 MK (Q 1) (LS 1) (View.ld K (Rect.unit (s := S1x4x2048x128) (k0_off28 i) ![1, 1, 512, 128] (u1)))) (k0_pay96 (View.ld VV (Rect.unit (s := S1x4x2048x128) (k0_off28 i) ![1, 1, 512, 128] (u1)))) (View.ld (View.read (Elt Ideal) (View.whole cc0_scratch0) ((View.whole cc0_scratch0).writes (Elt Ideal) G13 ((⟨(Rect.unit (s := S4x2048x128) (k0_off26 i) ![1, 512, 128] (j0)), k0_pay92 (Q 0) (k0_pay91 MK (DO 0) (Q 0) (DL 0) (LS 0) (View.ld K (Rect.unit (s := S1x4x2048x128) (k0_off25 i) ![1, 1, 512, 128] (u0))) (View.ld VV (Rect.unit (s := S1x4x2048x128) (k0_off25 i) ![1, 1, 512, 128] (u0)))) (View.ld (View.read (Elt Ideal) (View.whole cc0_scratch0) ((View.whole cc0_scratch0).writes (Elt Ideal) G13 ((st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).2.1))) (Rect.unit (s := S4x2048x128) (k0_off26 i) ![1, 512, 128] (j0)))⟩ : View.Piece (Elt Ideal) S4x2048x128 .f32) :: ((st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).2.1)))) (Rect.unit (s := S4x2048x128) (k0_off29 i) ![1, 512, 128] (j1)))⟩ : View.Piece (Elt Ideal) S4x2048x128 .f32) :: ((⟨(Rect.unit (s := S4x2048x128) (k0_off26 i) ![1, 512, 128] (j0)), k0_pay92 (Q 0) (k0_pay91 MK (DO 0) (Q 0) (DL 0) (LS 0) (View.ld K (Rect.unit (s := S1x4x2048x128) (k0_off25 i) ![1, 1, 512, 128] (u0))) (View.ld VV (Rect.unit (s := S1x4x2048x128) (k0_off25 i) ![1, 1, 512, 128] (u0)))) (View.ld (View.read (Elt Ideal) (View.whole cc0_scratch0) ((View.whole cc0_scratch0).writes (Elt Ideal) G13 ((st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).2.1))) (Rect.unit (s := S4x2048x128) (k0_off26 i) ![1, 512, 128] (j0)))⟩ : View.Piece (Elt Ideal) S4x2048x128 .f32) :: ((st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).2.1))))) (Rect.unit (s := S4x2048x128) (k0_off32 i) ![1, 512, 128] (j2)))⟩ : View.Piece (Elt Ideal) S4x2048x128 .f32) :: ((⟨(Rect.unit (s := S4x2048x128) (k0_off29 i) ![1, 512, 128] (j1)), k0_pay98 (DO 1) (Q 1) (DL 1) (k0_pay94 MK (Q 1) (LS 1) (View.ld K (Rect.unit (s := S1x4x2048x128) (k0_off28 i) ![1, 1, 512, 128] (u1)))) (k0_pay96 (View.ld VV (Rect.unit (s := S1x4x2048x128) (k0_off28 i) ![1, 1, 512, 128] (u1)))) (View.ld (View.read (Elt Ideal) (View.whole cc0_scratch0) ((View.whole cc0_scratch0).writes (Elt Ideal) G13 ((⟨(Rect.unit (s := S4x2048x128) (k0_off26 i) ![1, 512, 128] (j0)), k0_pay92 (Q 0) (k0_pay91 MK (DO 0) (Q 0) (DL 0) (LS 0) (View.ld K (Rect.unit (s := S1x4x2048x128) (k0_off25 i) ![1, 1, 512, 128] (u0))) (View.ld VV (Rect.unit (s := S1x4x2048x128) (k0_off25 i) ![1, 1, 512, 128] (u0)))) (View.ld (View.read (Elt Ideal) (View.whole cc0_scratch0) ((View.whole cc0_scratch0).writes (Elt Ideal) G13 ((st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).2.1))) (Rect.unit (s := S4x2048x128) (k0_off26 i) ![1, 512, 128] (j0)))⟩ : View.Piece (Elt Ideal) S4x2048x128 .f32) :: ((st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).2.1)))) (Rect.unit (s := S4x2048x128) (k0_off29 i) ![1, 512, 128] (j1)))⟩ : View.Piece (Elt Ideal) S4x2048x128 .f32) :: ((⟨(Rect.unit (s := S4x2048x128) (k0_off26 i) ![1, 512, 128] (j0)), k0_pay92 (Q 0) (k0_pay91 MK (DO 0) (Q 0) (DL 0) (LS 0) (View.ld K (Rect.unit (s := S1x4x2048x128) (k0_off25 i) ![1, 1, 512, 128] (u0))) (View.ld VV (Rect.unit (s := S1x4x2048x128) (k0_off25 i) ![1, 1, 512, 128] (u0)))) (View.ld (View.read (Elt Ideal) (View.whole cc0_scratch0) ((View.whole cc0_scratch0).writes (Elt Ideal) G13 ((st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).2.1))) (Rect.unit (s := S4x2048x128) (k0_off26 i) ![1, 512, 128] (j0)))⟩ : View.Piece (Elt Ideal) S4x2048x128 .f32) :: ((st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).2.1)))))) (Rect.unit (s := S4x2048x128) (k0_off35 i) ![1, 512, 128] (j3)))⟩ : View.Piece (Elt Ideal) S4x2048x128 .f32) :: ((⟨(Rect.unit (s := S4x2048x128) (k0_off32 i) ![1, 512, 128] (j2)), k0_pay103 (DO 2) (Q 2) (DL 2) (k0_pay100 MK (Q 2) (LS 2) (View.ld K (Rect.unit (s := S1x4x2048x128) (k0_off31 i) ![1, 1, 512, 128] (u2)))) (View.ld VV (Rect.unit (s := S1x4x2048x128) (k0_off31 i) ![1, 1, 512, 128] (u2))) (View.ld (View.read (Elt Ideal) (View.whole cc0_scratch0) ((View.whole cc0_scratch0).writes (Elt Ideal) G13 ((⟨(Rect.unit (s := S4x2048x128) (k0_off29 i) ![1, 512, 128] (j1)), k0_pay98 (DO 1) (Q 1) (DL 1) (k0_pay94 MK (Q 1) (LS 1) (View.ld K (Rect.unit (s := S1x4x2048x128) (k0_off28 i) ![1, 1, 512, 128] (u1)))) (k0_pay96 (View.ld VV (Rect.unit (s := S1x4x2048x128) (k0_off28 i) ![1, 1, 512, 128] (u1)))) (View.ld (View.read (Elt Ideal) (View.whole cc0_scratch0) ((View.whole cc0_scratch0).writes (Elt Ideal) G13 ((⟨(Rect.unit (s := S4x2048x128) (k0_off26 i) ![1, 512, 128] (j0)), k0_pay92 (Q 0) (k0_pay91 MK (DO 0) (Q 0) (DL 0) (LS 0) (View.ld K (Rect.unit (s := S1x4x2048x128) (k0_off25 i) ![1, 1, 512, 128] (u0))) (View.ld VV (Rect.unit (s := S1x4x2048x128) (k0_off25 i) ![1, 1, 512, 128] (u0)))) (View.ld (View.read (Elt Ideal) (View.whole cc0_scratch0) ((View.whole cc0_scratch0).writes (Elt Ideal) G13 ((st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).2.1))) (Rect.unit (s := S4x2048x128) (k0_off26 i) ![1, 512, 128] (j0)))⟩ : View.Piece (Elt Ideal) S4x2048x128 .f32) :: ((st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).2.1)))) (Rect.unit (s := S4x2048x128) (k0_off29 i) ![1, 512, 128] (j1)))⟩ : View.Piece (Elt Ideal) S4x2048x128 .f32) :: ((⟨(Rect.unit (s := S4x2048x128) (k0_off26 i) ![1, 512, 128] (j0)), k0_pay92 (Q 0) (k0_pay91 MK (DO 0) (Q 0) (DL 0) (LS 0) (View.ld K (Rect.unit (s := S1x4x2048x128) (k0_off25 i) ![1, 1, 512, 128] (u0))) (View.ld VV (Rect.unit (s := S1x4x2048x128) (k0_off25 i) ![1, 1, 512, 128] (u0)))) (View.ld (View.read (Elt Ideal) (View.whole cc0_scratch0) ((View.whole cc0_scratch0).writes (Elt Ideal) G13 ((st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).2.1))) (Rect.unit (s := S4x2048x128) (k0_off26 i) ![1, 512, 128] (j0)))⟩ : View.Piece (Elt Ideal) S4x2048x128 .f32) :: ((st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).2.1))))) (Rect.unit (s := S4x2048x128) (k0_off32 i) ![1, 512, 128] (j2)))⟩ : View.Piece (Elt Ideal) S4x2048x128 .f32) :: ((⟨(Rect.unit (s := S4x2048x128) (k0_off29 i) ![1, 512, 128] (j1)), k0_pay98 (DO 1) (Q 1) (DL 1) (k0_pay94 MK (Q 1) (LS 1) (View.ld K (Rect.unit (s := S1x4x2048x128) (k0_off28 i) ![1, 1, 512, 128] (u1)))) (k0_pay96 (View.ld VV (Rect.unit (s := S1x4x2048x128) (k0_off28 i) ![1, 1, 512, 128] (u1)))) (View.ld (View.read (Elt Ideal) (View.whole cc0_scratch0) ((View.whole cc0_scratch0).writes (Elt Ideal) G13 ((⟨(Rect.unit (s := S4x2048x128) (k0_off26 i) ![1, 512, 128] (j0)), k0_pay92 (Q 0) (k0_pay91 MK (DO 0) (Q 0) (DL 0) (LS 0) (View.ld K (Rect.unit (s := S1x4x2048x128) (k0_off25 i) ![1, 1, 512, 128] (u0))) (View.ld VV (Rect.unit (s := S1x4x2048x128) (k0_off25 i) ![1, 1, 512, 128] (u0)))) (View.ld (View.read (Elt Ideal) (View.whole cc0_scratch0) ((View.whole cc0_scratch0).writes (Elt Ideal) G13 ((st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).2.1))) (Rect.unit (s := S4x2048x128) (k0_off26 i) ![1, 512, 128] (j0)))⟩ : View.Piece (Elt Ideal) S4x2048x128 .f32) :: ((st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).2.1)))) (Rect.unit (s := S4x2048x128) (k0_off29 i) ![1, 512, 128] (j1)))⟩ : View.Piece (Elt Ideal) S4x2048x128 .f32) :: ((⟨(Rect.unit (s := S4x2048x128) (k0_off26 i) ![1, 512, 128] (j0)), k0_pay92 (Q 0) (k0_pay91 MK (DO 0) (Q 0) (DL 0) (LS 0) (View.ld K (Rect.unit (s := S1x4x2048x128) (k0_off25 i) ![1, 1, 512, 128] (u0))) (View.ld VV (Rect.unit (s := S1x4x2048x128) (k0_off25 i) ![1, 1, 512, 128] (u0)))) (View.ld (View.read (Elt Ideal) (View.whole cc0_scratch0) ((View.whole cc0_scratch0).writes (Elt Ideal) G13 ((st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).2.1))) (Rect.unit (s := S4x2048x128) (k0_off26 i) ![1, 512, 128] (j0)))⟩ : View.Piece (Elt Ideal) S4x2048x128 .f32) :: ((st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).2.1)))))) (ix3 h row d)
      = (G13 (ix3 h row d) : EReal) + ∑ r : Fin 512, pm K (Q h) (LS h) h (i 2).val row r * dpw VV (DO h) (DL h) h row r * (Q h (ix2 r d) : EReal) := by
  have hq : (k0_t1_loop i).trips = (i 2).val := trips_eq i
  refine (fin13 i MK hM Q DO LS DL K VV G13 (st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).2.1 j0 u0 j1 u1 j2 u2 j3 u3 h row d _ rfl).trans ?_
  have hl := loop13 𝒱 c bd i arg3 harg3 arg4 harg4 arg5 harg5 arg6 harg6 arg7 harg7 arg8 harg8 arg9 harg9 arg10 harg10 arg11 harg11 arg12 harg12 arg2 v239 v240 cst_105 hs13 hs14 K VV KT Q DO LS DL MK G13 G14 init _ le_rfl h row d
  rw [show View.read (Elt Ideal) (View.whole cc0_scratch0) ((View.whole cc0_scratch0).writes (Elt Ideal) G13 (st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).2.1) (ix3 h row d) = _ from hl]
  clear hl
  rw [hq]
  by_cases h1 : row.val < 512 * (i 2).val
  · rw [if_neg (by omega), if_pos h1]
    refine congrArg _ (Finset.sum_congr rfl fun r _ => ?_)
    rw [pm, if_pos (by omega)]
  · by_cases h2 : row.val < 512 * (i 2).val + 512
    · rw [if_pos (by omega), if_neg h1]
    · rw [if_neg (by omega), if_neg h1, Finset.sum_eq_zero, add_zero]
      intro r _
      rw [pm, if_neg (by omega), zero_mul, zero_mul]

end Cert.Kernel3Ideal.Attn
end
-- ==== Proof.AttnStep.lean ====
module

public import proofs.«01_k».proof.Proof.Gen.Kernel3Ideal.Frame
public import Idealize.ShloMosaic.Lib.Pipeline.ValueKit
public import Idealize.ShloMosaic.Lib.Claim
public import proofs.«01_k».proof.Proof.AttnBoth
public import Idealize.ShloMosaic.Lib.WholeRead
public import Idealize.ShloMosaic.Lib.WritesUnit

@[expose] public section
set_option maxRecDepth 16384
noncomputable section
open Idealize.ShloMosaic Idealize.ShloMosaic.TcCoe Idealize.SL.Sem
open Idealize.ShloMosaic.Pipeline (Dat)
namespace Cert.Kernel3Ideal.Attn
open Cert.Kernel3Ideal Cert.Kernel3Ideal.Gen

/-! The two scratch accumulators after one point of the grid, from the point before. -/

theorem qB_0 (X0 : Vec Ideal S1x4x512x128 .bf16) : k0_pay57 (View.ld X0 (Rect.unit (s := S1x4x512x128) ![0, 0, 0, 0] ![1, 1, 512, 128] inb_S1x4x512x128_S1x1x512x128_0_0_0_0)) = qB X0 0 := rfl
theorem qB_1 (X0 : Vec Ideal S1x4x512x128 .bf16) : k0_pay65 (View.ld X0 (Rect.unit (s := S1x4x512x128) ![0, 1, 0, 0] ![1, 1, 512, 128] inb_S1x4x512x128_S1x1x512x128_0_1_0_0)) = qB X0 1 := rfl
theorem qB_2 (X0 : Vec Ideal S1x4x512x128 .bf16) : k0_pay72 (View.ld X0 (Rect.unit (s := S1x4x512x128) ![0, 2, 0, 0] ![1, 1, 512, 128] inb_S1x4x512x128_S1x1x512x128_0_2_0_0)) = qB X0 2 := rfl
theorem qB_3 (X0 : Vec Ideal S1x4x512x128 .bf16) : k0_pay78 (View.ld X0 (Rect.unit (s := S1x4x512x128) ![0, 3, 0, 0] ![1, 1, 512, 128] inb_S1x4x512x128_S1x1x512x128_0_3_0_0)) = qB X0 3 := rfl
theorem doB_0 (X4 : Vec Ideal S1x512x256 .bf16) : k0_pay54 (View.ld X4 (Rect.unit (s := S1x512x256) ![0, 0, 0] ![1, 512, 128] inb_S1x512x256_S1x512x128_0_0_0)) = doB X4 0 := rfl
theorem doB_1 (X4 : Vec Ideal S1x512x256 .bf16) : k0_pay60 (View.ld X4 (Rect.unit (s := S1x512x256) ![0, 0, 0] ![1, 512, 128] inb_S1x512x256_S1x512x128_0_0_0)) = doB X4 1 := rfl
theorem doB_2 (X4 : Vec Ideal S1x512x256 .bf16) : k0_pay68 (View.ld X4 (Rect.unit (s := S1x512x256) ![0, 0, 128] ![1, 512, 128] inb_S1x512x256_S1x512x128_0_0_128)) = doB X4 2 := rfl
theorem doB_3 (X4 : Vec Ideal S1x512x256 .bf16) : k0_pay75 (View.ld X4 (Rect.unit (s := S1x512x256) ![0, 0, 128] ![1, 512, 128] inb_S1x512x256_S1x512x128_0_0_128)) = doB X4 3 := rfl
theorem lsB_0 (X6 : Vec Ideal S1x4x8x512 .f32) : k0_pay59 (View.ld X6 (Rect.unit (s := S1x4x8x512) ![0, 0, 0, 0] ![1, 1, 8, 512] inb_S1x4x8x512_S1x1x8x512_0_0_0_0)) = lsB X6 0 := rfl
theorem lsB_1 (X6 : Vec Ideal S1x4x8x512 .f32) : k0_pay67 (View.ld X6 (Rect.unit (s := S1x4x8x512) ![0, 1, 0, 0] ![1, 1, 8, 512] inb_S1x4x8x512_S1x1x8x512_0_1_0_0)) = lsB X6 1 := rfl
theorem lsB_2 (X6 : Vec Ideal S1x4x8x512 .f32) : k0_pay74 (View.ld X6 (Rect.unit (s := S1x4x8x512) ![0, 2, 0, 0] ![1, 1, 8, 512] inb_S1x4x8x512_S1x1x8x512_0_2_0_0)) = lsB X6 2 := rfl
theorem lsB_3 (X6 : Vec Ideal S1x4x8x512 .f32) : k0_pay80 (View.ld X6 (Rect.unit (s := S1x4x8x512) ![0, 3, 0, 0] ![1, 1, 8, 512] inb_S1x4x8x512_S1x1x8x512_0_3_0_0)) = lsB X6 3 := rfl
theorem dlB_0 (X4 X5 : Vec Ideal S1x512x256 .bf16) : k0_pay58 (k0_pay55 (View.ld X4 (Rect.unit (s := S1x512x256) ![0, 0, 0] ![1, 512, 128] inb_S1x512x256_S1x512x128_0_0_0)) (View.ld X5 (Rect.unit (s := S1x512x256) ![0, 0, 0] ![1, 512, 128] inb_S1x512x256_S1x512x128_0_0_0))) k0_pay56 0#32 = dlB X4 X5 0 := rfl
theorem dlB_1 (X4 X5 : Vec Ideal S1x512x256 .bf16) : k0_pay66 (iota .tc S512x128 32 [1] iota_S512x128_d1_w32) (k0_pay61 (View.ld X4 (Rect.unit (s := S1x512x256) ![0, 0, 0] ![1, 512, 128] inb_S1x512x256_S1x512x128_0_0_0)) (View.ld X5 (Rect.unit (s := S1x512x256) ![0, 0, 0] ![1, 512, 128] inb_S1x512x256_S1x512x128_0_0_0))) (k0_pay62 (iota .tc S512x128 32 [1] iota_S512x128_d1_w32)) (k0_pay63 (iota .tc S512x128 32 [1] iota_S512x128_d1_w32)) k0_pay64 = dlB X4 X5 1 := rfl
theorem dlB_2 (X4 X5 : Vec Ideal S1x512x256 .bf16) : k0_pay73 (iota .tc S512x128 32 [1] iota_S512x128_d1_w32) (k0_pay69 (View.ld X4 (Rect.unit (s := S1x512x256) ![0, 0, 128] ![1, 512, 128] inb_S1x512x256_S1x512x128_0_0_128)) (View.ld X5 (Rect.unit (s := S1x512x256) ![0, 0, 128] ![1, 512, 128] inb_S1x512x256_S1x512x128_0_0_128))) 64#32 (k0_pay70 (iota .tc S512x128 32 [1] iota_S512x128_d1_w32)) (k0_pay71 (iota .tc S512x128 32 [1] iota_S512x128_d1_w32)) = dlB X4 X5 2 := rfl
theorem dlB_3 (X4 X5 : Vec Ideal S1x512x256 .bf16) : k0_pay79 (iota .tc S512x128 32 [1] iota_S512x128_d1_w32) (k0_pay76 (View.ld X4 (Rect.unit (s := S1x512x256) ![0, 0, 128] ![1, 512, 128] inb_S1x512x256_S1x512x128_0_0_128)) (View.ld X5 (Rect.unit (s := S1x512x256) ![0, 0, 128] ![1, 512, 128] inb_S1x512x256_S1x512x128_0_0_128))) 64#32 k0_pay77 = dlB X4 X5 3 := rfl

theorem zadd (a b c : EReal) (h : a = b + c) (hb : b = 0) : a = c := by rw [h, hb, zero_add]

theorem zero14 (h : Fin 4) (row : Fin 2048) (d : Fin 128) :
    View.read (Elt Ideal) (View.whole cc0_scratch1) ((View.whole cc0_scratch1).writes (Elt Ideal) (View.whole cc0_scratch1).junk [⟨Rect.unit (s := S4x2048x128) ![0, 0, 0] ![4, 2048, 128] inb_S4x2048x128_S4x2048x128_0_0_0, k0_pay49 (F := Ideal)⟩]) (ix3 h row d) = (0 : EReal) := by
  refine (View.read_writes_cons_unit_of_mem (Val := Elt Ideal) (View.whole cc0_scratch1) _ inb_S4x2048x128_S4x2048x128_0_0_0 (show FVec Ideal S4x2048x128 .f32 from k0_pay49 (F := Ideal)) [] (ix3 h row d) (ix3 h row d) rfl fun a => ?_).trans ?_
  · fin_cases a <;> simp [ix3]
  · pointwise [k0_pay49]

theorem zero13 (h : Fin 4) (row : Fin 2048) (d : Fin 128) :
    View.read (Elt Ideal) (View.whole cc0_scratch0) ((View.whole cc0_scratch0).writes (Elt Ideal) (View.whole cc0_scratch0).junk [⟨Rect.unit (s := S4x2048x128) ![0, 0, 0] ![4, 2048, 128] inb_S4x2048x128_S4x2048x128_0_0_0, k0_pay48 (F := Ideal)⟩]) (ix3 h row d) = (0 : EReal) := by
  refine (View.read_writes_cons_unit_of_mem (Val := Elt Ideal) (View.whole cc0_scratch0) _ inb_S4x2048x128_S4x2048x128_0_0_0 (show FVec Ideal S4x2048x128 .f32 from k0_pay48 (F := Ideal)) [] (ix3 h row d) (ix3 h row d) rfl fun a => ?_).trans ?_
  · fin_cases a <;> simp [ix3]
  · pointwise [k0_pay48]

variable (m : (ℓ : Loc nD τ sig) → Buf (Elt Ideal) ℓ) (c : Dev nD)

set_option maxHeartbeats 1000000 in
theorem step14_A (t : Fin cfg0.N) (h0 : t.val % 4 = 0) (h1 : ¬ t.val % 4 = 3) (h : Fin 4) (row : Fin 2048) (d : Fin 128) :
    ((outsAt0 (F := Ideal) m c t.val t.isLt).2.2.2.2 : Vec Ideal S4x2048x128 .f32) (ix3 h row d) = ∑ r : Fin 512, pm (iblk m c 1 t) (qB (iblk m c 0 t) h) (lsB (iblk m c 6 t) h) h (grid0.coords t 2).val row r * (doB (iblk m c 4 t) h (ix2 r d) : EReal) := by
  rw [outsAt0_A m c t h0 h1]
  frame_out
  simp only [trips2_eq, st2_none, List.nil_append]
  simp only [← List.cons_append]
  simp only [canon_last (View.whole cc0_scratch1) _ whole_mem]
  simp only [qB_0, qB_1, qB_2, qB_3, doB_0, doB_1, doB_2, doB_3, lsB_0, lsB_1, lsB_2, lsB_3, dlB_0, dlB_1, dlB_2, dlB_3]
  exact zadd _ _ _ (both14 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (BitVec.ofNat 32 (grid0.coords t 2).val) _ _ _ _ _ (iblk m c 1 t) (iblk m c 2 t) (iblk m c 3 t) (qB (iblk m c 0 t)) (doB (iblk m c 4 t)) (lsB (iblk m c 6 t)) (dlB (iblk m c 4 t) (iblk m c 5 t)) _ mask_at _ _ _ _ _ _ _ _ _ _ _ h row d) (zero14 h row d)

set_option maxHeartbeats 1000000 in
theorem step14_B (t : Fin cfg0.N) (h0 : ¬ t.val % 4 = 0) (h1 : ¬ t.val % 4 = 3) (h : Fin 4) (row : Fin 2048) (d : Fin 128) :
    ((outsAt0 (F := Ideal) m c t.val t.isLt).2.2.2.2 : Vec Ideal S4x2048x128 .f32) (ix3 h row d) = (((outsAt0 (F := Ideal) m c (t.val - 1) (Nat.lt_of_le_of_lt (Nat.sub_le _ _) t.isLt)).2.2.2.2 : Vec Ideal S4x2048x128 .f32) (ix3 h row d) : EReal) + ∑ r : Fin 512, pm (iblk m c 1 t) (qB (iblk m c 0 t) h) (lsB (iblk m c 6 t) h) h (grid0.coords t 2).val row r * (doB (iblk m c 4 t) h (ix2 r d) : EReal) := by
  rw [outsAt0_B m c t h0 h1]
  frame_out
  simp only [trips2_eq, st2_none, List.nil_append]
  generalize (outsAt0 (F := Ideal) m c (t.val - 1) (Nat.lt_of_le_of_lt (Nat.sub_le _ _) t.isLt)).2.2.2.1 = P13
  generalize (outsAt0 (F := Ideal) m c (t.val - 1) (Nat.lt_of_le_of_lt (Nat.sub_le _ _) t.isLt)).2.2.2.2 = P14
  simp only [qB_0, qB_1, qB_2, qB_3, doB_0, doB_1, doB_2, doB_3, lsB_0, lsB_1, lsB_2, lsB_3, dlB_0, dlB_1, dlB_2, dlB_3]
  refine (both14 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (BitVec.ofNat 32 (grid0.coords t 2).val) _ _ _ _ _ (iblk m c 1 t) (iblk m c 2 t) (iblk m c 3 t) (qB (iblk m c 0 t)) (doB (iblk m c 4 t)) (lsB (iblk m c 6 t)) (dlB (iblk m c 4 t) (iblk m c 5 t)) _ mask_at _ _ _ _ _ _ _ _ _ _ _ h row d).trans ?_
  exact congrArg (· + _) (congrFun ((Memref.isWhole_whole cc0_scratch1).read_unread P14) (ix3 h row d))

set_option maxHeartbeats 1000000 in
theorem step14_C (t : Fin cfg0.N) (h0 : ¬ t.val % 4 = 0) (h1 : t.val % 4 = 3) (h : Fin 4) (row : Fin 2048) (d : Fin 128) :
    ((outsAt0 (F := Ideal) m c t.val t.isLt).2.2.2.2 : Vec Ideal S4x2048x128 .f32) (ix3 h row d) = (((outsAt0 (F := Ideal) m c (t.val - 1) (Nat.lt_of_le_of_lt (Nat.sub_le _ _) t.isLt)).2.2.2.2 : Vec Ideal S4x2048x128 .f32) (ix3 h row d) : EReal) + ∑ r : Fin 512, pm (iblk m c 1 t) (qB (iblk m c 0 t) h) (lsB (iblk m c 6 t) h) h (grid0.coords t 2).val row r * (doB (iblk m c 4 t) h (ix2 r d) : EReal) := by
  rw [outsAt0_C m c t h0 h1]
  frame_out
  simp only [trips2_eq, st2_none, List.nil_append]
  generalize (outsAt0 (F := Ideal) m c (t.val - 1) (Nat.lt_of_le_of_lt (Nat.sub_le _ _) t.isLt)).2.2.2.1 = P13
  generalize (outsAt0 (F := Ideal) m c (t.val - 1) (Nat.lt_of_le_of_lt (Nat.sub_le _ _) t.isLt)).2.2.2.2 = P14
  simp only [qB_0, qB_1, qB_2, qB_3, doB_0, doB_1, doB_2, doB_3, lsB_0, lsB_1, lsB_2, lsB_3, dlB_0, dlB_1, dlB_2, dlB_3]
  refine (both14 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (BitVec.ofNat 32 (grid0.coords t 2).val) _ _ _ _ _ (iblk m c 1 t) (iblk m c 2 t) (iblk m c 3 t) (qB (iblk m c 0 t)) (doB (iblk m c 4 t)) (lsB (iblk m c 6 t)) (dlB (iblk m c 4 t) (iblk m c 5 t)) _ mask_at _ _ _ _ _ _ _ _ _ _ _ h row d).trans ?_
  exact congrArg (· + _) (congrFun ((Memref.isWhole_whole cc0_scratch1).read_unread P14) (ix3 h row d))

set_option maxHeartbeats 1000000 in
theorem step13_A (t : Fin cfg0.N) (h0 : t.val % 4 = 0) (h1 : ¬ t.val % 4 = 3) (h : Fin 4) (row : Fin 2048) (d : Fin 128) :
    ((outsAt0 (F := Ideal) m c t.val t.isLt).2.2.2.1 : Vec Ideal S4x2048x128 .f32) (ix3 h row d) = ∑ r : Fin 512, pm (iblk m c 1 t) (qB (iblk m c 0 t) h) (lsB (iblk m c 6 t) h) h (grid0.coords t 2).val row r * dpw (iblk m c 2 t) (doB (iblk m c 4 t) h) (dlB (iblk m c 4 t) (iblk m c 5 t) h) h row r * (qB (iblk m c 0 t) h (ix2 r d) : EReal) := by
  rw [outsAt0_A m c t h0 h1]
  frame_out
  simp only [trips2_eq, st2_none, List.nil_append]
  simp only [← List.cons_append]
  simp only [canon_last (View.whole cc0_scratch0) _ whole_mem]
  simp only [qB_0, qB_1, qB_2, qB_3, doB_0, doB_1, doB_2, doB_3, lsB_0, lsB_1, lsB_2, lsB_3, dlB_0, dlB_1, dlB_2, dlB_3]
  exact zadd _ _ _ (both13 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (BitVec.ofNat 32 (grid0.coords t 2).val) _ _ _ _ _ (iblk m c 1 t) (iblk m c 2 t) (iblk m c 3 t) (qB (iblk m c 0 t)) (doB (iblk m c 4 t)) (lsB (iblk m c 6 t)) (dlB (iblk m c 4 t) (iblk m c 5 t)) _ mask_at _ _ _ _ _ _ _ _ _ _ _ h row d) (zero13 h row d)

set_option maxHeartbeats 1000000 in
theorem step13_B (t : Fin cfg0.N) (h0 : ¬ t.val % 4 = 0) (h1 : ¬ t.val % 4 = 3) (h : Fin 4) (row : Fin 2048) (d : Fin 128) :
    ((outsAt0 (F := Ideal) m c t.val t.isLt).2.2.2.1 : Vec Ideal S4x2048x128 .f32) (ix3 h row d) = (((outsAt0 (F := Ideal) m c (t.val - 1) (Nat.lt_of_le_of_lt (Nat.sub_le _ _) t.isLt)).2.2.2.1 : Vec Ideal S4x2048x128 .f32) (ix3 h row d) : EReal) + ∑ r : Fin 512, pm (iblk m c 1 t) (qB (iblk m c 0 t) h) (lsB (iblk m c 6 t) h) h (grid0.coords t 2).val row r * dpw (iblk m c 2 t) (doB (iblk m c 4 t) h) (dlB (iblk m c 4 t) (iblk m c 5 t) h) h row r * (qB (iblk m c 0 t) h (ix2 r d) : EReal) := by
  rw [outsAt0_B m c t h0 h1]
  frame_out
  simp only [trips2_eq, st2_none, List.nil_append]
  generalize (outsAt0 (F := Ideal) m c (t.val - 1) (Nat.lt_of_le_of_lt (Nat.sub_le _ _) t.isLt)).2.2.2.1 = P13
  generalize (outsAt0 (F := Ideal) m c (t.val - 1) (Nat.lt_of_le_of_lt (Nat.sub_le _ _) t.isLt)).2.2.2.2 = P14
  simp only [qB_0, qB_1, qB_2, qB_3, doB_0, doB_1, doB_2, doB_3, lsB_0, lsB_1, lsB_2, lsB_3, dlB_0, dlB_1, dlB_2, dlB_3]
  refine (both13 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (BitVec.ofNat 32 (grid0.coords t 2).val) _ _ _ _ _ (iblk m c 1 t) (iblk m c 2 t) (iblk m c 3 t) (qB (iblk m c 0 t)) (doB (iblk m c 4 t)) (lsB (iblk m c 6 t)) (dlB (iblk m c 4 t) (iblk m c 5 t)) _ mask_at _ _ _ _ _ _ _ _ _ _ _ h row d).trans ?_
  exact congrArg (· + _) (congrFun ((Memref.isWhole_whole cc0_scratch0).read_unread P13) (ix3 h row d))

set_option maxHeartbeats 1000000 in
theorem step13_C (t : Fin cfg0.N) (h0 : ¬ t.val % 4 = 0) (h1 : t.val % 4 = 3) (h : Fin 4) (row : Fin 2048) (d : Fin 128) :
    ((outsAt0 (F := Ideal) m c t.val t.isLt).2.2.2.1 : Vec Ideal S4x2048x128 .f32) (ix3 h row d) = (((outsAt0 (F := Ideal) m c (t.val - 1) (Nat.lt_of_le_of_lt (Nat.sub_le _ _) t.isLt)).2.2.2.1 : Vec Ideal S4x2048x128 .f32) (ix3 h row d) : EReal) + ∑ r : Fin 512, pm (iblk m c 1 t) (qB (iblk m c 0 t) h) (lsB (iblk m c 6 t) h) h (grid0.coords t 2).val row r * dpw (iblk m c 2 t) (doB (iblk m c 4 t) h) (dlB (iblk m c 4 t) (iblk m c 5 t) h) h row r * (qB (iblk m c 0 t) h (ix2 r d) : EReal) := by
  rw [outsAt0_C m c t h0 h1]
  frame_out
  simp only [trips2_eq, st2_none, List.nil_append]
  generalize (outsAt0 (F := Ideal) m c (t.val - 1) (Nat.lt_of_le_of_lt (Nat.sub_le _ _) t.isLt)).2.2.2.1 = P13
  generalize (outsAt0 (F := Ideal) m c (t.val - 1) (Nat.lt_of_le_of_lt (Nat.sub_le _ _) t.isLt)).2.2.2.2 = P14
  simp only [qB_0, qB_1, qB_2, qB_3, doB_0, doB_1, doB_2, doB_3, lsB_0, lsB_1, lsB_2, lsB_3, dlB_0, dlB_1, dlB_2, dlB_3]
  refine (both13 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (BitVec.ofNat 32 (grid0.coords t 2).val) _ _ _ _ _ (iblk m c 1 t) (iblk m c 2 t) (iblk m c 3 t) (qB (iblk m c 0 t)) (doB (iblk m c 4 t)) (lsB (iblk m c 6 t)) (dlB (iblk m c 4 t) (iblk m c 5 t)) _ mask_at _ _ _ _ _ _ _ _ _ _ _ h row d).trans ?_
  exact congrArg (· + _) (congrFun ((Memref.isWhole_whole cc0_scratch0).read_unread P13) (ix3 h row d))

end Cert.Kernel3Ideal.Attn
end
-- ==== Proof.AttnQ.lean ====
module

public import proofs.«01_k».proof.Proof.Gen.Kernel3Ideal.Frame
public import Idealize.ShloMosaic.Lib.Pipeline.ValueKit
public import Idealize.ShloMosaic.Lib.Claim
public import Idealize.ShloMosaic.Lib.WritesUnit
public import proofs.«01_k».proof.Proof.AttnStep
public import Idealize.ShloMosaic.Lib.WholeRead
public import Idealize.ShloMosaic.Lib.WritesUnit

@[expose] public section
set_option maxRecDepth 16384
noncomputable section
open Idealize.ShloMosaic Idealize.ShloMosaic.TcCoe Idealize.SL.Sem
open Idealize.ShloMosaic.Pipeline (Dat)
namespace Cert.Kernel3Ideal.Attn
open Cert.Kernel3Ideal Cert.Kernel3Ideal.Gen

/-! The gradient of the queries of one point of the grid. -/

/-- The keys of the tiles before tile `n` and those of tile `n` under the mask are all keys under the mask. -/
theorem joinQ (K VV : Vec Ideal S1x4x2048x128 .bf16) (KT : Vec Ideal S1x4x4x128x512 .bf16) (q dy : FVec Ideal S512x128 .bf16) (ls dl : FVec Ideal S1x512 .f32) (h n : Fin 4) (x : Fin 128) (r : Fin 512) :
    ∑ row : Fin 2048, (if row.val < 512 * n.val then kT KT h x row * (pw K q ls h row r * dpw VV dy dl h row r) else 0)
      + ∑ a : Fin 512, (KT (ix5 0 h n x a) : EReal) * (pm K q ls h n.val ⟨512 * n.val + a.val, by omega⟩ r * dpw VV dy dl h ⟨512 * n.val + a.val, by omega⟩ r)
      = ∑ row : Fin 2048, kT KT h x row * (pm K q ls h n.val row r * dpw VV dy dl h row r) := by
  have e1 : ∑ row : Fin 2048, kT KT h x row * (pm K q ls h n.val row r * dpw VV dy dl h row r)
      = ∑ row : Fin 2048, (if row.val < 512 * (n.val + 1) then kT KT h x row * (pm K q ls h n.val row r * dpw VV dy dl h row r) else 0) := by
    refine Finset.sum_congr rfl fun row _ => ?_
    by_cases h1 : row.val < 512 * (n.val + 1)
    · rw [if_pos h1]
    · rw [if_neg h1, pm, if_neg (by omega), zero_mul, mul_zero]
  rw [e1, sum_upto_succ (fun row => kT KT h x row * (pm K q ls h n.val row r * dpw VV dy dl h row r)) n.val n.isLt]
  congr 1
  · refine Finset.sum_congr rfl fun row _ => ?_
    by_cases h1 : row.val < 512 * n.val
    · rw [if_pos h1, if_pos h1, pm, if_pos (by omega)]
    · rw [if_neg h1, if_neg h1]
  · refine Finset.sum_congr rfl fun a _ => ?_
    rw [kT_tile KT h x n a (by omega)]

theorem zQ0 (x : Fin 128) (r : Fin 512) : ((k0_pay81 : FVec Ideal S128x512 .f32) (ix2 x r) : EReal) = 0 := by pointwise [k0_pay81, k0_pay82, k0_pay83, k0_pay84]
theorem zQ1 (x : Fin 128) (r : Fin 512) : ((k0_pay82 : FVec Ideal S128x512 .f32) (ix2 x r) : EReal) = 0 := by pointwise [k0_pay81, k0_pay82, k0_pay83, k0_pay84]
theorem zQ2 (x : Fin 128) (r : Fin 512) : ((k0_pay83 (FloatOps.ofBits (F := Ideal) FTy.f32 0#32) : FVec Ideal S128x512 .f32) (ix2 x r) : EReal) = 0 := by pointwise [k0_pay81, k0_pay82, k0_pay83, k0_pay84]
theorem zQ3 (x : Fin 128) (r : Fin 512) : ((k0_pay84 : FVec Ideal S128x512 .f32) (ix2 x r) : EReal) = 0 := by pointwise [k0_pay81, k0_pay82, k0_pay83, k0_pay84]
theorem oneQ (off : Fin 4 → ℕ) (h0 : Fin 4) (e : off = ![0, h0.val, 0, 0]) (inb : ∀ a, off a + (![1, 1, 512, 128] : Fin 4 → ℕ) a ≤ S1x4x512x128.size a) (P : FVec Ideal S1x1x512x128 .bf16)
    (L : List (View.Piece (Elt Ideal) S1x4x512x128 .bf16)) (h : Fin 4) (r : Fin 512) (x : Fin 128) :
    View.canon (Val := Elt Ideal) ((⟨Rect.unit (s := S1x4x512x128) off ![1, 1, 512, 128] inb, P⟩ : View.Piece (Elt Ideal) S1x4x512x128 .bf16) :: L) (ix4 0 h r x)
      = if h = h0 then P (ix4 0 0 r x) else View.canon (Val := Elt Ideal) L (ix4 0 h r x) := by
  subst e
  by_cases hh : h = h0
  · subst hh
    rw [if_pos rfl]
    have e : (ix4 0 h r x : S1x4x512x128.Idx) = (Rect.unit (s := S1x4x512x128) ![0, h.val, 0, 0] ![1, 1, 512, 128] inb).emb (ix4 0 0 r x : S1x1x512x128.Idx) := by
      refine funext fun a => Fin.ext ?_
      fin_cases a <;> simp [ix4, Rect.emb, Rect.unit]
    rw [e]
    exact View.canon_cons_emb (Val := Elt Ideal) (e := EltTy.bf16) (Rect.unit (s := S1x4x512x128) ![0, h.val, 0, 0] ![1, 1, 512, 128] inb) P L (ix4 0 0 r x : S1x1x512x128.Idx)
  · rw [if_neg hh]
    refine View.canon_cons_of_not_mem (Val := Elt Ideal) (e := EltTy.bf16) (⟨Rect.unit (s := S1x4x512x128) ![0, h0.val, 0, 0] ![1, 1, 512, 128] inb, P⟩ : View.Piece (Elt Ideal) S1x4x512x128 .bf16) L fun hm => hh ?_
    have h1 := (Rect.mem_set_unit (inb := inb)).1 hm 1
    refine Fin.ext ?_
    simp [ix4] at h1
    omega

/-- Four blocks stored one for each head: each head reads its own. -/
theorem canonQ (P0 P1 P2 P3 : FVec Ideal S1x1x512x128 .bf16) (h : Fin 4) (r : Fin 512) (x : Fin 128) :
    (View.canon (Val := Elt Ideal) (e := .bf16) [(⟨Rect.unit (s := S1x4x512x128) ![0, 3, 0, 0] ![1, 1, 512, 128] inb_S1x4x512x128_S1x1x512x128_0_3_0_0, P3⟩ : View.Piece (Elt Ideal) S1x4x512x128 .bf16), ⟨Rect.unit (s := S1x4x512x128) ![0, 2, 0, 0] ![1, 1, 512, 128] inb_S1x4x512x128_S1x1x512x128_0_2_0_0, P2⟩, ⟨Rect.unit (s := S1x4x512x128) ![0, 1, 0, 0] ![1, 1, 512, 128] inb_S1x4x512x128_S1x1x512x128_0_1_0_0, P1⟩, ⟨Rect.unit (s := S1x4x512x128) ![0, 0, 0, 0] ![1, 1, 512, 128] inb_S1x4x512x128_S1x1x512x128_0_0_0_0, P0⟩] : Vec Ideal S1x4x512x128 .bf16) (ix4 0 h r x)
      = (![P0, P1, P2, P3] : Fin 4 → FVec Ideal S1x1x512x128 .bf16) h (ix4 0 0 r x) := by
  rw [oneQ ![0, 3, 0, 0] 3 rfl, oneQ ![0, 2, 0, 0] 2 rfl, oneQ ![0, 1, 0, 0] 1 rfl, oneQ ![0, 0, 0, 0] 0 rfl]
  fin_cases h <;> rfl

section
variable (𝒱 : Variants) (c : Dev nD) (bd : Option 𝒱.V) (i : grid0.Coords) (arg3 : Memref sig .tc .vmem S1x4x512x128 .bf16) (harg3 : arg3.IsWhole) (arg4 : Memref sig .tc .vmem S1x4x2048x128 .bf16) (harg4 : arg4.IsWhole) (arg5 : Memref sig .tc .vmem S1x4x2048x128 .bf16) (harg5 : arg5.IsWhole) (arg6 : Memref sig .tc .vmem S1x4x4x128x512 .bf16) (harg6 : arg6.IsWhole) (arg7 : Memref sig .tc .vmem S1x512x256 .bf16) (harg7 : arg7.IsWhole) (arg8 : Memref sig .tc .vmem S1x512x256 .bf16) (harg8 : arg8.IsWhole) (arg9 : Memref sig .tc .vmem S1x4x8x512 .f32) (harg9 : arg9.IsWhole) (arg10 : Memref sig .tc .vmem S1x4x512x128 .bf16) (harg10 : arg10.IsWhole) (arg11 : Memref sig .tc .vmem S1x4x2048x128 .bf16) (harg11 : arg11.IsWhole) (arg12 : Memref sig .tc .vmem S1x4x2048x128 .bf16) (harg12 : arg12.IsWhole) (arg2 : BitVec 32)  (v239 : FVec Ideal S128x512 .f32) (v240 : FVec Ideal S128x512 .f32) (cst_105 : Ideal .f32) (hs13 : (scM0_0 : Memref sig .tc .vmem S4x2048x128 .f32).IsWhole) (hs14 : (scM0_1 : Memref sig .tc .vmem S4x2048x128 .f32).IsWhole)
  (K VV : Vec Ideal S1x4x2048x128 .bf16) (KT : Vec Ideal S1x4x4x128x512 .bf16) (Q DO : Fin 4 → FVec Ideal S512x128 .bf16) (LS DL : Fin 4 → FVec Ideal S1x512 .f32)
  (MK : IVec S512x512 1) (hM : ∀ a r : Fin 512, MK (ix2 a r) = 1#1 ↔ a.val / 64 ≤ r.val / 64) (G13 G14 : Vec Ideal S4x2048x128 .f32) (init : FVec Ideal S128x512 .f32 × FVec Ideal S128x512 .f32 × FVec Ideal S128x512 .f32 × FVec Ideal S128x512 .f32)
  (j0 : ∀ a, k0_off26 i a + (![1, 512, 128] : Fin 3 → ℕ) a ≤ S4x2048x128.size a) (u0 : ∀ a, k0_off25 i a + (![1, 1, 512, 128] : Fin 4 → ℕ) a ≤ S1x4x2048x128.size a) (j1 : ∀ a, k0_off29 i a + (![1, 512, 128] : Fin 3 → ℕ) a ≤ S4x2048x128.size a) (u1 : ∀ a, k0_off28 i a + (![1, 1, 512, 128] : Fin 4 → ℕ) a ≤ S1x4x2048x128.size a) (j2 : ∀ a, k0_off32 i a + (![1, 512, 128] : Fin 3 → ℕ) a ≤ S4x2048x128.size a) (u2 : ∀ a, k0_off31 i a + (![1, 1, 512, 128] : Fin 4 → ℕ) a ≤ S1x4x2048x128.size a) (j3 : ∀ a, k0_off35 i a + (![1, 512, 128] : Fin 3 → ℕ) a ≤ S4x2048x128.size a) (u3 : ∀ a, k0_off34 i a + (![1, 1, 512, 128] : Fin 4 → ℕ) a ≤ S1x4x2048x128.size a)

set_option maxHeartbeats 1000000 in
include hM in
theorem headQ_0 (w : ∀ a, k0_off27 i a + (![1, 1, 1, 128, 512] : Fin 5 → ℕ) a ≤ S1x4x4x128x512.size a) (hi : ∀ (x : Fin 128) (r : Fin 512), (init.1 (ix2 x r) : EReal) = 0) (r : Fin 512) (x : Fin 128) :
    (k0_pay112 (k0_pay93 (st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).1.1 (k0_pay91 MK (DO 0) (Q 0) (DL 0) (LS 0) (View.ld K (Rect.unit (s := S1x4x2048x128) (k0_off25 i) ![1, 1, 512, 128] (u0))) (View.ld VV (Rect.unit (s := S1x4x2048x128) (k0_off25 i) ![1, 1, 512, 128] (u0)))) (View.ld KT (Rect.unit (s := S1x4x4x128x512) (k0_off27 i) ![1, 1, 1, 128, 512] w))) : FVec Ideal S1x1x512x128 .bf16) (ix4 0 0 r x)
      = ∑ row : Fin 2048, kT KT 0 x row * (pm K (Q 0) (LS 0) 0 (i 2).val row r * dpw VV (DO 0) (DL 0) 0 row r) := by
  refine (payQ_0 MK hM Q DO LS DL _ _ _ _ r x).trans ?_
  rw [loopR0 𝒱 c bd i arg3 harg3 arg4 harg4 arg5 harg5 arg6 harg6 arg7 harg7 arg8 harg8 arg9 harg9 arg10 harg10 arg11 harg11 arg12 harg12 arg2 v239 v240 cst_105 hs13 hs14 K VV KT Q DO LS DL MK G13 G14 init _ le_rfl x r, hi x r, zero_add, trips_eq i, ← joinQ K VV KT (Q 0) (DO 0) (LS 0) (DL 0) 0 (i 2) x r]
  refine congrArg _ (Finset.sum_congr rfl fun a _ => ?_)
  rw [ld5 KT _ (i 2) 0 w (o27 i) x a, wt_eq K (Q 0) (LS 0) 0 (o25 i) (i 2).val rfl a r (by have h4 : (i 2).val < 4 := (i 2).isLt; omega), dt_eq VV (DO 0) (DL 0) 0 (o25 i) (i 2).val rfl a r (by have h4 : (i 2).val < 4 := (i 2).isLt; omega)]

set_option maxHeartbeats 1000000 in
include hM in
theorem headQ_1 (w : ∀ a, k0_off30 i a + (![1, 1, 1, 128, 512] : Fin 5 → ℕ) a ≤ S1x4x4x128x512.size a) (hi : ∀ (x : Fin 128) (r : Fin 512), (init.2.1 (ix2 x r) : EReal) = 0) (r : Fin 512) (x : Fin 128) :
    (k0_pay1 (k0_pay113 (k0_pay99 (DO 1) (DL 1) (st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).1.2.1 (k0_pay94 MK (Q 1) (LS 1) (View.ld K (Rect.unit (s := S1x4x2048x128) (k0_off28 i) ![1, 1, 512, 128] (u1)))) (k0_pay96 (View.ld VV (Rect.unit (s := S1x4x2048x128) (k0_off28 i) ![1, 1, 512, 128] (u1)))) (View.ld KT (Rect.unit (s := S1x4x4x128x512) (k0_off30 i) ![1, 1, 1, 128, 512] w)))) : FVec Ideal S1x1x512x128 .bf16) (ix4 0 0 r x)
      = ∑ row : Fin 2048, kT KT 1 x row * (pm K (Q 1) (LS 1) 1 (i 2).val row r * dpw VV (DO 1) (DL 1) 1 row r) := by
  refine (payQ_1 MK hM Q DO LS DL _ _ _ _ r x).trans ?_
  rw [loopR1 𝒱 c bd i arg3 harg3 arg4 harg4 arg5 harg5 arg6 harg6 arg7 harg7 arg8 harg8 arg9 harg9 arg10 harg10 arg11 harg11 arg12 harg12 arg2 v239 v240 cst_105 hs13 hs14 K VV KT Q DO LS DL MK G13 G14 init _ le_rfl x r, hi x r, zero_add, trips_eq i, ← joinQ K VV KT (Q 1) (DO 1) (LS 1) (DL 1) 1 (i 2) x r]
  refine congrArg _ (Finset.sum_congr rfl fun a _ => ?_)
  rw [ld5 KT _ (i 2) 1 w (o30 i) x a, wt_eq K (Q 1) (LS 1) 1 (o28 i) (i 2).val rfl a r (by have h4 : (i 2).val < 4 := (i 2).isLt; omega), dt_eq VV (DO 1) (DL 1) 1 (o28 i) (i 2).val rfl a r (by have h4 : (i 2).val < 4 := (i 2).isLt; omega)]

set_option maxHeartbeats 1000000 in
include hM in
theorem headQ_2 (w : ∀ a, k0_off33 i a + (![1, 1, 1, 128, 512] : Fin 5 → ℕ) a ≤ S1x4x4x128x512.size a) (hi : ∀ (x : Fin 128) (r : Fin 512), (init.2.2.1 (ix2 x r) : EReal) = 0) (r : Fin 512) (x : Fin 128) :
    (k0_pay2 (k0_pay104 (DO 2) (DL 2) (st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).1.2.2.1 (k0_pay100 MK (Q 2) (LS 2) (View.ld K (Rect.unit (s := S1x4x2048x128) (k0_off31 i) ![1, 1, 512, 128] (u2)))) (View.ld VV (Rect.unit (s := S1x4x2048x128) (k0_off31 i) ![1, 1, 512, 128] (u2))) (View.ld KT (Rect.unit (s := S1x4x4x128x512) (k0_off33 i) ![1, 1, 1, 128, 512] w))) : FVec Ideal S1x1x512x128 .bf16) (ix4 0 0 r x)
      = ∑ row : Fin 2048, kT KT 2 x row * (pm K (Q 2) (LS 2) 2 (i 2).val row r * dpw VV (DO 2) (DL 2) 2 row r) := by
  refine (payQ_2 MK hM Q DO LS DL _ _ _ _ r x).trans ?_
  rw [loopR2 𝒱 c bd i arg3 harg3 arg4 harg4 arg5 harg5 arg6 harg6 arg7 harg7 arg8 harg8 arg9 harg9 arg10 harg10 arg11 harg11 arg12 harg12 arg2 v239 v240 cst_105 hs13 hs14 K VV KT Q DO LS DL MK G13 G14 init _ le_rfl x r, hi x r, zero_add, trips_eq i, ← joinQ K VV KT (Q 2) (DO 2) (LS 2) (DL 2) 2 (i 2) x r]
  refine congrArg _ (Finset.sum_congr rfl fun a _ => ?_)
  rw [ld5 KT _ (i 2) 2 w (o33 i) x a, wt_eq K (Q 2) (LS 2) 2 (o31 i) (i 2).val rfl a r (by have h4 : (i 2).val < 4 := (i 2).isLt; omega), dt_eq VV (DO 2) (DL 2) 2 (o31 i) (i 2).val rfl a r (by have h4 : (i 2).val < 4 := (i 2).isLt; omega)]

set_option maxHeartbeats 1000000 in
include hM in
theorem headQ_3 (w : ∀ a, k0_off36 i a + (![1, 1, 1, 128, 512] : Fin 5 → ℕ) a ≤ S1x4x4x128x512.size a) (hi : ∀ (x : Fin 128) (r : Fin 512), (init.2.2.2 (ix2 x r) : EReal) = 0) (r : Fin 512) (x : Fin 128) :
    (k0_pay3 (k0_pay111 (DO 3) (DL 3) (st_k0_t1 (F := Ideal) 𝒱 c bd i arg3 harg3 arg4 harg4 arg5 harg5 arg6 harg6 arg7 harg7 arg8 harg8 arg9 harg9 arg10 harg10 arg11 harg11 arg12 harg12 scM0_0 hs13 scM0_1 hs14 arg2 MK (DO 0) (Q 0) (DL 0) (LS 0) (DO 1) (Q 1) (DL 1) (LS 1) (DO 2) (Q 2) (DL 2) (LS 2) (DO 3) (Q 3) (DL 3) (LS 3) v239 v240 cst_105 (harg4.unread K) (harg5.unread VV) (harg6.unread KT) G13 G14 init (k0_t1_loop i).trips).1.2.2.2 (k0_pay105 MK (Q 3) (LS 3) (View.ld K (Rect.unit (s := S1x4x2048x128) (k0_off34 i) ![1, 1, 512, 128] (u3)))) (View.ld VV (Rect.unit (s := S1x4x2048x128) (k0_off34 i) ![1, 1, 512, 128] (u3))) (View.ld KT (Rect.unit (s := S1x4x4x128x512) (k0_off36 i) ![1, 1, 1, 128, 512] w))) : FVec Ideal S1x1x512x128 .bf16) (ix4 0 0 r x)
      = ∑ row : Fin 2048, kT KT 3 x row * (pm K (Q 3) (LS 3) 3 (i 2).val row r * dpw VV (DO 3) (DL 3) 3 row r) := by
  refine (payQ_3 MK hM Q DO LS DL _ _ _ _ r x).trans ?_
  rw [loopR3 𝒱 c bd i arg3 harg3 arg4 harg4 arg5 harg5 arg6 harg6 arg7 harg7 arg8 harg8 arg9 harg9 arg10 harg10 arg11 harg11 arg12 harg12 arg2 v239 v240 cst_105 hs13 hs14 K VV KT Q DO LS DL MK G13 G14 init _ le_rfl x r, hi x r, zero_add, trips_eq i, ← joinQ K VV KT (Q 3) (DO 3) (LS 3) (DL 3) 3 (i 2) x r]
  refine congrArg _ (Finset.sum_congr rfl fun a _ => ?_)
  rw [ld5 KT _ (i 2) 3 w (o36 i) x a, wt_eq K (Q 3) (LS 3) 3 (o34 i) (i 2).val rfl a r (by have h4 : (i 2).val < 4 := (i 2).isLt; omega), dt_eq VV (DO 3) (DL 3) 3 (o34 i) (i 2).val rfl a r (by have h4 : (i 2).val < 4 := (i 2).isLt; omega)]
end

variable (m : (ℓ : Loc nD τ sig) → Buf (Elt Ideal) ℓ) (c : Dev nD)

set_option maxHeartbeats 1000000 in
theorem stepQ_A (t : Fin cfg0.N) (h0 : t.val % 4 = 0) (h1 : ¬ t.val % 4 = 3) (h : Fin 4) (r : Fin 512) (x : Fin 128) :
    ((outsAt0 (F := Ideal) m c t.val t.isLt).1 : Vec Ideal S1x4x512x128 .bf16) (ix4 0 h r x) = ∑ row : Fin 2048, kT (iblk m c 3 t) h x row * (pm (iblk m c 1 t) (qB (iblk m c 0 t) h) (lsB (iblk m c 6 t) h) h (grid0.coords t 2).val row r * dpw (iblk m c 2 t) (doB (iblk m c 4 t) h) (dlB (iblk m c 4 t) (iblk m c 5 t) h) h row r) := by
  rw [outsAt0_A m c t h0 h1]
  frame_out
  simp only [trips2_eq, st2_none, List.nil_append]
  simp only [qB_0, qB_1, qB_2, qB_3, doB_0, doB_1, doB_2, doB_3, lsB_0, lsB_1, lsB_2, lsB_3, dlB_0, dlB_1, dlB_2, dlB_3]
  refine (canonQ _ _ _ _ h r x).trans ?_
  match h with
  | 0 => exact headQ_0 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (BitVec.ofNat 32 (grid0.coords t 2).val) _ _ _ _ _ (iblk m c 1 t) (iblk m c 2 t) (iblk m c 3 t) (qB (iblk m c 0 t)) (doB (iblk m c 4 t)) (lsB (iblk m c 6 t)) (dlB (iblk m c 4 t) (iblk m c 5 t)) _ mask_at _ _ _ _ _ zQ0 r x
  | 1 => exact headQ_1 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (BitVec.ofNat 32 (grid0.coords t 2).val) _ _ _ _ _ (iblk m c 1 t) (iblk m c 2 t) (iblk m c 3 t) (qB (iblk m c 0 t)) (doB (iblk m c 4 t)) (lsB (iblk m c 6 t)) (dlB (iblk m c 4 t) (iblk m c 5 t)) _ mask_at _ _ _ _ _ zQ1 r x
  | 2 => exact headQ_2 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (BitVec.ofNat 32 (grid0.coords t 2).val) _ _ _ _ _ (iblk m c 1 t) (iblk m c 2 t) (iblk m c 3 t) (qB (iblk m c 0 t)) (doB (iblk m c 4 t)) (lsB (iblk m c 6 t)) (dlB (iblk m c 4 t) (iblk m c 5 t)) _ mask_at _ _ _ _ _ zQ2 r x
  | 3 => exact headQ_3 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (BitVec.ofNat 32 (grid0.coords t 2).val) _ _ _ _ _ (iblk m c 1 t) (iblk m c 2 t) (iblk m c 3 t) (qB (iblk m c 0 t)) (doB (iblk m c 4 t)) (lsB (iblk m c 6 t)) (dlB (iblk m c 4 t) (iblk m c 5 t)) _ mask_at _ _ _ _ _ zQ3 r x

set_option maxHeartbeats 1000000 in
theorem stepQ_B (t : Fin cfg0.N) (h0 : ¬ t.val % 4 = 0) (h1 : ¬ t.val % 4 = 3) (h : Fin 4) (r : Fin 512) (x : Fin 128) :
    ((outsAt0 (F := Ideal) m c t.val t.isLt).1 : Vec Ideal S1x4x512x128 .bf16) (ix4 0 h r x) = ∑ row : Fin 2048, kT (iblk m c 3 t) h x row * (pm (iblk m c 1 t) (qB (iblk m c 0 t) h) (lsB (iblk m c 6 t) h) h (grid0.coords t 2).val row r * dpw (iblk m c 2 t) (doB (iblk m c 4 t) h) (dlB (iblk m c 4 t) (iblk m c 5 t) h) h row r) := by
  rw [outsAt0_B m c t h0 h1]
  frame_out
  simp only [trips2_eq, st2_none, List.nil_append]
  generalize (outsAt0 (F := Ideal) m c (t.val - 1) (Nat.lt_of_le_of_lt (Nat.sub_le _ _) t.isLt)).2.2.2.1 = P13
  generalize (outsAt0 (F := Ideal) m c (t.val - 1) (Nat.lt_of_le_of_lt (Nat.sub_le _ _) t.isLt)).2.2.2.2 = P14
  simp only [qB_0, qB_1, qB_2, qB_3, doB_0, doB_1, doB_2, doB_3, lsB_0, lsB_1, lsB_2, lsB_3, dlB_0, dlB_1, dlB_2, dlB_3]
  refine (canonQ _ _ _ _ h r x).trans ?_
  match h with
  | 0 => exact headQ_0 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (BitVec.ofNat 32 (grid0.coords t 2).val) _ _ _ _ _ (iblk m c 1 t) (iblk m c 2 t) (iblk m c 3 t) (qB (iblk m c 0 t)) (doB (iblk m c 4 t)) (lsB (iblk m c 6 t)) (dlB (iblk m c 4 t) (iblk m c 5 t)) _ mask_at _ _ _ _ _ zQ0 r x
  | 1 => exact headQ_1 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (BitVec.ofNat 32 (grid0.coords t 2).val) _ _ _ _ _ (iblk m c 1 t) (iblk m c 2 t) (iblk m c 3 t) (qB (iblk m c 0 t)) (doB (iblk m c 4 t)) (lsB (iblk m c 6 t)) (dlB (iblk m c 4 t) (iblk m c 5 t)) _ mask_at _ _ _ _ _ zQ1 r x
  | 2 => exact headQ_2 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (BitVec.ofNat 32 (grid0.coords t 2).val) _ _ _ _ _ (iblk m c 1 t) (iblk m c 2 t) (iblk m c 3 t) (qB (iblk m c 0 t)) (doB (iblk m c 4 t)) (lsB (iblk m c 6 t)) (dlB (iblk m c 4 t) (iblk m c 5 t)) _ mask_at _ _ _ _ _ zQ2 r x
  | 3 => exact headQ_3 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (BitVec.ofNat 32 (grid0.coords t 2).val) _ _ _ _ _ (iblk m c 1 t) (iblk m c 2 t) (iblk m c 3 t) (qB (iblk m c 0 t)) (doB (iblk m c 4 t)) (lsB (iblk m c 6 t)) (dlB (iblk m c 4 t) (iblk m c 5 t)) _ mask_at _ _ _ _ _ zQ3 r x

set_option maxHeartbeats 1000000 in
theorem stepQ_C (t : Fin cfg0.N) (h0 : ¬ t.val % 4 = 0) (h1 : t.val % 4 = 3) (h : Fin 4) (r : Fin 512) (x : Fin 128) :
    ((outsAt0 (F := Ideal) m c t.val t.isLt).1 : Vec Ideal S1x4x512x128 .bf16) (ix4 0 h r x) = ∑ row : Fin 2048, kT (iblk m c 3 t) h x row * (pm (iblk m c 1 t) (qB (iblk m c 0 t) h) (lsB (iblk m c 6 t) h) h (grid0.coords t 2).val row r * dpw (iblk m c 2 t) (doB (iblk m c 4 t) h) (dlB (iblk m c 4 t) (iblk m c 5 t) h) h row r) := by
  rw [outsAt0_C m c t h0 h1]
  frame_out
  simp only [trips2_eq, st2_none, List.nil_append]
  generalize (outsAt0 (F := Ideal) m c (t.val - 1) (Nat.lt_of_le_of_lt (Nat.sub_le _ _) t.isLt)).2.2.2.1 = P13
  generalize (outsAt0 (F := Ideal) m c (t.val - 1) (Nat.lt_of_le_of_lt (Nat.sub_le _ _) t.isLt)).2.2.2.2 = P14
  simp only [qB_0, qB_1, qB_2, qB_3, doB_0, doB_1, doB_2, doB_3, lsB_0, lsB_1, lsB_2, lsB_3, dlB_0, dlB_1, dlB_2, dlB_3]
  refine (canonQ _ _ _ _ h r x).trans ?_
  match h with
  | 0 => exact headQ_0 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (BitVec.ofNat 32 (grid0.coords t 2).val) _ _ _ _ _ (iblk m c 1 t) (iblk m c 2 t) (iblk m c 3 t) (qB (iblk m c 0 t)) (doB (iblk m c 4 t)) (lsB (iblk m c 6 t)) (dlB (iblk m c 4 t) (iblk m c 5 t)) _ mask_at _ _ _ _ _ zQ0 r x
  | 1 => exact headQ_1 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (BitVec.ofNat 32 (grid0.coords t 2).val) _ _ _ _ _ (iblk m c 1 t) (iblk m c 2 t) (iblk m c 3 t) (qB (iblk m c 0 t)) (doB (iblk m c 4 t)) (lsB (iblk m c 6 t)) (dlB (iblk m c 4 t) (iblk m c 5 t)) _ mask_at _ _ _ _ _ zQ1 r x
  | 2 => exact headQ_2 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (BitVec.ofNat 32 (grid0.coords t 2).val) _ _ _ _ _ (iblk m c 1 t) (iblk m c 2 t) (iblk m c 3 t) (qB (iblk m c 0 t)) (doB (iblk m c 4 t)) (lsB (iblk m c 6 t)) (dlB (iblk m c 4 t) (iblk m c 5 t)) _ mask_at _ _ _ _ _ zQ2 r x
  | 3 => exact headQ_3 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (BitVec.ofNat 32 (grid0.coords t 2).val) _ _ _ _ _ (iblk m c 1 t) (iblk m c 2 t) (iblk m c 3 t) (qB (iblk m c 0 t)) (doB (iblk m c 4 t)) (lsB (iblk m c 6 t)) (dlB (iblk m c 4 t) (iblk m c 5 t)) _ mask_at _ _ _ _ _ zQ3 r x

end Cert.Kernel3Ideal.Attn
end
-- ==== Proof.AttnAcc.lean ====
module

public import proofs.«01_k».proof.Proof.Gen.Kernel3Ideal.Frame
public import Idealize.ShloMosaic.Lib.Pipeline.ValueKit
public import Idealize.ShloMosaic.Lib.Claim
public import Idealize.ShloMosaic.Lib.WritesUnit
public import proofs.«01_k».proof.Proof.AttnQ
public import Idealize.ShloMosaic.Lib.WholeRead
public import Idealize.ShloMosaic.Lib.WritesUnit

@[expose] public section
set_option maxRecDepth 16384
noncomputable section
open Idealize.ShloMosaic Idealize.ShloMosaic.TcCoe Idealize.SL.Sem
open Idealize.ShloMosaic.Pipeline (Dat)
namespace Cert.Kernel3Ideal.Attn
open Cert.Kernel3Ideal Cert.Kernel3Ideal.Gen

/-! The two accumulators over the four points of one block. -/

theorem pay5_at (X : Vec Ideal S4x2048x128 .f32) (h : Fin 4) (row : Fin 2048) (d : Fin 128) :
    ((k0_pay5 X : FVec Ideal S1x4x2048x128 .bf16) (ix4 0 h row d) : EReal) = X (ix3 h row d) := by
  pointwise [k0_pay5]

theorem pay4_at (X : Vec Ideal S4x2048x128 .f32) (h : Fin 4) (row : Fin 2048) (d : Fin 128) :
    ((k0_pay4 X : FVec Ideal S1x4x2048x128 .bf16) (ix4 0 h row d) : EReal) = (X (ix3 h row d) : EReal) * ((Real.log 2 : ℝ) : EReal) := by
  pointwise [k0_pay4]
  rfl

variable (m : (ℓ : Loc nD τ sig) → Buf (Elt Ideal) ℓ) (c : Dev nD)

set_option maxHeartbeats 1000000 in
theorem out9_C (t : Fin cfg0.N) (h0 : ¬ t.val % 4 = 0) (h1 : t.val % 4 = 3) (h : Fin 4) (row : Fin 2048) (d : Fin 128) :
    ((outsAt0 (F := Ideal) m c t.val t.isLt).2.2.1 : Vec Ideal S1x4x2048x128 .bf16) (ix4 0 h row d) = ((outsAt0 (F := Ideal) m c t.val t.isLt).2.2.2.2 : Vec Ideal S4x2048x128 .f32) (ix3 h row d) := by
  rw [outsAt0_C m c t h0 h1]
  frame_out
  generalize (outsAt0 (F := Ideal) m c (t.val - 1) (Nat.lt_of_le_of_lt (Nat.sub_le _ _) t.isLt)).2.2.2.1 = P13
  generalize (outsAt0 (F := Ideal) m c (t.val - 1) (Nat.lt_of_le_of_lt (Nat.sub_le _ _) t.isLt)).2.2.2.2 = P14
  exact pay5_at _ h row d

set_option maxHeartbeats 1000000 in
theorem out8_C (t : Fin cfg0.N) (h0 : ¬ t.val % 4 = 0) (h1 : t.val % 4 = 3) (h : Fin 4) (row : Fin 2048) (d : Fin 128) :
    ((outsAt0 (F := Ideal) m c t.val t.isLt).2.1 : Vec Ideal S1x4x2048x128 .bf16) (ix4 0 h row d) = ((((outsAt0 (F := Ideal) m c t.val t.isLt).2.2.2.1 : Vec Ideal S4x2048x128 .f32) (ix3 h row d) : EReal) * ((Real.log 2 : ℝ) : EReal) : EReal) := by
  rw [outsAt0_C m c t h0 h1]
  frame_out
  generalize (outsAt0 (F := Ideal) m c (t.val - 1) (Nat.lt_of_le_of_lt (Nat.sub_le _ _) t.isLt)).2.2.2.1 = P13
  generalize (outsAt0 (F := Ideal) m c (t.val - 1) (Nat.lt_of_le_of_lt (Nat.sub_le _ _) t.isLt)).2.2.2.2 = P14
  exact pay4_at _ h row d

/-- One point's part of the gradient of the values. -/
def add14 (t : Fin cfg0.N) (h : Fin 4) (row : Fin 2048) (d : Fin 128) : EReal := ∑ r : Fin 512, pm (iblk m c 1 t) (qB (iblk m c 0 t) h) (lsB (iblk m c 6 t) h) h (grid0.coords t 2).val row r * (doB (iblk m c 4 t) h (ix2 r d) : EReal)

/-- One point's part of the gradient of the keys. -/
def add13 (t : Fin cfg0.N) (h : Fin 4) (row : Fin 2048) (d : Fin 128) : EReal := ∑ r : Fin 512, pm (iblk m c 1 t) (qB (iblk m c 0 t) h) (lsB (iblk m c 6 t) h) h (grid0.coords t 2).val row r * dpw (iblk m c 2 t) (doB (iblk m c 4 t) h) (dlB (iblk m c 4 t) (iblk m c 5 t) h) h row r * (qB (iblk m c 0 t) h (ix2 r d) : EReal)

/-- A sum kept over runs of four points. -/
theorem fourPts {N : ℕ} (f : (n : ℕ) → n < N → EReal) (g : Fin N → EReal) (hA : ∀ t : Fin N, t.val % 4 = 0 → f t.val t.isLt = g t)
    (hB : ∀ t : Fin N, ¬ t.val % 4 = 0 → f t.val t.isLt = f (t.val - 1) (Nat.lt_of_le_of_lt (Nat.sub_le _ _) t.isLt) + g t) (t : Fin N) (h3 : t.val % 4 = 3) :
    f t.val t.isLt = ∑ s : Fin 4, g ⟨t.val - 3 + s.val, by have := t.isLt; omega⟩ := by
  obtain ⟨n, hn⟩ := t
  obtain ⟨k, rfl⟩ : ∃ k, n = k + 3 := ⟨n - 3, by simp only [] at h3; omega⟩
  simp only [] at h3
  rw [Fin.sum_univ_four, hB ⟨k + 3, hn⟩ (by simp only []; omega)]
  have e2 := hB ⟨k + 2, by omega⟩ (by simp only []; omega)
  have e1 := hB ⟨k + 1, by omega⟩ (by simp only []; omega)
  have e0 := hA ⟨k, by omega⟩ (by simp only []; omega)
  simp only [Nat.add_sub_cancel] at e2 e1 e0 ⊢
  rw [show f (k + 3 - 1) _ = _ from e2, show f (k + 2 - 1) _ = _ from e1, e0]
  rfl

theorem sum14 (t : Fin cfg0.N) (h3 : t.val % 4 = 3) (h : Fin 4) (row : Fin 2048) (d : Fin 128) :
    ((outsAt0 (F := Ideal) m c t.val t.isLt).2.2.2.2 : Vec Ideal S4x2048x128 .f32) (ix3 h row d) = ∑ s : Fin 4, add14 m c ⟨t.val - 3 + s.val, by have := t.isLt; omega⟩ h row d :=
  fourPts (fun n hn => ((outsAt0 (F := Ideal) m c n hn).2.2.2.2 : Vec Ideal S4x2048x128 .f32) (ix3 h row d)) (fun t => add14 m c t h row d)
    (fun t h0 => step14_A m c t h0 (by omega) h row d)
    (fun t h0 => by
      by_cases h1 : t.val % 4 = 3
      · exact step14_C m c t h0 h1 h row d
      · exact step14_B m c t h0 h1 h row d) t h3

theorem sum13 (t : Fin cfg0.N) (h3 : t.val % 4 = 3) (h : Fin 4) (row : Fin 2048) (d : Fin 128) :
    ((outsAt0 (F := Ideal) m c t.val t.isLt).2.2.2.1 : Vec Ideal S4x2048x128 .f32) (ix3 h row d) = ∑ s : Fin 4, add13 m c ⟨t.val - 3 + s.val, by have := t.isLt; omega⟩ h row d :=
  fourPts (fun n hn => ((outsAt0 (F := Ideal) m c n hn).2.2.2.1 : Vec Ideal S4x2048x128 .f32) (ix3 h row d)) (fun t => add13 m c t h row d)
    (fun t h0 => step13_A m c t h0 (by omega) h row d)
    (fun t h0 => by
      by_cases h1 : t.val % 4 = 3
      · exact step13_C m c t h0 h1 h row d
      · exact step13_B m c t h0 h1 h row d) t h3

end Cert.Kernel3Ideal.Attn
end
-- ==== Proof.AttnIn.lean ====
module

public import proofs.«01_k».proof.Proof.Gen.Kernel3Ideal.Frame
public import Idealize.ShloMosaic.Lib.Pipeline.ValueKit
public import Idealize.ShloMosaic.Lib.Claim
public import Idealize.ShloMosaic.Lib.WritesUnit
public import proofs.«01_k».proof.Proof.AttnAcc
public import Idealize.ShloMosaic.Lib.WholeRead
public import Idealize.ShloMosaic.Lib.WritesUnit

@[expose] public section
set_option maxRecDepth 16384
noncomputable section
open Idealize.ShloMosaic Idealize.ShloMosaic.TcCoe Idealize.SL.Sem
open Idealize.ShloMosaic.Pipeline (Dat)
namespace Cert.Kernel3Ideal.Attn
open Cert.Kernel3Ideal Cert.Kernel3Ideal.Gen

/-! The blocks of one point as parts of the whole arrays. -/

/-- The attention weight of a key for a query, from arrays laid out for the kernel: base two, under the causal mask of chunks of 64. -/
def gP (Q K : Vec Ideal S4x8x2048x128 .bf16) (LS : Vec Ideal S4x8x8x2048 .f32) (b : Fin 4) (H : Fin 8) (key s : Fin 2048) : EReal :=
  if key.val / 64 ≤ s.val / 64 then Ideal.exp2 ((∑ x : Fin 128, (K (ix4 b H key x) : EReal) * (Q (ix4 b H s x) : EReal)) - (LS (ix4 b H 0 s) : EReal)) else 0

/-- The lane of the paired output in which lane `x` of head `H` lies. -/
def pl (H : Fin 8) (x : Fin 128) : Fin 512 := ⟨128 * (H.val / 2) + x.val, by omega⟩

/-- The gradient of one weight before the softmax's own, less the row sum. -/
def gD (Vv : Vec Ideal S4x8x2048x128 .bf16) (DO O : Vec Ideal S4x2048x512 .bf16) (b : Fin 4) (H : Fin 8) (key s : Fin 2048) : EReal :=
  (∑ x : Fin 128, (Vv (ix4 b H key x) : EReal) * (DO (ix3 b s (pl H x)) : EReal))
    - ∑ x : Fin 128, (if x.val / 64 = H.val % 2 then (DO (ix3 b s (pl H x)) : EReal) * (O (ix3 b s (pl H x)) : EReal) else 0)

theorem idx : ∀ t : Fin cfg0.N, win0_0.index t = ![t.val / 8, t.val / 4 % 2, t.val % 4, 0]
    ∧ win0_1.index t = ![t.val / 8, t.val / 4 % 2, 0, 0]
    ∧ win0_2.index t = ![t.val / 8, t.val / 4 % 2, 0, 0]
    ∧ win0_3.index t = ![t.val / 8, t.val / 4 % 2, 0, 0, 0]
    ∧ win0_4.index t = ![t.val / 8, t.val % 4, t.val / 4 % 2]
    ∧ win0_5.index t = ![t.val / 8, t.val % 4, t.val / 4 % 2]
    ∧ win0_6.index t = ![t.val / 8, t.val / 4 % 2, 0, t.val % 4]
    ∧ win0_7.index t = ![t.val / 8, t.val / 4 % 2, t.val % 4, 0]
    ∧ win0_8.index t = ![t.val / 8, t.val / 4 % 2, 0, 0]
    ∧ win0_9.index t = ![t.val / 8, t.val / 4 % 2, 0, 0] :=
  (by decide +kernel : ∀ t : Fin grid0.N, _)

theorem crd : ∀ t : Fin cfg0.N, (grid0.coords t 2).val = t.val % 4 := (by decide +kernel : ∀ t : Fin grid0.N, _)

theorem tlt (t : Fin cfg0.N) : t.val < 32 := t.isLt
/-- The batch entry of a point. -/
def bt (t : Fin cfg0.N) : Fin 4 := ⟨t.val / 8, by have := tlt t; omega⟩
/-- The head of a point and of a head of its block. -/
def hd (t : Fin cfg0.N) (h : Fin 4) : Fin 8 := ⟨4 * (t.val / 4 % 2) + h.val, by omega⟩
/-- The query of a point and of a row of its tile. -/
def qr (t : Fin cfg0.N) (r : Fin 512) : Fin 2048 := ⟨512 * (t.val % 4) + r.val, by omega⟩

theorem rdb0 (XX : Vec Ideal S4x8x2048x128 .bf16) (t : Fin cfg0.N) (h : Fin 4) (r : Fin 512) (x : Fin 128) : View.read (Elt Ideal) ((cfg0.win 0).blk t).view XX (ix4 0 h r x : S1x4x512x128.Idx) = XX (ix4 (bt t) (hd t h) (qr t r) x) := by
  blk_point [idx t] <;> simp only [bt, hd, qr] <;> omega

theorem rdb1 (XX : Vec Ideal S4x8x2048x128 .bf16) (t : Fin cfg0.N) (h : Fin 4) (r : Fin 2048) (x : Fin 128) : View.read (Elt Ideal) ((cfg0.win 1).blk t).view XX (ix4 0 h r x : S1x4x2048x128.Idx) = XX (ix4 (bt t) (hd t h) r x) := by
  blk_point [idx t] <;> simp only [bt, hd, qr] <;> omega

theorem rdb2 (XX : Vec Ideal S4x8x2048x128 .bf16) (t : Fin cfg0.N) (h : Fin 4) (r : Fin 2048) (x : Fin 128) : View.read (Elt Ideal) ((cfg0.win 2).blk t).view XX (ix4 0 h r x : S1x4x2048x128.Idx) = XX (ix4 (bt t) (hd t h) r x) := by
  blk_point [idx t] <;> simp only [bt, hd, qr] <;> omega

theorem rdb3 (XX : Vec Ideal S4x8x4x128x512 .bf16) (t : Fin cfg0.N) (h n : Fin 4) (x : Fin 128) (a : Fin 512) : View.read (Elt Ideal) ((cfg0.win 3).blk t).view XX (ix5 0 h n x a : S1x4x4x128x512.Idx) = XX (ix5 (bt t) (hd t h) n x a) := by
  blk_point [idx t] <;> simp only [bt, hd, qr] <;> omega

theorem rdb4 (XX : Vec Ideal S4x2048x512 .bf16) (t : Fin cfg0.N) (r : Fin 512) (x : Fin 256) : View.read (Elt Ideal) ((cfg0.win 4).blk t).view XX (ix3 0 r x : S1x512x256.Idx) = XX (ix3 (bt t) (qr t r) ⟨256 * (t.val / 4 % 2) + x.val, by omega⟩) := by
  blk_point [idx t] <;> simp only [bt, hd, qr] <;> omega

theorem rdb5 (XX : Vec Ideal S4x2048x512 .bf16) (t : Fin cfg0.N) (r : Fin 512) (x : Fin 256) : View.read (Elt Ideal) ((cfg0.win 5).blk t).view XX (ix3 0 r x : S1x512x256.Idx) = XX (ix3 (bt t) (qr t r) ⟨256 * (t.val / 4 % 2) + x.val, by omega⟩) := by
  blk_point [idx t] <;> simp only [bt, hd, qr] <;> omega

theorem rdb6 (XX : Vec Ideal S4x8x8x2048 .f32) (t : Fin cfg0.N) (h : Fin 4) (e : Fin 8) (r : Fin 512) : View.read (Elt Ideal) ((cfg0.win 6).blk t).view XX (ix4 0 h e r : S1x4x8x512.Idx) = XX (ix4 (bt t) (hd t h) e (qr t r)) := by
  blk_point [idx t] <;> simp only [bt, hd, qr] <;> omega

variable (m : (ℓ : Loc nD τ sig) → Buf (Elt Ideal) ℓ) (c : Dev nD)

theorem in0 (t : Fin cfg0.N) (h : Fin 4) (r : Fin 512) (x : Fin 128) : ((iblk m c 0 t : Vec Ideal S1x4x512x128 .bf16) (ix4 0 h r x) : EReal) = (V m c main_v18 : Vec Ideal S4x8x2048x128 .bf16) (ix4 (bt t) (hd t h) (qr t r) x) := by
  unfold iblk
  rw [show V m c (Pipeline.arrRef spec0 0) = V m c main_v18 from rfl]
  exact rdb0 _ t h r x

theorem in1 (t : Fin cfg0.N) (h : Fin 4) (r : Fin 2048) (x : Fin 128) : ((iblk m c 1 t : Vec Ideal S1x4x2048x128 .bf16) (ix4 0 h r x) : EReal) = (V m c main_v27 : Vec Ideal S4x8x2048x128 .bf16) (ix4 (bt t) (hd t h) r x) := by
  unfold iblk
  rw [show V m c (Pipeline.arrRef spec0 1) = V m c main_v27 from rfl]
  exact rdb1 _ t h r x

theorem in2 (t : Fin cfg0.N) (h : Fin 4) (r : Fin 2048) (x : Fin 128) : ((iblk m c 2 t : Vec Ideal S1x4x2048x128 .bf16) (ix4 0 h r x) : EReal) = (V m c main_v34 : Vec Ideal S4x8x2048x128 .bf16) (ix4 (bt t) (hd t h) r x) := by
  unfold iblk
  rw [show V m c (Pipeline.arrRef spec0 2) = V m c main_v34 from rfl]
  exact rdb2 _ t h r x

theorem in3 (t : Fin cfg0.N) (h n : Fin 4) (x : Fin 128) (a : Fin 512) : ((iblk m c 3 t : Vec Ideal S1x4x4x128x512 .bf16) (ix5 0 h n x a) : EReal) = (V m c main_v36 : Vec Ideal S4x8x4x128x512 .bf16) (ix5 (bt t) (hd t h) n x a) := by
  unfold iblk
  rw [show V m c (Pipeline.arrRef spec0 3) = V m c main_v36 from rfl]
  exact rdb3 _ t h n x a

theorem in4 (t : Fin cfg0.N) (r : Fin 512) (x : Fin 256) : ((iblk m c 4 t : Vec Ideal S1x512x256 .bf16) (ix3 0 r x) : EReal) = (V m c main_arg3 : Vec Ideal S4x2048x512 .bf16) (ix3 (bt t) (qr t r) ⟨256 * (t.val / 4 % 2) + x.val, by omega⟩) := by
  unfold iblk
  rw [show V m c (Pipeline.arrRef spec0 4) = V m c main_arg3 from rfl]
  exact rdb4 _ t r x

theorem in5 (t : Fin cfg0.N) (r : Fin 512) (x : Fin 256) : ((iblk m c 5 t : Vec Ideal S1x512x256 .bf16) (ix3 0 r x) : EReal) = (V m c main_v167 : Vec Ideal S4x2048x512 .bf16) (ix3 (bt t) (qr t r) ⟨256 * (t.val / 4 % 2) + x.val, by omega⟩) := by
  unfold iblk
  rw [show V m c (Pipeline.arrRef spec0 5) = V m c main_v167 from rfl]
  exact rdb5 _ t r x

theorem in6 (t : Fin cfg0.N) (h : Fin 4) (e : Fin 8) (r : Fin 512) : ((iblk m c 6 t : Vec Ideal S1x4x8x512 .f32) (ix4 0 h e r) : EReal) = (V m c main_v173 : Vec Ideal S4x8x8x2048 .f32) (ix4 (bt t) (hd t h) e (qr t r)) := by
  unfold iblk
  rw [show V m c (Pipeline.arrRef spec0 6) = V m c main_v173 from rfl]
  exact rdb6 _ t h e r

theorem pm_eq (t : Fin cfg0.N) (h : Fin 4) (row : Fin 2048) (r : Fin 512) :
    pm (iblk m c 1 t) (qB (iblk m c 0 t) h) (lsB (iblk m c 6 t) h) h (grid0.coords t 2).val row r
      = gP (V m c main_v18) (V m c main_v27) (V m c main_v173) (bt t) (hd t h) row (qr t r) := by
  unfold pm pw gP
  rw [crd t, lsB_at (iblk m c 6 t) h r, in6 m c t h 0 r]
  simp only [qB_at, in0 m c t h r, in1 m c t h row]
  rfl

theorem dpw_eq (t : Fin cfg0.N) (h : Fin 4) (row : Fin 2048) (r : Fin 512) :
    dpw (iblk m c 2 t) (doB (iblk m c 4 t) h) (dlB (iblk m c 4 t) (iblk m c 5 t) h) h row r
      = gD (V m c main_v34) (V m c main_arg3) (V m c main_v167) (bt t) (hd t h) row (qr t r) := by
  have hp : (hd t h).val % 2 = h.val % 2 := by unfold hd; simp only []; omega
  have hl : ∀ x : Fin 128, pl (hd t h) x = ⟨256 * (t.val / 4 % 2) + (128 * (h.val / 2) + x.val), by omega⟩ := fun x => Fin.ext (by unfold pl hd; simp only []; omega)
  unfold dpw gD
  rw [dlB_at (iblk m c 4 t) (iblk m c 5 t) h r, hp]
  simp only [doB_at, in2 m c t h row, in4 m c t r, in5 m c t r, hl]

end Cert.Kernel3Ideal.Attn
end
-- ==== Proof.AttnRun.lean ====
module

public import proofs.«01_k».proof.Proof.Gen.Kernel3Ideal.Frame
public import Idealize.ShloMosaic.Lib.Pipeline.ValueKit
public import Idealize.ShloMosaic.Lib.Claim
public import Idealize.ShloMosaic.Lib.WritesUnit
public import proofs.«01_k».proof.Proof.AttnIn
public import Idealize.ShloMosaic.Lib.WholeRead
public import Idealize.ShloMosaic.Lib.WritesUnit

@[expose] public section
set_option maxRecDepth 16384
noncomputable section
open Idealize.ShloMosaic Idealize.ShloMosaic.TcCoe Idealize.SL.Sem
open Idealize.ShloMosaic.Pipeline (Dat)
namespace Cert.Kernel3Ideal.Attn
open Cert.Kernel3Ideal Cert.Kernel3Ideal.Gen

theorem rdb7 (XX : Vec Ideal S4x8x2048x128 .bf16) (t : Fin cfg0.N) (h : Fin 4) (r : Fin 512) (x : Fin 128) : View.read (Elt Ideal) ((cfg0.win 7).blk t).view XX (ix4 0 h r x : S1x4x512x128.Idx) = XX (ix4 (bt t) (hd t h) (qr t r) x) := by
  blk_point [idx t] <;> simp only [bt, hd, qr] <;> omega

theorem rdb8 (XX : Vec Ideal S4x8x2048x128 .bf16) (t : Fin cfg0.N) (h : Fin 4) (r : Fin 2048) (x : Fin 128) : View.read (Elt Ideal) ((cfg0.win 8).blk t).view XX (ix4 0 h r x : S1x4x2048x128.Idx) = XX (ix4 (bt t) (hd t h) r x) := by
  blk_point [idx t] <;> simp only [bt, hd, qr] <;> omega

theorem rdb9 (XX : Vec Ideal S4x8x2048x128 .bf16) (t : Fin cfg0.N) (h : Fin 4) (r : Fin 2048) (x : Fin 128) : View.read (Elt Ideal) ((cfg0.win 9).blk t).view XX (ix4 0 h r x : S1x4x2048x128.Idx) = XX (ix4 (bt t) (hd t h) r x) := by
  blk_point [idx t] <;> simp only [bt, hd, qr] <;> omega

/-- The four tiles of queries of the points of a block are all queries. -/
theorem sum_queries (t : Fin cfg0.N) (h3 : t.val % 4 = 3) (f : Fin 4 → Fin 8 → Fin 2048 → EReal) (h : Fin 4) :
    ∑ s : Fin 4, ∑ r : Fin 512, f (bt ⟨t.val - 3 + s.val, by have := t.isLt; omega⟩) (hd ⟨t.val - 3 + s.val, by have := t.isLt; omega⟩ h) (qr ⟨t.val - 3 + s.val, by have := t.isLt; omega⟩ r)
      = ∑ q : Fin 2048, f (bt t) (hd t h) q := by
  rw [Fin.sum_univ_tiles 4 512 rfl (fun q => f (bt t) (hd t h) q)]
  refine Finset.sum_congr rfl fun s _ => Finset.sum_congr rfl fun r _ => ?_
  have hb : bt ⟨t.val - 3 + s.val, by have := t.isLt; omega⟩ = bt t := Fin.ext (by simp only [bt]; omega)
  have hh : hd ⟨t.val - 3 + s.val, by have := t.isLt; omega⟩ h = hd t h := Fin.ext (by simp only [hd]; omega)
  rw [hb, hh]
  refine congrArg (f (bt t) (hd t h)) (Fin.ext ?_)
  simp only [qr]
  omega

/-- The keys, transposed and in tiles, read as one array. -/
def gT (KT : Vec Ideal S4x8x4x128x512 .bf16) (b : Fin 4) (H : Fin 8) (x : Fin 128) (key : Fin 2048) : EReal :=
  KT (ix5 b H ⟨key.val / 512, by omega⟩ x ⟨key.val % 512, Nat.mod_lt _ (by norm_num)⟩)

variable (m : (ℓ : Loc nD τ sig) → Buf (Elt Ideal) ℓ) (c : Dev nD)

/-- The gradient of the values, in the kernel's layout. -/
def dV : Vec Ideal S4x8x2048x128 .bf16 := fun y => let b : Fin 4 := y 0; let H : Fin 8 := y 1; let key : Fin 2048 := y 2; let d : Fin 128 := y 3
  (∑ s : Fin 2048, gP (V m c main_v18) (V m c main_v27) (V m c main_v173) b H key s * ((V m c main_arg3) (ix3 b s (pl H d)) : EReal) : EReal)

/-- The gradient of the keys, in the kernel's layout. -/
def dK : Vec Ideal S4x8x2048x128 .bf16 := fun y => let b : Fin 4 := y 0; let H : Fin 8 := y 1; let key : Fin 2048 := y 2; let x : Fin 128 := y 3
  ((∑ s : Fin 2048, gP (V m c main_v18) (V m c main_v27) (V m c main_v173) b H key s * gD (V m c main_v34) (V m c main_arg3) (V m c main_v167) b H key s * ((V m c main_v18) (ix4 b H s x) : EReal)) * ((Real.log 2 : ℝ) : EReal) : EReal)

/-- The gradient of the queries, in the kernel's layout. -/
def dQ : Vec Ideal S4x8x2048x128 .bf16 := fun y => let b : Fin 4 := y 0; let H : Fin 8 := y 1; let s : Fin 2048 := y 2; let x : Fin 128 := y 3
  (∑ key : Fin 2048, gT (V m c main_v36) b H x key * (gP (V m c main_v18) (V m c main_v27) (V m c main_v173) b H key s * gD (V m c main_v34) (V m c main_arg3) (V m c main_v167) b H key s) : EReal)

theorem val9 (t : Fin cfg0.N) (h3 : t.val % 4 = 3) (h : Fin 4) (row : Fin 2048) (d : Fin 128) :
    ((outsAt0 (F := Ideal) m c t.val t.isLt).2.2.1 : Vec Ideal S1x4x2048x128 .bf16) (ix4 0 h row d) = dV m c (ix4 (bt t) (hd t h) row d) := by
  refine (out9_C m c t (by omega) h3 h row d).trans ((sum14 m c t h3 h row d).trans ?_)
  refine Eq.trans (Finset.sum_congr rfl fun s _ => Finset.sum_congr rfl fun r _ => ?_) (sum_queries t h3 (fun b H q => gP (V m c main_v18) (V m c main_v27) (V m c main_v173) b H row q * ((V m c main_arg3) (ix3 b q (pl H d)) : EReal)) h)
  rw [pm_eq, doB_at, in4]
  refine congrArg (_ * ·) (congrArg (V m c main_arg3) (congrArg (ix3 _ _) (Fin.ext ?_)))
  simp only [pl, hd]
  omega

theorem val8 (t : Fin cfg0.N) (h3 : t.val % 4 = 3) (h : Fin 4) (row : Fin 2048) (d : Fin 128) :
    ((outsAt0 (F := Ideal) m c t.val t.isLt).2.1 : Vec Ideal S1x4x2048x128 .bf16) (ix4 0 h row d) = dK m c (ix4 (bt t) (hd t h) row d) := by
  refine (out8_C m c t (by omega) h3 h row d).trans (congrArg (· * ((Real.log 2 : ℝ) : EReal)) ((sum13 m c t h3 h row d).trans ?_))
  refine Eq.trans (Finset.sum_congr rfl fun s _ => Finset.sum_congr rfl fun r _ => ?_) (sum_queries t h3 (fun b H q => gP (V m c main_v18) (V m c main_v27) (V m c main_v173) b H row q * gD (V m c main_v34) (V m c main_arg3) (V m c main_v167) b H row q * ((V m c main_v18) (ix4 b H q d) : EReal)) h)
  rw [pm_eq, dpw_eq, qB_at, in0]

theorem val7 (t : Fin cfg0.N) (h : Fin 4) (r : Fin 512) (x : Fin 128) :
    ((outsAt0 (F := Ideal) m c t.val t.isLt).1 : Vec Ideal S1x4x512x128 .bf16) (ix4 0 h r x) = dQ m c (ix4 (bt t) (hd t h) (qr t r) x) := by
  have key : ((outsAt0 (F := Ideal) m c t.val t.isLt).1 : Vec Ideal S1x4x512x128 .bf16) (ix4 0 h r x) = ∑ row : Fin 2048, kT (iblk m c 3 t) h x row * (pm (iblk m c 1 t) (qB (iblk m c 0 t) h) (lsB (iblk m c 6 t) h) h (grid0.coords t 2).val row r * dpw (iblk m c 2 t) (doB (iblk m c 4 t) h) (dlB (iblk m c 4 t) (iblk m c 5 t) h) h row r) := by
    by_cases h0 : t.val % 4 = 0
    · exact stepQ_A m c t h0 (by omega) h r x
    · by_cases h1 : t.val % 4 = 3
      · exact stepQ_C m c t h0 h1 h r x
      · exact stepQ_B m c t h0 h1 h r x
  refine key.trans (Finset.sum_congr rfl fun row _ => ?_)
  rw [pm_eq, dpw_eq, kT, in3]
  rfl

theorem final7 : (dats m 0 c).arrAt 7 (cfgs 0).N = dQ m c := by
  refine (dats m 0 c).arrAt_eq_of_covers 7 _ (by decide +kernel) fun t hf y => ?_
  have hy : ∀ z : S1x4x512x128.Idx, z = ix4 0 (z 1) (z 2) (z 3) := fun z => funext fun a => by
    fin_cases a
    · exact Fin.ext (by have := (z 0).isLt; simp only [ix4]; change _ < 1 at this; change (z 0).val = 0; omega)
    all_goals rfl
  refine Eq.trans (show _ = (_ : EReal) from (congrFun (after0_7 m c t) y).trans ((congrArg _ (hy y)).trans (val7 m c t (y 1) (y 2) (y 3)))) ?_
  exact (rdb7 (dQ m c) t (y 1) (y 2) (y 3)).symm.trans (congrArg (View.read (Elt Ideal) ((cfg0.win 7).blk t).view (dQ m c)) (hy y).symm)

theorem final8 : (dats m 0 c).arrAt 8 (cfgs 0).N = dK m c := by
  refine (dats m 0 c).arrAt_eq_of_covers 8 _ (by decide +kernel) fun t hf y => ?_
  have hy : ∀ z : S1x4x2048x128.Idx, z = ix4 0 (z 1) (z 2) (z 3) := fun z => funext fun a => by
    fin_cases a
    · exact Fin.ext (by have := (z 0).isLt; simp only [ix4]; change _ < 1 at this; change (z 0).val = 0; omega)
    all_goals rfl
  refine Eq.trans (show _ = (_ : EReal) from (congrFun (after0_8 m c t) y).trans ((congrArg _ (hy y)).trans (val8 m c t ((flush0_8 t).mp hf) (y 1) (y 2) (y 3)))) ?_
  exact (rdb8 (dK m c) t (y 1) (y 2) (y 3)).symm.trans (congrArg (View.read (Elt Ideal) ((cfg0.win 8).blk t).view (dK m c)) (hy y).symm)

theorem final9 : (dats m 0 c).arrAt 9 (cfgs 0).N = dV m c := by
  refine (dats m 0 c).arrAt_eq_of_covers 9 _ (by decide +kernel) fun t hf y => ?_
  have hy : ∀ z : S1x4x2048x128.Idx, z = ix4 0 (z 1) (z 2) (z 3) := fun z => funext fun a => by
    fin_cases a
    · exact Fin.ext (by have := (z 0).isLt; simp only [ix4]; change _ < 1 at this; change (z 0).val = 0; omega)
    all_goals rfl
  refine Eq.trans (show _ = (_ : EReal) from (congrFun (after0_9 m c t) y).trans ((congrArg _ (hy y)).trans (val9 m c t ((flush0_9 t).mp hf) (y 1) (y 2) (y 3)))) ?_
  exact (rdb9 (dV m c) t (y 1) (y 2) (y 3)).symm.trans (congrArg (View.read (Elt Ideal) ((cfg0.win 9).blk t).view (dV m c)) (hy y).symm)

end Cert.Kernel3Ideal.Attn
end
-- ==== Proof.AttnSaved.lean ====
module

public import proofs.«01_k».proof.Proof.Gen.Kernel3Ideal.Frame
public import Idealize.ShloMosaic.Lib.Pipeline.ValueKit
public import Idealize.ShloMosaic.Lib.Claim
public import Idealize.ShloMosaic.Lib.StableHlo.RunRead
public import proofs.«01_k».proof.Proof.AttnReal
public import proofs.«01_k».proof.Proof.AttnStages
public import proofs.«01_k».proof.Proof.AttnSoft
public import proofs.«01_k».proof.Proof.AttnRun

@[expose] public section
set_option maxRecDepth 16384
noncomputable section
open Idealize.ShloMosaic Idealize.ShloMosaic.TcCoe Idealize.SL.Sem
open Idealize.ShloMosaic.Pipeline (Dat)
namespace Cert.Kernel3Ideal.Attn
open Cert.Kernel3Ideal Cert.Kernel3Ideal.Gen

/-! The saved values of the host lines over the reals: the attention's output and its row log-sum. -/

/-- The lane that carries the row sum, read out of the accumulator. -/
def laneSum (L : IVec S1x8x1x128 1) (A : FVec Ideal S4x8x2048x128 .f32) (Z : FVec Ideal S_ .f32) : FVec Ideal S4x8x2048x1 .f32 :=
  broadcastInDim S4x8x2048x1 ![0, 1, 2] bcast_S4x8x2048_S4x8x2048x1_0_1_2
    (Host.reduceAdd (select (broadcastInDim S4x8x2048x128 ![0, 1, 2, 3] bcast_S1x8x1x128_S4x8x2048x128_0_1_2_3 L) A
      (broadcastInDim S4x8x2048x128 ![] bcast_S_S4x8x2048x128 Z))
      (constant S_ .f32 0x00000000#32 : FVec Ideal S_ .f32) reducesTo_S4x8x2048x128_S4x8x2048_d3 h_S_)

theorem laneSum_at (L : IVec S1x8x1x128 1) (A : FVec Ideal S4x8x2048x128 .f32) (Z : FVec Ideal S_ .f32) (hZ : ∀ i, @Eq EReal (Z i) 0) (b : Fin 4) (H : Fin 8) (s : Fin 2048) :
    e1 (laneSum L A Z) b H s = ∑ x, Scalar.select (L (ix4 0 H 0 x)) (eA A b H s x) 0 := by
  unfold laneSum e1 eA
  pointwise
  simp only [hZ]

/-- Lane of the pair of heads that holds lane `x` of head `H`. -/
def own (H : Fin 8) (x : Fin 64) : Fin 128 := ⟨64 * (H.val % 2) + x.val, by omega⟩

/-- The accumulator over the row sum, each head's own lanes. -/
def divided (A : FVec Ideal S4x8x2048x128 .f32) (l : FVec Ideal S4x8x2048x1 .f32) : FVec Ideal S4x8x2048x128 .f32 :=
  mulf A (broadcastInDim S4x8x2048x128 ![0, 1, 2, 3] bcast_S4x8x2048x1_S4x8x2048x128_0_1_2_3
    (Host.divf (broadcastInDim S4x8x2048x1 ![] bcast_S_S4x8x2048x1 (constant S_ .f32 0x3F800000#32 : FVec Ideal S_ .f32)) l))

/-- A half of the lanes of every other head. -/
def halfHeads (O : FVec Ideal S4x8x2048x128 .f32) (o e : ℕ) (h : S4x8x2048x128.Slices ![0, 0, 0, o] S4x8x2048x64) (h' : S4x8x2048x64.SlicesBy ![0, e, 0, 0] ![1, 2, 1, 1] S4x4x2048x64) : FVec Ideal S4x4x1x2048x64 .f32 :=
  broadcastInDim S4x4x1x2048x64 ![0, 1, 3, 4] bcast_S4x4x2048x64_S4x4x1x2048x64_0_1_3_4 (Host.slice S4x4x2048x64 ![0, e, 0, 0] ![1, 2, 1, 1] (extractStridedSlice S4x8x2048x64 ![0, 0, 0, o] O h) h')

/-- Even and odd heads interleaved. -/
def paired (A B : FVec Ideal S4x4x1x2048x64 .f32) : FVec Ideal S4x4x2x2048x64 .f32 :=
  concatenate S4x4x2x2048x64 2 [⟨S4x4x1x2048x64, A⟩, ⟨S4x4x1x2048x64, B⟩] concatenates_S4x4x1x2048x64_S4x4x1x2048x64_S4x4x2x2048x64_d2

/-- The heads side by side. -/
def flat (Z : FVec Ideal S4x4x2x2048x64 .f32) : FVec Ideal S4x2048x512 .bf16 :=
  truncf .bf16 (shapeCast S4x2048x512 (transpose S4x2048x8x64 [0, 2, 1, 3] (shapeCast S4x8x2048x64 Z shapeCasts_S4x4x2x2048x64_S4x8x2048x64)
    transposes_S4x8x2048x64_S4x2048x8x64_0_2_1_3) shapeCasts_S4x2048x8x64_S4x2048x512) bitsLt_bf16_f32

/-- The heads' own lanes side by side. -/
def merged (O : FVec Ideal S4x8x2048x128 .f32) : FVec Ideal S4x2048x512 .bf16 :=
  flat (paired (halfHeads O 0 0 slices_S4x8x2048x128_S4x8x2048x64_0_0_0_0 slicesBy_S4x8x2048x64_S4x4x2048x64_0s1_0s2_0s1_0s1)
    (halfHeads O 64 1 slices_S4x8x2048x128_S4x8x2048x64_0_0_0_64 slicesBy_S4x8x2048x64_S4x4x2048x64_0s1_1s2_0s1_0s1))

theorem halfHeads_at (O : FVec Ideal S4x8x2048x128 .f32) (o e : ℕ) (h) (h') (b h2 : Fin 4) (s : Fin 2048) (x : Fin 64) (ho : o ≤ 64) (he : e ≤ 1) :
    @Eq EReal (halfHeads O o e h h' (ix5 b h2 0 s x)) (eA O b ⟨e + 2 * h2.val, by omega⟩ s ⟨o + x.val, by omega⟩) := by
  unfold halfHeads eA
  pointwise

theorem paired_at (A B : FVec Ideal S4x4x1x2048x64 .f32) (b h2 : Fin 4) (e : Fin 2) (s : Fin 2048) (x : Fin 64) :
    @Eq EReal (paired A B (ix5 b h2 e s x)) (if e.val = 0 then A (ix5 b h2 0 s x) else B (ix5 b h2 0 s x)) := by
  have h0 : ∀ u v : Fin 1, u = v := fun u v => Subsingleton.elim u v
  unfold paired
  pointwise
  by_cases he : e.val = 0
  · rw [if_pos he]
    split_ifs <;> first | (exfalso; omega) | exact congrArg (fun u => A (ix5 b h2 u s x)) (h0 _ _) | exact absurd rfl ‹¬ (_ : ℕ) = _›
  · rw [if_neg he]
    split_ifs <;> first | (exfalso; omega) | exact congrArg (fun u => B (ix5 b h2 u s x)) (h0 _ _) | exact absurd rfl ‹¬ (_ : ℕ) = _›

theorem flat_at (Z : FVec Ideal S4x4x2x2048x64 .f32) (b : Fin 4) (s : Fin 2048) (p : Fin 512) :
    @Eq EReal (flat Z (ix3 b s p)) (Z (ix5 b ⟨p.val / 64 / 2, by omega⟩ ⟨p.val / 64 % 2, by omega⟩ s ⟨p.val % 64, by omega⟩)) := by
  unfold flat
  pointwise

theorem divided_at (A : FVec Ideal S4x8x2048x128 .f32) (l : FVec Ideal S4x8x2048x1 .f32) (b : Fin 4) (H : Fin 8) (s : Fin 2048) (x : Fin 128) :
    eA (divided A l) b H s x = eA A b H s x * Ideal.div 1 (e1 l b H s) := by
  unfold divided e1 eA
  pointwise

theorem merged_at (O : FVec Ideal S4x8x2048x128 .f32) (b : Fin 4) (s : Fin 2048) (H : Fin 8) (x : Fin 64) :
    @Eq EReal (merged O (ix3 b s (pl H (own H x)))) (eA O b H s (own H x)) := by
  have e : ∀ (u v : Fin 8) (w z : Fin 128), u.val = v.val → w.val = z.val → eA O b u s w = eA O b v s z := fun u v w z h h' => by
    rw [Fin.ext h, Fin.ext h']
  unfold merged
  rw [flat_at, paired_at, halfHeads_at _ _ _ _ _ _ _ _ _ (by decide) (by decide), halfHeads_at _ _ _ _ _ _ _ _ _ (by decide) (by decide)]
  have hm := Nat.mod_two_eq_zero_or_one H.val
  split_ifs with h <;> exact e _ _ _ _ (by simp only [pl, own] at h ⊢; omega) (by simp only [pl, own] at h ⊢; omega)

/-- The row log-sum in base two, repeated over eight rows. -/
def logSum (M l : FVec Ideal S4x8x2048x1 .f32) (ln : FVec Ideal S_ .f32) : FVec Ideal S4x8x8x2048 .f32 :=
  broadcastInDim S4x8x8x2048 ![0, 1, 2, 3] bcast_S4x8x1x2048_S4x8x8x2048_0_1_2_3 (shapeCast S4x8x1x2048
    (addf M (Host.divf (Host.log l) (broadcastInDim S4x8x2048x1 ![] bcast_S_S4x8x2048x1 ln))) shapeCasts_S4x8x2048x1_S4x8x1x2048)

theorem logSum_at (M l : FVec Ideal S4x8x2048x1 .f32) (ln : FVec Ideal S_ .f32) (r : EReal) (hl : ∀ i, ln i = r) (b : Fin 4) (H : Fin 8) (t : Fin 8) (s : Fin 2048) :
    @Eq EReal (logSum M l ln (ix4 b H t s)) (e1 M b H s + Ideal.div (Ideal.log (e1 l b H s)) r) := by
  unfold logSum e1
  pointwise
  simp only [hl]

variable (m : (ℓ : Loc nD τ sig) → Buf (Elt Ideal) ℓ) (c : Dev nD)

/-- What the last host lines before the call read. -/
abbrev mid : Valuation τ sig (Elt Ideal) :=
  StableHlo.after (List.flatten [hostOps0, hostOps0_1, hostOps0_2, hostOps0_3, hostOps0_4, hostOps0_5, hostOps0_6, hostOps0_7, hostOps0_8, hostOps0_9, hostOps0_10, hostOps0_11, hostOps0_12,
    hostOps0_13, hostOps0_14, hostOps0_15, hostOps0_16]) (fun b => m (c, b))

theorem V_split (r : Ref sig .tc) : V m c r = StableHlo.after (List.flatten [hostOps0_17, hostOps0_18]) (mid m c) (Proc.devRef .tc r) := by
  unfold V V0 mid
  rw [← StableHlo.after_append]
  rfl

section
variable (σ : Valuation τ sig (Elt Ideal))
theorem last_v43 : StableHlo.after (List.flatten [hostOps0_17, hostOps0_18]) σ (Proc.devRef .tc main_v43) = σ (Proc.devRef .tc main_v43) := by after_reads_simp []
theorem last_v149 : StableHlo.after (List.flatten [hostOps0_17, hostOps0_18]) σ (Proc.devRef .tc main_v149) = σ (Proc.devRef .tc main_v149) := by after_reads_simp []
theorem last_v134 : StableHlo.after (List.flatten [hostOps0_17, hostOps0_18]) σ (Proc.devRef .tc main_v134) = σ (Proc.devRef .tc main_v134) := by after_reads_simp []
theorem last_v6 : StableHlo.after (List.flatten [hostOps0_17, hostOps0_18]) σ (Proc.devRef .tc main_v6) = σ (Proc.devRef .tc main_v6) := by after_reads_simp []
theorem last_z : StableHlo.after (List.flatten [hostOps0_17, hostOps0_18]) σ (Proc.devRef .tc main_cst_18) = σ (Proc.devRef .tc main_cst_18) := by after_reads_simp []
theorem last_v152 : StableHlo.after (List.flatten [hostOps0_17, hostOps0_18]) σ (Proc.devRef .tc main_v152) = laneSum (σ (Proc.devRef .tc main_v43)) (σ (Proc.devRef .tc main_v149)) (σ (Proc.devRef .tc main_cst_18)) := by
  after_reads_simp [StableHlo.TRef.toBuf, StableHlo.TRef.ofBuf, cast_eq, id]; rfl
theorem last_v167 : StableHlo.after (List.flatten [hostOps0_17, hostOps0_18]) σ (Proc.devRef .tc main_v167) = merged (divided (σ (Proc.devRef .tc main_v149)) (laneSum (σ (Proc.devRef .tc main_v43)) (σ (Proc.devRef .tc main_v149)) (σ (Proc.devRef .tc main_cst_18)))) := by
  after_reads_simp [StableHlo.TRef.toBuf, StableHlo.TRef.ofBuf, cast_eq, id]; rfl
theorem last_v173 : StableHlo.after (List.flatten [hostOps0_17, hostOps0_18]) σ (Proc.devRef .tc main_v173) = logSum (σ (Proc.devRef .tc main_v134)) (laneSum (σ (Proc.devRef .tc main_v43)) (σ (Proc.devRef .tc main_v149)) (σ (Proc.devRef .tc main_cst_18))) (σ (Proc.devRef .tc main_v6)) := by
  after_reads_simp [StableHlo.TRef.toBuf, StableHlo.TRef.ofBuf, cast_eq, id]; rfl
end

theorem zero_at (i : S_.Idx) : @Eq EReal ((V m c main_cst_18 : FVec Ideal S_ .f32) i) 0 := by
  unfold V V0
  after_reads_simp []
  pointwise

theorem v152_eq : (V m c main_v152 : Vec Ideal S4x8x2048x1 .f32) = laneSum (V m c main_v43) (V m c main_v149) (V m c main_cst_18) := by
  rw [V_split m c main_v152, V_split m c main_v43, V_split m c main_v149, V_split m c main_cst_18, last_v43, last_v149, last_z]; exact last_v152 _
theorem v167_eq : (V m c main_v167 : Vec Ideal S4x2048x512 .bf16) = merged (divided (V m c main_v149) (V m c main_v152)) := by
  rw [v152_eq, V_split m c main_v167, V_split m c main_v43, V_split m c main_v149, V_split m c main_cst_18, last_v43, last_v149, last_z]; exact last_v167 _
theorem v173_eq : (V m c main_v173 : Vec Ideal S4x8x8x2048 .f32) = logSum (V m c main_v134) (V m c main_v152) (V m c main_v6) := by
  rw [v152_eq, V_split m c main_v173, V_split m c main_v43, V_split m c main_v149, V_split m c main_v134, V_split m c main_v6, V_split m c main_cst_18, last_v43, last_v149, last_z, last_v134, last_v6]; exact last_v173 _

variable (q k : Heads) (v : Vals)
  (hq : ∀ b s H d, e96 (m (c, Proc.devRef .tc main_arg0)) b s H d = (q b s H d : EReal))
  (hk : ∀ b s H d, e96 (m (c, Proc.devRef .tc main_arg1)) b s H d = (k b s H d : EReal))
  (hv : ∀ b s H d, e64 (m (c, Proc.devRef .tc main_arg2)) b s H d = (v b s H d : EReal))

theorem rowSum_pos (b : Fin 4) (H : Fin 8) (s : Fin 2048) : 0 < rowSum q k b H s := by
  unfold rowSum
  refine Finset.sum_pos' (fun key _ => ?_) ⟨0, Finset.mem_univ _, ?_⟩
  · unfold expo mexp; split_ifs
    · exact (Real.exp_pos _).le
    · exact le_rfl
  · unfold expo mexp; rw [if_pos (by show 0 / 64 ≤ _; omega)]; exact Real.exp_pos _

/-- The weighted sum of the values. -/
def mixed (b : Fin 4) (H : Fin 8) (s : Fin 2048) (x : Fin 64) : ℝ := (∑ key, expo q k b H s key * v b key H x) / rowSum q k b H s

theorem ones_own (b : Fin 4) (H : Fin 8) (key : Fin 2048) (x : Fin 64) : oneLane v b H key (own H x) = v b key H x := by
  unfold oneLane own
  have hm := Nat.mod_two_eq_zero_or_one H.val
  rw [if_pos (by simp only []; omega), if_neg (by simp only []; omega), add_zero]
  congr 1; apply Fin.ext; simp only []; omega

theorem ones_sum (b : Fin 4) (H : Fin 8) (key : Fin 2048) (x : Fin 128) (h : x.val = 127 * ((H.val + 1) % 2)) : oneLane v b H key x = 1 := by
  unfold oneLane
  have hm := Nat.mod_two_eq_zero_or_one H.val
  rw [if_neg (by omega), if_pos h, zero_add]

include hq hk hv in
theorem sums_real (b : Fin 4) (H : Fin 8) (s : Fin 2048) : ∃ μ : ℝ, e1 (V m c main_v134) b H s = μ
    ∧ e1 (V m c main_v152) b H s = ((Real.exp (-(μ * Real.log 2)) * rowSum q k b H s : ℝ) : EReal)
    ∧ ∀ x, eA (V m c main_v149) b H s x = ((Real.exp (-(μ * Real.log 2)) * ∑ key, expo q k b H s key * oneLane v b H key x : ℝ) : EReal) := by
  obtain ⟨h | ⟨μ, h1, h2⟩, hb⟩ := softmax_real m c q k v hq hk hv b H s
  · exact absurd h.1 hb
  · refine ⟨μ, h1, ?_, h2⟩
    have hx : 127 * ((H.val + 1) % 2) < 128 := by omega
    rw [v152_eq, laneSum_at _ _ _ (zero_at m c)]
    refine (Finset.sum_eq_single (⟨127 * ((H.val + 1) % 2), hx⟩ : Fin 128) (fun x _ hne => ?_) fun h => absurd (Finset.mem_univ _) h).trans ?_
    · rw [v43_at, if_neg fun h => hne (Fin.ext h)]; rfl
    · rw [v43_at, if_pos rfl]
      refine Eq.trans (show Scalar.select 1#1 _ _ = _ from rfl) ?_
      rw [h2]
      unfold rowSum
      refine congrArg (fun z : ℝ => ((Real.exp (-(μ * Real.log 2)) * z : ℝ) : EReal)) (Finset.sum_congr rfl fun key _ => ?_)
      rw [ones_sum v b H key _ rfl, mul_one]

include hq hk hv in
/-- The output of the forward attention. -/
theorem o_real (b : Fin 4) (s : Fin 2048) (H : Fin 8) (x : Fin 64) : @Eq EReal ((V m c main_v167 : Vec Ideal S4x2048x512 .bf16) (ix3 b s (pl H (own H x)))) (mixed q k v b H s x : ℝ) := by
  obtain ⟨μ, -, hl, ha⟩ := sums_real m c q k v hq hk hv b H s
  rw [v167_eq, merged_at, divided_at, hl, ha, ← EReal.coe_one, Ideal.div_coe (mul_pos (Real.exp_pos _) (rowSum_pos q k b H s)).ne',
    ← EReal.coe_mul]
  simp only [ones_own]
  unfold mixed
  refine congrArg ((↑) : ℝ → EReal) ?_
  have h1 := (Real.exp_pos (-(μ * Real.log 2))).ne'
  have h2 := (rowSum_pos q k b H s).ne'
  field_simp

include hq hk hv in
/-- The row log-sum of the forward attention. -/
theorem lse_real (b : Fin 4) (H t : Fin 8) (s : Fin 2048) : @Eq EReal ((V m c main_v173 : Vec Ideal S4x8x8x2048 .f32) (ix4 b H t s)) (Real.log (rowSum q k b H s) / Real.log 2 : ℝ) := by
  obtain ⟨μ, hm, hl, -⟩ := sums_real m c q k v hq hk hv b H s
  have hr := rowSum_pos q k b H s
  rw [v173_eq, logSum_at _ _ _ _ (v6_at m c), hm, hl, Ideal.log_coe, if_neg (not_le.mpr (mul_pos (Real.exp_pos _) hr)), Real.log_mul (Real.exp_pos _).ne' hr.ne', Real.log_exp,
    Ideal.div_coe ln2_pos.ne', ← EReal.coe_mul, ← EReal.coe_add]
  refine congrArg ((↑) : ℝ → EReal) ?_
  have h1 := ln2_pos.ne'
  field_simp
  ring

include hq hk hv in
/-- The kernel's recomputed weight is the softmax. -/
theorem gP_real (b : Fin 4) (H : Fin 8) (key s : Fin 2048) : gP (V m c main_v18) (V m c main_v27) (V m c main_v173) b H key s = ((expo q k b H s key / rowSum q k b H s : ℝ) : EReal) := by
  have hr := rowSum_pos q k b H s
  have h := dot_real m c q k hq hk b H s key
  unfold e128 at h
  unfold gP
  rw [Finset.sum_congr rfl fun x _ => mul_comm _ _, h, lse_real m c q k v hq hk hv]
  unfold expo mexp
  split_ifs
  · rw [← EReal.coe_sub, Ideal.exp2_coe]
    refine congrArg ((↑) : ℝ → EReal) ?_
    show (2 : ℝ) ^ (_ : ℝ) = _
    rw [Real.rpow_def_of_pos two_pos, show Real.log 2 * (score q k b H s key / Real.log 2 - Real.log (rowSum q k b H s) / Real.log 2) = score q k b H s key - Real.log (rowSum q k b H s) by
      have h1 := ln2_pos.ne'
      field_simp, Real.exp_sub, Real.exp_log hr]
  · rw [zero_div]; rfl
-- ==== Proof.AttnGrad.lean ====
module

public import proofs.«01_k».proof.Proof.Gen.Kernel3Ideal.Frame
public import Idealize.ShloMosaic.Lib.Pipeline.ValueKit
public import Idealize.ShloMosaic.Lib.Claim
public import Idealize.ShloMosaic.Lib.StableHlo.RunRead
public import proofs.«01_k».proof.Proof.AttnReal
public import proofs.«01_k».proof.Proof.AttnStages
public import proofs.«01_k».proof.Proof.AttnSoft
public import proofs.«01_k».proof.Proof.AttnRun
public import proofs.«01_k».proof.Proof.AttnSaved

@[expose] public section
set_option maxRecDepth 16384
noncomputable section
open Idealize.ShloMosaic Idealize.ShloMosaic.TcCoe Idealize.SL.Sem
open Idealize.ShloMosaic.Pipeline (Dat)
namespace Cert.Kernel3Ideal.Attn
open Cert.Kernel3Ideal Cert.Kernel3Ideal.Gen

/-! The kernel's three gradients over the reals, and the host lines that put them back in the order of the heads. -/

/-- A sum over the lanes of a pair of heads that only counts one of them. -/
theorem sum_own {α : Type} [AddCommMonoid α] (H : Fin 8) (f : Fin 128 → α) : (∑ x : Fin 128, if x.val / 64 = H.val % 2 then f x else 0) = ∑ x : Fin 64, f (own H x) := by
  rw [← Finset.sum_filter]
  refine Finset.sum_nbij' (fun x => ⟨x.val % 64, by omega⟩) (own H) (fun _ _ => Finset.mem_univ _) (fun x _ => Finset.mem_filter.mpr ⟨Finset.mem_univ _, ?_⟩)
    (fun x hx => ?_) (fun x _ => ?_) (fun x hx => ?_)
  · unfold own; simp only []; omega
  · have := (Finset.mem_filter.mp hx).2; apply Fin.ext; unfold own; simp only []; omega
  · apply Fin.ext; unfold own; simp only []; omega
  · have := (Finset.mem_filter.mp hx).2; congr 1; apply Fin.ext; unfold own; simp only []; omega

/-- The cotangent of the attention, heads side by side. -/
abbrev Cot := Fin 4 → Fin 2048 → Fin 512 → ℝ
/-- Where coordinate `x` of head `H` stands in it. -/
def side (H : Fin 8) (x : Fin 64) : Fin 512 := ⟨H.val * 64 + x.val, by omega⟩
theorem side_eq (H : Fin 8) (x : Fin 64) : pl H (own H x) = side H x := by
  apply Fin.ext; unfold pl own side; simp only []; omega

section
variable (q k : Heads) (v : Vals) (g : Cot) (b : Fin 4) (H : Fin 8)
/-- The softmax. -/
def soft (s key : Fin 2048) : ℝ := expo q k b H s key / rowSum q k b H s
/-- Its cotangent. -/
def dSoft (s key : Fin 2048) : ℝ := ∑ x, v b key H x * g b s (side H x)
/-- The row sum of the cotangent times the output. -/
def rowDot (s : Fin 2048) : ℝ := ∑ x, g b s (side H x) * mixed q k v b H s x
/-- The gradient of the scores. -/
def dScore (s key : Fin 2048) : ℝ := soft q k b H s key * (dSoft v g b H s key - rowDot q k v g b H s)
/-- The gradients of the queries, the keys and the values. -/
def gradQ (s : Fin 2048) (d : Fin 96) : ℝ := (∑ key, k b key H d * dScore q k v g b H s key) * cq
@[inherit_doc gradQ] def gradK (key : Fin 2048) (d : Fin 96) : ℝ := (∑ s, dScore q k v g b H s key * q b s H d) * cq
@[inherit_doc gradQ] def gradV (key : Fin 2048) (x : Fin 64) : ℝ := ∑ s, soft q k b H s key * g b s (side H x)
end

variable (m : (ℓ : Loc nD τ sig) → Buf (Elt Ideal) ℓ) (c : Dev nD) (q k : Heads) (v : Vals) (g : Cot)
  (hq : ∀ b s H d, e96 (m (c, Proc.devRef .tc main_arg0)) b s H d = (q b s H d : EReal))
  (hk : ∀ b s H d, e96 (m (c, Proc.devRef .tc main_arg1)) b s H d = (k b s H d : EReal))
  (hv : ∀ b s H d, e64 (m (c, Proc.devRef .tc main_arg2)) b s H d = (v b s H d : EReal))
  (hg : ∀ b s p, @Eq EReal ((m (c, Proc.devRef .tc main_arg3) : FVec Ideal S4x2048x512 .bf16) (ix3 b s p)) (g b s p : EReal))

theorem arg3_eq : (V m c main_arg3 : FVec Ideal S4x2048x512 .bf16) = m (c, Proc.devRef .tc main_arg3) := by
  unfold V V0
  after_reads_simp []

include hg in
theorem do_real (b : Fin 4) (s : Fin 2048) (p : Fin 512) : @Eq EReal ((V m c main_arg3 : FVec Ideal S4x2048x512 .bf16) (ix3 b s p)) (g b s p : EReal) := by
  rw [arg3_eq]; exact hg b s p

/-- Two sums over lanes, one of a value that is nothing outside a head and one that only counts the head. -/
theorem lanes_diff (H : Fin 8) (a d o : Fin 128 → EReal) (va dv ov : Fin 64 → ℝ) (dr : Fin 128 → ℝ) (ha : ∀ x, a x = ((if x.val / 64 = H.val % 2 then va ⟨x.val % 64, by omega⟩ else 0 : ℝ) : EReal))
    (hd : ∀ x, d x = (dr x : EReal)) (hdv : ∀ x, dr (own H x) = dv x) (ho : ∀ x, o (own H x) = (ov x : EReal)) :
    (∑ x, a x * d x) - (∑ x : Fin 128, if x.val / 64 = H.val % 2 then d x * o x else 0) = ((∑ x, va x * dv x - ∑ x, dv x * ov x : ℝ) : EReal) := by
  rw [sum_own, EReal.coe_sub, coe_sum, coe_sum]
  congr 1
  · rw [show (∑ x, a x * d x) = ∑ x : Fin 128, if x.val / 64 = H.val % 2 then a x * d x else 0 from Finset.sum_congr rfl fun x _ => by
      split_ifs with h
      · rfl
      · rw [ha, if_neg h, EReal.coe_zero, zero_mul], sum_own]
    refine Finset.sum_congr rfl fun x _ => ?_
    rw [ha, hd, hdv, if_pos (by unfold own; simp only []; omega), ← EReal.coe_mul]
    congr 3
    apply Fin.ext; unfold own; simp only []; omega
  · refine Finset.sum_congr rfl fun x _ => ?_
    rw [hd, hdv, ho, ← EReal.coe_mul]

include hq hk hv hg in
theorem gD_real (b : Fin 4) (H : Fin 8) (key s : Fin 2048) :
    gD (V m c main_v34) (V m c main_arg3) (V m c main_v167) b H key s = ((dSoft v g b H s key - rowDot q k v g b H s : ℝ) : EReal) := by
  unfold gD dSoft rowDot
  refine lanes_diff H _ _ _ (fun x => v b key H x) _ _ (fun x => g b s (pl H x)) (fun x => v34_real m c v hv b H key x) (fun x => do_real m c g hg b s _) (fun x => by rw [side_eq]) (fun x => o_real m c q k v hq hk hv b s H x)

include hq hk hv hg in
theorem dS_real (b : Fin 4) (H : Fin 8) (key s : Fin 2048) :
    gP (V m c main_v18) (V m c main_v27) (V m c main_v173) b H key s * gD (V m c main_v34) (V m c main_arg3) (V m c main_v167) b H key s = (dScore q k v g b H s key : EReal) := by
  rw [gP_real m c q k v hq hk hv, gD_real m c q k v g hq hk hv hg, ← EReal.coe_mul]
  rfl

include hq hk hv hg in
theorem dV_real (b : Fin 4) (H : Fin 8) (key : Fin 2048) (x : Fin 64) : @Eq EReal (dV m c (ix4 b H key (own H x))) (gradV q k g b H key x) := by
  refine Eq.trans (show _ = ∑ s : Fin 2048, gP (V m c main_v18) (V m c main_v27) (V m c main_v173) b H key s * ((V m c main_arg3 : FVec Ideal S4x2048x512 .bf16) (ix3 b s (pl H (own H x))) : EReal) from rfl) ?_
  unfold gradV soft
  rw [coe_sum]
  refine Finset.sum_congr rfl fun s _ => ?_
  rw [gP_real m c q k v hq hk hv, do_real m c g hg, side_eq, ← EReal.coe_mul]

include hq hk hv hg in
theorem dK_real (b : Fin 4) (H : Fin 8) (key : Fin 2048) (d : Fin 96) : @Eq EReal (dK m c (ix4 b H key (lan d))) (gradK q k v g b H key d) := by
  refine Eq.trans (show _ = (∑ s : Fin 2048, gP (V m c main_v18) (V m c main_v27) (V m c main_v173) b H key s * gD (V m c main_v34) (V m c main_arg3) (V m c main_v167) b H key s * e128 (V m c main_v18) b H s (lan d)) * ((Real.log 2 : ℝ) : EReal) from rfl) ?_
  rw [Finset.sum_congr rfl fun s _ => show _ = ((dScore q k v g b H s key * (q b s H d * (cq / Real.log 2)) : ℝ) : EReal) by
    rw [dS_real m c q k v g hq hk hv hg, v18_real m c q hq, if_pos (lan_lt d), prm_lan, ← EReal.coe_mul], ← coe_sum, ← EReal.coe_mul]
  unfold gradK
  refine congrArg ((↑) : ℝ → EReal) ?_
  rw [Finset.sum_mul, Finset.sum_mul]
  refine Finset.sum_congr rfl fun s _ => ?_
  have h1 := ln2_pos.ne'
  field_simp

include hq hk hv hg in
theorem dQ_real (b : Fin 4) (H : Fin 8) (s : Fin 2048) (d : Fin 96) : @Eq EReal (dQ m c (ix4 b H s (lan d))) (∑ key, k b key H d * dScore q k v g b H s key : ℝ) := by
  refine Eq.trans (show _ = ∑ key : Fin 2048, gT (V m c main_v36) b H (lan d) key * (gP (V m c main_v18) (V m c main_v27) (V m c main_v173) b H key s * gD (V m c main_v34) (V m c main_arg3) (V m c main_v167) b H key s) from rfl) ?_
  rw [coe_sum]
  refine Finset.sum_congr rfl fun key _ => ?_
  have h : gT (V m c main_v36) b H (lan d) key = (k b key H d : EReal) := by
    unfold gT
    rw [v36_eq]
    refine Eq.trans (turned_at _ _ _ _ _ _) ?_
    refine Eq.trans (congrArg (fun z => e128 (V m c main_v27) b H z (lan d)) (Fin.ext (show 512 * (key.val / 512) + key.val % 512 = key.val by omega))) ?_
    rw [v27_real m c k hk, if_pos (lan_lt d), prm_lan]
  rw [h, dS_real m c q k v g hq hk hv hg, ← EReal.coe_mul]

/-- The heads' coordinates back in their order. -/
def unlane (X : FVec Ideal S4x8x2048x128 .bf16) : FVec Ideal S4x2048x8x96 .f32 :=
  let Y : FVec Ideal S4x2048x8x128 .f32 := extf .f32 (transpose S4x2048x8x128 [0, 2, 1, 3] X transposes_S4x8x2048x128_S4x2048x8x128_0_2_1_3) bitsLt_bf16_f32
  concatenate S4x2048x8x96 3 [⟨S4x2048x8x48, extractStridedSlice S4x2048x8x48 ![0, 0, 0, 16] Y slices_S4x2048x8x128_S4x2048x8x48_0_0_0_16⟩,
    ⟨S4x2048x8x16, extractStridedSlice S4x2048x8x16 ![0, 0, 0, 80] Y slices_S4x2048x8x128_S4x2048x8x16_0_0_0_80⟩,
    ⟨S4x2048x8x16, extractStridedSlice S4x2048x8x16 ![0, 0, 0, 0] Y slices_S4x2048x8x128_S4x2048x8x16_0_0_0_0⟩,
    ⟨S4x2048x8x16, extractStridedSlice S4x2048x8x16 ![0, 0, 0, 64] Y slices_S4x2048x8x128_S4x2048x8x16_0_0_0_64⟩]
    concatenates_S4x2048x8x48_S4x2048x8x16_S4x2048x8x16_S4x2048x8x16_S4x2048x8x96_d3

theorem unlane_at (X : FVec Ideal S4x8x2048x128 .bf16) (b : Fin 4) (s : Fin 2048) (H : Fin 8) (d : Fin 96) : e96 (unlane X) b s H d = e128 X b H s (lan d) := by
  have e : ∀ u v : Fin 128, u.val = v.val → X (ix4 b H s u) = X (ix4 b H s v) := fun u v h => by rw [Fin.ext h]
  unfold unlane e96 e128 lan
  pointwise
  split_ifs <;> first | (exfalso; omega) | exact e _ _ (by first | (simp only []; omega) | (simp only []; split_ifs <;> omega))

/-- The scale of the queries on their gradient. -/
def scaled (X : FVec Ideal S4x2048x8x96 .f32) : FVec Ideal S4x2048x8x96 .f32 :=
  mulf X (broadcastInDim S4x2048x8x96 ![] bcast_S_S4x2048x8x96 (constant S_ .f32 0x3DD105EC#32 : FVec Ideal S_ .f32))

theorem scaled_at (X : FVec Ideal S4x2048x8x96 .f32) (b : Fin 4) (s : Fin 2048) (H : Fin 8) (d : Fin 96) : e96 (scaled X) b s H d = e96 X b s H d * (cq : EReal) := by
  unfold scaled e96
  pointwise
  rw [cq_eq]

/-- Each head's own half of the lanes. -/
def ownHalf (E : IVec S1x8x1x1 1) (X : FVec Ideal S4x8x2048x128 .bf16) : FVec Ideal S4x2048x8x64 .f32 :=
  extf .f32 (transpose S4x2048x8x64 [0, 2, 1, 3] (select (broadcastInDim S4x8x2048x64 ![0, 1, 2, 3] bcast_S1x8x1x1_S4x8x2048x64_0_1_2_3 E)
    (extractStridedSlice S4x8x2048x64 ![0, 0, 0, 0] X slices_S4x8x2048x128_S4x8x2048x64_0_0_0_0)
    (extractStridedSlice S4x8x2048x64 ![0, 0, 0, 64] X slices_S4x8x2048x128_S4x8x2048x64_0_0_0_64)) transposes_S4x8x2048x64_S4x2048x8x64_0_2_1_3) bitsLt_bf16_f32

theorem ownHalf_at (E : IVec S1x8x1x1 1) (X : FVec Ideal S4x8x2048x128 .bf16) (b : Fin 4) (s : Fin 2048) (H : Fin 8) (x : Fin 64) (hE : E (ix4 0 H 0 0) = if H.val % 2 = 0 then 1#1 else 0#1) :
    e64 (ownHalf E X) b s H x = e128 X b H s (own H x) := by
  have e : ∀ u v : Fin 128, u.val = v.val → X (ix4 b H s u) = X (ix4 b H s v) := fun u v h => by rw [Fin.ext h]
  unfold ownHalf e64 e128 own
  pointwise
  rw [hE]
  by_cases h : H.val % 2 = 0
  · rw [if_pos h]
    exact e _ _ (by simp only []; omega)
  · rw [if_neg h]
    exact e _ _ (by simp only []; omega)

theorem v5_at (H : Fin 8) : @Eq (BitVec 1) ((V m c main_v5 : Vec Ideal S1x8x1x1 .i1) (ix4 0 H 0 0)) (if H.val % 2 = 0 then 1#1 else 0#1) := by
  unfold V V0
  after_reads_simp []
  pointwise
  exact even_bit H

section
variable (σ : Valuation τ sig (Elt Ideal))
theorem tail_q : (StableHlo.after (List.flatten [hostOps1 (F := Ideal), hostOps1_1, hostOps1_2]) σ (Proc.devRef .tc main_v186) : FVec Ideal S4x2048x8x96 .f32) = scaled (unlane (σ (Proc.devRef .tc main_v174_0))) := by
  after_reads_simp [StableHlo.TRef.toBuf, StableHlo.TRef.ofBuf, cast_eq, id]
  rfl
theorem tail_k : (StableHlo.after (List.flatten [hostOps1 (F := Ideal), hostOps1_1, hostOps1_2]) σ (Proc.devRef .tc main_v193) : FVec Ideal S4x2048x8x96 .f32) = unlane (σ (Proc.devRef .tc main_v174_1)) := by
  after_reads_simp [StableHlo.TRef.toBuf, StableHlo.TRef.ofBuf, cast_eq, id]
  rfl
theorem tail_v : (StableHlo.after (List.flatten [hostOps1 (F := Ideal), hostOps1_1, hostOps1_2]) σ (Proc.devRef .tc main_v195) : FVec Ideal S4x2048x8x64 .f32) = ownHalf (σ (Proc.devRef .tc main_v5)) (σ (Proc.devRef .tc main_v174_2)) := by
  after_reads_simp [StableHlo.TRef.toBuf, StableHlo.TRef.ofBuf, cast_eq, id]
  rfl
end

/-- What the call leaves, with what the lines before it left. -/
abbrev left : Valuation τ sig (Elt Ideal) := Pipeline.withArrays (cfgs 0).spec c (V0 m c) (fun w => (dats m 0 c).arrAt w (cfgs 0).N)

/-- The three results of the program. -/
abbrev out (r : Ref sig .tc) := Pipeline.afterTail₀ cfgs (dats m) 0 (V0 m) [hostOps1, hostOps1_1, hostOps1_2] c r

include hq hk hv hg in
theorem outQ_real (b : Fin 4) (s : Fin 2048) (H : Fin 8) (d : Fin 96) : e96 (out m c main_v186) b s H d = (gradQ q k v g b H s d : EReal) := by
  have h : (out m c main_v186 : FVec Ideal S4x2048x8x96 .f32) = scaled (unlane (left m c (Proc.devRef .tc main_v174_0))) := tail_q _
  have h7 : left m c (Proc.devRef .tc main_v174_0) = dQ m c := (Pipeline.withArrays_arr (cfgs 0).spec (by decide) c (V0 m c) _ 7).trans (final7 m c)
  rw [h, h7, scaled_at, unlane_at]
  refine Eq.trans (congrArg (· * (cq : EReal)) (dQ_real m c q k v g hq hk hv hg b H s d)) ?_
  rw [← EReal.coe_mul]
  rfl

include hq hk hv hg in
theorem outK_real (b : Fin 4) (s : Fin 2048) (H : Fin 8) (d : Fin 96) : e96 (out m c main_v193) b s H d = (gradK q k v g b H s d : EReal) := by
  have h : (out m c main_v193 : FVec Ideal S4x2048x8x96 .f32) = unlane (left m c (Proc.devRef .tc main_v174_1)) := tail_k _
  have h7 : left m c (Proc.devRef .tc main_v174_1) = dK m c := (Pipeline.withArrays_arr (cfgs 0).spec (by decide) c (V0 m c) _ 8).trans (final8 m c)
  rw [h, h7, unlane_at]
  exact dK_real m c q k v g hq hk hv hg b H s d

include hq hk hv hg in
theorem outV_real (b : Fin 4) (s : Fin 2048) (H : Fin 8) (x : Fin 64) : e64 (out m c main_v195) b s H x = (gradV q k g b H s x : EReal) := by
  have h : (out m c main_v195 : FVec Ideal S4x2048x8x64 .f32) = ownHalf (left m c (Proc.devRef .tc main_v5)) (left m c (Proc.devRef .tc main_v174_2)) := tail_v _
  have h7 : left m c (Proc.devRef .tc main_v174_2) = dV m c := (Pipeline.withArrays_arr (cfgs 0).spec (by decide) c (V0 m c) _ 9).trans (final9 m c)
  have h5 : left m c (Proc.devRef .tc main_v5) = V m c main_v5 := Pipeline.withArrays_of_ne (cfgs 0).spec c (V0 m c) _ main_v5 (by decide)
  rw [h, h7, ownHalf_at _ _ _ _ _ _ (by rw [h5]; exact v5_at m c H)]
  exact dV_real m c q k v g hq hk hv hg b H s x
-- ==== Proof.AttnRef.lean ====
module

public import proofs.«01_k».proof.Proof.Gen.Reference3Ideal.Read
public import Idealize.ShloMosaic.Lib.Pipeline.ValueKit
public import Idealize.ShloMosaic.Lib.Claim
public import proofs.«01_k».proof.Proof.AttnGrad

@[expose] public section

set_option maxRecDepth 16384

noncomputable section

open Idealize.ShloMosaic Idealize.ShloMosaic.TcCoe Idealize.SL.Sem

/-! The reference's three gradients over the reals: the derivative of the whole softmax attention. -/

namespace Cert.Reference3Ideal.Attn

open Cert.Reference3Ideal.Gen Cert.Reference3Ideal.Read
open Cert.Kernel3Ideal.Attn (Heads Vals Cot e96 e64 sees score expo rowSum mixed side soft dSoft rowDot dScore gradQ gradK gradV sc mexp sc_ne_top exp_sc max_real coe_sum cq cq_eq bot_eq chunk_bit rowSum_pos)

/-- Element of an array of scores, and of a row's array. -/
def eS (X : FVec Ideal S4x8x2048x2048 .f32) (b : Fin 4) (H : Fin 8) (s key : Fin 2048) : EReal := X (ix4 b H s key)
@[inherit_doc eS] def eR (X : FVec Ideal S4x8x2048 .f32) (b : Fin 4) (H : Fin 8) (s : Fin 2048) : EReal := X (ix3 b H s)

theorem redMax_at (S : FVec Ideal S4x8x2048x2048 .f32) (I : FVec Ideal S_ .f32) (b : Fin 4) (H : Fin 8) (s : Fin 2048) :
    Host.reduce FloatOps.maximumf S I reducesTo_S4x8x2048x2048_S4x8x2048_d3 h_S_ (ix3 b H s) = Finset.univ.fold max (I (Shape.Idx.first h_S_)) fun k => S (ix4 b H s k) := by
  simp only [pointwise]

theorem redMax_bot (S : FVec Ideal S4x8x2048x2048 .f32) (b : Fin 4) (H : Fin 8) (s : Fin 2048) (f : Fin 2048 → EReal) (hS : ∀ key, eS S b H s key = f key) :
    eR (Host.reduce FloatOps.maximumf S (val_main_cst_1 (F := Ideal)) reducesTo_S4x8x2048x2048_S4x8x2048_d3 h_S_) b H s = Finset.univ.fold max ⊥ f := by
  unfold eR val_main_cst_1
  rw [redMax_at, constant_apply, Ideal.ofBits_def, bot_eq, ← funext hS]
  rfl

theorem one_eq : Ideal.ofBits .f32 0x3F800000#32 = 1 := by
  simp [Ideal.ofBits, Ideal.ieee, -EReal.coe_mul]; norm_num

theorem redAdd_at (S : FVec Ideal S4x8x2048x2048 .f32) (I : FVec Ideal S_ .f32) (b : Fin 4) (H : Fin 8) (s : Fin 2048) :
    @Eq EReal (Host.reduceAdd S I reducesTo_S4x8x2048x2048_S4x8x2048_d3 h_S_ (ix3 b H s)) ((I (Shape.Idx.first h_S_) : EReal) + ∑ k, eS S b H s k) := by
  unfold eS
  simp only [pointwise]

variable (x0 x1 : FVec Ideal S4x2048x8x96 .f32) (x2 : FVec Ideal S4x2048x8x64 .f32) (x3 : FVec Ideal S4x2048x512 .bf16) (q k : Heads) (v : Vals) (g : Cot)
  (hq : ∀ b s H d, e96 x0 b s H d = (q b s H d : EReal))
  (hk : ∀ b s H d, e96 x1 b s H d = (k b s H d : EReal))
  (hv : ∀ b s H d, e64 x2 b s H d = (v b s H d : EReal))
  (hg : ∀ b s p, @Eq EReal (x3 (ix3 b s p)) (g b s p : EReal))

include hq hk in
theorem dot_real (b : Fin 4) (H : Fin 8) (s key : Fin 2048) : eS (val_main_v5 (F := Ideal) x0 x1) b H s key = (score q k b H s key : EReal) := by
  have h : eS (val_main_v5 (F := Ideal) x0 x1) b H s key = (∑ d, e96 x0 b s H d * e96 x1 b key H d) * Ideal.ofBits .f32 0x3DD105EC#32 := by
    unfold eS e96
    pointwise [val_main_v5, val_main_v4, val_main_cst, val_main_v3]
  rw [h, cq_eq]
  unfold score
  rw [EReal.coe_mul, coe_sum]
  refine congrArg (· * (cq : EReal)) (Finset.sum_congr rfl fun d _ => ?_)
  rw [hq, hk, ← EReal.coe_mul]

theorem mask_at (b : Fin 4) (H : Fin 8) (s key : Fin 2048) : @Eq (BitVec 1) (val_main_v12_1 (F := Ideal) (ix4 b H s key)) (if key.val / 64 ≤ s.val / 64 then 1#1 else 0#1) := by
  pointwise [val_main_v12_1, val_main_v11, val_main_v10, val_main_v8, val_main_v9, val_main_v6, val_main_v7, val_main_v2, val_main_v0, val_main_v1, val_main_c]
  exact chunk_bit s key

include hq hk in
theorem masked_real (b : Fin 4) (H : Fin 8) (s key : Fin 2048) : eS (val_main_v12_0 (F := Ideal) x0 x1) b H s key = sc (sees s key) (score q k b H s key) := by
  have h : eS (val_main_v12_0 (F := Ideal) x0 x1) b H s key = Scalar.select (val_main_v12_1 (F := Ideal) (ix4 b H s key)) (eS (val_main_v5 (F := Ideal) x0 x1) b H s key) (Ideal.ofBits .f32 0xFF800000#32) := by
    unfold eS
    pointwise [val_main_v12_0, val_main_call0_v2, val_main_call0_v0, val_main_cst_0]
    rfl
  rw [h, mask_at, dot_real x0 x1 q k hq hk, bot_eq]
  unfold sc
  split_ifs <;> rfl

/-- A maximum over a masked row with something in it is a number. -/
theorem row_real (q k : Heads) (b : Fin 4) (H : Fin 8) (s : Fin 2048) :
    ∃ μ : ℝ, max ⊥ (Finset.univ.fold max ⊥ fun key => sc (sees s key) (score q k b H s key)) = (μ : EReal) := by
  refine max_real _ _ bot_ne_top (fun key => sc_ne_top _ _) (Or.inr ⟨⟨0, by norm_num⟩, ?_⟩)
  unfold sc
  rw [if_pos (Nat.zero_le _ : sees s ⟨0, by norm_num⟩)]
  exact EReal.coe_ne_bot _

theorem v20_at (b : Fin 4) (H : Fin 8) (s : Fin 2048) : eR (val_main_v20 (F := Ideal) x0 x1) b H s = max ⊥ (eR (val_main_v13 (F := Ideal) x0 x1) b H s) := by
  rw [← bot_eq]
  unfold eR
  rw [val_main_v20_apply, val_main_v19_apply]
  rfl

include hq hk in
theorem max_row (b : Fin 4) (H : Fin 8) (s : Fin 2048) : ∃ μ : ℝ, eR (val_main_v20 (F := Ideal) x0 x1) b H s = (μ : EReal) := by
  obtain ⟨μ, h⟩ := row_real q k b H s
  refine ⟨μ, ?_⟩
  rw [v20_at, ← h]
  unfold val_main_v13
  rw [redMax_bot _ b H s _ fun key => masked_real x0 x1 q k hq hk b H s key]

include hq hk in
/-- The shifted exponentials and their row sum. -/
theorem exp_real (b : Fin 4) (H : Fin 8) (s : Fin 2048) : ∃ E : ℝ, 0 < E ∧ (∀ key, eS (val_main_v33 (F := Ideal) x0 x1) b H s key = ((E * expo q k b H s key : ℝ) : EReal))
    ∧ eR (val_main_v34 (F := Ideal) x0 x1) b H s = ((E * rowSum q k b H s : ℝ) : EReal) := by
  obtain ⟨μ, hμ⟩ := max_row x0 x1 q k hq hk b H s
  have h1 : ∀ key, eS (val_main_v33 (F := Ideal) x0 x1) b H s key = ((Real.exp (-μ) * expo q k b H s key : ℝ) : EReal) := fun key => by
    have h : eS (val_main_v33 (F := Ideal) x0 x1) b H s key = Ideal.exp ((eS (val_main_v12_0 (F := Ideal) x0 x1) b H s key - eR (val_main_v20 (F := Ideal) x0 x1) b H s) * ((1 : ℝ) : EReal)) := by
      rw [EReal.coe_one, mul_one]
      unfold eS eR
      pointwise [val_main_v33, val_main_v32, val_main_v31, val_main_v30]
    rw [h, masked_real x0 x1 q k hq hk, hμ, exp_sc _ _ _ _ one_pos, mul_one, mul_one]
    rfl
  refine ⟨Real.exp (-μ), Real.exp_pos _, h1, ?_⟩
  unfold eR val_main_v34
  rw [redAdd_at]
  unfold rowSum
  rw [Finset.mul_sum, coe_sum]
  refine Eq.trans (congrArg (· + _) (show _ = (0 : EReal) from ?_)) ((zero_add _).trans (Finset.sum_congr rfl fun key _ => h1 key))
  pointwise [val_main_cst_9]

include hv hg in
theorem dSoft_real (b : Fin 4) (H : Fin 8) (s key : Fin 2048) : eS (val_main_v46 (F := Ideal) x2 x3) b H s key = (dSoft v g b H s key : EReal) := by
  have h : eS (val_main_v46 (F := Ideal) x2 x3) b H s key = ∑ x, (x3 (ix3 b s (side H x)) : EReal) * e64 x2 b key H x := by
    unfold eS e64 side
    pointwise [val_main_v46, val_main_v45, val_main_v44, val_main_v43]
  rw [h]
  unfold dSoft
  rw [coe_sum]
  refine Finset.sum_congr rfl fun x _ => ?_
  rw [hg, hv, ← EReal.coe_mul, mul_comm]

/-- The two ways of writing the row's term agree. -/
theorem rowDot_eq (b : Fin 4) (H : Fin 8) (s : Fin 2048) : rowDot q k v g b H s = ∑ key, soft q k b H s key * dSoft v g b H s key := by
  unfold rowDot mixed soft dSoft
  simp only [Finset.mul_sum, Finset.sum_div]
  rw [Finset.sum_comm]
  refine Finset.sum_congr rfl fun key _ => Finset.sum_congr rfl fun x _ => ?_
  ring

include hq hk in
theorem soft_real (b : Fin 4) (H : Fin 8) (s key : Fin 2048) : eS (val_main_v37 (F := Ideal) x0 x1) b H s key = (soft q k b H s key : EReal) := by
  obtain ⟨E, hE, h1, h2⟩ := exp_real x0 x1 q k hq hk b H s
  have h : eS (val_main_v37 (F := Ideal) x0 x1) b H s key = Ideal.div (eS (val_main_v33 (F := Ideal) x0 x1) b H s key) (eR (val_main_v34 (F := Ideal) x0 x1) b H s) := by
    unfold eS eR
    pointwise [val_main_v37, val_main_v36, val_main_v35]
  have hR := rowSum_pos q k b H s
  rw [h, h1, h2, Ideal.div_coe (mul_pos hE hR).ne', ← EReal.coe_mul]
  unfold soft
  refine congrArg ((↑) : ℝ → EReal) ?_
  have := hE.ne'
  have := hR.ne'
  field_simp

include hq hk hv hg in
theorem dScore_real (b : Fin 4) (H : Fin 8) (s key : Fin 2048) : eS (val_main_v63 (F := Ideal) x0 x1 x2 x3) b H s key = ((dScore q k v g b H s key * cq : ℝ) : EReal) := by
  obtain ⟨E, hE, h1, h2⟩ := exp_real x0 x1 q k hq hk b H s
  have hR := rowSum_pos q k b H s
  have hER := (mul_pos hE hR).ne'
  have h51 : ∀ key, eS (val_main_v51 (F := Ideal) x0 x1 x2 x3) b H s key = ((dSoft v g b H s key * (1 / (E * rowSum q k b H s * (E * rowSum q k b H s))) * (E * expo q k b H s key) : ℝ) : EReal) := fun key => by
    have h : eS (val_main_v51 (F := Ideal) x0 x1 x2 x3) b H s key = eS (val_main_v46 (F := Ideal) x2 x3) b H s key * Ideal.div (Ideal.ofBits .f32 0x3F800000#32) (eR (val_main_v34 (F := Ideal) x0 x1) b H s * eR (val_main_v34 (F := Ideal) x0 x1) b H s) * eS (val_main_v33 (F := Ideal) x0 x1) b H s key := by
      unfold eS eR
      pointwise [val_main_v51, val_main_v50, val_main_v49, val_main_v40, val_main_v39, val_main_cst_10, val_main_v38, val_main_v35]
    rw [h, h1, h2, dSoft_real x2 x3 v g hv hg, ← EReal.coe_mul, Ideal.div_coe (mul_ne_zero hER hER), one_eq, one_mul, ← EReal.coe_mul, ← EReal.coe_mul]
  have h52 : eR (val_main_v52 (F := Ideal) x0 x1 x2 x3) b H s = ((rowDot q k v g b H s / (E * rowSum q k b H s) : ℝ) : EReal) := by
    unfold eR val_main_v52
    rw [redAdd_at, rowDot_eq, Finset.sum_div, coe_sum]
    refine Eq.trans (congrArg (· + _) (show _ = (0 : EReal) from ?_)) ((zero_add _).trans (Finset.sum_congr rfl fun key _ => (h51 key).trans (congrArg ((↑) : ℝ → EReal) ?_)))
    · pointwise [val_main_cst_11]
    · unfold soft
      have := hE.ne'
      have := hR.ne'
      field_simp
  have h59 : eS (val_main_v59 (F := Ideal) x0 x1 x2 x3) b H s key = Ideal.div (eS (val_main_v46 (F := Ideal) x2 x3) b H s key) (eR (val_main_v34 (F := Ideal) x0 x1) b H s) + (- eR (val_main_v52 (F := Ideal) x0 x1 x2 x3) b H s) := by
    unfold eS eR
    pointwise [val_main_v59, val_main_v56, val_main_v55, val_main_v58, val_main_v57, val_main_v54, val_main_v53, val_main_cst_12, val_main_v35]
    rw [Fin.sum_univ_one]
  have h63 : eS (val_main_v63 (F := Ideal) x0 x1 x2 x3) b H s key = Scalar.select (val_main_v12_1 (F := Ideal) (ix4 b H s key)) (eS (val_main_v59 (F := Ideal) x0 x1 x2 x3) b H s key * eS (val_main_v33 (F := Ideal) x0 x1) b H s key) 0 * Ideal.ofBits .f32 0x3DD105EC#32 := by
    unfold eS
    pointwise [val_main_v63, val_main_v62, val_main_cst_13, val_main_v61, val_main_v60, val_main_call1_v0, val_main_call1_cst]
  rw [h63, mask_at, h59, h52, h2, h1, dSoft_real x2 x3 v g hv hg, cq_eq, Ideal.div_coe hER, ← EReal.coe_mul, ← EReal.coe_neg, ← EReal.coe_add, ← EReal.coe_mul, EReal.coe_mul (dScore q k v g b H s key) cq]
  refine congrArg (· * (cq : EReal)) ?_
  by_cases hm : key.val / 64 ≤ s.val / 64
  · rw [if_pos hm]
    refine Eq.trans (show Scalar.select 1#1 _ _ = _ from rfl) (congrArg ((↑) : ℝ → EReal) ?_)
    unfold dScore soft
    have := hE.ne'
    have := hR.ne'
    field_simp
    ring
  · rw [if_neg hm]
    refine Eq.trans (show Scalar.select 0#1 _ _ = _ from rfl) ?_
    unfold dScore soft expo mexp
    rw [if_neg hm, zero_div, zero_mul]
    rfl

include hq hk hv hg in
theorem refQ (b : Fin 4) (s : Fin 2048) (H : Fin 8) (d : Fin 96) : e96 (val_main_v67 (F := Ideal) x0 x1 x2 x3) b s H d = (gradQ q k v g b H s d : EReal) := by
  have h : e96 (val_main_v67 (F := Ideal) x0 x1 x2 x3) b s H d = ∑ key, eS (val_main_v63 (F := Ideal) x0 x1 x2 x3) b H s key * e96 x1 b key H d := by
    unfold e96 eS
    pointwise [val_main_v67, val_main_v66]
  rw [h]
  unfold gradQ
  rw [Finset.sum_mul, coe_sum]
  refine Finset.sum_congr rfl fun key _ => ?_
  rw [dScore_real x0 x1 x2 x3 q k v g hq hk hv hg, hk, ← EReal.coe_mul]
  exact congrArg ((↑) : ℝ → EReal) (by ring)

include hq hk hv hg in
theorem refK (b : Fin 4) (key : Fin 2048) (H : Fin 8) (d : Fin 96) : e96 (val_main_v65 (F := Ideal) x0 x1 x2 x3) b key H d = (gradK q k v g b H key d : EReal) := by
  have h : e96 (val_main_v65 (F := Ideal) x0 x1 x2 x3) b key H d = ∑ s, eS (val_main_v63 (F := Ideal) x0 x1 x2 x3) b H s key * e96 x0 b s H d := by
    unfold e96 eS
    pointwise [val_main_v65, val_main_v64]
  rw [h]
  unfold gradK
  rw [Finset.sum_mul, coe_sum]
  refine Finset.sum_congr rfl fun s _ => ?_
  rw [dScore_real x0 x1 x2 x3 q k v g hq hk hv hg, hq, ← EReal.coe_mul]
  exact congrArg ((↑) : ℝ → EReal) (by ring)

include hq hk hg in
theorem refV (b : Fin 4) (key : Fin 2048) (H : Fin 8) (x : Fin 64) : e64 (val_main_v48 (F := Ideal) x0 x1 x3) b key H x = (gradV q k g b H key x : EReal) := by
  have h : e64 (val_main_v48 (F := Ideal) x0 x1 x3) b key H x = ∑ s, (x3 (ix3 b s (side H x)) : EReal) * eS (val_main_v37 (F := Ideal) x0 x1) b H s key := by
    unfold e64 eS side
    pointwise [val_main_v48, val_main_v47, val_main_v45, val_main_v44, val_main_v43]
  rw [h]
  unfold gradV
  rw [coe_sum]
  refine Finset.sum_congr rfl fun s _ => ?_
  rw [hg, soft_real x0 x1 q k hq hk, ← EReal.coe_mul, mul_comm]

end Cert.Reference3Ideal.Attn

end
-- ==== Proof.AttnClaim.lean ====
/- The claims about `Kernel3` and `Reference3`: the gradients of the attention, at finite arguments. -/
module

public import proofs.«01_k».proof.Defs
public import proofs.«01_k».proof.Proof.Finite
public import proofs.«01_k».proof.Proof.AttnRef
public import proofs.«01_k».proof.Proof.Gen.Pre_finite3
public import proofs.«01_k».proof.Proof.Gen.Reference3Ideal.Run
public import Idealize.ShloMosaic.Lib.Claim

@[expose] public section

set_option maxRecDepth 16384

noncomputable section

open Idealize.ShloMosaic Idealize.ShloMosaic.TcCoe Idealize.SL.Sem

namespace Cert.Proof

instance subsingleton_scalar3 : Subsingleton Cert.Pre_finite3.S_.Idx := ⟨fun a b => funext fun i => i.elim0⟩

open Cert.Pre_finite3 in
/-- The precondition of the attention: every element of every argument is a real number. -/
theorem finite3_real [Cert.Pre_finite3.Facts] (x0 x1 : FVec Ideal S4x2048x8x96 .f32) (x2 : FVec Ideal S4x2048x8x64 .f32) (x3 : FVec Ideal S4x2048x512 .bf16)
    (h : Cert.Pre_finite3.fn (F := Ideal) x0 x1 x2 x3 = fun _ => 1#1) :
    (∀ i, @Eq EReal (x0 i) (((x0 i : EReal).toReal : ℝ) : EReal)) ∧ (∀ i, @Eq EReal (x1 i) (((x1 i : EReal).toReal : ℝ) : EReal))
      ∧ (∀ i, @Eq EReal (x2 i) (((x2 i : EReal).toReal : ℝ) : EReal)) ∧ (∀ i, @Eq EReal (x3 i) (((x3 i : EReal).toReal : ℝ) : EReal)) := by
  have e := congrFun h (fun i => i.elim0)
  unfold Cert.Pre_finite3.fn Cert.Pre_finite3.fn_part1 at e
  obtain ⟨e, e3⟩ := IntOp.andi_eq_one.1 e
  obtain ⟨e, e2⟩ := IntOp.andi_eq_one.1 e
  obtain ⟨e0, e1⟩ := IntOp.andi_eq_one.1 e
  exact ⟨fun i => Cert.Finite.all_real x0 _ (fun _ => Cert.Finite.inf_eq) _ _ _ _ e0 i, fun i => Cert.Finite.all_real x1 _ (fun _ => Cert.Finite.inf_eq) _ _ _ _ e1 i,
    fun i => Cert.Finite.all_real x2 _ (fun _ => Cert.Finite.inf_eq) _ _ _ _ e2 i, fun i => Cert.Finite.all_real _ _ (fun _ => Cert.Finite.inf_eq) _ _ _ _ e3 i⟩

/-- The reference runs to its end and leaves its arguments alone. -/
theorem frame_reference3 : Cert.quiescent_Reference3Ideal := by
  intro m g _
  exact θ_run_mono (Cert.Reference3Ideal.Value.run m g) fun r h => ⟨fun c => (h c).2.2.2, sem_eq_zero_of_no_sems (by decide) r.2⟩

open Cert.Kernel3Ideal Cert.Kernel3Ideal.Gen Cert.Kernel3Ideal.Attn in
/-- What the kernel leaves in its three results. -/
theorem results3 (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v186) = out m c main_v186
      ∧ r.2.mem ((c.tc : Thread nD τ).loc main_v193) = out m c main_v193
      ∧ r.2.mem ((c.tc : Thread nD τ).loc main_v195) = out m c main_v195) := by
  run_from run_main m g

/-- Two arrays of heads with the same elements. -/
theorem ext96 (X Y : Vec Ideal Cert.Kernel3Ideal.S4x2048x8x96 .f32) (h : ∀ b s H d, Cert.Kernel3Ideal.Attn.e96 X b s H d = Cert.Kernel3Ideal.Attn.e96 Y b s H d) : X = Y := by
  funext y
  obtain ⟨b, s, H, d, rfl⟩ : ∃ b s H d, y = ix4 b s H d := ⟨y 0, y 1, y 2, y 3, by funext a; fin_cases a <;> rfl⟩
  exact h b s H d
@[inherit_doc ext96] theorem ext64 (X Y : Vec Ideal Cert.Kernel3Ideal.S4x2048x8x64 .f32) (h : ∀ b s H d, Cert.Kernel3Ideal.Attn.e64 X b s H d = Cert.Kernel3Ideal.Attn.e64 Y b s H d) : X = Y := by
  funext y
  obtain ⟨b, s, H, d, rfl⟩ : ∃ b s H d, y = ix4 b s H d := ⟨y 0, y 1, y 2, y 3, by funext a; fin_cases a <;> rfl⟩
  exact h b s H d

/-- Over the reals the kernel and the reference leave the same arrays, at finite arguments. -/
theorem algebraic3 [Cert.Pre_finite3.Facts] : Cert.algebraic_Kernel3Ideal_Reference3Ideal_pre_finite3 := by
  intro m g m' g' hpre hagree
  refine ⟨fun c => Cert.Kernel3Ideal.Attn.out m c Cert.Kernel3Ideal.main_v186, fun c => Cert.Kernel3Ideal.Attn.out m c Cert.Kernel3Ideal.main_v193,
    fun c => Cert.Kernel3Ideal.Attn.out m c Cert.Kernel3Ideal.main_v195, ?_, ?_⟩
  · exact θ_run_mono (θ_run_and (results3 m g) (Cert.Kernel3Ideal.Gen.unchanged m g)) fun r h c => ⟨(h.1 c).1, (h.1 c).2.1, (h.1 c).2.2, h.2 c⟩
  · refine θ_run_mono (Cert.Reference3Ideal.Value.run m' g') fun r hr c => ?_
    obtain ⟨a0, a1, a2, a3⟩ := hagree c
    obtain ⟨h0, h1, h2, h⟩ := hr c
    obtain ⟨r0, r1, r2, r3⟩ := finite3_real _ _ _ _ (hpre c)
    refine ⟨h0.trans ((Cert.Reference3Ideal.Read.val_main_v67_eq _ _).trans ?_), h1.trans ((Cert.Reference3Ideal.Read.val_main_v65_eq _ _).trans ?_),
      h2.trans ((Cert.Reference3Ideal.Read.val_main_v48_eq _ _).trans ?_), h⟩
    · rw [a0, a1, a2, a3]
      exact ext96 _ _ fun b s H d => (Cert.Reference3Ideal.Attn.refQ _ _ _ _ _ _ _ _ (fun _ _ _ _ => r0 _) (fun _ _ _ _ => r1 _) (fun _ _ _ _ => r2 _) (fun _ _ _ => r3 _) b s H d).trans
        (Cert.Kernel3Ideal.Attn.outQ_real m c _ _ _ _ (fun _ _ _ _ => r0 _) (fun _ _ _ _ => r1 _) (fun _ _ _ _ => r2 _) (fun _ _ _ => r3 _) b s H d).symm
    · rw [a0, a1, a2, a3]
      exact ext96 _ _ fun b s H d => (Cert.Reference3Ideal.Attn.refK _ _ _ _ _ _ _ _ (fun _ _ _ _ => r0 _) (fun _ _ _ _ => r1 _) (fun _ _ _ _ => r2 _) (fun _ _ _ => r3 _) b s H d).trans
        (Cert.Kernel3Ideal.Attn.outK_real m c _ _ _ _ (fun _ _ _ _ => r0 _) (fun _ _ _ _ => r1 _) (fun _ _ _ _ => r2 _) (fun _ _ _ => r3 _) b s H d).symm
    · rw [a0, a1, a3]
      exact ext64 _ _ fun b s H d => (Cert.Reference3Ideal.Attn.refV _ _ _ _ _ _ (fun _ _ _ _ => r0 _) (fun _ _ _ _ => r1 _) (fun _ _ _ => r3 _) b s H d).trans
        (Cert.Kernel3Ideal.Attn.outV_real m c _ _ _ _ (fun _ _ _ _ => r0 _) (fun _ _ _ _ => r1 _) (fun _ _ _ _ => r2 _) (fun _ _ _ => r3 _) b s H d).symm

/-- The constant of the kernel that stands for the logarithm of 2. -/
theorem preserves3 : Cert.preserves_Kernel3_Kernel3Ideal :=
  IdealRules.named_const.statement Cert.Kernel3Ideal.κ "ln2" .f32 0x3F317218#32 ((Real.log 2 : ℝ) : EReal) rfl

end Cert.Proof
end
-- ==== Proof.NormGrad.lean ====
/-
  The gradient of x ↦ x / √(mean x² + ε) at finite rows: the form that writes the projection out, and the form that
  differentiates the inverse square root and the mean one after the other, are the same.
-/
module

public import proofs.«01_k».proof.Proof.Finite

@[expose] public section

noncomputable section

open Idealize.ShloMosaic

namespace Cert.NormGrad

open Cert.Finite

theorem two : Ideal.ofBits .f32 0x40000000#32 = ((2 : ℝ) : EReal) := by simp [Ideal.ofBits, Ideal.ieee, -EReal.coe_mul]; norm_num
theorem one : Ideal.ofBits .f32 0x3F800000#32 = ((1 : ℝ) : EReal) := by simp [Ideal.ofBits, Ideal.ieee, -EReal.coe_mul]; norm_num
theorem zero : Ideal.ofBits .f32 0x00000000#32 = 0 := by simp [Ideal.ofBits, Ideal.ieee, -EReal.coe_mul]
theorem neghalf : Ideal.ofBits .f32 0xBF000000#32 = ((-1 / 2 : ℝ) : EReal) := by simp [Ideal.ofBits, Ideal.ieee, -EReal.coe_mul]; norm_num
theorem n1024 : Ideal.ofBits .f32 0x44800000#32 = ((1024 : ℝ) : EReal) := by simp [Ideal.ofBits, Ideal.ieee, -EReal.coe_mul]; norm_num
theorem eps : ∃ e : ℝ, 0 < e ∧ Ideal.ofBits .f32 0x358637BD#32 = (e : EReal) := by
  refine ⟨_, ?_, by simp [Ideal.ofBits, Ideal.ieee, -EReal.coe_mul]; rfl⟩
  norm_num

/-- The mean of the squares, plus ε. -/
def var (N : ℕ) (n : EReal) (x : Fin N → EReal) : EReal := Ideal.div (∑ i, x i * x i) n + Ideal.ofBits .f32 0x358637BD#32

theorem var_real (N : ℕ) (n : ℝ) (hn : 0 < n) (x : Fin N → ℝ) : ∃ v : ℝ, 0 < v ∧ var N n (fun i => (x i : EReal)) = (v : EReal) := by
  obtain ⟨e, he, h⟩ := eps
  refine ⟨(∑ i, x i * x i) * (1 / n) + e, ?_, ?_⟩
  · have : 0 ≤ ∑ i, x i * x i := Finset.sum_nonneg fun i _ => mul_self_nonneg _
    positivity
  · unfold var
    rw [h, Ideal.div_coe hn.ne', EReal.coe_add, EReal.coe_mul, coe_sum]
    simp only [EReal.coe_mul]

theorem rsqrt_pos (v : ℝ) (h : 0 < v) : Ideal.rsqrt (v : EReal) = (((Real.sqrt v)⁻¹ : ℝ) : EReal) := by
  rw [Ideal.rsqrt_coe, if_neg (not_lt.2 h.le), if_neg h.ne']

/-- The inverse root of a finite row is a real number. -/
theorem rsqrt_real (N : ℕ) (n : ℝ) (hn : 0 < n) (x : Fin N → EReal) (hx : ∀ i, IsReal (x i)) : IsReal (Ideal.rsqrt (var N n x)) := by
  choose x' hx' using hx
  obtain rfl : x = fun i => (x' i : EReal) := funext hx'
  obtain ⟨v, h, e⟩ := var_real N n hn x'
  rw [e, rsqrt_pos v h]
  exact IsReal.coe _

/-- The two forms of the gradient of one row at coordinate `k`. -/
theorem grad (N : ℕ) (n : ℝ) (hn : 0 < n) (x d : Fin N → EReal) (hx : ∀ i, IsReal (x i)) (hd : ∀ i, IsReal (d i)) (k : Fin N) :
    Ideal.rsqrt (var N n x) * (d k - x k * Ideal.rsqrt (var N n x) * Ideal.div (∑ i, d i * (x i * Ideal.rsqrt (var N n x))) n)
      = d k * Ideal.rsqrt (var N n x) + Ideal.div ((∑ i, x i * d i) * (Ideal.ofBits .f32 0xBF000000#32 * Ideal.div (Ideal.rsqrt (var N n x)) (var N n x))) n
          * (Ideal.ofBits .f32 0x40000000#32 * x k) := by
  choose x' hx' using hx
  choose d' hd' using hd
  obtain rfl : x = fun i => (x' i : EReal) := funext hx'
  obtain rfl : d = fun i => (d' i : EReal) := funext hd'
  obtain ⟨v, h, e⟩ := var_real N n hn x'
  rw [e, rsqrt_pos v h, two, neghalf, Ideal.div_coe h.ne', Ideal.div_coe hn.ne', Ideal.div_coe hn.ne']
  simp only [← EReal.coe_mul, ← coe_sum, ← EReal.coe_sub, ← EReal.coe_add]
  refine congrArg ((↑) : ℝ → EReal) ?_
  have hs : (Real.sqrt v)⁻¹ * (Real.sqrt v)⁻¹ = 1 / v := by rw [← mul_inv, Real.mul_self_sqrt h.le, one_div]
  generalize (Real.sqrt v)⁻¹ = r at hs ⊢
  have h1 : ∑ i, d' i * (x' i * r) = (∑ i, x' i * d' i) * r := by
    rw [Finset.sum_mul]; exact Finset.sum_congr rfl fun i _ => by ring
  rw [h1, ← hs]
  ring

end Cert.NormGrad
end
-- ==== Proof.RowSum.lean ====
/- A host sum over the first two axes of three, read at an index. -/
module

public import Idealize.ShloMosaic.PureOps.Ideal.Laws
public import Idealize.ShloMosaic.Lib.Pointwise

@[expose] public section

open Idealize.ShloMosaic

namespace Cert.RowSum

theorem rows {n0 n1 n2 : ℕ} (h : (⟨3, ![n0, n1, n2]⟩ : Shape).ReducesTo [0, 1] ⟨1, ![n2]⟩) (x : (⟨3, ![n0, n1, n2]⟩ : Shape).Idx → EReal) (e : EReal) (k : Fin n2) :
    Ideal.hostReduceAdd h x e (ix1 k) = e + ∑ a : Fin n0, ∑ b : Fin n1, x (ix3 a b k) := by
  unfold Ideal.hostReduceAdd
  congr 1
  rw [← Fintype.sum_prod_type']
  refine Finset.sum_filter_eq_sum_of_fiber _ (fun p : Fin n0 × Fin n1 => ix3 p.1 p.2 k) (fun p q e => Prod.ext (congrFun e 0) (congrFun e 1)) (fun i => ?_) x
  constructor
  · intro e
    refine ⟨(i 0, i 1), ?_⟩
    funext a
    match a with
    | ⟨0, _⟩ => rfl
    | ⟨1, _⟩ => rfl
    | ⟨2, _⟩ => exact Fin.ext (congrArg Fin.val (congrFun e 0)).symm
  · rintro ⟨p, rfl⟩
    funext b
    apply Fin.ext
    match b with
    | ⟨0, _⟩ => rfl

end Cert.RowSum
-- ==== Proof.Ff1.lean ====
/- The gradients through the second norm, its modulation and the gated residual: each grid point's rows of the two
   row gradients, and the sums over the rows of a batch and over all rows. -/
module

public import proofs.«01_k».proof.Proof.Gen.Kernel4Ideal.Frame
public import proofs.«01_k».proof.Proof.Gen.Reference4Ideal.Read
public import proofs.«01_k».proof.Proof.NormGrad
public import proofs.«01_k».proof.Proof.RowSum
public import Idealize.ShloMosaic.Lib.Pipeline.ValueKit
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel4Ideal.Ff1

open Cert.Kernel4Ideal Cert.Kernel4Ideal.Gen Cert.Reference4Ideal.Read Cert.Finite

variable (m : (ℓ : Loc nD τ sig) → Buf (Elt Ideal) ℓ)

/-- Where each window's block lies, at every grid point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val / 4, 0, 0] ∧ win0_6.index t = ![t.val / 4, 0, 0] ∧ win0_7.index t = ![0, 0]
    ∧ win0_8.index t = ![t.val, 0] ∧ win0_9.index t = ![t.val, 0] ∧ win0_10.index t = ![t.val / 4, 0, 0] ∧ win0_11.index t = ![t.val / 4, 0, 0]
    ∧ win0_12.index t = ![t.val / 4, 0, 0] ∧ win0_13.index t = ![0, 0] :=
  (by decide +kernel : ∀ t : Fin grid0.N, _)

/-- Rows of the batches one after another. -/
theorem rows_apply (A : Vec Ideal S4x2048x1024 .f32) (x : S8192x1024.Idx) : shapeCast S8192x1024 A shapeCasts_S4x2048x1024_S8192x1024 x
    = A (ix3 ⟨(x 0).val / 2048, by have := (x 0).isLt; simp at this; omega⟩ ⟨(x 0).val % 2048, Nat.mod_lt _ (by decide)⟩ (x 1)) := by
  pointwise
@[inherit_doc rows_apply] theorem rows_apply16 (A : Vec Ideal S4x2048x1024 .bf16) (x : S8192x1024.Idx) : shapeCast S8192x1024 A shapeCasts_S4x2048x1024_S8192x1024 x
    = A (ix3 ⟨(x 0).val / 2048, by have := (x 0).isLt; simp at this; omega⟩ ⟨(x 0).val % 2048, Nat.mod_lt _ (by decide)⟩ (x 1)) := by
  pointwise
@[inherit_doc rows_apply] theorem rows_apply' (A : Vec Ideal S4x2048x4096 .bf16) (x : S8192x4096.Idx) : shapeCast S8192x4096 A shapeCasts_S4x2048x4096_S8192x4096 x
    = A (ix3 ⟨(x 0).val / 2048, by have := (x 0).isLt; simp at this; omega⟩ ⟨(x 0).val % 2048, Nat.mod_lt _ (by decide)⟩ (x 1)) := by
  pointwise

/-- The batch and the place in it of row `r` of grid point `t`. -/
def bt (t : Fin cfg0.N) : Fin 4 := ⟨t.val / 4, by have := lt_of_lt_of_eq t.isLt N_0; omega⟩
@[inherit_doc bt] def ro (t : Fin cfg0.N) (r : Fin 512) : Fin 2048 := ⟨t.val % 4 * 512 + r.val, by omega⟩
/-- The row among all rows. -/
def rw' (t : Fin cfg0.N) (r : Fin 512) : Fin 8192 := ⟨t.val * 512 + r.val, by have := lt_of_lt_of_eq t.isLt N_0; omega⟩

/-- The arguments. -/
abbrev A0 (c : Dev nD) : FVec Ideal S4x2048x1024 .f32 := m ((c : Thread nD τ).loc main_arg0)
@[inherit_doc A0] abbrev A1 (c : Dev nD) : FVec Ideal S4x2048x1024 .bf16 := m ((c : Thread nD τ).loc main_arg1)
@[inherit_doc A0] abbrev A2 (c : Dev nD) : FVec Ideal S4x1x1024 .f32 := m ((c : Thread nD τ).loc main_arg2)
@[inherit_doc A0] abbrev A3 (c : Dev nD) : FVec Ideal S1024 .f32 := m ((c : Thread nD τ).loc main_arg3)
@[inherit_doc A0] abbrev A4 (c : Dev nD) : FVec Ideal S4x1x1024 .f32 := m ((c : Thread nD τ).loc main_arg4)
@[inherit_doc A0] abbrev A6 (c : Dev nD) : FVec Ideal S1024x4096 .f32 := m ((c : Thread nD τ).loc main_arg6)
@[inherit_doc A0] abbrev A7 (c : Dev nD) : FVec Ideal S4x2048x1024 .f32 := m ((c : Thread nD τ).loc main_arg7)
@[inherit_doc A0] abbrev A8 (c : Dev nD) : FVec Ideal S4x2048x4096 .bf16 := m ((c : Thread nD τ).loc main_arg8)

/-- The operands' blocks, read off the arguments. -/
theorem in0 (c : Dev nD) (t : Fin cfg0.N) (r : Fin 512) (j : Fin 4096) : (iblk m c 0 t : Vec Ideal S512x4096 .bf16) (ix2 r j) = A8 m c (ix3 (bt t) (ro t r) j) := by
  have h : (V m c main_v8 : Vec Ideal S8192x4096 .bf16) = shapeCast S8192x4096 (A8 m c : Vec Ideal S4x2048x4096 .bf16) shapeCasts_S4x2048x4096_S8192x4096 := by
    unfold V; after_reads_simp []; rfl
  have hb : (iblk m c 0 t : Vec Ideal S512x4096 .bf16) (ix2 r j) = (V m c main_v8 : Vec Ideal S8192x4096 .bf16) (ix2 (rw' t r) j) := by
    clear h
    blk_point [iblk, V, idx t, rw']
  rw [hb, h, rows_apply']
  clear hb h
  blk_point [rw', bt, ro]
theorem in1 (c : Dev nD) (t : Fin cfg0.N) (j : Fin 4096) (k : Fin 1024) : (iblk m c 1 t : Vec Ideal S4096x1024 .bf16) (ix2 j k) = A6 m c (ix2 k j) := by
  have h : (V m c main_v10 : Vec Ideal S4096x1024 .bf16) = (truncf .bf16 (transpose S4096x1024 [1, 0] (A6 m c) transposes_S1024x4096_S4096x1024_1_0 : FVec Ideal S4096x1024 .f32) bitsLt_bf16_f32 : FVec Ideal S4096x1024 .bf16) := by
    unfold V; after_reads_simp []
  have hb : (iblk m c 1 t : Vec Ideal S4096x1024 .bf16) (ix2 j k) = (V m c main_v10 : Vec Ideal S4096x1024 .bf16) (ix2 j k) := by
    clear h
    blk_point [iblk, V, idx t]
  rw [hb, h]
  clear hb h
  pointwise
theorem in2 (c : Dev nD) (t : Fin cfg0.N) (r : Fin 512) (k : Fin 1024) : @Eq EReal ((iblk m c 2 t : Vec Ideal S512x1024 .f32) (ix2 r k))
    (val_main_v3 (F := Ideal) (A0 m c) (A1 m c) (A2 m c) (ix3 (bt t) (ro t r) k)) := by
  have h : (V m c main_v6 : Vec Ideal S8192x1024 .f32) = shapeCast S8192x1024 (addf (A0 m c) (mulf (broadcastInDim S4x2048x1024 ![0, 1, 2] bcast_S4x1x1024_S4x2048x1024_0_1_2 (A2 m c))
      (extf .f32 (shapeCast S4x2048x1024 (shapeCast S8192x1024 (A1 m c) shapeCasts_S4x2048x1024_S8192x1024) shapeCasts_S8192x1024_S4x2048x1024) bitsLt_bf16_f32))) shapeCasts_S4x2048x1024_S8192x1024 := by
    unfold V; after_reads_simp []; rfl
  have hb : (iblk m c 2 t : Vec Ideal S512x1024 .f32) (ix2 r k) = (V m c main_v6 : Vec Ideal S8192x1024 .f32) (ix2 (rw' t r) k) := by
    clear h
    blk_point [iblk, V, idx t, rw']
  rw [hb, h, rows_apply]
  clear hb h
  pointwise [val_main_v3, val_main_v2, val_main_v1, val_main_v0]
  blk_point [rw', bt, ro]
theorem in3 (c : Dev nD) (t : Fin cfg0.N) (r : Fin 512) (k : Fin 1024) : (iblk m c 3 t : Vec Ideal S512x1024 .f32) (ix2 r k) = A7 m c (ix3 (bt t) (ro t r) k) := by
  have h : (V m c main_v7 : Vec Ideal S8192x1024 .f32) = shapeCast S8192x1024 (A7 m c : Vec Ideal S4x2048x1024 .f32) shapeCasts_S4x2048x1024_S8192x1024 := by
    unfold V; after_reads_simp []; rfl
  have hb : (iblk m c 3 t : Vec Ideal S512x1024 .f32) (ix2 r k) = (V m c main_v7 : Vec Ideal S8192x1024 .f32) (ix2 (rw' t r) k) := by
    clear h
    blk_point [iblk, V, idx t, rw']
  rw [hb, h, rows_apply]
  clear hb h
  blk_point [rw', bt, ro]
theorem in4 (c : Dev nD) (t : Fin cfg0.N) (r : Fin 512) (k : Fin 1024) : (iblk m c 4 t : Vec Ideal S512x1024 .bf16) (ix2 r k) = A1 m c (ix3 (bt t) (ro t r) k) := by
  have h : (V m c main_v0 : Vec Ideal S8192x1024 .bf16) = shapeCast S8192x1024 (A1 m c : Vec Ideal S4x2048x1024 .bf16) shapeCasts_S4x2048x1024_S8192x1024 := by
    unfold V; after_reads_simp []; rfl
  have hb : (iblk m c 4 t : Vec Ideal S512x1024 .bf16) (ix2 r k) = (V m c main_v0 : Vec Ideal S8192x1024 .bf16) (ix2 (rw' t r) k) := by
    clear h
    blk_point [iblk, V, idx t, rw']
  rw [hb, h, rows_apply16]
  clear hb h
  blk_point [rw', bt, ro]
theorem in5 (c : Dev nD) (t : Fin cfg0.N) (k : Fin 1024) : (iblk m c 5 t : Vec Ideal S1x1x1024 .f32) (ix3 0 0 k) = A4 m c (ix3 (bt t) 0 k) := by
  blk_point [iblk, V, idx t, bt]
theorem in6 (c : Dev nD) (t : Fin cfg0.N) (k : Fin 1024) : (iblk m c 6 t : Vec Ideal S1x1x1024 .f32) (ix3 0 0 k) = A2 m c (ix3 (bt t) 0 k) := by
  blk_point [iblk, V, idx t, bt]
theorem in7 (c : Dev nD) (t : Fin cfg0.N) (k : Fin 1024) : (iblk m c 7 t : Vec Ideal S1x1024 .f32) (ix2 0 k) = A3 m c (ix1 k) := by
  have h : (V m c main_v11 : Vec Ideal S1x1024 .f32) = shapeCast S1x1024 (A3 m c : Vec Ideal S1024 .f32) shapeCasts_S1024_S1x1024 := by
    unfold V; after_reads_simp []; rfl
  have hb : (iblk m c 7 t : Vec Ideal S1x1024 .f32) (ix2 0 k) = (V m c main_v11 : Vec Ideal S1x1024 .f32) (ix2 0 k) := by
    clear h
    blk_point [iblk, V, idx t]
  rw [hb, h]
  clear hb h
  pointwise

/-- The rows of the gradient with respect to the product's input, at grid point `t`. -/
abbrev dh (c : Dev nD) (t : Fin cfg0.N) : FVec Ideal S512x1024 .f32 := k0_pay2 (iblk m c 0 t) (k0_pay1 (F := Ideal)) (iblk m c 1 t)

theorem dh_eq (c : Dev nD) (t : Fin cfg0.N) (r : Fin 512) (k : Fin 1024) : @Eq EReal (dh m c t (ix2 r k)) (val_main_v30 (F := Ideal) (A6 m c) (A8 m c) (ix3 (bt t) (ro t r) k)) := by
  pointwise [k0_pay2, k0_pay1, val_main_v30, val_main_v29]
  refine Finset.sum_congr rfl fun j _ => ?_
  rw [in0, in1]

theorem r_eq (c : Dev nD) (t : Fin cfg0.N) (r : Fin 512) : @Eq EReal (k0_pay13 (iblk m c 2 t) (ix2 r 0))
    (val_main_v13 (F := Ideal) (A0 m c) (A1 m c) (A2 m c) (ix3 (bt t) (ro t r) 0)) := by
  pointwise [k0_pay13, k0_pay8, val_main_v13, val_main_v12, val_main_v11, val_main_cst_2, val_main_v10, val_main_v9, val_main_cst_1, val_main_v8, val_main_v7, val_main_cst_0, val_main_v4]
  simp only [in2]

theorem xh_eq (c : Dev nD) (t : Fin cfg0.N) (r : Fin 512) (k : Fin 1024) : @Eq EReal (k0_pay14 (iblk m c 2 t) (ix2 r k))
    (val_main_v18 (F := Ideal) (A0 m c) (A1 m c) (A2 m c) (ix3 (bt t) (ro t r) k)) := by
  pointwise [k0_pay14, k0_pay8, val_main_v18, val_main_v17]
  rw [in2, r_eq]

theorem dn_eq (c : Dev nD) (t : Fin cfg0.N) (r : Fin 512) (k : Fin 1024) : @Eq EReal (k0_pay15 (dh m c t) (iblk m c 5 t) (ix2 r k))
    (val_main_v37 (F := Ideal) (A4 m c) (A6 m c) (A8 m c) (ix3 (bt t) (ro t r) k)) := by
  have h := dh_eq m c t r k
  generalize dh m c t = D at h ⊢
  pointwise [k0_pay15, val_main_v37, val_main_v36, val_main_v23, val_main_v22, val_main_cst_4]
  rw [in5, h]

/-- The arguments that the gradient of the norm multiplies are real numbers. -/
structure IsReals (c : Dev nD) : Prop where
  a0 : ∀ i, IsReal (A0 m c i)
  a1 : ∀ i, IsReal (A1 m c i)
  a2 : ∀ i, IsReal (A2 m c i)
  a3 : ∀ i, IsReal (A3 m c i)
  a4 : ∀ i, IsReal (A4 m c i)
  a6 : ∀ i, IsReal (A6 m c i)
  a8 : ∀ i, IsReal (A8 m c i)

theorem x_real (c : Dev nD) (h : IsReals m c) (b : Fin 4) (s : Fin 2048) (k : Fin 1024) : IsReal (val_main_v3 (F := Ideal) (A0 m c) (A1 m c) (A2 m c) (ix3 b s k)) := by
  pointwise [val_main_v3, val_main_v2, val_main_v1, val_main_v0]
  exact (h.a0 _).add ((h.a2 _).mul (h.a1 _))

theorem d_real (c : Dev nD) (h : IsReals m c) (b : Fin 4) (s : Fin 2048) (k : Fin 1024) : IsReal (val_main_v42 (F := Ideal) (A3 m c) (A4 m c) (A6 m c) (A8 m c) (ix3 b s k)) := by
  pointwise [val_main_v42, val_main_v41, val_main_v19, val_main_v37, val_main_v36, val_main_v23, val_main_v22, val_main_cst_4, val_main_v30, val_main_v29]
  exact ((IsReal.sum _ fun i => (h.a8 _).mul (h.a6 _)).mul (IsReal.add ⟨1, by simp⟩ (h.a4 _))).mul (h.a3 _)

/-- The inverse root of a row. -/
theorem r_def (c : Dev nD) (b : Fin 4) (s : Fin 2048) : @Eq EReal (val_main_v13 (F := Ideal) (A0 m c) (A1 m c) (A2 m c) (ix3 b s 0))
    (Ideal.rsqrt (NormGrad.var 1024 ((1024 : ℝ) : EReal) fun k => val_main_v3 (F := Ideal) (A0 m c) (A1 m c) (A2 m c) (ix3 b s k))) := by
  pointwise [NormGrad.var, val_main_v13, val_main_v12, val_main_v11, val_main_cst_2, val_main_v10, val_main_v9, val_main_cst_1, val_main_v8, val_main_v7, val_main_cst_0, val_main_v4]
  rw [NormGrad.n1024]

theorem dx_eq (c : Dev nD) (h : IsReals m c) (t : Fin cfg0.N) (r : Fin 512) (k : Fin 1024) :
    @Eq EReal (k0_pay20 (k0_pay9 (iblk m c 3 t)) (k0_pay16 (dh m c t) (iblk m c 2 t) (iblk m c 5 t) (iblk m c 7 t)) (k0_pay17 (iblk m c 2 t)) (ix2 r k))
    (val_main_v56 (F := Ideal) (A0 m c) (A1 m c) (A2 m c) (A3 m c) (A4 m c) (A6 m c) (A7 m c) (A8 m c) (ix3 (bt t) (ro t r) k)) := by
  have hd : ∀ i, @Eq EReal (k0_pay15 (dh m c t) (iblk m c 5 t) (ix2 r i) * (iblk m c 7 t : Vec Ideal S1x1024 .f32) (ix2 0 i))
      (val_main_v42 (F := Ideal) (A3 m c) (A4 m c) (A6 m c) (A8 m c) (ix3 (bt t) (ro t r) i)) := fun i => by
    rw [dn_eq, in7]
    pointwise [val_main_v42, val_main_v41, val_main_v19]
  have hx := fun i => xh_eq m c t r i
  have hr := r_eq m c t r
  have h3 := in3 m c t r k
  pointwise [k0_pay20, k0_pay9, k0_pay16, k0_pay17, k0_pay12]
  rw [h3]
  simp only [hd, hx, hr]
  clear hd hx hr h3
  have hg := NormGrad.grad 1024 1024 (by norm_num) (fun i => val_main_v3 (F := Ideal) (A0 m c) (A1 m c) (A2 m c) (ix3 (bt t) (ro t r) i)) (fun i => val_main_v42 (F := Ideal) (A3 m c) (A4 m c) (A6 m c) (A8 m c) (ix3 (bt t) (ro t r) i)) (fun i => x_real m c h _ _ i) (fun i => d_real m c h _ _ i) k
  have e : ∀ i, @Eq EReal (val_main_v18 (F := Ideal) (A0 m c) (A1 m c) (A2 m c) (ix3 (bt t) (ro t r) i)) (val_main_v3 (F := Ideal) (A0 m c) (A1 m c) (A2 m c) (ix3 (bt t) (ro t r) i) * val_main_v13 (F := Ideal) (A0 m c) (A1 m c) (A2 m c) (ix3 (bt t) (ro t r) 0)) := fun i => by
    pointwise [val_main_v18, val_main_v17]
  have hr := r_def m c (bt t) (ro t r)
  simp only [e, hr, NormGrad.n1024]
  refine (congrArg (_ + ·) hg).trans ?_
  clear hg e h
  pointwise [val_main_v56, val_main_v55, val_main_v54, val_main_v53, val_main_v52, val_main_v51, val_main_v50, val_main_v49, val_main_v48, val_main_v47, val_main_v46, val_main_v45, val_main_v44, val_main_v16, val_main_v15, val_main_v14, val_main_v6, val_main_v5, val_main_cst, val_main_cst_3, val_main_cst_9, val_main_cst_10, val_main_cst_11]
  rw [Fin.sum_univ_one]
  have hv : @Eq EReal (val_main_v12 (F := Ideal) (A0 m c) (A1 m c) (A2 m c) (ix3 (bt t) (ro t r) 0)) (NormGrad.var 1024 ((1024 : ℝ) : EReal) fun k => val_main_v3 (F := Ideal) (A0 m c) (A1 m c) (A2 m c) (ix3 (bt t) (ro t r) k)) := by
    pointwise [NormGrad.var, val_main_v12, val_main_v11, val_main_cst_2, val_main_v10, val_main_v9, val_main_cst_1, val_main_v8, val_main_v7, val_main_cst_0, val_main_v4]
    rw [NormGrad.n1024]
  rw [hr, hv, NormGrad.n1024, add_assoc]

/-- What a grid point stores in its blocks of the two row gradients. -/
theorem outs (c : Dev nD) (t : Fin cfg0.N) (j : S512x1024.Idx) : (outsAt0 m c t.val t.isLt).1 j = k0_pay20 (k0_pay9 (iblk m c 3 t)) (k0_pay16 (dh m c t) (iblk m c 2 t) (iblk m c 5 t) (iblk m c 7 t)) (k0_pay17 (iblk m c 2 t)) j
    ∧ (outsAt0 m c t.val t.isLt).2.1 j = k0_pay22 (k0_pay9 (iblk m c 3 t)) (k0_pay11 (iblk m c 6 t)) (k0_pay16 (dh m c t) (iblk m c 2 t) (iblk m c 5 t) (iblk m c 7 t)) (k0_pay17 (iblk m c 2 t)) j := by
  have hc : t.val % 16 = 0 → t.val % 4 = 0 := by omega
  by_cases h2 : t.val % 4 = 0 <;> by_cases h3 : t.val % 16 = 0 <;> first | exact absurd (hc h3) h2 | skip
  on_goal 1 => rw [outsAt0_A m c t h2 h3]
  on_goal 2 => rw [outsAt0_C m c t h2 h3]
  on_goal 3 => rw [outsAt0_B m c t h2 h3]
  all_goals exact ⟨by frame_out, by frame_out⟩

/-- The kernel's gradient with respect to the residual stream is the reference's. -/
theorem final8 (c : Dev nD) (h : IsReals m c) : (dats m 0 c).arrAt 8 (cfgs 0).N = val_main_v63 (F := Ideal) (A0 m c) (A1 m c) (A2 m c) (A3 m c) (A4 m c) (A6 m c) (A7 m c) (A8 m c) := by
  refine (dats m 0 c).arrAt_eq_of_covers 8 _ (by decide +kernel) fun t hf y => ?_
  blk_simp
  refine Eq.trans (show _ = (_ : EReal) from (congrFun (after0_8 m c t) _).trans ((outs m c t _).1)) ?_
  have hy : (y : S512x1024.Idx) = ix2 (n0 := 512) (n1 := 1024) (y 0) (y 1) := by funext a; fin_cases a <;> rfl
  refine (congrArg _ hy).trans ((dx_eq m c h t _ _).trans ?_)
  clear h hy
  pointwise [val_main_v63]
  blk_point [idx t, bt, ro]

theorem row9 (c : Dev nD) (h : IsReals m c) (t : Fin cfg0.N) (r : Fin 512) (k : Fin 1024) : @Eq EReal (k0_pay22 (k0_pay9 (iblk m c 3 t)) (k0_pay11 (iblk m c 6 t)) (k0_pay16 (dh m c t) (iblk m c 2 t) (iblk m c 5 t) (iblk m c 7 t)) (k0_pay17 (iblk m c 2 t)) (ix2 r k))
    (A2 m c (ix3 (bt t) 0 k) * val_main_v56 (F := Ideal) (A0 m c) (A1 m c) (A2 m c) (A3 m c) (A4 m c) (A6 m c) (A7 m c) (A8 m c) (ix3 (bt t) (ro t r) k)) := by
  pointwise [k0_pay22, k0_pay11]
  rw [dx_eq m c h, in6]

/-- The kernel's gradient with respect to the merged branches is the reference's. -/
theorem final9 (c : Dev nD) (h : IsReals m c) : (dats m 0 c).arrAt 9 (cfgs 0).N = val_main_v65 (F := Ideal) (A0 m c) (A1 m c) (A2 m c) (A3 m c) (A4 m c) (A6 m c) (A7 m c) (A8 m c) := by
  refine (dats m 0 c).arrAt_eq_of_covers 9 _ (by decide +kernel) fun t hf y => ?_
  blk_simp
  refine Eq.trans (show _ = (_ : EReal) from (congrFun (after0_9 m c t) _).trans ((outs m c t _).2)) ?_
  have hy : (y : S512x1024.Idx) = ix2 (n0 := 512) (n1 := 1024) (y 0) (y 1) := by funext a; fin_cases a <;> rfl
  refine (congrArg _ hy).trans ((row9 m c h t _ _).trans ?_)
  clear h hy
  pointwise [val_main_v65, val_main_v64, val_main_v59, val_main_v58, val_main_v57]
  blk_point [idx t, bt, ro]

/-- The terms of the row sums, row by row. -/
theorem row10 (c : Dev nD) (t : Fin cfg0.N) (r : Fin 512) (k : Fin 1024) : @Eq EReal (dh m c t (ix2 r k) * k0_pay14 (iblk m c 2 t) (ix2 r k) * k0_pay12 (iblk m c 7 t) (ix2 0 k))
    (val_main_v18 (F := Ideal) (A0 m c) (A1 m c) (A2 m c) (ix3 (bt t) (ro t r) k) * val_main_v19 (F := Ideal) (A3 m c) (ix3 0 0 k) * val_main_v30 (F := Ideal) (A6 m c) (A8 m c) (ix3 (bt t) (ro t r) k)) := by
  pointwise [k0_pay12, val_main_v19]
  rw [dh_eq, xh_eq, in7, mul_assoc, mul_comm]
theorem row12 (c : Dev nD) (h : IsReals m c) (t : Fin cfg0.N) (r : Fin 512) (k : Fin 1024) : @Eq EReal (k0_pay20 (k0_pay9 (iblk m c 3 t)) (k0_pay16 (dh m c t) (iblk m c 2 t) (iblk m c 5 t) (iblk m c 7 t)) (k0_pay17 (iblk m c 2 t)) (ix2 r k) * (iblk m c 4 t : Vec Ideal S512x1024 .bf16) (ix2 r k))
    (val_main_v56 (F := Ideal) (A0 m c) (A1 m c) (A2 m c) (A3 m c) (A4 m c) (A6 m c) (A7 m c) (A8 m c) (ix3 (bt t) (ro t r) k) * A1 m c (ix3 (bt t) (ro t r) k)) := by
  rw [dx_eq m c h, in4]
theorem row13 (c : Dev nD) (t : Fin cfg0.N) (r : Fin 512) (k : Fin 1024) : @Eq EReal (k0_pay15 (dh m c t) (iblk m c 5 t) (ix2 r k) * k0_pay14 (iblk m c 2 t) (ix2 r k))
    (val_main_v38 (F := Ideal) (A0 m c) (A1 m c) (A2 m c) (A4 m c) (A6 m c) (A8 m c) (ix3 (bt t) (ro t r) k)) := by
  pointwise [val_main_v38]
  rw [dn_eq, xh_eq, mul_comm]

/-- The kernel's gradient with respect to the scale is the reference's. -/
theorem final10 (c : Dev nD) : (dats m 0 c).arrAt 10 (cfgs 0).N = val_main_v35 (F := Ideal) (A0 m c) (A1 m c) (A2 m c) (A3 m c) (A6 m c) (A8 m c) := by
  refine (dats m 0 c).arrAt_eq_of_covers 10 _ (by decide +kernel) fun t hf y => ?_
  blk_simp
  rw [after0_10, Pipeline.eq_sum_fin_of_reset_step_apply_of_flush (fun n h => (outsAt0 m c n h).2.2.1) 4 (fun _ => 0)
    (fun t j => ∑ r : Fin 512, dh m c t (ix2 r (j 2)) * k0_pay14 (iblk m c 2 t) (ix2 r (j 2)) * k0_pay12 (iblk m c 7 t) (ix2 0 (j 2)))
    (fun t h j => by
      by_cases h3 : t.val % 16 = 0
      · rw [outsAt0_A m c t h h3]; frame_out; pointwise [k0_pay3, k0_pay26, k0_pay23]
      · rw [outsAt0_C m c t h h3]; frame_out; pointwise [k0_pay3, k0_pay26, k0_pay23])
    (fun t h j => by
      rw [outsAt0_B m c t h (by omega)]; frame_out; pointwise [k0_pay3, k0_pay26, k0_pay23])
    t ((flush0_10 t).mp hf) _, zero_add]
  pointwise [val_main_v35, val_main_v34, val_main_v33, val_main_cst_6, val_main_v21, val_main_v20]
  refine Fin.sum_mul_add_congr fun s k hl => ?_
  refine (row10 m c ⟨_, Pipeline.run_point_lt_of_flush t ((flush0_10 t).mp hf) s⟩ k (y 2)).trans ?_
  blk_point [idx t, idx ⟨_, Pipeline.run_point_lt_of_flush t ((flush0_10 t).mp hf) s⟩, bt, ro]

/-- The kernel's gradient with respect to the shift is the reference's. -/
theorem final11 (c : Dev nD) : (dats m 0 c).arrAt 11 (cfgs 0).N = val_main_v32 (F := Ideal) (A6 m c) (A8 m c) := by
  refine (dats m 0 c).arrAt_eq_of_covers 11 _ (by decide +kernel) fun t hf y => ?_
  blk_simp
  rw [after0_11, Pipeline.eq_sum_fin_of_reset_step_apply_of_flush (fun n h => (outsAt0 m c n h).2.2.2.1) 4 (fun _ => 0)
    (fun t j => ∑ r : Fin 512, dh m c t (ix2 r (j 2)))
    (fun t h j => by
      by_cases h3 : t.val % 16 = 0
      · rw [outsAt0_A m c t h h3]; frame_out; pointwise [k0_pay4, k0_pay18, k0_pay24]
      · rw [outsAt0_C m c t h h3]; frame_out; pointwise [k0_pay4, k0_pay18, k0_pay24])
    (fun t h j => by
      rw [outsAt0_B m c t h (by omega)]; frame_out; pointwise [k0_pay4, k0_pay18, k0_pay24])
    t ((flush0_11 t).mp hf) _, zero_add]
  pointwise [k0_pay18, val_main_v32, val_main_v31, val_main_cst_5]
  refine Fin.sum_mul_add_congr fun s k hl => ?_
  refine (dh_eq m c ⟨_, Pipeline.run_point_lt_of_flush t ((flush0_11 t).mp hf) s⟩ k (y 2)).trans ?_
  blk_point [idx t, idx ⟨_, Pipeline.run_point_lt_of_flush t ((flush0_11 t).mp hf) s⟩, bt, ro]

/-- The kernel's gradient with respect to the gate is the reference's. -/
theorem final12 (c : Dev nD) (h : IsReals m c) : (dats m 0 c).arrAt 12 (cfgs 0).N = val_main_v62 (F := Ideal) (A0 m c) (A1 m c) (A2 m c) (A3 m c) (A4 m c) (A6 m c) (A7 m c) (A8 m c) := by
  refine (dats m 0 c).arrAt_eq_of_covers 12 _ (by decide +kernel) fun t hf y => ?_
  blk_simp
  rw [after0_12, Pipeline.eq_sum_fin_of_reset_step_apply_of_flush (fun n h => (outsAt0 m c n h).2.2.2.2.1) 4 (fun _ => 0)
    (fun t j => k0_pay21 (k0_pay9 (iblk m c 3 t)) (k0_pay10 (iblk m c 4 t)) (k0_pay16 (dh m c t) (iblk m c 2 t) (iblk m c 5 t) (iblk m c 7 t)) (k0_pay17 (iblk m c 2 t)) (ix2 0 (j 2)))
    (fun t h j => by
      by_cases h3 : t.val % 16 = 0
      · rw [outsAt0_A m c t h h3]; frame_out; pointwise [k0_pay5, k0_pay25]
      · rw [outsAt0_C m c t h h3]; frame_out; pointwise [k0_pay5, k0_pay25])
    (fun t h j => by
      rw [outsAt0_B m c t h (by omega)]; frame_out; pointwise [k0_pay5, k0_pay25])
    t ((flush0_12 t).mp hf) _, zero_add]
  pointwise [k0_pay21, k0_pay10, val_main_v62, val_main_v61, val_main_v60, val_main_v57, val_main_v0, val_main_cst_12]
  refine Fin.sum_mul_add_congr fun s k hl => ?_
  refine (row12 m c h ⟨_, Pipeline.run_point_lt_of_flush t ((flush0_12 t).mp hf) s⟩ k (y 2)).trans ?_
  clear h
  blk_point [idx t, idx ⟨_, Pipeline.run_point_lt_of_flush t ((flush0_12 t).mp hf) s⟩, bt, ro]

/-- The reference's gradient with respect to the gain is a sum over all rows. -/
theorem gain_ref (c : Dev nD) (k : Fin 1024) : @Eq EReal (val_main_v66 (F := Ideal) (A0 m c) (A1 m c) (A2 m c) (A4 m c) (A6 m c) (A8 m c) (ix2 0 k))
    (∑ a : Fin 4, ∑ b : Fin 2048, val_main_v38 (F := Ideal) (A0 m c) (A1 m c) (A2 m c) (A4 m c) (A6 m c) (A8 m c) (ix3 a b k)) := by
  pointwise [val_main_v66]
  unfold val_main_v43 val_main_cst_8
  simp only [Host.reduceAdd, Ideal.hostReduceAdd_def]
  rw [RowSum.rows, Fin.sum_univ_one, Fin.sum_univ_one]
  pointwise [val_main_v40]
  unfold val_main_v39 val_main_cst_7
  simp only [Host.reduceAdd, Ideal.hostReduceAdd_def]
  rw [RowSum.rows]
  pointwise

/-- The kernel's gradient with respect to the norm's gain is the reference's. -/
theorem final13 (c : Dev nD) : (dats m 0 c).arrAt 13 (cfgs 0).N = val_main_v66 (F := Ideal) (A0 m c) (A1 m c) (A2 m c) (A4 m c) (A6 m c) (A8 m c) := by
  refine (dats m 0 c).arrAt_eq_of_covers 13 _ (by decide +kernel) fun t hf y => ?_
  blk_simp
  rw [after0_13, Pipeline.eq_sum_fin_of_reset_step_apply_of_flush (fun n h => (outsAt0 m c n h).2.2.2.2.2) 16 (fun _ => 0)
    (fun t j => ∑ r : Fin 512, k0_pay15 (dh m c t) (iblk m c 5 t) (ix2 r (j 1)) * k0_pay14 (iblk m c 2 t) (ix2 r (j 1)))
    (fun t h j => by
      rw [outsAt0_A m c t (by omega) h]; frame_out; pointwise [k0_pay6, k0_pay7, k0_pay19])
    (fun t h j => by
      by_cases h2 : t.val % 4 = 0
      · rw [outsAt0_C m c t h2 h]; frame_out; pointwise [k0_pay6, k0_pay7, k0_pay19]
      · rw [outsAt0_B m c t h2 h]; frame_out; pointwise [k0_pay6, k0_pay7, k0_pay19])
    t ((flush0_13 t).mp hf) _, zero_add]
  have hy : (((View.whole main_v12_5).slice (win0_13.rect t)).emb y : S1x1024.Idx) = ix2 (n0 := 1) (n1 := 1024) 0 (((View.whole main_v12_5).slice (win0_13.rect t)).emb y 1) := by
    funext a
    match a with
    | ⟨0, _⟩ => exact Subsingleton.elim (α := Fin 1) _ _
    | ⟨1, _⟩ => rfl
  refine Eq.trans ?_ ((congrArg (val_main_v66 (F := Ideal) (A0 m c) (A1 m c) (A2 m c) (A4 m c) (A6 m c) (A8 m c)) hy).trans (gain_ref m c _)).symm
  clear hy
  refine Fin.sum_points_lanes_congr 4 fun s k ha hl => ?_
  refine (row13 m c ⟨_, Pipeline.run_point_lt_of_flush t ((flush0_13 t).mp hf) s⟩ k (y 1)).trans ?_
  pointwise
  blk_point [idx t, idx ⟨_, Pipeline.run_point_lt_of_flush t ((flush0_13 t).mp hf) s⟩, bt, ro]

end Cert.Kernel4Ideal.Ff1
end
-- ==== Proof.Ff1Claim.lean ====
/- The claims about `Kernel4` and `Reference4`: the gradients through the second norm, at finite arguments. -/
module

public import proofs.«01_k».proof.Defs
public import proofs.«01_k».proof.Proof.Ff1
public import proofs.«01_k».proof.Proof.Gen.Pre_finite4
public import proofs.«01_k».proof.Proof.Gen.Reference4Ideal.Run
public import Idealize.ShloMosaic.Lib.Claim

@[expose] public section

set_option maxRecDepth 16384

noncomputable section

open Idealize.ShloMosaic Idealize.ShloMosaic.TcCoe Idealize.SL.Sem

namespace Cert.Proof

instance subsingleton_scalar4 : Subsingleton Cert.Pre_finite4.S_.Idx := ⟨fun a b => funext fun i => i.elim0⟩

open Cert.Pre_finite4 Cert.Finite in
/-- The precondition: every element of the seven arguments that the norm's gradient multiplies is a real number. -/
theorem finite4_real [Cert.Pre_finite4.Facts] (x0 : FVec Ideal S4x2048x1024 .f32) (x1 : FVec Ideal S4x2048x1024 .bf16) (x2 : FVec Ideal S4x1x1024 .f32) (x3 : FVec Ideal S1024 .f32)
    (x4 x5 : FVec Ideal S4x1x1024 .f32) (x6 : FVec Ideal S1024x4096 .f32) (x7 : FVec Ideal S4x2048x1024 .f32) (x8 : FVec Ideal S4x2048x4096 .bf16)
    (h : Cert.Pre_finite4.fn (F := Ideal) x0 x1 x2 x3 x4 x5 x6 x7 x8 = fun _ => 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x6 i)) ∧ (∀ i, IsReal (x8 i)) := by
  have e := congrFun h (fun i => i.elim0)
  unfold Cert.Pre_finite4.fn Cert.Pre_finite4.fn_part1 Cert.Pre_finite4.fn_part2 at e
  obtain ⟨e, e8⟩ := IntOp.andi_eq_one.1 e
  obtain ⟨e, e6⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => ⟨_, all_real x0 _ (fun _ => inf_eq) _ _ _ _ e0 i⟩, fun i => ⟨_, all_real _ _ (fun _ => inf_eq) _ _ _ _ e1 i⟩, fun i => ⟨_, all_real x2 _ (fun _ => inf_eq) _ _ _ _ e2 i⟩,
    fun i => ⟨_, all_real x3 _ (fun _ => inf_eq) _ _ _ _ e3 i⟩, fun i => ⟨_, all_real x4 _ (fun _ => inf_eq) _ _ _ _ e4 i⟩, fun i => ⟨_, all_real x6 _ (fun _ => inf_eq) _ _ _ _ e6 i⟩,
    fun i => ⟨_, all_real _ _ (fun _ => inf_eq) _ _ _ _ e8 i⟩⟩

/-- The reference runs to its end and leaves its arguments alone. -/
theorem frame_reference4 : Cert.quiescent_Reference4Ideal := by
  intro m g _
  exact θ_run_mono (Cert.Reference4Ideal.Value.run m g) fun r h => ⟨fun c => (h c).2.2.2.2.2.2, sem_eq_zero_of_no_sems (by decide) r.2⟩

set_option maxHeartbeats 2000000 in
/-- Over the reals the kernel and the reference leave the same arrays, at finite arguments. -/
theorem algebraic4 [Cert.Pre_finite4.Facts] : Cert.algebraic_Kernel4Ideal_Reference4Ideal_pre_finite4 := by
  intro m g m' g' hpre hagree
  refine ⟨fun c => (Cert.Kernel4Ideal.Gen.dats m 0 c).arrAt 8 (Cert.Kernel4Ideal.cfgs 0).N, fun c => (Cert.Kernel4Ideal.Gen.dats m 0 c).arrAt 9 (Cert.Kernel4Ideal.cfgs 0).N,
    fun c => (Cert.Kernel4Ideal.Gen.dats m 0 c).arrAt 10 (Cert.Kernel4Ideal.cfgs 0).N, fun c => (Cert.Kernel4Ideal.Gen.dats m 0 c).arrAt 11 (Cert.Kernel4Ideal.cfgs 0).N,
    fun c => (Cert.Kernel4Ideal.Gen.dats m 0 c).arrAt 12 (Cert.Kernel4Ideal.cfgs 0).N, fun c => (Cert.Kernel4Ideal.Gen.dats m 0 c).arrAt 13 (Cert.Kernel4Ideal.cfgs 0).N, ?_, ?_⟩
  · exact θ_run_mono (θ_run_and (Cert.Kernel4Ideal.Gen.run_main m g) (Cert.Kernel4Ideal.Gen.unchanged m g)) fun r h c =>
      ⟨(h.1 c).1 8, (h.1 c).1 9, (h.1 c).1 10, (h.1 c).1 11, (h.1 c).1 12, (h.1 c).1 13, h.2 c⟩
  · refine θ_run_mono (Cert.Reference4Ideal.Value.run m' g') fun r hr c => ?_
    obtain ⟨a0, a1, a2, a3, a4, a5, a6, a7, a8⟩ := hagree c
    obtain ⟨h0, h1, h2, h3, h4, h5, h⟩ := hr c
    obtain ⟨r0, r1, r2, r3, r4, r6, r8⟩ := finite4_real _ _ _ _ _ _ _ _ _ (hpre c)
    have hp : Cert.Kernel4Ideal.Ff1.IsReals m c := ⟨r0, r1, r2, r3, r4, r6, r8⟩
    refine ⟨h0.trans ((Cert.Reference4Ideal.Read.val_main_v63_eq _ _).trans ?_), h1.trans ((Cert.Reference4Ideal.Read.val_main_v65_eq _ _).trans ?_),
      h2.trans ((Cert.Reference4Ideal.Read.val_main_v35_eq _ _ _ _ _ _).trans ?_), h3.trans ((Cert.Reference4Ideal.Read.val_main_v32_eq _ _).trans ?_),
      h4.trans ((Cert.Reference4Ideal.Read.val_main_v62_eq _ _).trans ?_), h5.trans ((Cert.Reference4Ideal.Read.val_main_v66_eq _ _ _ _ _ _).trans ?_), h⟩
    · rw [a0, a1, a2, a3, a4, a6, a7, a8]
      exact (Cert.Kernel4Ideal.Ff1.final8 m c hp).symm
    · rw [a0, a1, a2, a3, a4, a6, a7, a8]
      exact (Cert.Kernel4Ideal.Ff1.final9 m c hp).symm
    · rw [a0, a1, a2, a3, a6, a8]
      exact (Cert.Kernel4Ideal.Ff1.final10 m c).symm
    · rw [a6, a8]
      exact (Cert.Kernel4Ideal.Ff1.final11 m c).symm
    · rw [a0, a1, a2, a3, a4, a6, a7, a8]
      exact (Cert.Kernel4Ideal.Ff1.final12 m c hp).symm
    · rw [a0, a1, a2, a4, a6, a8]
      exact (Cert.Kernel4Ideal.Ff1.final13 m c).symm

end Cert.Proof
end
-- ==== Proof.Loss.lean ====
/- The loss and its gradient: each grid point's rows of the two gradients, and the sums over the rows of a batch and
   over all rows. -/
module

public import proofs.«01_k».proof.Proof.Gen.Kernel5Ideal.Frame
public import proofs.«01_k».proof.Proof.Gen.Reference5Ideal.Read
public import Idealize.ShloMosaic.Lib.Pipeline.ValueKit
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel5Ideal.Loss

open Cert.Kernel5Ideal Cert.Kernel5Ideal.Gen Cert.Reference5Ideal.Read

variable (m : (ℓ : Loc nD τ sig) → Buf (Elt Ideal) ℓ)

/-- Where each window's block lies, at every grid point. -/
theorem idx : ∀ t : Fin cfg0.N, win0_0.index t = ![t.val, 0] ∧ win0_1.index t = ![0, 0] ∧ win0_2.index t = ![t.val, 0]
    ∧ win0_3.index t = ![t.val, 0] ∧ win0_4.index t = ![t.val / 4, 0, 0] ∧ win0_5.index t = ![t.val, 0] ∧ win0_6.index t = ![t.val, 0]
    ∧ win0_7.index t = ![t.val / 4, 0, 0] ∧ win0_8.index t = ![0, 0] :=
  (by decide +kernel : ∀ t : Fin grid0.N, _)

/-- Rows of the batches one after another. -/
theorem rows_apply (A : Vec Ideal S4x2048x1024 .f32) (x : S8192x1024.Idx) : shapeCast S8192x1024 A shapeCasts_S4x2048x1024_S8192x1024 x
    = A (ix3 ⟨(x 0).val / 2048, by have := (x 0).isLt; simp at this; omega⟩ ⟨(x 0).val % 2048, Nat.mod_lt _ (by decide)⟩ (x 1)) := by
  pointwise
theorem rows_apply' (A : Vec Ideal S4x2048x4096 .bf16) (x : S8192x4096.Idx) : shapeCast S8192x4096 A shapeCasts_S4x2048x4096_S8192x4096 x
    = A (ix3 ⟨(x 0).val / 2048, by have := (x 0).isLt; simp at this; omega⟩ ⟨(x 0).val % 2048, Nat.mod_lt _ (by decide)⟩ (x 1)) := by
  pointwise

theorem row_lt (t : Fin cfg0.N) (r : Fin 512) : t.val % 4 * 512 + r.val < 2048 := by omega
theorem bat_lt (t : Fin cfg0.N) : t.val / 4 < 4 := by have := lt_of_lt_of_eq t.isLt N_0; omega

/-- The operands' blocks, read off the arguments. -/
theorem in2 (c : Dev nD) (t : Fin cfg0.N) (x : S512x1024.Idx) : (iblk m c 2 t : Vec Ideal S512x1024 .f32) x
    = (m ((c : Thread nD τ).loc main_arg0) : Vec Ideal S4x2048x1024 .f32) (ix3 ⟨t.val / 4, bat_lt t⟩ ⟨t.val % 4 * 512 + (x 0).val, row_lt t (x 0)⟩ (x 1)) := by
  have h : (V m c main_v0 : Vec Ideal S8192x1024 .f32) = shapeCast S8192x1024 (m ((c : Thread nD τ).loc main_arg0) : Vec Ideal S4x2048x1024 .f32) shapeCasts_S4x2048x1024_S8192x1024 := by
    unfold V V0; after_reads_simp []; rfl
  have hb : (iblk m c 2 t : Vec Ideal S512x1024 .f32) x = (V m c main_v0 : Vec Ideal S8192x1024 .f32) (ix2 ⟨t.val * 512 + (x 0).val, by have := (x 0).isLt; have := lt_of_lt_of_eq t.isLt N_0; simp at *; omega⟩ (x 1)) := by
    clear h
    blk_point [iblk, V, idx t]
  rw [hb, h, rows_apply]
  clear hb h
  blk_point
theorem in3 (c : Dev nD) (t : Fin cfg0.N) (x : S512x1024.Idx) : (iblk m c 3 t : Vec Ideal S512x1024 .f32) x
    = (m ((c : Thread nD τ).loc main_arg4) : Vec Ideal S4x2048x1024 .f32) (ix3 ⟨t.val / 4, bat_lt t⟩ ⟨t.val % 4 * 512 + (x 0).val, row_lt t (x 0)⟩ (x 1)) := by
  have h : (V m c main_v1 : Vec Ideal S8192x1024 .f32) = shapeCast S8192x1024 (m ((c : Thread nD τ).loc main_arg4) : Vec Ideal S4x2048x1024 .f32) shapeCasts_S4x2048x1024_S8192x1024 := by
    unfold V V0; after_reads_simp []; rfl
  have hb : (iblk m c 3 t : Vec Ideal S512x1024 .f32) x = (V m c main_v1 : Vec Ideal S8192x1024 .f32) (ix2 ⟨t.val * 512 + (x 0).val, by have := (x 0).isLt; have := lt_of_lt_of_eq t.isLt N_0; simp at *; omega⟩ (x 1)) := by
    clear h
    blk_point [iblk, V, idx t]
  rw [hb, h, rows_apply]
  clear hb h
  blk_point
theorem in0 (c : Dev nD) (t : Fin cfg0.N) (x : S512x4096.Idx) : (iblk m c 0 t : Vec Ideal S512x4096 .bf16) x
    = (m ((c : Thread nD τ).loc main_arg1) : Vec Ideal S4x2048x4096 .bf16) (ix3 ⟨t.val / 4, bat_lt t⟩ ⟨t.val % 4 * 512 + (x 0).val, row_lt t (x 0)⟩ (x 1)) := by
  have h : (V m c main_v2 : Vec Ideal S8192x4096 .bf16) = shapeCast S8192x4096 (m ((c : Thread nD τ).loc main_arg1) : Vec Ideal S4x2048x4096 .bf16) shapeCasts_S4x2048x4096_S8192x4096 := by
    unfold V V0; after_reads_simp []; rfl
  have hb : (iblk m c 0 t : Vec Ideal S512x4096 .bf16) x = (V m c main_v2 : Vec Ideal S8192x4096 .bf16) (ix2 ⟨t.val * 512 + (x 0).val, by have := (x 0).isLt; have := lt_of_lt_of_eq t.isLt N_0; simp at *; omega⟩ (x 1)) := by
    clear h
    blk_point [iblk, V, idx t]
  rw [hb, h, rows_apply']
  clear hb h
  blk_point
theorem in1 (c : Dev nD) (t : Fin cfg0.N) (x : S4096x1024.Idx) : (iblk m c 1 t : Vec Ideal S4096x1024 .bf16) x
    = (m ((c : Thread nD τ).loc main_arg3) : Vec Ideal S4096x1024 .f32) x := by
  have h : (V m c main_v3 : Vec Ideal S4096x1024 .bf16) = (truncf .bf16 (m ((c : Thread nD τ).loc main_arg3) : FVec Ideal S4096x1024 .f32) bitsLt_bf16_f32 : FVec Ideal S4096x1024 .bf16) := by
    unfold V V0; after_reads_simp []
  have hb : (iblk m c 1 t : Vec Ideal S4096x1024 .bf16) x = (V m c main_v3 : Vec Ideal S4096x1024 .bf16) x := by
    clear h
    blk_point [iblk, V, idx t]
  rw [hb, h]
  rfl
theorem in4 (c : Dev nD) (t : Fin cfg0.N) (x : S1x1x1024.Idx) : (iblk m c 4 t : Vec Ideal S1x1x1024 .f32) x
    = (m ((c : Thread nD τ).loc main_arg2) : Vec Ideal S4x1x1024 .f32) (ix3 ⟨t.val / 4, bat_lt t⟩ 0 (x 2)) := by
  blk_point [iblk, V, idx t]

theorem half : Ideal.ofBits .f32 1056964608#32 = (((1 : ℝ) / 2 : ℝ) : EReal) := by
  simp [Ideal.ofBits, Ideal.ieee, -EReal.coe_mul]; norm_num
theorem two : Ideal.ofBits .f32 1073741824#32 = ((2 : ℝ) : EReal) := by
  simp [Ideal.ofBits, Ideal.ieee, -EReal.coe_mul]; norm_num
theorem n1024 : Ideal.ofBits .f32 1149239296#32 = ((1024 : ℝ) : EReal) := by
  simp [Ideal.ofBits, Ideal.ieee, -EReal.coe_mul]; norm_num
theorem inv1024 : Ideal.ofBits .f32 981467136#32 = (((1 : ℝ) / 1024 : ℝ) : EReal) := by
  simp [Ideal.ofBits, Ideal.ieee, -EReal.coe_mul]; norm_num

/-- The mean's factor times the two of the square's derivative is the factor that the kernel multiplies by. -/
theorem factor (x : EReal) : Ideal.div (Ideal.ofBits .f32 1056964608#32) (Ideal.ofBits .f32 1149239296#32) * (Ideal.ofBits .f32 1073741824#32 * x)
    = x * Ideal.ofBits .f32 981467136#32 := by
  rw [half, two, n1024, inv1024, ← mul_assoc, mul_comm x]
  congr 1
  rw [Ideal.div_coe (by norm_num), ← EReal.coe_mul, ← EReal.coe_mul]
  norm_num

/-- What every grid point leaves in the blocks of the two gradients. -/
theorem out56 (c : Dev nD) (t : Fin cfg0.N) (j : S512x1024.Idx) : (outsAt0 m c t.val t.isLt).1 j = k0_pay9 (k0_pay2 (iblk m c 0 t) (k0_pay1 (F := Ideal)) (iblk m c 1 t)) (iblk m c 2 t) (iblk m c 3 t) (iblk m c 4 t) j
    ∧ (outsAt0 m c t.val t.isLt).2.1 j = k0_pay12 (k0_pay2 (iblk m c 0 t) (k0_pay1 (F := Ideal)) (iblk m c 1 t)) (iblk m c 2 t) (iblk m c 3 t) (iblk m c 4 t) j := by
  have hc : t.val % 16 = 0 → t.val % 4 = 0 := by omega
  by_cases h2 : t.val % 4 = 0 <;> by_cases h3 : t.val % 16 = 0 <;> first | exact absurd (hc h3) h2 | skip
  on_goal 1 => rw [outsAt0_A m c t h2 h3]
  on_goal 2 => rw [outsAt0_C m c t h2 h3]
  on_goal 3 => rw [outsAt0_B m c t h2 h3]
  all_goals exact ⟨by frame_out, by frame_out⟩

set_option maxHeartbeats 1000000 in
theorem final5 (c : Dev nD) : (dats m 0 c).arrAt 5 (cfgs 0).N = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  refine Eq.trans (show _ = (_ : EReal) from (congrFun (after0_5 m c t) _).trans ((out56 m c t _).1)) ?_
  pointwise [k0_pay1, k0_pay2, k0_pay3, k0_pay4, k0_pay5, k0_pay6, k0_pay7, k0_pay8, k0_pay9, k0_pay10, k0_pay11, k0_pay12, val_main_v0, val_main_call0_cst, val_main_call0_v0, val_main_v1, val_main_v2, val_main_v3, val_main_v4, val_main_v5, val_main_v6, val_main_v7, val_main_v8, val_main_cst, val_main_v9, val_main_v10, val_main_cst_0, val_main_v11, val_main_cst_1, val_main_v12, val_main_v13, val_main_cst_2, val_main_v14, val_main_cst_3, val_main_v15, val_main_cst_4, val_main_cst_5, val_main_v16, val_main_v17, val_main_cst_6, val_main_v18, val_main_v19, val_main_v20, val_main_v21, val_main_v22, val_main_v23, val_main_v24, val_main_cst_7, val_main_v25, val_main_v26, val_main_v27, val_main_v28, val_main_v29]
  rw [factor]
  simp only [in0, in1, in2, in3, in4]
  blk_point [iblk, V, idx t]

set_option maxHeartbeats 1000000 in
theorem final6 (c : Dev nD) : (dats m 0 c).arrAt 6 (cfgs 0).N = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  refine Eq.trans (show _ = (_ : EReal) from (congrFun (after0_6 m c t) _).trans ((out56 m c t _).2)) ?_
  pointwise [k0_pay1, k0_pay2, k0_pay3, k0_pay4, k0_pay5, k0_pay6, k0_pay7, k0_pay8, k0_pay9, k0_pay10, k0_pay11, k0_pay12, val_main_v0, val_main_call0_cst, val_main_call0_v0, val_main_v1, val_main_v2, val_main_v3, val_main_v4, val_main_v5, val_main_v6, val_main_v7, val_main_v8, val_main_cst, val_main_v9, val_main_v10, val_main_cst_0, val_main_v11, val_main_cst_1, val_main_v12, val_main_v13, val_main_cst_2, val_main_v14, val_main_cst_3, val_main_v15, val_main_cst_4, val_main_cst_5, val_main_v16, val_main_v17, val_main_cst_6, val_main_v18, val_main_v19, val_main_v20, val_main_v21, val_main_v22, val_main_v23, val_main_v24, val_main_cst_7, val_main_v25, val_main_v26, val_main_v27, val_main_v28, val_main_v29]
  rw [factor]
  simp only [in0, in1, in2, in3, in4]
  blk_point [iblk, V, idx t]

theorem final7 (c : Dev nD) : (dats m 0 c).arrAt 7 (cfgs 0).N = val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7, Pipeline.eq_sum_fin_of_reset_step_apply_of_flush (fun n h => (outsAt0 m c n h).2.2.1) 4 (fun _ => 0)
    (fun t j => k0_pay11 (k0_pay2 (iblk m c 0 t) (k0_pay1 (F := Ideal)) (iblk m c 1 t)) (iblk m c 2 t) (iblk m c 3 t) (iblk m c 4 t) (ix2 0 (j 2)))
    (fun t h j => by
      by_cases h3 : t.val % 16 = 0
      · rw [outsAt0_A m c t h h3]; frame_out; pointwise [k0_pay3, k0_pay4]
      · rw [outsAt0_C m c t h h3]; frame_out; pointwise [k0_pay3, k0_pay4])
    (fun t h j => by
      rw [outsAt0_B m c t h (by omega)]; frame_out; pointwise [k0_pay3, k0_pay4])
    t ((flush0_7 t).mp hf) _, zero_add]
  pointwise [k0_pay1, k0_pay2, k0_pay3, k0_pay4, k0_pay5, k0_pay6, k0_pay7, k0_pay8, k0_pay9, k0_pay10, k0_pay11, k0_pay12, val_main_v0, val_main_call0_cst, val_main_call0_v0, val_main_v1, val_main_v2, val_main_v3, val_main_v4, val_main_v5, val_main_v6, val_main_v7, val_main_v8, val_main_cst, val_main_v9, val_main_v10, val_main_cst_0, val_main_v11, val_main_cst_1, val_main_v12, val_main_v13, val_main_cst_2, val_main_v14, val_main_cst_3, val_main_v15, val_main_cst_4, val_main_cst_5, val_main_v16, val_main_v17, val_main_cst_6, val_main_v18, val_main_v19, val_main_v20, val_main_v21, val_main_v22, val_main_v23, val_main_v24, val_main_cst_7, val_main_v25, val_main_v26, val_main_v27, val_main_v28, val_main_v29]
  refine Fin.sum_mul_add_congr fun s k hl => ?_
  rw [factor]
  simp only [in0, in1, in2, in3, in4]
  blk_point [iblk, V, idx t, idx ⟨_, Pipeline.run_point_lt_of_flush t ((flush0_7 t).mp hf) s⟩]

/-- The kernel's total of the squared errors, in every lane. -/
theorem final8 (c : Dev nD) : (dats m 0 c).arrAt 8 (cfgs 0).N = (fun _ => ∑ a : Fin 4, ∑ r : Fin 2048, ∑ k : Fin 1024, val_main_v8 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 a r k) : FVec Ideal S1x128 .f32) := by
  refine (dats m 0 c).arrAt_eq_of_covers 8 _ (by decide +kernel) fun t hf y => ?_
  blk_simp
  rw [after0_8, Pipeline.eq_sum_fin_of_reset_step_apply_of_flush (fun n h => (outsAt0 m c n h).2.2.2) 16 (fun _ => 0)
    (fun t j => k0_pay10 (k0_pay2 (iblk m c 0 t) (k0_pay1 (F := Ideal)) (iblk m c 1 t)) (iblk m c 2 t) (iblk m c 3 t) (iblk m c 4 t) j)
    (fun t h j => by
      rw [outsAt0_A m c t (by omega) h]; frame_out; pointwise [k0_pay5, k0_pay6])
    (fun t h j => by
      by_cases h2 : t.val % 4 = 0
      · rw [outsAt0_C m c t h2 h]; frame_out; pointwise [k0_pay5, k0_pay6]
      · rw [outsAt0_B m c t h2 h]; frame_out; pointwise [k0_pay5, k0_pay6])
    t ((flush0_8 t).mp hf) _, zero_add]
  pointwise [k0_pay1, k0_pay2, k0_pay3, k0_pay4, k0_pay5, k0_pay6, k0_pay7, k0_pay8, k0_pay9, k0_pay10, k0_pay11, k0_pay12, val_main_v0, val_main_call0_cst, val_main_call0_v0, val_main_v1, val_main_v2, val_main_v3, val_main_v4, val_main_v5, val_main_v6, val_main_v7, val_main_v8, val_main_cst, val_main_v9, val_main_v10, val_main_cst_0, val_main_v11, val_main_cst_1, val_main_v12, val_main_v13, val_main_cst_2, val_main_v14, val_main_cst_3, val_main_v15, val_main_cst_4, val_main_cst_5, val_main_v16, val_main_v17, val_main_cst_6, val_main_v18, val_main_v19, val_main_v20, val_main_v21, val_main_v22, val_main_v23, val_main_v24, val_main_cst_7, val_main_v25, val_main_v26, val_main_v27, val_main_v28, val_main_v29]
  refine Fin.sum_points_lanes_congr 4 fun s k ha hl => Fin.sum_fin_congr fun d => ?_
  simp only [in0, in1, in2, in3, in4]
  blk_point [iblk, V, idx t, idx ⟨_, Pipeline.run_point_lt_of_flush t ((flush0_8 t).mp hf) s⟩]

/-- A nonnegative real factor goes inside a sum. -/
theorem sum_mul {ι : Type} (s : Finset ι) (f : ι → EReal) (r : ℝ) (h : 0 ≤ r) : (∑ i ∈ s, f i) * (r : EReal) = ∑ i ∈ s, f i * (r : EReal) := by
  classical
  induction s using Finset.induction_on with
  | empty => simp
  | insert a t ha ih =>
    rw [Finset.sum_insert ha, Finset.sum_insert ha, ← ih]
    exact EReal.right_distrib_of_nonneg_of_ne_top (by exact_mod_cast h) (EReal.coe_ne_top _) _ _

theorem halfinv : Ideal.ofBits .f32 973078528#32 = (((1 : ℝ) / 2048 : ℝ) : EReal) := by
  simp [Ideal.ofBits, Ideal.ieee, -EReal.coe_mul]; norm_num

/-- The reference's loss is the total of the squared errors times half of the mean's factor. -/
theorem loss_eq (A0 : Vec Ideal S4x2048x1024 .f32) (A1 : Vec Ideal S4x2048x4096 .bf16) (A2 : Vec Ideal S4x1x1024 .f32) (A3 : Vec Ideal S4096x1024 .f32)
    (A4 : Vec Ideal S4x2048x1024 .f32) (i : S_.Idx) : val_main_v15 (F := Ideal) A0 A1 A2 A3 A4 i
    = (∑ a : Fin 4, ∑ r : Fin 2048, ∑ k : Fin 1024, val_main_v8 (F := Ideal) A0 A1 A2 A3 A4 (ix3 a r k)) * Ideal.ofBits .f32 973078528#32 := by
  pointwise [val_main_v15, val_main_cst_3, val_main_v14, val_main_cst_2, val_main_v13, val_main_v12, val_main_cst_1, val_main_v11, val_main_cst_0]
  rw [half, n1024, halfinv, mul_comm, sum_mul _ _ _ (by norm_num), sum_mul _ _ _ (by norm_num)]
  refine Finset.sum_congr rfl fun a _ => ?_
  rw [sum_mul _ _ _ (by norm_num), sum_mul _ _ _ (by norm_num)]
  refine Finset.sum_congr rfl fun r _ => ?_
  rw [Ideal.div_coe (by norm_num), mul_assoc, ← EReal.coe_mul]
  congr 2
  norm_num

/-- What the host lines after the kernel make of its row of totals. -/
def tail (A : FVec Ideal S1x128 .f32) : FVec Ideal S_ .f32 :=
  mulf (shapeCast S_ (extractStridedSlice S1x1 ![0, 0] A slices_S1x128_S1x1_0_0) shapeCasts_S1x1_S_) (constant (F := Ideal) S_ .f32 0x3A000000#32)

theorem tail_eq (σ : Valuation τ sig (Elt Ideal)) : (StableHlo.after (List.flatten [hostOps1 (F := Ideal)]) σ (Proc.devRef .tc main_v7) : FVec Ideal S_ .f32)
    = tail (σ (Proc.devRef .tc main_v4_3)) := by
  after_reads_simp []
  rfl

/-- The loss's scalar is the reference's. -/
theorem final_loss (c : Dev nD) : (Pipeline.afterTail₀ cfgs (dats m) 0 (V0 m) [hostOps1] c main_v7 : FVec Ideal S_ .f32) =
    val_main_v15 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) := by
  funext i
  rw [loss_eq]
  have h : (Pipeline.afterTail₀ cfgs (dats m) 0 (V0 m) [hostOps1] c main_v7 : FVec Ideal S_ .f32) = tail (Pipeline.withArrays (cfgs 0).spec c (V0 m c) (fun w => (dats m 0 c).arrAt w (cfgs 0).N) (Proc.devRef .tc main_v4_3)) :=
    tail_eq _
  rw [h, show Pipeline.withArrays (cfgs 0).spec c (V0 m c) (fun w => (dats m 0 c).arrAt w (cfgs 0).N) (Proc.devRef .tc main_v4_3) = _ from Pipeline.withArrays_arr (cfgs 0).spec (by decide) c (V0 m c) _ 8, final8]
  pointwise [tail]

end Cert.Kernel5Ideal.Loss

end
-- ==== Proof.LossClaim.lean ====
/- The claims about `Kernel5` and `Reference5`. -/
module

public import proofs.«01_k».proof.Defs
public import proofs.«01_k».proof.Proof.Loss
public import proofs.«01_k».proof.Proof.Gen.Reference5Ideal.Run
public import Idealize.ShloMosaic.Lib.Claim

@[expose] public section

set_option maxRecDepth 16384

noncomputable section

open Idealize.ShloMosaic Idealize.ShloMosaic.TcCoe Idealize.SL.Sem

namespace Cert.Proof

/-- The reference runs to its end and leaves its arguments alone. -/
theorem frame_reference5 : Cert.quiescent_Reference5Ideal := by
  intro m g _
  exact θ_run_mono (Cert.Reference5Ideal.Value.run m g) fun r h => ⟨fun c => (h c).2.2.2.2, sem_eq_zero_of_no_sems (by decide) r.2⟩

open Cert.Kernel5Ideal Cert.Kernel5Ideal.Gen in
/-- What the kernel leaves in its four results. -/
theorem results5 (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v4_0) = (dats m 0 c).arrAt 5 (cfgs 0).N
      ∧ r.2.mem ((c.tc : Thread nD τ).loc main_v4_1) = (dats m 0 c).arrAt 6 (cfgs 0).N
      ∧ r.2.mem ((c.tc : Thread nD τ).loc main_v4_2) = (dats m 0 c).arrAt 7 (cfgs 0).N
      ∧ r.2.mem ((c.tc : Thread nD τ).loc main_v7) = Pipeline.afterTail₀ cfgs (dats m) 0 (V0 m) [hostOps1] c main_v7) := by
  run_from run_main m g

/-- Over the reals the kernel and the reference leave the same arrays. -/
theorem algebraic5 : Cert.algebraic_Kernel5Ideal_Reference5Ideal := by
  intro m g m' g' _ hagree
  refine ⟨fun c => (Cert.Kernel5Ideal.Gen.dats m 0 c).arrAt 5 (Cert.Kernel5Ideal.cfgs 0).N, fun c => (Cert.Kernel5Ideal.Gen.dats m 0 c).arrAt 6 (Cert.Kernel5Ideal.cfgs 0).N,
    fun c => (Cert.Kernel5Ideal.Gen.dats m 0 c).arrAt 7 (Cert.Kernel5Ideal.cfgs 0).N,
    fun c => Pipeline.afterTail₀ Cert.Kernel5Ideal.cfgs (Cert.Kernel5Ideal.Gen.dats m) 0 (Cert.Kernel5Ideal.Gen.V0 m) [Cert.Kernel5Ideal.Gen.hostOps1] c Cert.Kernel5Ideal.main_v7, ?_, ?_⟩
  · exact θ_run_mono (θ_run_and (results5 m g) (Cert.Kernel5Ideal.Gen.unchanged m g)) fun r h c => ⟨(h.1 c).1, (h.1 c).2.1, (h.1 c).2.2.1, (h.1 c).2.2.2, h.2 c⟩
  · refine θ_run_mono (Cert.Reference5Ideal.Value.run m' g') fun r hr c => ?_
    obtain ⟨a0, a1, a2, a3, a4⟩ := hagree c
    obtain ⟨h0, h1, h2, h3, h⟩ := hr c
    refine ⟨h0.trans ((Cert.Reference5Ideal.Read.val_main_v27_eq _ _ _ _ _).trans ?_), h1.trans ((Cert.Reference5Ideal.Read.val_main_v29_eq _ _ _ _ _).trans ?_), h2.trans ((Cert.Reference5Ideal.Read.val_main_v26_eq _ _ _ _ _).trans ?_), h3.trans ((Cert.Reference5Ideal.Read.val_main_v15_eq _ _ _ _ _).trans ?_), h⟩
    · simp only [a0, a1, a2, a3, a4]
      exact (Cert.Kernel5Ideal.Loss.final5 m c).symm
    · simp only [a0, a1, a2, a3, a4]
      exact (Cert.Kernel5Ideal.Loss.final6 m c).symm
    · simp only [a0, a1, a2, a3, a4]
      exact (Cert.Kernel5Ideal.Loss.final7 m c).symm
    · simp only [a0, a1, a2, a3, a4]
      exact (Cert.Kernel5Ideal.Loss.final_loss m c).symm

end Cert.Proof

end
-- ==== Proof.InProj.lean ====
/- The gradients through the first norm and its modulation: each grid point's rows of the gradient with respect to the
   input, and the sums over the rows of a batch and over all rows. -/
module

public import proofs.«01_k».proof.Proof.Gen.Kernel6Ideal.Frame
public import proofs.«01_k».proof.Proof.Gen.Reference6Ideal.Read
public import proofs.«01_k».proof.Proof.NormGrad
public import proofs.«01_k».proof.Proof.RowSum
public import Idealize.ShloMosaic.Lib.Pipeline.ValueKit
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel6Ideal.InProj

open Cert.Kernel6Ideal Cert.Kernel6Ideal.Gen Cert.Reference6Ideal.Read Cert.Finite

variable (m : (ℓ : Loc nD τ sig) → Buf (Elt Ideal) ℓ)

/-- Where each window's block lies, at every grid point. -/
theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val / 4, 0, 0] ∧ win0_11.index t = ![0, 0]
    ∧ win0_12.index t = ![t.val, 0] ∧ win0_13.index t = ![t.val / 4, 0, 0] ∧ win0_14.index t = ![t.val / 4, 0, 0] ∧ win0_15.index t = ![0, 0] :=
  (by decide +kernel : ∀ t : Fin grid0.N, _)

/-- Rows of the batches one after another. -/
theorem rows_apply (A : Vec Ideal S4x2048x1024 .f32) (x : S8192x1024.Idx) : shapeCast S8192x1024 A shapeCasts_S4x2048x1024_S8192x1024 x
    = A (ix3 ⟨(x 0).val / 2048, by have := (x 0).isLt; simp at this; omega⟩ ⟨(x 0).val % 2048, Nat.mod_lt _ (by decide)⟩ (x 1)) := by
  pointwise
@[inherit_doc rows_apply] theorem rows_apply' (A : Vec Ideal S4x2048x3488 .bf16) (x : S8192x3488.Idx) : shapeCast S8192x3488 A shapeCasts_S4x2048x3488_S8192x3488 x
    = A (ix3 ⟨(x 0).val / 2048, by have := (x 0).isLt; simp at this; omega⟩ ⟨(x 0).val % 2048, Nat.mod_lt _ (by decide)⟩ (x 1)) := by
  pointwise

/-- The columns of the kernel's small part: the latents and the first half of the rotary key, the second half, and zeros. -/
def small (f : ℕ → EReal) (j : ℕ) : EReal := if j < 400 then f j else if j < 448 then 0 else if j < 464 then f (j - 48) else 0

/-- A sum over all columns is the sum over the kernel's four parts. -/
theorem parts (f g : ℕ → EReal) : ((∑ j : Fin 1024, f (1440 + j.val) * g (1440 + j.val)) + (∑ j : Fin 1024, f (2464 + j.val) * g (2464 + j.val)) + (∑ j : Fin 1024, f (416 + j.val) * g (416 + j.val)))
    + (∑ j : Fin 512, small f j.val * small g j.val) = ∑ j : Fin 3488, f j.val * g j.val := by
  obtain ⟨h, hh⟩ : ∃ h : ℕ → EReal, ∀ n, f n * g n = h n := ⟨fun n => f n * g n, fun _ => rfl⟩
  have e : ∀ j, small f j * small g j = small h j := fun j => by
    unfold small; split_ifs <;> simp [hh]
  simp only [e, hh]
  rw [Fin.sum_univ_eq_sum_range (fun n => h (1440 + n)), Fin.sum_univ_eq_sum_range (fun n => h (2464 + n)), Fin.sum_univ_eq_sum_range (fun n => h (416 + n)),
    Fin.sum_univ_eq_sum_range (fun n => small h n), Fin.sum_univ_eq_sum_range (fun n => h n)]
  rw [show 3488 = 400 + 16 + 1024 + 1024 + 1024 from rfl, show 512 = 400 + 48 + 16 + 48 from rfl]
  simp only [Finset.sum_range_add]
  have s0 : ∑ x ∈ Finset.range 400, small h x = ∑ x ∈ Finset.range 400, h x := Finset.sum_congr rfl fun x hx => by
    have := Finset.mem_range.1 hx; unfold small; rw [if_pos this]
  have s1 : ∑ x ∈ Finset.range 48, small h (400 + x) = 0 := Finset.sum_eq_zero fun x hx => by
    have := Finset.mem_range.1 hx; unfold small; rw [if_neg (by omega), if_pos (by omega)]
  have s2 : ∑ x ∈ Finset.range 16, small h (400 + 48 + x) = ∑ x ∈ Finset.range 16, h (400 + x) := Finset.sum_congr rfl fun x hx => by
    have := Finset.mem_range.1 hx; unfold small; rw [if_neg (by omega), if_neg (by omega), if_pos (by omega)]; congr 1; omega
  have s3 : ∑ x ∈ Finset.range 48, small h (400 + 48 + 16 + x) = 0 := Finset.sum_eq_zero fun x hx => by
    have := Finset.mem_range.1 hx; unfold small; rw [if_neg (by omega), if_neg (by omega), if_neg (by omega)]
  rw [s0, s1, s2, s3]
  norm_num
  abel

/-- The small part of the weight's columns, laid out as rows. -/
theorem small_w (A : Vec Ideal S3488x1024 .bf16) (j : Fin 512) (k : Fin 1024) :
    @Eq EReal ((concatenate S512x1024 0 [⟨S400x1024, (extractStridedSlice S400x1024 ![0, 0] A slices_S3488x1024_S400x1024_0_0 : Vec Ideal S400x1024 .bf16)⟩, ⟨S48x1024, (broadcastInDim S48x1024 ![] bcast_S_S48x1024 (constant (F := Ideal) S_ .bf16 0x0000#16) : Vec Ideal S48x1024 .bf16)⟩,
      ⟨S16x1024, (extractStridedSlice S16x1024 ![400, 0] A slices_S3488x1024_S16x1024_400_0 : Vec Ideal S16x1024 .bf16)⟩, ⟨S48x1024, (broadcastInDim S48x1024 ![] bcast_S_S48x1024 (constant (F := Ideal) S_ .bf16 0x0000#16) : Vec Ideal S48x1024 .bf16)⟩] concatenates_S400x1024_S48x1024_S16x1024_S48x1024_S512x1024_d0 : Vec Ideal S512x1024 .bf16) (ix2 j k))
    (small (fun n => if h : n < 3488 then A (ix2 ⟨n, h⟩ k) else 0) j.val) := by
  unfold small
  pointwise
  split_ifs <;> first | rfl | (exfalso; omega) | (rw [dif_pos (by omega)]; done) | (rw [if_neg (show ¬ j.val < 448 by omega), if_pos (show j.val < 464 by omega), dif_pos (show j.val - 48 < 3488 by omega)]; refine congrArg (fun n => A (ix2 n k)) (Fin.ext ?_); dsimp only; omega)
/-- The small part of the rows' columns. -/
theorem small_z (A : Vec Ideal S8192x3488 .bf16) (j : Fin 512) (r : Fin 8192) :
    @Eq EReal ((concatenate S8192x512 1 [⟨S8192x400, (extractStridedSlice S8192x400 ![0, 0] A slices_S8192x3488_S8192x400_0_0 : Vec Ideal S8192x400 .bf16)⟩, ⟨S8192x48, (broadcastInDim S8192x48 ![] bcast_S_S8192x48 (constant (F := Ideal) S_ .bf16 0x0000#16) : Vec Ideal S8192x48 .bf16)⟩,
      ⟨S8192x16, (extractStridedSlice S8192x16 ![0, 400] A slices_S8192x3488_S8192x16_0_400 : Vec Ideal S8192x16 .bf16)⟩, ⟨S8192x48, (broadcastInDim S8192x48 ![] bcast_S_S8192x48 (constant (F := Ideal) S_ .bf16 0x0000#16) : Vec Ideal S8192x48 .bf16)⟩] concatenates_S8192x400_S8192x48_S8192x16_S8192x48_S8192x512_d1 : Vec Ideal S8192x512 .bf16) (ix2 r j))
    (small (fun n => if h : n < 3488 then A (ix2 r ⟨n, h⟩) else 0) j.val) := by
  unfold small
  pointwise
  split_ifs <;> first | rfl | (exfalso; omega) | (rw [dif_pos (by omega)]; done) | (rw [if_neg (show ¬ j.val < 448 by omega), if_pos (show j.val < 464 by omega), dif_pos (show j.val - 48 < 3488 by omega)]; refine congrArg (fun n => A (ix2 r n)) (Fin.ext ?_); dsimp only; omega)

/-- The batch and the place in it of row `r` of grid point `t`. -/
def bt (t : Fin cfg0.N) : Fin 4 := ⟨t.val / 4, by have := lt_of_lt_of_eq t.isLt N_0; omega⟩
@[inherit_doc bt] def ro (t : Fin cfg0.N) (r : Fin 512) : Fin 2048 := ⟨t.val % 4 * 512 + r.val, by omega⟩
/-- The row among all rows. -/
def rw' (t : Fin cfg0.N) (r : Fin 512) : Fin 8192 := ⟨t.val * 512 + r.val, by have := lt_of_lt_of_eq t.isLt N_0; omega⟩

/-- The arguments. -/
abbrev A0 (c : Dev nD) : FVec Ideal S4x2048x1024 .f32 := m ((c : Thread nD τ).loc main_arg0)
@[inherit_doc A0] abbrev A1 (c : Dev nD) : FVec Ideal S1024 .f32 := m ((c : Thread nD τ).loc main_arg1)
@[inherit_doc A0] abbrev A2 (c : Dev nD) : FVec Ideal S4x1x1024 .f32 := m ((c : Thread nD τ).loc main_arg2)
@[inherit_doc A0] abbrev A4 (c : Dev nD) : FVec Ideal S1024x3488 .f32 := m ((c : Thread nD τ).loc main_arg4)
@[inherit_doc A0] abbrev A5 (c : Dev nD) : FVec Ideal S4x2048x1024 .f32 := m ((c : Thread nD τ).loc main_arg5)
@[inherit_doc A0] abbrev A6 (c : Dev nD) : FVec Ideal S4x2048x3488 .bf16 := m ((c : Thread nD τ).loc main_arg6)

/-- A row of the cotangent and a row of the weight, at a column given as a number. -/
def zc (c : Dev nD) (b : Fin 4) (s : Fin 2048) (n : ℕ) : EReal := if h : n < 3488 then A6 m c (ix3 b s ⟨n, h⟩) else 0
@[inherit_doc zc] def wc (c : Dev nD) (k : Fin 1024) (n : ℕ) : EReal := if h : n < 3488 then A4 m c (ix2 k ⟨n, h⟩) else 0

/-- The operands' blocks, read off the arguments. -/
theorem in0 (c : Dev nD) (t : Fin cfg0.N) (r : Fin 512) (j : Fin 1024) : @Eq EReal ((iblk m c 0 t : Vec Ideal S512x1024 .bf16) (ix2 r j)) (zc m c (bt t) (ro t r) (1440 + j.val)) := by
  have h : (V m c main_v15 : Vec Ideal S8192x1024 .bf16) = (extractStridedSlice S8192x1024 ![0, 1440] (shapeCast S8192x3488 (A6 m c : Vec Ideal S4x2048x3488 .bf16) shapeCasts_S4x2048x3488_S8192x3488 : Vec Ideal S8192x3488 .bf16) slices_S8192x3488_S8192x1024_0_1440 : Vec Ideal S8192x1024 .bf16) := by
    unfold V; after_reads_simp []; rfl
  have hb : (iblk m c 0 t : Vec Ideal S512x1024 .bf16) (ix2 r j) = (V m c main_v15 : Vec Ideal S8192x1024 .bf16) (ix2 (rw' t r) j) := by
    clear h
    blk_point [iblk, V, idx t, rw']
  rw [hb, h]
  clear hb h
  have hj : 1440 + j.val < 3488 := by omega
  unfold zc
  rw [dif_pos hj]
  pointwise [rows_apply']
  blk_point [rw', bt, ro]
theorem in1 (c : Dev nD) (t : Fin cfg0.N) (r : Fin 512) (j : Fin 1024) : @Eq EReal ((iblk m c 1 t : Vec Ideal S512x1024 .bf16) (ix2 r j)) (zc m c (bt t) (ro t r) (2464 + j.val)) := by
  have h : (V m c main_v16 : Vec Ideal S8192x1024 .bf16) = (extractStridedSlice S8192x1024 ![0, 2464] (shapeCast S8192x3488 (A6 m c : Vec Ideal S4x2048x3488 .bf16) shapeCasts_S4x2048x3488_S8192x3488 : Vec Ideal S8192x3488 .bf16) slices_S8192x3488_S8192x1024_0_2464 : Vec Ideal S8192x1024 .bf16) := by
    unfold V; after_reads_simp []; rfl
  have hb : (iblk m c 1 t : Vec Ideal S512x1024 .bf16) (ix2 r j) = (V m c main_v16 : Vec Ideal S8192x1024 .bf16) (ix2 (rw' t r) j) := by
    clear h
    blk_point [iblk, V, idx t, rw']
  rw [hb, h]
  clear hb h
  have hj : 2464 + j.val < 3488 := by omega
  unfold zc
  rw [dif_pos hj]
  pointwise [rows_apply']
  blk_point [rw', bt, ro]
theorem in2 (c : Dev nD) (t : Fin cfg0.N) (r : Fin 512) (j : Fin 1024) : @Eq EReal ((iblk m c 2 t : Vec Ideal S512x1024 .bf16) (ix2 r j)) (zc m c (bt t) (ro t r) (416 + j.val)) := by
  have h : (V m c main_v14 : Vec Ideal S8192x1024 .bf16) = (extractStridedSlice S8192x1024 ![0, 416] (shapeCast S8192x3488 (A6 m c : Vec Ideal S4x2048x3488 .bf16) shapeCasts_S4x2048x3488_S8192x3488 : Vec Ideal S8192x3488 .bf16) slices_S8192x3488_S8192x1024_0_416 : Vec Ideal S8192x1024 .bf16) := by
    unfold V; after_reads_simp []; rfl
  have hb : (iblk m c 2 t : Vec Ideal S512x1024 .bf16) (ix2 r j) = (V m c main_v14 : Vec Ideal S8192x1024 .bf16) (ix2 (rw' t r) j) := by
    clear h
    blk_point [iblk, V, idx t, rw']
  rw [hb, h]
  clear hb h
  have hj : 416 + j.val < 3488 := by omega
  unfold zc
  rw [dif_pos hj]
  pointwise [rows_apply']
  blk_point [rw', bt, ro]
theorem in4 (c : Dev nD) (t : Fin cfg0.N) (j : Fin 1024) (k : Fin 1024) : @Eq EReal ((iblk m c 4 t : Vec Ideal S1024x1024 .bf16) (ix2 j k)) (wc m c k (1440 + j.val)) := by
  have h : (V m c main_v17 : Vec Ideal S1024x1024 .bf16) = (extractStridedSlice S1024x1024 ![0, 0] (extractStridedSlice S2048x1024 ![1440, 0] (truncf .bf16 (transpose S3488x1024 [1, 0] (A4 m c) transposes_S1024x3488_S3488x1024_1_0 : FVec Ideal S3488x1024 .f32) bitsLt_bf16_f32 : FVec Ideal S3488x1024 .bf16) slices_S3488x1024_S2048x1024_1440_0 : FVec Ideal S2048x1024 .bf16) slices_S2048x1024_S1024x1024_0_0 : FVec Ideal S1024x1024 .bf16) := by
    unfold V; after_reads_simp []; first | done | rfl
  have hb : (iblk m c 4 t : Vec Ideal S1024x1024 .bf16) (ix2 j k) = (V m c main_v17 : Vec Ideal S1024x1024 .bf16) (ix2 j k) := by
    clear h
    blk_point [iblk, V, idx t]
  rw [hb, h]
  clear hb h
  have hj : 1440 + j.val < 3488 := by omega
  unfold wc
  rw [dif_pos hj]
  pointwise
theorem in5 (c : Dev nD) (t : Fin cfg0.N) (j : Fin 1024) (k : Fin 1024) : @Eq EReal ((iblk m c 5 t : Vec Ideal S1024x1024 .bf16) (ix2 j k)) (wc m c k (2464 + j.val)) := by
  have h : (V m c main_v18 : Vec Ideal S1024x1024 .bf16) = (extractStridedSlice S1024x1024 ![1024, 0] (extractStridedSlice S2048x1024 ![1440, 0] (truncf .bf16 (transpose S3488x1024 [1, 0] (A4 m c) transposes_S1024x3488_S3488x1024_1_0 : FVec Ideal S3488x1024 .f32) bitsLt_bf16_f32 : FVec Ideal S3488x1024 .bf16) slices_S3488x1024_S2048x1024_1440_0 : FVec Ideal S2048x1024 .bf16) slices_S2048x1024_S1024x1024_1024_0 : FVec Ideal S1024x1024 .bf16) := by
    unfold V; after_reads_simp []; first | done | rfl
  have hb : (iblk m c 5 t : Vec Ideal S1024x1024 .bf16) (ix2 j k) = (V m c main_v18 : Vec Ideal S1024x1024 .bf16) (ix2 j k) := by
    clear h
    blk_point [iblk, V, idx t]
  rw [hb, h]
  clear hb h
  have hj : 2464 + j.val < 3488 := by omega
  unfold wc
  rw [dif_pos hj]
  pointwise
  blk_point []
theorem in6 (c : Dev nD) (t : Fin cfg0.N) (j : Fin 1024) (k : Fin 1024) : @Eq EReal ((iblk m c 6 t : Vec Ideal S1024x1024 .bf16) (ix2 j k)) (wc m c k (416 + j.val)) := by
  have h : (V m c main_v7 : Vec Ideal S1024x1024 .bf16) = (extractStridedSlice S1024x1024 ![416, 0] (truncf .bf16 (transpose S3488x1024 [1, 0] (A4 m c) transposes_S1024x3488_S3488x1024_1_0 : FVec Ideal S3488x1024 .f32) bitsLt_bf16_f32 : FVec Ideal S3488x1024 .bf16) slices_S3488x1024_S1024x1024_416_0 : FVec Ideal S1024x1024 .bf16) := by
    unfold V; after_reads_simp []; first | done | rfl
  have hb : (iblk m c 6 t : Vec Ideal S1024x1024 .bf16) (ix2 j k) = (V m c main_v7 : Vec Ideal S1024x1024 .bf16) (ix2 j k) := by
    clear h
    blk_point [iblk, V, idx t]
  rw [hb, h]
  clear hb h
  have hj : 416 + j.val < 3488 := by omega
  unfold wc
  rw [dif_pos hj]
  pointwise
theorem in3 (c : Dev nD) (t : Fin cfg0.N) (r : Fin 512) (j : Fin 512) : @Eq EReal ((iblk m c 3 t : Vec Ideal S512x512 .bf16) (ix2 r j)) (small (zc m c (bt t) (ro t r)) j.val) := by
  have h : (V m c main_v13 : Vec Ideal S8192x512 .bf16) = (concatenate S8192x512 1 [⟨S8192x400, (extractStridedSlice S8192x400 ![0, 0] (shapeCast S8192x3488 (A6 m c : Vec Ideal S4x2048x3488 .bf16) shapeCasts_S4x2048x3488_S8192x3488 : Vec Ideal S8192x3488 .bf16) slices_S8192x3488_S8192x400_0_0 : Vec Ideal S8192x400 .bf16)⟩, ⟨S8192x48, (broadcastInDim S8192x48 ![] bcast_S_S8192x48 (constant (F := Ideal) S_ .bf16 0x0000#16) : Vec Ideal S8192x48 .bf16)⟩,
      ⟨S8192x16, (extractStridedSlice S8192x16 ![0, 400] (shapeCast S8192x3488 (A6 m c : Vec Ideal S4x2048x3488 .bf16) shapeCasts_S4x2048x3488_S8192x3488 : Vec Ideal S8192x3488 .bf16) slices_S8192x3488_S8192x16_0_400 : Vec Ideal S8192x16 .bf16)⟩, ⟨S8192x48, (broadcastInDim S8192x48 ![] bcast_S_S8192x48 (constant (F := Ideal) S_ .bf16 0x0000#16) : Vec Ideal S8192x48 .bf16)⟩] concatenates_S8192x400_S8192x48_S8192x16_S8192x48_S8192x512_d1 : Vec Ideal S8192x512 .bf16) := by
    unfold V; after_reads_simp []; first | done | rfl
  have hb : (iblk m c 3 t : Vec Ideal S512x512 .bf16) (ix2 r j) = (V m c main_v13 : Vec Ideal S8192x512 .bf16) (ix2 (rw' t r) j) := by
    clear h
    blk_point [iblk, V, idx t, rw']
  rw [hb, h]
  clear hb h
  refine (small_z _ j _).trans (congrArg (small · j.val) (funext fun n => ?_))
  unfold zc
  split
  · rw [rows_apply']
    blk_point [rw', bt, ro]
  · rfl
theorem in7 (c : Dev nD) (t : Fin cfg0.N) (j : Fin 512) (k : Fin 1024) : @Eq EReal ((iblk m c 7 t : Vec Ideal S512x1024 .bf16) (ix2 j k)) (small (wc m c k) j.val) := by
  have h : (V m c main_v6 : Vec Ideal S512x1024 .bf16) = (concatenate S512x1024 0 [⟨S400x1024, (extractStridedSlice S400x1024 ![0, 0] (truncf .bf16 (transpose S3488x1024 [1, 0] (A4 m c) transposes_S1024x3488_S3488x1024_1_0 : FVec Ideal S3488x1024 .f32) bitsLt_bf16_f32 : FVec Ideal S3488x1024 .bf16) slices_S3488x1024_S400x1024_0_0 : Vec Ideal S400x1024 .bf16)⟩, ⟨S48x1024, (broadcastInDim S48x1024 ![] bcast_S_S48x1024 (constant (F := Ideal) S_ .bf16 0x0000#16) : Vec Ideal S48x1024 .bf16)⟩,
      ⟨S16x1024, (extractStridedSlice S16x1024 ![400, 0] (truncf .bf16 (transpose S3488x1024 [1, 0] (A4 m c) transposes_S1024x3488_S3488x1024_1_0 : FVec Ideal S3488x1024 .f32) bitsLt_bf16_f32 : FVec Ideal S3488x1024 .bf16) slices_S3488x1024_S16x1024_400_0 : Vec Ideal S16x1024 .bf16)⟩, ⟨S48x1024, (broadcastInDim S48x1024 ![] bcast_S_S48x1024 (constant (F := Ideal) S_ .bf16 0x0000#16) : Vec Ideal S48x1024 .bf16)⟩] concatenates_S400x1024_S48x1024_S16x1024_S48x1024_S512x1024_d0 : Vec Ideal S512x1024 .bf16) := by
    unfold V; after_reads_simp []; first | done | rfl
  have hb : (iblk m c 7 t : Vec Ideal S512x1024 .bf16) (ix2 j k) = (V m c main_v6 : Vec Ideal S512x1024 .bf16) (ix2 j k) := by
    clear h
    blk_point [iblk, V, idx t]
  rw [hb, h]
  clear hb h
  refine (small_w _ j k).trans (congrArg (small · j.val) (funext fun n => ?_))
  unfold wc
  split
  · pointwise
  · rfl
theorem in8 (c : Dev nD) (t : Fin cfg0.N) (r : Fin 512) (k : Fin 1024) : (iblk m c 8 t : Vec Ideal S512x1024 .f32) (ix2 r k) = A0 m c (ix3 (bt t) (ro t r) k) := by
  have h : (V m c main_v19 : Vec Ideal S8192x1024 .f32) = shapeCast S8192x1024 (A0 m c : Vec Ideal S4x2048x1024 .f32) shapeCasts_S4x2048x1024_S8192x1024 := by
    unfold V; after_reads_simp []; rfl
  have hb : (iblk m c 8 t : Vec Ideal S512x1024 .f32) (ix2 r k) = (V m c main_v19 : Vec Ideal S8192x1024 .f32) (ix2 (rw' t r) k) := by
    clear h
    blk_point [iblk, V, idx t, rw']
  rw [hb, h, rows_apply]
  clear hb h
  blk_point [rw', bt, ro]
theorem in9 (c : Dev nD) (t : Fin cfg0.N) (r : Fin 512) (k : Fin 1024) : (iblk m c 9 t : Vec Ideal S512x1024 .f32) (ix2 r k) = A5 m c (ix3 (bt t) (ro t r) k) := by
  have h : (V m c main_v20 : Vec Ideal S8192x1024 .f32) = shapeCast S8192x1024 (A5 m c : Vec Ideal S4x2048x1024 .f32) shapeCasts_S4x2048x1024_S8192x1024 := by
    unfold V; after_reads_simp []; rfl
  have hb : (iblk m c 9 t : Vec Ideal S512x1024 .f32) (ix2 r k) = (V m c main_v20 : Vec Ideal S8192x1024 .f32) (ix2 (rw' t r) k) := by
    clear h
    blk_point [iblk, V, idx t, rw']
  rw [hb, h, rows_apply]
  clear hb h
  blk_point [rw', bt, ro]
theorem in10 (c : Dev nD) (t : Fin cfg0.N) (k : Fin 1024) : (iblk m c 10 t : Vec Ideal S1x1x1024 .f32) (ix3 0 0 k) = A2 m c (ix3 (bt t) 0 k) := by
  blk_point [iblk, V, idx t, bt]
theorem in11 (c : Dev nD) (t : Fin cfg0.N) (k : Fin 1024) : (iblk m c 11 t : Vec Ideal S1x1024 .f32) (ix2 0 k) = A1 m c (ix1 k) := by
  have h : (V m c main_v21 : Vec Ideal S1x1024 .f32) = shapeCast S1x1024 (A1 m c : Vec Ideal S1024 .f32) shapeCasts_S1024_S1x1024 := by
    unfold V; after_reads_simp []; rfl
  have hb : (iblk m c 11 t : Vec Ideal S1x1024 .f32) (ix2 0 k) = (V m c main_v21 : Vec Ideal S1x1024 .f32) (ix2 0 k) := by
    clear h
    blk_point [iblk, V, idx t]
  rw [hb, h]
  clear hb h
  pointwise

/-- The rows of the gradient with respect to the products' input, at grid point `t`. -/
abbrev dh (c : Dev nD) (t : Fin cfg0.N) : FVec Ideal S512x1024 .f32 := k0_pay7 (iblk m c 0 t) (iblk m c 4 t) (iblk m c 1 t) (iblk m c 5 t) (iblk m c 2 t) (iblk m c 6 t) (iblk m c 3 t) (iblk m c 7 t)

theorem dh_eq (c : Dev nD) (t : Fin cfg0.N) (r : Fin 512) (k : Fin 1024) : @Eq EReal (dh m c t (ix2 r k)) (val_main_v26 (F := Ideal) (A4 m c) (A6 m c) (ix3 (bt t) (ro t r) k)) := by
  have hr : @Eq EReal (val_main_v26 (F := Ideal) (A4 m c) (A6 m c) (ix3 (bt t) (ro t r) k)) (∑ j : Fin 3488, zc m c (bt t) (ro t r) j.val * wc m c k j.val) := by
    pointwise [val_main_v26, val_main_v25]
    refine Finset.sum_congr rfl fun j _ => ?_
    unfold zc wc
    rw [dif_pos j.isLt, dif_pos j.isLt]
  rw [hr, ← parts]
  pointwise [k0_pay7]
  simp only [in0, in1, in2, in3, in4, in5, in6, in7]

/-- The kernel's values at grid point `t`: the normalised rows, the gradient of the normalised rows, their gradient. -/
abbrev ss (c : Dev nD) (t : Fin cfg0.N) : FVec Ideal S512 .f32 := k0_pay11 (iblk m c 8 t)
@[inherit_doc ss] abbrev xh (c : Dev nD) (t : Fin cfg0.N) : FVec Ideal S512x1024 .f32 := k0_pay13 (k0_pay8 (iblk m c 8 t)) (ss m c t)
@[inherit_doc ss] abbrev dn (c : Dev nD) (t : Fin cfg0.N) : FVec Ideal S512x1024 .f32 := k0_pay14 (dh m c t) (k0_pay10 (iblk m c 10 t))
@[inherit_doc ss] abbrev gx (c : Dev nD) (t : Fin cfg0.N) : FVec Ideal S512x1024 .f32 := k0_pay18 (dh m c t) (k0_pay8 (iblk m c 8 t)) (k0_pay9 (iblk m c 11 t)) (k0_pay10 (iblk m c 10 t)) (ss m c t) (iblk m c 9 t)

theorem r_eq (c : Dev nD) (t : Fin cfg0.N) (r : Fin 512) : @Eq EReal (k0_pay12 (ss m c t) (ix2 r 0))
    (val_main_v9 (F := Ideal) (A0 m c) (ix3 (bt t) (ro t r) 0)) := by
  pointwise [k0_pay12, k0_pay11, k0_pay8, val_main_v9, val_main_v8, val_main_v7, val_main_cst_2, val_main_v6, val_main_v5, val_main_cst_1, val_main_v4, val_main_v3, val_main_cst_0, val_main_v0]
  simp only [in8]

theorem xh_eq (c : Dev nD) (t : Fin cfg0.N) (r : Fin 512) (k : Fin 1024) : @Eq EReal (xh m c t (ix2 r k))
    (val_main_v14 (F := Ideal) (A0 m c) (ix3 (bt t) (ro t r) k)) := by
  pointwise [k0_pay13, k0_pay8, val_main_v14, val_main_v13]
  rw [in8, r_eq]

theorem dn_eq (c : Dev nD) (t : Fin cfg0.N) (r : Fin 512) (k : Fin 1024) : @Eq EReal (dn m c t (ix2 r k))
    (val_main_v33 (F := Ideal) (A2 m c) (A4 m c) (A6 m c) (ix3 (bt t) (ro t r) k)) := by
  pointwise [k0_pay14, k0_pay10, val_main_v33, val_main_v32, val_main_v19, val_main_v18, val_main_cst_4]
  rw [in10, dh_eq]

/-- The arguments that the gradient of the norm multiplies are real numbers. -/
structure IsReals (c : Dev nD) : Prop where
  a0 : ∀ i, IsReal (A0 m c i)
  a1 : ∀ i, IsReal (A1 m c i)
  a2 : ∀ i, IsReal (A2 m c i)
  a4 : ∀ i, IsReal (A4 m c i)
  a6 : ∀ i, IsReal (A6 m c i)

theorem d_real (c : Dev nD) (h : IsReals m c) (b : Fin 4) (s : Fin 2048) (k : Fin 1024) : IsReal (val_main_v38 (F := Ideal) (A1 m c) (A2 m c) (A4 m c) (A6 m c) (ix3 b s k)) := by
  pointwise [val_main_v38, val_main_v37, val_main_v15, val_main_v33, val_main_v32, val_main_v19, val_main_v18, val_main_cst_4, val_main_v26, val_main_v25]
  exact ((IsReal.sum _ fun i => (h.a6 _).mul (h.a4 _)).mul (IsReal.add ⟨1, by simp⟩ (h.a2 _))).mul (h.a1 _)

/-- The mean square of a row, and its inverse root. -/
theorem v_def (c : Dev nD) (b : Fin 4) (s : Fin 2048) : @Eq EReal (val_main_v8 (F := Ideal) (A0 m c) (ix3 b s 0)) (NormGrad.var 1024 ((1024 : ℝ) : EReal) fun k => A0 m c (ix3 b s k)) := by
  pointwise [NormGrad.var, val_main_v8, val_main_v7, val_main_cst_2, val_main_v6, val_main_v5, val_main_cst_1, val_main_v4, val_main_v3, val_main_cst_0, val_main_v0]
  rw [NormGrad.n1024]
@[inherit_doc v_def] theorem r_def (c : Dev nD) (b : Fin 4) (s : Fin 2048) : @Eq EReal (val_main_v9 (F := Ideal) (A0 m c) (ix3 b s 0)) (Ideal.rsqrt (NormGrad.var 1024 ((1024 : ℝ) : EReal) fun k => A0 m c (ix3 b s k))) := by
  rw [← v_def]
  pointwise [val_main_v9]

theorem gx_eq (c : Dev nD) (h : IsReals m c) (t : Fin cfg0.N) (r : Fin 512) (k : Fin 1024) : @Eq EReal (gx m c t (ix2 r k))
    (val_main_v52 (F := Ideal) (A0 m c) (A1 m c) (A2 m c) (A4 m c) (A5 m c) (A6 m c) (ix3 (bt t) (ro t r) k)) := by
  have hd : ∀ i, @Eq EReal (dn m c t (ix2 r i) * k0_pay9 (iblk m c 11 t) (ix2 0 i))
      (val_main_v38 (F := Ideal) (A1 m c) (A2 m c) (A4 m c) (A6 m c) (ix3 (bt t) (ro t r) i)) := fun i => by
    rw [dn_eq]
    pointwise [k0_pay9, val_main_v38, val_main_v37, val_main_v15]
    rw [in11]
  have hx := fun i => xh_eq m c t r i
  have hr := r_eq m c t r
  have h9 := in9 m c t r k
  pointwise [k0_pay18]
  rw [h9]
  simp only [hd, hx, hr]
  clear hd hx hr h9
  have hg := NormGrad.grad 1024 1024 (by norm_num) (fun i => A0 m c (ix3 (bt t) (ro t r) i)) (fun i => val_main_v38 (F := Ideal) (A1 m c) (A2 m c) (A4 m c) (A6 m c) (ix3 (bt t) (ro t r) i)) (fun i => h.a0 _) (fun i => d_real m c h _ _ i) k
  have e : ∀ i, @Eq EReal (val_main_v14 (F := Ideal) (A0 m c) (ix3 (bt t) (ro t r) i)) (A0 m c (ix3 (bt t) (ro t r) i) * val_main_v9 (F := Ideal) (A0 m c) (ix3 (bt t) (ro t r) 0)) := fun i => by
    pointwise [val_main_v14, val_main_v13]
  have hr := r_def m c (bt t) (ro t r)
  simp only [e, hr, NormGrad.n1024]
  refine (congrArg (_ + ·) hg).trans ?_
  clear hg e h
  have hv := v_def m c (bt t) (ro t r)
  pointwise [val_main_v52, val_main_v51, val_main_v50, val_main_v49, val_main_v48, val_main_v47, val_main_v46, val_main_v45, val_main_v44, val_main_v43, val_main_v42, val_main_v41, val_main_v40, val_main_v12, val_main_v11, val_main_v10, val_main_v2, val_main_v1, val_main_cst, val_main_cst_3, val_main_cst_9, val_main_cst_10, val_main_cst_11]
  rw [Fin.sum_univ_one, hr, hv, NormGrad.n1024, add_assoc]

/-- What a grid point stores in its block of the rows' gradient. -/
theorem outs (c : Dev nD) (t : Fin cfg0.N) (j : S512x1024.Idx) : (outsAt0 m c t.val t.isLt).1 j = gx m c t j := by
  have hc : t.val % 16 = 0 → t.val % 4 = 0 := by omega
  by_cases h2 : t.val % 4 = 0 <;> by_cases h3 : t.val % 16 = 0 <;> first | exact absurd (hc h3) h2 | skip
  on_goal 1 => rw [outsAt0_A m c t h2 h3]
  on_goal 2 => rw [outsAt0_C m c t h2 h3]
  on_goal 3 => rw [outsAt0_B m c t h2 h3]
  all_goals frame_out

/-- The kernel's gradient with respect to the input is the reference's. -/
theorem final12 (c : Dev nD) (h : IsReals m c) : (dats m 0 c).arrAt 12 (cfgs 0).N = val_main_v53 (F := Ideal) (A0 m c) (A1 m c) (A2 m c) (A4 m c) (A5 m c) (A6 m c) := by
  refine (dats m 0 c).arrAt_eq_of_covers 12 _ (by decide +kernel) fun t hf y => ?_
  blk_simp
  refine Eq.trans (show _ = (_ : EReal) from (congrFun (after0_12 m c t) _).trans (outs m c t _)) ?_
  have hy : (y : S512x1024.Idx) = ix2 (n0 := 512) (n1 := 1024) (y 0) (y 1) := by funext a; fin_cases a <;> rfl
  refine (congrArg _ hy).trans ((gx_eq m c h t _ _).trans ?_)
  clear h hy
  pointwise [val_main_v53]
  blk_point [idx t, bt, ro]

/-- The terms of the row sums, row by row. -/
theorem row13 (c : Dev nD) (t : Fin cfg0.N) (r : Fin 512) (k : Fin 1024) : @Eq EReal (dh m c t (ix2 r k) * xh m c t (ix2 r k) * k0_pay9 (iblk m c 11 t) (ix2 0 k))
    (val_main_v14 (F := Ideal) (A0 m c) (ix3 (bt t) (ro t r) k) * val_main_v15 (F := Ideal) (A1 m c) (ix3 0 0 k) * val_main_v26 (F := Ideal) (A4 m c) (A6 m c) (ix3 (bt t) (ro t r) k)) := by
  rw [dh_eq, xh_eq]
  pointwise [k0_pay9, val_main_v15]
  rw [in11, mul_assoc, mul_comm]
theorem row15 (c : Dev nD) (t : Fin cfg0.N) (r : Fin 512) (k : Fin 1024) : @Eq EReal (dn m c t (ix2 r k) * xh m c t (ix2 r k))
    (val_main_v34 (F := Ideal) (A0 m c) (A2 m c) (A4 m c) (A6 m c) (ix3 (bt t) (ro t r) k)) := by
  rw [dn_eq, xh_eq, mul_comm]
  pointwise [val_main_v34]

/-- The kernel's gradient with respect to the scale is the reference's. -/
theorem final13 (c : Dev nD) : (dats m 0 c).arrAt 13 (cfgs 0).N = val_main_v31 (F := Ideal) (A0 m c) (A1 m c) (A4 m c) (A6 m c) := by
  refine (dats m 0 c).arrAt_eq_of_covers 13 _ (by decide +kernel) fun t hf y => ?_
  blk_simp
  rw [after0_13, Pipeline.eq_sum_fin_of_reset_step_apply_of_flush (fun n h => (outsAt0 m c n h).2.1) 4 (fun _ => 0)
    (fun t j => ∑ r : Fin 512, dh m c t (ix2 r (j 2)) * xh m c t (ix2 r (j 2)) * k0_pay9 (iblk m c 11 t) (ix2 0 (j 2)))
    (fun t h j => by
      by_cases h3 : t.val % 16 = 0
      · rw [outsAt0_A m c t h h3]; frame_out; pointwise [k0_pay1, k0_pay4, k0_pay15]
      · rw [outsAt0_C m c t h h3]; frame_out; pointwise [k0_pay1, k0_pay4, k0_pay15])
    (fun t h j => by
      rw [outsAt0_B m c t h (by omega)]; frame_out; pointwise [k0_pay4, k0_pay15])
    t ((flush0_13 t).mp hf) _, zero_add]
  pointwise [val_main_v31, val_main_v30, val_main_v29, val_main_cst_6, val_main_v17, val_main_v16]
  refine Fin.sum_mul_add_congr fun s k hl => ?_
  refine (row13 m c ⟨_, Pipeline.run_point_lt_of_flush t ((flush0_13 t).mp hf) s⟩ k (y 2)).trans ?_
  blk_point [idx t, idx ⟨_, Pipeline.run_point_lt_of_flush t ((flush0_13 t).mp hf) s⟩, bt, ro]

/-- The kernel's gradient with respect to the shift is the reference's. -/
theorem final14 (c : Dev nD) : (dats m 0 c).arrAt 14 (cfgs 0).N = val_main_v28 (F := Ideal) (A4 m c) (A6 m c) := by
  refine (dats m 0 c).arrAt_eq_of_covers 14 _ (by decide +kernel) fun t hf y => ?_
  blk_simp
  rw [after0_14, Pipeline.eq_sum_fin_of_reset_step_apply_of_flush (fun n h => (outsAt0 m c n h).2.2.1) 4 (fun _ => 0)
    (fun t j => ∑ r : Fin 512, dh m c t (ix2 r (j 2)))
    (fun t h j => by
      by_cases h3 : t.val % 16 = 0
      · rw [outsAt0_A m c t h h3]; frame_out; pointwise [k0_pay2, k0_pay5, k0_pay16]
      · rw [outsAt0_C m c t h h3]; frame_out; pointwise [k0_pay2, k0_pay5, k0_pay16])
    (fun t h j => by
      rw [outsAt0_B m c t h (by omega)]; frame_out; pointwise [k0_pay5, k0_pay16])
    t ((flush0_14 t).mp hf) _, zero_add]
  pointwise [val_main_v28, val_main_v27, val_main_cst_5]
  refine Fin.sum_mul_add_congr fun s k hl => ?_
  refine (dh_eq m c ⟨_, Pipeline.run_point_lt_of_flush t ((flush0_14 t).mp hf) s⟩ k (y 2)).trans ?_
  blk_point [idx t, idx ⟨_, Pipeline.run_point_lt_of_flush t ((flush0_14 t).mp hf) s⟩, bt, ro]

/-- The reference's gradient with respect to the gain is a sum over all rows. -/
theorem gain_ref (c : Dev nD) (k : Fin 1024) : @Eq EReal (val_main_v54 (F := Ideal) (A0 m c) (A2 m c) (A4 m c) (A6 m c) (ix2 0 k))
    (∑ a : Fin 4, ∑ b : Fin 2048, val_main_v34 (F := Ideal) (A0 m c) (A2 m c) (A4 m c) (A6 m c) (ix3 a b k)) := by
  pointwise [val_main_v54]
  unfold val_main_v39 val_main_cst_8
  simp only [Host.reduceAdd, Ideal.hostReduceAdd_def]
  rw [RowSum.rows, Fin.sum_univ_one, Fin.sum_univ_one]
  pointwise [val_main_v36]
  unfold val_main_v35 val_main_cst_7
  simp only [Host.reduceAdd, Ideal.hostReduceAdd_def]
  rw [RowSum.rows]
  pointwise

/-- The kernel's gradient with respect to the norm's gain is the reference's. -/
theorem final15 (c : Dev nD) : (dats m 0 c).arrAt 15 (cfgs 0).N = val_main_v54 (F := Ideal) (A0 m c) (A2 m c) (A4 m c) (A6 m c) := by
  refine (dats m 0 c).arrAt_eq_of_covers 15 _ (by decide +kernel) fun t hf y => ?_
  blk_simp
  rw [after0_15, Pipeline.eq_sum_fin_of_reset_step_apply_of_flush (fun n h => (outsAt0 m c n h).2.2.2) 16 (fun _ => 0)
    (fun t j => ∑ r : Fin 512, dn m c t (ix2 r (j 1)) * xh m c t (ix2 r (j 1)))
    (fun t h j => by
      rw [outsAt0_A m c t (by omega) h]; frame_out; pointwise [k0_pay3, k0_pay6, k0_pay17])
    (fun t h j => by
      by_cases h2 : t.val % 4 = 0
      · rw [outsAt0_C m c t h2 h]; frame_out; pointwise [k0_pay3, k0_pay6, k0_pay17]
      · rw [outsAt0_B m c t h2 h]; frame_out; pointwise [k0_pay3, k0_pay6, k0_pay17])
    t ((flush0_15 t).mp hf) _, zero_add]
  have hy : (((View.whole main_v22_3).slice (win0_15.rect t)).emb y : S1x1024.Idx) = ix2 (n0 := 1) (n1 := 1024) 0 (((View.whole main_v22_3).slice (win0_15.rect t)).emb y 1) := by
    funext a
    match a with
    | ⟨0, _⟩ => exact Subsingleton.elim (α := Fin 1) _ _
    | ⟨1, _⟩ => rfl
  refine Eq.trans ?_ ((congrArg (val_main_v54 (F := Ideal) (A0 m c) (A2 m c) (A4 m c) (A6 m c)) hy).trans (gain_ref m c _)).symm
  clear hy
  refine Fin.sum_points_lanes_congr 4 fun s k ha hl => ?_
  refine (row15 m c ⟨_, Pipeline.run_point_lt_of_flush t ((flush0_15 t).mp hf) s⟩ k (y 1)).trans ?_
  pointwise
  blk_point [idx t, idx ⟨_, Pipeline.run_point_lt_of_flush t ((flush0_15 t).mp hf) s⟩, bt, ro]

end Cert.Kernel6Ideal.InProj
end
-- ==== Proof.InProjClaim.lean ====
/- The claims about `Kernel6` and `Reference6`: the gradients through the first norm, at finite arguments. -/
module

public import proofs.«01_k».proof.Defs
public import proofs.«01_k».proof.Proof.InProj
public import proofs.«01_k».proof.Proof.Gen.Pre_finite6
public import proofs.«01_k».proof.Proof.Gen.Reference6Ideal.Run
public import Idealize.ShloMosaic.Lib.Claim

@[expose] public section

set_option maxRecDepth 16384

noncomputable section

open Idealize.ShloMosaic Idealize.ShloMosaic.TcCoe Idealize.SL.Sem

namespace Cert.Proof

instance subsingleton_scalar6 : Subsingleton Cert.Pre_finite6.S_.Idx := ⟨fun a b => funext fun i => i.elim0⟩

open Cert.Pre_finite6 Cert.Finite in
/-- The precondition: every element of the five arguments that the norm's gradient multiplies is a real number. -/
theorem finite6_real [Cert.Pre_finite6.Facts] (x0 : FVec Ideal S4x2048x1024 .f32) (x1 : FVec Ideal S1024 .f32) (x2 x3 : FVec Ideal S4x1x1024 .f32)
    (x4 : FVec Ideal S1024x3488 .f32) (x5 : FVec Ideal S4x2048x1024 .f32) (x6 : FVec Ideal S4x2048x3488 .bf16)
    (h : Cert.Pre_finite6.fn (F := Ideal) x0 x1 x2 x3 x4 x5 x6 = fun _ => 1#1) :
    (∀ i, IsReal (x0 i)) ∧ (∀ i, IsReal (x1 i)) ∧ (∀ i, IsReal (x2 i)) ∧ (∀ i, IsReal (x4 i)) ∧ (∀ i, IsReal (x6 i)) := by
  have e := congrFun h (fun i => i.elim0)
  unfold Cert.Pre_finite6.fn Cert.Pre_finite6.fn_part1 at e
  obtain ⟨e, e6⟩ := IntOp.andi_eq_one.1 e
  obtain ⟨e, e4⟩ := IntOp.andi_eq_one.1 e
  obtain ⟨e, e2⟩ := IntOp.andi_eq_one.1 e
  obtain ⟨e0, e1⟩ := IntOp.andi_eq_one.1 e
  exact ⟨fun i => ⟨_, all_real x0 _ (fun _ => inf_eq) _ _ _ _ e0 i⟩, fun i => ⟨_, all_real x1 _ (fun _ => inf_eq) _ _ _ _ e1 i⟩, fun i => ⟨_, all_real x2 _ (fun _ => inf_eq) _ _ _ _ e2 i⟩,
    fun i => ⟨_, all_real x4 _ (fun _ => inf_eq) _ _ _ _ e4 i⟩, fun i => ⟨_, all_real _ _ (fun _ => inf_eq) _ _ _ _ e6 i⟩⟩

/-- The reference runs to its end and leaves its arguments alone. -/
theorem frame_reference6 : Cert.quiescent_Reference6Ideal := by
  intro m g _
  exact θ_run_mono (Cert.Reference6Ideal.Value.run m g) fun r h => ⟨fun c => (h c).2.2.2.2, sem_eq_zero_of_no_sems (by decide) r.2⟩

/-- Over the reals the kernel and the reference leave the same arrays, at finite arguments. -/
theorem algebraic6 [Cert.Pre_finite6.Facts] : Cert.algebraic_Kernel6Ideal_Reference6Ideal_pre_finite6 := by
  intro m g m' g' hpre hagree
  refine ⟨fun c => (Cert.Kernel6Ideal.Gen.dats m 0 c).arrAt 12 (Cert.Kernel6Ideal.cfgs 0).N, fun c => (Cert.Kernel6Ideal.Gen.dats m 0 c).arrAt 13 (Cert.Kernel6Ideal.cfgs 0).N,
    fun c => (Cert.Kernel6Ideal.Gen.dats m 0 c).arrAt 14 (Cert.Kernel6Ideal.cfgs 0).N, fun c => (Cert.Kernel6Ideal.Gen.dats m 0 c).arrAt 15 (Cert.Kernel6Ideal.cfgs 0).N, ?_, ?_⟩
  · exact θ_run_mono (θ_run_and (Cert.Kernel6Ideal.Gen.run_main m g) (Cert.Kernel6Ideal.Gen.unchanged m g)) fun r h c =>
      ⟨(h.1 c).1 12, (h.1 c).1 13, (h.1 c).1 14, (h.1 c).1 15, h.2 c⟩
  · refine θ_run_mono (Cert.Reference6Ideal.Value.run m' g') fun r hr c => ?_
    obtain ⟨a0, a1, a2, a3, a4, a5, a6⟩ := hagree c
    obtain ⟨h0, h1, h2, h3, h⟩ := hr c
    obtain ⟨r0, r1, r2, r4, r6⟩ := finite6_real _ _ _ _ _ _ _ (hpre c)
    have hp : Cert.Kernel6Ideal.InProj.IsReals m c := ⟨r0, r1, r2, r4, r6⟩
    refine ⟨h0.trans ((Cert.Reference6Ideal.Read.val_main_v53_eq _ _ _ _ _ _).trans ?_), h1.trans ((Cert.Reference6Ideal.Read.val_main_v31_eq _ _ _ _).trans ?_),
      h2.trans ((Cert.Reference6Ideal.Read.val_main_v28_eq _ _).trans ?_), h3.trans ((Cert.Reference6Ideal.Read.val_main_v54_eq _ _ _ _).trans ?_), h⟩
    · rw [a0, a1, a2, a4, a5, a6]
      exact (Cert.Kernel6Ideal.InProj.final12 m c hp).symm
    · rw [a0, a1, a4, a6]
      exact (Cert.Kernel6Ideal.InProj.final13 m c).symm
    · rw [a4, a6]
      exact (Cert.Kernel6Ideal.InProj.final14 m c).symm
    · rw [a0, a2, a4, a6]
      exact (Cert.Kernel6Ideal.InProj.final15 m c).symm

end Cert.Proof
end
-- ==== Proof.FwdTile.lean ====
module

public import proofs.«01_k».proof.Proof.Gen.Kernel9Ideal.Value
public import Idealize.ShloMosaic.Lib.Pipeline.ValueKit
public import Idealize.ShloMosaic.Lib.Claim
public import Idealize.ShloMosaic.Lib.WholeRead
public import Idealize.ShloMosaic.Lib.WritesUnit

@[expose] public section
set_option maxRecDepth 16384
noncomputable section
open Idealize.ShloMosaic Idealize.ShloMosaic.TcCoe Idealize.SL.Sem
open Idealize.ShloMosaic.Pipeline (Dat)
namespace Cert.Kernel9Ideal.Fwd
open Cert.Kernel9Ideal Cert.Kernel9Ideal.Gen

/-! Where a tile of keys begins, and what is read of it; the carried maxima and sums of the eight heads. -/

theorem off_val (n : ℕ) (h : n < 4) : (Scalar.indexCast (Scalar.muli (Scf.iv 0#32 1#32 n) 512#32)).toNat = 512 * n := by
  interval_cases n <;> decide

theorem off_diag : ∀ n : Fin 4, (Scalar.indexCast (Scalar.muli (BitVec.ofNat 32 n.val) 512#32)).toNat = 512 * n.val := by
  decide

theorem trips_eq (i : grid0.Coords) : (k0_t1_loop i).trips = (i 2).val := by
  have h : ∀ q : Fin 4, (Scf.trips (0#32) (Scalar.addi 0#32 (Scalar.muli (Scalar.divsi (Scalar.subi (BitVec.ofNat 32 q.val) 0#32) 1#32) 1#32)) 1#32) = q.val := by decide
  exact h (i 2)

/-- Nothing is left for the loop after the tiles that were counted. -/
theorem trips2_eq (i : grid0.Coords) : (k0_t2_loop i).trips = 0 := by
  have h : ∀ q : Fin 4, (Scf.trips (Scalar.addi 0#32 (Scalar.muli (Scalar.divsi (Scalar.subi (BitVec.ofNat 32 q.val) 0#32) 1#32) 1#32)) (Scalar.addi 0#32 (Scalar.subi (BitVec.ofNat 32 q.val) 0#32)) 1#32) = 0 := by decide
  exact h (i 2)

theorem trips_lt (i : grid0.Coords) (k : Fin (k0_t1_loop i).trips) : k.val < 4 :=
  lt_of_lt_of_le (lt_of_lt_of_eq k.isLt (trips_eq i)) (le_of_lt (i 2).isLt)

section
variable (i : grid0.Coords) (k : Fin (k0_t1_loop i).trips)
theorem o1 : k0_off1 i k = ![0, 0, 512 * k.val, 0] := by
  unfold k0_off1; dsimp only; rw [off_val _ (trips_lt i k)]
theorem o2 : k0_off2 i k = ![0, 1, 512 * k.val, 0] := by
  unfold k0_off2; dsimp only; rw [off_val _ (trips_lt i k)]
theorem o3 : k0_off3 i k = ![0, 2, 512 * k.val, 0] := by
  unfold k0_off3; dsimp only; rw [off_val _ (trips_lt i k)]
theorem o4 : k0_off4 i k = ![0, 3, 512 * k.val, 0] := by
  unfold k0_off4; dsimp only; rw [off_val _ (trips_lt i k)]
theorem o5 : k0_off5 i k = ![0, 4, 512 * k.val, 0] := by
  unfold k0_off5; dsimp only; rw [off_val _ (trips_lt i k)]
theorem o6 : k0_off6 i k = ![0, 5, 512 * k.val, 0] := by
  unfold k0_off6; dsimp only; rw [off_val _ (trips_lt i k)]
theorem o7 : k0_off7 i k = ![0, 6, 512 * k.val, 0] := by
  unfold k0_off7; dsimp only; rw [off_val _ (trips_lt i k)]
theorem o8 : k0_off8 i k = ![0, 7, 512 * k.val, 0] := by
  unfold k0_off8; dsimp only; rw [off_val _ (trips_lt i k)]
theorem o17 : k0_off17 i = ![0, 0, 512 * (i 2).val, 0] := by
  unfold k0_off17; dsimp only; rw [off_diag (i 2)]
theorem o18 : k0_off18 i = ![0, 1, 512 * (i 2).val, 0] := by
  unfold k0_off18; dsimp only; rw [off_diag (i 2)]
theorem o19 : k0_off19 i = ![0, 2, 512 * (i 2).val, 0] := by
  unfold k0_off19; dsimp only; rw [off_diag (i 2)]
theorem o20 : k0_off20 i = ![0, 3, 512 * (i 2).val, 0] := by
  unfold k0_off20; dsimp only; rw [off_diag (i 2)]
theorem o21 : k0_off21 i = ![0, 4, 512 * (i 2).val, 0] := by
  unfold k0_off21; dsimp only; rw [off_diag (i 2)]
theorem o22 : k0_off22 i = ![0, 5, 512 * (i 2).val, 0] := by
  unfold k0_off22; dsimp only; rw [off_diag (i 2)]
theorem o23 : k0_off23 i = ![0, 6, 512 * (i 2).val, 0] := by
  unfold k0_off23; dsimp only; rw [off_diag (i 2)]
theorem o24 : k0_off24 i = ![0, 7, 512 * (i 2).val, 0] := by
  unfold k0_off24; dsimp only; rw [off_diag (i 2)]
end

theorem rd8 (A : Memref sig .tc .vmem S1x8x2048x128 .bf16) (hA : A.IsWhole) (K : Vec Ideal S1x8x2048x128 .bf16) (off : Fin 4 → ℕ) (o : ℕ) (h : Fin 8)
    (inb : ∀ a, off a + (![1, 1, 512, 128] : Fin 4 → ℕ) a ≤ S1x8x2048x128.size a) (e : off = ![0, h.val, o, 0]) (a : Fin 512) (x : Fin 128) (hk : o + a.val < 2048) :
    View.readAt (Elt Ideal) A.view (Rect.unit (s := S1x8x2048x128) off ![1, 1, 512, 128] inb).toLoadRect (hA.unread K) (ix4 0 0 a x : S1x1x512x128.Idx) = K (ix4 0 h ⟨o + a.val, hk⟩ x) := by
  subst e
  refine (Memref.IsWhole.readAt_unread hA K _ _).trans (congrArg K (funext fun b => Fin.ext ?_))
  fin_cases b <;> simp [Rect.toLoadRect, Rect.unit, LoadRect.idx, ix4]

/-- What the loop carries: eight times a row maximum and a row of weighted sums. -/
abbrev Carry := FVec Ideal S512x1 .f32 × FVec Ideal S512x128 .f32 × FVec Ideal S512x1 .f32 × FVec Ideal S512x128 .f32 × FVec Ideal S512x1 .f32 × FVec Ideal S512x128 .f32 × FVec Ideal S512x1 .f32 × FVec Ideal S512x128 .f32 × FVec Ideal S512x1 .f32 × FVec Ideal S512x128 .f32 × FVec Ideal S512x1 .f32 × FVec Ideal S512x128 .f32 × FVec Ideal S512x1 .f32 × FVec Ideal S512x128 .f32 × FVec Ideal S512x1 .f32 × FVec Ideal S512x128 .f32
/-- The maxima of a head. -/
def mOf (u : Carry) : Fin 8 → FVec Ideal S512x1 .f32 :=
  ![u.1, u.2.2.1, u.2.2.2.2.1, u.2.2.2.2.2.2.1, u.2.2.2.2.2.2.2.2.1, u.2.2.2.2.2.2.2.2.2.2.1, u.2.2.2.2.2.2.2.2.2.2.2.2.1, u.2.2.2.2.2.2.2.2.2.2.2.2.2.2.1]
/-- The weighted sums of a head. -/
def aOf (u : Carry) : Fin 8 → FVec Ideal S512x128 .f32 :=
  ![u.2.1, u.2.2.2.1, u.2.2.2.2.2.1, u.2.2.2.2.2.2.2.1, u.2.2.2.2.2.2.2.2.2.1, u.2.2.2.2.2.2.2.2.2.2.2.1, u.2.2.2.2.2.2.2.2.2.2.2.2.2.1, u.2.2.2.2.2.2.2.2.2.2.2.2.2.2.2]
/-- A head's maxima by row. -/
def mAt (u : Carry) (h : Fin 8) (r : Fin 512) : EReal := mOf u h (ix2 r 0)
/-- A head's sums by row and lane. -/
def aAt (u : Carry) (h : Fin 8) (r : Fin 512) (x : Fin 128) : EReal := aOf u h (ix2 r x)

/-- The score of a query's row and a key's. -/
def dotR (Q : FVec Ideal S512x128 .bf16) (K : Vec Ideal S1x8x2048x128 .bf16) (h : Fin 8) (r : Fin 512) (row : Fin 2048) : EReal :=
  ∑ x, (Q (ix2 r x) : EReal) * (K (ix4 0 h row x) : EReal)

end Cert.Kernel9Ideal.Fwd
end
-- ==== Proof.FwdTrip.lean ====
module

public import proofs.«01_k».proof.Proof.Gen.Kernel9Ideal.Value
public import Idealize.ShloMosaic.Lib.Pipeline.ValueKit
public import Idealize.ShloMosaic.Lib.Claim
public import proofs.«01_k».proof.Proof.FwdTile

@[expose] public section
set_option maxRecDepth 16384
noncomputable section
open Idealize.ShloMosaic Idealize.ShloMosaic.TcCoe Idealize.SL.Sem
open Idealize.ShloMosaic.Pipeline (Dat)
namespace Cert.Kernel9Ideal.Fwd
open Cert.Kernel9Ideal Cert.Kernel9Ideal.Gen

/-! One pass over a tile of keys that every query of the block sees: the next maxima and the next sums. -/

variable (𝒱 : Variants) (c : Dev nD) (bd : Option 𝒱.V) (i : grid0.Coords) (arg3 : Memref sig .tc .vmem S1x8x512x128 .bf16) (harg3 : arg3.IsWhole) (arg4 : Memref sig .tc .vmem S1x8x2048x128 .bf16) (harg4 : arg4.IsWhole) (arg5 : Memref sig .tc .vmem S1x8x2048x128 .bf16) (harg5 : arg5.IsWhole) (arg6 : Memref sig .tc .vmem S1x512x512 .bf16) (harg6 : arg6.IsWhole) (arg7 : Memref sig .tc .vmem S1x8x8x512 .f32) (harg7 : arg7.IsWhole) (arg2 : BitVec 32) (v50 : IVec S512x512 1)                 (v108 : FVec Ideal S512x1 .f32) (v109 : FVec Ideal S512x128 .f32) (v110 : FVec Ideal S512x1 .f32) (v111 : FVec Ideal S512x128 .f32) (v112 : FVec Ideal S512x1 .f32) (v113 : FVec Ideal S512x128 .f32) (v114 : FVec Ideal S512x1 .f32) (cst_48 : Ideal .f32)
variable (Q : Fin 8 → FVec Ideal S512x128 .bf16) (ON : Fin 8 → FVec Ideal S1x128 .bf16) (K VV : Vec Ideal S1x8x2048x128 .bf16)

theorem tripM (k : Fin (k0_t1_loop i).trips) (hk : ∀ a : Fin 512, 512 * k.val + a.val < 2048) (acc : Carry) (h : Fin 8) (r : Fin 512) :
    mAt (tripR_k0_t1 (F := Ideal) 𝒱 c bd i arg3 harg3 arg4 harg4 arg5 harg5 arg6 harg6 arg7 harg7 arg2 v50 (ON 0) (ON 1) (ON 2) (ON 3) (ON 4) (ON 5) (ON 6) (ON 7) (Q 0) (Q 1) (Q 2) (Q 3) (Q 4) (Q 5) (Q 6) (Q 7) v108 v109 v110 v111 v112 v113 v114 cst_48 (harg4.unread K) (harg5.unread VV) k acc) h r = max (mAt acc h r) (Finset.univ.fold max ⊥ fun a : Fin 512 => dotR (Q h) K h r ⟨512 * k.val + a.val, hk a⟩) := by
  unfold tripR_k0_t1 trip_k0_t1 mAt mOf dotR
  dsimp only
  fin_cases h
  · simp only [Fin.zero_eta, Fin.mk_one, Fin.reduceFinMk, Matrix.cons_val]
    pointwise [trip_k0_t1.sl.arg8, trip_k0_t1.sl.cst_230, trip_k0_t1.sl.cst_231, trip_k0_t1.sl.cst_235, trip_k0_t1.sl.r, trip_k0_t1.sl.v524, trip_k0_t1.sl.v526, trip_k0_t1.sl.v527, trip_k0_t1.sl.v528, trip_k0_t1.sl.v529, trip_k0_t1.sl.v530, trip_k0_t1.sl.v531, trip_k0_t1.sl.v532, trip_k0_t1.sl.v533, trip_k0_t1.sl.v534, trip_k0_t1.sl.v535, trip_k0_t1.sl.v536, trip_k0_t1.sl.v537, trip_k0_t1.sl.v538, trip_k0_t1.sl.v541, trip_k0_t1.sl.v542, trip_k0_t1.sl.v543, trip_k0_t1.sl.v544, trip_k0_t1.sl.v545]
    simp only [rd8 _ _ _ _ _ 0 _ (o1 i k) _ _ (hk _)]
    rfl
  · simp only [Fin.zero_eta, Fin.mk_one, Fin.reduceFinMk, Matrix.cons_val]
    pointwise [trip_k0_t1.sl.arg8, trip_k0_t1.sl.cst_230, trip_k0_t1.sl.cst_231, trip_k0_t1.sl.cst_235, trip_k0_t1.sl.r, trip_k0_t1.sl.v545, trip_k0_t1.sl.v548, trip_k0_t1.sl.v549, trip_k0_t1.sl.v550, trip_k0_t1.sl.v551, trip_k0_t1.sl.v552, trip_k0_t1.sl.v553, trip_k0_t1.sl.v554, trip_k0_t1.sl.v555, trip_k0_t1.sl.v556, trip_k0_t1.sl.v557, trip_k0_t1.sl.v558, trip_k0_t1.sl.v559, trip_k0_t1.sl.v560, trip_k0_t1.sl.v563, trip_k0_t1.sl.v564, trip_k0_t1.sl.v565, trip_k0_t1.sl.v566, trip_k0_t1.sl.v567]
    simp only [rd8 _ _ _ _ _ 1 _ (o2 i k) _ _ (hk _)]
    rfl
  · simp only [Fin.zero_eta, Fin.mk_one, Fin.reduceFinMk, Matrix.cons_val]
    pointwise [trip_k0_t1.sl.arg8, trip_k0_t1.sl.cst_230, trip_k0_t1.sl.cst_231, trip_k0_t1.sl.cst_235, trip_k0_t1.sl.r, trip_k0_t1.sl.v567, trip_k0_t1.sl.v570, trip_k0_t1.sl.v571, trip_k0_t1.sl.v572, trip_k0_t1.sl.v573, trip_k0_t1.sl.v574, trip_k0_t1.sl.v575, trip_k0_t1.sl.v576, trip_k0_t1.sl.v577, trip_k0_t1.sl.v578, trip_k0_t1.sl.v579, trip_k0_t1.sl.v580, trip_k0_t1.sl.v581, trip_k0_t1.sl.v582, trip_k0_t1.sl.v585, trip_k0_t1.sl.v586, trip_k0_t1.sl.v587, trip_k0_t1.sl.v588, trip_k0_t1.sl.v589]
    simp only [rd8 _ _ _ _ _ 2 _ (o3 i k) _ _ (hk _)]
    rfl
  · simp only [Fin.zero_eta, Fin.mk_one, Fin.reduceFinMk, Matrix.cons_val]
    pointwise [trip_k0_t1.sl.arg8, trip_k0_t1.sl.cst_230, trip_k0_t1.sl.cst_231, trip_k0_t1.sl.cst_235, trip_k0_t1.sl.r, trip_k0_t1.sl.v589, trip_k0_t1.sl.v592, trip_k0_t1.sl.v593, trip_k0_t1.sl.v594, trip_k0_t1.sl.v595, trip_k0_t1.sl.v596, trip_k0_t1.sl.v597, trip_k0_t1.sl.v598, trip_k0_t1.sl.v599, trip_k0_t1.sl.v600, trip_k0_t1.sl.v601, trip_k0_t1.sl.v602, trip_k0_t1.sl.v603, trip_k0_t1.sl.v604, trip_k0_t1.sl.v607, trip_k0_t1.sl.v608, trip_k0_t1.sl.v609, trip_k0_t1.sl.v610, trip_k0_t1.sl.v611]
    simp only [rd8 _ _ _ _ _ 3 _ (o4 i k) _ _ (hk _)]
    rfl
  · simp only [Fin.zero_eta, Fin.mk_one, Fin.reduceFinMk, Matrix.cons_val]
    pointwise [trip_k0_t1.sl.arg8, trip_k0_t1.sl.cst_230, trip_k0_t1.sl.cst_231, trip_k0_t1.sl.cst_235, trip_k0_t1.sl.r, trip_k0_t1.sl.v611, trip_k0_t1.sl.v614, trip_k0_t1.sl.v615, trip_k0_t1.sl.v616, trip_k0_t1.sl.v617, trip_k0_t1.sl.v618, trip_k0_t1.sl.v619, trip_k0_t1.sl.v620, trip_k0_t1.sl.v621, trip_k0_t1.sl.v622, trip_k0_t1.sl.v623, trip_k0_t1.sl.v624, trip_k0_t1.sl.v625, trip_k0_t1.sl.v626, trip_k0_t1.sl.v629, trip_k0_t1.sl.v630, trip_k0_t1.sl.v631, trip_k0_t1.sl.v632, trip_k0_t1.sl.v633]
    simp only [rd8 _ _ _ _ _ 4 _ (o5 i k) _ _ (hk _)]
    rfl
  · simp only [Fin.zero_eta, Fin.mk_one, Fin.reduceFinMk, Matrix.cons_val]
    pointwise [trip_k0_t1.sl.arg8, trip_k0_t1.sl.cst_230, trip_k0_t1.sl.cst_231, trip_k0_t1.sl.cst_235, trip_k0_t1.sl.r, trip_k0_t1.sl.v633, trip_k0_t1.sl.v636, trip_k0_t1.sl.v637, trip_k0_t1.sl.v638, trip_k0_t1.sl.v639, trip_k0_t1.sl.v640, trip_k0_t1.sl.v641, trip_k0_t1.sl.v642, trip_k0_t1.sl.v643, trip_k0_t1.sl.v644, trip_k0_t1.sl.v645, trip_k0_t1.sl.v646, trip_k0_t1.sl.v647, trip_k0_t1.sl.v648, trip_k0_t1.sl.v651, trip_k0_t1.sl.v652, trip_k0_t1.sl.v653, trip_k0_t1.sl.v654, trip_k0_t1.sl.v655]
    simp only [rd8 _ _ _ _ _ 5 _ (o6 i k) _ _ (hk _)]
    rfl
  · simp only [Fin.zero_eta, Fin.mk_one, Fin.reduceFinMk, Matrix.cons_val]
    pointwise [trip_k0_t1.sl.arg8, trip_k0_t1.sl.cst_230, trip_k0_t1.sl.cst_231, trip_k0_t1.sl.cst_235, trip_k0_t1.sl.r, trip_k0_t1.sl.v655, trip_k0_t1.sl.v658, trip_k0_t1.sl.v659, trip_k0_t1.sl.v660, trip_k0_t1.sl.v661, trip_k0_t1.sl.v662, trip_k0_t1.sl.v663, trip_k0_t1.sl.v664, trip_k0_t1.sl.v665, trip_k0_t1.sl.v666, trip_k0_t1.sl.v667, trip_k0_t1.sl.v668, trip_k0_t1.sl.v669, trip_k0_t1.sl.v670, trip_k0_t1.sl.v673, trip_k0_t1.sl.v674, trip_k0_t1.sl.v675, trip_k0_t1.sl.v676, trip_k0_t1.sl.v677]
    simp only [rd8 _ _ _ _ _ 6 _ (o7 i k) _ _ (hk _)]
    rfl
  · simp only [Fin.zero_eta, Fin.mk_one, Fin.reduceFinMk, Matrix.cons_val]
    pointwise [trip_k0_t1.sl.arg8, trip_k0_t1.sl.cst_230, trip_k0_t1.sl.cst_231, trip_k0_t1.sl.cst_235, trip_k0_t1.sl.r, trip_k0_t1.sl.v677, trip_k0_t1.sl.v680, trip_k0_t1.sl.v681, trip_k0_t1.sl.v682, trip_k0_t1.sl.v683, trip_k0_t1.sl.v684, trip_k0_t1.sl.v685, trip_k0_t1.sl.v686, trip_k0_t1.sl.v687, trip_k0_t1.sl.v688, trip_k0_t1.sl.v689, trip_k0_t1.sl.v690, trip_k0_t1.sl.v691, k0_pay100]
    simp only [rd8 _ _ _ _ _ 7 _ (o8 i k) _ _ (hk _)]
    rfl

theorem tripA (k : Fin (k0_t1_loop i).trips) (hk : ∀ a : Fin 512, 512 * k.val + a.val < 2048) (acc : Carry) (h : Fin 8) (r : Fin 512) (x : Fin 128) (M : EReal)
    (hM : M = max (mAt acc h r) (Finset.univ.fold max ⊥ fun a : Fin 512 => dotR (Q h) K h r ⟨512 * k.val + a.val, hk a⟩)) :
    aAt (tripR_k0_t1 (F := Ideal) 𝒱 c bd i arg3 harg3 arg4 harg4 arg5 harg5 arg6 harg6 arg7 harg7 arg2 v50 (ON 0) (ON 1) (ON 2) (ON 3) (ON 4) (ON 5) (ON 6) (ON 7) (Q 0) (Q 1) (Q 2) (Q 3) (Q 4) (Q 5) (Q 6) (Q 7) v108 v109 v110 v111 v112 v113 v114 cst_48 (harg4.unread K) (harg5.unread VV) k acc) h r x = Ideal.exp2 (mAt acc h r - M) * aAt acc h r x
      + ∑ a : Fin 512, Ideal.exp2 (dotR (Q h) K h r ⟨512 * k.val + a.val, hk a⟩ - M) * ((VV (ix4 0 h ⟨512 * k.val + a.val, hk a⟩ x) : EReal) + (ON h (ix2 0 x) : EReal)) := by
  subst hM
  unfold tripR_k0_t1 trip_k0_t1 aAt aOf mAt mOf dotR
  dsimp only
  fin_cases h
  · simp only [Fin.zero_eta, Fin.mk_one, Fin.reduceFinMk, Matrix.cons_val]
    pointwise [trip_k0_t1.sl.arg8, trip_k0_t1.sl.cst_230, trip_k0_t1.sl.cst_231, trip_k0_t1.sl.cst_235, trip_k0_t1.sl.r, trip_k0_t1.sl.v524, trip_k0_t1.sl.v526, trip_k0_t1.sl.v527, trip_k0_t1.sl.v528, trip_k0_t1.sl.v529, trip_k0_t1.sl.v530, trip_k0_t1.sl.v531, trip_k0_t1.sl.v532, trip_k0_t1.sl.v533, trip_k0_t1.sl.v534, trip_k0_t1.sl.v535, trip_k0_t1.sl.v536, trip_k0_t1.sl.v537, trip_k0_t1.sl.v538, trip_k0_t1.sl.v541, trip_k0_t1.sl.v542, trip_k0_t1.sl.v543, trip_k0_t1.sl.v544, trip_k0_t1.sl.v545]
    simp only [rd8 _ _ _ _ _ 0 _ (o1 i k) _ _ (hk _)]
    rfl
  · simp only [Fin.zero_eta, Fin.mk_one, Fin.reduceFinMk, Matrix.cons_val]
    pointwise [trip_k0_t1.sl.arg8, trip_k0_t1.sl.cst_230, trip_k0_t1.sl.cst_231, trip_k0_t1.sl.cst_235, trip_k0_t1.sl.r, trip_k0_t1.sl.v545, trip_k0_t1.sl.v548, trip_k0_t1.sl.v549, trip_k0_t1.sl.v550, trip_k0_t1.sl.v551, trip_k0_t1.sl.v552, trip_k0_t1.sl.v553, trip_k0_t1.sl.v554, trip_k0_t1.sl.v555, trip_k0_t1.sl.v556, trip_k0_t1.sl.v557, trip_k0_t1.sl.v558, trip_k0_t1.sl.v559, trip_k0_t1.sl.v560, trip_k0_t1.sl.v563, trip_k0_t1.sl.v564, trip_k0_t1.sl.v565, trip_k0_t1.sl.v566, trip_k0_t1.sl.v567]
    simp only [rd8 _ _ _ _ _ 1 _ (o2 i k) _ _ (hk _)]
    rfl
  · simp only [Fin.zero_eta, Fin.mk_one, Fin.reduceFinMk, Matrix.cons_val]
    pointwise [trip_k0_t1.sl.arg8, trip_k0_t1.sl.cst_230, trip_k0_t1.sl.cst_231, trip_k0_t1.sl.cst_235, trip_k0_t1.sl.r, trip_k0_t1.sl.v567, trip_k0_t1.sl.v570, trip_k0_t1.sl.v571, trip_k0_t1.sl.v572, trip_k0_t1.sl.v573, trip_k0_t1.sl.v574, trip_k0_t1.sl.v575, trip_k0_t1.sl.v576, trip_k0_t1.sl.v577, trip_k0_t1.sl.v578, trip_k0_t1.sl.v579, trip_k0_t1.sl.v580, trip_k0_t1.sl.v581, trip_k0_t1.sl.v582, trip_k0_t1.sl.v585, trip_k0_t1.sl.v586, trip_k0_t1.sl.v587, trip_k0_t1.sl.v588, trip_k0_t1.sl.v589]
    simp only [rd8 _ _ _ _ _ 2 _ (o3 i k) _ _ (hk _)]
    rfl
  · simp only [Fin.zero_eta, Fin.mk_one, Fin.reduceFinMk, Matrix.cons_val]
    pointwise [trip_k0_t1.sl.arg8, trip_k0_t1.sl.cst_230, trip_k0_t1.sl.cst_231, trip_k0_t1.sl.cst_235, trip_k0_t1.sl.r, trip_k0_t1.sl.v589, trip_k0_t1.sl.v592, trip_k0_t1.sl.v593, trip_k0_t1.sl.v594, trip_k0_t1.sl.v595, trip_k0_t1.sl.v596, trip_k0_t1.sl.v597, trip_k0_t1.sl.v598, trip_k0_t1.sl.v599, trip_k0_t1.sl.v600, trip_k0_t1.sl.v601, trip_k0_t1.sl.v602, trip_k0_t1.sl.v603, trip_k0_t1.sl.v604, trip_k0_t1.sl.v607, trip_k0_t1.sl.v608, trip_k0_t1.sl.v609, trip_k0_t1.sl.v610, trip_k0_t1.sl.v611]
    simp only [rd8 _ _ _ _ _ 3 _ (o4 i k) _ _ (hk _)]
    rfl
  · simp only [Fin.zero_eta, Fin.mk_one, Fin.reduceFinMk, Matrix.cons_val]
    pointwise [trip_k0_t1.sl.arg8, trip_k0_t1.sl.cst_230, trip_k0_t1.sl.cst_231, trip_k0_t1.sl.cst_235, trip_k0_t1.sl.r, trip_k0_t1.sl.v611, trip_k0_t1.sl.v614, trip_k0_t1.sl.v615, trip_k0_t1.sl.v616, trip_k0_t1.sl.v617, trip_k0_t1.sl.v618, trip_k0_t1.sl.v619, trip_k0_t1.sl.v620, trip_k0_t1.sl.v621, trip_k0_t1.sl.v622, trip_k0_t1.sl.v623, trip_k0_t1.sl.v624, trip_k0_t1.sl.v625, trip_k0_t1.sl.v626, trip_k0_t1.sl.v629, trip_k0_t1.sl.v630, trip_k0_t1.sl.v631, trip_k0_t1.sl.v632, trip_k0_t1.sl.v633]
    simp only [rd8 _ _ _ _ _ 4 _ (o5 i k) _ _ (hk _)]
    rfl
  · simp only [Fin.zero_eta, Fin.mk_one, Fin.reduceFinMk, Matrix.cons_val]
    pointwise [trip_k0_t1.sl.arg8, trip_k0_t1.sl.cst_230, trip_k0_t1.sl.cst_231, trip_k0_t1.sl.cst_235, trip_k0_t1.sl.r, trip_k0_t1.sl.v633, trip_k0_t1.sl.v636, trip_k0_t1.sl.v637, trip_k0_t1.sl.v638, trip_k0_t1.sl.v639, trip_k0_t1.sl.v640, trip_k0_t1.sl.v641, trip_k0_t1.sl.v642, trip_k0_t1.sl.v643, trip_k0_t1.sl.v644, trip_k0_t1.sl.v645, trip_k0_t1.sl.v646, trip_k0_t1.sl.v647, trip_k0_t1.sl.v648, trip_k0_t1.sl.v651, trip_k0_t1.sl.v652, trip_k0_t1.sl.v653, trip_k0_t1.sl.v654, trip_k0_t1.sl.v655]
    simp only [rd8 _ _ _ _ _ 5 _ (o6 i k) _ _ (hk _)]
    rfl
  · simp only [Fin.zero_eta, Fin.mk_one, Fin.reduceFinMk, Matrix.cons_val]
    pointwise [trip_k0_t1.sl.arg8, trip_k0_t1.sl.cst_230, trip_k0_t1.sl.cst_231, trip_k0_t1.sl.cst_235, trip_k0_t1.sl.r, trip_k0_t1.sl.v655, trip_k0_t1.sl.v658, trip_k0_t1.sl.v659, trip_k0_t1.sl.v660, trip_k0_t1.sl.v661, trip_k0_t1.sl.v662, trip_k0_t1.sl.v663, trip_k0_t1.sl.v664, trip_k0_t1.sl.v665, trip_k0_t1.sl.v666, trip_k0_t1.sl.v667, trip_k0_t1.sl.v668, trip_k0_t1.sl.v669, trip_k0_t1.sl.v670, trip_k0_t1.sl.v673, trip_k0_t1.sl.v674, trip_k0_t1.sl.v675, trip_k0_t1.sl.v676, trip_k0_t1.sl.v677]
    simp only [rd8 _ _ _ _ _ 6 _ (o7 i k) _ _ (hk _)]
    rfl
  · simp only [Fin.zero_eta, Fin.mk_one, Fin.reduceFinMk, Matrix.cons_val]
    pointwise [trip_k0_t1.sl.arg8, trip_k0_t1.sl.cst_230, trip_k0_t1.sl.cst_231, trip_k0_t1.sl.cst_235, trip_k0_t1.sl.r, trip_k0_t1.sl.v677, trip_k0_t1.sl.v680, trip_k0_t1.sl.v681, trip_k0_t1.sl.v682, trip_k0_t1.sl.v683, trip_k0_t1.sl.v684, trip_k0_t1.sl.v685, trip_k0_t1.sl.v686, trip_k0_t1.sl.v687, trip_k0_t1.sl.v688, trip_k0_t1.sl.v689, trip_k0_t1.sl.v690, trip_k0_t1.sl.v691, k0_pay100]
    simp only [rd8 _ _ _ _ _ 7 _ (o8 i k) _ _ (hk _)]
    rfl

end Cert.Kernel9Ideal.Fwd
end
-- ==== Proof.FwdLast.lean ====
module

public import proofs.«01_k».proof.Proof.Gen.Kernel9Ideal.Value
public import Idealize.ShloMosaic.Lib.Pipeline.ValueKit
public import Idealize.ShloMosaic.Lib.Claim
public import proofs.«01_k».proof.Proof.FwdTrip

@[expose] public section
set_option maxRecDepth 16384
noncomputable section
open Idealize.ShloMosaic Idealize.ShloMosaic.TcCoe Idealize.SL.Sem
open Idealize.ShloMosaic.Pipeline (Dat)
namespace Cert.Kernel9Ideal.Fwd
open Cert.Kernel9Ideal Cert.Kernel9Ideal.Gen

/-! The tile on the diagonal, whose keys not every query sees, and the two outputs. -/

/-- Every lane's own number. -/
abbrev LN : IVec S512x128 32 := iota Kind.tc S512x128 32 [1] iota_S512x128_d1_w32

section
variable (B : IVec S512x512 1) (q : FVec Ideal S512x128 .bf16) (n : FVec Ideal S1x128 .bf16) (m : FVec Ideal S512x1 .f32) (a : FVec Ideal S512x128 .f32) (k w : Vec Ideal S1x1x512x128 .bf16)

/-- A score under the mask. -/
def selAt (r y : Fin 512) : EReal := Scalar.select (B (ix2 r y)) (∑ x, (q (ix2 r x) : EReal) * (k (ix4 0 0 y x) : EReal)) ⊥
/-- The last maximum of a row. -/
def lastM (r : Fin 512) : EReal := max (m (ix2 r 0)) (Finset.univ.fold max ⊥ fun y => selAt B q k r y)
/-- The last sums of a row. -/
def lastA (r : Fin 512) (x : Fin 128) : EReal := Ideal.exp2 ((m (ix2 r 0) : EReal) - lastM B q m k r) * (a (ix2 r x) : EReal)
  + ∑ y, Ideal.exp2 (selAt B q k r y - lastM B q m k r) * ((w (ix4 0 0 y x) : EReal) + (n (ix2 0 x) : EReal))

theorem lastM0 (r : Fin 512) : @Eq EReal ((k0_pay103 B q m k : FVec Ideal S512x1 .f32) (ix2 r 0)) (lastM B q m k r) := by
  unfold lastM selAt
  pointwise [k0_pay102, k0_pay103]
  all_goals rfl
theorem lastA0 (r : Fin 512) (x : Fin 128) : @Eq EReal ((k0_pay107 n (k0_pay104 B q m k) (k0_pay105 B q m a k) (k0_pay106 w) : FVec Ideal S512x128 .f32) (ix2 r x)) (lastA B q n m a k w r x) := by
  unfold lastA lastM selAt
  pointwise [k0_pay102, k0_pay103, k0_pay104, k0_pay105, k0_pay106, k0_pay107]
  all_goals rfl
theorem lastM1 (r : Fin 512) : @Eq EReal ((k0_pay109 B q m k : FVec Ideal S512x1 .f32) (ix2 r 0)) (lastM B q m k r) := by
  unfold lastM selAt
  pointwise [k0_pay108, k0_pay109]
  all_goals rfl
theorem lastA1 (r : Fin 512) (x : Fin 128) : @Eq EReal ((k0_pay110 B n q m a k w : FVec Ideal S512x128 .f32) (ix2 r x)) (lastA B q n m a k w r x) := by
  unfold lastA lastM selAt
  pointwise [k0_pay108, k0_pay109, k0_pay110]
  all_goals rfl
theorem lastM2 (r : Fin 512) : @Eq EReal ((k0_pay112 B q m k : FVec Ideal S512x1 .f32) (ix2 r 0)) (lastM B q m k r) := by
  unfold lastM selAt
  pointwise [k0_pay111, k0_pay112]
  all_goals rfl
theorem lastA2 (r : Fin 512) (x : Fin 128) : @Eq EReal ((k0_pay115 n a (k0_pay113 B q m k) (k0_pay114 B q m k) w : FVec Ideal S512x128 .f32) (ix2 r x)) (lastA B q n m a k w r x) := by
  unfold lastA lastM selAt
  pointwise [k0_pay111, k0_pay112, k0_pay113, k0_pay114, k0_pay115]
  all_goals rfl
theorem lastM3 (r : Fin 512) : @Eq EReal ((k0_pay117 B q m k : FVec Ideal S512x1 .f32) (ix2 r 0)) (lastM B q m k r) := by
  unfold lastM selAt
  pointwise [k0_pay116, k0_pay117]
  all_goals rfl
theorem lastA3 (r : Fin 512) (x : Fin 128) : @Eq EReal ((k0_pay118 B n q m a k w : FVec Ideal S512x128 .f32) (ix2 r x)) (lastA B q n m a k w r x) := by
  unfold lastA lastM selAt
  pointwise [k0_pay116, k0_pay117, k0_pay118]
  all_goals rfl
theorem lastM4 (r : Fin 512) : @Eq EReal ((k0_pay121 m (k0_pay120 B q k) : FVec Ideal S512x1 .f32) (ix2 r 0)) (lastM B q m k r) := by
  unfold lastM selAt
  pointwise [k0_pay119, k0_pay120, k0_pay121]
  all_goals rfl
theorem lastA4 (r : Fin 512) (x : Fin 128) : @Eq EReal ((k0_pay122 n m a (k0_pay119 B q k) (k0_pay120 B q k) w : FVec Ideal S512x128 .f32) (ix2 r x)) (lastA B q n m a k w r x) := by
  unfold lastA lastM selAt
  pointwise [k0_pay119, k0_pay120, k0_pay121, k0_pay122]
  all_goals rfl
theorem lastM5 (r : Fin 512) : @Eq EReal ((k0_pay124 B q m k : FVec Ideal S512x1 .f32) (ix2 r 0)) (lastM B q m k r) := by
  unfold lastM selAt
  pointwise [k0_pay123, k0_pay124]
  all_goals rfl
theorem lastA5 (r : Fin 512) (x : Fin 128) : @Eq EReal ((k0_pay125 B n q m a k w : FVec Ideal S512x128 .f32) (ix2 r x)) (lastA B q n m a k w r x) := by
  unfold lastA lastM selAt
  pointwise [k0_pay123, k0_pay124, k0_pay125]
  all_goals rfl
theorem lastM6 (r : Fin 512) : @Eq EReal ((k0_pay127 B q m k : FVec Ideal S512x1 .f32) (ix2 r 0)) (lastM B q m k r) := by
  unfold lastM selAt
  pointwise [k0_pay126, k0_pay127]
  all_goals rfl
theorem lastA6 (r : Fin 512) (x : Fin 128) : @Eq EReal ((k0_pay128 B n q m a k w : FVec Ideal S512x128 .f32) (ix2 r x)) (lastA B q n m a k w r x) := by
  unfold lastA lastM selAt
  pointwise [k0_pay126, k0_pay127, k0_pay128]
  all_goals rfl
theorem lastM7 (r : Fin 512) : @Eq EReal ((k0_pay130 B q m k : FVec Ideal S512x1 .f32) (ix2 r 0)) (lastM B q m k r) := by
  unfold lastM selAt
  pointwise [k0_pay129, k0_pay130]
  all_goals rfl
theorem lastA7 (r : Fin 512) (x : Fin 128) : @Eq EReal ((k0_pay134 (k0_pay131 B q m k) (k0_pay132 B q m a k) (k0_pay133 n w) : FVec Ideal S512x128 .f32) (ix2 r x)) (lastA B q n m a k w r x) := by
  unfold lastA lastM selAt
  pointwise [k0_pay129, k0_pay130, k0_pay131, k0_pay132, k0_pay133, k0_pay134]
  all_goals rfl
end

section
variable (M : FVec Ideal S512x1 .f32) (A A' : FVec Ideal S512x128 .f32)
/-- The row sum, kept in one lane. -/
def laneOf (l : BitVec 32) (A : FVec Ideal S512x128 .f32) (r : Fin 512) : EReal :=
  ∑ x : Fin 128, Scalar.select (IntOp.cmpi CmpIPredicate.eq (BitVec.ofNat 32 x.val) l) (A (ix2 r x) : EReal) 0

theorem logs0 (t : Fin 8) (r : Fin 512) : @Eq EReal ((k0_pay137 M A : Vec Ideal S1x1x8x512 .f32) (ix4 0 0 t r)) ((M (ix2 r 0) : EReal) + Ideal.log (laneOf 127#32 A r) * ((1 / Real.log 2 : ℝ) : EReal)) := by
  unfold laneOf
  pointwise [k0_pay135, k0_pay137]
  rw [one_div]
  rfl
theorem logs1 (t : Fin 8) (r : Fin 512) : @Eq EReal ((k0_pay141 (k0_pay140 M A) : Vec Ideal S1x1x8x512 .f32) (ix4 0 0 t r)) ((M (ix2 r 0) : EReal) + Ideal.log (laneOf 0#32 A r) * ((1 / Real.log 2 : ℝ) : EReal)) := by
  unfold laneOf
  pointwise [k0_pay138, k0_pay140, k0_pay141]
  rw [one_div]
  rfl
theorem logs2 (t : Fin 8) (r : Fin 512) : @Eq EReal ((k0_pay145 M A LN : Vec Ideal S1x1x8x512 .f32) (ix4 0 0 t r)) ((M (ix2 r 0) : EReal) + Ideal.log (laneOf 127#32 A r) * ((1 / Real.log 2 : ℝ) : EReal)) := by
  unfold laneOf
  pointwise [k0_pay143, k0_pay145]
  rw [one_div]
  rfl
theorem logs3 (t : Fin 8) (r : Fin 512) : @Eq EReal ((k0_pay148 M (k0_pay146 A LN) : Vec Ideal S1x1x8x512 .f32) (ix4 0 0 t r)) ((M (ix2 r 0) : EReal) + Ideal.log (laneOf 0#32 A r) * ((1 / Real.log 2 : ℝ) : EReal)) := by
  unfold laneOf
  pointwise [k0_pay146, k0_pay148]
  rw [one_div]
  rfl
theorem logs4 (t : Fin 8) (r : Fin 512) : @Eq EReal ((k0_pay153 (k0_pay152 M A LN) : Vec Ideal S1x1x8x512 .f32) (ix4 0 0 t r)) ((M (ix2 r 0) : EReal) + Ideal.log (laneOf 127#32 A r) * ((1 / Real.log 2 : ℝ) : EReal)) := by
  unfold laneOf
  pointwise [k0_pay150, k0_pay152, k0_pay153]
  rw [one_div]
  rfl
theorem logs5 (t : Fin 8) (r : Fin 512) : @Eq EReal ((k0_pay155 M A LN : Vec Ideal S1x1x8x512 .f32) (ix4 0 0 t r)) ((M (ix2 r 0) : EReal) + Ideal.log (laneOf 0#32 A r) * ((1 / Real.log 2 : ℝ) : EReal)) := by
  unfold laneOf
  pointwise [k0_pay154, k0_pay155]
  rw [one_div]
  rfl
theorem logs6 (t : Fin 8) (r : Fin 512) : @Eq EReal ((k0_pay159 M (k0_pay157 A LN) : Vec Ideal S1x1x8x512 .f32) (ix4 0 0 t r)) ((M (ix2 r 0) : EReal) + Ideal.log (laneOf 127#32 A r) * ((1 / Real.log 2 : ℝ) : EReal)) := by
  unfold laneOf
  pointwise [k0_pay157, k0_pay159]
  rw [one_div]
  rfl
theorem logs7 (t : Fin 8) (r : Fin 512) : @Eq EReal ((k0_pay161 M A LN : Vec Ideal S1x1x8x512 .f32) (ix4 0 0 t r)) ((M (ix2 r 0) : EReal) + Ideal.log (laneOf 0#32 A r) * ((1 / Real.log 2 : ℝ) : EReal)) := by
  unfold laneOf
  pointwise [k0_pay160, k0_pay161]
  rw [one_div]
  rfl
theorem outs0 (r : Fin 512) (x : Fin 128) : @Eq EReal ((k0_pay142 LN (k0_pay136 A) (k0_pay139 A') : Vec Ideal S1x512x128 .bf16) (ix3 0 r x))
    (Scalar.select (IntOp.cmpi CmpIPredicate.slt (BitVec.ofNat 32 x.val) 64#32) ((A (ix2 r x) : EReal) * Ideal.div 1 (laneOf 127#32 A r)) ((A' (ix2 r x) : EReal) * Ideal.div 1 (laneOf 0#32 A' r))) := by
  unfold laneOf
  pointwise [k0_pay135, k0_pay136, k0_pay138, k0_pay139, k0_pay142]
theorem outs1 (r : Fin 512) (x : Fin 128) : @Eq EReal ((k0_pay149 A' LN (k0_pay144 A LN) (k0_pay146 A' LN) k0_pay147 : Vec Ideal S1x512x128 .bf16) (ix3 0 r x))
    (Scalar.select (IntOp.cmpi CmpIPredicate.slt (BitVec.ofNat 32 x.val) 64#32) ((A (ix2 r x) : EReal) * Ideal.div 1 (laneOf 127#32 A r)) ((A' (ix2 r x) : EReal) * Ideal.div 1 (laneOf 0#32 A' r))) := by
  unfold laneOf
  pointwise [k0_pay143, k0_pay144, k0_pay146, k0_pay147, k0_pay149]
theorem outs2 (r : Fin 512) (x : Fin 128) : @Eq EReal ((k0_pay156 A' LN (k0_pay151 A LN) : Vec Ideal S1x512x128 .bf16) (ix3 0 r x))
    (Scalar.select (IntOp.cmpi CmpIPredicate.slt (BitVec.ofNat 32 x.val) 64#32) ((A (ix2 r x) : EReal) * Ideal.div 1 (laneOf 127#32 A r)) ((A' (ix2 r x) : EReal) * Ideal.div 1 (laneOf 0#32 A' r))) := by
  unfold laneOf
  pointwise [k0_pay150, k0_pay151, k0_pay154, k0_pay156]
theorem outs3 (r : Fin 512) (x : Fin 128) : @Eq EReal ((k0_pay162 A' LN (k0_pay158 A LN) : Vec Ideal S1x512x128 .bf16) (ix3 0 r x))
    (Scalar.select (IntOp.cmpi CmpIPredicate.slt (BitVec.ofNat 32 x.val) 64#32) ((A (ix2 r x) : EReal) * Ideal.div 1 (laneOf 127#32 A r)) ((A' (ix2 r x) : EReal) * Ideal.div 1 (laneOf 0#32 A' r))) := by
  unfold laneOf
  pointwise [k0_pay157, k0_pay158, k0_pay160, k0_pay162]
end

end Cert.Kernel9Ideal.Fwd
end
-- ==== Proof.FwdLoop.lean ====
module

public import proofs.«01_k».proof.Proof.Gen.Kernel9Ideal.Value
public import Idealize.ShloMosaic.Lib.Pipeline.ValueKit
public import Idealize.ShloMosaic.Lib.Claim
public import proofs.«01_k».proof.Proof.FwdTrip
public import proofs.«01_k».proof.Proof.AttnSoft

@[expose] public section
set_option maxRecDepth 16384
noncomputable section
open Idealize.ShloMosaic Idealize.ShloMosaic.TcCoe Idealize.SL.Sem
open Idealize.ShloMosaic.Pipeline (Dat)
namespace Cert.Kernel9Ideal.Fwd
open Cert.Kernel9Ideal Cert.Kernel9Ideal.Gen
open Cert.Kernel3Ideal.Attn (Heads Vals Kept sees score expo rowSum oneLane mexp sc ln2_pos coe_sum)

/-! The loop over the tiles that every query of the block sees, over the reals. -/

theorem exp2_eq (z : EReal) : Ideal.exp2 z = Ideal.exp (z * (Real.log 2 : EReal)) := by
  induction z using EReal.rec with
  | bot => rw [EReal.bot_mul_coe_of_pos ln2_pos]; rfl
  | coe a =>
    rw [Ideal.exp2_coe, ← EReal.coe_mul, Ideal.exp_coe]
    refine congrArg ((↑) : ℝ → EReal) ?_
    show (2 : ℝ) ^ a = _
    rw [Real.rpow_def_of_pos two_pos, mul_comm]
  | top => rw [EReal.top_mul_coe_of_pos ln2_pos]; rfl

/-- A tile's share of a sum over all keys, and the sum of the first tiles. -/
def tileSum (F : Fin 2048 → ℝ) (n : ℕ) : ℝ := if h : n < 4 then ∑ a : Fin 512, F ⟨512 * n + a.val, by omega⟩ else 0
@[inherit_doc tileSum] def firstSum (F : Fin 2048 → ℝ) (n : ℕ) : ℝ := ∑ j ∈ Finset.range n, tileSum F j

theorem firstSum_succ (F : Fin 2048 → ℝ) (n : ℕ) : firstSum F (n + 1) = firstSum F n + tileSum F n := Finset.sum_range_succ _ _

/-- Nothing is added by the tiles after the last one that holds a key. -/
theorem firstSum_all (F : Fin 2048 → ℝ) (n : Fin 4) (hF : ∀ key : Fin 2048, 512 * (n.val + 1) ≤ key.val → F key = 0) : firstSum F (n.val + 1) = ∑ key, F key := by
  have h4 : firstSum F 4 = ∑ key, F key := by
    rw [Fin.sum_univ_tiles 4 512 rfl F]
    unfold firstSum
    rw [Finset.sum_range]
    refine Finset.sum_congr rfl fun j _ => ?_
    unfold tileSum
    rw [dif_pos j.isLt]
    refine Finset.sum_congr rfl fun a _ => congrArg F (Fin.ext ?_)
    show 512 * j.val + a.val = j.val * 512 + a.val; omega
  rw [← h4]
  unfold firstSum
  refine Finset.sum_subset (Finset.range_mono (by omega)) fun j _ hj => ?_
  rw [Finset.mem_range, not_lt] at hj
  unfold tileSum
  split_ifs
  · exact Finset.sum_eq_zero fun a _ => hF _ (by show _ ≤ 512 * j + a.val; omega)
  · rfl

/-- One more tile keeps a row's form. -/
theorem tile_kept {M M' : EReal} {A A' : Fin 128 → EReal} (b : Fin 4) (H : Fin 8) (s : Fin 2048) (q k : Heads) (v : Vals) (n : ℕ) (hn : n < 4)
    (h : Kept (Real.log 2) M A fun x => firstSum (fun key => expo q k b H s key * oneLane v b H key x) n) (hs : 512 * n ≤ s.val)
    (hM : M' = max M (Finset.univ.fold max ⊥ fun a : Fin 512 => sc (sees s ⟨512 * n + a.val, by omega⟩) (score q k b H s ⟨512 * n + a.val, by omega⟩ / Real.log 2)))
    (hA : ∀ x, A' x = Ideal.exp2 (M - M') * A x + ∑ a : Fin 512, Ideal.exp2 (sc (sees s ⟨512 * n + a.val, by omega⟩) (score q k b H s ⟨512 * n + a.val, by omega⟩ / Real.log 2) - M') * (oneLane v b H ⟨512 * n + a.val, by omega⟩ x : EReal)) :
    Kept (Real.log 2) M' A' (fun x => firstSum (fun key => expo q k b H s key * oneLane v b H key x) (n + 1)) ∧ M' ≠ ⊥ := by
  have h2 := Kept.step (A' := A') ln2_pos h (fun a : Fin 512 => sees s ⟨512 * n + a.val, by omega⟩) (fun a => score q k b H s ⟨512 * n + a.val, by omega⟩ / Real.log 2)
    (fun a x => oneLane v b H ⟨512 * n + a.val, by omega⟩ x) (Or.inr ⟨0, Nat.div_le_div_right (by simpa using hs)⟩) hM (fun x => by rw [hA x]; simp only [exp2_eq])
  refine ⟨?_, h2.2⟩
  refine Eq.mp (congrArg (Kept (Real.log 2) M' A') (funext fun x => ?_)) h2.1
  rw [firstSum_succ]
  congr 1
  unfold tileSum
  rw [dif_pos hn]
  refine Finset.sum_congr rfl fun a _ => ?_
  unfold expo
  rw [div_mul_cancel₀ _ ln2_pos.ne']

variable (𝒱 : Variants) (c : Dev nD) (bd : Option 𝒱.V) (i : grid0.Coords) (arg3 : Memref sig .tc .vmem S1x8x512x128 .bf16) (harg3 : arg3.IsWhole) (arg4 : Memref sig .tc .vmem S1x8x2048x128 .bf16) (harg4 : arg4.IsWhole) (arg5 : Memref sig .tc .vmem S1x8x2048x128 .bf16) (harg5 : arg5.IsWhole) (arg6 : Memref sig .tc .vmem S1x512x512 .bf16) (harg6 : arg6.IsWhole) (arg7 : Memref sig .tc .vmem S1x8x8x512 .f32) (harg7 : arg7.IsWhole) (arg2 : BitVec 32) (v50 : IVec S512x512 1)                 (v108 : FVec Ideal S512x1 .f32) (v109 : FVec Ideal S512x128 .f32) (v110 : FVec Ideal S512x1 .f32) (v111 : FVec Ideal S512x128 .f32) (v112 : FVec Ideal S512x1 .f32) (v113 : FVec Ideal S512x128 .f32) (v114 : FVec Ideal S512x1 .f32) (cst_48 : Ideal .f32)
variable (Q : Fin 8 → FVec Ideal S512x128 .bf16) (ON : Fin 8 → FVec Ideal S1x128 .bf16) (K VV : Vec Ideal S1x8x2048x128 .bf16)

variable (b : Fin 4) (q k : Heads) (v : Vals) (s : Fin 512 → Fin 2048)
  (hS : ∀ H r row, dotR (Q H) K H r row = ((score q k b H (s r) row / Real.log 2 : ℝ) : EReal))
  (hV : ∀ H row x, (VV (ix4 0 H row x) : EReal) + (ON H (ix2 0 x) : EReal) = ((oneLane v b H row x : ℝ) : EReal))
  (hs : ∀ r, 512 * (i 2).val ≤ (s r).val) (init : Carry) (h0 : ∀ H r, mAt init H r = ⊥) (h1 : ∀ H r x, aAt init H r x = 0)

include hS hV hs h0 h1 in
theorem loop_kept (n : ℕ) (hn : n ≤ (k0_t1_loop i).trips) (H : Fin 8) (r : Fin 512) :
    Kept (Real.log 2) (mAt (st_k0_t1 (F := Ideal) 𝒱 c bd i arg3 harg3 arg4 harg4 arg5 harg5 arg6 harg6 arg7 harg7 arg2 v50 (ON 0) (ON 1) (ON 2) (ON 3) (ON 4) (ON 5) (ON 6) (ON 7) (Q 0) (Q 1) (Q 2) (Q 3) (Q 4) (Q 5) (Q 6) (Q 7) v108 v109 v110 v111 v112 v113 v114 cst_48 (harg4.unread K) (harg5.unread VV) init n) H r) (aAt (st_k0_t1 (F := Ideal) 𝒱 c bd i arg3 harg3 arg4 harg4 arg5 harg5 arg6 harg6 arg7 harg7 arg2 v50 (ON 0) (ON 1) (ON 2) (ON 3) (ON 4) (ON 5) (ON 6) (ON 7) (Q 0) (Q 1) (Q 2) (Q 3) (Q 4) (Q 5) (Q 6) (Q 7) v108 v109 v110 v111 v112 v113 v114 cst_48 (harg4.unread K) (harg5.unread VV) init n) H r) (fun x => firstSum (fun key => expo q k b H (s r) key * oneLane v b H key x) n) := by
  induction n with
  | zero =>
    rw [st_k0_t1_zero]
    exact Or.inl ⟨h0 H r, h1 H r, fun x => rfl⟩
  | succ n ih =>
    have ih := ih (by omega)
    have hk : n < 4 := trips_lt i ⟨n, hn⟩
    have hk' : ∀ a : Fin 512, 512 * n + a.val < 2048 := fun a => by omega
    have hi : n + 1 ≤ (i 2).val := le_of_le_of_eq hn (trips_eq i)
    have hrow : 512 * (n + 1) ≤ (s r).val := le_trans (Nat.mul_le_mul_left _ hi) (hs r)
    have hsc : ∀ a : Fin 512, dotR (Q H) K H r ⟨512 * n + a.val, hk' a⟩ = sc (sees (s r) ⟨512 * n + a.val, hk' a⟩) (score q k b H (s r) ⟨512 * n + a.val, hk' a⟩ / Real.log 2) := fun a => by
      rw [hS]
      unfold sc
      rw [if_pos (Nat.div_le_div_right (by show 512 * n + a.val ≤ _; omega))]
    rw [st_k0_t1_succ (F := Ideal) 𝒱 c bd i arg3 harg3 arg4 harg4 arg5 harg5 arg6 harg6 arg7 harg7 arg2 v50 (ON 0) (ON 1) (ON 2) (ON 3) (ON 4) (ON 5) (ON 6) (ON 7) (Q 0) (Q 1) (Q 2) (Q 3) (Q 4) (Q 5) (Q 6) (Q 7) v108 v109 v110 v111 v112 v113 v114 cst_48 (harg4.unread K) (harg5.unread VV) init ⟨n, hn⟩]
    have hM := tripM 𝒱 c bd i arg3 harg3 arg4 harg4 arg5 harg5 arg6 harg6 arg7 harg7 arg2 v50 v108 v109 v110 v111 v112 v113 v114 cst_48 Q ON K VV ⟨n, hn⟩ hk' (st_k0_t1 (F := Ideal) 𝒱 c bd i arg3 harg3 arg4 harg4 arg5 harg5 arg6 harg6 arg7 harg7 arg2 v50 (ON 0) (ON 1) (ON 2) (ON 3) (ON 4) (ON 5) (ON 6) (ON 7) (Q 0) (Q 1) (Q 2) (Q 3) (Q 4) (Q 5) (Q 6) (Q 7) v108 v109 v110 v111 v112 v113 v114 cst_48 (harg4.unread K) (harg5.unread VV) init n) H r
    have hA := fun x => tripA 𝒱 c bd i arg3 harg3 arg4 harg4 arg5 harg5 arg6 harg6 arg7 harg7 arg2 v50 v108 v109 v110 v111 v112 v113 v114 cst_48 Q ON K VV ⟨n, hn⟩ hk' (st_k0_t1 (F := Ideal) 𝒱 c bd i arg3 harg3 arg4 harg4 arg5 harg5 arg6 harg6 arg7 harg7 arg2 v50 (ON 0) (ON 1) (ON 2) (ON 3) (ON 4) (ON 5) (ON 6) (ON 7) (Q 0) (Q 1) (Q 2) (Q 3) (Q 4) (Q 5) (Q 6) (Q 7) v108 v109 v110 v111 v112 v113 v114 cst_48 (harg4.unread K) (harg5.unread VV) init n) H r x _ hM
    simp only [hsc, hV] at hM hA
    exact (tile_kept b H (s r) q k v n hk ih (by omega) hM hA).1

end Cert.Kernel9Ideal.Fwd
end
-- ==== Proof.FwdBlk.lean ====
module

public import proofs.«01_k».proof.Proof.Gen.Kernel9Ideal.Value
public import Idealize.ShloMosaic.Lib.Pipeline.ValueKit
public import Idealize.ShloMosaic.Lib.Claim
public import proofs.«01_k».proof.Proof.FwdLast
public import proofs.«01_k».proof.Proof.FwdLoop
public import proofs.«01_k».proof.Proof.AttnSaved

@[expose] public section
set_option maxRecDepth 16384
noncomputable section
open Idealize.ShloMosaic Idealize.ShloMosaic.TcCoe Idealize.SL.Sem
open Idealize.ShloMosaic.Pipeline (Dat)
namespace Cert.Kernel9Ideal.Fwd
open Cert.Kernel9Ideal Cert.Kernel9Ideal.Gen
open Cert.Kernel3Ideal.Attn (Heads Vals Kept sees score expo rowSum rowSum_pos mixed own ones_own ones_sum oneLane mexp sc ln2_pos coe_sum)

/-! What one point of the grid leaves in its two blocks, over the reals. -/

/-- The mask of the diagonal tile. -/
abbrev bits : IVec S512x512 1 := k0_pay67 k0_pay63 k0_pay64 k0_pay65 k0_pay66 0#32

theorem bits_at (r a : Fin 512) : bits (ix2 r a) = if a.val / 64 ≤ r.val / 64 then 1#1 else 0#1 := by
  unfold bits k0_pay67 k0_pay63 k0_pay64 k0_pay65 k0_pay66
  dsimp only
  pointwise []
  have h1 : ∀ r : Fin 512, (Scalar.select
          (IntOp.andi
            (IntOp.cmpi CmpIPredicate.ne
              (IntOp.subi (BitVec.setWidth 32 (IntOp.cmpi CmpIPredicate.sgt (BitVec.ofNat 32 r.val) 0#32))
                (BitVec.setWidth 32 (IntOp.cmpi CmpIPredicate.slt (BitVec.ofNat 32 r.val) 0#32)))
              (Scalar.subi (Scalar.extui (Scalar.cmpi CmpIPredicate.sgt 64#32 0#32)) (Scalar.extui (Scalar.cmpi CmpIPredicate.slt 64#32 0#32))))
            (IntOp.cmpi CmpIPredicate.ne (IntOp.remsi ArithUnit.vector (BitVec.ofNat 32 r.val) 64#32) 0#32))
          (IntOp.subi (IntOp.divsi ArithUnit.vector (BitVec.ofNat 32 r.val) 64#32) 1#32)
          (IntOp.divsi ArithUnit.vector (BitVec.ofNat 32 r.val) 64#32)) = BitVec.ofNat 32 (r.val / 64) := by decide +kernel
  have h3 : ∀ p q : Fin 8, IntOp.cmpi CmpIPredicate.sge (BitVec.ofNat 32 p.val) (BitVec.ofNat 32 q.val) = if q.val ≤ p.val then 1#1 else 0#1 := by decide
  rw [h1 a, h1 r]
  exact h3 ⟨r.val / 64, by omega⟩ ⟨a.val / 64, by omega⟩

/-- The one in the lane of the sum, of each head. -/
def oneB : Fin 8 → FVec Ideal S1x128 .bf16 := ![k0_pay68, k0_pay69, k0_pay70, k0_pay71, k0_pay72, k0_pay73, k0_pay74, k0_pay75]
/-- The queries of each head. -/
def qB (X0 : Vec Ideal S1x8x512x128 .bf16) : Fin 8 → FVec Ideal S512x128 .bf16 :=
  ![k0_pay76 (View.ld X0 (Rect.unit (s := S1x8x512x128) ![0, 0, 0, 0] ![1, 1, 512, 128] inb_S1x8x512x128_S1x1x512x128_0_0_0_0)), k0_pay77 (View.ld X0 (Rect.unit (s := S1x8x512x128) ![0, 1, 0, 0] ![1, 1, 512, 128] inb_S1x8x512x128_S1x1x512x128_0_1_0_0)), k0_pay78 (View.ld X0 (Rect.unit (s := S1x8x512x128) ![0, 2, 0, 0] ![1, 1, 512, 128] inb_S1x8x512x128_S1x1x512x128_0_2_0_0)), k0_pay79 (View.ld X0 (Rect.unit (s := S1x8x512x128) ![0, 3, 0, 0] ![1, 1, 512, 128] inb_S1x8x512x128_S1x1x512x128_0_3_0_0)), k0_pay80 (View.ld X0 (Rect.unit (s := S1x8x512x128) ![0, 4, 0, 0] ![1, 1, 512, 128] inb_S1x8x512x128_S1x1x512x128_0_4_0_0)), k0_pay81 (View.ld X0 (Rect.unit (s := S1x8x512x128) ![0, 5, 0, 0] ![1, 1, 512, 128] inb_S1x8x512x128_S1x1x512x128_0_5_0_0)), k0_pay82 (View.ld X0 (Rect.unit (s := S1x8x512x128) ![0, 6, 0, 0] ![1, 1, 512, 128] inb_S1x8x512x128_S1x1x512x128_0_6_0_0)), k0_pay83 (View.ld X0 (Rect.unit (s := S1x8x512x128) ![0, 7, 0, 0] ![1, 1, 512, 128] inb_S1x8x512x128_S1x1x512x128_0_7_0_0))]
/-- The diagonal tile of each head, of the keys or of the values. -/
def tB (i : grid0.Coords) (X : Vec Ideal S1x8x2048x128 .bf16) : Fin 8 → Vec Ideal S1x1x512x128 .bf16 :=
  ![View.ld X (Rect.unit (s := S1x8x2048x128) (k0_off17 i) ![1, 1, 512, 128] (k0_off17_inb i)), View.ld X (Rect.unit (s := S1x8x2048x128) (k0_off18 i) ![1, 1, 512, 128] (k0_off18_inb i)), View.ld X (Rect.unit (s := S1x8x2048x128) (k0_off19 i) ![1, 1, 512, 128] (k0_off19_inb i)), View.ld X (Rect.unit (s := S1x8x2048x128) (k0_off20 i) ![1, 1, 512, 128] (k0_off20_inb i)), View.ld X (Rect.unit (s := S1x8x2048x128) (k0_off21 i) ![1, 1, 512, 128] (k0_off21_inb i)), View.ld X (Rect.unit (s := S1x8x2048x128) (k0_off22 i) ![1, 1, 512, 128] (k0_off22_inb i)), View.ld X (Rect.unit (s := S1x8x2048x128) (k0_off23 i) ![1, 1, 512, 128] (k0_off23_inb i)), View.ld X (Rect.unit (s := S1x8x2048x128) (k0_off24 i) ![1, 1, 512, 128] (k0_off24_inb i))]

theorem one_bit : ∀ (l : Fin 128) (x : Fin 128), (IntOp.cmpi CmpIPredicate.eq (BitVec.ofNat 32 x.val) (BitVec.ofNat 32 l.val)) = if x.val = l.val then 1#1 else 0#1 := by
  decide +kernel

theorem one_val (l x : Fin 128) : (((((IntOp.cmpi CmpIPredicate.eq (BitVec.ofNat 32 x.val) (BitVec.ofNat 32 l.val)).setWidth 32).toInt : ℝ)) : EReal) = if x.val = l.val then 1 else 0 := by
  rw [one_bit l x]
  split_ifs <;> simp

theorem oneB_at (H : Fin 8) (x : Fin 128) : (oneB H (ix2 0 x) : EReal) = if x.val = 127 * ((H.val + 1) % 2) then 1 else 0 := by
  fin_cases H <;> simp only [oneB, Fin.zero_eta, Fin.mk_one, Fin.reduceFinMk, Matrix.cons_val] <;> pointwise [k0_pay68, k0_pay69, k0_pay70, k0_pay71, k0_pay72, k0_pay73, k0_pay74, k0_pay75] <;> first | exact one_val 127 x | exact one_val 0 x

theorem qB_at (X0 : Vec Ideal S1x8x512x128 .bf16) (H : Fin 8) (r : Fin 512) (x : Fin 128) : (qB X0 H (ix2 r x) : EReal) = X0 (ix4 0 H r x) := by
  fin_cases H <;> simp only [qB, Fin.zero_eta, Fin.mk_one, Fin.reduceFinMk, Matrix.cons_val] <;> pointwise [k0_pay76, k0_pay77, k0_pay78, k0_pay79, k0_pay80, k0_pay81, k0_pay82, k0_pay83] <;> blk_point

theorem ldT (X : Vec Ideal S1x8x2048x128 .bf16) (off : Fin 4 → ℕ) (o : ℕ) (H : Fin 8) (inb : ∀ a, off a + (![1, 1, 512, 128] : Fin 4 → ℕ) a ≤ S1x8x2048x128.size a)
    (e : off = ![0, H.val, o, 0]) (a : Fin 512) (x : Fin 128) (hk : o + a.val < 2048) :
    (View.ld X (Rect.unit (s := S1x8x2048x128) off ![1, 1, 512, 128] inb) : Vec Ideal S1x1x512x128 .bf16) (ix4 0 0 a x) = X (ix4 0 H ⟨o + a.val, hk⟩ x) := by
  subst e
  refine congrArg X (funext fun b => Fin.ext ?_)
  fin_cases b <;> simp [Rect.unit, Rect.emb, ix4]

theorem tB_at (i : grid0.Coords) (X : Vec Ideal S1x8x2048x128 .bf16) (H : Fin 8) (a : Fin 512) (x : Fin 128) (hk : 512 * (i 2).val + a.val < 2048) :
    (tB i X H (ix4 0 0 a x) : EReal) = X (ix4 0 H ⟨512 * (i 2).val + a.val, hk⟩ x) := by
  fin_cases H
  · exact ldT X _ _ 0 _ (o17 i) a x hk
  · exact ldT X _ _ 1 _ (o18 i) a x hk
  · exact ldT X _ _ 2 _ (o19 i) a x hk
  · exact ldT X _ _ 3 _ (o20 i) a x hk
  · exact ldT X _ _ 4 _ (o21 i) a x hk
  · exact ldT X _ _ 5 _ (o22 i) a x hk
  · exact ldT X _ _ 6 _ (o23 i) a x hk
  · exact ldT X _ _ 7 _ (o24 i) a x hk

section
variable (m : (ℓ : Loc nD τ sig) → Buf (Elt Ideal) ℓ) (c : Dev nD) (t : Fin cfg0.N)

/-- A carry, part by part. -/
abbrev parts (u : Carry) : Carry := (u.1, u.2.1, u.2.2.1, u.2.2.2.1, u.2.2.2.2.1, u.2.2.2.2.2.1, u.2.2.2.2.2.2.1, u.2.2.2.2.2.2.2.1, u.2.2.2.2.2.2.2.2.1, u.2.2.2.2.2.2.2.2.2.1, u.2.2.2.2.2.2.2.2.2.2.1, u.2.2.2.2.2.2.2.2.2.2.2.1, u.2.2.2.2.2.2.2.2.2.2.2.2.1, u.2.2.2.2.2.2.2.2.2.2.2.2.2.1, u.2.2.2.2.2.2.2.2.2.2.2.2.2.2.1, u.2.2.2.2.2.2.2.2.2.2.2.2.2.2.2)
theorem parts_eq (u : Carry) : parts u = u := rfl

/-- What the loop carries at its end. -/
def fin : Carry := st_k0_t2 (F := Ideal) Variants.none c none (grid0.coords t) (ms0_0 t) (hs0_0 t) (ms0_1 t) (hs0_1 t) (ms0_2 t) (hs0_2 t) (ms0_3 t) (hs0_3 t) (ms0_4 t) (hs0_4 t) (BitVec.ofNat 32 (grid0.coords t 2).val) bits (oneB 0) (oneB 1) (oneB 2) (oneB 3) (oneB 4) (oneB 5) (oneB 6) (oneB 7) (qB (iblk m c 0 t) 0) (qB (iblk m c 0 t) 1) (qB (iblk m c 0 t) 2) (qB (iblk m c 0 t) 3) (qB (iblk m c 0 t) 4) (qB (iblk m c 0 t) 5) (qB (iblk m c 0 t) 6) (qB (iblk m c 0 t) 7) k0_pay84 k0_pay85 k0_pay86 k0_pay87 k0_pay88 k0_pay89 k0_pay90 (FloatOps.ofBits FTy.f32 0#32) (Scalar.addi (0#32) (Scalar.muli (Scalar.divsi (Scalar.subi (BitVec.ofNat 32 (grid0.coords t 2).val) 0#32) 1#32) 1#32)) ((hs0_1 t).unread (iblk m c 1 t)) ((hs0_2 t).unread (iblk m c 2 t)) (parts (st_k0_t1 (F := Ideal) Variants.none c none (grid0.coords t) (ms0_0 t) (hs0_0 t) (ms0_1 t) (hs0_1 t) (ms0_2 t) (hs0_2 t) (ms0_3 t) (hs0_3 t) (ms0_4 t) (hs0_4 t) (BitVec.ofNat 32 (grid0.coords t 2).val) bits (oneB 0) (oneB 1) (oneB 2) (oneB 3) (oneB 4) (oneB 5) (oneB 6) (oneB 7) (qB (iblk m c 0 t) 0) (qB (iblk m c 0 t) 1) (qB (iblk m c 0 t) 2) (qB (iblk m c 0 t) 3) (qB (iblk m c 0 t) 4) (qB (iblk m c 0 t) 5) (qB (iblk m c 0 t) 6) (qB (iblk m c 0 t) 7) k0_pay84 k0_pay85 k0_pay86 k0_pay87 k0_pay88 k0_pay89 k0_pay90 (FloatOps.ofBits FTy.f32 0#32) ((hs0_1 t).unread (iblk m c 1 t)) ((hs0_2 t).unread (iblk m c 2 t)) (k0_pay84, k0_pay85, k0_pay86, k0_pay87, k0_pay88, k0_pay89, k0_pay90, k0_pay91 (FloatOps.ofBits FTy.f32 0#32), k0_pay92, k0_pay93, k0_pay94, k0_pay95, k0_pay96, k0_pay97, k0_pay98, k0_pay99) (Scf.trips (0#32) (Scalar.addi (0#32) (Scalar.muli (Scalar.divsi (Scalar.subi (BitVec.ofNat 32 (grid0.coords t 2).val) 0#32) 1#32) 1#32)) 1#32))) (Scf.trips (Scalar.addi (0#32) (Scalar.muli (Scalar.divsi (Scalar.subi (BitVec.ofNat 32 (grid0.coords t 2).val) 0#32) 1#32) 1#32)) (Scalar.addi (0#32) (Scalar.subi (BitVec.ofNat 32 (grid0.coords t 2).val) 0#32)) 1#32)

theorem fin_eq : fin m c t = st_k0_t1 (F := Ideal) Variants.none c none (grid0.coords t) (ms0_0 t) (hs0_0 t) (ms0_1 t) (hs0_1 t) (ms0_2 t) (hs0_2 t) (ms0_3 t) (hs0_3 t) (ms0_4 t) (hs0_4 t) (BitVec.ofNat 32 (grid0.coords t 2).val) bits (oneB 0) (oneB 1) (oneB 2) (oneB 3) (oneB 4) (oneB 5) (oneB 6) (oneB 7) (qB (iblk m c 0 t) 0) (qB (iblk m c 0 t) 1) (qB (iblk m c 0 t) 2) (qB (iblk m c 0 t) 3) (qB (iblk m c 0 t) 4) (qB (iblk m c 0 t) 5) (qB (iblk m c 0 t) 6) (qB (iblk m c 0 t) 7) k0_pay84 k0_pay85 k0_pay86 k0_pay87 k0_pay88 k0_pay89 k0_pay90 (FloatOps.ofBits FTy.f32 0#32) ((hs0_1 t).unread (iblk m c 1 t)) ((hs0_2 t).unread (iblk m c 2 t)) (k0_pay84, k0_pay85, k0_pay86, k0_pay87, k0_pay88, k0_pay89, k0_pay90, k0_pay91 (FloatOps.ofBits FTy.f32 0#32), k0_pay92, k0_pay93, k0_pay94, k0_pay95, k0_pay96, k0_pay97, k0_pay98, k0_pay99) (k0_t1_loop (grid0.coords t)).trips := by
  unfold fin
  rw [show (Scf.trips (Scalar.addi (0#32) (Scalar.muli (Scalar.divsi (Scalar.subi (BitVec.ofNat 32 (grid0.coords t 2).val) 0#32) 1#32) 1#32)) (Scalar.addi (0#32) (Scalar.subi (BitVec.ofNat 32 (grid0.coords t 2).val) 0#32)) 1#32) = 0 from trips2_eq (grid0.coords t)]
  exact (st_k0_t2_zero ..).trans (parts_eq _)
end

end Cert.Kernel9Ideal.Fwd
end
-- ==== Proof.FwdPoint.lean ====
module

public import proofs.«01_k».proof.Proof.Gen.Kernel9Ideal.Value
public import Idealize.ShloMosaic.Lib.Pipeline.ValueKit
public import Idealize.ShloMosaic.Lib.Claim
public import proofs.«01_k».proof.Proof.FwdBlk

@[expose] public section
set_option maxRecDepth 16384
noncomputable section
open Idealize.ShloMosaic Idealize.ShloMosaic.TcCoe Idealize.SL.Sem
open Idealize.ShloMosaic.Pipeline (Dat)
namespace Cert.Kernel9Ideal.Fwd
open Cert.Kernel9Ideal Cert.Kernel9Ideal.Gen
open Cert.Kernel3Ideal.Attn (Heads Vals Kept sees score expo rowSum rowSum_pos mixed own ones_own ones_sum oneLane mexp sc ln2_pos coe_sum)

/-! What one point of the grid leaves in its two blocks, over the reals. -/

section
variable (b : Fin 4) (q k : Heads) (v : Vals) (H : Fin 8) (s : Fin 2048)

/-- What a row's last sums are: its weighted sums, scaled. -/
def Last (μ : ℝ) (A : Fin 128 → EReal) : Prop :=
  ∀ x, A x = ((Real.exp (-(μ * Real.log 2)) * ∑ key, expo q k b H s key * oneLane v b H key x : ℝ) : EReal)

theorem last_real (B : IVec S512x512 1) (Q : FVec Ideal S512x128 .bf16) (ON : FVec Ideal S1x128 .bf16) (mm : FVec Ideal S512x1 .f32) (aa : FVec Ideal S512x128 .f32) (kk ww : Vec Ideal S1x1x512x128 .bf16)
    (r : Fin 512) (n : Fin 4) (hs : s.val = 512 * n.val + r.val) (hB : ∀ a, B (ix2 r a) = if a.val / 64 ≤ r.val / 64 then 1#1 else 0#1)
    (hS : ∀ a : Fin 512, (∑ x, (Q (ix2 r x) : EReal) * (kk (ix4 0 0 a x) : EReal)) = ((score q k b H s ⟨512 * n.val + a.val, by omega⟩ / Real.log 2 : ℝ) : EReal))
    (hV : ∀ (a : Fin 512) x, (ww (ix4 0 0 a x) : EReal) + (ON (ix2 0 x) : EReal) = ((oneLane v b H ⟨512 * n.val + a.val, by omega⟩ x : ℝ) : EReal))
    (hK : Kept (Real.log 2) (mm (ix2 r 0)) (fun x => aa (ix2 r x)) (fun x => firstSum (fun key => expo q k b H s key * oneLane v b H key x) n.val)) :
    ∃ μ : ℝ, lastM B Q mm kk r = (μ : EReal) ∧ Last b q k v H s μ (lastA B Q ON mm aa kk ww r) := by
  have hsel : ∀ a : Fin 512, selAt B Q kk r a = sc (sees s ⟨512 * n.val + a.val, by omega⟩) (score q k b H s ⟨512 * n.val + a.val, by omega⟩ / Real.log 2) := fun a => by
    unfold selAt sc
    rw [hB, hS]
    have h : (a.val / 64 ≤ r.val / 64) = sees s ⟨512 * n.val + a.val, by omega⟩ := propext (by show _ ↔ (512 * n.val + a.val) / 64 ≤ s.val / 64; omega)
    simp only [h]
    split_ifs <;> rfl
  have h := tile_kept (M' := lastM B Q mm kk r) (A' := lastA B Q ON mm aa kk ww r) b H s q k v n.val n.isLt hK (by omega)
    (by unfold lastM; simp only [hsel]) (fun x => by unfold lastA; simp only [hsel, hV])
  obtain ⟨h1 | ⟨μ, h1, h2⟩, hb⟩ := h
  · exact absurd h1.1 hb
  · refine ⟨μ, h1, fun x => (h2 x).trans ?_⟩
    show ((Real.exp (-(μ * Real.log 2)) * firstSum (fun key => expo q k b H s key * oneLane v b H key x) (n.val + 1) : ℝ) : EReal) = _
    rw [firstSum_all _ n fun key hkey => ?_]
    have : ¬ sees s key := by show ¬ key.val / 64 ≤ s.val / 64; omega
    unfold expo mexp
    rw [if_neg this, zero_mul]

theorem lane_real (A : FVec Ideal S512x128 .f32) (r : Fin 512) (μ : ℝ) (l : Fin 128) (hl : l.val = 127 * ((H.val + 1) % 2)) (hA : Last b q k v H s μ fun x => A (ix2 r x)) :
    laneOf (BitVec.ofNat 32 l.val) A r = ((Real.exp (-(μ * Real.log 2)) * rowSum q k b H s : ℝ) : EReal) := by
  unfold laneOf
  refine (Finset.sum_eq_single l (fun x _ hne => ?_) fun h => absurd (Finset.mem_univ _) h).trans ?_
  · rw [one_bit, if_neg fun h => hne (Fin.ext h)]; rfl
  · rw [one_bit, if_pos rfl]
    refine Eq.trans (show Scalar.select 1#1 _ _ = _ from rfl) ?_
    refine (hA l).trans ?_
    unfold rowSum
    refine congrArg (fun z : ℝ => ((Real.exp (-(μ * Real.log 2)) * z : ℝ) : EReal)) (Finset.sum_congr rfl fun key _ => ?_)
    rw [ones_sum v b H key _ hl, mul_one]

theorem log_real (A : FVec Ideal S512x128 .f32) (M : FVec Ideal S512x1 .f32) (r : Fin 512) (μ : ℝ) (l : Fin 128) (hl : l.val = 127 * ((H.val + 1) % 2)) (hM : @Eq EReal (M (ix2 r 0)) (μ : EReal)) (hA : Last b q k v H s μ fun x => A (ix2 r x)) :
    (M (ix2 r 0) : EReal) + Ideal.log (laneOf (BitVec.ofNat 32 l.val) A r) * ((1 / Real.log 2 : ℝ) : EReal) = ((Real.log (rowSum q k b H s) / Real.log 2 : ℝ) : EReal) := by
  have hr := rowSum_pos q k b H s
  rw [lane_real b q k v H s A r μ l hl hA, hM, Ideal.log_coe, if_neg (not_le.mpr (mul_pos (Real.exp_pos _) hr)), Real.log_mul (Real.exp_pos _).ne' hr.ne', Real.log_exp,
    ← EReal.coe_mul, ← EReal.coe_add]
  refine congrArg ((↑) : ℝ → EReal) ?_
  have h1 := ln2_pos.ne'
  field_simp
  ring

theorem own_real (A : FVec Ideal S512x128 .f32) (r : Fin 512) (μ : ℝ) (l : Fin 128) (hl : l.val = 127 * ((H.val + 1) % 2)) (hA : Last b q k v H s μ fun x => A (ix2 r x)) (x : Fin 64) :
    (A (ix2 r (own H x)) : EReal) * Ideal.div 1 (laneOf (BitVec.ofNat 32 l.val) A r) = ((mixed q k v b H s x : ℝ) : EReal) := by
  rw [lane_real b q k v H s A r μ l hl hA]
  refine (congrArg (· * _) (hA (own H x))).trans ?_
  rw [← EReal.coe_one, Ideal.div_coe (mul_pos (Real.exp_pos _) (rowSum_pos q k b H s)).ne', ← EReal.coe_mul]
  simp only [ones_own]
  unfold mixed
  refine congrArg ((↑) : ℝ → EReal) ?_
  have h1 := (Real.exp_pos (-(μ * Real.log 2))).ne'
  have h2 := (rowSum_pos q k b H s).ne'
  field_simp
end

theorem half_bit : ∀ x : Fin 128, IntOp.cmpi CmpIPredicate.slt (BitVec.ofNat 32 x.val) 64#32 = if x.val < 64 then 1#1 else 0#1 := by
  decide +kernel

/-- A pair of heads side by side. -/
theorem pair_real (b : Fin 4) (q k : Heads) (v : Vals) (s : Fin 2048) (A A' : FVec Ideal S512x128 .f32) (r : Fin 512) (x : Fin 128) (μ μ' : ℝ) (H H' : Fin 8) (he : H.val % 2 = 0) (hH : H'.val = H.val + 1)
    (hA : Last b q k v H s μ fun x => A (ix2 r x)) (hA' : Last b q k v H' s μ' fun x => A' (ix2 r x)) (p : Fin 512) (hp : p.val = 64 * H.val + x.val) :
    Scalar.select (IntOp.cmpi CmpIPredicate.slt (BitVec.ofNat 32 x.val) 64#32) ((A (ix2 r x) : EReal) * Ideal.div 1 (laneOf 127#32 A r)) ((A' (ix2 r x) : EReal) * Ideal.div 1 (laneOf 0#32 A' r))
      = ((mixed q k v b ⟨p.val / 64, by omega⟩ s ⟨p.val % 64, by omega⟩ : ℝ) : EReal) := by
  rw [half_bit]
  by_cases h : x.val < 64
  · rw [if_pos h]
    refine Eq.trans (show Scalar.select 1#1 _ _ = _ from rfl) ?_
    have e := own_real b q k v H s A r μ 127 (by show 127 = _; omega) hA ⟨x.val, h⟩
    rw [show own H ⟨x.val, h⟩ = x from Fin.ext (by simp only [own]; omega)] at e
    refine Eq.trans e (congrArg ((↑) : ℝ → EReal) ?_)
    congr 1 <;> apply Fin.ext <;> (try dsimp only) <;> omega
  · rw [if_neg h]
    refine Eq.trans (show Scalar.select 0#1 _ _ = _ from rfl) ?_
    have e := own_real b q k v H' s A' r μ' 0 (by show 0 = _; omega) hA' ⟨x.val - 64, by omega⟩
    rw [show own H' ⟨x.val - 64, by omega⟩ = x from Fin.ext (by simp only [own]; omega)] at e
    refine Eq.trans e (congrArg ((↑) : ℝ → EReal) ?_)
    congr 1 <;> apply Fin.ext <;> (try dsimp only) <;> omega

theorem init_M (H : Fin 8) (r : Fin 512) : mAt (k0_pay84, k0_pay85, k0_pay86, k0_pay87, k0_pay88, k0_pay89, k0_pay90, k0_pay91 (FloatOps.ofBits FTy.f32 0#32), k0_pay92, k0_pay93, k0_pay94, k0_pay95, k0_pay96, k0_pay97, k0_pay98, k0_pay99) H r = ⊥ := by
  fin_cases H <;> simp only [mAt, mOf, Fin.zero_eta, Fin.mk_one, Fin.reduceFinMk, Matrix.cons_val] <;> pointwise [k0_pay84, k0_pay86, k0_pay88, k0_pay90, k0_pay92, k0_pay94, k0_pay96, k0_pay98] <;> rfl

theorem init_A (H : Fin 8) (r : Fin 512) (x : Fin 128) : aAt (k0_pay84, k0_pay85, k0_pay86, k0_pay87, k0_pay88, k0_pay89, k0_pay90, k0_pay91 (FloatOps.ofBits FTy.f32 0#32), k0_pay92, k0_pay93, k0_pay94, k0_pay95, k0_pay96, k0_pay97, k0_pay98, k0_pay99) H r x = 0 := by
  fin_cases H <;> simp only [aAt, aOf, Fin.zero_eta, Fin.mk_one, Fin.reduceFinMk, Matrix.cons_val] <;> pointwise [k0_pay85, k0_pay87, k0_pay89, k0_pay91, k0_pay93, k0_pay95, k0_pay97, k0_pay99]

/-- A block of values, the lane of ones filled in. -/
def Lanes (b : Fin 4) (v : Vals) (X : Vec Ideal S1x8x2048x128 .bf16) : Prop :=
  ∀ H row x, (X (ix4 0 H row x) : EReal) + (oneB H (ix2 0 x) : EReal) = ((oneLane v b H row x : ℝ) : EReal)

section
variable (m : (ℓ : Loc nD τ sig) → Buf (Elt Ideal) ℓ) (c : Dev nD) (t : Fin cfg0.N)
variable (b : Fin 4) (q k : Heads) (v : Vals) (s : Fin 512 → Fin 2048)
  (hs : ∀ r, (s r).val = 512 * (grid0.coords t 2).val + r.val)
  (hS : ∀ H r row, dotR (qB (iblk m c 0 t) H) (iblk m c 1 t) H r row = ((score q k b H (s r) row / Real.log 2 : ℝ) : EReal))
  (hV : Lanes b v (iblk m c 2 t))

include hs hS hV in
theorem fin_kept (H : Fin 8) (r : Fin 512) :
    Kept (Real.log 2) (mAt (fin m c t) H r) (aAt (fin m c t) H r) (fun x => firstSum (fun key => expo q k b H (s r) key * oneLane v b H key x) (grid0.coords t 2).val) := by
  rw [fin_eq]
  have h := loop_kept (Q := qB (iblk m c 0 t)) (ON := oneB) (K := iblk m c 1 t) (VV := iblk m c 2 t) (b := b) (q := q) (k := k) (v := v) (s := s) (init := (k0_pay84, k0_pay85, k0_pay86, k0_pay87, k0_pay88, k0_pay89, k0_pay90, k0_pay91 (FloatOps.ofBits FTy.f32 0#32), k0_pay92, k0_pay93, k0_pay94, k0_pay95, k0_pay96, k0_pay97, k0_pay98, k0_pay99)) (hS := hS) (hV := hV)
    (hs := fun r => by rw [hs]; omega) (h0 := init_M) (h1 := init_A) (n := (k0_t1_loop (grid0.coords t)).trips) (hn := le_rfl) (H := H) (r := r)
    (𝒱 := Variants.none) (c := c) (bd := none) (i := grid0.coords t) (harg3 := hs0_0 t) (harg4 := hs0_1 t) (harg5 := hs0_2 t) (harg6 := hs0_3 t) (harg7 := hs0_4 t)
    (arg2 := BitVec.ofNat 32 (grid0.coords t 2).val) (v50 := bits) (v108 := k0_pay84) (v109 := k0_pay85) (v110 := k0_pay86) (v111 := k0_pay87) (v112 := k0_pay88) (v113 := k0_pay89) (v114 := k0_pay90) (cst_48 := FloatOps.ofBits FTy.f32 0#32)
  rw [trips_eq] at h
  rw [trips_eq]
  exact h

include hs hS hV in
theorem fin_last (H : Fin 8) (r : Fin 512) :
    ∃ μ : ℝ, lastM bits (qB (iblk m c 0 t) H) (mOf (fin m c t) H) (tB (grid0.coords t) (iblk m c 1 t) H) r = (μ : EReal)
      ∧ Last b q k v H (s r) μ (lastA bits (qB (iblk m c 0 t) H) (oneB H) (mOf (fin m c t) H) (aOf (fin m c t) H) (tB (grid0.coords t) (iblk m c 1 t) H) (tB (grid0.coords t) (iblk m c 2 t) H) r) := by
  have hi : (grid0.coords t 2).val < 4 := (grid0.coords t 2).isLt
  refine last_real b q k v H (s r) _ _ _ _ _ _ _ r ⟨(grid0.coords t 2).val, hi⟩ (hs r) (bits_at r) (fun a => ?_) (fun a x => ?_) (fin_kept m c t b q k v s hs hS hV H r)
  · rw [← hS]
    unfold dotR
    exact Finset.sum_congr rfl fun x _ => congrArg (_ * ·) (tB_at _ _ H a x (by omega))
  · refine Eq.trans ?_ (hV H _ x)
    exact congrArg (· + _) (tB_at _ _ H a x (by omega))
end

end Cert.Kernel9Ideal.Fwd
end
-- ==== Proof.FwdHost.lean ====
module

public import proofs.«01_k».proof.Proof.Gen.Kernel9Ideal.Frame
public import Idealize.ShloMosaic.Lib.Pipeline.ValueKit
public import Idealize.ShloMosaic.Lib.Claim
public import Idealize.ShloMosaic.Lib.StableHlo.RunRead
public import proofs.«01_k».proof.Proof.AttnSaved

@[expose] public section
set_option maxRecDepth 16384
noncomputable section
open Idealize.ShloMosaic Idealize.ShloMosaic.TcCoe Idealize.SL.Sem
open Idealize.ShloMosaic.Pipeline (Dat)
namespace Cert.Kernel9Ideal.Fwd
open Cert.Kernel9Ideal Cert.Kernel9Ideal.Gen
open Cert.Kernel3Ideal.Attn (e96 e64 e128 padCat padCat_at prm cq cl_eq even_bit Heads Vals score oneLane sum_lanes coe_sum)

/-! The arrays the forward call's host lines prepare, read at an index, and over the reals. -/

variable (m : (ℓ : Loc nD τ sig) → Buf (Elt Ideal) ℓ) (c : Dev nD) (q k : Heads) (v : Vals)

theorem v18_at (b : Fin 4) (H : Fin 8) (s : Fin 2048) (x : Fin 128) : e128 (V m c main_v18) b H s x =
    (if x.val < 96 then e96 (m (c, Proc.devRef .tc main_arg0)) b s H (prm x) * ((cq / Real.log 2 : ℝ) : EReal) else 0) := by
  unfold e128 V
  after_reads_simp [StableHlo.TRef.toBuf, StableHlo.TRef.ofBuf, cast_eq]
  refine Eq.trans (show _ = padCat _ _ _ _ (ix4 b H s x) from rfl) ?_
  simp only [Matrix.cons_val]
  after_reads_simp []
  refine padCat_at _ _ _ _ b s H x (fun i => @HMul.hMul EReal EReal EReal _ (m (c, Proc.devRef .tc main_arg0) i) ((cq / Real.log 2 : ℝ) : EReal)) ?_ ?_ ?_ ?_
  all_goals
    intro j
    pointwise
    rw [cl_eq]
    try refine congrArg (fun z => @HMul.hMul EReal EReal EReal _ (m (c, Proc.devRef .tc main_arg0) z) ((cq / Real.log 2 : ℝ) : EReal)) (by congr 1; apply Fin.ext; simp only []; omega)

theorem v27_at (b : Fin 4) (H : Fin 8) (s : Fin 2048) (x : Fin 128) : e128 (V m c main_v27) b H s x =
    (if x.val < 96 then e96 (m (c, Proc.devRef .tc main_arg1)) b s H (prm x) else 0) := by
  unfold e128 V
  after_reads_simp [StableHlo.TRef.toBuf, StableHlo.TRef.ofBuf, cast_eq]
  refine Eq.trans (show _ = padCat _ _ _ _ (ix4 b H s x) from rfl) ?_
  simp only [Matrix.cons_val]
  after_reads_simp []
  refine padCat_at _ _ _ _ b s H x (m (c, Proc.devRef .tc main_arg1) : Vec Ideal S4x2048x8x96 .f32) ?_ ?_ ?_ ?_
  all_goals
    intro j
    pointwise
  all_goals exact congrArg (m (c, Proc.devRef .tc main_arg1)) (by congr 1; apply Fin.ext; simp only []; omega)

theorem v34_at (b : Fin 4) (H : Fin 8) (s : Fin 2048) (x : Fin 128) : e128 (V m c main_v34) b H s x =
    (if x.val / 64 = H.val % 2 then e64 (m (c, Proc.devRef .tc main_arg2)) b s H ⟨x.val % 64, by omega⟩ else 0) := by
  unfold e128 V
  after_reads_simp [StableHlo.TRef.toBuf, StableHlo.TRef.ofBuf, cast_eq]
  pointwise
  after_reads_simp []
  pointwise
  rw [even_bit]
  have e : ∀ u v : Fin 64, u.val = v.val → (m (c, Proc.devRef .tc main_arg2) : Vec Ideal S4x2048x8x64 .f32) (ix4 b s H u) = (m (c, Proc.devRef .tc main_arg2) : Vec Ideal S4x2048x8x64 .f32) (ix4 b s H v) := fun u v h => by rw [Fin.ext h]
  by_cases h0 : H.val % 2 = 0
  · rw [if_pos h0]
    refine Eq.trans (show Scalar.select 1#1 _ _ = _ from rfl) ?_
    by_cases h1 : x.val / 64 = H.val % 2
    · rw [if_pos h1]
      split_ifs <;> first | (exfalso; omega) | exact e _ _ (by simp only []; omega)
    · rw [if_neg h1]
      split_ifs <;> first | (exfalso; omega) | rfl
  · rw [if_neg h0]
    refine Eq.trans (show Scalar.select 0#1 _ _ = _ from rfl) ?_
    by_cases h1 : x.val / 64 = H.val % 2
    · rw [if_pos h1]
      split_ifs <;> first | (exfalso; omega) | exact e _ _ (by simp only []; omega)
    · rw [if_neg h1]
      split_ifs <;> first | (exfalso; omega) | rfl

variable
  (hq : ∀ b s H d, e96 (m (c, Proc.devRef .tc main_arg0)) b s H d = (q b s H d : EReal))
  (hk : ∀ b s H d, e96 (m (c, Proc.devRef .tc main_arg1)) b s H d = (k b s H d : EReal))
  (hv : ∀ b s H d, e64 (m (c, Proc.devRef .tc main_arg2)) b s H d = (v b s H d : EReal))

include hq in
theorem v18_real (b : Fin 4) (H : Fin 8) (s : Fin 2048) (x : Fin 128) :
    e128 (V m c main_v18) b H s x = ((if x.val < 96 then q b s H (prm x) * (cq / Real.log 2) else 0 : ℝ) : EReal) := by
  rw [v18_at, hq]; split_ifs
  · rw [← EReal.coe_mul]
  · rfl

include hk in
theorem v27_real (b : Fin 4) (H : Fin 8) (s : Fin 2048) (x : Fin 128) :
    e128 (V m c main_v27) b H s x = ((if x.val < 96 then k b s H (prm x) else 0 : ℝ) : EReal) := by
  rw [v27_at, hk]; split_ifs <;> rfl

include hv in
theorem v34_real (b : Fin 4) (H : Fin 8) (s : Fin 2048) (x : Fin 128) :
    e128 (V m c main_v34) b H s x = ((if x.val / 64 = H.val % 2 then v b s H ⟨x.val % 64, by omega⟩ else 0 : ℝ) : EReal) := by
  rw [v34_at, hv]; split_ifs <;> rfl

include hq hk in
/-- The base-two score. -/
theorem dot_real (b : Fin 4) (H : Fin 8) (s key : Fin 2048) :
    (∑ x, e128 (V m c main_v18) b H s x * e128 (V m c main_v27) b H key x) = ((score q k b H s key / Real.log 2 : ℝ) : EReal) := by
  rw [show score q k b H s key / Real.log 2 = ∑ x : Fin 128, if x.val < 96 then q b s H (prm x) * (cq / Real.log 2) * k b key H (prm x) else 0 by
    rw [sum_lanes (fun d => q b s H d * (cq / Real.log 2) * k b key H d)]
    unfold score
    rw [mul_div_assoc, Finset.sum_mul]
    exact Finset.sum_congr rfl fun d _ => by ring, coe_sum]
  refine Finset.sum_congr rfl fun x _ => ?_
  rw [v18_real m c q hq, v27_real m c k hk, ← EReal.coe_mul]
  split_ifs <;> simp

/-! The blocks of a point of the grid, read at an index. -/

theorem idx : ∀ t : Fin cfg0.N, win0_0.index t = ![t.val / 4, 0, t.val % 4, 0]
    ∧ win0_1.index t = ![t.val / 4, 0, 0, 0]
    ∧ win0_2.index t = ![t.val / 4, 0, 0, 0]
    ∧ win0_3.index t = ![t.val / 4, t.val % 4, 0]
    ∧ win0_4.index t = ![t.val / 4, 0, 0, t.val % 4] :=
  (by decide +kernel : ∀ t : Fin grid0.N, _)

theorem crd : ∀ t : Fin cfg0.N, (grid0.coords t 2).val = t.val % 4 := (by decide +kernel : ∀ t : Fin grid0.N, _)

theorem tlt (t : Fin cfg0.N) : t.val < 16 := t.isLt
/-- The batch row of a point of the grid. -/
def bt (t : Fin cfg0.N) : Fin 4 := ⟨t.val / 4, by have := tlt t; omega⟩
/-- A query row of a point's block. -/
def qr (t : Fin cfg0.N) (r : Fin 512) : Fin 2048 := ⟨512 * (t.val % 4) + r.val, by omega⟩

theorem rd0 (XX : Vec Ideal S4x8x2048x128 .bf16) (t : Fin cfg0.N) (h : Fin 8) (r : Fin 512) (x : Fin 128) : View.read (Elt Ideal) ((cfg0.win 0).blk t).view XX (ix4 0 h r x : S1x8x512x128.Idx) = XX (ix4 (bt t) h (qr t r) x) := by
  blk_point [idx t] <;> simp only [bt, qr] <;> omega

theorem rd1 (XX : Vec Ideal S4x8x2048x128 .bf16) (t : Fin cfg0.N) (h : Fin 8) (r : Fin 2048) (x : Fin 128) : View.read (Elt Ideal) ((cfg0.win 1).blk t).view XX (ix4 0 h r x : S1x8x2048x128.Idx) = XX (ix4 (bt t) h r x) := by
  blk_point [idx t] <;> simp only [bt] <;> omega

theorem rd2 (XX : Vec Ideal S4x8x2048x128 .bf16) (t : Fin cfg0.N) (h : Fin 8) (r : Fin 2048) (x : Fin 128) : View.read (Elt Ideal) ((cfg0.win 2).blk t).view XX (ix4 0 h r x : S1x8x2048x128.Idx) = XX (ix4 (bt t) h r x) := by
  blk_point [idx t] <;> simp only [bt] <;> omega

theorem blk0 (t : Fin cfg0.N) (h : Fin 8) (r : Fin 512) (x : Fin 128) : @Eq EReal ((iblk m c 0 t : Vec Ideal S1x8x512x128 .bf16) (ix4 0 h r x)) (e128 (V m c main_v18) (bt t) h (qr t r) x) := by
  unfold iblk
  rw [show V m c (Pipeline.arrRef spec0 0) = V m c main_v18 from rfl]
  exact rd0 _ t h r x

theorem blk1 (t : Fin cfg0.N) (h : Fin 8) (r : Fin 2048) (x : Fin 128) : @Eq EReal ((iblk m c 1 t : Vec Ideal S1x8x2048x128 .bf16) (ix4 0 h r x)) (e128 (V m c main_v27) (bt t) h r x) := by
  unfold iblk
  rw [show V m c (Pipeline.arrRef spec0 1) = V m c main_v27 from rfl]
  exact rd1 _ t h r x

theorem blk2 (t : Fin cfg0.N) (h : Fin 8) (r : Fin 2048) (x : Fin 128) : @Eq EReal ((iblk m c 2 t : Vec Ideal S1x8x2048x128 .bf16) (ix4 0 h r x)) (e128 (V m c main_v34) (bt t) h r x) := by
  unfold iblk
  rw [show V m c (Pipeline.arrRef spec0 2) = V m c main_v34 from rfl]
  exact rd2 _ t h r x

end Cert.Kernel9Ideal.Fwd
end
-- ==== Proof.FwdOut.lean ====
module

public import proofs.«01_k».proof.Proof.Gen.Kernel9Ideal.Value
public import Idealize.ShloMosaic.Lib.Pipeline.ValueKit
public import Idealize.ShloMosaic.Lib.Claim
public import proofs.«01_k».proof.Proof.FwdPoint
public import proofs.«01_k».proof.Proof.FwdHost

@[expose] public section
set_option maxRecDepth 16384
noncomputable section
open Idealize.ShloMosaic Idealize.ShloMosaic.TcCoe Idealize.SL.Sem
open Idealize.ShloMosaic.Pipeline (Dat)
namespace Cert.Kernel9Ideal.Fwd
open Cert.Kernel9Ideal Cert.Kernel9Ideal.Gen
open Cert.Kernel3Ideal.Attn (Heads Vals e96 e64 e128 score rowSum mixed oneLane)

/-! The two blocks a point of the grid leaves, read at an index. -/

theorem eq_ix (x : S1x512x128.Idx) : x = ix3 0 (x 1) (x 2) := by
  funext a
  fin_cases a
  exacts [Fin.ext (Nat.lt_one_iff.mp (x 0).isLt), rfl, rfl]

theorem piece0 (b : Fin 4) (q k : Heads) (v : Vals) (s : Fin 2048) (A A' : FVec Ideal S512x128 .f32) (x : S1x512x128.Idx) (μ μ' : ℝ)
    (hA : Last b q k v 0 s μ fun z => A (ix2 (x 1) z)) (hA' : Last b q k v 1 s μ' fun z => A' (ix2 (x 1) z)) (p : Fin 512) (hp : p.val = 0 + (x 2).val) :
    @Eq EReal ((k0_pay142 LN (k0_pay136 A) (k0_pay139 A') : Vec Ideal S1x512x128 .bf16) x) ((mixed q k v b ⟨p.val / 64, by omega⟩ s ⟨p.val % 64, by omega⟩ : ℝ) : EReal) :=
  ((congrArg (k0_pay142 LN (k0_pay136 A) (k0_pay139 A') : Vec Ideal S1x512x128 .bf16) (eq_ix x)).trans (outs0 A A' (x 1) (x 2))).trans (pair_real b q k v s A A' (x 1) (x 2) μ μ' 0 1 rfl rfl hA hA' p (by simpa using hp))

theorem piece1 (b : Fin 4) (q k : Heads) (v : Vals) (s : Fin 2048) (A A' : FVec Ideal S512x128 .f32) (x : S1x512x128.Idx) (μ μ' : ℝ)
    (hA : Last b q k v 2 s μ fun z => A (ix2 (x 1) z)) (hA' : Last b q k v 3 s μ' fun z => A' (ix2 (x 1) z)) (p : Fin 512) (hp : p.val = 128 + (x 2).val) :
    @Eq EReal ((k0_pay149 A' LN (k0_pay144 A LN) (k0_pay146 A' LN) k0_pay147 : Vec Ideal S1x512x128 .bf16) x) ((mixed q k v b ⟨p.val / 64, by omega⟩ s ⟨p.val % 64, by omega⟩ : ℝ) : EReal) :=
  ((congrArg (k0_pay149 A' LN (k0_pay144 A LN) (k0_pay146 A' LN) k0_pay147 : Vec Ideal S1x512x128 .bf16) (eq_ix x)).trans (outs1 A A' (x 1) (x 2))).trans (pair_real b q k v s A A' (x 1) (x 2) μ μ' 2 3 rfl rfl hA hA' p (by simpa using hp))

theorem piece2 (b : Fin 4) (q k : Heads) (v : Vals) (s : Fin 2048) (A A' : FVec Ideal S512x128 .f32) (x : S1x512x128.Idx) (μ μ' : ℝ)
    (hA : Last b q k v 4 s μ fun z => A (ix2 (x 1) z)) (hA' : Last b q k v 5 s μ' fun z => A' (ix2 (x 1) z)) (p : Fin 512) (hp : p.val = 256 + (x 2).val) :
    @Eq EReal ((k0_pay156 A' LN (k0_pay151 A LN) : Vec Ideal S1x512x128 .bf16) x) ((mixed q k v b ⟨p.val / 64, by omega⟩ s ⟨p.val % 64, by omega⟩ : ℝ) : EReal) :=
  ((congrArg (k0_pay156 A' LN (k0_pay151 A LN) : Vec Ideal S1x512x128 .bf16) (eq_ix x)).trans (outs2 A A' (x 1) (x 2))).trans (pair_real b q k v s A A' (x 1) (x 2) μ μ' 4 5 rfl rfl hA hA' p (by simpa using hp))

theorem piece3 (b : Fin 4) (q k : Heads) (v : Vals) (s : Fin 2048) (A A' : FVec Ideal S512x128 .f32) (x : S1x512x128.Idx) (μ μ' : ℝ)
    (hA : Last b q k v 6 s μ fun z => A (ix2 (x 1) z)) (hA' : Last b q k v 7 s μ' fun z => A' (ix2 (x 1) z)) (p : Fin 512) (hp : p.val = 384 + (x 2).val) :
    @Eq EReal ((k0_pay162 A' LN (k0_pay158 A LN) : Vec Ideal S1x512x128 .bf16) x) ((mixed q k v b ⟨p.val / 64, by omega⟩ s ⟨p.val % 64, by omega⟩ : ℝ) : EReal) :=
  ((congrArg (k0_pay162 A' LN (k0_pay158 A LN) : Vec Ideal S1x512x128 .bf16) (eq_ix x)).trans (outs3 A A' (x 1) (x 2))).trans (pair_real b q k v s A A' (x 1) (x 2) μ μ' 6 7 rfl rfl hA hA' p (by simpa using hp))

variable (m : (ℓ : Loc nD τ sig) → Buf (Elt Ideal) ℓ) (c : Dev nD) (t : Fin cfg0.N) (b : Fin 4) (q k : Heads) (v : Vals) (s : Fin 512 → Fin 2048)
  (hL : ∀ H r, ∃ μ : ℝ, lastM bits (qB (iblk m c 0 t) H) (mOf (fin m c t) H) (tB (grid0.coords t) (iblk m c 1 t) H) r = (μ : EReal)
      ∧ Last b q k v H (s r) μ (lastA bits (qB (iblk m c 0 t) H) (oneB H) (mOf (fin m c t) H) (aOf (fin m c t) H) (tB (grid0.coords t) (iblk m c 1 t) H) (tB (grid0.coords t) (iblk m c 2 t) H) r))

set_option maxHeartbeats 4000000 in
include hL in
theorem outO (y : S1x512x512.Idx) : @Eq EReal ((outsAt0 m c t).1 y) ((mixed q k v b ⟨(y 2).val / 64, by have := (y 2).isLt; simp at this; omega⟩ (s (y 1)) ⟨(y 2).val % 64, by omega⟩ : ℝ) : EReal) := by
  have l0 := hL 0; have l1 := hL 1; have l2 := hL 2; have l3 := hL 3
  have l4 := hL 4; have l5 := hL 5; have l6 := hL 6; have l7 := hL 7
  unfold outsAt0
  frame_out
  obtain ⟨μ0, -, l0⟩ := l0 (y 1); obtain ⟨μ1, -, l1⟩ := l1 (y 1); obtain ⟨μ2, -, l2⟩ := l2 (y 1); obtain ⟨μ3, -, l3⟩ := l3 (y 1)
  obtain ⟨μ4, -, l4⟩ := l4 (y 1); obtain ⟨μ5, -, l5⟩ := l5 (y 1); obtain ⟨μ6, -, l6⟩ := l6 (y 1); obtain ⟨μ7, -, l7⟩ := l7 (y 1)
  clear hL
  simp only [qB, oneB, tB, mOf, aOf, Matrix.cons_val] at l0 l1 l2 l3 l4 l5 l6 l7
  generalize hT : st_k0_t2 (F := Ideal) _ _ _ _ _ _ _ _ _ _ _ _ _ _ _ _ _ _ _ _ _ _ _ _ _ _ _ _ _ _ _ _ _ _ _ _ _ _ _ _ _ _ _ _ _ = u
  have hu : fin m c t = u := hT
  clear hT
  subst hu
  canon_tiles x h
  · have e1 : y 1 = x 1 := Fin.ext (by rw [h1])
    rw [e1] at l6 l7 ⊢
    refine piece3 b q k v (s (x 1)) _ _ x μ6 μ7 (fun z => ?_) (fun z => ?_) _ (h2.trans (by simp))
    · refine (lastA6 _ _ _ _ _ _ _ (x 1) z).trans ?_
      exact l6 z
    · refine (lastA7 _ _ _ _ _ _ _ (x 1) z).trans ?_
      exact l7 z
  · have e1 : y 1 = x 1 := Fin.ext (by rw [h1])
    rw [e1] at l4 l5 ⊢
    refine piece2 b q k v (s (x 1)) _ _ x μ4 μ5 (fun z => ?_) (fun z => ?_) _ (h2.trans (by simp))
    · refine (lastA4 _ _ _ _ _ _ _ (x 1) z).trans ?_
      exact l4 z
    · refine (lastA5 _ _ _ _ _ _ _ (x 1) z).trans ?_
      exact l5 z
  · have e1 : y 1 = x 1 := Fin.ext (by rw [h1])
    rw [e1] at l2 l3 ⊢
    refine piece1 b q k v (s (x 1)) _ _ x μ2 μ3 (fun z => ?_) (fun z => ?_) _ (h2.trans (by simp))
    · refine (lastA2 _ _ _ _ _ _ _ (x 1) z).trans ?_
      exact l2 z
    · refine (lastA3 _ _ _ _ _ _ _ (x 1) z).trans ?_
      exact l3 z
  · have e1 : y 1 = x 1 := Fin.ext (by rw [h1])
    rw [e1] at l0 l1 ⊢
    refine piece0 b q k v (s (x 1)) _ _ x μ0 μ1 (fun z => ?_) (fun z => ?_) _ (h2.trans (by simp))
    · refine (lastA0 _ _ _ _ _ _ _ (x 1) z).trans ?_
      exact l0 z
    · refine (lastA1 _ _ _ _ _ _ _ (x 1) z).trans ?_
      exact l1 z
end Cert.Kernel9Ideal.Fwd
end
-- ==== Proof.FwdLog.lean ====
module

public import proofs.«01_k».proof.Proof.Gen.Kernel9Ideal.Value
public import Idealize.ShloMosaic.Lib.Pipeline.ValueKit
public import Idealize.ShloMosaic.Lib.Claim
public import proofs.«01_k».proof.Proof.FwdPoint
public import proofs.«01_k».proof.Proof.FwdHost

@[expose] public section
set_option maxRecDepth 16384
noncomputable section
open Idealize.ShloMosaic Idealize.ShloMosaic.TcCoe Idealize.SL.Sem
open Idealize.ShloMosaic.Pipeline (Dat)
namespace Cert.Kernel9Ideal.Fwd
open Cert.Kernel9Ideal Cert.Kernel9Ideal.Gen
open Cert.Kernel3Ideal.Attn (Heads Vals e96 e64 e128 score rowSum mixed oneLane)

/-! The block of row log-sums a point of the grid leaves, read at an index. -/

theorem eq_row (x : S1x1x8x512.Idx) : x = ix4 0 0 (x 2) (x 3) := by
  funext a
  fin_cases a
  exacts [Fin.ext (Nat.lt_one_iff.mp (x 0).isLt), Fin.ext (Nat.lt_one_iff.mp (x 1).isLt), rfl, rfl]

theorem logPiece0 (b : Fin 4) (q k : Heads) (v : Vals) (s : Fin 2048) (M : FVec Ideal S512x1 .f32) (A : FVec Ideal S512x128 .f32) (x : S1x1x8x512.Idx) (μ : ℝ)
    (hM : @Eq EReal (M (ix2 (x 3) 0)) (μ : EReal)) (hA : Last b q k v 0 s μ fun z => A (ix2 (x 3) z)) (H : Fin 8) (hH : H.val = 0 + (x 1).val) :
    @Eq EReal ((k0_pay137 M A : Vec Ideal S1x1x8x512 .f32) x) ((Real.log (rowSum q k b H s) / Real.log 2 : ℝ) : EReal) := by
  obtain rfl : H = 0 := Fin.ext (hH.trans (by have := (x 1).isLt; simp at this; simp [this]))
  exact ((congrArg (k0_pay137 M A : Vec Ideal S1x1x8x512 .f32) (eq_row x)).trans (logs0 M A (x 2) (x 3))).trans (log_real b q k v 0 s A M (x 3) μ 127 rfl hM hA)

theorem logPiece1 (b : Fin 4) (q k : Heads) (v : Vals) (s : Fin 2048) (M : FVec Ideal S512x1 .f32) (A : FVec Ideal S512x128 .f32) (x : S1x1x8x512.Idx) (μ : ℝ)
    (hM : @Eq EReal (M (ix2 (x 3) 0)) (μ : EReal)) (hA : Last b q k v 1 s μ fun z => A (ix2 (x 3) z)) (H : Fin 8) (hH : H.val = 1 + (x 1).val) :
    @Eq EReal ((k0_pay141 (k0_pay140 M A) : Vec Ideal S1x1x8x512 .f32) x) ((Real.log (rowSum q k b H s) / Real.log 2 : ℝ) : EReal) := by
  obtain rfl : H = 1 := Fin.ext (hH.trans (by have := (x 1).isLt; simp at this; simp [this]))
  exact ((congrArg (k0_pay141 (k0_pay140 M A) : Vec Ideal S1x1x8x512 .f32) (eq_row x)).trans (logs1 M A (x 2) (x 3))).trans (log_real b q k v 1 s A M (x 3) μ 0 rfl hM hA)

theorem logPiece2 (b : Fin 4) (q k : Heads) (v : Vals) (s : Fin 2048) (M : FVec Ideal S512x1 .f32) (A : FVec Ideal S512x128 .f32) (x : S1x1x8x512.Idx) (μ : ℝ)
    (hM : @Eq EReal (M (ix2 (x 3) 0)) (μ : EReal)) (hA : Last b q k v 2 s μ fun z => A (ix2 (x 3) z)) (H : Fin 8) (hH : H.val = 2 + (x 1).val) :
    @Eq EReal ((k0_pay145 M A LN : Vec Ideal S1x1x8x512 .f32) x) ((Real.log (rowSum q k b H s) / Real.log 2 : ℝ) : EReal) := by
  obtain rfl : H = 2 := Fin.ext (hH.trans (by have := (x 1).isLt; simp at this; simp [this]))
  exact ((congrArg (k0_pay145 M A LN : Vec Ideal S1x1x8x512 .f32) (eq_row x)).trans (logs2 M A (x 2) (x 3))).trans (log_real b q k v 2 s A M (x 3) μ 127 rfl hM hA)

theorem logPiece3 (b : Fin 4) (q k : Heads) (v : Vals) (s : Fin 2048) (M : FVec Ideal S512x1 .f32) (A : FVec Ideal S512x128 .f32) (x : S1x1x8x512.Idx) (μ : ℝ)
    (hM : @Eq EReal (M (ix2 (x 3) 0)) (μ : EReal)) (hA : Last b q k v 3 s μ fun z => A (ix2 (x 3) z)) (H : Fin 8) (hH : H.val = 3 + (x 1).val) :
    @Eq EReal ((k0_pay148 M (k0_pay146 A LN) : Vec Ideal S1x1x8x512 .f32) x) ((Real.log (rowSum q k b H s) / Real.log 2 : ℝ) : EReal) := by
  obtain rfl : H = 3 := Fin.ext (hH.trans (by have := (x 1).isLt; simp at this; simp [this]))
  exact ((congrArg (k0_pay148 M (k0_pay146 A LN) : Vec Ideal S1x1x8x512 .f32) (eq_row x)).trans (logs3 M A (x 2) (x 3))).trans (log_real b q k v 3 s A M (x 3) μ 0 rfl hM hA)

theorem logPiece4 (b : Fin 4) (q k : Heads) (v : Vals) (s : Fin 2048) (M : FVec Ideal S512x1 .f32) (A : FVec Ideal S512x128 .f32) (x : S1x1x8x512.Idx) (μ : ℝ)
    (hM : @Eq EReal (M (ix2 (x 3) 0)) (μ : EReal)) (hA : Last b q k v 4 s μ fun z => A (ix2 (x 3) z)) (H : Fin 8) (hH : H.val = 4 + (x 1).val) :
    @Eq EReal ((k0_pay153 (k0_pay152 M A LN) : Vec Ideal S1x1x8x512 .f32) x) ((Real.log (rowSum q k b H s) / Real.log 2 : ℝ) : EReal) := by
  obtain rfl : H = 4 := Fin.ext (hH.trans (by have := (x 1).isLt; simp at this; simp [this]))
  exact ((congrArg (k0_pay153 (k0_pay152 M A LN) : Vec Ideal S1x1x8x512 .f32) (eq_row x)).trans (logs4 M A (x 2) (x 3))).trans (log_real b q k v 4 s A M (x 3) μ 127 rfl hM hA)

theorem logPiece5 (b : Fin 4) (q k : Heads) (v : Vals) (s : Fin 2048) (M : FVec Ideal S512x1 .f32) (A : FVec Ideal S512x128 .f32) (x : S1x1x8x512.Idx) (μ : ℝ)
    (hM : @Eq EReal (M (ix2 (x 3) 0)) (μ : EReal)) (hA : Last b q k v 5 s μ fun z => A (ix2 (x 3) z)) (H : Fin 8) (hH : H.val = 5 + (x 1).val) :
    @Eq EReal ((k0_pay155 M A LN : Vec Ideal S1x1x8x512 .f32) x) ((Real.log (rowSum q k b H s) / Real.log 2 : ℝ) : EReal) := by
  obtain rfl : H = 5 := Fin.ext (hH.trans (by have := (x 1).isLt; simp at this; simp [this]))
  exact ((congrArg (k0_pay155 M A LN : Vec Ideal S1x1x8x512 .f32) (eq_row x)).trans (logs5 M A (x 2) (x 3))).trans (log_real b q k v 5 s A M (x 3) μ 0 rfl hM hA)

theorem logPiece6 (b : Fin 4) (q k : Heads) (v : Vals) (s : Fin 2048) (M : FVec Ideal S512x1 .f32) (A : FVec Ideal S512x128 .f32) (x : S1x1x8x512.Idx) (μ : ℝ)
    (hM : @Eq EReal (M (ix2 (x 3) 0)) (μ : EReal)) (hA : Last b q k v 6 s μ fun z => A (ix2 (x 3) z)) (H : Fin 8) (hH : H.val = 6 + (x 1).val) :
    @Eq EReal ((k0_pay159 M (k0_pay157 A LN) : Vec Ideal S1x1x8x512 .f32) x) ((Real.log (rowSum q k b H s) / Real.log 2 : ℝ) : EReal) := by
  obtain rfl : H = 6 := Fin.ext (hH.trans (by have := (x 1).isLt; simp at this; simp [this]))
  exact ((congrArg (k0_pay159 M (k0_pay157 A LN) : Vec Ideal S1x1x8x512 .f32) (eq_row x)).trans (logs6 M A (x 2) (x 3))).trans (log_real b q k v 6 s A M (x 3) μ 127 rfl hM hA)

theorem logPiece7 (b : Fin 4) (q k : Heads) (v : Vals) (s : Fin 2048) (M : FVec Ideal S512x1 .f32) (A : FVec Ideal S512x128 .f32) (x : S1x1x8x512.Idx) (μ : ℝ)
    (hM : @Eq EReal (M (ix2 (x 3) 0)) (μ : EReal)) (hA : Last b q k v 7 s μ fun z => A (ix2 (x 3) z)) (H : Fin 8) (hH : H.val = 7 + (x 1).val) :
    @Eq EReal ((k0_pay161 M A LN : Vec Ideal S1x1x8x512 .f32) x) ((Real.log (rowSum q k b H s) / Real.log 2 : ℝ) : EReal) := by
  obtain rfl : H = 7 := Fin.ext (hH.trans (by have := (x 1).isLt; simp at this; simp [this]))
  exact ((congrArg (k0_pay161 M A LN : Vec Ideal S1x1x8x512 .f32) (eq_row x)).trans (logs7 M A (x 2) (x 3))).trans (log_real b q k v 7 s A M (x 3) μ 0 rfl hM hA)

variable (m : (ℓ : Loc nD τ sig) → Buf (Elt Ideal) ℓ) (c : Dev nD) (t : Fin cfg0.N) (b : Fin 4) (q k : Heads) (v : Vals) (s : Fin 512 → Fin 2048)
  (hL : ∀ H r, ∃ μ : ℝ, lastM bits (qB (iblk m c 0 t) H) (mOf (fin m c t) H) (tB (grid0.coords t) (iblk m c 1 t) H) r = (μ : EReal)
      ∧ Last b q k v H (s r) μ (lastA bits (qB (iblk m c 0 t) H) (oneB H) (mOf (fin m c t) H) (aOf (fin m c t) H) (tB (grid0.coords t) (iblk m c 1 t) H) (tB (grid0.coords t) (iblk m c 2 t) H) r))

set_option maxHeartbeats 4000000 in
include hL in
theorem outL (y : S1x8x8x512.Idx) : @Eq EReal ((outsAt0 m c t).2 y) ((Real.log (rowSum q k b (y 1) (s (y 3))) / Real.log 2 : ℝ) : EReal) := by
  have l0 := hL 0; have l1 := hL 1; have l2 := hL 2; have l3 := hL 3
  have l4 := hL 4; have l5 := hL 5; have l6 := hL 6; have l7 := hL 7
  unfold outsAt0
  frame_out
  obtain ⟨μ0, k0, l0⟩ := l0 (y 3); obtain ⟨μ1, k1, l1⟩ := l1 (y 3); obtain ⟨μ2, k2, l2⟩ := l2 (y 3); obtain ⟨μ3, k3, l3⟩ := l3 (y 3)
  obtain ⟨μ4, k4, l4⟩ := l4 (y 3); obtain ⟨μ5, k5, l5⟩ := l5 (y 3); obtain ⟨μ6, k6, l6⟩ := l6 (y 3); obtain ⟨μ7, k7, l7⟩ := l7 (y 3)
  clear hL
  simp only [qB, oneB, tB, mOf, aOf, Matrix.cons_val] at l0 l1 l2 l3 l4 l5 l6 l7 k0 k1 k2 k3 k4 k5 k6 k7
  generalize hT : st_k0_t2 (F := Ideal) _ _ _ _ _ _ _ _ _ _ _ _ _ _ _ _ _ _ _ _ _ _ _ _ _ _ _ _ _ _ _ _ _ _ _ _ _ _ _ _ _ _ _ _ _ = u
  have hu : fin m c t = u := hT
  clear hT
  subst hu
  canon_tiles x h
  · have e1 : y 3 = x 3 := Fin.ext (by rw [h3])
    rw [e1] at k7 l7 ⊢
    refine logPiece7 b q k v (s (x 3)) _ _ x μ7 ?_ (fun z => ?_) _ (h1.trans (by simp))
    · exact (lastM7 bits _ _ _ (x 3)).trans k7
    · exact (lastA7 _ _ _ _ _ _ _ (x 3) z).trans (l7 z)
  · have e1 : y 3 = x 3 := Fin.ext (by rw [h3])
    rw [e1] at k6 l6 ⊢
    refine logPiece6 b q k v (s (x 3)) _ _ x μ6 ?_ (fun z => ?_) _ (h1.trans (by simp))
    · exact (lastM6 bits _ _ _ (x 3)).trans k6
    · exact (lastA6 _ _ _ _ _ _ _ (x 3) z).trans (l6 z)
  · have e1 : y 3 = x 3 := Fin.ext (by rw [h3])
    rw [e1] at k5 l5 ⊢
    refine logPiece5 b q k v (s (x 3)) _ _ x μ5 ?_ (fun z => ?_) _ (h1.trans (by simp))
    · exact (lastM5 bits _ _ _ (x 3)).trans k5
    · exact (lastA5 _ _ _ _ _ _ _ (x 3) z).trans (l5 z)
  · have e1 : y 3 = x 3 := Fin.ext (by rw [h3])
    rw [e1] at k4 l4 ⊢
    refine logPiece4 b q k v (s (x 3)) _ _ x μ4 ?_ (fun z => ?_) _ (h1.trans (by simp))
    · exact (lastM4 bits _ _ _ (x 3)).trans k4
    · exact (lastA4 _ _ _ _ _ _ _ (x 3) z).trans (l4 z)
  · have e1 : y 3 = x 3 := Fin.ext (by rw [h3])
    rw [e1] at k3 l3 ⊢
    refine logPiece3 b q k v (s (x 3)) _ _ x μ3 ?_ (fun z => ?_) _ (h1.trans (by simp))
    · exact (lastM3 bits _ _ _ (x 3)).trans k3
    · exact (lastA3 _ _ _ _ _ _ _ (x 3) z).trans (l3 z)
  · have e1 : y 3 = x 3 := Fin.ext (by rw [h3])
    rw [e1] at k2 l2 ⊢
    refine logPiece2 b q k v (s (x 3)) _ _ x μ2 ?_ (fun z => ?_) _ (h1.trans (by simp))
    · exact (lastM2 bits _ _ _ (x 3)).trans k2
    · exact (lastA2 _ _ _ _ _ _ _ (x 3) z).trans (l2 z)
  · have e1 : y 3 = x 3 := Fin.ext (by rw [h3])
    rw [e1] at k1 l1 ⊢
    refine logPiece1 b q k v (s (x 3)) _ _ x μ1 ?_ (fun z => ?_) _ (h1.trans (by simp))
    · exact (lastM1 bits _ _ _ (x 3)).trans k1
    · exact (lastA1 _ _ _ _ _ _ _ (x 3) z).trans (l1 z)
  · have e1 : y 3 = x 3 := Fin.ext (by rw [h3])
    rw [e1] at k0 l0 ⊢
    refine logPiece0 b q k v (s (x 3)) _ _ x μ0 ?_ (fun z => ?_) _ (h1.trans (by simp))
    · exact (lastM0 bits _ _ _ (x 3)).trans k0
    · exact (lastA0 _ _ _ _ _ _ _ (x 3) z).trans (l0 z)
end Cert.Kernel9Ideal.Fwd
end
-- ==== Proof.FwdVal.lean ====
module

public import proofs.«01_k».proof.Proof.FwdOut
public import proofs.«01_k».proof.Proof.FwdLog
public import proofs.«01_k».proof.Proof.FwdHost

@[expose] public section
set_option maxRecDepth 16384
noncomputable section
open Idealize.ShloMosaic Idealize.ShloMosaic.TcCoe Idealize.SL.Sem
open Idealize.ShloMosaic.Pipeline (Dat)
namespace Cert.Kernel9Ideal.Fwd
open Cert.Kernel9Ideal Cert.Kernel9Ideal.Gen
open Cert.Kernel3Ideal.Attn (Heads Vals e96 e64 e128 score rowSum mixed oneLane)

/-! The two arrays the forward call leaves: the attention and the base-two log-sums of its rows. -/

variable (m : (ℓ : Loc nD τ sig) → Buf (Elt Ideal) ℓ) (c : Dev nD) (q k : Heads) (v : Vals)
  (hq : ∀ b s H d, e96 (m (c, Proc.devRef .tc main_arg0)) b s H d = (q b s H d : EReal))
  (hk : ∀ b s H d, e96 (m (c, Proc.devRef .tc main_arg1)) b s H d = (k b s H d : EReal))
  (hv : ∀ b s H d, e64 (m (c, Proc.devRef .tc main_arg2)) b s H d = (v b s H d : EReal))

theorem qB_blk (t : Fin cfg0.N) (H : Fin 8) (r : Fin 512) (x : Fin 128) : @Eq EReal (qB (iblk m c 0 t) H (ix2 r x)) (e128 (V m c main_v18) (bt t) H (qr t r) x) :=
  (qB_at (iblk m c 0 t) H r x).trans (blk0 m c t H r x)

include hq hk in
theorem blk_dot (t : Fin cfg0.N) (H : Fin 8) (r : Fin 512) (row : Fin 2048) :
    dotR (qB (iblk m c 0 t) H) (iblk m c 1 t) H r row = ((score q k (bt t) H (qr t r) row / Real.log 2 : ℝ) : EReal) := by
  rw [← dot_real m c q k hq hk]
  unfold dotR
  exact Finset.sum_congr rfl fun x _ => congrArg₂ (@HMul.hMul EReal EReal EReal _) (qB_blk m c t H r x) (blk1 m c t H row x)

include hv in
theorem blk_lanes (t : Fin cfg0.N) : Lanes (bt t) v (iblk m c 2 t) := by
  intro H row x
  refine (congrArg₂ (@HAdd.hAdd EReal EReal EReal _) ((blk2 m c t H row x).trans (v34_real m c v hv _ _ _ _)) (oneB_at H x)).trans ?_
  unfold oneLane
  rw [EReal.coe_add]
  congr 1
  split_ifs <;> simp

include hq hk hv in
theorem last_blk (t : Fin cfg0.N) : ∀ H r, ∃ μ : ℝ, lastM bits (qB (iblk m c 0 t) H) (mOf (fin m c t) H) (tB (grid0.coords t) (iblk m c 1 t) H) r = (μ : EReal)
      ∧ Last (bt t) q k v H (qr t r) μ (lastA bits (qB (iblk m c 0 t) H) (oneB H) (mOf (fin m c t) H) (aOf (fin m c t) H) (tB (grid0.coords t) (iblk m c 1 t) H) (tB (grid0.coords t) (iblk m c 2 t) H) r) := fun H r =>
  fin_last m c t (bt t) q k v (qr t) (fun r => by rw [crd]; rfl) (blk_dot m c q k hq hk t) (blk_lanes m c v hv t) H r

/-- The attention, heads side by side, and the log-sums, eight copies a row. -/
def attnO : Vec Ideal S4x2048x512 .bf16 := fun y => ((mixed q k v (y 0) ⟨(y 2).val / 64, by have := (y 2).isLt; simp at this; omega⟩ (y 1) ⟨(y 2).val % 64, by omega⟩ : ℝ) : EReal)
@[inherit_doc attnO] def attnL : Vec Ideal S4x8x8x2048 .f32 := fun y => ((Real.log (rowSum q k (y 0) (y 1) (y 3)) / Real.log 2 : ℝ) : EReal)

theorem arr3 (XX : Vec Ideal S4x2048x512 .bf16) (h : ∀ t (y : S1x512x512.Idx), @Eq EReal ((outsAt0 m c t).1 y) (XX (ix3 (bt t) (qr t (y 1)) (y 2)))) : (dats m 0 c).arrAt 3 (cfgs 0).N = XX := by
  refine (dats m 0 c).arrAt_eq_of_covers 3 _ (by decide +kernel) fun t hf y => ?_
  blk_simp
  refine Eq.trans (show _ = (_ : EReal) from (congrFun (after0_3 m c t) _).trans (h t y)) ?_
  blk_point [idx t, bt, qr]

theorem arr4 (XX : Vec Ideal S4x8x8x2048 .f32) (h : ∀ t (y : S1x8x8x512.Idx), @Eq EReal ((outsAt0 m c t).2 y) (XX (ix4 (bt t) (y 1) (y 2) (qr t (y 3))))) : (dats m 0 c).arrAt 4 (cfgs 0).N = XX := by
  refine (dats m 0 c).arrAt_eq_of_covers 4 _ (by decide +kernel) fun t hf y => ?_
  blk_simp
  refine Eq.trans (show _ = (_ : EReal) from (congrFun (after0_4 m c t) _).trans (h t y)) ?_
  blk_point [idx t, bt, qr]

include hq hk hv in
/-- The kernel's first result is the attention. -/
theorem finalO : (dats m 0 c).arrAt 3 (cfgs 0).N = attnO q k v :=
  arr3 m c _ fun t y => outO m c t (bt t) q k v (qr t) (last_blk m c q k v hq hk hv t) y

include hq hk hv in
/-- The kernel's second result is the log-sums. -/
theorem finalL : (dats m 0 c).arrAt 4 (cfgs 0).N = attnL q k :=
  arr4 m c _ fun t y => outL m c t (bt t) q k v (qr t) (last_blk m c q k v hq hk hv t) y

end Cert.Kernel9Ideal.Fwd
end
-- ==== Proof.FwdRef.lean ====
module

public import proofs.«01_k».proof.Proof.Gen.Reference9Ideal.Read
public import Idealize.ShloMosaic.Lib.Pipeline.ValueKit
public import Idealize.ShloMosaic.Lib.Claim
public import proofs.«01_k».proof.Proof.AttnRef

@[expose] public section

set_option maxRecDepth 16384

noncomputable section

open Idealize.ShloMosaic Idealize.ShloMosaic.TcCoe Idealize.SL.Sem

/-! The forward reference over the reals: the softmax attention and the row log-sums. -/

namespace Cert.Reference9Ideal.Fwd

open Cert.Reference9Ideal.Gen Cert.Reference9Ideal.Read
open Cert.Reference3Ideal.Attn (eS eR redMax_at redAdd_at row_real)
open Cert.Kernel3Ideal.Attn (Heads Vals e96 e64 sees score expo rowSum mixed sc mexp sc_ne_top exp_sc max_real coe_sum cq cq_eq bot_eq chunk_bit rowSum_pos ln2_eq ln2_pos)

theorem redMax_bot (S : FVec Ideal S4x8x2048x2048 .f32) (b : Fin 4) (H : Fin 8) (s : Fin 2048) (f : Fin 2048 → EReal) (hS : ∀ key, eS S b H s key = f key) :
    eR (Host.reduce FloatOps.maximumf S (val_main_cst_1 (F := Ideal)) reducesTo_S4x8x2048x2048_S4x8x2048_d3 h_S_) b H s = Finset.univ.fold max ⊥ f := by
  unfold eR val_main_cst_1
  rw [redMax_at, constant_apply, Ideal.ofBits_def, bot_eq, ← funext hS]
  rfl

variable (x0 x1 : FVec Ideal S4x2048x8x96 .f32) (x2 : FVec Ideal S4x2048x8x64 .f32) (q k : Heads) (v : Vals)
  (hq : ∀ b s H d, e96 x0 b s H d = (q b s H d : EReal))
  (hk : ∀ b s H d, e96 x1 b s H d = (k b s H d : EReal))
  (hv : ∀ b s H d, e64 x2 b s H d = (v b s H d : EReal))

include hq hk in
theorem dot_real (b : Fin 4) (H : Fin 8) (s key : Fin 2048) : eS (val_main_v5 (F := Ideal) x0 x1) b H s key = (score q k b H s key : EReal) := by
  have h : eS (val_main_v5 (F := Ideal) x0 x1) b H s key = (∑ d, e96 x0 b s H d * e96 x1 b key H d) * Ideal.ofBits .f32 0x3DD105EC#32 := by
    unfold eS e96
    pointwise [val_main_v5, val_main_v4, val_main_cst, val_main_v3]
  rw [h, cq_eq]
  unfold score
  rw [EReal.coe_mul, coe_sum]
  refine congrArg (· * (cq : EReal)) (Finset.sum_congr rfl fun d _ => ?_)
  rw [hq, hk, ← EReal.coe_mul]

theorem mask_at (b : Fin 4) (H : Fin 8) (s key : Fin 2048) : @Eq (BitVec 1) (val_main_call0_v1 (F := Ideal) (ix4 b H s key)) (if key.val / 64 ≤ s.val / 64 then 1#1 else 0#1) := by
  pointwise [val_main_call0_v1, val_main_v11, val_main_v10, val_main_v8, val_main_v9, val_main_v6, val_main_v7, val_main_v2, val_main_v0, val_main_v1, val_main_c]
  exact chunk_bit s key

include hq hk in
theorem masked_real (b : Fin 4) (H : Fin 8) (s key : Fin 2048) : eS (val_main_v12 (F := Ideal) x0 x1) b H s key = sc (sees s key) (score q k b H s key) := by
  have h : eS (val_main_v12 (F := Ideal) x0 x1) b H s key = Scalar.select (val_main_call0_v1 (F := Ideal) (ix4 b H s key)) (eS (val_main_v5 (F := Ideal) x0 x1) b H s key) (Ideal.ofBits .f32 0xFF800000#32) := by
    unfold eS
    pointwise [val_main_v12, val_main_call0_v2, val_main_call0_v0, val_main_cst_0]
    rfl
  rw [h, mask_at, dot_real x0 x1 q k hq hk, bot_eq]
  unfold sc
  split_ifs <;> rfl

include hq hk in
theorem max_row (b : Fin 4) (H : Fin 8) (s : Fin 2048) : ∃ μ : ℝ, eR (val_main_v13 (F := Ideal) x0 x1) b H s = (μ : EReal) := by
  obtain ⟨μ, h⟩ := row_real q k b H s
  refine ⟨μ, ?_⟩
  rw [← h, max_eq_right bot_le]
  unfold val_main_v13
  rw [redMax_bot _ b H s _ fun key => masked_real x0 x1 q k hq hk b H s key]

include hq hk in
/-- The row maximum, the shifted exponentials and their row sum. -/
theorem exp_real (b : Fin 4) (H : Fin 8) (s : Fin 2048) : ∃ μ : ℝ, eR (val_main_v13 (F := Ideal) x0 x1) b H s = (μ : EReal)
    ∧ (∀ key, eS (val_main_v17 (F := Ideal) x0 x1) b H s key = ((Real.exp (-μ) * expo q k b H s key : ℝ) : EReal))
    ∧ eR (val_main_v18 (F := Ideal) x0 x1) b H s = ((Real.exp (-μ) * rowSum q k b H s : ℝ) : EReal) := by
  obtain ⟨μ, hμ⟩ := max_row x0 x1 q k hq hk b H s
  have h1 : ∀ key, eS (val_main_v17 (F := Ideal) x0 x1) b H s key = ((Real.exp (-μ) * expo q k b H s key : ℝ) : EReal) := fun key => by
    have h : eS (val_main_v17 (F := Ideal) x0 x1) b H s key = Ideal.exp ((eS (val_main_v12 (F := Ideal) x0 x1) b H s key - eR (val_main_v13 (F := Ideal) x0 x1) b H s) * ((1 : ℝ) : EReal)) := by
      rw [EReal.coe_one, mul_one]
      unfold eS eR
      pointwise [val_main_v17, val_main_v16, val_main_v15, val_main_v14]
    rw [h, masked_real x0 x1 q k hq hk, hμ, exp_sc _ _ _ _ one_pos, mul_one, mul_one]
    rfl
  refine ⟨μ, hμ, h1, ?_⟩
  unfold eR val_main_v18
  rw [redAdd_at]
  unfold rowSum
  rw [Finset.mul_sum, coe_sum]
  refine Eq.trans (congrArg (· + _) (show _ = (0 : EReal) from ?_)) ((zero_add _).trans (Finset.sum_congr rfl fun key _ => h1 key))
  pointwise [val_main_cst_2]

include hq hk in
theorem soft_real (b : Fin 4) (H : Fin 8) (s key : Fin 2048) : eS (val_main_v21 (F := Ideal) x0 x1) b H s key = ((expo q k b H s key / rowSum q k b H s : ℝ) : EReal) := by
  obtain ⟨μ, h0, h1, h2⟩ := exp_real x0 x1 q k hq hk b H s
  have h : eS (val_main_v21 (F := Ideal) x0 x1) b H s key = Ideal.div (eS (val_main_v17 (F := Ideal) x0 x1) b H s key) (eR (val_main_v18 (F := Ideal) x0 x1) b H s) := by
    unfold eS eR
    pointwise [val_main_v21, val_main_v20, val_main_v19]
  have hR := rowSum_pos q k b H s
  have hE := Real.exp_pos (-μ)
  rw [h, h1, h2, Ideal.div_coe (mul_pos hE hR).ne', ← EReal.coe_mul]
  refine congrArg ((↑) : ℝ → EReal) ?_
  have := hE.ne'
  have := hR.ne'
  field_simp

include hq hk hv in
/-- The attention, heads side by side. -/
theorem refO (b : Fin 4) (s : Fin 2048) (p : Fin 512) : @Eq EReal (val_main_v30 (F := Ideal) x0 x1 x2 (ix3 b s p)) (mixed q k v b ⟨p.val / 64, by omega⟩ s ⟨p.val % 64, by omega⟩ : ℝ) := by
  have h : @Eq EReal (val_main_v30 (F := Ideal) x0 x1 x2 (ix3 b s p)) (∑ key, e64 x2 b key ⟨p.val / 64, by omega⟩ ⟨p.val % 64, by omega⟩ * eS (val_main_v21 (F := Ideal) x0 x1) b ⟨p.val / 64, by omega⟩ s key) := by
    unfold eS e64
    pointwise [val_main_v30, val_main_v29, val_main_v23, val_main_v22]
  rw [h]
  unfold mixed
  rw [Finset.sum_div, coe_sum]
  refine Finset.sum_congr rfl fun key _ => ?_
  rw [hv, soft_real x0 x1 q k hq hk, ← EReal.coe_mul]
  exact congrArg ((↑) : ℝ → EReal) (by ring)

theorem v28_at (b : Fin 4) (H : Fin 8) (s : Fin 2048) : @Eq EReal (val_main_v28 (F := Ideal) x0 x1 (ix4 b H s 0)) (Ideal.div (eR (val_main_v13 (F := Ideal) x0 x1) b H s + Ideal.log (eR (val_main_v18 (F := Ideal) x0 x1) b H s)) (Ideal.log (Ideal.ofBits .f32 0x40000000#32))) := by
  have e14 : idx_main_v14 (ix4 b H s 0) = ix3 b H s := by funext a; fin_cases a <;> rfl
  have e19 : idx_main_v19 (ix4 b H s 0) = ix3 b H s := by funext a; fin_cases a <;> rfl
  have e27 : @Eq EReal (val_main_v27 (F := Ideal) (ix4 b H s 0)) (Ideal.log (Ideal.ofBits .f32 0x40000000#32)) := rfl
  rw [val_main_v28_apply, val_main_v25_apply, val_main_v24_apply, val_main_v14_apply, val_main_v19_apply, e14, e19]
  unfold eR
  generalize val_main_v13 (F := Ideal) x0 x1 (ix3 b H s) = X
  generalize val_main_v18 (F := Ideal) x0 x1 (ix3 b H s) = Y
  exact congrArg (fun z : EReal => Ideal.div ((X : EReal) + Ideal.log Y) z) e27

/-- A column turned to a row. -/
theorem row_at (X : FVec Ideal S4x8x2048x1 .f32) (b : Fin 4) (H : Fin 8) (s : Fin 2048) : (shapeCast S4x8x1x2048 X shapeCasts_S4x8x2048x1_S4x8x1x2048) (ix4 b H 0 s) = X (ix4 b H s 0) :=
  shapeCast_apply X shapeCasts_S4x8x2048x1_S4x8x1x2048 (ix4 b H 0 s) (ix4 b H s 0) (by
    rw [Shape.rowMajor_val_four, Shape.rowMajor_val_four]
    have e : ∀ u v w x : ℕ, ((u * 8 + v) * 2048 + w) * 1 + 0 = ((u * 8 + v) * 1 + 0) * 2048 + w := fun u v w x => by omega
    exact e b.val H.val s.val 0)

theorem v32_at (b : Fin 4) (H e : Fin 8) (s : Fin 2048) : @Eq EReal (val_main_v32 (F := Ideal) x0 x1 (ix4 b H e s)) (val_main_v28 (F := Ideal) x0 x1 (ix4 b H s 0)) := by
  refine Eq.trans ?_ (row_at _ b H s)
  unfold val_main_v32 val_main_v31
  generalize shapeCast S4x8x1x2048 (val_main_v28 (F := Ideal) x0 x1) shapeCasts_S4x8x2048x1_S4x8x1x2048 = X
  pointwise

/-- The base-two log-sum of a row out of its maximum and its shifted sum. -/
theorem log_sum (μ z : ℝ) (hz : 0 < z) : Ideal.div ((μ : EReal) + Ideal.log ((Real.exp (-μ) * z : ℝ) : EReal)) ((Real.log 2 : ℝ) : EReal) = ((Real.log z / Real.log 2 : ℝ) : EReal) := by
  have hE := Real.exp_pos (-μ)
  rw [Ideal.log_coe, if_neg (not_le.mpr (mul_pos hE hz)), Real.log_mul hE.ne' hz.ne', Real.log_exp, ← EReal.coe_add, Ideal.div_coe ln2_pos.ne', ← EReal.coe_mul]
  exact congrArg ((↑) : ℝ → EReal) (by ring)

include hq hk in
/-- The base-two log-sum of a row, the same in each of its eight copies. -/
theorem refL (b : Fin 4) (H e : Fin 8) (s : Fin 2048) : @Eq EReal (val_main_v32 (F := Ideal) x0 x1 (ix4 b H e s)) (Real.log (rowSum q k b H s) / Real.log 2 : ℝ) := by
  obtain ⟨μ, h0, h1, h2⟩ := exp_real x0 x1 q k hq hk b H s
  have h := v28_at x0 x1 b H s
  rw [h0, h2, ln2_eq] at h
  exact ((v32_at x0 x1 b H e s).trans h).trans (log_sum μ _ (rowSum_pos q k b H s))

end Cert.Reference9Ideal.Fwd

end
-- ==== Proof.FwdClaim.lean ====
/- The claims about `Kernel9` and `Reference9`: the attention's forward pass, at finite arguments. -/
module

public import proofs.«01_k».proof.Defs
public import proofs.«01_k».proof.Proof.Finite
public import proofs.«01_k».proof.Proof.FwdVal
public import proofs.«01_k».proof.Proof.FwdRef
public import proofs.«01_k».proof.Proof.Gen.Pre_finite9
public import proofs.«01_k».proof.Proof.Gen.Reference9Ideal.Run
public import Idealize.ShloMosaic.Lib.Claim

@[expose] public section

set_option maxRecDepth 16384

noncomputable section

open Idealize.ShloMosaic Idealize.ShloMosaic.TcCoe Idealize.SL.Sem

namespace Cert.Proof

instance subsingleton_scalar9 : Subsingleton Cert.Pre_finite9.S_.Idx := ⟨fun a b => funext fun i => i.elim0⟩

open Cert.Pre_finite9 in
/-- The precondition of the forward attention: every element of every argument is a real number. -/
theorem finite9_real [Cert.Pre_finite9.Facts] (x0 x1 : FVec Ideal S4x2048x8x96 .f32) (x2 : FVec Ideal S4x2048x8x64 .f32)
    (h : Cert.Pre_finite9.fn (F := Ideal) x0 x1 x2 = fun _ => 1#1) :
    (∀ i, @Eq EReal (x0 i) (((x0 i : EReal).toReal : ℝ) : EReal)) ∧ (∀ i, @Eq EReal (x1 i) (((x1 i : EReal).toReal : ℝ) : EReal))
      ∧ (∀ i, @Eq EReal (x2 i) (((x2 i : EReal).toReal : ℝ) : EReal)) := by
  have e := congrFun h (fun i => i.elim0)
  unfold Cert.Pre_finite9.fn at e
  obtain ⟨e, e2⟩ := IntOp.andi_eq_one.1 e
  obtain ⟨e0, e1⟩ := IntOp.andi_eq_one.1 e
  exact ⟨fun i => Cert.Finite.all_real x0 _ (fun _ => Cert.Finite.inf_eq) _ _ _ _ e0 i, fun i => Cert.Finite.all_real x1 _ (fun _ => Cert.Finite.inf_eq) _ _ _ _ e1 i,
    fun i => Cert.Finite.all_real x2 _ (fun _ => Cert.Finite.inf_eq) _ _ _ _ e2 i⟩

/-- The reference runs to its end and leaves its arguments alone. -/
theorem frame_reference9 : Cert.quiescent_Reference9Ideal := by
  intro m g _
  exact θ_run_mono (Cert.Reference9Ideal.Value.run m g) fun r h => ⟨fun c => (h c).2.2, sem_eq_zero_of_no_sems (by decide) r.2⟩

set_option maxHeartbeats 2000000 in
/-- Over the reals the kernel and the reference leave the same arrays, at finite arguments. -/
theorem algebraic9 [Cert.Pre_finite9.Facts] : Cert.algebraic_Kernel9Ideal_Reference9Ideal_pre_finite9 := by
  intro m g m' g' hpre hagree
  refine ⟨fun c => (Cert.Kernel9Ideal.Gen.dats m 0 c).arrAt 3 (Cert.Kernel9Ideal.cfgs 0).N, fun c => (Cert.Kernel9Ideal.Gen.dats m 0 c).arrAt 4 (Cert.Kernel9Ideal.cfgs 0).N, ?_, ?_⟩
  · exact θ_run_mono (θ_run_and (Cert.Kernel9Ideal.Gen.run_main m g) (Cert.Kernel9Ideal.Gen.unchanged m g)) fun r h c => ⟨(h.1 c).1 3, (h.1 c).1 4, h.2 c⟩
  · refine θ_run_mono (Cert.Reference9Ideal.Value.run m' g') fun r hr c => ?_
    obtain ⟨a0, a1, a2⟩ := hagree c
    obtain ⟨h0, h1, h⟩ := hr c
    obtain ⟨r0, r1, r2⟩ := finite9_real _ _ _ (hpre c)
    refine ⟨h0.trans ((Cert.Reference9Ideal.Read.val_main_v30_eq _ _).trans ?_), h1.trans ((Cert.Reference9Ideal.Read.val_main_v32_eq _ _).trans ?_), h⟩
    · rw [a0, a1, a2]
      refine Eq.trans (funext fun y => ?_) (Cert.Kernel9Ideal.Fwd.finalO m c _ _ _ (fun _ _ _ _ => r0 _) (fun _ _ _ _ => r1 _) (fun _ _ _ _ => r2 _)).symm
      obtain ⟨b, s, p, rfl⟩ : ∃ b s p, y = ix3 b s p := ⟨y 0, y 1, y 2, by funext a; fin_cases a <;> rfl⟩
      exact Cert.Reference9Ideal.Fwd.refO _ _ _ _ _ _ (fun _ _ _ _ => r0 _) (fun _ _ _ _ => r1 _) (fun _ _ _ _ => r2 _) b s p
    · rw [a0, a1]
      refine Eq.trans (funext fun y => ?_) (Cert.Kernel9Ideal.Fwd.finalL m c _ _ _ (fun _ _ _ _ => r0 _) (fun _ _ _ _ => r1 _) (fun _ _ _ _ => r2 _)).symm
      obtain ⟨b, H, e, s, rfl⟩ : ∃ b H e s, y = ix4 b H e s := ⟨y 0, y 1, y 2, y 3, by funext a; fin_cases a <;> rfl⟩
      exact Cert.Reference9Ideal.Fwd.refL _ _ _ _ (fun _ _ _ _ => r0 _) (fun _ _ _ _ => r1 _) b H e s

/-- The constants of the kernel that stand for the masked score and for the reciprocal of the logarithm of 2. -/
theorem preserves9 : Cert.preserves_Kernel9_Kernel9Ideal :=
  ⟨IdealRules.named_const.statement Cert.Kernel9Ideal.κ "mask" .f32 0xF149F2CA#32 ⊥ rfl,
    IdealRules.named_const.statement Cert.Kernel9Ideal.κ "inv_ln2" .f32 0x3FB8AA3B#32 (((Real.log 2)⁻¹ : ℝ) : EReal) rfl⟩

end Cert.Proof
end
-- ==== Proof.OutFwd.lean ====
/- The gated merge of the two branches, its product, the residual and the second norm: each grid point's rows are the
   reference's. -/
module

public import proofs.«01_k».proof.Proof.Gen.Kernel10Ideal.Frame
public import proofs.«01_k».proof.Proof.Gen.Reference10Ideal.Read
public import Idealize.ShloMosaic.Lib.Pipeline.ValueKit
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel10Ideal.OutFwd

open Cert.Kernel10Ideal Cert.Kernel10Ideal.Gen Cert.Reference10Ideal.Read

variable (m : (ℓ : Loc nD τ sig) → Buf (Elt Ideal) ℓ)

/-- Where each window's block lies, at every grid point. -/
theorem idx : ∀ t : Fin cfg0.N, win0_0.index t = ![t.val, 0] ∧ win0_1.index t = ![t.val, 1] ∧ win0_2.index t = ![t.val, 0] ∧ win0_3.index t = ![t.val, 0]
    ∧ win0_4.index t = ![0, 0] ∧ win0_5.index t = ![t.val, 0] ∧ win0_6.index t = ![t.val / 4, 0, 0] ∧ win0_7.index t = ![t.val / 4, 0, 0]
    ∧ win0_8.index t = ![t.val / 4, 0, 0] ∧ win0_9.index t = ![0, 0] ∧ win0_10.index t = ![t.val, 0] ∧ win0_11.index t = ![t.val, 0]
    ∧ win0_12.index t = ![t.val, 0] ∧ win0_13.index t = ![t.val, 0] :=
  (by decide +kernel : ∀ t : Fin grid0.N, _)

/-- Rows of the batches one after another. -/
theorem rows_f (A : Vec Ideal S4x2048x1024 .f32) (x : S8192x1024.Idx) : shapeCast S8192x1024 A shapeCasts_S4x2048x1024_S8192x1024 x
    = A (ix3 ⟨(x 0).val / 2048, by have := (x 0).isLt; simp at this; omega⟩ ⟨(x 0).val % 2048, Nat.mod_lt _ (by decide)⟩ (x 1)) := by
  pointwise
@[inherit_doc rows_f] theorem rows_b (A : Vec Ideal S4x2048x1024 .bf16) (x : S8192x1024.Idx) : shapeCast S8192x1024 A shapeCasts_S4x2048x1024_S8192x1024 x
    = A (ix3 ⟨(x 0).val / 2048, by have := (x 0).isLt; simp at this; omega⟩ ⟨(x 0).val % 2048, Nat.mod_lt _ (by decide)⟩ (x 1)) := by
  pointwise
@[inherit_doc rows_f] theorem rows_z (A : Vec Ideal S4x2048x2048 .bf16) (x : S8192x2048.Idx) : shapeCast S8192x2048 A shapeCasts_S4x2048x2048_S8192x2048 x
    = A (ix3 ⟨(x 0).val / 2048, by have := (x 0).isLt; simp at this; omega⟩ ⟨(x 0).val % 2048, Nat.mod_lt _ (by decide)⟩ (x 1)) := by
  pointwise

/-- The batch and the place in it of row `r` of grid point `t`. -/
def bt (t : Fin cfg0.N) : Fin 4 := ⟨t.val / 4, by have := lt_of_lt_of_eq t.isLt N_0; omega⟩
@[inherit_doc bt] def ro (t : Fin cfg0.N) (r : Fin 512) : Fin 2048 := ⟨t.val % 4 * 512 + r.val, by omega⟩
/-- The row among all rows. -/
def rw' (t : Fin cfg0.N) (r : Fin 512) : Fin 8192 := ⟨t.val * 512 + r.val, by have := lt_of_lt_of_eq t.isLt N_0; omega⟩

/-- The arguments. -/
abbrev A0 (c : Dev nD) : FVec Ideal S4x2048x1024 .f32 := m ((c : Thread nD τ).loc main_arg0)
@[inherit_doc A0] abbrev A1 (c : Dev nD) : FVec Ideal S4x2048x2048 .bf16 := m ((c : Thread nD τ).loc main_arg1)
@[inherit_doc A0] abbrev A2 (c : Dev nD) : FVec Ideal S4x2048x1024 .bf16 := m ((c : Thread nD τ).loc main_arg2)
@[inherit_doc A0] abbrev A3 (c : Dev nD) : FVec Ideal S4x2048x1024 .bf16 := m ((c : Thread nD τ).loc main_arg3)
@[inherit_doc A0] abbrev A4 (c : Dev nD) : FVec Ideal S1024x1024 .f32 := m ((c : Thread nD τ).loc main_arg4)
@[inherit_doc A0] abbrev A5 (c : Dev nD) : FVec Ideal S4x1x1024 .f32 := m ((c : Thread nD τ).loc main_arg5)
@[inherit_doc A0] abbrev A6 (c : Dev nD) : FVec Ideal S1024 .f32 := m ((c : Thread nD τ).loc main_arg6)
@[inherit_doc A0] abbrev A7 (c : Dev nD) : FVec Ideal S4x1x1024 .f32 := m ((c : Thread nD τ).loc main_arg7)
@[inherit_doc A0] abbrev A8 (c : Dev nD) : FVec Ideal S4x1x1024 .f32 := m ((c : Thread nD τ).loc main_arg8)

/-- The rows of the gates' pre-activations, as the call reads them. -/
theorem z_rows (c : Dev nD) : (V m c main_v1 : Vec Ideal S8192x2048 .bf16) = shapeCast S8192x2048 (A1 m c : Vec Ideal S4x2048x2048 .bf16) shapeCasts_S4x2048x2048_S8192x2048 := by
  unfold V; after_reads_simp []; rfl

/-- The operands' blocks, read off the arguments. -/
theorem in0 (c : Dev nD) (t : Fin cfg0.N) (r : Fin 512) (k : Fin 1024) : @Eq EReal ((iblk m c 0 t : Vec Ideal S512x1024 .bf16) (ix2 r k)) (A1 m c (ix3 (bt t) (ro t r) ⟨k.val, by omega⟩)) := by
  have hb : (iblk m c 0 t : Vec Ideal S512x1024 .bf16) (ix2 r k) = (V m c main_v1 : Vec Ideal S8192x2048 .bf16) (ix2 (rw' t r) ⟨k.val, by omega⟩) := by
    blk_point [iblk, V, idx t, rw']
  rw [hb, z_rows, rows_z]
  clear hb
  blk_point [rw', bt, ro]
theorem in1 (c : Dev nD) (t : Fin cfg0.N) (r : Fin 512) (k : Fin 1024) : @Eq EReal ((iblk m c 1 t : Vec Ideal S512x1024 .bf16) (ix2 r k)) (A1 m c (ix3 (bt t) (ro t r) ⟨1024 + k.val, by omega⟩)) := by
  have hb : (iblk m c 1 t : Vec Ideal S512x1024 .bf16) (ix2 r k) = (V m c main_v1 : Vec Ideal S8192x2048 .bf16) (ix2 (rw' t r) ⟨1024 + k.val, by omega⟩) := by
    blk_point [iblk, V, idx t, rw']
  rw [hb, z_rows, rows_z]
  clear hb
  blk_point [rw', bt, ro]
theorem in2 (c : Dev nD) (t : Fin cfg0.N) (r : Fin 512) (k : Fin 1024) : @Eq EReal ((iblk m c 2 t : Vec Ideal S512x1024 .bf16) (ix2 r k)) (A2 m c (ix3 (bt t) (ro t r) k)) := by
  have h : (V m c main_v2 : Vec Ideal S8192x1024 .bf16) = shapeCast S8192x1024 (A2 m c : Vec Ideal S4x2048x1024 .bf16) shapeCasts_S4x2048x1024_S8192x1024 := by
    unfold V; after_reads_simp []; rfl
  have hb : (iblk m c 2 t : Vec Ideal S512x1024 .bf16) (ix2 r k) = (V m c main_v2 : Vec Ideal S8192x1024 .bf16) (ix2 (rw' t r) k) := by
    clear h
    blk_point [iblk, V, idx t, rw']
  rw [hb, h, rows_b]
  clear hb h
  blk_point [rw', bt, ro]
theorem in3 (c : Dev nD) (t : Fin cfg0.N) (r : Fin 512) (k : Fin 1024) : @Eq EReal ((iblk m c 3 t : Vec Ideal S512x1024 .bf16) (ix2 r k)) (A3 m c (ix3 (bt t) (ro t r) k)) := by
  have h : (V m c main_v3 : Vec Ideal S8192x1024 .bf16) = shapeCast S8192x1024 (A3 m c : Vec Ideal S4x2048x1024 .bf16) shapeCasts_S4x2048x1024_S8192x1024 := by
    unfold V; after_reads_simp []; rfl
  have hb : (iblk m c 3 t : Vec Ideal S512x1024 .bf16) (ix2 r k) = (V m c main_v3 : Vec Ideal S8192x1024 .bf16) (ix2 (rw' t r) k) := by
    clear h
    blk_point [iblk, V, idx t, rw']
  rw [hb, h, rows_b]
  clear hb h
  blk_point [rw', bt, ro]
theorem in4 (c : Dev nD) (t : Fin cfg0.N) (j k : Fin 1024) : @Eq EReal ((iblk m c 4 t : Vec Ideal S1024x1024 .bf16) (ix2 j k)) (A4 m c (ix2 j k)) := by
  have h : (V m c main_v4 : Vec Ideal S1024x1024 .bf16) = (truncf .bf16 (A4 m c) bitsLt_bf16_f32 : FVec Ideal S1024x1024 .bf16) := by
    unfold V; after_reads_simp []; first | done | rfl
  have hb : (iblk m c 4 t : Vec Ideal S1024x1024 .bf16) (ix2 j k) = (V m c main_v4 : Vec Ideal S1024x1024 .bf16) (ix2 j k) := by
    clear h
    blk_point [iblk, V, idx t]
  rw [hb, h]
  clear hb h
  pointwise
theorem in5 (c : Dev nD) (t : Fin cfg0.N) (r : Fin 512) (k : Fin 1024) : (iblk m c 5 t : Vec Ideal S512x1024 .f32) (ix2 r k) = A0 m c (ix3 (bt t) (ro t r) k) := by
  have h : (V m c main_v0 : Vec Ideal S8192x1024 .f32) = shapeCast S8192x1024 (A0 m c : Vec Ideal S4x2048x1024 .f32) shapeCasts_S4x2048x1024_S8192x1024 := by
    unfold V; after_reads_simp []; rfl
  have hb : (iblk m c 5 t : Vec Ideal S512x1024 .f32) (ix2 r k) = (V m c main_v0 : Vec Ideal S8192x1024 .f32) (ix2 (rw' t r) k) := by
    clear h
    blk_point [iblk, V, idx t, rw']
  rw [hb, h, rows_f]
  clear hb h
  blk_point [rw', bt, ro]
theorem in6 (c : Dev nD) (t : Fin cfg0.N) (k : Fin 1024) : (iblk m c 6 t : Vec Ideal S1x1x1024 .f32) (ix3 0 0 k) = A5 m c (ix3 (bt t) 0 k) := by
  blk_point [iblk, V, idx t, bt]
theorem in7 (c : Dev nD) (t : Fin cfg0.N) (k : Fin 1024) : (iblk m c 7 t : Vec Ideal S1x1x1024 .f32) (ix3 0 0 k) = A7 m c (ix3 (bt t) 0 k) := by
  blk_point [iblk, V, idx t, bt]
theorem in8 (c : Dev nD) (t : Fin cfg0.N) (k : Fin 1024) : (iblk m c 8 t : Vec Ideal S1x1x1024 .f32) (ix3 0 0 k) = A8 m c (ix3 (bt t) 0 k) := by
  blk_point [iblk, V, idx t, bt]
theorem in9 (c : Dev nD) (t : Fin cfg0.N) (k : Fin 1024) : (iblk m c 9 t : Vec Ideal S1x1024 .f32) (ix2 0 k) = A6 m c (ix1 k) := by
  have h : (V m c main_v5 : Vec Ideal S1x1024 .f32) = shapeCast S1x1024 (A6 m c : Vec Ideal S1024 .f32) shapeCasts_S1024_S1x1024 := by
    unfold V; after_reads_simp []; rfl
  have hb : (iblk m c 9 t : Vec Ideal S1x1024 .f32) (ix2 0 k) = (V m c main_v5 : Vec Ideal S1x1024 .f32) (ix2 0 k) := by
    clear h
    blk_point [iblk, V, idx t]
  rw [hb, h]
  clear hb h
  pointwise

/-- The kernel's values at grid point `t`: the merged branches, their product, the new residual, its norm modulated. -/
abbrev mg (c : Dev nD) (t : Fin cfg0.N) : FVec Ideal S512x1024 .bf16 := k0_pay7 (iblk m c 0 t) (iblk m c 1 t) (iblk m c 2 t) (iblk m c 3 t)
@[inherit_doc mg] abbrev ac (c : Dev nD) (t : Fin cfg0.N) : FVec Ideal S512x1024 .f32 := k0_pay1 (mg m c t) (k0_pay6 (F := Ideal)) (iblk m c 4 t)
@[inherit_doc mg] abbrev xo (c : Dev nD) (t : Fin cfg0.N) : FVec Ideal S512x1024 .f32 := k0_pay3 (ac m c t) (iblk m c 5 t) (iblk m c 6 t)
@[inherit_doc mg] abbrev ho (c : Dev nD) (t : Fin cfg0.N) : FVec Ideal S512x1024 .bf16 := k0_pay2 (k0_pay4 (ac m c t) (iblk m c 5 t) (iblk m c 6 t) (iblk m c 7 t) (iblk m c 8 t) (iblk m c 9 t))

theorem mg_eq (c : Dev nD) (t : Fin cfg0.N) (r : Fin 512) (k : Fin 1024) : @Eq EReal (mg m c t (ix2 r k))
    (val_main_v13 (F := Ideal) (A1 m c) (A2 m c) (A3 m c) (ix3 (bt t) (ro t r) k)) := by
  have h0 := in0 m c t r k
  have h1 := in1 m c t r k
  pointwise [k0_pay7, val_main_v13, val_main_v12, val_main_v11, val_main_v10, val_main_v9, val_main_v8, val_main_v7, val_main_v6, val_main_v5, val_main_cst_0, val_main_v4, val_main_v3, val_main_cst, val_main_v2, val_main_v1, val_main_v0]
  simp only [zero_sub, in2, in3, h0, h1]

theorem ac_eq (c : Dev nD) (t : Fin cfg0.N) (r : Fin 512) (k : Fin 1024) : @Eq EReal (ac m c t (ix2 r k))
    (val_main_v14 (F := Ideal) (A1 m c) (A2 m c) (A3 m c) (A4 m c) (ix3 (bt t) (ro t r) k)) := by
  have hm := fun j => mg_eq m c t r j
  have hw := fun j => in4 m c t j k
  pointwise [k0_pay1, k0_pay6, val_main_v14]
  simp only [zero_add, hm, hw]

theorem xo_eq (c : Dev nD) (t : Fin cfg0.N) (r : Fin 512) (k : Fin 1024) : @Eq EReal (xo m c t (ix2 r k))
    (val_main_v17 (F := Ideal) (A0 m c) (A1 m c) (A2 m c) (A3 m c) (A4 m c) (A5 m c) (ix3 (bt t) (ro t r) k)) := by
  have ha := ac_eq m c t r k
  pointwise [k0_pay3, val_main_v17, val_main_v16, val_main_v15]
  simp only [in5, in6, ha]

theorem ho_eq (c : Dev nD) (t : Fin cfg0.N) (r : Fin 512) (k : Fin 1024) : @Eq EReal (ho m c t (ix2 r k))
    (val_main_v36 (F := Ideal) (A0 m c) (A1 m c) (A2 m c) (A3 m c) (A4 m c) (A5 m c) (A6 m c) (A7 m c) (A8 m c) (ix3 (bt t) (ro t r) k)) := by
  have hx := fun j => xo_eq m c t r j
  have h7 := in7 m c t k
  have h8 := in8 m c t k
  have h9 := in9 m c t k
  pointwise [k0_pay2, k0_pay4, val_main_v36, val_main_v35, val_main_v34, val_main_v33, val_main_v32, val_main_v31, val_main_cst_4, val_main_v30, val_main_v29, val_main_v28, val_main_v27, val_main_v26, val_main_v25, val_main_v24, val_main_v23, val_main_cst_3, val_main_v22, val_main_v21, val_main_cst_2, val_main_v20, val_main_v19, val_main_cst_1, val_main_v18]
  simp only [hx, h7, h8, h9]

/-- What a grid point stores in its blocks. -/
theorem outs10 (c : Dev nD) (t : Fin cfg0.N) : (outsAt0 m c t).1 = mg m c t := by
  funext j
  unfold outsAt0
  frame_out
@[inherit_doc outs10] theorem outs11 (c : Dev nD) (t : Fin cfg0.N) : (outsAt0 m c t).2.1 = k0_pay5 (F := Ideal) (ac m c t) := by
  funext j
  unfold outsAt0
  frame_out
@[inherit_doc outs10] theorem outs12 (c : Dev nD) (t : Fin cfg0.N) : (outsAt0 m c t).2.2.1 = xo m c t := by
  funext j
  unfold outsAt0
  frame_out
@[inherit_doc outs10] theorem outs13 (c : Dev nD) (t : Fin cfg0.N) : (outsAt0 m c t).2.2.2 = ho m c t := by
  funext j
  unfold outsAt0
  frame_out

/-- The merged branches. -/
theorem final10 (c : Dev nD) : (dats m 0 c).arrAt 10 (cfgs 0).N = val_main_v38 (F := Ideal) (A1 m c) (A2 m c) (A3 m c) := by
  refine (dats m 0 c).arrAt_eq_of_covers 10 _ (by decide +kernel) fun t hf y => ?_
  blk_simp
  refine Eq.trans (show _ = (_ : EReal) from congrFun ((after0_10 m c t).trans (outs10 m c t)) _) ?_
  have hy : (y : S512x1024.Idx) = ix2 (n0 := 512) (n1 := 1024) (y 0) (y 1) := by funext a; fin_cases a <;> rfl
  refine (congrArg _ hy).trans ((mg_eq m c t _ _).trans ?_)
  clear hy
  pointwise [val_main_v38, val_main_v37]
  blk_point [idx t, bt, ro]

/-- Their product with the weight. -/
theorem final11 (c : Dev nD) : (dats m 0 c).arrAt 11 (cfgs 0).N = val_main_v40 (F := Ideal) (A1 m c) (A2 m c) (A3 m c) (A4 m c) := by
  refine (dats m 0 c).arrAt_eq_of_covers 11 _ (by decide +kernel) fun t hf y => ?_
  blk_simp
  refine Eq.trans (show _ = (_ : EReal) from congrFun ((after0_11 m c t).trans (outs11 m c t)) _) ?_
  have hy : (y : S512x1024.Idx) = ix2 (n0 := 512) (n1 := 1024) (y 0) (y 1) := by funext a; fin_cases a <;> rfl
  refine (congrArg (ac m c t) hy).trans ((ac_eq m c t _ _).trans ?_)
  clear hy
  pointwise [val_main_v40, val_main_v39]
  blk_point [idx t, bt, ro]

/-- The new residual. -/
theorem final12 (c : Dev nD) : (dats m 0 c).arrAt 12 (cfgs 0).N = val_main_v41 (F := Ideal) (A0 m c) (A1 m c) (A2 m c) (A3 m c) (A4 m c) (A5 m c) := by
  refine (dats m 0 c).arrAt_eq_of_covers 12 _ (by decide +kernel) fun t hf y => ?_
  blk_simp
  refine Eq.trans (show _ = (_ : EReal) from congrFun ((after0_12 m c t).trans (outs12 m c t)) _) ?_
  have hy : (y : S512x1024.Idx) = ix2 (n0 := 512) (n1 := 1024) (y 0) (y 1) := by funext a; fin_cases a <;> rfl
  refine (congrArg _ hy).trans ((xo_eq m c t _ _).trans ?_)
  clear hy
  pointwise [val_main_v41]
  blk_point [idx t, bt, ro]

/-- Its norm, modulated. -/
theorem final13 (c : Dev nD) : (dats m 0 c).arrAt 13 (cfgs 0).N = val_main_v43 (F := Ideal) (A0 m c) (A1 m c) (A2 m c) (A3 m c) (A4 m c) (A5 m c) (A6 m c) (A7 m c) (A8 m c) := by
  refine (dats m 0 c).arrAt_eq_of_covers 13 _ (by decide +kernel) fun t hf y => ?_
  blk_simp
  refine Eq.trans (show _ = (_ : EReal) from congrFun ((after0_13 m c t).trans (outs13 m c t)) _) ?_
  have hy : (y : S512x1024.Idx) = ix2 (n0 := 512) (n1 := 1024) (y 0) (y 1) := by funext a; fin_cases a <;> rfl
  refine (congrArg _ hy).trans ((ho_eq m c t _ _).trans ?_)
  clear hy
  pointwise [val_main_v43, val_main_v42]
  blk_point [idx t, bt, ro]

end Cert.Kernel10Ideal.OutFwd

end
-- ==== Proof.OutFwdClaim.lean ====
/- The claims about `Kernel10` and `Reference10`: the gated merge, its product, the residual and the second norm. -/
module

public import proofs.«01_k».proof.Defs
public import proofs.«01_k».proof.Proof.OutFwd
public import proofs.«01_k».proof.Proof.Gen.Reference10Ideal.Run
public import Idealize.ShloMosaic.Lib.Claim

@[expose] public section

set_option maxRecDepth 16384

noncomputable section

open Idealize.ShloMosaic Idealize.ShloMosaic.TcCoe Idealize.SL.Sem

namespace Cert.Proof

/-- The reference runs to its end and leaves its arguments alone. -/
theorem frame_reference10 : Cert.quiescent_Reference10Ideal := by
  intro m g _
  exact θ_run_mono (Cert.Reference10Ideal.Value.run m g) fun r h => ⟨fun c => (h c).2.2.2.2, sem_eq_zero_of_no_sems (by decide) r.2⟩

/-- Over the reals the kernel and the reference leave the same arrays. -/
theorem algebraic10 : Cert.algebraic_Kernel10Ideal_Reference10Ideal := by
  intro m g m' g' _ hagree
  refine ⟨fun c => (Cert.Kernel10Ideal.Gen.dats m 0 c).arrAt 10 (Cert.Kernel10Ideal.cfgs 0).N, fun c => (Cert.Kernel10Ideal.Gen.dats m 0 c).arrAt 11 (Cert.Kernel10Ideal.cfgs 0).N,
    fun c => (Cert.Kernel10Ideal.Gen.dats m 0 c).arrAt 12 (Cert.Kernel10Ideal.cfgs 0).N, fun c => (Cert.Kernel10Ideal.Gen.dats m 0 c).arrAt 13 (Cert.Kernel10Ideal.cfgs 0).N, ?_, ?_⟩
  · exact θ_run_mono (θ_run_and (Cert.Kernel10Ideal.Gen.run_main m g) (Cert.Kernel10Ideal.Gen.unchanged m g)) fun r h c =>
      ⟨(h.1 c).1 10, (h.1 c).1 11, (h.1 c).1 12, (h.1 c).1 13, h.2 c⟩
  · refine θ_run_mono (Cert.Reference10Ideal.Value.run m' g') fun r hr c => ?_
    obtain ⟨a0, a1, a2, a3, a4, a5, a6, a7, a8⟩ := hagree c
    obtain ⟨h0, h1, h2, h3, h⟩ := hr c
    refine ⟨h0.trans ((Cert.Reference10Ideal.Read.val_main_v38_eq _ _ _).trans ?_), h1.trans ((Cert.Reference10Ideal.Read.val_main_v40_eq _ _ _ _).trans ?_),
      h2.trans ((Cert.Reference10Ideal.Read.val_main_v41_eq _ _ _ _ _ _).trans ?_), h3.trans ((Cert.Reference10Ideal.Read.val_main_v43_eq _ _).trans ?_), h⟩
    · rw [a1, a2, a3]
      exact (Cert.Kernel10Ideal.OutFwd.final10 m c).symm
    · rw [a1, a2, a3, a4]
      exact (Cert.Kernel10Ideal.OutFwd.final11 m c).symm
    · rw [a0, a1, a2, a3, a4, a5]
      exact (Cert.Kernel10Ideal.OutFwd.final12 m c).symm
    · rw [a0, a1, a2, a3, a4, a5, a6, a7, a8]
      exact (Cert.Kernel10Ideal.OutFwd.final13 m c).symm

end Cert.Proof

end
-- ==== Proof.InFwd.lean ====
/- The first norm, its modulation and the products that read it: each grid point's rows are the reference's. -/
module

public import proofs.«01_k».proof.Proof.Gen.Kernel11Ideal.Frame
public import proofs.«01_k».proof.Proof.Gen.Reference11Ideal.Read
public import Idealize.ShloMosaic.Lib.Pipeline.ValueKit
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel11Ideal.InFwd

open Cert.Kernel11Ideal Cert.Kernel11Ideal.Gen Cert.Reference11Ideal.Read

variable (m : (ℓ : Loc nD τ sig) → Buf (Elt Ideal) ℓ)

/-- Where each window's block lies, at every grid point. -/
theorem idx : ∀ t : Fin cfg0.N, win0_0.index t = ![t.val, 0] ∧ win0_1.index t = ![t.val / 4, 0, 0] ∧ win0_2.index t = ![t.val / 4, 0, 0] ∧ win0_3.index t = ![0, 0]
    ∧ win0_4.index t = ![0, 0] ∧ win0_5.index t = ![0, 0] ∧ win0_6.index t = ![0, 0] ∧ win0_7.index t = ![t.val, 0]
    ∧ win0_8.index t = ![t.val, 0] ∧ win0_9.index t = ![t.val, 0] ∧ win0_10.index t = ![t.val, 0] :=
  (by decide +kernel : ∀ t : Fin grid0.N, _)

/-- Rows of the batches one after another. -/
theorem rows_f (A : Vec Ideal S4x2048x1024 .f32) (x : S8192x1024.Idx) : shapeCast S8192x1024 A shapeCasts_S4x2048x1024_S8192x1024 x
    = A (ix3 ⟨(x 0).val / 2048, by have := (x 0).isLt; simp at this; omega⟩ ⟨(x 0).val % 2048, Nat.mod_lt _ (by decide)⟩ (x 1)) := by
  pointwise

/-- The batch and the place in it of row `r` of grid point `t`. -/
def bt (t : Fin cfg0.N) : Fin 4 := ⟨t.val / 4, by have := lt_of_lt_of_eq t.isLt N_0; omega⟩
@[inherit_doc bt] def ro (t : Fin cfg0.N) (r : Fin 512) : Fin 2048 := ⟨t.val % 4 * 512 + r.val, by omega⟩
/-- The row among all rows. -/
def rw' (t : Fin cfg0.N) (r : Fin 512) : Fin 8192 := ⟨t.val * 512 + r.val, by have := lt_of_lt_of_eq t.isLt N_0; omega⟩

/-- The arguments. -/
abbrev A0 (c : Dev nD) : FVec Ideal S4x2048x1024 .f32 := m ((c : Thread nD τ).loc main_arg0)
@[inherit_doc A0] abbrev A1 (c : Dev nD) : FVec Ideal S1024 .f32 := m ((c : Thread nD τ).loc main_arg1)
@[inherit_doc A0] abbrev A2 (c : Dev nD) : FVec Ideal S4x1x1024 .f32 := m ((c : Thread nD τ).loc main_arg2)
@[inherit_doc A0] abbrev A3 (c : Dev nD) : FVec Ideal S4x1x1024 .f32 := m ((c : Thread nD τ).loc main_arg3)
@[inherit_doc A0] abbrev A4 (c : Dev nD) : FVec Ideal S1024x3488 .f32 := m ((c : Thread nD τ).loc main_arg4)

/-- The weight with its rows and columns exchanged. -/
abbrev wT (c : Dev nD) : FVec Ideal S3488x1024 .bf16 := truncf .bf16 (transpose S3488x1024 [1, 0] (A4 m c) transposes_S1024x3488_S3488x1024_1_0 : FVec Ideal S3488x1024 .f32) bitsLt_bf16_f32

/-- The operands' blocks, read off the arguments. -/
theorem in0 (c : Dev nD) (t : Fin cfg0.N) (r : Fin 512) (k : Fin 1024) : (iblk m c 0 t : Vec Ideal S512x1024 .f32) (ix2 r k) = A0 m c (ix3 (bt t) (ro t r) k) := by
  have h : (V m c main_v9 : Vec Ideal S8192x1024 .f32) = shapeCast S8192x1024 (A0 m c : Vec Ideal S4x2048x1024 .f32) shapeCasts_S4x2048x1024_S8192x1024 := by
    unfold V; after_reads_simp []; rfl
  have hb : (iblk m c 0 t : Vec Ideal S512x1024 .f32) (ix2 r k) = (V m c main_v9 : Vec Ideal S8192x1024 .f32) (ix2 (rw' t r) k) := by
    clear h
    blk_point [iblk, V, idx t, rw']
  rw [hb, h, rows_f]
  clear hb h
  blk_point [rw', bt, ro]
theorem in1 (c : Dev nD) (t : Fin cfg0.N) (k : Fin 1024) : (iblk m c 1 t : Vec Ideal S1x1x1024 .f32) (ix3 0 0 k) = A2 m c (ix3 (bt t) 0 k) := by
  blk_point [iblk, V, idx t, bt]
theorem in2 (c : Dev nD) (t : Fin cfg0.N) (k : Fin 1024) : (iblk m c 2 t : Vec Ideal S1x1x1024 .f32) (ix3 0 0 k) = A3 m c (ix3 (bt t) 0 k) := by
  blk_point [iblk, V, idx t, bt]
theorem in3 (c : Dev nD) (t : Fin cfg0.N) (k : Fin 1024) : (iblk m c 3 t : Vec Ideal S1x1024 .f32) (ix2 0 k) = A1 m c (ix1 k) := by
  have h : (V m c main_v10 : Vec Ideal S1x1024 .f32) = shapeCast S1x1024 (A1 m c : Vec Ideal S1024 .f32) shapeCasts_S1024_S1x1024 := by
    unfold V; after_reads_simp []; rfl
  have hb : (iblk m c 3 t : Vec Ideal S1x1024 .f32) (ix2 0 k) = (V m c main_v10 : Vec Ideal S1x1024 .f32) (ix2 0 k) := by
    clear h
    blk_point [iblk, V, idx t]
  rw [hb, h]
  clear hb h
  pointwise
theorem in4 (c : Dev nD) (t : Fin cfg0.N) (j : Fin 2048) (k : Fin 1024) : @Eq EReal ((iblk m c 4 t : Vec Ideal S2048x1024 .bf16) (ix2 j k)) (A4 m c (ix2 k ⟨1440 + j.val, by omega⟩)) := by
  have h : (V m c main_v8 : Vec Ideal S2048x1024 .bf16) = (extractStridedSlice S2048x1024 ![1440, 0] (wT m c) slices_S3488x1024_S2048x1024_1440_0 : FVec Ideal S2048x1024 .bf16) := by
    unfold V; after_reads_simp []; first | done | rfl
  have hb : (iblk m c 4 t : Vec Ideal S2048x1024 .bf16) (ix2 j k) = (V m c main_v8 : Vec Ideal S2048x1024 .bf16) (ix2 j k) := by
    clear h
    blk_point [iblk, V, idx t]
  rw [hb, h]
  clear hb h
  pointwise
theorem in5 (c : Dev nD) (t : Fin cfg0.N) (j : Fin 1024) (k : Fin 1024) : @Eq EReal ((iblk m c 5 t : Vec Ideal S1024x1024 .bf16) (ix2 j k)) (A4 m c (ix2 k ⟨416 + j.val, by omega⟩)) := by
  have h : (V m c main_v7 : Vec Ideal S1024x1024 .bf16) = (extractStridedSlice S1024x1024 ![416, 0] (wT m c) slices_S3488x1024_S1024x1024_416_0 : FVec Ideal S1024x1024 .bf16) := by
    unfold V; after_reads_simp []; first | done | rfl
  have hb : (iblk m c 5 t : Vec Ideal S1024x1024 .bf16) (ix2 j k) = (V m c main_v7 : Vec Ideal S1024x1024 .bf16) (ix2 j k) := by
    clear h
    blk_point [iblk, V, idx t]
  rw [hb, h]
  clear hb h
  pointwise
/-- The small part: the latents and the first half of the rotary key, zeros, the second half, zeros. -/
theorem in6 (c : Dev nD) (t : Fin cfg0.N) (j : Fin 512) (k : Fin 1024) : @Eq EReal ((iblk m c 6 t : Vec Ideal S512x1024 .bf16) (ix2 j k))
    (if h : j.val < 400 then A4 m c (ix2 k ⟨j.val, by omega⟩) else if j.val < 448 then 0 else if h : j.val < 464 then A4 m c (ix2 k ⟨j.val - 48, by omega⟩) else 0) := by
  have h : (V m c main_v6 : Vec Ideal S512x1024 .bf16) = (concatenate S512x1024 0 [⟨S400x1024, (extractStridedSlice S400x1024 ![0, 0] (wT m c) slices_S3488x1024_S400x1024_0_0 : Vec Ideal S400x1024 .bf16)⟩, ⟨S48x1024, (broadcastInDim S48x1024 ![] bcast_S_S48x1024 (constant (F := Ideal) S_ .bf16 0x0000#16) : Vec Ideal S48x1024 .bf16)⟩,
      ⟨S16x1024, (extractStridedSlice S16x1024 ![400, 0] (wT m c) slices_S3488x1024_S16x1024_400_0 : Vec Ideal S16x1024 .bf16)⟩, ⟨S48x1024, (broadcastInDim S48x1024 ![] bcast_S_S48x1024 (constant (F := Ideal) S_ .bf16 0x0000#16) : Vec Ideal S48x1024 .bf16)⟩] concatenates_S400x1024_S48x1024_S16x1024_S48x1024_S512x1024_d0 : Vec Ideal S512x1024 .bf16) := by
    unfold V; after_reads_simp []; first | done | rfl
  have hb : (iblk m c 6 t : Vec Ideal S512x1024 .bf16) (ix2 j k) = (V m c main_v6 : Vec Ideal S512x1024 .bf16) (ix2 j k) := by
    clear h
    blk_point [iblk, V, idx t]
  rw [hb, h]
  clear hb h
  pointwise
  split_ifs <;> first | rfl | (exfalso; omega) | (rw [if_pos (show j.val < 448 by omega)]; done) | (rw [if_neg (show ¬ j.val < 448 by omega), dif_neg (show ¬ j.val < 464 by omega)]; done) | (rw [if_neg (show ¬ j.val < 448 by omega), dif_pos (show j.val < 464 by omega)]; refine congrArg (fun n => A4 m c (ix2 k n)) (Fin.ext ?_); dsimp only; omega)

/-- The kernel's rows at grid point `t`: the norm, modulated. -/
abbrev hh (c : Dev nD) (t : Fin cfg0.N) : FVec Ideal S512x1024 .bf16 := k0_pay3 (iblk m c 0 t) (iblk m c 3 t) (iblk m c 1 t) (iblk m c 2 t)

theorem hh_eq (c : Dev nD) (t : Fin cfg0.N) (r : Fin 512) (k : Fin 1024) : @Eq EReal (hh m c t (ix2 r k))
    (val_main_v18 (F := Ideal) (A0 m c) (A1 m c) (A2 m c) (A3 m c) (ix3 (bt t) (ro t r) k)) := by
  pointwise [k0_pay3, val_main_v18, val_main_v17, val_main_v16, val_main_v15, val_main_v14, val_main_v13, val_main_cst_2, val_main_v12, val_main_v11, val_main_v10, val_main_v9, val_main_v8, val_main_v7, val_main_v6, val_main_v5, val_main_cst_1, val_main_v4, val_main_v3, val_main_cst_0, val_main_v2, val_main_v1, val_main_cst, val_main_v0]
  simp only [in0, in1, in2, in3]

/-- A row's product with a column of the weight. -/
theorem z_eq (c : Dev nD) (b : Fin 4) (s : Fin 2048) (n : Fin 3488) : @Eq EReal (val_main_v19 (F := Ideal) (A0 m c) (A1 m c) (A2 m c) (A3 m c) (A4 m c) (ix3 b s n))
    (∑ k : Fin 1024, val_main_v18 (F := Ideal) (A0 m c) (A1 m c) (A2 m c) (A3 m c) (ix3 b s k) * A4 m c (ix2 k n)) := by
  pointwise [val_main_v19]

theorem zg_eq (c : Dev nD) (t : Fin cfg0.N) (r : Fin 512) (j : Fin 2048) : @Eq EReal (k0_pay4 (iblk m c 0 t) (iblk m c 3 t) (iblk m c 1 t) (iblk m c 2 t) (iblk m c 4 t) (ix2 r j))
    (val_main_v19 (F := Ideal) (A0 m c) (A1 m c) (A2 m c) (A3 m c) (A4 m c) (ix3 (bt t) (ro t r) ⟨1440 + j.val, by omega⟩)) := by
  rw [z_eq]
  have hx := fun k => hh_eq m c t r k
  have hw := fun k => in4 m c t j k
  pointwise [k0_pay4]
  simp only [hx, hw]
theorem zl_eq (c : Dev nD) (t : Fin cfg0.N) (r : Fin 512) (j : Fin 1024) : @Eq EReal (k0_pay1 (hh m c t) (iblk m c 5 t) (ix2 r j))
    (val_main_v19 (F := Ideal) (A0 m c) (A1 m c) (A2 m c) (A3 m c) (A4 m c) (ix3 (bt t) (ro t r) ⟨416 + j.val, by omega⟩)) := by
  rw [z_eq]
  have hx := fun k => hh_eq m c t r k
  have hw := fun k => in5 m c t j k
  pointwise [k0_pay1]
  simp only [hx, hw]
theorem zs_eq (c : Dev nD) (t : Fin cfg0.N) (r : Fin 512) (j : Fin 512) : @Eq EReal (k0_pay2 (hh m c t) (iblk m c 6 t) (ix2 r j))
    (if h : j.val < 400 then val_main_v19 (F := Ideal) (A0 m c) (A1 m c) (A2 m c) (A3 m c) (A4 m c) (ix3 (bt t) (ro t r) ⟨j.val, by omega⟩)
      else if j.val < 448 then 0
      else if h : j.val < 464 then val_main_v19 (F := Ideal) (A0 m c) (A1 m c) (A2 m c) (A3 m c) (A4 m c) (ix3 (bt t) (ro t r) ⟨j.val - 48, by omega⟩) else 0) := by
  simp only [z_eq]
  have hx := fun k => hh_eq m c t r k
  have hw := fun k => in6 m c t j k
  pointwise [k0_pay2]
  simp only [hx, hw]
  clear hx hw
  split_ifs <;> simp

/-- The reference's small part. -/
theorem zs_ref (c : Dev nD) (t : Fin cfg0.N) (r : Fin 512) (j : Fin 512) : @Eq EReal (val_main_v25 (F := Ideal) (A0 m c) (A1 m c) (A2 m c) (A3 m c) (A4 m c) (ix2 (rw' t r) j))
    (if h : j.val < 400 then val_main_v19 (F := Ideal) (A0 m c) (A1 m c) (A2 m c) (A3 m c) (A4 m c) (ix3 (bt t) (ro t r) ⟨j.val, by omega⟩)
      else if j.val < 448 then 0
      else if h : j.val < 464 then val_main_v19 (F := Ideal) (A0 m c) (A1 m c) (A2 m c) (A3 m c) (A4 m c) (ix3 (bt t) (ro t r) ⟨j.val - 48, by omega⟩) else 0) := by
  pointwise [val_main_v25, val_main_v24, val_main_v23, val_main_v22, val_main_v21, val_main_cst_3]
  split_ifs <;> first | rfl | (exfalso; omega) | (rw [if_pos (show j.val < 448 by omega)]; done) | (rw [if_neg (show ¬ j.val < 448 by omega), dif_neg (show ¬ j.val < 464 by omega)]; done) | (rw [if_neg (show ¬ j.val < 448 by omega), dif_pos (show j.val < 464 by omega)]; blk_point [rw', bt, ro]) | blk_point [rw', bt, ro]

/-- What a grid point stores in its blocks. -/
theorem outs7 (c : Dev nD) (t : Fin cfg0.N) : out0_7 (iblk m c 0 t) (iblk m c 1 t) (iblk m c 2 t) (iblk m c 3 t) (iblk m c 4 t) (iblk m c 5 t) (iblk m c 6 t) = hh m c t := by
  funext j
  unfold out0_7
  frame_out
@[inherit_doc outs7] theorem outs8 (c : Dev nD) (t : Fin cfg0.N) : out0_8 (iblk m c 0 t) (iblk m c 1 t) (iblk m c 2 t) (iblk m c 3 t) (iblk m c 4 t) (iblk m c 5 t) (iblk m c 6 t) = k0_pay4 (iblk m c 0 t) (iblk m c 3 t) (iblk m c 1 t) (iblk m c 2 t) (iblk m c 4 t) := by
  funext j
  unfold out0_8
  frame_out
@[inherit_doc outs7] theorem outs9 (c : Dev nD) (t : Fin cfg0.N) : out0_9 (iblk m c 0 t) (iblk m c 1 t) (iblk m c 2 t) (iblk m c 3 t) (iblk m c 4 t) (iblk m c 5 t) (iblk m c 6 t) = k0_pay1 (hh m c t) (iblk m c 5 t) := by
  funext j
  unfold out0_9 k0_pay5 hh
  frame_out
@[inherit_doc outs7] theorem outs10 (c : Dev nD) (t : Fin cfg0.N) : out0_10 (iblk m c 0 t) (iblk m c 1 t) (iblk m c 2 t) (iblk m c 3 t) (iblk m c 4 t) (iblk m c 5 t) (iblk m c 6 t) = k0_pay2 (hh m c t) (iblk m c 6 t) := by
  funext j
  unfold out0_10 k0_pay5 hh
  frame_out

/-- The norm, modulated. -/
theorem final7 (c : Dev nD) : (dats m 0 c).arrAt 7 (cfgs 0).N = val_main_v26 (F := Ideal) (A0 m c) (A1 m c) (A2 m c) (A3 m c) := by
  refine (dats m 0 c).arrAt_eq_of_covers 7 _ (by decide +kernel) fun t hf y => ?_
  blk_simp
  refine Eq.trans (show _ = (_ : EReal) from congrFun ((after0_7 m c t).trans (outs7 m c t)) _) ?_
  have hy : (y : S512x1024.Idx) = ix2 (n0 := 512) (n1 := 1024) (y 0) (y 1) := by funext a; fin_cases a <;> rfl
  refine (congrArg _ hy).trans ((hh_eq m c t _ _).trans ?_)
  clear hy
  pointwise [val_main_v26, val_main_v20]
  blk_point [idx t, bt, ro]

/-- The gates' pre-activations. -/
theorem final8 (c : Dev nD) : (dats m 0 c).arrAt 8 (cfgs 0).N = val_main_v28 (F := Ideal) (A0 m c) (A1 m c) (A2 m c) (A3 m c) (A4 m c) := by
  refine (dats m 0 c).arrAt_eq_of_covers 8 _ (by decide +kernel) fun t hf y => ?_
  blk_simp
  refine Eq.trans (show _ = (_ : EReal) from congrFun ((after0_8 m c t).trans (outs8 m c t)) _) ?_
  have hy : (y : S512x2048.Idx) = ix2 (n0 := 512) (n1 := 2048) (y 0) (y 1) := by funext a; fin_cases a <;> rfl
  refine (congrArg _ hy).trans ((zg_eq m c t _ _).trans ?_)
  clear hy
  pointwise [val_main_v28, val_main_v27, val_main_v21]
  blk_point [idx t, bt, ro]

/-- The convolution's input. -/
theorem final9 (c : Dev nD) : (dats m 0 c).arrAt 9 (cfgs 0).N = val_main_v30 (F := Ideal) (A0 m c) (A1 m c) (A2 m c) (A3 m c) (A4 m c) := by
  refine (dats m 0 c).arrAt_eq_of_covers 9 _ (by decide +kernel) fun t hf y => ?_
  blk_simp
  refine Eq.trans (show _ = (_ : EReal) from congrFun ((after0_9 m c t).trans (outs9 m c t)) _) ?_
  have hy : (y : S512x1024.Idx) = ix2 (n0 := 512) (n1 := 1024) (y 0) (y 1) := by funext a; fin_cases a <;> rfl
  refine (congrArg _ hy).trans ((zl_eq m c t _ _).trans ?_)
  clear hy
  pointwise [val_main_v30, val_main_v29, val_main_v21]
  blk_point [idx t, bt, ro]

/-- The latents and the rotary key. -/
theorem final10 (c : Dev nD) : (dats m 0 c).arrAt 10 (cfgs 0).N = val_main_v25 (F := Ideal) (A0 m c) (A1 m c) (A2 m c) (A3 m c) (A4 m c) := by
  refine (dats m 0 c).arrAt_eq_of_covers 10 _ (by decide +kernel) fun t hf y => ?_
  blk_simp
  refine Eq.trans (show _ = (_ : EReal) from congrFun ((after0_10 m c t).trans (outs10 m c t)) _) ?_
  have hy : (y : S512x512.Idx) = ix2 (n0 := 512) (n1 := 512) (y 0) (y 1) := by funext a; fin_cases a <;> rfl
  refine (congrArg _ hy).trans ((zs_eq m c t _ _).trans ?_)
  clear hy
  refine (zs_ref m c t (y 0) (y 1)).symm.trans ?_
  blk_point [idx t, rw']

end Cert.Kernel11Ideal.InFwd

end
-- ==== Proof.InFwdClaim.lean ====
/- The claims about `Kernel11` and `Reference11`: the first norm, its modulation and the products that read it. -/
module

public import proofs.«01_k».proof.Defs
public import proofs.«01_k».proof.Proof.InFwd
public import proofs.«01_k».proof.Proof.Gen.Reference11Ideal.Run
public import Idealize.ShloMosaic.Lib.Claim

@[expose] public section

set_option maxRecDepth 16384

noncomputable section

open Idealize.ShloMosaic Idealize.ShloMosaic.TcCoe Idealize.SL.Sem

namespace Cert.Proof

/-- The reference runs to its end and leaves its arguments alone. -/
theorem frame_reference11 : Cert.quiescent_Reference11Ideal := by
  intro m g _
  exact θ_run_mono (Cert.Reference11Ideal.Value.run m g) fun r h => ⟨fun c => (h c).2.2.2.2, sem_eq_zero_of_no_sems (by decide) r.2⟩

/-- Over the reals the kernel and the reference leave the same arrays. -/
theorem algebraic11 : Cert.algebraic_Kernel11Ideal_Reference11Ideal := by
  intro m g m' g' _ hagree
  refine ⟨fun c => (Cert.Kernel11Ideal.Gen.dats m 0 c).arrAt 7 (Cert.Kernel11Ideal.cfgs 0).N, fun c => (Cert.Kernel11Ideal.Gen.dats m 0 c).arrAt 8 (Cert.Kernel11Ideal.cfgs 0).N,
    fun c => (Cert.Kernel11Ideal.Gen.dats m 0 c).arrAt 9 (Cert.Kernel11Ideal.cfgs 0).N, fun c => (Cert.Kernel11Ideal.Gen.dats m 0 c).arrAt 10 (Cert.Kernel11Ideal.cfgs 0).N, ?_, ?_⟩
  · exact θ_run_mono (θ_run_and (Cert.Kernel11Ideal.Gen.run_main m g) (Cert.Kernel11Ideal.Gen.unchanged m g)) fun r h c =>
      ⟨(h.1 c).1 7, (h.1 c).1 8, (h.1 c).1 9, (h.1 c).1 10, h.2 c⟩
  · refine θ_run_mono (Cert.Reference11Ideal.Value.run m' g') fun r hr c => ?_
    obtain ⟨a0, a1, a2, a3, a4⟩ := hagree c
    obtain ⟨h0, h1, h2, h3, h⟩ := hr c
    refine ⟨h0.trans ((Cert.Reference11Ideal.Read.val_main_v26_eq _ _ _ _).trans ?_), h1.trans ((Cert.Reference11Ideal.Read.val_main_v28_eq _ _ _ _ _).trans ?_),
      h2.trans ((Cert.Reference11Ideal.Read.val_main_v30_eq _ _ _ _ _).trans ?_), h3.trans ((Cert.Reference11Ideal.Read.val_main_v25_eq _ _ _ _ _).trans ?_), h⟩
    · rw [a0, a1, a2, a3]
      exact (Cert.Kernel11Ideal.InFwd.final7 m c).symm
    · rw [a0, a1, a2, a3, a4]
      exact (Cert.Kernel11Ideal.InFwd.final8 m c).symm
    · rw [a0, a1, a2, a3, a4]
      exact (Cert.Kernel11Ideal.InFwd.final9 m c).symm
    · rw [a0, a1, a2, a3, a4]
      exact (Cert.Kernel11Ideal.InFwd.final10 m c).symm

end Cert.Proof

end
-- ==== Proof.AdaFwd.lean ====
/- The modulation: the conditioning vector through `silu`, its product with the weight, and the bias. -/
module

public import proofs.«01_k».proof.Proof.Gen.Kernel12Ideal.Frame
public import proofs.«01_k».proof.Proof.Gen.Reference12Ideal.Read
public import Idealize.ShloMosaic.Lib.Pipeline.ValueKit
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel12Ideal.AdaFwd

open Cert.Kernel12Ideal Cert.Kernel12Ideal.Gen Cert.Reference12Ideal.Read

variable (m : (ℓ : Loc nD τ sig) → Buf (Elt Ideal) ℓ)

/-- Where each window's block lies at the one grid point. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

/-- The arguments. -/
abbrev A0 (c : Dev nD) : FVec Ideal S32x1024 .f32 := m ((c : Thread nD τ).loc main_arg0)
@[inherit_doc A0] abbrev A1 (c : Dev nD) : FVec Ideal S1024x768 .f32 := m ((c : Thread nD τ).loc main_arg1)
@[inherit_doc A0] abbrev A2 (c : Dev nD) : FVec Ideal S768 .f32 := m ((c : Thread nD τ).loc main_arg2)

/-- The operands' blocks, read off the arguments. -/
theorem in0 (c : Dev nD) (t : Fin cfg0.N) (r : Fin 32) (k : Fin 1024) : (iblk m c 0 t : Vec Ideal S32x1024 .f32) (ix2 r k) = A0 m c (ix2 r k) := by
  blk_point [iblk, V, idx t]
theorem in1 (c : Dev nD) (t : Fin cfg0.N) (j : Fin 1024) (k : Fin 768) : (iblk m c 1 t : Vec Ideal S1024x768 .f32) (ix2 j k) = A1 m c (ix2 j k) := by
  blk_point [iblk, V, idx t]
theorem in2 (c : Dev nD) (t : Fin cfg0.N) (r : Fin 32) (k : Fin 768) : (iblk m c 2 t : Vec Ideal S32x768 .f32) (ix2 r k) = A2 m c (ix1 k) := by
  have h : (V m c main_v0 : Vec Ideal S32x768 .f32) = broadcastInDim S32x768 ![1] bcast_S768_S32x768_1 (A2 m c : Vec Ideal S768 .f32) := by
    unfold V; after_reads_simp []
  have hb : (iblk m c 2 t : Vec Ideal S32x768 .f32) (ix2 r k) = (V m c main_v0 : Vec Ideal S32x768 .f32) (ix2 r k) := by
    clear h
    blk_point [iblk, V, idx t]
  rw [hb, h]
  clear hb h
  pointwise

/-- What the grid point computes. -/
abbrev md (c : Dev nD) (t : Fin cfg0.N) : FVec Ideal S32x768 .f32 := k0_pay3 (k0_pay2 (iblk m c 0 t) (k0_pay1 (F := Ideal)) (iblk m c 1 t)) (iblk m c 2 t)

theorem md_eq (c : Dev nD) (t : Fin cfg0.N) (r : Fin 32) (k : Fin 768) : @Eq EReal (md m c t (ix2 r k))
    (val_main_v4 (F := Ideal) (A0 m c) (A1 m c) (A2 m c) (ix2 r k)) := by
  have h0 := fun j => in0 m c t r j
  have h1 := fun j => in1 m c t j k
  have h2 := in2 m c t r k
  pointwise [k0_pay3, k0_pay2, k0_pay1, val_main_v4, val_main_v3, val_main_v2, val_main_v1, val_main_v0, val_main_call0_v5, val_main_call0_v4, val_main_call0_cst_0, val_main_call0_v3, val_main_call0_v2, val_main_call0_cst, val_main_call0_v1, val_main_call0_v0]
  simp only [zero_add, zero_sub, h0, h1, h2]

/-- What the grid point stores. -/
theorem outs3 (c : Dev nD) (t : Fin cfg0.N) : outsAt0 m c t = md m c t := by
  funext j
  unfold outsAt0
  frame_out

/-- The modulation. -/
theorem final3 (c : Dev nD) : (dats m 0 c).arrAt 3 (cfgs 0).N = val_main_v4 (F := Ideal) (A0 m c) (A1 m c) (A2 m c) := by
  refine (dats m 0 c).arrAt_eq_of_covers 3 _ (by decide +kernel) fun t hf y => ?_
  blk_simp
  refine Eq.trans (show _ = (_ : EReal) from congrFun ((after0_3 m c t).trans (outs3 m c t)) _) ?_
  have hy : (y : S32x768.Idx) = ix2 (n0 := 32) (n1 := 768) (y 0) (y 1) := by funext a; fin_cases a <;> rfl
  refine (congrArg _ hy).trans ((md_eq m c t _ _).trans ?_)
  clear hy
  blk_point [idx t]

end Cert.Kernel12Ideal.AdaFwd

end
-- ==== Proof.AdaFwdClaim.lean ====
/- The claims about `Kernel12` and `Reference12`: the modulation. -/
module

public import proofs.«01_k».proof.Defs
public import proofs.«01_k».proof.Proof.AdaFwd
public import proofs.«01_k».proof.Proof.Gen.Reference12Ideal.Run
public import Idealize.ShloMosaic.Lib.Claim

@[expose] public section

set_option maxRecDepth 16384

noncomputable section

open Idealize.ShloMosaic Idealize.ShloMosaic.TcCoe Idealize.SL.Sem

namespace Cert.Proof

/-- The reference runs to its end and leaves its arguments alone. -/
theorem frame_reference12 : Cert.quiescent_Reference12Ideal := by
  intro m g _
  exact θ_run_mono (Cert.Reference12Ideal.Value.run m g) fun r h => ⟨fun c => (h c).2, sem_eq_zero_of_no_sems (by decide) r.2⟩

/-- Over the reals the kernel and the reference leave the same array. -/
theorem algebraic12 : Cert.algebraic_Kernel12Ideal_Reference12Ideal := by
  intro m g m' g' _ hagree
  refine ⟨fun c => (Cert.Kernel12Ideal.Gen.dats m 0 c).arrAt 3 (Cert.Kernel12Ideal.cfgs 0).N, ?_, ?_⟩
  · exact θ_run_mono (θ_run_and (Cert.Kernel12Ideal.Gen.run_main m g) (Cert.Kernel12Ideal.Gen.unchanged m g)) fun r h c =>
      ⟨(h.1 c).1 3, h.2 c⟩
  · refine θ_run_mono (Cert.Reference12Ideal.Value.run m' g') fun r hr c => ?_
    obtain ⟨a0, a1, a2⟩ := hagree c
    obtain ⟨h0, h⟩ := hr c
    refine ⟨h0.trans ((Cert.Reference12Ideal.Read.val_main_v4_eq _ _ _).trans ?_), h⟩
    rw [a0, a1, a2]
    exact (Cert.Kernel12Ideal.AdaFwd.final3 m c).symm

end Cert.Proof

end
-- ==== Proof.RefFrames.lean ====
/- The references of the short convolution's and of the heads' backward calls run to their end and leave their
   arguments alone. -/
module

public import proofs.«01_k».proof.Defs
public import proofs.«01_k».proof.Proof.Gen.Reference7Ideal.Run
public import proofs.«01_k».proof.Proof.Gen.Reference8Ideal.Run
public import Idealize.ShloMosaic.Lib.Claim

@[expose] public section

noncomputable section

open Idealize.ShloMosaic Idealize.SL.Sem

namespace Cert.Proof

/-- The reference of the short convolution's backward call. -/
theorem frame_reference7 : Cert.quiescent_Reference7Ideal := by
  intro m g _
  exact θ_run_mono (Cert.Reference7Ideal.Value.run m g) fun r h => ⟨fun c => (h c).2.2.2.2.2, sem_eq_zero_of_no_sems (by decide) r.2⟩

/-- The reference of the heads' backward call. -/
theorem frame_reference8 : Cert.quiescent_Reference8Ideal := by
  intro m g _
  exact θ_run_mono (Cert.Reference8Ideal.Value.run m g) fun r h => ⟨fun c => (h c).2.2.2.2.2.2.2, sem_eq_zero_of_no_sems (by decide) r.2⟩

end Cert.Proof

end
-- ==== Proof.PrepFrames.lean ====
/- `Reference13`, the preparation of the heads, runs to its end and leaves its arguments alone; and the ideal reading of
   `Kernel13` differs from it only in the constant that it names. -/
module

public import proofs.«01_k».proof.Defs
public import proofs.«01_k».proof.Proof.Gen.Reference13Ideal.Run
public import Idealize.ShloMosaic.Lib.Claim

@[expose] public section

noncomputable section

open Idealize.ShloMosaic Idealize.SL.Sem

namespace Cert.Proof

/-- The reference runs to its end and leaves its arguments alone. -/
theorem frame_reference13 : Cert.quiescent_Reference13Ideal := by
  intro m g _
  exact θ_run_mono (Cert.Reference13Ideal.Value.run m g) fun r h => ⟨fun c => (h c).2.2.2.2, sem_eq_zero_of_no_sems (by decide) r.2⟩

/-- The named constant: 1/96 where the kernel writes its rounding to f32. -/
theorem preserves13 : Cert.preserves_Kernel13_Kernel13Ideal :=
  IdealRules.named_const.statement Cert.Kernel13Ideal.κ "inv_dim" .f32 0x3C2AAAAB#32 ((1 / 96 : ℝ) : EReal) rfl

end Cert.Proof

end
-- ==== Proof.Adam.lean ====
/- The optimiser's step of one weight: the sum of the eight devices' gradients, the two moments, the update. -/
module

public import proofs.«01_k».proof.Proof.Gen.Kernel14Ideal.Frame
public import proofs.«01_k».proof.Proof.Gen.Reference14Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel14Ideal.Adam

open Cert.Kernel14Ideal Cert.Kernel14Ideal.Gen Cert.Reference14Ideal.Read

variable (m : (ℓ : Loc nD τ sig) → Buf (Elt Ideal) ℓ)

/-- Where each window's block lies, at both grid points. -/
theorem idx : ∀ t : Fin cfg0.N, win0_0.index t = ![t.val, 0] ∧ win0_1.index t = ![0, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The weight, the gradients of the eight devices, the two moments. -/
abbrev A0 (c : Dev nD) : FVec Ideal S512x1024 .f32 := m ((c : Thread nD τ).loc main_arg0)
@[inherit_doc A0] abbrev A1 (c : Dev nD) : FVec Ideal S8x512x1024 .bf16 := m ((c : Thread nD τ).loc main_arg1)
@[inherit_doc A0] abbrev A2 (c : Dev nD) : FVec Ideal S512x1024 .f32 := m ((c : Thread nD τ).loc main_arg2)
@[inherit_doc A0] abbrev A3 (c : Dev nD) : FVec Ideal S512x1024 .f32 := m ((c : Thread nD τ).loc main_arg3)

/-- The row of the array where row `r` of grid point `t`'s block lies. -/
abbrev ro (t : Fin cfg0.N) (r : Fin 256) : Fin 512 := ⟨t.val * 256 + r.val, by have h := N_0; have ht : t.val < grid0.N := t.isLt; omega⟩

/-- The operands' blocks, read off the arguments. -/
theorem in0 (c : Dev nD) (t : Fin cfg0.N) (r : Fin 256) (k : Fin 1024) : (iblk m c 0 t : Vec Ideal S256x1024 .f32) (ix2 r k) = A0 m c (ix2 (ro t r) k) := by
  blk_point [iblk, V, idx t]
@[inherit_doc in0] theorem in1 (c : Dev nD) (t : Fin cfg0.N) (d : Fin 8) (r : Fin 256) (k : Fin 1024) : (iblk m c 1 t : Vec Ideal S8x256x1024 .bf16) (ix3 d r k) = A1 m c (ix3 d (ro t r) k) := by
  blk_point [iblk, V, idx t]
@[inherit_doc in0] theorem in2 (c : Dev nD) (t : Fin cfg0.N) (r : Fin 256) (k : Fin 1024) : (iblk m c 2 t : Vec Ideal S256x1024 .f32) (ix2 r k) = A2 m c (ix2 (ro t r) k) := by
  blk_point [iblk, V, idx t]
@[inherit_doc in0] theorem in3 (c : Dev nD) (t : Fin cfg0.N) (r : Fin 256) (k : Fin 1024) : (iblk m c 3 t : Vec Ideal S256x1024 .f32) (ix2 r k) = A3 m c (ix2 (ro t r) k) := by
  blk_point [iblk, V, idx t]

/-- The summed gradient at a grid point. -/
abbrev gs (c : Dev nD) (t : Fin cfg0.N) : FVec Ideal S256x1024 .f32 := k0_pay5 (iblk m c 0 t) (iblk m c 1 t) (iblk m c 2 t) (iblk m c 3 t)

theorem gs_eq (c : Dev nD) (t : Fin cfg0.N) (r : Fin 256) (k : Fin 1024) : @Eq EReal (gs m c t (ix2 r k)) (val_main_v1 (F := Ideal) (A1 m c) (ix2 (ro t r) k)) := by
  have h := fun d => in1 m c t d r k
  unfold gs k0_pay5
  pointwise [k0_pay4, val_main_v1, val_main_v0, val_main_cst]
  simp only [Fin.sum_univ_eight, h, zero_add]

/-- The moments and the update at a grid point. -/
abbrev mo (c : Dev nD) (t : Fin cfg0.N) : FVec Ideal S256x1024 .f32 := k0_pay1 (gs m c t) (iblk m c 2 t) (Scalar.ofBits .f32 0x3F666666#32)
@[inherit_doc mo] abbrev sq (c : Dev nD) (t : Fin cfg0.N) : FVec Ideal S256x1024 .f32 := k0_pay2 (gs m c t) (iblk m c 3 t)
@[inherit_doc mo] abbrev up (c : Dev nD) (t : Fin cfg0.N) : FVec Ideal S256x1024 .f32 := k0_pay3 (gs m c t) (iblk m c 2 t) (Scalar.ofBits .f32 0x3F666666#32) (iblk m c 3 t) (iblk m c 0 t)

theorem mo_eq (c : Dev nD) (t : Fin cfg0.N) (r : Fin 256) (k : Fin 1024) : @Eq EReal (mo m c t (ix2 r k)) (val_main_v6 (F := Ideal) (A1 m c) (A2 m c) (ix2 (ro t r) k)) := by
  have hg := gs_eq m c t r k
  have h2 := in2 m c t r k
  pointwise [k0_pay1, val_main_v6, val_main_v5, val_main_v4, val_main_cst_1, val_main_v3, val_main_v2, val_main_cst_0]
  simp only [hg, h2]
theorem sq_eq (c : Dev nD) (t : Fin cfg0.N) (r : Fin 256) (k : Fin 1024) : @Eq EReal (sq m c t (ix2 r k)) (val_main_v12 (F := Ideal) (A1 m c) (A3 m c) (ix2 (ro t r) k)) := by
  have hg := gs_eq m c t r k
  have h3 := in3 m c t r k
  pointwise [k0_pay2, val_main_v12, val_main_v11, val_main_v10, val_main_v9, val_main_cst_3, val_main_v8, val_main_v7, val_main_cst_2]
  simp only [hg, h3]
theorem up_eq (c : Dev nD) (t : Fin cfg0.N) (r : Fin 256) (k : Fin 1024) : @Eq EReal (up m c t (ix2 r k)) (val_main_v25 (F := Ideal) (A0 m c) (A1 m c) (A2 m c) (A3 m c) (ix2 (ro t r) k)) := by
  have hm : @Eq EReal (k0_pay1 (gs m c t) (iblk m c 2 t) (Ideal.ofBits .f32 0x3F666666#32) (ix2 r k)) (val_main_v6 (F := Ideal) (A1 m c) (A2 m c) (ix2 (ro t r) k)) := mo_eq m c t r k
  have hs := sq_eq m c t r k
  have h0 := in0 m c t r k
  unfold sq at hs
  pointwise [k0_pay3, val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4]
  simp only [hm, hs, h0]

/-- What a grid point stores in its blocks. -/
theorem outs4 (c : Dev nD) (t : Fin cfg0.N) : out0_4 (iblk m c 0 t) (iblk m c 1 t) (iblk m c 2 t) (iblk m c 3 t) = gs m c t := by
  funext j
  unfold out0_4 gs
  frame_out
@[inherit_doc outs4] theorem outs5 (c : Dev nD) (t : Fin cfg0.N) : out0_5 (iblk m c 0 t) (iblk m c 1 t) (iblk m c 2 t) (iblk m c 3 t) = up m c t := by
  funext j
  unfold out0_5 up gs
  frame_out
@[inherit_doc outs4] theorem outs6 (c : Dev nD) (t : Fin cfg0.N) : out0_6 (iblk m c 0 t) (iblk m c 1 t) (iblk m c 2 t) (iblk m c 3 t) = mo m c t := by
  funext j
  unfold out0_6 mo gs
  frame_out
@[inherit_doc outs4] theorem outs7 (c : Dev nD) (t : Fin cfg0.N) : out0_7 (iblk m c 0 t) (iblk m c 1 t) (iblk m c 2 t) (iblk m c 3 t) = sq m c t := by
  funext j
  unfold out0_7 sq gs
  frame_out

/-- A block's index is its row and its column. -/
theorem ixe (y : S256x1024.Idx) : y = ix2 (n0 := 256) (n1 := 1024) (y 0) (y 1) := by funext a; fin_cases a <;> rfl

/-- The summed gradient. -/
theorem final4 (c : Dev nD) : (dats m 0 c).arrAt 4 (cfgs 0).N = val_main_v1 (F := Ideal) (A1 m c) := by
  refine (dats m 0 c).arrAt_eq_of_covers 4 _ (by decide +kernel) fun t hf y => ?_
  blk_simp
  refine Eq.trans (show _ = (_ : EReal) from congrFun ((after0_4 m c t).trans (outs4 m c t)) _) ?_
  refine (congrArg _ (ixe y)).trans ((gs_eq m c t _ _).trans ?_)
  blk_point [idx t]
/-- The update. -/
theorem final5 (c : Dev nD) : (dats m 0 c).arrAt 5 (cfgs 0).N = val_main_v25 (F := Ideal) (A0 m c) (A1 m c) (A2 m c) (A3 m c) := by
  refine (dats m 0 c).arrAt_eq_of_covers 5 _ (by decide +kernel) fun t hf y => ?_
  blk_simp
  refine Eq.trans (show _ = (_ : EReal) from congrFun ((after0_5 m c t).trans (outs5 m c t)) _) ?_
  refine (congrArg _ (ixe y)).trans ((up_eq m c t _ _).trans ?_)
  blk_point [idx t]
/-- The first moment. -/
theorem final6 (c : Dev nD) : (dats m 0 c).arrAt 6 (cfgs 0).N = val_main_v6 (F := Ideal) (A1 m c) (A2 m c) := by
  refine (dats m 0 c).arrAt_eq_of_covers 6 _ (by decide +kernel) fun t hf y => ?_
  blk_simp
  refine Eq.trans (show _ = (_ : EReal) from congrFun ((after0_6 m c t).trans (outs6 m c t)) _) ?_
  refine (congrArg _ (ixe y)).trans ((mo_eq m c t _ _).trans ?_)
  blk_point [idx t]
/-- The second moment. -/
theorem final7 (c : Dev nD) : (dats m 0 c).arrAt 7 (cfgs 0).N = val_main_v12 (F := Ideal) (A1 m c) (A3 m c) := by
  refine (dats m 0 c).arrAt_eq_of_covers 7 _ (by decide +kernel) fun t hf y => ?_
  blk_simp
  refine Eq.trans (show _ = (_ : EReal) from congrFun ((after0_7 m c t).trans (outs7 m c t)) _) ?_
  refine (congrArg _ (ixe y)).trans ((sq_eq m c t _ _).trans ?_)
  blk_point [idx t]

end Cert.Kernel14Ideal.Adam

end
-- ==== Proof.AdamClaim.lean ====
/- The claims about `Kernel14` and `Reference14`: the optimiser step. -/
module

public import proofs.«01_k».proof.Defs
public import proofs.«01_k».proof.Proof.Adam
public import proofs.«01_k».proof.Proof.Gen.Reference14Ideal.Run
public import Idealize.ShloMosaic.Lib.Claim

@[expose] public section

set_option maxRecDepth 16384

noncomputable section

open Idealize.ShloMosaic Idealize.ShloMosaic.TcCoe Idealize.SL.Sem

namespace Cert.Proof

/-- The reference runs to its end and leaves its arguments alone. -/
theorem frame_reference14 : Cert.quiescent_Reference14Ideal := by
  intro m g _
  exact θ_run_mono (Cert.Reference14Ideal.Value.run m g) fun r h => ⟨fun c => (h c).2.2.2.2, sem_eq_zero_of_no_sems (by decide) r.2⟩

/-- Over the reals the kernel and the reference leave the same arrays. -/
theorem algebraic14 : Cert.algebraic_Kernel14Ideal_Reference14Ideal := by
  intro m g m' g' _ hagree
  refine ⟨fun c => (Cert.Kernel14Ideal.Gen.dats m 0 c).arrAt 4 (Cert.Kernel14Ideal.cfgs 0).N, fun c => (Cert.Kernel14Ideal.Gen.dats m 0 c).arrAt 5 (Cert.Kernel14Ideal.cfgs 0).N,
    fun c => (Cert.Kernel14Ideal.Gen.dats m 0 c).arrAt 6 (Cert.Kernel14Ideal.cfgs 0).N, fun c => (Cert.Kernel14Ideal.Gen.dats m 0 c).arrAt 7 (Cert.Kernel14Ideal.cfgs 0).N, ?_, ?_⟩
  · exact θ_run_mono (θ_run_and (Cert.Kernel14Ideal.Gen.run_main m g) (Cert.Kernel14Ideal.Gen.unchanged m g)) fun r h c =>
      ⟨(h.1 c).1 4, (h.1 c).1 5, (h.1 c).1 6, (h.1 c).1 7, h.2 c⟩
  · refine θ_run_mono (Cert.Reference14Ideal.Value.run m' g') fun r hr c => ?_
    obtain ⟨a0, a1, a2, a3⟩ := hagree c
    obtain ⟨h0, h1, h2, h3, h⟩ := hr c
    refine ⟨h0.trans ((Cert.Reference14Ideal.Read.val_main_v1_eq _).trans ?_), h1.trans ((Cert.Reference14Ideal.Read.val_main_v25_eq _ _ _ _).trans ?_),
      h2.trans ((Cert.Reference14Ideal.Read.val_main_v6_eq _ _).trans ?_), h3.trans ((Cert.Reference14Ideal.Read.val_main_v12_eq _ _).trans ?_), h⟩
    · rw [a1]
      exact (Cert.Kernel14Ideal.Adam.final4 m c).symm
    · rw [a0, a1, a2, a3]
      exact (Cert.Kernel14Ideal.Adam.final5 m c).symm
    · rw [a1, a2]
      exact (Cert.Kernel14Ideal.Adam.final6 m c).symm
    · rw [a1, a3]
      exact (Cert.Kernel14Ideal.Adam.final7 m c).symm

end Cert.Proof

end
-- ==== Proof.FfProd.lean ====
/- The first product of the feed-forward: each grid point of the kernel stores the reference's product at the place
   where its block lies. -/
module

public import proofs.«01_k».proof.Proof.Gen.Kernel15Ideal.Frame
public import proofs.«01_k».proof.Proof.Gen.Reference15Ideal.Read
public import Idealize.ShloMosaic.Lib.Pipeline.ValueKit
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel15Ideal.FfProd

open Cert.Kernel15Ideal Cert.Kernel15Ideal.Gen Cert.Reference15Ideal.Read

variable (m : (ℓ : Loc nD τ sig) → Buf (Elt Ideal) ℓ)

/-- Where each window's block lies, at every grid point. -/
theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

/-- The rows, and the weight. -/
abbrev A0 (c : Dev nD) : FVec Ideal S8192x1024 .bf16 := m ((c : Thread nD τ).loc main_arg0)
@[inherit_doc A0] abbrev A1 (c : Dev nD) : FVec Ideal S1024x4096 .f32 := m ((c : Thread nD τ).loc main_arg1)

/-- The host transposes the weight before the call. -/
theorem weight (c : Dev nD) (n : Fin 4096) (k : Fin 1024) : @Eq EReal ((V m c main_v1 : Vec Ideal S4096x1024 .bf16) (ix2 n k)) (A1 m c (ix2 k n)) := by
  have h : (V m c main_v1 : Vec Ideal S4096x1024 .bf16) = truncf .bf16 (transpose S4096x1024 [1, 0] (A1 m c : Vec Ideal S1024x4096 .f32) transposes_S1024x4096_S4096x1024_1_0) bitsLt_bf16_f32 := by
    unfold V; after_reads_simp []
  rw [h]
  clear h
  pointwise

/-- The blocks of the two operands at a grid point. -/
theorem in0 (c : Dev nD) (t : Fin cfg0.N) (r : Fin 2048) (k : Fin 1024) : (iblk m c 0 t : Vec Ideal S2048x1024 .bf16) (ix2 r k)
    = A0 m c (ix2 (⟨t.val / 4 * 2048 + r.val, by have h := N_0; have ht : t.val < grid0.N := t.isLt; omega⟩ : Fin 8192) k) := by
  blk_point [iblk, V, idx t]
theorem in1 (c : Dev nD) (t : Fin cfg0.N) (j : Fin 1024) (k : Fin 1024) : @Eq EReal ((iblk m c 1 t : Vec Ideal S1024x1024 .bf16) (ix2 j k))
    (A1 m c (ix2 k (⟨t.val % 4 * 1024 + j.val, by omega⟩ : Fin 4096))) := by
  refine Eq.trans ?_ (weight m c ⟨t.val % 4 * 1024 + j.val, by omega⟩ k)
  blk_point [iblk, V, idx t]

/-- What a grid point computes is its block of the product. -/
theorem prod_eq (c : Dev nD) (t : Fin cfg0.N) (r : Fin 2048) (j : Fin 1024) :
    @Eq EReal (k0_pay3 (F := Ideal) (k0_pay2 (iblk m c 0 t) (k0_pay1 (F := Ideal)) (iblk m c 1 t)) (ix2 r j))
      (val_main_v2 (F := Ideal) (A0 m c) (A1 m c) (ix2 (⟨t.val / 4 * 2048 + r.val, by have h := N_0; have ht : t.val < grid0.N := t.isLt; omega⟩ : Fin 8192) (⟨t.val % 4 * 1024 + j.val, by omega⟩ : Fin 4096))) := by
  have h0 := fun k => in0 m c t r k
  have h1 := fun k => in1 m c t j k
  pointwise [k0_pay3, k0_pay2, k0_pay1, val_main_v2, val_main_v1, val_main_v0]
  simp only [zero_add, h0, h1]

/-- What a grid point stores. -/
theorem outs2 (c : Dev nD) (t : Fin cfg0.N) : outsAt0 m c t = k0_pay3 (k0_pay2 (iblk m c 0 t) (k0_pay1 (F := Ideal)) (iblk m c 1 t)) := by
  funext j
  unfold outsAt0
  frame_out

/-- The product. -/
theorem final2 (c : Dev nD) : (dats m 0 c).arrAt 2 (cfgs 0).N = val_main_v2 (F := Ideal) (A0 m c) (A1 m c) := by
  refine (dats m 0 c).arrAt_eq_of_covers 2 _ (by decide +kernel) fun t hf y => ?_
  blk_simp
  refine Eq.trans (show _ = (_ : EReal) from congrFun ((after0_2 m c t).trans (outs2 m c t)) _) ?_
  have hy : (y : S2048x1024.Idx) = ix2 (n0 := 2048) (n1 := 1024) (y 0) (y 1) := by funext a; fin_cases a <;> rfl
  refine (congrArg _ hy).trans ((prod_eq m c t _ _).trans ?_)
  clear hy
  blk_point [idx t]

end Cert.Kernel15Ideal.FfProd

end
-- ==== Proof.FfProdClaim.lean ====
/- The claims about `Kernel15` and `Reference15`: the first product of the feed-forward. -/
module

public import proofs.«01_k».proof.Defs
public import proofs.«01_k».proof.Proof.FfProd
public import proofs.«01_k».proof.Proof.Gen.Reference15Ideal.Run
public import Idealize.ShloMosaic.Lib.Claim

@[expose] public section

set_option maxRecDepth 16384

noncomputable section

open Idealize.ShloMosaic Idealize.ShloMosaic.TcCoe Idealize.SL.Sem

namespace Cert.Proof

/-- The reference runs to its end and leaves its arguments alone. -/
theorem frame_reference15 : Cert.quiescent_Reference15Ideal := by
  intro m g _
  exact θ_run_mono (Cert.Reference15Ideal.Value.run m g) fun r h => ⟨fun c => (h c).2, sem_eq_zero_of_no_sems (by decide) r.2⟩

/-- Over the reals the kernel and the reference leave the same array. -/
theorem algebraic15 : Cert.algebraic_Kernel15Ideal_Reference15Ideal := by
  intro m g m' g' _ hagree
  refine ⟨fun c => (Cert.Kernel15Ideal.Gen.dats m 0 c).arrAt 2 (Cert.Kernel15Ideal.cfgs 0).N, ?_, ?_⟩
  · exact θ_run_mono (θ_run_and (Cert.Kernel15Ideal.Gen.run_main m g) (Cert.Kernel15Ideal.Gen.unchanged m g)) fun r h c =>
      ⟨(h.1 c).1 2, h.2 c⟩
  · refine θ_run_mono (Cert.Reference15Ideal.Value.run m' g') fun r hr c => ?_
    obtain ⟨a0, a1⟩ := hagree c
    obtain ⟨h0, h⟩ := hr c
    refine ⟨h0.trans ((Cert.Reference15Ideal.Read.val_main_v2_eq _ _).trans ?_), h⟩
    rw [a0, a1]
    exact (Cert.Kernel15Ideal.FfProd.final2 m c).symm

end Cert.Proof

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Read
public import proofs.«01_k».proof.Proof.Ff2Claim
public import proofs.«01_k».proof.Proof.Gen.Kernel2.Frame
public import proofs.«01_k».proof.Proof.Gen.Kernel2Ideal.Value
public import proofs.«01_k».proof.Proof.Gen.Reference2Ideal.Read
public import proofs.«01_k».proof.Proof.OutProjClaim
public import proofs.«01_k».proof.Proof.Gen.Kernel3.Frame
public import proofs.«01_k».proof.Proof.Gen.Kernel3Ideal.Frame
public import proofs.«01_k».proof.Proof.Gen.Reference3Ideal.Read
public import proofs.«01_k».proof.Proof.AttnClaim
public import proofs.«01_k».proof.Proof.Gen.Kernel4.Frame
public import proofs.«01_k».proof.Proof.Gen.Kernel4Ideal.Value
public import proofs.«01_k».proof.Proof.Gen.Reference4Ideal.Read
public import proofs.«01_k».proof.Proof.Ff1Claim
public import proofs.«01_k».proof.Proof.Gen.Kernel5.Frame
public import proofs.«01_k».proof.Proof.Gen.Kernel5Ideal.Frame
public import proofs.«01_k».proof.Proof.Gen.Reference5Ideal.Read
public import proofs.«01_k».proof.Proof.LossClaim
public import proofs.«01_k».proof.Proof.Gen.Kernel6.Frame
public import proofs.«01_k».proof.Proof.Gen.Kernel6Ideal.Value
public import proofs.«01_k».proof.Proof.Gen.Reference6Ideal.Read
public import proofs.«01_k».proof.Proof.InProjClaim
public import proofs.«01_k».proof.Proof.Gen.Kernel9.Frame
public import proofs.«01_k».proof.Proof.Gen.Kernel9Ideal.Value
public import proofs.«01_k».proof.Proof.Gen.Reference9Ideal.Read
public import proofs.«01_k».proof.Proof.FwdClaim
public import proofs.«01_k».proof.Proof.Gen.Kernel10.Frame
public import proofs.«01_k».proof.Proof.Gen.Kernel10Ideal.Value
public import proofs.«01_k».proof.Proof.Gen.Reference10Ideal.Read
public import proofs.«01_k».proof.Proof.OutFwdClaim
public import proofs.«01_k».proof.Proof.Gen.Kernel11.Frame
public import proofs.«01_k».proof.Proof.Gen.Kernel11Ideal.Value
public import proofs.«01_k».proof.Proof.Gen.Reference11Ideal.Read
public import proofs.«01_k».proof.Proof.InFwdClaim
public import proofs.«01_k».proof.Proof.Gen.Kernel12.Frame
public import proofs.«01_k».proof.Proof.Gen.Kernel12Ideal.Value
public import proofs.«01_k».proof.Proof.Gen.Reference12Ideal.Read
public import proofs.«01_k».proof.Proof.AdaFwdClaim
public import proofs.«01_k».proof.Proof.Gen.Kernel7.Frame
public import proofs.«01_k».proof.Proof.Gen.Kernel7Ideal.Frame
public import proofs.«01_k».proof.Proof.Gen.Reference7Ideal.Run
public import proofs.«01_k».proof.Proof.RefFrames
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.PrepFrames
public import proofs.«01_k».proof.Proof.Gen.Kernel14.Frame
public import proofs.«01_k».proof.Proof.Gen.Kernel14Ideal.Frame
public import proofs.«01_k».proof.Proof.Gen.Reference14Ideal.Run
public import proofs.«01_k».proof.Proof.AdamClaim
public import proofs.«01_k».proof.Proof.Gen.Kernel15.Frame
public import proofs.«01_k».proof.Proof.Gen.Kernel15Ideal.Frame
public import proofs.«01_k».proof.Proof.Gen.Reference15Ideal.Run
public import proofs.«01_k».proof.Proof.FfProdClaim
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Pre_finite3.Gen.facts,
    Cert.Pre_finite4.Gen.facts,
    Cert.Pre_finite6.Gen.facts,
    Cert.Pre_finite9.Gen.facts,
    fun m ρ _ => Cert.Kernel.Gen.frame m ρ, fun m ρ _ => Cert.KernelIdeal.Gen.frame m ρ, frame_reference,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, fun m ρ _ => Cert.Kernel3Ideal.Gen.frame m ρ, frame_reference3, fun m g _ => frame_reference3 m g trivial,
    fun m ρ _ => Cert.Kernel4.Gen.frame m ρ, fun m ρ _ => Cert.Kernel4Ideal.Gen.frame m ρ, fun m ρ _ => Cert.Kernel4Ideal.Gen.frame m ρ, frame_reference4, fun m g _ => frame_reference4 m g trivial,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, fun m ρ _ => Cert.Kernel6Ideal.Gen.frame m ρ, frame_reference6, fun m g _ => frame_reference6 m g trivial,
    fun m ρ _ => Cert.Kernel9.Gen.frame m ρ, fun m ρ _ => Cert.Kernel9Ideal.Gen.frame m ρ, fun m ρ _ => Cert.Kernel9Ideal.Gen.frame m ρ, frame_reference9, fun m g _ => frame_reference9 m g trivial,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11,
    fun m ρ _ => Cert.Kernel12.Gen.frame m ρ, fun m ρ _ => Cert.Kernel12Ideal.Gen.frame m ρ, frame_reference12,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel13.Gen.frame m ρ, fun m ρ _ => Cert.Kernel13Ideal.Gen.frame m ρ, frame_reference13,
    fun m ρ _ => Cert.Kernel14.Gen.frame m ρ, fun m ρ _ => Cert.Kernel14Ideal.Gen.frame m ρ, frame_reference14,
    fun m ρ _ => Cert.Kernel15.Gen.frame m ρ, fun m ρ _ => Cert.Kernel15Ideal.Gen.frame m ρ, frame_reference15,
    trivial, algebraic,
    trivial, algebraic2,
    preserves3, algebraic3,
    trivial, algebraic4,
    trivial, algebraic5,
    trivial, algebraic6,
    preserves9, algebraic9,
    trivial, algebraic10,
    trivial, algebraic11,
    trivial, algebraic12,
    trivial,
    trivial,
    preserves13,
    trivial, algebraic14,
    trivial, algebraic15⟩

end Cert.Proof

end
